-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 64, 64]⟩ ⟨4, ![2, 2048, 64, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 64, 64]⟩ ⟨4, ![2, 2048, 64, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v53) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x64x64 : Shape := ⟨4, ![2, 128, 64, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x64x64 : S_.BroadcastsInDim S2x128x64x64 (![] : Fin 0 → Fin S2x128x64x64.rank)
  reducesTo_S2x128x64x64_S_d0_1_2_3 : S2x128x64x64.ReducesTo [0, 1, 2, 3] S_

variable [Facts]

def fn {F : FTy → Type} [FloatOps F] (main_arg0 : FVec F S2x128x512 .bf16) (main_arg1 : FVec F S512x256 .bf16) (main_arg2 : FVec F S2x128x64x64 .bf16) (main_arg3 : FVec F S2x128x64x64 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x128x64x64 .f32 := (extf .f32 · bitsLt_bf16_f32) main_arg2
  let main_v12 : FVec F S2x128x64x64 .f32 := Host.absf main_v11
  let main_cst_2 : FVec F S_ .f32 := constant S_ .f32 0x7F800000#32
  let main_v13 : FVec F S2x128x64x64 .f32 := broadcastInDim S2x128x64x64 ![] bcast_S_S2x128x64x64 main_cst_2
  let main_v14 : IVec S2x128x64x64 1 := cmpf .olt main_v12 main_v13
  let main_c_3 : IVec S_ 1 := constantI S_ 1 1#1
  let main_v15 : IVec S_ 1 := (fun x v => Host.reduce IntOp.andi x v reducesTo_S2x128x64x64_S_d0_1_2_3 h_S_) main_v14 main_c_3
  let main_v16 : IVec S_ 1 := andi main_v10 main_v15
  main_v16
-- ==== Pre_finite_ReferenceIdeal.lean ====
abbrev S2x128x512 : Shape := ⟨3, ![2, 128, 512]⟩
abbrev S512x4096 : Shape := ⟨2, ![512, 4096]⟩
abbrev S2x2048x64x64 : Shape := ⟨4, ![2, 2048, 64, 64]⟩
abbrev S4096x512 : Shape := ⟨2, ![4096, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S2x2048x64x64 : S_.BroadcastsInDim S2x2048x64x64 (![] : Fin 0 → Fin S2x2048x64x64.rank)
  reducesTo_S2x2048x64x64_S_d0_1_2_3 : S2x2048x64x64.ReducesTo [0, 1, 2, 3] S_

variable [Facts]

def fn {F : FTy → Type} [FloatOps F] (main_arg0 : FVec F S2x128x512 .bf16) (main_arg1 : FVec F S512x4096 .bf16) (main_arg2 : FVec F S2x2048x64x64 .bf16) (main_arg3 : FVec F S2x2048x64x64 .bf16) (main_arg4 : FVec F S4096x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x4096 .f32 := (extf .f32 · bitsLt_bf16_f32) main_arg1
  let main_v6 : FVec F S512x4096 .f32 := Host.absf main_v5
  let main_cst_0 : FVec F S_ .f32 := constant S_ .f32 0x7F800000#32
  let main_v7 : FVec F S512x4096 .f32 := broadcastInDim S512x4096 ![] bcast_S_S512x4096 main_cst_0
  let main_v8 : IVec S512x4096 1 := cmpf .olt main_v6 main_v7
  let main_c_1 : IVec S_ 1 := constantI S_ 1 1#1
  let main_v9 : IVec S_ 1 := (fun x v => Host.reduce IntOp.andi x v reducesTo_S512x4096_S_d0_1 h_S_) main_v8 main_c_1
  let main_v10 : IVec S_ 1 := andi main_v4 main_v9
  let main_v11 : FVec F S2x2048x64x64 .f32 := (extf .f32 · bitsLt_bf16_f32) main_arg2
  let main_v12 : FVec F S2x2048x64x64 .f32 := Host.absf main_v11
  let main_cst_2 : FVec F S_ .f32 := constant S_ .f32 0x7F800000#32
  let main_v13 : FVec F S2x2048x64x64 .f32 := broadcastInDim S2x2048x64x64 ![] bcast_S_S2x2048x64x64 main_cst_2
  let main_v14 : IVec S2x2048x64x64 1 := cmpf .olt main_v12 main_v13
  let main_c_3 : IVec S_ 1 := constantI S_ 1 1#1
  let main_v15 : IVec S_ 1 := (fun x v => Host.reduce IntOp.andi x v reducesTo_S2x2048x64x64_S_d0_1_2_3 h_S_) main_v14 main_c_3
  let main_v16 : IVec S_ 1 := andi main_v10 main_v15
  main_v16
-- ==== Kernel.lean ====
abbrev S2x128x512 : Shape := ⟨3, ![2, 128, 512]⟩
abbrev S512x256 : Shape := ⟨2, ![512, 256]⟩
abbrev S2x128x64x64 : Shape := ⟨4, ![2, 128, 64, 64]⟩
abbrev S256x512 : Shape := ⟨2, ![256, 512]⟩
abbrev S2x2x128x4096 : Shape := ⟨4, ![2, 2, 128, 4096]⟩
abbrev S2x2x1408x256 : Shape := ⟨4, ![2, 2, 1408, 256]⟩
abbrev S16x16x512 : Shape := ⟨3, ![16, 16, 512]⟩
abbrev S16x512 : Shape := ⟨2, ![16, 512]⟩
abbrev S32 : Shape := ⟨1, ![32]⟩
abbrev S16 : Shape := ⟨1, ![16]⟩
abbrev S2 : Shape := ⟨1, ![2]⟩
abbrev S_ : Shape := ⟨0, ![]⟩
abbrev S2x128x4096 : Shape := ⟨3, ![2, 128, 4096]⟩
abbrev S1x2x128x4096 : Shape := ⟨4, ![1, 2, 128, 4096]⟩
abbrev S1 : Shape := ⟨1, ![1]⟩
abbrev S2x2x64x256 : Shape := ⟨4, ![2, 2, 64, 256]⟩
abbrev S1x128x512 : Shape := ⟨3, ![1, 128, 512]⟩
abbrev S128x512 : Shape := ⟨2, ![128, 512]⟩
abbrev S128x256 : Shape := ⟨2, ![128, 256]⟩
abbrev S128x1408 : Shape := ⟨2, ![128, 1408]⟩
abbrev S128x64 : Shape := ⟨2, ![128, 64]⟩
abbrev S1x1x1408x64 : Shape := ⟨4, ![1, 1, 1408, 64]⟩
abbrev S1408x64 : Shape := ⟨2, ![1408, 64]⟩
abbrev S128 : Shape := ⟨1, ![128]⟩
abbrev S128x1 : Shape := ⟨2, ![128, 1]⟩
abbrev S1x16x512 : Shape := ⟨3, ![1, 16, 512]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x64x64, .bf16⟩
  | .hbm, ⟨3, _⟩ => ⟨S2x128x64x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x64x64, .bf16⟩
  | .local _ .vmem, ⟨3, _⟩ => ⟨S2x128x64x64, .bf16⟩
  | .local _ .vmem, ⟨4, _⟩ => ⟨S256x512, .bf16⟩
  | .local _ .vmem, ⟨5, _⟩ => ⟨S2x128x512, .f32⟩
  | .local _ .vmem, ⟨6, _⟩ => ⟨S2x2x128x4096, .bf16⟩
  | .local _ .vmem, ⟨7, _⟩ => ⟨S2x2x1408x256, .bf16⟩
  | .local _ .vmem, ⟨8, _⟩ => ⟨S2x128x512, .bf16⟩
  | .local _ .vmem, ⟨9, _⟩ => ⟨S16x16x512, .bf16⟩
  | .local _ .vmem, ⟨10, _⟩ => ⟨S16x512, .bf16⟩
  | .local _ .vmem, ⟨11, _⟩ => ⟨S16x16x512, .bf16⟩
  | _, _ => ⟨S2x128x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_cond1 (d0 : Dev nD) : BitVec 1 :=
  let c2_i32_149 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v211 : BitVec 32 := Scalar.muli c2_i32_149 v2
  let c0_i32_150 : BitVec 32 := 0#32
  let v212 : BitVec 32 := Scalar.addi v211 c0_i32_150
  let c1_i32_151 : BitVec 32 := 1#32
  let v213 : BitVec 1 := Scalar.cmpi .eq v212 c1_i32_151
  let c3_i32_152 : BitVec 32 := 3#32
  let c0_i32_153 : BitVec 32 := 0#32
  let v214 : BitVec 1 := Scalar.cmpi .eq c3_i32_152 c0_i32_153
  let c1_i32_154 : BitVec 32 := 1#32
  let v215 : BitVec 32 := Scalar.select v214 c1_i32_154 c3_i32_152
  let v216 : BitVec 32 := Scalar.remsi v212 v215
  let c0_i32_156 : BitVec 32 := 0#32
  let v218 : BitVec 1 := Scalar.cmpi .slt v216 c0_i32_156
  let c0_i32_157 : BitVec 32 := 0#32
  let v219 : BitVec 1 := Scalar.cmpi .slt v215 c0_i32_157
  let v220 : BitVec 1 := Scalar.xori v218 v219
  let c0_i32_155 : BitVec 32 := 0#32
  let v217 : BitVec 1 := Scalar.cmpi .ne v216 c0_i32_155
  let v221 : BitVec 1 := Scalar.andi v220 v217
  let v222 : BitVec 32 := Scalar.addi v216 v215
  let v223 : BitVec 32 := Scalar.select v221 v222 v216
  let c1_i32_158 : BitVec 32 := 1#32
  let v224 : BitVec 1 := Scalar.cmpi .ne v223 c1_i32_158
  let v225 : BitVec 1 := Scalar.ori v213 v224
  let v226 : BitVec 32 := Scalar.extui v225
  let c0_i32_159 : BitVec 32 := 0#32
  let v227 : BitVec 1 := Scalar.cmpi .ne v226 c0_i32_159
  v227

def k0_off1 (d0 : Dev nD) : Fin 4 → Nat :=
  let c0_i32_2345 : BitVec 32 := 0#32
  let c0_i32_2346 : BitVec 32 := 0#32
  let c2_i32_149 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v211 : BitVec 32 := Scalar.muli c2_i32_149 v2
  let c0_i32_150 : BitVec 32 := 0#32
  let v212 : BitVec 32 := Scalar.addi v211 c0_i32_150
  let c10_i32_2342 : BitVec 32 := 10#32
  let c0_i32_2341 : BitVec 32 := 0#32
  let c2_i32_2333 : BitVec 32 := 2#32
  let v3706 : BitVec 32 := Scalar.subi v212 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v212 v3725
  let c64_i32_2343 : BitVec 32 := 64#32
  let v3727 : BitVec 32 := Scalar.muli v3726 c64_i32_2343
  let c0_i32_2347 : BitVec 32 := 0#32
  ![0, 0, v3727.toNat, 0]
def k0_off2 (d0 : Dev nD) : Fin 4 → Nat :=
  let c0_i32_2348 : BitVec 32 := 0#32
  let c0_i32_2349 : BitVec 32 := 0#32
  let c0_i32_2350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v3705 : BitVec 32 := Scalar.muli v2 c256_i32
  ![0, 0, 0, v3705.toNat]
def k0_cond2 (d0 : Dev nD) : BitVec 1 :=
  let c2_i32_160 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v228 : BitVec 32 := Scalar.muli c2_i32_160 v2
  let c1_i32_161 : BitVec 32 := 1#32
  let v229 : BitVec 32 := Scalar.addi v228 c1_i32_161
  let c1_i32_162 : BitVec 32 := 1#32
  let v230 : BitVec 1 := Scalar.cmpi .eq v229 c1_i32_162
  let c3_i32_163 : BitVec 32 := 3#32
  let c0_i32_164 : BitVec 32 := 0#32
  let v231 : BitVec 1 := Scalar.cmpi .eq c3_i32_163 c0_i32_164
  let c1_i32_165 : BitVec 32 := 1#32
  let v232 : BitVec 32 := Scalar.select v231 c1_i32_165 c3_i32_163
  let v233 : BitVec 32 := Scalar.remsi v229 v232
  let c0_i32_167 : BitVec 32 := 0#32
  let v235 : BitVec 1 := Scalar.cmpi .slt v233 c0_i32_167
  let c0_i32_168 : BitVec 32 := 0#32
  let v236 : BitVec 1 := Scalar.cmpi .slt v232 c0_i32_168
  let v237 : BitVec 1 := Scalar.xori v235 v236
  let c0_i32_166 : BitVec 32 := 0#32
  let v234 : BitVec 1 := Scalar.cmpi .ne v233 c0_i32_166
  let v238 : BitVec 1 := Scalar.andi v237 v234
  let v239 : BitVec 32 := Scalar.addi v233 v232
  let v240 : BitVec 32 := Scalar.select v238 v239 v233
  let c1_i32_169 : BitVec 32 := 1#32
  let v241 : BitVec 1 := Scalar.cmpi .ne v240 c1_i32_169
  let v242 : BitVec 1 := Scalar.ori v230 v241
  let v243 : BitVec 32 := Scalar.extui v242
  let c0_i32_170 : BitVec 32 := 0#32
  let v244 : BitVec 1 := Scalar.cmpi .ne v243 c0_i32_170
  v244

def k0_off3 (d0 : Dev nD) : Fin 4 → Nat :=
  let c0_i32_2345 : BitVec 32 := 0#32
  let c0_i32_2346 : BitVec 32 := 0#32
  let c2_i32_160 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v228 : BitVec 32 := Scalar.muli c2_i32_160 v2
  let c1_i32_161 : BitVec 32 := 1#32
  let v229 : BitVec 32 := Scalar.addi v228 c1_i32_161
  let c10_i32_2342 : BitVec 32 := 10#32
  let c0_i32_2341 : BitVec 32 := 0#32
  let c2_i32_2333 : BitVec 32 := 2#32
  let v3706 : BitVec 32 := Scalar.subi v229 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v229 v3725
  let c64_i32_2343 : BitVec 32 := 64#32
  let v3727 : BitVec 32 := Scalar.muli v3726 c64_i32_2343
  let c0_i32_2347 : BitVec 32 := 0#32
  ![0, 0, v3727.toNat, 0]
def k0_off4 (d0 : Dev nD) : Fin 4 → Nat :=
  let c0_i32_2348 : BitVec 32 := 0#32
  let c0_i32_2349 : BitVec 32 := 0#32
  let c64_i32_2350 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v3705 : BitVec 32 := Scalar.muli v2 c256_i32
  ![0, 0, 64, v3705.toNat]
def k0_cond3 (d0 : Dev nD) : BitVec 1 :=
  let c2_i32_172 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v245 : BitVec 32 := Scalar.muli c2_i32_172 v2
  let c0_i32_173 : BitVec 32 := 0#32
  let v246 : BitVec 32 := Scalar.addi v245 c0_i32_173
  let c1_i32_174 : BitVec 32 := 1#32
  let v247 : BitVec 1 := Scalar.cmpi .eq v246 c1_i32_174
  let c3_i32_175 : BitVec 32 := 3#32
  let c0_i32_176 : BitVec 32 := 0#32
  let v248 : BitVec 1 := Scalar.cmpi .eq c3_i32_175 c0_i32_176
  let c1_i32_177 : BitVec 32 := 1#32
  let v249 : BitVec 32 := Scalar.select v248 c1_i32_177 c3_i32_175
  let v250 : BitVec 32 := Scalar.remsi v246 v249
  let c0_i32_179 : BitVec 32 := 0#32
  let v252 : BitVec 1 := Scalar.cmpi .slt v250 c0_i32_179
  let c0_i32_180 : BitVec 32 := 0#32
  let v253 : BitVec 1 := Scalar.cmpi .slt v249 c0_i32_180
  let v254 : BitVec 1 := Scalar.xori v252 v253
  let c0_i32_178 : BitVec 32 := 0#32
  let v251 : BitVec 1 := Scalar.cmpi .ne v250 c0_i32_178
  let v255 : BitVec 1 := Scalar.andi v254 v251
  let v256 : BitVec 32 := Scalar.addi v250 v249
  let v257 : BitVec 32 := Scalar.select v255 v256 v250
  let c1_i32_181 : BitVec 32 := 1#32
  let v258 : BitVec 1 := Scalar.cmpi .ne v257 c1_i32_181
  let v259 : BitVec 1 := Scalar.ori v247 v258
  let v260 : BitVec 32 := Scalar.extui v259
  let c0_i32_182 : BitVec 32 := 0#32
  let v261 : BitVec 1 := Scalar.cmpi .ne v260 c0_i32_182
  v261

def k0_off5 (d0 : Dev nD) : Fin 1 → Nat :=
  let c2_i32_2351 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3739 : BitVec 32 := Scalar.muli c2_i32_2351 v2
  let c0_i32_2352 : BitVec 32 := 0#32
  let v3740 : BitVec 32 := Scalar.addi v3739 c0_i32_2352
  ![v3740.toNat]
def k0_off6 (d0 : Dev nD) : Fin 4 → Nat :=
  let c0_i32_2356 : BitVec 32 := 0#32
  let c0_i32_2357 : BitVec 32 := 0#32
  let c2_i32_172 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v245 : BitVec 32 := Scalar.muli c2_i32_172 v2
  let c0_i32_173 : BitVec 32 := 0#32
  let v246 : BitVec 32 := Scalar.addi v245 c0_i32_173
  let c10_i32_2349 : BitVec 32 := 10#32
  let c0_i32_2348 : BitVec 32 := 0#32
  let c2_i32_2340 : BitVec 32 := 2#32
  let v3717 : BitVec 32 := Scalar.subi v246 c2_i32_2340
  let c0_i32_2342 : BitVec 32 := 0#32
  let v3719 : BitVec 1 := Scalar.cmpi .sgt v3717 c0_i32_2342
  let v3720 : BitVec 32 := Scalar.extui v3719
  let c0_i32_2343 : BitVec 32 := 0#32
  let v3721 : BitVec 1 := Scalar.cmpi .slt v3717 c0_i32_2343
  let v3722 : BitVec 32 := Scalar.extui v3721
  let v3723 : BitVec 32 := Scalar.subi v3720 v3722
  let c3_i32_2341 : BitVec 32 := 3#32
  let c0_i32_2344 : BitVec 32 := 0#32
  let v3724 : BitVec 1 := Scalar.cmpi .sgt c3_i32_2341 c0_i32_2344
  let v3725 : BitVec 32 := Scalar.extui v3724
  let c0_i32_2345 : BitVec 32 := 0#32
  let v3726 : BitVec 1 := Scalar.cmpi .slt c3_i32_2341 c0_i32_2345
  let v3727 : BitVec 32 := Scalar.extui v3726
  let v3728 : BitVec 32 := Scalar.subi v3725 v3727
  let v3729 : BitVec 1 := Scalar.cmpi .ne v3723 v3728
  let v3730 : BitVec 32 := Scalar.remsi v3717 c3_i32_2341
  let c0_i32_2346 : BitVec 32 := 0#32
  let v3731 : BitVec 1 := Scalar.cmpi .ne v3730 c0_i32_2346
  let v3732 : BitVec 1 := Scalar.andi v3729 v3731
  let v3718 : BitVec 32 := Scalar.divsi v3717 c3_i32_2341
  let c1_i32_2347 : BitVec 32 := 1#32
  let v3733 : BitVec 32 := Scalar.subi v3718 c1_i32_2347
  let v3734 : BitVec 32 := Scalar.select v3732 v3733 v3718
  let v3735 : BitVec 32 := Scalar.maxsi c0_i32_2348 v3734
  let v3736 : BitVec 32 := Scalar.minsi c10_i32_2349 v3735
  let v3737 : BitVec 32 := Scalar.subi v246 v3736
  let c64_i32_2350 : BitVec 32 := 64#32
  let v3738 : BitVec 32 := Scalar.muli v3737 c64_i32_2350
  let c0_i32_2358 : BitVec 32 := 0#32
  ![0, 0, v3738.toNat, 0]
def k0_off7 (d0 : Dev nD) (c1_i32_2333 : BitVec 32) : Fin 4 → Nat :=
  let c0_i32_2359 : BitVec 32 := 0#32
  let c0_i32_2360 : BitVec 32 := 0#32
  let c0_i32_2361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3705 : BitVec 32 := Scalar.addi v2 c1_i32_2333
  let c16_i32_2334 : BitVec 32 := 16#32
  let c0_i32_2335 : BitVec 32 := 0#32
  let v3706 : BitVec 1 := Scalar.cmpi .eq c16_i32_2334 c0_i32_2335
  let c1_i32_2336 : BitVec 32 := 1#32
  let v3707 : BitVec 32 := Scalar.select v3706 c1_i32_2336 c16_i32_2334
  let v3708 : BitVec 32 := Scalar.remsi v3705 v3707
  let c0_i32_2338 : BitVec 32 := 0#32
  let v3710 : BitVec 1 := Scalar.cmpi .slt v3708 c0_i32_2338
  let c0_i32_2339 : BitVec 32 := 0#32
  let v3711 : BitVec 1 := Scalar.cmpi .slt v3707 c0_i32_2339
  let v3712 : BitVec 1 := Scalar.xori v3710 v3711
  let c0_i32_2337 : BitVec 32 := 0#32
  let v3709 : BitVec 1 := Scalar.cmpi .ne v3708 c0_i32_2337
  let v3713 : BitVec 1 := Scalar.andi v3712 v3709
  let v3714 : BitVec 32 := Scalar.addi v3708 v3707
  let v3715 : BitVec 32 := Scalar.select v3713 v3714 v3708
  let c256_i32 : BitVec 32 := 256#32
  let v3716 : BitVec 32 := Scalar.muli v3715 c256_i32
  ![0, 0, 0, v3716.toNat]
def k0_dev16 (d0 : Dev nD) : Nat :=
  let c0_i32_2355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2333 : BitVec 32 := 1#32
  let v3705 : BitVec 32 := Scalar.addi v2 c1_i32_2333
  let c16_i32_2334 : BitVec 32 := 16#32
  let c0_i32_2335 : BitVec 32 := 0#32
  let v3706 : BitVec 1 := Scalar.cmpi .eq c16_i32_2334 c0_i32_2335
  let c1_i32_2336 : BitVec 32 := 1#32
  let v3707 : BitVec 32 := Scalar.select v3706 c1_i32_2336 c16_i32_2334
  let v3708 : BitVec 32 := Scalar.remsi v3705 v3707
  let c0_i32_2338 : BitVec 32 := 0#32
  let v3710 : BitVec 1 := Scalar.cmpi .slt v3708 c0_i32_2338
  let c0_i32_2339 : BitVec 32 := 0#32
  let v3711 : BitVec 1 := Scalar.cmpi .slt v3707 c0_i32_2339
  let v3712 : BitVec 1 := Scalar.xori v3710 v3711
  let c0_i32_2337 : BitVec 32 := 0#32
  let v3709 : BitVec 1 := Scalar.cmpi .ne v3708 c0_i32_2337
  let v3713 : BitVec 1 := Scalar.andi v3712 v3709
  let v3714 : BitVec 32 := Scalar.addi v3708 v3707
  let v3715 : BitVec 32 := Scalar.select v3713 v3714 v3708
  let c1_i32_2354 : BitVec 32 := 1#32
  let v3741 : BitVec 32 := Scalar.muli v3715 c1_i32_2354
  let v3742 : BitVec 32 := Scalar.addi c0_i32_2355 v3741
  v3742.toNat
def k0_dev17 (d0 : Dev nD) : Nat :=
  let c0_i32_2385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2362 : BitVec 32 := 2#32
  let v3749 : BitVec 32 := Scalar.addi v2 c2_i32_2362
  let c16_i32_2363 : BitVec 32 := 16#32
  let c0_i32_2364 : BitVec 32 := 0#32
  let v3750 : BitVec 1 := Scalar.cmpi .eq c16_i32_2363 c0_i32_2364
  let c1_i32_2365 : BitVec 32 := 1#32
  let v3751 : BitVec 32 := Scalar.select v3750 c1_i32_2365 c16_i32_2363
  let v3752 : BitVec 32 := Scalar.remsi v3749 v3751
  let c0_i32_2367 : BitVec 32 := 0#32
  let v3754 : BitVec 1 := Scalar.cmpi .slt v3752 c0_i32_2367
  let c0_i32_2368 : BitVec 32 := 0#32
  let v3755 : BitVec 1 := Scalar.cmpi .slt v3751 c0_i32_2368
  let v3756 : BitVec 1 := Scalar.xori v3754 v3755
  let c0_i32_2366 : BitVec 32 := 0#32
  let v3753 : BitVec 1 := Scalar.cmpi .ne v3752 c0_i32_2366
  let v3757 : BitVec 1 := Scalar.andi v3756 v3753
  let v3758 : BitVec 32 := Scalar.addi v3752 v3751
  let v3759 : BitVec 32 := Scalar.select v3757 v3758 v3752
  let c1_i32_2384 : BitVec 32 := 1#32
  let v3785 : BitVec 32 := Scalar.muli v3759 c1_i32_2384
  let v3786 : BitVec 32 := Scalar.addi c0_i32_2385 v3785
  v3786.toNat
def k0_dev18 (d0 : Dev nD) : Nat :=
  let c0_i32_2415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2392 : BitVec 32 := 3#32
  let v3793 : BitVec 32 := Scalar.addi v2 c3_i32_2392
  let c16_i32_2393 : BitVec 32 := 16#32
  let c0_i32_2394 : BitVec 32 := 0#32
  let v3794 : BitVec 1 := Scalar.cmpi .eq c16_i32_2393 c0_i32_2394
  let c1_i32_2395 : BitVec 32 := 1#32
  let v3795 : BitVec 32 := Scalar.select v3794 c1_i32_2395 c16_i32_2393
  let v3796 : BitVec 32 := Scalar.remsi v3793 v3795
  let c0_i32_2397 : BitVec 32 := 0#32
  let v3798 : BitVec 1 := Scalar.cmpi .slt v3796 c0_i32_2397
  let c0_i32_2398 : BitVec 32 := 0#32
  let v3799 : BitVec 1 := Scalar.cmpi .slt v3795 c0_i32_2398
  let v3800 : BitVec 1 := Scalar.xori v3798 v3799
  let c0_i32_2396 : BitVec 32 := 0#32
  let v3797 : BitVec 1 := Scalar.cmpi .ne v3796 c0_i32_2396
  let v3801 : BitVec 1 := Scalar.andi v3800 v3797
  let v3802 : BitVec 32 := Scalar.addi v3796 v3795
  let v3803 : BitVec 32 := Scalar.select v3801 v3802 v3796
  let c1_i32_2414 : BitVec 32 := 1#32
  let v3829 : BitVec 32 := Scalar.muli v3803 c1_i32_2414
  let v3830 : BitVec 32 := Scalar.addi c0_i32_2415 v3829
  v3830.toNat
def k0_dev19 (d0 : Dev nD) : Nat :=
  let c0_i32_2445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2422 : BitVec 32 := 4#32
  let v3837 : BitVec 32 := Scalar.addi v2 c4_i32_2422
  let c16_i32_2423 : BitVec 32 := 16#32
  let c0_i32_2424 : BitVec 32 := 0#32
  let v3838 : BitVec 1 := Scalar.cmpi .eq c16_i32_2423 c0_i32_2424
  let c1_i32_2425 : BitVec 32 := 1#32
  let v3839 : BitVec 32 := Scalar.select v3838 c1_i32_2425 c16_i32_2423
  let v3840 : BitVec 32 := Scalar.remsi v3837 v3839
  let c0_i32_2427 : BitVec 32 := 0#32
  let v3842 : BitVec 1 := Scalar.cmpi .slt v3840 c0_i32_2427
  let c0_i32_2428 : BitVec 32 := 0#32
  let v3843 : BitVec 1 := Scalar.cmpi .slt v3839 c0_i32_2428
  let v3844 : BitVec 1 := Scalar.xori v3842 v3843
  let c0_i32_2426 : BitVec 32 := 0#32
  let v3841 : BitVec 1 := Scalar.cmpi .ne v3840 c0_i32_2426
  let v3845 : BitVec 1 := Scalar.andi v3844 v3841
  let v3846 : BitVec 32 := Scalar.addi v3840 v3839
  let v3847 : BitVec 32 := Scalar.select v3845 v3846 v3840
  let c1_i32_2444 : BitVec 32 := 1#32
  let v3873 : BitVec 32 := Scalar.muli v3847 c1_i32_2444
  let v3874 : BitVec 32 := Scalar.addi c0_i32_2445 v3873
  v3874.toNat
def k0_dev20 (d0 : Dev nD) : Nat :=
  let c0_i32_2475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2452 : BitVec 32 := 5#32
  let v3881 : BitVec 32 := Scalar.addi v2 c5_i32_2452
  let c16_i32_2453 : BitVec 32 := 16#32
  let c0_i32_2454 : BitVec 32 := 0#32
  let v3882 : BitVec 1 := Scalar.cmpi .eq c16_i32_2453 c0_i32_2454
  let c1_i32_2455 : BitVec 32 := 1#32
  let v3883 : BitVec 32 := Scalar.select v3882 c1_i32_2455 c16_i32_2453
  let v3884 : BitVec 32 := Scalar.remsi v3881 v3883
  let c0_i32_2457 : BitVec 32 := 0#32
  let v3886 : BitVec 1 := Scalar.cmpi .slt v3884 c0_i32_2457
  let c0_i32_2458 : BitVec 32 := 0#32
  let v3887 : BitVec 1 := Scalar.cmpi .slt v3883 c0_i32_2458
  let v3888 : BitVec 1 := Scalar.xori v3886 v3887
  let c0_i32_2456 : BitVec 32 := 0#32
  let v3885 : BitVec 1 := Scalar.cmpi .ne v3884 c0_i32_2456
  let v3889 : BitVec 1 := Scalar.andi v3888 v3885
  let v3890 : BitVec 32 := Scalar.addi v3884 v3883
  let v3891 : BitVec 32 := Scalar.select v3889 v3890 v3884
  let c1_i32_2474 : BitVec 32 := 1#32
  let v3917 : BitVec 32 := Scalar.muli v3891 c1_i32_2474
  let v3918 : BitVec 32 := Scalar.addi c0_i32_2475 v3917
  v3918.toNat
def k0_dev21 (d0 : Dev nD) : Nat :=
  let c0_i32_2505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2482 : BitVec 32 := 6#32
  let v3925 : BitVec 32 := Scalar.addi v2 c6_i32_2482
  let c16_i32_2483 : BitVec 32 := 16#32
  let c0_i32_2484 : BitVec 32 := 0#32
  let v3926 : BitVec 1 := Scalar.cmpi .eq c16_i32_2483 c0_i32_2484
  let c1_i32_2485 : BitVec 32 := 1#32
  let v3927 : BitVec 32 := Scalar.select v3926 c1_i32_2485 c16_i32_2483
  let v3928 : BitVec 32 := Scalar.remsi v3925 v3927
  let c0_i32_2487 : BitVec 32 := 0#32
  let v3930 : BitVec 1 := Scalar.cmpi .slt v3928 c0_i32_2487
  let c0_i32_2488 : BitVec 32 := 0#32
  let v3931 : BitVec 1 := Scalar.cmpi .slt v3927 c0_i32_2488
  let v3932 : BitVec 1 := Scalar.xori v3930 v3931
  let c0_i32_2486 : BitVec 32 := 0#32
  let v3929 : BitVec 1 := Scalar.cmpi .ne v3928 c0_i32_2486
  let v3933 : BitVec 1 := Scalar.andi v3932 v3929
  let v3934 : BitVec 32 := Scalar.addi v3928 v3927
  let v3935 : BitVec 32 := Scalar.select v3933 v3934 v3928
  let c1_i32_2504 : BitVec 32 := 1#32
  let v3961 : BitVec 32 := Scalar.muli v3935 c1_i32_2504
  let v3962 : BitVec 32 := Scalar.addi c0_i32_2505 v3961
  v3962.toNat
def k0_dev22 (d0 : Dev nD) : Nat :=
  let c0_i32_2535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2512 : BitVec 32 := 7#32
  let v3969 : BitVec 32 := Scalar.addi v2 c7_i32_2512
  let c16_i32_2513 : BitVec 32 := 16#32
  let c0_i32_2514 : BitVec 32 := 0#32
  let v3970 : BitVec 1 := Scalar.cmpi .eq c16_i32_2513 c0_i32_2514
  let c1_i32_2515 : BitVec 32 := 1#32
  let v3971 : BitVec 32 := Scalar.select v3970 c1_i32_2515 c16_i32_2513
  let v3972 : BitVec 32 := Scalar.remsi v3969 v3971
  let c0_i32_2517 : BitVec 32 := 0#32
  let v3974 : BitVec 1 := Scalar.cmpi .slt v3972 c0_i32_2517
  let c0_i32_2518 : BitVec 32 := 0#32
  let v3975 : BitVec 1 := Scalar.cmpi .slt v3971 c0_i32_2518
  let v3976 : BitVec 1 := Scalar.xori v3974 v3975
  let c0_i32_2516 : BitVec 32 := 0#32
  let v3973 : BitVec 1 := Scalar.cmpi .ne v3972 c0_i32_2516
  let v3977 : BitVec 1 := Scalar.andi v3976 v3973
  let v3978 : BitVec 32 := Scalar.addi v3972 v3971
  let v3979 : BitVec 32 := Scalar.select v3977 v3978 v3972
  let c1_i32_2534 : BitVec 32 := 1#32
  let v4005 : BitVec 32 := Scalar.muli v3979 c1_i32_2534
  let v4006 : BitVec 32 := Scalar.addi c0_i32_2535 v4005
  v4006.toNat
def k0_dev23 (d0 : Dev nD) : Nat :=
  let c0_i32_2565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2542 : BitVec 32 := 8#32
  let v4013 : BitVec 32 := Scalar.addi v2 c8_i32_2542
  let c16_i32_2543 : BitVec 32 := 16#32
  let c0_i32_2544 : BitVec 32 := 0#32
  let v4014 : BitVec 1 := Scalar.cmpi .eq c16_i32_2543 c0_i32_2544
  let c1_i32_2545 : BitVec 32 := 1#32
  let v4015 : BitVec 32 := Scalar.select v4014 c1_i32_2545 c16_i32_2543
  let v4016 : BitVec 32 := Scalar.remsi v4013 v4015
  let c0_i32_2547 : BitVec 32 := 0#32
  let v4018 : BitVec 1 := Scalar.cmpi .slt v4016 c0_i32_2547
  let c0_i32_2548 : BitVec 32 := 0#32
  let v4019 : BitVec 1 := Scalar.cmpi .slt v4015 c0_i32_2548
  let v4020 : BitVec 1 := Scalar.xori v4018 v4019
  let c0_i32_2546 : BitVec 32 := 0#32
  let v4017 : BitVec 1 := Scalar.cmpi .ne v4016 c0_i32_2546
  let v4021 : BitVec 1 := Scalar.andi v4020 v4017
  let v4022 : BitVec 32 := Scalar.addi v4016 v4015
  let v4023 : BitVec 32 := Scalar.select v4021 v4022 v4016
  let c1_i32_2564 : BitVec 32 := 1#32
  let v4049 : BitVec 32 := Scalar.muli v4023 c1_i32_2564
  let v4050 : BitVec 32 := Scalar.addi c0_i32_2565 v4049
  v4050.toNat
def k0_dev24 (d0 : Dev nD) : Nat :=
  let c0_i32_2594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2572 : BitVec 32 := 9#32
  let v4057 : BitVec 32 := Scalar.addi v2 c9_i32_2572
  let c16_i32_2573 : BitVec 32 := 16#32
  let c0_i32_2574 : BitVec 32 := 0#32
  let v4058 : BitVec 1 := Scalar.cmpi .eq c16_i32_2573 c0_i32_2574
  let c1_i32_2575 : BitVec 32 := 1#32
  let v4059 : BitVec 32 := Scalar.select v4058 c1_i32_2575 c16_i32_2573
  let v4060 : BitVec 32 := Scalar.remsi v4057 v4059
  let c0_i32_2577 : BitVec 32 := 0#32
  let v4062 : BitVec 1 := Scalar.cmpi .slt v4060 c0_i32_2577
  let c0_i32_2578 : BitVec 32 := 0#32
  let v4063 : BitVec 1 := Scalar.cmpi .slt v4059 c0_i32_2578
  let v4064 : BitVec 1 := Scalar.xori v4062 v4063
  let c0_i32_2576 : BitVec 32 := 0#32
  let v4061 : BitVec 1 := Scalar.cmpi .ne v4060 c0_i32_2576
  let v4065 : BitVec 1 := Scalar.andi v4064 v4061
  let v4066 : BitVec 32 := Scalar.addi v4060 v4059
  let v4067 : BitVec 32 := Scalar.select v4065 v4066 v4060
  let c1_i32_2593 : BitVec 32 := 1#32
  let v4093 : BitVec 32 := Scalar.muli v4067 c1_i32_2593
  let v4094 : BitVec 32 := Scalar.addi c0_i32_2594 v4093
  v4094.toNat
def k0_dev25 (d0 : Dev nD) : Nat :=
  let c0_i32_2623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2601 : BitVec 32 := 10#32
  let v4101 : BitVec 32 := Scalar.addi v2 c10_i32_2601
  let c16_i32_2602 : BitVec 32 := 16#32
  let c0_i32_2603 : BitVec 32 := 0#32
  let v4102 : BitVec 1 := Scalar.cmpi .eq c16_i32_2602 c0_i32_2603
  let c1_i32_2604 : BitVec 32 := 1#32
  let v4103 : BitVec 32 := Scalar.select v4102 c1_i32_2604 c16_i32_2602
  let v4104 : BitVec 32 := Scalar.remsi v4101 v4103
  let c0_i32_2606 : BitVec 32 := 0#32
  let v4106 : BitVec 1 := Scalar.cmpi .slt v4104 c0_i32_2606
  let c0_i32_2607 : BitVec 32 := 0#32
  let v4107 : BitVec 1 := Scalar.cmpi .slt v4103 c0_i32_2607
  let v4108 : BitVec 1 := Scalar.xori v4106 v4107
  let c0_i32_2605 : BitVec 32 := 0#32
  let v4105 : BitVec 1 := Scalar.cmpi .ne v4104 c0_i32_2605
  let v4109 : BitVec 1 := Scalar.andi v4108 v4105
  let v4110 : BitVec 32 := Scalar.addi v4104 v4103
  let v4111 : BitVec 32 := Scalar.select v4109 v4110 v4104
  let c1_i32_2622 : BitVec 32 := 1#32
  let v4137 : BitVec 32 := Scalar.muli v4111 c1_i32_2622
  let v4138 : BitVec 32 := Scalar.addi c0_i32_2623 v4137
  v4138.toNat
def k0_dev26 (d0 : Dev nD) : Nat :=
  let c0_i32_2652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2630 : BitVec 32 := 11#32
  let v4145 : BitVec 32 := Scalar.addi v2 c11_i32_2630
  let c16_i32_2631 : BitVec 32 := 16#32
  let c0_i32_2632 : BitVec 32 := 0#32
  let v4146 : BitVec 1 := Scalar.cmpi .eq c16_i32_2631 c0_i32_2632
  let c1_i32_2633 : BitVec 32 := 1#32
  let v4147 : BitVec 32 := Scalar.select v4146 c1_i32_2633 c16_i32_2631
  let v4148 : BitVec 32 := Scalar.remsi v4145 v4147
  let c0_i32_2635 : BitVec 32 := 0#32
  let v4150 : BitVec 1 := Scalar.cmpi .slt v4148 c0_i32_2635
  let c0_i32_2636 : BitVec 32 := 0#32
  let v4151 : BitVec 1 := Scalar.cmpi .slt v4147 c0_i32_2636
  let v4152 : BitVec 1 := Scalar.xori v4150 v4151
  let c0_i32_2634 : BitVec 32 := 0#32
  let v4149 : BitVec 1 := Scalar.cmpi .ne v4148 c0_i32_2634
  let v4153 : BitVec 1 := Scalar.andi v4152 v4149
  let v4154 : BitVec 32 := Scalar.addi v4148 v4147
  let v4155 : BitVec 32 := Scalar.select v4153 v4154 v4148
  let c1_i32_2651 : BitVec 32 := 1#32
  let v4181 : BitVec 32 := Scalar.muli v4155 c1_i32_2651
  let v4182 : BitVec 32 := Scalar.addi c0_i32_2652 v4181
  v4182.toNat
def k0_dev27 (d0 : Dev nD) : Nat :=
  let c0_i32_2681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2659 : BitVec 32 := 12#32
  let v4189 : BitVec 32 := Scalar.addi v2 c12_i32_2659
  let c16_i32_2660 : BitVec 32 := 16#32
  let c0_i32_2661 : BitVec 32 := 0#32
  let v4190 : BitVec 1 := Scalar.cmpi .eq c16_i32_2660 c0_i32_2661
  let c1_i32_2662 : BitVec 32 := 1#32
  let v4191 : BitVec 32 := Scalar.select v4190 c1_i32_2662 c16_i32_2660
  let v4192 : BitVec 32 := Scalar.remsi v4189 v4191
  let c0_i32_2664 : BitVec 32 := 0#32
  let v4194 : BitVec 1 := Scalar.cmpi .slt v4192 c0_i32_2664
  let c0_i32_2665 : BitVec 32 := 0#32
  let v4195 : BitVec 1 := Scalar.cmpi .slt v4191 c0_i32_2665
  let v4196 : BitVec 1 := Scalar.xori v4194 v4195
  let c0_i32_2663 : BitVec 32 := 0#32
  let v4193 : BitVec 1 := Scalar.cmpi .ne v4192 c0_i32_2663
  let v4197 : BitVec 1 := Scalar.andi v4196 v4193
  let v4198 : BitVec 32 := Scalar.addi v4192 v4191
  let v4199 : BitVec 32 := Scalar.select v4197 v4198 v4192
  let c1_i32_2680 : BitVec 32 := 1#32
  let v4225 : BitVec 32 := Scalar.muli v4199 c1_i32_2680
  let v4226 : BitVec 32 := Scalar.addi c0_i32_2681 v4225
  v4226.toNat
def k0_dev28 (d0 : Dev nD) : Nat :=
  let c0_i32_2710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2688 : BitVec 32 := 13#32
  let v4233 : BitVec 32 := Scalar.addi v2 c13_i32_2688
  let c16_i32_2689 : BitVec 32 := 16#32
  let c0_i32_2690 : BitVec 32 := 0#32
  let v4234 : BitVec 1 := Scalar.cmpi .eq c16_i32_2689 c0_i32_2690
  let c1_i32_2691 : BitVec 32 := 1#32
  let v4235 : BitVec 32 := Scalar.select v4234 c1_i32_2691 c16_i32_2689
  let v4236 : BitVec 32 := Scalar.remsi v4233 v4235
  let c0_i32_2693 : BitVec 32 := 0#32
  let v4238 : BitVec 1 := Scalar.cmpi .slt v4236 c0_i32_2693
  let c0_i32_2694 : BitVec 32 := 0#32
  let v4239 : BitVec 1 := Scalar.cmpi .slt v4235 c0_i32_2694
  let v4240 : BitVec 1 := Scalar.xori v4238 v4239
  let c0_i32_2692 : BitVec 32 := 0#32
  let v4237 : BitVec 1 := Scalar.cmpi .ne v4236 c0_i32_2692
  let v4241 : BitVec 1 := Scalar.andi v4240 v4237
  let v4242 : BitVec 32 := Scalar.addi v4236 v4235
  let v4243 : BitVec 32 := Scalar.select v4241 v4242 v4236
  let c1_i32_2709 : BitVec 32 := 1#32
  let v4269 : BitVec 32 := Scalar.muli v4243 c1_i32_2709
  let v4270 : BitVec 32 := Scalar.addi c0_i32_2710 v4269
  v4270.toNat
def k0_dev29 (d0 : Dev nD) : Nat :=
  let c0_i32_2739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2717 : BitVec 32 := 14#32
  let v4277 : BitVec 32 := Scalar.addi v2 c14_i32_2717
  let c16_i32_2718 : BitVec 32 := 16#32
  let c0_i32_2719 : BitVec 32 := 0#32
  let v4278 : BitVec 1 := Scalar.cmpi .eq c16_i32_2718 c0_i32_2719
  let c1_i32_2720 : BitVec 32 := 1#32
  let v4279 : BitVec 32 := Scalar.select v4278 c1_i32_2720 c16_i32_2718
  let v4280 : BitVec 32 := Scalar.remsi v4277 v4279
  let c0_i32_2722 : BitVec 32 := 0#32
  let v4282 : BitVec 1 := Scalar.cmpi .slt v4280 c0_i32_2722
  let c0_i32_2723 : BitVec 32 := 0#32
  let v4283 : BitVec 1 := Scalar.cmpi .slt v4279 c0_i32_2723
  let v4284 : BitVec 1 := Scalar.xori v4282 v4283
  let c0_i32_2721 : BitVec 32 := 0#32
  let v4281 : BitVec 1 := Scalar.cmpi .ne v4280 c0_i32_2721
  let v4285 : BitVec 1 := Scalar.andi v4284 v4281
  let v4286 : BitVec 32 := Scalar.addi v4280 v4279
  let v4287 : BitVec 32 := Scalar.select v4285 v4286 v4280
  let c1_i32_2738 : BitVec 32 := 1#32
  let v4313 : BitVec 32 := Scalar.muli v4287 c1_i32_2738
  let v4314 : BitVec 32 := Scalar.addi c0_i32_2739 v4313
  v4314.toNat
def k0_dev30 (d0 : Dev nD) : Nat :=
  let c0_i32_2768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2746 : BitVec 32 := 15#32
  let v4321 : BitVec 32 := Scalar.addi v2 c15_i32_2746
  let c16_i32_2747 : BitVec 32 := 16#32
  let c0_i32_2748 : BitVec 32 := 0#32
  let v4322 : BitVec 1 := Scalar.cmpi .eq c16_i32_2747 c0_i32_2748
  let c1_i32_2749 : BitVec 32 := 1#32
  let v4323 : BitVec 32 := Scalar.select v4322 c1_i32_2749 c16_i32_2747
  let v4324 : BitVec 32 := Scalar.remsi v4321 v4323
  let c0_i32_2751 : BitVec 32 := 0#32
  let v4326 : BitVec 1 := Scalar.cmpi .slt v4324 c0_i32_2751
  let c0_i32_2752 : BitVec 32 := 0#32
  let v4327 : BitVec 1 := Scalar.cmpi .slt v4323 c0_i32_2752
  let v4328 : BitVec 1 := Scalar.xori v4326 v4327
  let c0_i32_2750 : BitVec 32 := 0#32
  let v4325 : BitVec 1 := Scalar.cmpi .ne v4324 c0_i32_2750
  let v4329 : BitVec 1 := Scalar.andi v4328 v4325
  let v4330 : BitVec 32 := Scalar.addi v4324 v4323
  let v4331 : BitVec 32 := Scalar.select v4329 v4330 v4324
  let c1_i32_2767 : BitVec 32 := 1#32
  let v4357 : BitVec 32 := Scalar.muli v4331 c1_i32_2767
  let v4358 : BitVec 32 := Scalar.addi c0_i32_2768 v4357
  v4358.toNat
def k0_cond4 (d0 : Dev nD) : BitVec 1 :=
  let c2_i32_183 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v262 : BitVec 32 := Scalar.muli c2_i32_183 v2
  let c1_i32_184 : BitVec 32 := 1#32
  let v263 : BitVec 32 := Scalar.addi v262 c1_i32_184
  let c1_i32_185 : BitVec 32 := 1#32
  let v264 : BitVec 1 := Scalar.cmpi .eq v263 c1_i32_185
  let c3_i32_186 : BitVec 32 := 3#32
  let c0_i32_187 : BitVec 32 := 0#32
  let v265 : BitVec 1 := Scalar.cmpi .eq c3_i32_186 c0_i32_187
  let c1_i32_188 : BitVec 32 := 1#32
  let v266 : BitVec 32 := Scalar.select v265 c1_i32_188 c3_i32_186
  let v267 : BitVec 32 := Scalar.remsi v263 v266
  let c0_i32_190 : BitVec 32 := 0#32
  let v269 : BitVec 1 := Scalar.cmpi .slt v267 c0_i32_190
  let c0_i32_191 : BitVec 32 := 0#32
  let v270 : BitVec 1 := Scalar.cmpi .slt v266 c0_i32_191
  let v271 : BitVec 1 := Scalar.xori v269 v270
  let c0_i32_189 : BitVec 32 := 0#32
  let v268 : BitVec 1 := Scalar.cmpi .ne v267 c0_i32_189
  let v272 : BitVec 1 := Scalar.andi v271 v268
  let v273 : BitVec 32 := Scalar.addi v267 v266
  let v274 : BitVec 32 := Scalar.select v272 v273 v267
  let c1_i32_192 : BitVec 32 := 1#32
  let v275 : BitVec 1 := Scalar.cmpi .ne v274 c1_i32_192
  let v276 : BitVec 1 := Scalar.ori v264 v275
  let v277 : BitVec 32 := Scalar.extui v276
  let c0_i32_193 : BitVec 32 := 0#32
  let v278 : BitVec 1 := Scalar.cmpi .ne v277 c0_i32_193
  v278

def k0_off8 (d0 : Dev nD) : Fin 1 → Nat :=
  let c2_i32_2351 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3739 : BitVec 32 := Scalar.muli c2_i32_2351 v2
  let c1_i32_2352 : BitVec 32 := 1#32
  let v3740 : BitVec 32 := Scalar.addi v3739 c1_i32_2352
  ![v3740.toNat]
def k0_off9 (d0 : Dev nD) : Fin 4 → Nat :=
  let c0_i32_2356 : BitVec 32 := 0#32
  let c0_i32_2357 : BitVec 32 := 0#32
  let c2_i32_183 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v262 : BitVec 32 := Scalar.muli c2_i32_183 v2
  let c1_i32_184 : BitVec 32 := 1#32
  let v263 : BitVec 32 := Scalar.addi v262 c1_i32_184
  let c10_i32_2349 : BitVec 32 := 10#32
  let c0_i32_2348 : BitVec 32 := 0#32
  let c2_i32_2340 : BitVec 32 := 2#32
  let v3717 : BitVec 32 := Scalar.subi v263 c2_i32_2340
  let c0_i32_2342 : BitVec 32 := 0#32
  let v3719 : BitVec 1 := Scalar.cmpi .sgt v3717 c0_i32_2342
  let v3720 : BitVec 32 := Scalar.extui v3719
  let c0_i32_2343 : BitVec 32 := 0#32
  let v3721 : BitVec 1 := Scalar.cmpi .slt v3717 c0_i32_2343
  let v3722 : BitVec 32 := Scalar.extui v3721
  let v3723 : BitVec 32 := Scalar.subi v3720 v3722
  let c3_i32_2341 : BitVec 32 := 3#32
  let c0_i32_2344 : BitVec 32 := 0#32
  let v3724 : BitVec 1 := Scalar.cmpi .sgt c3_i32_2341 c0_i32_2344
  let v3725 : BitVec 32 := Scalar.extui v3724
  let c0_i32_2345 : BitVec 32 := 0#32
  let v3726 : BitVec 1 := Scalar.cmpi .slt c3_i32_2341 c0_i32_2345
  let v3727 : BitVec 32 := Scalar.extui v3726
  let v3728 : BitVec 32 := Scalar.subi v3725 v3727
  let v3729 : BitVec 1 := Scalar.cmpi .ne v3723 v3728
  let v3730 : BitVec 32 := Scalar.remsi v3717 c3_i32_2341
  let c0_i32_2346 : BitVec 32 := 0#32
  let v3731 : BitVec 1 := Scalar.cmpi .ne v3730 c0_i32_2346
  let v3732 : BitVec 1 := Scalar.andi v3729 v3731
  let v3718 : BitVec 32 := Scalar.divsi v3717 c3_i32_2341
  let c1_i32_2347 : BitVec 32 := 1#32
  let v3733 : BitVec 32 := Scalar.subi v3718 c1_i32_2347
  let v3734 : BitVec 32 := Scalar.select v3732 v3733 v3718
  let v3735 : BitVec 32 := Scalar.maxsi c0_i32_2348 v3734
  let v3736 : BitVec 32 := Scalar.minsi c10_i32_2349 v3735
  let v3737 : BitVec 32 := Scalar.subi v263 v3736
  let c64_i32_2350 : BitVec 32 := 64#32
  let v3738 : BitVec 32 := Scalar.muli v3737 c64_i32_2350
  let c0_i32_2358 : BitVec 32 := 0#32
  ![0, 0, v3738.toNat, 0]
def k0_off10 (d0 : Dev nD) (c1_i32_2333 : BitVec 32) : Fin 4 → Nat :=
  let c0_i32_2359 : BitVec 32 := 0#32
  let c0_i32_2360 : BitVec 32 := 0#32
  let c64_i32_2361 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3705 : BitVec 32 := Scalar.addi v2 c1_i32_2333
  let c16_i32_2334 : BitVec 32 := 16#32
  let c0_i32_2335 : BitVec 32 := 0#32
  let v3706 : BitVec 1 := Scalar.cmpi .eq c16_i32_2334 c0_i32_2335
  let c1_i32_2336 : BitVec 32 := 1#32
  let v3707 : BitVec 32 := Scalar.select v3706 c1_i32_2336 c16_i32_2334
  let v3708 : BitVec 32 := Scalar.remsi v3705 v3707
  let c0_i32_2338 : BitVec 32 := 0#32
  let v3710 : BitVec 1 := Scalar.cmpi .slt v3708 c0_i32_2338
  let c0_i32_2339 : BitVec 32 := 0#32
  let v3711 : BitVec 1 := Scalar.cmpi .slt v3707 c0_i32_2339
  let v3712 : BitVec 1 := Scalar.xori v3710 v3711
  let c0_i32_2337 : BitVec 32 := 0#32
  let v3709 : BitVec 1 := Scalar.cmpi .ne v3708 c0_i32_2337
  let v3713 : BitVec 1 := Scalar.andi v3712 v3709
  let v3714 : BitVec 32 := Scalar.addi v3708 v3707
  let v3715 : BitVec 32 := Scalar.select v3713 v3714 v3708
  let c256_i32 : BitVec 32 := 256#32
  let v3716 : BitVec 32 := Scalar.muli v3715 c256_i32
  ![0, 0, 64, v3716.toNat]
def k0_dev31 (d0 : Dev nD) : Nat :=
  let c0_i32_2355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2333 : BitVec 32 := 1#32
  let v3705 : BitVec 32 := Scalar.addi v2 c1_i32_2333
  let c16_i32_2334 : BitVec 32 := 16#32
  let c0_i32_2335 : BitVec 32 := 0#32
  let v3706 : BitVec 1 := Scalar.cmpi .eq c16_i32_2334 c0_i32_2335
  let c1_i32_2336 : BitVec 32 := 1#32
  let v3707 : BitVec 32 := Scalar.select v3706 c1_i32_2336 c16_i32_2334
  let v3708 : BitVec 32 := Scalar.remsi v3705 v3707
  let c0_i32_2338 : BitVec 32 := 0#32
  let v3710 : BitVec 1 := Scalar.cmpi .slt v3708 c0_i32_2338
  let c0_i32_2339 : BitVec 32 := 0#32
  let v3711 : BitVec 1 := Scalar.cmpi .slt v3707 c0_i32_2339
  let v3712 : BitVec 1 := Scalar.xori v3710 v3711
  let c0_i32_2337 : BitVec 32 := 0#32
  let v3709 : BitVec 1 := Scalar.cmpi .ne v3708 c0_i32_2337
  let v3713 : BitVec 1 := Scalar.andi v3712 v3709
  let v3714 : BitVec 32 := Scalar.addi v3708 v3707
  let v3715 : BitVec 32 := Scalar.select v3713 v3714 v3708
  let c1_i32_2354 : BitVec 32 := 1#32
  let v3741 : BitVec 32 := Scalar.muli v3715 c1_i32_2354
  let v3742 : BitVec 32 := Scalar.addi c0_i32_2355 v3741
  v3742.toNat
def k0_dev32 (d0 : Dev nD) : Nat :=
  let c0_i32_2385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2362 : BitVec 32 := 2#32
  let v3749 : BitVec 32 := Scalar.addi v2 c2_i32_2362
  let c16_i32_2363 : BitVec 32 := 16#32
  let c0_i32_2364 : BitVec 32 := 0#32
  let v3750 : BitVec 1 := Scalar.cmpi .eq c16_i32_2363 c0_i32_2364
  let c1_i32_2365 : BitVec 32 := 1#32
  let v3751 : BitVec 32 := Scalar.select v3750 c1_i32_2365 c16_i32_2363
  let v3752 : BitVec 32 := Scalar.remsi v3749 v3751
  let c0_i32_2367 : BitVec 32 := 0#32
  let v3754 : BitVec 1 := Scalar.cmpi .slt v3752 c0_i32_2367
  let c0_i32_2368 : BitVec 32 := 0#32
  let v3755 : BitVec 1 := Scalar.cmpi .slt v3751 c0_i32_2368
  let v3756 : BitVec 1 := Scalar.xori v3754 v3755
  let c0_i32_2366 : BitVec 32 := 0#32
  let v3753 : BitVec 1 := Scalar.cmpi .ne v3752 c0_i32_2366
  let v3757 : BitVec 1 := Scalar.andi v3756 v3753
  let v3758 : BitVec 32 := Scalar.addi v3752 v3751
  let v3759 : BitVec 32 := Scalar.select v3757 v3758 v3752
  let c1_i32_2384 : BitVec 32 := 1#32
  let v3785 : BitVec 32 := Scalar.muli v3759 c1_i32_2384
  let v3786 : BitVec 32 := Scalar.addi c0_i32_2385 v3785
  v3786.toNat
def k0_dev33 (d0 : Dev nD) : Nat :=
  let c0_i32_2415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2392 : BitVec 32 := 3#32
  let v3793 : BitVec 32 := Scalar.addi v2 c3_i32_2392
  let c16_i32_2393 : BitVec 32 := 16#32
  let c0_i32_2394 : BitVec 32 := 0#32
  let v3794 : BitVec 1 := Scalar.cmpi .eq c16_i32_2393 c0_i32_2394
  let c1_i32_2395 : BitVec 32 := 1#32
  let v3795 : BitVec 32 := Scalar.select v3794 c1_i32_2395 c16_i32_2393
  let v3796 : BitVec 32 := Scalar.remsi v3793 v3795
  let c0_i32_2397 : BitVec 32 := 0#32
  let v3798 : BitVec 1 := Scalar.cmpi .slt v3796 c0_i32_2397
  let c0_i32_2398 : BitVec 32 := 0#32
  let v3799 : BitVec 1 := Scalar.cmpi .slt v3795 c0_i32_2398
  let v3800 : BitVec 1 := Scalar.xori v3798 v3799
  let c0_i32_2396 : BitVec 32 := 0#32
  let v3797 : BitVec 1 := Scalar.cmpi .ne v3796 c0_i32_2396
  let v3801 : BitVec 1 := Scalar.andi v3800 v3797
  let v3802 : BitVec 32 := Scalar.addi v3796 v3795
  let v3803 : BitVec 32 := Scalar.select v3801 v3802 v3796
  let c1_i32_2414 : BitVec 32 := 1#32
  let v3829 : BitVec 32 := Scalar.muli v3803 c1_i32_2414
  let v3830 : BitVec 32 := Scalar.addi c0_i32_2415 v3829
  v3830.toNat
def k0_dev34 (d0 : Dev nD) : Nat :=
  let c0_i32_2445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2422 : BitVec 32 := 4#32
  let v3837 : BitVec 32 := Scalar.addi v2 c4_i32_2422
  let c16_i32_2423 : BitVec 32 := 16#32
  let c0_i32_2424 : BitVec 32 := 0#32
  let v3838 : BitVec 1 := Scalar.cmpi .eq c16_i32_2423 c0_i32_2424
  let c1_i32_2425 : BitVec 32 := 1#32
  let v3839 : BitVec 32 := Scalar.select v3838 c1_i32_2425 c16_i32_2423
  let v3840 : BitVec 32 := Scalar.remsi v3837 v3839
  let c0_i32_2427 : BitVec 32 := 0#32
  let v3842 : BitVec 1 := Scalar.cmpi .slt v3840 c0_i32_2427
  let c0_i32_2428 : BitVec 32 := 0#32
  let v3843 : BitVec 1 := Scalar.cmpi .slt v3839 c0_i32_2428
  let v3844 : BitVec 1 := Scalar.xori v3842 v3843
  let c0_i32_2426 : BitVec 32 := 0#32
  let v3841 : BitVec 1 := Scalar.cmpi .ne v3840 c0_i32_2426
  let v3845 : BitVec 1 := Scalar.andi v3844 v3841
  let v3846 : BitVec 32 := Scalar.addi v3840 v3839
  let v3847 : BitVec 32 := Scalar.select v3845 v3846 v3840
  let c1_i32_2444 : BitVec 32 := 1#32
  let v3873 : BitVec 32 := Scalar.muli v3847 c1_i32_2444
  let v3874 : BitVec 32 := Scalar.addi c0_i32_2445 v3873
  v3874.toNat
def k0_dev35 (d0 : Dev nD) : Nat :=
  let c0_i32_2475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2452 : BitVec 32 := 5#32
  let v3881 : BitVec 32 := Scalar.addi v2 c5_i32_2452
  let c16_i32_2453 : BitVec 32 := 16#32
  let c0_i32_2454 : BitVec 32 := 0#32
  let v3882 : BitVec 1 := Scalar.cmpi .eq c16_i32_2453 c0_i32_2454
  let c1_i32_2455 : BitVec 32 := 1#32
  let v3883 : BitVec 32 := Scalar.select v3882 c1_i32_2455 c16_i32_2453
  let v3884 : BitVec 32 := Scalar.remsi v3881 v3883
  let c0_i32_2457 : BitVec 32 := 0#32
  let v3886 : BitVec 1 := Scalar.cmpi .slt v3884 c0_i32_2457
  let c0_i32_2458 : BitVec 32 := 0#32
  let v3887 : BitVec 1 := Scalar.cmpi .slt v3883 c0_i32_2458
  let v3888 : BitVec 1 := Scalar.xori v3886 v3887
  let c0_i32_2456 : BitVec 32 := 0#32
  let v3885 : BitVec 1 := Scalar.cmpi .ne v3884 c0_i32_2456
  let v3889 : BitVec 1 := Scalar.andi v3888 v3885
  let v3890 : BitVec 32 := Scalar.addi v3884 v3883
  let v3891 : BitVec 32 := Scalar.select v3889 v3890 v3884
  let c1_i32_2474 : BitVec 32 := 1#32
  let v3917 : BitVec 32 := Scalar.muli v3891 c1_i32_2474
  let v3918 : BitVec 32 := Scalar.addi c0_i32_2475 v3917
  v3918.toNat
def k0_dev36 (d0 : Dev nD) : Nat :=
  let c0_i32_2505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2482 : BitVec 32 := 6#32
  let v3925 : BitVec 32 := Scalar.addi v2 c6_i32_2482
  let c16_i32_2483 : BitVec 32 := 16#32
  let c0_i32_2484 : BitVec 32 := 0#32
  let v3926 : BitVec 1 := Scalar.cmpi .eq c16_i32_2483 c0_i32_2484
  let c1_i32_2485 : BitVec 32 := 1#32
  let v3927 : BitVec 32 := Scalar.select v3926 c1_i32_2485 c16_i32_2483
  let v3928 : BitVec 32 := Scalar.remsi v3925 v3927
  let c0_i32_2487 : BitVec 32 := 0#32
  let v3930 : BitVec 1 := Scalar.cmpi .slt v3928 c0_i32_2487
  let c0_i32_2488 : BitVec 32 := 0#32
  let v3931 : BitVec 1 := Scalar.cmpi .slt v3927 c0_i32_2488
  let v3932 : BitVec 1 := Scalar.xori v3930 v3931
  let c0_i32_2486 : BitVec 32 := 0#32
  let v3929 : BitVec 1 := Scalar.cmpi .ne v3928 c0_i32_2486
  let v3933 : BitVec 1 := Scalar.andi v3932 v3929
  let v3934 : BitVec 32 := Scalar.addi v3928 v3927
  let v3935 : BitVec 32 := Scalar.select v3933 v3934 v3928
  let c1_i32_2504 : BitVec 32 := 1#32
  let v3961 : BitVec 32 := Scalar.muli v3935 c1_i32_2504
  let v3962 : BitVec 32 := Scalar.addi c0_i32_2505 v3961
  v3962.toNat
def k0_dev37 (d0 : Dev nD) : Nat :=
  let c0_i32_2535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2512 : BitVec 32 := 7#32
  let v3969 : BitVec 32 := Scalar.addi v2 c7_i32_2512
  let c16_i32_2513 : BitVec 32 := 16#32
  let c0_i32_2514 : BitVec 32 := 0#32
  let v3970 : BitVec 1 := Scalar.cmpi .eq c16_i32_2513 c0_i32_2514
  let c1_i32_2515 : BitVec 32 := 1#32
  let v3971 : BitVec 32 := Scalar.select v3970 c1_i32_2515 c16_i32_2513
  let v3972 : BitVec 32 := Scalar.remsi v3969 v3971
  let c0_i32_2517 : BitVec 32 := 0#32
  let v3974 : BitVec 1 := Scalar.cmpi .slt v3972 c0_i32_2517
  let c0_i32_2518 : BitVec 32 := 0#32
  let v3975 : BitVec 1 := Scalar.cmpi .slt v3971 c0_i32_2518
  let v3976 : BitVec 1 := Scalar.xori v3974 v3975
  let c0_i32_2516 : BitVec 32 := 0#32
  let v3973 : BitVec 1 := Scalar.cmpi .ne v3972 c0_i32_2516
  let v3977 : BitVec 1 := Scalar.andi v3976 v3973
  let v3978 : BitVec 32 := Scalar.addi v3972 v3971
  let v3979 : BitVec 32 := Scalar.select v3977 v3978 v3972
  let c1_i32_2534 : BitVec 32 := 1#32
  let v4005 : BitVec 32 := Scalar.muli v3979 c1_i32_2534
  let v4006 : BitVec 32 := Scalar.addi c0_i32_2535 v4005
  v4006.toNat
def k0_dev38 (d0 : Dev nD) : Nat :=
  let c0_i32_2564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2542 : BitVec 32 := 8#32
  let v4013 : BitVec 32 := Scalar.addi v2 c8_i32_2542
  let c16_i32_2543 : BitVec 32 := 16#32
  let c0_i32_2544 : BitVec 32 := 0#32
  let v4014 : BitVec 1 := Scalar.cmpi .eq c16_i32_2543 c0_i32_2544
  let c1_i32_2545 : BitVec 32 := 1#32
  let v4015 : BitVec 32 := Scalar.select v4014 c1_i32_2545 c16_i32_2543
  let v4016 : BitVec 32 := Scalar.remsi v4013 v4015
  let c0_i32_2547 : BitVec 32 := 0#32
  let v4018 : BitVec 1 := Scalar.cmpi .slt v4016 c0_i32_2547
  let c0_i32_2548 : BitVec 32 := 0#32
  let v4019 : BitVec 1 := Scalar.cmpi .slt v4015 c0_i32_2548
  let v4020 : BitVec 1 := Scalar.xori v4018 v4019
  let c0_i32_2546 : BitVec 32 := 0#32
  let v4017 : BitVec 1 := Scalar.cmpi .ne v4016 c0_i32_2546
  let v4021 : BitVec 1 := Scalar.andi v4020 v4017
  let v4022 : BitVec 32 := Scalar.addi v4016 v4015
  let v4023 : BitVec 32 := Scalar.select v4021 v4022 v4016
  let c1_i32_2563 : BitVec 32 := 1#32
  let v4049 : BitVec 32 := Scalar.muli v4023 c1_i32_2563
  let v4050 : BitVec 32 := Scalar.addi c0_i32_2564 v4049
  v4050.toNat
def k0_dev39 (d0 : Dev nD) : Nat :=
  let c0_i32_2593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2571 : BitVec 32 := 9#32
  let v4057 : BitVec 32 := Scalar.addi v2 c9_i32_2571
  let c16_i32_2572 : BitVec 32 := 16#32
  let c0_i32_2573 : BitVec 32 := 0#32
  let v4058 : BitVec 1 := Scalar.cmpi .eq c16_i32_2572 c0_i32_2573
  let c1_i32_2574 : BitVec 32 := 1#32
  let v4059 : BitVec 32 := Scalar.select v4058 c1_i32_2574 c16_i32_2572
  let v4060 : BitVec 32 := Scalar.remsi v4057 v4059
  let c0_i32_2576 : BitVec 32 := 0#32
  let v4062 : BitVec 1 := Scalar.cmpi .slt v4060 c0_i32_2576
  let c0_i32_2577 : BitVec 32 := 0#32
  let v4063 : BitVec 1 := Scalar.cmpi .slt v4059 c0_i32_2577
  let v4064 : BitVec 1 := Scalar.xori v4062 v4063
  let c0_i32_2575 : BitVec 32 := 0#32
  let v4061 : BitVec 1 := Scalar.cmpi .ne v4060 c0_i32_2575
  let v4065 : BitVec 1 := Scalar.andi v4064 v4061
  let v4066 : BitVec 32 := Scalar.addi v4060 v4059
  let v4067 : BitVec 32 := Scalar.select v4065 v4066 v4060
  let c1_i32_2592 : BitVec 32 := 1#32
  let v4093 : BitVec 32 := Scalar.muli v4067 c1_i32_2592
  let v4094 : BitVec 32 := Scalar.addi c0_i32_2593 v4093
  v4094.toNat
def k0_dev40 (d0 : Dev nD) : Nat :=
  let c0_i32_2622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2600 : BitVec 32 := 10#32
  let v4101 : BitVec 32 := Scalar.addi v2 c10_i32_2600
  let c16_i32_2601 : BitVec 32 := 16#32
  let c0_i32_2602 : BitVec 32 := 0#32
  let v4102 : BitVec 1 := Scalar.cmpi .eq c16_i32_2601 c0_i32_2602
  let c1_i32_2603 : BitVec 32 := 1#32
  let v4103 : BitVec 32 := Scalar.select v4102 c1_i32_2603 c16_i32_2601
  let v4104 : BitVec 32 := Scalar.remsi v4101 v4103
  let c0_i32_2605 : BitVec 32 := 0#32
  let v4106 : BitVec 1 := Scalar.cmpi .slt v4104 c0_i32_2605
  let c0_i32_2606 : BitVec 32 := 0#32
  let v4107 : BitVec 1 := Scalar.cmpi .slt v4103 c0_i32_2606
  let v4108 : BitVec 1 := Scalar.xori v4106 v4107
  let c0_i32_2604 : BitVec 32 := 0#32
  let v4105 : BitVec 1 := Scalar.cmpi .ne v4104 c0_i32_2604
  let v4109 : BitVec 1 := Scalar.andi v4108 v4105
  let v4110 : BitVec 32 := Scalar.addi v4104 v4103
  let v4111 : BitVec 32 := Scalar.select v4109 v4110 v4104
  let c1_i32_2621 : BitVec 32 := 1#32
  let v4137 : BitVec 32 := Scalar.muli v4111 c1_i32_2621
  let v4138 : BitVec 32 := Scalar.addi c0_i32_2622 v4137
  v4138.toNat
def k0_dev41 (d0 : Dev nD) : Nat :=
  let c0_i32_2651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2629 : BitVec 32 := 11#32
  let v4145 : BitVec 32 := Scalar.addi v2 c11_i32_2629
  let c16_i32_2630 : BitVec 32 := 16#32
  let c0_i32_2631 : BitVec 32 := 0#32
  let v4146 : BitVec 1 := Scalar.cmpi .eq c16_i32_2630 c0_i32_2631
  let c1_i32_2632 : BitVec 32 := 1#32
  let v4147 : BitVec 32 := Scalar.select v4146 c1_i32_2632 c16_i32_2630
  let v4148 : BitVec 32 := Scalar.remsi v4145 v4147
  let c0_i32_2634 : BitVec 32 := 0#32
  let v4150 : BitVec 1 := Scalar.cmpi .slt v4148 c0_i32_2634
  let c0_i32_2635 : BitVec 32 := 0#32
  let v4151 : BitVec 1 := Scalar.cmpi .slt v4147 c0_i32_2635
  let v4152 : BitVec 1 := Scalar.xori v4150 v4151
  let c0_i32_2633 : BitVec 32 := 0#32
  let v4149 : BitVec 1 := Scalar.cmpi .ne v4148 c0_i32_2633
  let v4153 : BitVec 1 := Scalar.andi v4152 v4149
  let v4154 : BitVec 32 := Scalar.addi v4148 v4147
  let v4155 : BitVec 32 := Scalar.select v4153 v4154 v4148
  let c1_i32_2650 : BitVec 32 := 1#32
  let v4181 : BitVec 32 := Scalar.muli v4155 c1_i32_2650
  let v4182 : BitVec 32 := Scalar.addi c0_i32_2651 v4181
  v4182.toNat
def k0_dev42 (d0 : Dev nD) : Nat :=
  let c0_i32_2680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2658 : BitVec 32 := 12#32
  let v4189 : BitVec 32 := Scalar.addi v2 c12_i32_2658
  let c16_i32_2659 : BitVec 32 := 16#32
  let c0_i32_2660 : BitVec 32 := 0#32
  let v4190 : BitVec 1 := Scalar.cmpi .eq c16_i32_2659 c0_i32_2660
  let c1_i32_2661 : BitVec 32 := 1#32
  let v4191 : BitVec 32 := Scalar.select v4190 c1_i32_2661 c16_i32_2659
  let v4192 : BitVec 32 := Scalar.remsi v4189 v4191
  let c0_i32_2663 : BitVec 32 := 0#32
  let v4194 : BitVec 1 := Scalar.cmpi .slt v4192 c0_i32_2663
  let c0_i32_2664 : BitVec 32 := 0#32
  let v4195 : BitVec 1 := Scalar.cmpi .slt v4191 c0_i32_2664
  let v4196 : BitVec 1 := Scalar.xori v4194 v4195
  let c0_i32_2662 : BitVec 32 := 0#32
  let v4193 : BitVec 1 := Scalar.cmpi .ne v4192 c0_i32_2662
  let v4197 : BitVec 1 := Scalar.andi v4196 v4193
  let v4198 : BitVec 32 := Scalar.addi v4192 v4191
  let v4199 : BitVec 32 := Scalar.select v4197 v4198 v4192
  let c1_i32_2679 : BitVec 32 := 1#32
  let v4225 : BitVec 32 := Scalar.muli v4199 c1_i32_2679
  let v4226 : BitVec 32 := Scalar.addi c0_i32_2680 v4225
  v4226.toNat
def k0_dev43 (d0 : Dev nD) : Nat :=
  let c0_i32_2709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2687 : BitVec 32 := 13#32
  let v4233 : BitVec 32 := Scalar.addi v2 c13_i32_2687
  let c16_i32_2688 : BitVec 32 := 16#32
  let c0_i32_2689 : BitVec 32 := 0#32
  let v4234 : BitVec 1 := Scalar.cmpi .eq c16_i32_2688 c0_i32_2689
  let c1_i32_2690 : BitVec 32 := 1#32
  let v4235 : BitVec 32 := Scalar.select v4234 c1_i32_2690 c16_i32_2688
  let v4236 : BitVec 32 := Scalar.remsi v4233 v4235
  let c0_i32_2692 : BitVec 32 := 0#32
  let v4238 : BitVec 1 := Scalar.cmpi .slt v4236 c0_i32_2692
  let c0_i32_2693 : BitVec 32 := 0#32
  let v4239 : BitVec 1 := Scalar.cmpi .slt v4235 c0_i32_2693
  let v4240 : BitVec 1 := Scalar.xori v4238 v4239
  let c0_i32_2691 : BitVec 32 := 0#32
  let v4237 : BitVec 1 := Scalar.cmpi .ne v4236 c0_i32_2691
  let v4241 : BitVec 1 := Scalar.andi v4240 v4237
  let v4242 : BitVec 32 := Scalar.addi v4236 v4235
  let v4243 : BitVec 32 := Scalar.select v4241 v4242 v4236
  let c1_i32_2708 : BitVec 32 := 1#32
  let v4269 : BitVec 32 := Scalar.muli v4243 c1_i32_2708
  let v4270 : BitVec 32 := Scalar.addi c0_i32_2709 v4269
  v4270.toNat
def k0_dev44 (d0 : Dev nD) : Nat :=
  let c0_i32_2738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2716 : BitVec 32 := 14#32
  let v4277 : BitVec 32 := Scalar.addi v2 c14_i32_2716
  let c16_i32_2717 : BitVec 32 := 16#32
  let c0_i32_2718 : BitVec 32 := 0#32
  let v4278 : BitVec 1 := Scalar.cmpi .eq c16_i32_2717 c0_i32_2718
  let c1_i32_2719 : BitVec 32 := 1#32
  let v4279 : BitVec 32 := Scalar.select v4278 c1_i32_2719 c16_i32_2717
  let v4280 : BitVec 32 := Scalar.remsi v4277 v4279
  let c0_i32_2721 : BitVec 32 := 0#32
  let v4282 : BitVec 1 := Scalar.cmpi .slt v4280 c0_i32_2721
  let c0_i32_2722 : BitVec 32 := 0#32
  let v4283 : BitVec 1 := Scalar.cmpi .slt v4279 c0_i32_2722
  let v4284 : BitVec 1 := Scalar.xori v4282 v4283
  let c0_i32_2720 : BitVec 32 := 0#32
  let v4281 : BitVec 1 := Scalar.cmpi .ne v4280 c0_i32_2720
  let v4285 : BitVec 1 := Scalar.andi v4284 v4281
  let v4286 : BitVec 32 := Scalar.addi v4280 v4279
  let v4287 : BitVec 32 := Scalar.select v4285 v4286 v4280
  let c1_i32_2737 : BitVec 32 := 1#32
  let v4313 : BitVec 32 := Scalar.muli v4287 c1_i32_2737
  let v4314 : BitVec 32 := Scalar.addi c0_i32_2738 v4313
  v4314.toNat
def k0_dev45 (d0 : Dev nD) : Nat :=
  let c0_i32_2767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2745 : BitVec 32 := 15#32
  let v4321 : BitVec 32 := Scalar.addi v2 c15_i32_2745
  let c16_i32_2746 : BitVec 32 := 16#32
  let c0_i32_2747 : BitVec 32 := 0#32
  let v4322 : BitVec 1 := Scalar.cmpi .eq c16_i32_2746 c0_i32_2747
  let c1_i32_2748 : BitVec 32 := 1#32
  let v4323 : BitVec 32 := Scalar.select v4322 c1_i32_2748 c16_i32_2746
  let v4324 : BitVec 32 := Scalar.remsi v4321 v4323
  let c0_i32_2750 : BitVec 32 := 0#32
  let v4326 : BitVec 1 := Scalar.cmpi .slt v4324 c0_i32_2750
  let c0_i32_2751 : BitVec 32 := 0#32
  let v4327 : BitVec 1 := Scalar.cmpi .slt v4323 c0_i32_2751
  let v4328 : BitVec 1 := Scalar.xori v4326 v4327
  let c0_i32_2749 : BitVec 32 := 0#32
  let v4325 : BitVec 1 := Scalar.cmpi .ne v4324 c0_i32_2749
  let v4329 : BitVec 1 := Scalar.andi v4328 v4325
  let v4330 : BitVec 32 := Scalar.addi v4324 v4323
  let v4331 : BitVec 32 := Scalar.select v4329 v4330 v4324
  let c1_i32_2766 : BitVec 32 := 1#32
  let v4357 : BitVec 32 := Scalar.muli v4331 c1_i32_2766
  let v4358 : BitVec 32 := Scalar.addi c0_i32_2767 v4357
  v4358.toNat
def k0_cond5 (d0 : Dev nD) : BitVec 1 :=
  let c2_i32_246 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v420 : BitVec 32 := Scalar.muli c2_i32_246 v2
  let c0_i32_247 : BitVec 32 := 0#32
  let v421 : BitVec 32 := Scalar.addi v420 c0_i32_247
  let c1_i32_248 : BitVec 32 := 1#32
  let v422 : BitVec 1 := Scalar.cmpi .eq v421 c1_i32_248
  let c3_i32_249 : BitVec 32 := 3#32
  let c0_i32_250 : BitVec 32 := 0#32
  let v423 : BitVec 1 := Scalar.cmpi .eq c3_i32_249 c0_i32_250
  let c1_i32_251 : BitVec 32 := 1#32
  let v424 : BitVec 32 := Scalar.select v423 c1_i32_251 c3_i32_249
  let v425 : BitVec 32 := Scalar.remsi v421 v424
  let c0_i32_253 : BitVec 32 := 0#32
  let v427 : BitVec 1 := Scalar.cmpi .slt v425 c0_i32_253
  let c0_i32_254 : BitVec 32 := 0#32
  let v428 : BitVec 1 := Scalar.cmpi .slt v424 c0_i32_254
  let v429 : BitVec 1 := Scalar.xori v427 v428
  let c0_i32_252 : BitVec 32 := 0#32
  let v426 : BitVec 1 := Scalar.cmpi .ne v425 c0_i32_252
  let v430 : BitVec 1 := Scalar.andi v429 v426
  let v431 : BitVec 32 := Scalar.addi v425 v424
  let v432 : BitVec 32 := Scalar.select v430 v431 v425
  let c1_i32_255 : BitVec 32 := 1#32
  let v433 : BitVec 1 := Scalar.cmpi .ne v432 c1_i32_255
  let v434 : BitVec 1 := Scalar.ori v422 v433
  let v435 : BitVec 32 := Scalar.extui v434
  let c0_i32_256 : BitVec 32 := 0#32
  let v436 : BitVec 1 := Scalar.cmpi .ne v435 c0_i32_256
  v436

def k0_off11 (d0 : Dev nD) : Fin 4 → Nat :=
  let c0_i32_2345 : BitVec 32 := 0#32
  let c0_i32_2346 : BitVec 32 := 0#32
  let c2_i32_246 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v420 : BitVec 32 := Scalar.muli c2_i32_246 v2
  let c0_i32_247 : BitVec 32 := 0#32
  let v421 : BitVec 32 := Scalar.addi v420 c0_i32_247
  let c10_i32_2342 : BitVec 32 := 10#32
  let c0_i32_2341 : BitVec 32 := 0#32
  let c2_i32_2333 : BitVec 32 := 2#32
  let v3706 : BitVec 32 := Scalar.subi v421 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v421 v3725
  let c64_i32_2343 : BitVec 32 := 64#32
  let v3727 : BitVec 32 := Scalar.muli v3726 c64_i32_2343
  let c0_i32_2347 : BitVec 32 := 0#32
  ![0, 0, v3727.toNat, 0]
def k0_off12 (d0 : Dev nD) : Fin 4 → Nat :=
  let c0_i32_2348 : BitVec 32 := 0#32
  let c0_i32_2349 : BitVec 32 := 0#32
  let c0_i32_2350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v3705 : BitVec 32 := Scalar.muli v2 c256_i32
  ![0, 0, 0, v3705.toNat]
def k0_cond6 (d0 : Dev nD) : BitVec 1 :=
  let c2_i32_257 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v437 : BitVec 32 := Scalar.muli c2_i32_257 v2
  let c1_i32_258 : BitVec 32 := 1#32
  let v438 : BitVec 32 := Scalar.addi v437 c1_i32_258
  let c1_i32_259 : BitVec 32 := 1#32
  let v439 : BitVec 1 := Scalar.cmpi .eq v438 c1_i32_259
  let c3_i32_260 : BitVec 32 := 3#32
  let c0_i32_261 : BitVec 32 := 0#32
  let v440 : BitVec 1 := Scalar.cmpi .eq c3_i32_260 c0_i32_261
  let c1_i32_262 : BitVec 32 := 1#32
  let v441 : BitVec 32 := Scalar.select v440 c1_i32_262 c3_i32_260
  let v442 : BitVec 32 := Scalar.remsi v438 v441
  let c0_i32_264 : BitVec 32 := 0#32
  let v444 : BitVec 1 := Scalar.cmpi .slt v442 c0_i32_264
  let c0_i32_265 : BitVec 32 := 0#32
  let v445 : BitVec 1 := Scalar.cmpi .slt v441 c0_i32_265
  let v446 : BitVec 1 := Scalar.xori v444 v445
  let c0_i32_263 : BitVec 32 := 0#32
  let v443 : BitVec 1 := Scalar.cmpi .ne v442 c0_i32_263
  let v447 : BitVec 1 := Scalar.andi v446 v443
  let v448 : BitVec 32 := Scalar.addi v442 v441
  let v449 : BitVec 32 := Scalar.select v447 v448 v442
  let c1_i32_266 : BitVec 32 := 1#32
  let v450 : BitVec 1 := Scalar.cmpi .ne v449 c1_i32_266
  let v451 : BitVec 1 := Scalar.ori v439 v450
  let v452 : BitVec 32 := Scalar.extui v451
  let c0_i32_267 : BitVec 32 := 0#32
  let v453 : BitVec 1 := Scalar.cmpi .ne v452 c0_i32_267
  v453

def k0_off13 (d0 : Dev nD) : Fin 4 → Nat :=
  let c0_i32_2345 : BitVec 32 := 0#32
  let c0_i32_2346 : BitVec 32 := 0#32
  let c2_i32_257 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v437 : BitVec 32 := Scalar.muli c2_i32_257 v2
  let c1_i32_258 : BitVec 32 := 1#32
  let v438 : BitVec 32 := Scalar.addi v437 c1_i32_258
  let c10_i32_2342 : BitVec 32 := 10#32
  let c0_i32_2341 : BitVec 32 := 0#32
  let c2_i32_2333 : BitVec 32 := 2#32
  let v3706 : BitVec 32 := Scalar.subi v438 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v438 v3725
  let c64_i32_2343 : BitVec 32 := 64#32
  let v3727 : BitVec 32 := Scalar.muli v3726 c64_i32_2343
  let c0_i32_2347 : BitVec 32 := 0#32
  ![0, 0, v3727.toNat, 0]
def k0_off14 (d0 : Dev nD) : Fin 4 → Nat :=
  let c0_i32_2348 : BitVec 32 := 0#32
  let c0_i32_2349 : BitVec 32 := 0#32
  let c64_i32_2350 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v3705 : BitVec 32 := Scalar.muli v2 c256_i32
  ![0, 0, 64, v3705.toNat]
def k0_cond7 (d0 : Dev nD) : BitVec 1 :=
  let c2_i32_276 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_268 : BitVec 32 := 1#32
  let v454 : BitVec 32 := Scalar.subi v2 c1_i32_268
  let c16_i32_269 : BitVec 32 := 16#32
  let v455 : BitVec 32 := Scalar.addi v454 c16_i32_269
  let c16_i32_270 : BitVec 32 := 16#32
  let c0_i32_271 : BitVec 32 := 0#32
  let v456 : BitVec 1 := Scalar.cmpi .eq c16_i32_270 c0_i32_271
  let c1_i32_272 : BitVec 32 := 1#32
  let v457 : BitVec 32 := Scalar.select v456 c1_i32_272 c16_i32_270
  let v458 : BitVec 32 := Scalar.remsi v455 v457
  let c0_i32_274 : BitVec 32 := 0#32
  let v460 : BitVec 1 := Scalar.cmpi .slt v458 c0_i32_274
  let c0_i32_275 : BitVec 32 := 0#32
  let v461 : BitVec 1 := Scalar.cmpi .slt v457 c0_i32_275
  let v462 : BitVec 1 := Scalar.xori v460 v461
  let c0_i32_273 : BitVec 32 := 0#32
  let v459 : BitVec 1 := Scalar.cmpi .ne v458 c0_i32_273
  let v463 : BitVec 1 := Scalar.andi v462 v459
  let v464 : BitVec 32 := Scalar.addi v458 v457
  let v465 : BitVec 32 := Scalar.select v463 v464 v458
  let v466 : BitVec 32 := Scalar.muli c2_i32_276 v465
  let c0_i32_277 : BitVec 32 := 0#32
  let v467 : BitVec 32 := Scalar.addi v466 c0_i32_277
  let c1_i32_278 : BitVec 32 := 1#32
  let v468 : BitVec 1 := Scalar.cmpi .eq v467 c1_i32_278
  let c3_i32_279 : BitVec 32 := 3#32
  let c0_i32_280 : BitVec 32 := 0#32
  let v469 : BitVec 1 := Scalar.cmpi .eq c3_i32_279 c0_i32_280
  let c1_i32_281 : BitVec 32 := 1#32
  let v470 : BitVec 32 := Scalar.select v469 c1_i32_281 c3_i32_279
  let v471 : BitVec 32 := Scalar.remsi v467 v470
  let c0_i32_283 : BitVec 32 := 0#32
  let v473 : BitVec 1 := Scalar.cmpi .slt v471 c0_i32_283
  let c0_i32_284 : BitVec 32 := 0#32
  let v474 : BitVec 1 := Scalar.cmpi .slt v470 c0_i32_284
  let v475 : BitVec 1 := Scalar.xori v473 v474
  let c0_i32_282 : BitVec 32 := 0#32
  let v472 : BitVec 1 := Scalar.cmpi .ne v471 c0_i32_282
  let v476 : BitVec 1 := Scalar.andi v475 v472
  let v477 : BitVec 32 := Scalar.addi v471 v470
  let v478 : BitVec 32 := Scalar.select v476 v477 v471
  let c1_i32_285 : BitVec 32 := 1#32
  let v479 : BitVec 1 := Scalar.cmpi .ne v478 c1_i32_285
  let v480 : BitVec 1 := Scalar.ori v468 v479
  let v481 : BitVec 32 := Scalar.extui v480
  let c0_i32_286 : BitVec 32 := 0#32
  let v482 : BitVec 1 := Scalar.cmpi .ne v481 c0_i32_286
  v482

def k0_off15 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_268 : BitVec 32 := 1#32
  let v454 : BitVec 32 := Scalar.subi v2 c1_i32_268
  let c16_i32_269 : BitVec 32 := 16#32
  let v455 : BitVec 32 := Scalar.addi v454 c16_i32_269
  let c16_i32_270 : BitVec 32 := 16#32
  let c0_i32_271 : BitVec 32 := 0#32
  let v456 : BitVec 1 := Scalar.cmpi .eq c16_i32_270 c0_i32_271
  let c1_i32_272 : BitVec 32 := 1#32
  let v457 : BitVec 32 := Scalar.select v456 c1_i32_272 c16_i32_270
  let v458 : BitVec 32 := Scalar.remsi v455 v457
  let c0_i32_274 : BitVec 32 := 0#32
  let v460 : BitVec 1 := Scalar.cmpi .slt v458 c0_i32_274
  let c0_i32_275 : BitVec 32 := 0#32
  let v461 : BitVec 1 := Scalar.cmpi .slt v457 c0_i32_275
  let v462 : BitVec 1 := Scalar.xori v460 v461
  let c0_i32_273 : BitVec 32 := 0#32
  let v459 : BitVec 1 := Scalar.cmpi .ne v458 c0_i32_273
  let v463 : BitVec 1 := Scalar.andi v462 v459
  let v464 : BitVec 32 := Scalar.addi v458 v457
  let v465 : BitVec 32 := Scalar.select v463 v464 v458
  let v3728 : BitVec 32 := Scalar.muli c2_i32_2344 v465
  let c0_i32_2345 : BitVec 32 := 0#32
  let v3729 : BitVec 32 := Scalar.addi v3728 c0_i32_2345
  ![v3729.toNat]
def k0_off16 (d0 : Dev nD) : Fin 4 → Nat :=
  let c0_i32_2349 : BitVec 32 := 0#32
  let c0_i32_2350 : BitVec 32 := 0#32
  let c2_i32_276 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_268 : BitVec 32 := 1#32
  let v454 : BitVec 32 := Scalar.subi v2 c1_i32_268
  let c16_i32_269 : BitVec 32 := 16#32
  let v455 : BitVec 32 := Scalar.addi v454 c16_i32_269
  let c16_i32_270 : BitVec 32 := 16#32
  let c0_i32_271 : BitVec 32 := 0#32
  let v456 : BitVec 1 := Scalar.cmpi .eq c16_i32_270 c0_i32_271
  let c1_i32_272 : BitVec 32 := 1#32
  let v457 : BitVec 32 := Scalar.select v456 c1_i32_272 c16_i32_270
  let v458 : BitVec 32 := Scalar.remsi v455 v457
  let c0_i32_274 : BitVec 32 := 0#32
  let v460 : BitVec 1 := Scalar.cmpi .slt v458 c0_i32_274
  let c0_i32_275 : BitVec 32 := 0#32
  let v461 : BitVec 1 := Scalar.cmpi .slt v457 c0_i32_275
  let v462 : BitVec 1 := Scalar.xori v460 v461
  let c0_i32_273 : BitVec 32 := 0#32
  let v459 : BitVec 1 := Scalar.cmpi .ne v458 c0_i32_273
  let v463 : BitVec 1 := Scalar.andi v462 v459
  let v464 : BitVec 32 := Scalar.addi v458 v457
  let v465 : BitVec 32 := Scalar.select v463 v464 v458
  let v466 : BitVec 32 := Scalar.muli c2_i32_276 v465
  let c0_i32_277 : BitVec 32 := 0#32
  let v467 : BitVec 32 := Scalar.addi v466 c0_i32_277
  let c10_i32_2342 : BitVec 32 := 10#32
  let c0_i32_2341 : BitVec 32 := 0#32
  let c2_i32_2333 : BitVec 32 := 2#32
  let v3706 : BitVec 32 := Scalar.subi v467 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v467 v3725
  let c64_i32_2343 : BitVec 32 := 64#32
  let v3727 : BitVec 32 := Scalar.muli v3726 c64_i32_2343
  let c0_i32_2351 : BitVec 32 := 0#32
  ![0, 0, v3727.toNat, 0]
def k0_off17 (d0 : Dev nD) : Fin 4 → Nat :=
  let c0_i32_2352 : BitVec 32 := 0#32
  let c0_i32_2353 : BitVec 32 := 0#32
  let c0_i32_2354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_268 : BitVec 32 := 1#32
  let v454 : BitVec 32 := Scalar.subi v2 c1_i32_268
  let c16_i32_269 : BitVec 32 := 16#32
  let v455 : BitVec 32 := Scalar.addi v454 c16_i32_269
  let c16_i32_270 : BitVec 32 := 16#32
  let c0_i32_271 : BitVec 32 := 0#32
  let v456 : BitVec 1 := Scalar.cmpi .eq c16_i32_270 c0_i32_271
  let c1_i32_272 : BitVec 32 := 1#32
  let v457 : BitVec 32 := Scalar.select v456 c1_i32_272 c16_i32_270
  let v458 : BitVec 32 := Scalar.remsi v455 v457
  let c0_i32_274 : BitVec 32 := 0#32
  let v460 : BitVec 1 := Scalar.cmpi .slt v458 c0_i32_274
  let c0_i32_275 : BitVec 32 := 0#32
  let v461 : BitVec 1 := Scalar.cmpi .slt v457 c0_i32_275
  let v462 : BitVec 1 := Scalar.xori v460 v461
  let c0_i32_273 : BitVec 32 := 0#32
  let v459 : BitVec 1 := Scalar.cmpi .ne v458 c0_i32_273
  let v463 : BitVec 1 := Scalar.andi v462 v459
  let v464 : BitVec 32 := Scalar.addi v458 v457
  let v465 : BitVec 32 := Scalar.select v463 v464 v458
  let c256_i32 : BitVec 32 := 256#32
  let v3705 : BitVec 32 := Scalar.muli v465 c256_i32
  ![0, 0, 0, v3705.toNat]
def k0_cond8 (d0 : Dev nD) : BitVec 1 :=
  let c2_i32_287 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_268 : BitVec 32 := 1#32
  let v454 : BitVec 32 := Scalar.subi v2 c1_i32_268
  let c16_i32_269 : BitVec 32 := 16#32
  let v455 : BitVec 32 := Scalar.addi v454 c16_i32_269
  let c16_i32_270 : BitVec 32 := 16#32
  let c0_i32_271 : BitVec 32 := 0#32
  let v456 : BitVec 1 := Scalar.cmpi .eq c16_i32_270 c0_i32_271
  let c1_i32_272 : BitVec 32 := 1#32
  let v457 : BitVec 32 := Scalar.select v456 c1_i32_272 c16_i32_270
  let v458 : BitVec 32 := Scalar.remsi v455 v457
  let c0_i32_274 : BitVec 32 := 0#32
  let v460 : BitVec 1 := Scalar.cmpi .slt v458 c0_i32_274
  let c0_i32_275 : BitVec 32 := 0#32
  let v461 : BitVec 1 := Scalar.cmpi .slt v457 c0_i32_275
  let v462 : BitVec 1 := Scalar.xori v460 v461
  let c0_i32_273 : BitVec 32 := 0#32
  let v459 : BitVec 1 := Scalar.cmpi .ne v458 c0_i32_273
  let v463 : BitVec 1 := Scalar.andi v462 v459
  let v464 : BitVec 32 := Scalar.addi v458 v457
  let v465 : BitVec 32 := Scalar.select v463 v464 v458
  let v483 : BitVec 32 := Scalar.muli c2_i32_287 v465
  let c1_i32_288 : BitVec 32 := 1#32
  let v484 : BitVec 32 := Scalar.addi v483 c1_i32_288
  let c1_i32_289 : BitVec 32 := 1#32
  let v485 : BitVec 1 := Scalar.cmpi .eq v484 c1_i32_289
  let c3_i32_290 : BitVec 32 := 3#32
  let c0_i32_291 : BitVec 32 := 0#32
  let v486 : BitVec 1 := Scalar.cmpi .eq c3_i32_290 c0_i32_291
  let c1_i32_292 : BitVec 32 := 1#32
  let v487 : BitVec 32 := Scalar.select v486 c1_i32_292 c3_i32_290
  let v488 : BitVec 32 := Scalar.remsi v484 v487
  let c0_i32_294 : BitVec 32 := 0#32
  let v490 : BitVec 1 := Scalar.cmpi .slt v488 c0_i32_294
  let c0_i32_295 : BitVec 32 := 0#32
  let v491 : BitVec 1 := Scalar.cmpi .slt v487 c0_i32_295
  let v492 : BitVec 1 := Scalar.xori v490 v491
  let c0_i32_293 : BitVec 32 := 0#32
  let v489 : BitVec 1 := Scalar.cmpi .ne v488 c0_i32_293
  let v493 : BitVec 1 := Scalar.andi v492 v489
  let v494 : BitVec 32 := Scalar.addi v488 v487
  let v495 : BitVec 32 := Scalar.select v493 v494 v488
  let c1_i32_296 : BitVec 32 := 1#32
  let v496 : BitVec 1 := Scalar.cmpi .ne v495 c1_i32_296
  let v497 : BitVec 1 := Scalar.ori v485 v496
  let v498 : BitVec 32 := Scalar.extui v497
  let c0_i32_297 : BitVec 32 := 0#32
  let v499 : BitVec 1 := Scalar.cmpi .ne v498 c0_i32_297
  v499

def k0_off18 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_268 : BitVec 32 := 1#32
  let v454 : BitVec 32 := Scalar.subi v2 c1_i32_268
  let c16_i32_269 : BitVec 32 := 16#32
  let v455 : BitVec 32 := Scalar.addi v454 c16_i32_269
  let c16_i32_270 : BitVec 32 := 16#32
  let c0_i32_271 : BitVec 32 := 0#32
  let v456 : BitVec 1 := Scalar.cmpi .eq c16_i32_270 c0_i32_271
  let c1_i32_272 : BitVec 32 := 1#32
  let v457 : BitVec 32 := Scalar.select v456 c1_i32_272 c16_i32_270
  let v458 : BitVec 32 := Scalar.remsi v455 v457
  let c0_i32_274 : BitVec 32 := 0#32
  let v460 : BitVec 1 := Scalar.cmpi .slt v458 c0_i32_274
  let c0_i32_275 : BitVec 32 := 0#32
  let v461 : BitVec 1 := Scalar.cmpi .slt v457 c0_i32_275
  let v462 : BitVec 1 := Scalar.xori v460 v461
  let c0_i32_273 : BitVec 32 := 0#32
  let v459 : BitVec 1 := Scalar.cmpi .ne v458 c0_i32_273
  let v463 : BitVec 1 := Scalar.andi v462 v459
  let v464 : BitVec 32 := Scalar.addi v458 v457
  let v465 : BitVec 32 := Scalar.select v463 v464 v458
  let v3728 : BitVec 32 := Scalar.muli c2_i32_2344 v465
  let c1_i32_2345 : BitVec 32 := 1#32
  let v3729 : BitVec 32 := Scalar.addi v3728 c1_i32_2345
  ![v3729.toNat]
def k0_off19 (d0 : Dev nD) : Fin 4 → Nat :=
  let c0_i32_2349 : BitVec 32 := 0#32
  let c0_i32_2350 : BitVec 32 := 0#32
  let c2_i32_287 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_268 : BitVec 32 := 1#32
  let v454 : BitVec 32 := Scalar.subi v2 c1_i32_268
  let c16_i32_269 : BitVec 32 := 16#32
  let v455 : BitVec 32 := Scalar.addi v454 c16_i32_269
  let c16_i32_270 : BitVec 32 := 16#32
  let c0_i32_271 : BitVec 32 := 0#32
  let v456 : BitVec 1 := Scalar.cmpi .eq c16_i32_270 c0_i32_271
  let c1_i32_272 : BitVec 32 := 1#32
  let v457 : BitVec 32 := Scalar.select v456 c1_i32_272 c16_i32_270
  let v458 : BitVec 32 := Scalar.remsi v455 v457
  let c0_i32_274 : BitVec 32 := 0#32
  let v460 : BitVec 1 := Scalar.cmpi .slt v458 c0_i32_274
  let c0_i32_275 : BitVec 32 := 0#32
  let v461 : BitVec 1 := Scalar.cmpi .slt v457 c0_i32_275
  let v462 : BitVec 1 := Scalar.xori v460 v461
  let c0_i32_273 : BitVec 32 := 0#32
  let v459 : BitVec 1 := Scalar.cmpi .ne v458 c0_i32_273
  let v463 : BitVec 1 := Scalar.andi v462 v459
  let v464 : BitVec 32 := Scalar.addi v458 v457
  let v465 : BitVec 32 := Scalar.select v463 v464 v458
  let v483 : BitVec 32 := Scalar.muli c2_i32_287 v465
  let c1_i32_288 : BitVec 32 := 1#32
  let v484 : BitVec 32 := Scalar.addi v483 c1_i32_288
  let c10_i32_2342 : BitVec 32 := 10#32
  let c0_i32_2341 : BitVec 32 := 0#32
  let c2_i32_2333 : BitVec 32 := 2#32
  let v3706 : BitVec 32 := Scalar.subi v484 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v484 v3725
  let c64_i32_2343 : BitVec 32 := 64#32
  let v3727 : BitVec 32 := Scalar.muli v3726 c64_i32_2343
  let c0_i32_2351 : BitVec 32 := 0#32
  ![0, 0, v3727.toNat, 0]
def k0_off20 (d0 : Dev nD) : Fin 4 → Nat :=
  let c0_i32_2352 : BitVec 32 := 0#32
  let c0_i32_2353 : BitVec 32 := 0#32
  let c64_i32_2354 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_268 : BitVec 32 := 1#32
  let v454 : BitVec 32 := Scalar.subi v2 c1_i32_268
  let c16_i32_269 : BitVec 32 := 16#32
  let v455 : BitVec 32 := Scalar.addi v454 c16_i32_269
  let c16_i32_270 : BitVec 32 := 16#32
  let c0_i32_271 : BitVec 32 := 0#32
  let v456 : BitVec 1 := Scalar.cmpi .eq c16_i32_270 c0_i32_271
  let c1_i32_272 : BitVec 32 := 1#32
  let v457 : BitVec 32 := Scalar.select v456 c1_i32_272 c16_i32_270
  let v458 : BitVec 32 := Scalar.remsi v455 v457
  let c0_i32_274 : BitVec 32 := 0#32
  let v460 : BitVec 1 := Scalar.cmpi .slt v458 c0_i32_274
  let c0_i32_275 : BitVec 32 := 0#32
  let v461 : BitVec 1 := Scalar.cmpi .slt v457 c0_i32_275
  let v462 : BitVec 1 := Scalar.xori v460 v461
  let c0_i32_273 : BitVec 32 := 0#32
  let v459 : BitVec 1 := Scalar.cmpi .ne v458 c0_i32_273
  let v463 : BitVec 1 := Scalar.andi v462 v459
  let v464 : BitVec 32 := Scalar.addi v458 v457
  let v465 : BitVec 32 := Scalar.select v463 v464 v458
  let c256_i32 : BitVec 32 := 256#32
  let v3705 : BitVec 32 := Scalar.muli v465 c256_i32
  ![0, 0, 64, v3705.toNat]
def k0_cond9 (d0 : Dev nD) : BitVec 1 :=
  let c2_i32_306 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v500 : BitVec 32 := Scalar.subi v2 c2_i32_298
  let c16_i32_299 : BitVec 32 := 16#32
  let v501 : BitVec 32 := Scalar.addi v500 c16_i32_299
  let c16_i32_300 : BitVec 32 := 16#32
  let c0_i32_301 : BitVec 32 := 0#32
  let v502 : BitVec 1 := Scalar.cmpi .eq c16_i32_300 c0_i32_301
  let c1_i32_302 : BitVec 32 := 1#32
  let v503 : BitVec 32 := Scalar.select v502 c1_i32_302 c16_i32_300
  let v504 : BitVec 32 := Scalar.remsi v501 v503
  let c0_i32_304 : BitVec 32 := 0#32
  let v506 : BitVec 1 := Scalar.cmpi .slt v504 c0_i32_304
  let c0_i32_305 : BitVec 32 := 0#32
  let v507 : BitVec 1 := Scalar.cmpi .slt v503 c0_i32_305
  let v508 : BitVec 1 := Scalar.xori v506 v507
  let c0_i32_303 : BitVec 32 := 0#32
  let v505 : BitVec 1 := Scalar.cmpi .ne v504 c0_i32_303
  let v509 : BitVec 1 := Scalar.andi v508 v505
  let v510 : BitVec 32 := Scalar.addi v504 v503
  let v511 : BitVec 32 := Scalar.select v509 v510 v504
  let v512 : BitVec 32 := Scalar.muli c2_i32_306 v511
  let c0_i32_307 : BitVec 32 := 0#32
  let v513 : BitVec 32 := Scalar.addi v512 c0_i32_307
  let c1_i32_308 : BitVec 32 := 1#32
  let v514 : BitVec 1 := Scalar.cmpi .eq v513 c1_i32_308
  let c3_i32_309 : BitVec 32 := 3#32
  let c0_i32_310 : BitVec 32 := 0#32
  let v515 : BitVec 1 := Scalar.cmpi .eq c3_i32_309 c0_i32_310
  let c1_i32_311 : BitVec 32 := 1#32
  let v516 : BitVec 32 := Scalar.select v515 c1_i32_311 c3_i32_309
  let v517 : BitVec 32 := Scalar.remsi v513 v516
  let c0_i32_313 : BitVec 32 := 0#32
  let v519 : BitVec 1 := Scalar.cmpi .slt v517 c0_i32_313
  let c0_i32_314 : BitVec 32 := 0#32
  let v520 : BitVec 1 := Scalar.cmpi .slt v516 c0_i32_314
  let v521 : BitVec 1 := Scalar.xori v519 v520
  let c0_i32_312 : BitVec 32 := 0#32
  let v518 : BitVec 1 := Scalar.cmpi .ne v517 c0_i32_312
  let v522 : BitVec 1 := Scalar.andi v521 v518
  let v523 : BitVec 32 := Scalar.addi v517 v516
  let v524 : BitVec 32 := Scalar.select v522 v523 v517
  let c1_i32_315 : BitVec 32 := 1#32
  let v525 : BitVec 1 := Scalar.cmpi .ne v524 c1_i32_315
  let v526 : BitVec 1 := Scalar.ori v514 v525
  let v527 : BitVec 32 := Scalar.extui v526
  let c0_i32_316 : BitVec 32 := 0#32
  let v528 : BitVec 1 := Scalar.cmpi .ne v527 c0_i32_316
  v528

def k0_off21 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v500 : BitVec 32 := Scalar.subi v2 c2_i32_298
  let c16_i32_299 : BitVec 32 := 16#32
  let v501 : BitVec 32 := Scalar.addi v500 c16_i32_299
  let c16_i32_300 : BitVec 32 := 16#32
  let c0_i32_301 : BitVec 32 := 0#32
  let v502 : BitVec 1 := Scalar.cmpi .eq c16_i32_300 c0_i32_301
  let c1_i32_302 : BitVec 32 := 1#32
  let v503 : BitVec 32 := Scalar.select v502 c1_i32_302 c16_i32_300
  let v504 : BitVec 32 := Scalar.remsi v501 v503
  let c0_i32_304 : BitVec 32 := 0#32
  let v506 : BitVec 1 := Scalar.cmpi .slt v504 c0_i32_304
  let c0_i32_305 : BitVec 32 := 0#32
  let v507 : BitVec 1 := Scalar.cmpi .slt v503 c0_i32_305
  let v508 : BitVec 1 := Scalar.xori v506 v507
  let c0_i32_303 : BitVec 32 := 0#32
  let v505 : BitVec 1 := Scalar.cmpi .ne v504 c0_i32_303
  let v509 : BitVec 1 := Scalar.andi v508 v505
  let v510 : BitVec 32 := Scalar.addi v504 v503
  let v511 : BitVec 32 := Scalar.select v509 v510 v504
  let v3728 : BitVec 32 := Scalar.muli c2_i32_2344 v511
  let c0_i32_2345 : BitVec 32 := 0#32
  let v3729 : BitVec 32 := Scalar.addi v3728 c0_i32_2345
  ![v3729.toNat]
def k0_off22 (d0 : Dev nD) : Fin 4 → Nat :=
  let c0_i32_2349 : BitVec 32 := 0#32
  let c0_i32_2350 : BitVec 32 := 0#32
  let c2_i32_306 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v500 : BitVec 32 := Scalar.subi v2 c2_i32_298
  let c16_i32_299 : BitVec 32 := 16#32
  let v501 : BitVec 32 := Scalar.addi v500 c16_i32_299
  let c16_i32_300 : BitVec 32 := 16#32
  let c0_i32_301 : BitVec 32 := 0#32
  let v502 : BitVec 1 := Scalar.cmpi .eq c16_i32_300 c0_i32_301
  let c1_i32_302 : BitVec 32 := 1#32
  let v503 : BitVec 32 := Scalar.select v502 c1_i32_302 c16_i32_300
  let v504 : BitVec 32 := Scalar.remsi v501 v503
  let c0_i32_304 : BitVec 32 := 0#32
  let v506 : BitVec 1 := Scalar.cmpi .slt v504 c0_i32_304
  let c0_i32_305 : BitVec 32 := 0#32
  let v507 : BitVec 1 := Scalar.cmpi .slt v503 c0_i32_305
  let v508 : BitVec 1 := Scalar.xori v506 v507
  let c0_i32_303 : BitVec 32 := 0#32
  let v505 : BitVec 1 := Scalar.cmpi .ne v504 c0_i32_303
  let v509 : BitVec 1 := Scalar.andi v508 v505
  let v510 : BitVec 32 := Scalar.addi v504 v503
  let v511 : BitVec 32 := Scalar.select v509 v510 v504
  let v512 : BitVec 32 := Scalar.muli c2_i32_306 v511
  let c0_i32_307 : BitVec 32 := 0#32
  let v513 : BitVec 32 := Scalar.addi v512 c0_i32_307
  let c10_i32_2342 : BitVec 32 := 10#32
  let c0_i32_2341 : BitVec 32 := 0#32
  let c2_i32_2333 : BitVec 32 := 2#32
  let v3706 : BitVec 32 := Scalar.subi v513 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v513 v3725
  let c64_i32_2343 : BitVec 32 := 64#32
  let v3727 : BitVec 32 := Scalar.muli v3726 c64_i32_2343
  let c0_i32_2351 : BitVec 32 := 0#32
  ![0, 0, v3727.toNat, 0]
def k0_off23 (d0 : Dev nD) : Fin 4 → Nat :=
  let c0_i32_2352 : BitVec 32 := 0#32
  let c0_i32_2353 : BitVec 32 := 0#32
  let c0_i32_2354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v500 : BitVec 32 := Scalar.subi v2 c2_i32_298
  let c16_i32_299 : BitVec 32 := 16#32
  let v501 : BitVec 32 := Scalar.addi v500 c16_i32_299
  let c16_i32_300 : BitVec 32 := 16#32
  let c0_i32_301 : BitVec 32 := 0#32
  let v502 : BitVec 1 := Scalar.cmpi .eq c16_i32_300 c0_i32_301
  let c1_i32_302 : BitVec 32 := 1#32
  let v503 : BitVec 32 := Scalar.select v502 c1_i32_302 c16_i32_300
  let v504 : BitVec 32 := Scalar.remsi v501 v503
  let c0_i32_304 : BitVec 32 := 0#32
  let v506 : BitVec 1 := Scalar.cmpi .slt v504 c0_i32_304
  let c0_i32_305 : BitVec 32 := 0#32
  let v507 : BitVec 1 := Scalar.cmpi .slt v503 c0_i32_305
  let v508 : BitVec 1 := Scalar.xori v506 v507
  let c0_i32_303 : BitVec 32 := 0#32
  let v505 : BitVec 1 := Scalar.cmpi .ne v504 c0_i32_303
  let v509 : BitVec 1 := Scalar.andi v508 v505
  let v510 : BitVec 32 := Scalar.addi v504 v503
  let v511 : BitVec 32 := Scalar.select v509 v510 v504
  let c256_i32 : BitVec 32 := 256#32
  let v3705 : BitVec 32 := Scalar.muli v511 c256_i32
  ![0, 0, 0, v3705.toNat]
def k0_cond10 (d0 : Dev nD) : BitVec 1 :=
  let c2_i32_317 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v500 : BitVec 32 := Scalar.subi v2 c2_i32_298
  let c16_i32_299 : BitVec 32 := 16#32
  let v501 : BitVec 32 := Scalar.addi v500 c16_i32_299
  let c16_i32_300 : BitVec 32 := 16#32
  let c0_i32_301 : BitVec 32 := 0#32
  let v502 : BitVec 1 := Scalar.cmpi .eq c16_i32_300 c0_i32_301
  let c1_i32_302 : BitVec 32 := 1#32
  let v503 : BitVec 32 := Scalar.select v502 c1_i32_302 c16_i32_300
  let v504 : BitVec 32 := Scalar.remsi v501 v503
  let c0_i32_304 : BitVec 32 := 0#32
  let v506 : BitVec 1 := Scalar.cmpi .slt v504 c0_i32_304
  let c0_i32_305 : BitVec 32 := 0#32
  let v507 : BitVec 1 := Scalar.cmpi .slt v503 c0_i32_305
  let v508 : BitVec 1 := Scalar.xori v506 v507
  let c0_i32_303 : BitVec 32 := 0#32
  let v505 : BitVec 1 := Scalar.cmpi .ne v504 c0_i32_303
  let v509 : BitVec 1 := Scalar.andi v508 v505
  let v510 : BitVec 32 := Scalar.addi v504 v503
  let v511 : BitVec 32 := Scalar.select v509 v510 v504
  let v529 : BitVec 32 := Scalar.muli c2_i32_317 v511
  let c1_i32_318 : BitVec 32 := 1#32
  let v530 : BitVec 32 := Scalar.addi v529 c1_i32_318
  let c1_i32_319 : BitVec 32 := 1#32
  let v531 : BitVec 1 := Scalar.cmpi .eq v530 c1_i32_319
  let c3_i32_320 : BitVec 32 := 3#32
  let c0_i32_321 : BitVec 32 := 0#32
  let v532 : BitVec 1 := Scalar.cmpi .eq c3_i32_320 c0_i32_321
  let c1_i32_322 : BitVec 32 := 1#32
  let v533 : BitVec 32 := Scalar.select v532 c1_i32_322 c3_i32_320
  let v534 : BitVec 32 := Scalar.remsi v530 v533
  let c0_i32_324 : BitVec 32 := 0#32
  let v536 : BitVec 1 := Scalar.cmpi .slt v534 c0_i32_324
  let c0_i32_325 : BitVec 32 := 0#32
  let v537 : BitVec 1 := Scalar.cmpi .slt v533 c0_i32_325
  let v538 : BitVec 1 := Scalar.xori v536 v537
  let c0_i32_323 : BitVec 32 := 0#32
  let v535 : BitVec 1 := Scalar.cmpi .ne v534 c0_i32_323
  let v539 : BitVec 1 := Scalar.andi v538 v535
  let v540 : BitVec 32 := Scalar.addi v534 v533
  let v541 : BitVec 32 := Scalar.select v539 v540 v534
  let c1_i32_326 : BitVec 32 := 1#32
  let v542 : BitVec 1 := Scalar.cmpi .ne v541 c1_i32_326
  let v543 : BitVec 1 := Scalar.ori v531 v542
  let v544 : BitVec 32 := Scalar.extui v543
  let c0_i32_327 : BitVec 32 := 0#32
  let v545 : BitVec 1 := Scalar.cmpi .ne v544 c0_i32_327
  v545

def k0_off24 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v500 : BitVec 32 := Scalar.subi v2 c2_i32_298
  let c16_i32_299 : BitVec 32 := 16#32
  let v501 : BitVec 32 := Scalar.addi v500 c16_i32_299
  let c16_i32_300 : BitVec 32 := 16#32
  let c0_i32_301 : BitVec 32 := 0#32
  let v502 : BitVec 1 := Scalar.cmpi .eq c16_i32_300 c0_i32_301
  let c1_i32_302 : BitVec 32 := 1#32
  let v503 : BitVec 32 := Scalar.select v502 c1_i32_302 c16_i32_300
  let v504 : BitVec 32 := Scalar.remsi v501 v503
  let c0_i32_304 : BitVec 32 := 0#32
  let v506 : BitVec 1 := Scalar.cmpi .slt v504 c0_i32_304
  let c0_i32_305 : BitVec 32 := 0#32
  let v507 : BitVec 1 := Scalar.cmpi .slt v503 c0_i32_305
  let v508 : BitVec 1 := Scalar.xori v506 v507
  let c0_i32_303 : BitVec 32 := 0#32
  let v505 : BitVec 1 := Scalar.cmpi .ne v504 c0_i32_303
  let v509 : BitVec 1 := Scalar.andi v508 v505
  let v510 : BitVec 32 := Scalar.addi v504 v503
  let v511 : BitVec 32 := Scalar.select v509 v510 v504
  let v3728 : BitVec 32 := Scalar.muli c2_i32_2344 v511
  let c1_i32_2345 : BitVec 32 := 1#32
  let v3729 : BitVec 32 := Scalar.addi v3728 c1_i32_2345
  ![v3729.toNat]
def k0_off25 (d0 : Dev nD) : Fin 4 → Nat :=
  let c0_i32_2349 : BitVec 32 := 0#32
  let c0_i32_2350 : BitVec 32 := 0#32
  let c2_i32_317 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v500 : BitVec 32 := Scalar.subi v2 c2_i32_298
  let c16_i32_299 : BitVec 32 := 16#32
  let v501 : BitVec 32 := Scalar.addi v500 c16_i32_299
  let c16_i32_300 : BitVec 32 := 16#32
  let c0_i32_301 : BitVec 32 := 0#32
  let v502 : BitVec 1 := Scalar.cmpi .eq c16_i32_300 c0_i32_301
  let c1_i32_302 : BitVec 32 := 1#32
  let v503 : BitVec 32 := Scalar.select v502 c1_i32_302 c16_i32_300
  let v504 : BitVec 32 := Scalar.remsi v501 v503
  let c0_i32_304 : BitVec 32 := 0#32
  let v506 : BitVec 1 := Scalar.cmpi .slt v504 c0_i32_304
  let c0_i32_305 : BitVec 32 := 0#32
  let v507 : BitVec 1 := Scalar.cmpi .slt v503 c0_i32_305
  let v508 : BitVec 1 := Scalar.xori v506 v507
  let c0_i32_303 : BitVec 32 := 0#32
  let v505 : BitVec 1 := Scalar.cmpi .ne v504 c0_i32_303
  let v509 : BitVec 1 := Scalar.andi v508 v505
  let v510 : BitVec 32 := Scalar.addi v504 v503
  let v511 : BitVec 32 := Scalar.select v509 v510 v504
  let v529 : BitVec 32 := Scalar.muli c2_i32_317 v511
  let c1_i32_318 : BitVec 32 := 1#32
  let v530 : BitVec 32 := Scalar.addi v529 c1_i32_318
  let c10_i32_2342 : BitVec 32 := 10#32
  let c0_i32_2341 : BitVec 32 := 0#32
  let c2_i32_2333 : BitVec 32 := 2#32
  let v3706 : BitVec 32 := Scalar.subi v530 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v530 v3725
  let c64_i32_2343 : BitVec 32 := 64#32
  let v3727 : BitVec 32 := Scalar.muli v3726 c64_i32_2343
  let c0_i32_2351 : BitVec 32 := 0#32
  ![0, 0, v3727.toNat, 0]
def k0_off26 (d0 : Dev nD) : Fin 4 → Nat :=
  let c0_i32_2352 : BitVec 32 := 0#32
  let c0_i32_2353 : BitVec 32 := 0#32
  let c64_i32_2354 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v500 : BitVec 32 := Scalar.subi v2 c2_i32_298
  let c16_i32_299 : BitVec 32 := 16#32
  let v501 : BitVec 32 := Scalar.addi v500 c16_i32_299
  let c16_i32_300 : BitVec 32 := 16#32
  let c0_i32_301 : BitVec 32 := 0#32
  let v502 : BitVec 1 := Scalar.cmpi .eq c16_i32_300 c0_i32_301
  let c1_i32_302 : BitVec 32 := 1#32
  let v503 : BitVec 32 := Scalar.select v502 c1_i32_302 c16_i32_300
  let v504 : BitVec 32 := Scalar.remsi v501 v503
  let c0_i32_304 : BitVec 32 := 0#32
  let v506 : BitVec 1 := Scalar.cmpi .slt v504 c0_i32_304
  let c0_i32_305 : BitVec 32 := 0#32
  let v507 : BitVec 1 := Scalar.cmpi .slt v503 c0_i32_305
  let v508 : BitVec 1 := Scalar.xori v506 v507
  let c0_i32_303 : BitVec 32 := 0#32
  let v505 : BitVec 1 := Scalar.cmpi .ne v504 c0_i32_303
  let v509 : BitVec 1 := Scalar.andi v508 v505
  let v510 : BitVec 32 := Scalar.addi v504 v503
  let v511 : BitVec 32 := Scalar.select v509 v510 v504
  let c256_i32 : BitVec 32 := 256#32
  let v3705 : BitVec 32 := Scalar.muli v511 c256_i32
  ![0, 0, 64, v3705.toNat]
def k0_cond11 (d0 : Dev nD) : BitVec 1 :=
  let c2_i32_336 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_328 : BitVec 32 := 3#32
  let v546 : BitVec 32 := Scalar.subi v2 c3_i32_328
  let c16_i32_329 : BitVec 32 := 16#32
  let v547 : BitVec 32 := Scalar.addi v546 c16_i32_329
  let c16_i32_330 : BitVec 32 := 16#32
  let c0_i32_331 : BitVec 32 := 0#32
  let v548 : BitVec 1 := Scalar.cmpi .eq c16_i32_330 c0_i32_331
  let c1_i32_332 : BitVec 32 := 1#32
  let v549 : BitVec 32 := Scalar.select v548 c1_i32_332 c16_i32_330
  let v550 : BitVec 32 := Scalar.remsi v547 v549
  let c0_i32_334 : BitVec 32 := 0#32
  let v552 : BitVec 1 := Scalar.cmpi .slt v550 c0_i32_334
  let c0_i32_335 : BitVec 32 := 0#32
  let v553 : BitVec 1 := Scalar.cmpi .slt v549 c0_i32_335
  let v554 : BitVec 1 := Scalar.xori v552 v553
  let c0_i32_333 : BitVec 32 := 0#32
  let v551 : BitVec 1 := Scalar.cmpi .ne v550 c0_i32_333
  let v555 : BitVec 1 := Scalar.andi v554 v551
  let v556 : BitVec 32 := Scalar.addi v550 v549
  let v557 : BitVec 32 := Scalar.select v555 v556 v550
  let v558 : BitVec 32 := Scalar.muli c2_i32_336 v557
  let c0_i32_337 : BitVec 32 := 0#32
  let v559 : BitVec 32 := Scalar.addi v558 c0_i32_337
  let c1_i32_338 : BitVec 32 := 1#32
  let v560 : BitVec 1 := Scalar.cmpi .eq v559 c1_i32_338
  let c3_i32_339 : BitVec 32 := 3#32
  let c0_i32_340 : BitVec 32 := 0#32
  let v561 : BitVec 1 := Scalar.cmpi .eq c3_i32_339 c0_i32_340
  let c1_i32_341 : BitVec 32 := 1#32
  let v562 : BitVec 32 := Scalar.select v561 c1_i32_341 c3_i32_339
  let v563 : BitVec 32 := Scalar.remsi v559 v562
  let c0_i32_343 : BitVec 32 := 0#32
  let v565 : BitVec 1 := Scalar.cmpi .slt v563 c0_i32_343
  let c0_i32_344 : BitVec 32 := 0#32
  let v566 : BitVec 1 := Scalar.cmpi .slt v562 c0_i32_344
  let v567 : BitVec 1 := Scalar.xori v565 v566
  let c0_i32_342 : BitVec 32 := 0#32
  let v564 : BitVec 1 := Scalar.cmpi .ne v563 c0_i32_342
  let v568 : BitVec 1 := Scalar.andi v567 v564
  let v569 : BitVec 32 := Scalar.addi v563 v562
  let v570 : BitVec 32 := Scalar.select v568 v569 v563
  let c1_i32_345 : BitVec 32 := 1#32
  let v571 : BitVec 1 := Scalar.cmpi .ne v570 c1_i32_345
  let v572 : BitVec 1 := Scalar.ori v560 v571
  let v573 : BitVec 32 := Scalar.extui v572
  let c0_i32_346 : BitVec 32 := 0#32
  let v574 : BitVec 1 := Scalar.cmpi .ne v573 c0_i32_346
  v574

def k0_off27 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_328 : BitVec 32 := 3#32
  let v546 : BitVec 32 := Scalar.subi v2 c3_i32_328
  let c16_i32_329 : BitVec 32 := 16#32
  let v547 : BitVec 32 := Scalar.addi v546 c16_i32_329
  let c16_i32_330 : BitVec 32 := 16#32
  let c0_i32_331 : BitVec 32 := 0#32
  let v548 : BitVec 1 := Scalar.cmpi .eq c16_i32_330 c0_i32_331
  let c1_i32_332 : BitVec 32 := 1#32
  let v549 : BitVec 32 := Scalar.select v548 c1_i32_332 c16_i32_330
  let v550 : BitVec 32 := Scalar.remsi v547 v549
  let c0_i32_334 : BitVec 32 := 0#32
  let v552 : BitVec 1 := Scalar.cmpi .slt v550 c0_i32_334
  let c0_i32_335 : BitVec 32 := 0#32
  let v553 : BitVec 1 := Scalar.cmpi .slt v549 c0_i32_335
  let v554 : BitVec 1 := Scalar.xori v552 v553
  let c0_i32_333 : BitVec 32 := 0#32
  let v551 : BitVec 1 := Scalar.cmpi .ne v550 c0_i32_333
  let v555 : BitVec 1 := Scalar.andi v554 v551
  let v556 : BitVec 32 := Scalar.addi v550 v549
  let v557 : BitVec 32 := Scalar.select v555 v556 v550
  let v3728 : BitVec 32 := Scalar.muli c2_i32_2344 v557
  let c0_i32_2345 : BitVec 32 := 0#32
  let v3729 : BitVec 32 := Scalar.addi v3728 c0_i32_2345
  ![v3729.toNat]
def k0_off28 (d0 : Dev nD) : Fin 4 → Nat :=
  let c0_i32_2349 : BitVec 32 := 0#32
  let c0_i32_2350 : BitVec 32 := 0#32
  let c2_i32_336 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_328 : BitVec 32 := 3#32
  let v546 : BitVec 32 := Scalar.subi v2 c3_i32_328
  let c16_i32_329 : BitVec 32 := 16#32
  let v547 : BitVec 32 := Scalar.addi v546 c16_i32_329
  let c16_i32_330 : BitVec 32 := 16#32
  let c0_i32_331 : BitVec 32 := 0#32
  let v548 : BitVec 1 := Scalar.cmpi .eq c16_i32_330 c0_i32_331
  let c1_i32_332 : BitVec 32 := 1#32
  let v549 : BitVec 32 := Scalar.select v548 c1_i32_332 c16_i32_330
  let v550 : BitVec 32 := Scalar.remsi v547 v549
  let c0_i32_334 : BitVec 32 := 0#32
  let v552 : BitVec 1 := Scalar.cmpi .slt v550 c0_i32_334
  let c0_i32_335 : BitVec 32 := 0#32
  let v553 : BitVec 1 := Scalar.cmpi .slt v549 c0_i32_335
  let v554 : BitVec 1 := Scalar.xori v552 v553
  let c0_i32_333 : BitVec 32 := 0#32
  let v551 : BitVec 1 := Scalar.cmpi .ne v550 c0_i32_333
  let v555 : BitVec 1 := Scalar.andi v554 v551
  let v556 : BitVec 32 := Scalar.addi v550 v549
  let v557 : BitVec 32 := Scalar.select v555 v556 v550
  let v558 : BitVec 32 := Scalar.muli c2_i32_336 v557
  let c0_i32_337 : BitVec 32 := 0#32
  let v559 : BitVec 32 := Scalar.addi v558 c0_i32_337
  let c10_i32_2342 : BitVec 32 := 10#32
  let c0_i32_2341 : BitVec 32 := 0#32
  let c2_i32_2333 : BitVec 32 := 2#32
  let v3706 : BitVec 32 := Scalar.subi v559 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v559 v3725
  let c64_i32_2343 : BitVec 32 := 64#32
  let v3727 : BitVec 32 := Scalar.muli v3726 c64_i32_2343
  let c0_i32_2351 : BitVec 32 := 0#32
  ![0, 0, v3727.toNat, 0]
def k0_off29 (d0 : Dev nD) : Fin 4 → Nat :=
  let c0_i32_2352 : BitVec 32 := 0#32
  let c0_i32_2353 : BitVec 32 := 0#32
  let c0_i32_2354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_328 : BitVec 32 := 3#32
  let v546 : BitVec 32 := Scalar.subi v2 c3_i32_328
  let c16_i32_329 : BitVec 32 := 16#32
  let v547 : BitVec 32 := Scalar.addi v546 c16_i32_329
  let c16_i32_330 : BitVec 32 := 16#32
  let c0_i32_331 : BitVec 32 := 0#32
  let v548 : BitVec 1 := Scalar.cmpi .eq c16_i32_330 c0_i32_331
  let c1_i32_332 : BitVec 32 := 1#32
  let v549 : BitVec 32 := Scalar.select v548 c1_i32_332 c16_i32_330
  let v550 : BitVec 32 := Scalar.remsi v547 v549
  let c0_i32_334 : BitVec 32 := 0#32
  let v552 : BitVec 1 := Scalar.cmpi .slt v550 c0_i32_334
  let c0_i32_335 : BitVec 32 := 0#32
  let v553 : BitVec 1 := Scalar.cmpi .slt v549 c0_i32_335
  let v554 : BitVec 1 := Scalar.xori v552 v553
  let c0_i32_333 : BitVec 32 := 0#32
  let v551 : BitVec 1 := Scalar.cmpi .ne v550 c0_i32_333
  let v555 : BitVec 1 := Scalar.andi v554 v551
  let v556 : BitVec 32 := Scalar.addi v550 v549
  let v557 : BitVec 32 := Scalar.select v555 v556 v550
  let c256_i32 : BitVec 32 := 256#32
  let v3705 : BitVec 32 := Scalar.muli v557 c256_i32
  ![0, 0, 0, v3705.toNat]
def k0_cond12 (d0 : Dev nD) : BitVec 1 :=
  let c2_i32_347 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_328 : BitVec 32 := 3#32
  let v546 : BitVec 32 := Scalar.subi v2 c3_i32_328
  let c16_i32_329 : BitVec 32 := 16#32
  let v547 : BitVec 32 := Scalar.addi v546 c16_i32_329
  let c16_i32_330 : BitVec 32 := 16#32
  let c0_i32_331 : BitVec 32 := 0#32
  let v548 : BitVec 1 := Scalar.cmpi .eq c16_i32_330 c0_i32_331
  let c1_i32_332 : BitVec 32 := 1#32
  let v549 : BitVec 32 := Scalar.select v548 c1_i32_332 c16_i32_330
  let v550 : BitVec 32 := Scalar.remsi v547 v549
  let c0_i32_334 : BitVec 32 := 0#32
  let v552 : BitVec 1 := Scalar.cmpi .slt v550 c0_i32_334
  let c0_i32_335 : BitVec 32 := 0#32
  let v553 : BitVec 1 := Scalar.cmpi .slt v549 c0_i32_335
  let v554 : BitVec 1 := Scalar.xori v552 v553
  let c0_i32_333 : BitVec 32 := 0#32
  let v551 : BitVec 1 := Scalar.cmpi .ne v550 c0_i32_333
  let v555 : BitVec 1 := Scalar.andi v554 v551
  let v556 : BitVec 32 := Scalar.addi v550 v549
  let v557 : BitVec 32 := Scalar.select v555 v556 v550
  let v575 : BitVec 32 := Scalar.muli c2_i32_347 v557
  let c1_i32_348 : BitVec 32 := 1#32
  let v576 : BitVec 32 := Scalar.addi v575 c1_i32_348
  let c1_i32_349 : BitVec 32 := 1#32
  let v577 : BitVec 1 := Scalar.cmpi .eq v576 c1_i32_349
  let c3_i32_350 : BitVec 32 := 3#32
  let c0_i32_351 : BitVec 32 := 0#32
  let v578 : BitVec 1 := Scalar.cmpi .eq c3_i32_350 c0_i32_351
  let c1_i32_352 : BitVec 32 := 1#32
  let v579 : BitVec 32 := Scalar.select v578 c1_i32_352 c3_i32_350
  let v580 : BitVec 32 := Scalar.remsi v576 v579
  let c0_i32_354 : BitVec 32 := 0#32
  let v582 : BitVec 1 := Scalar.cmpi .slt v580 c0_i32_354
  let c0_i32_355 : BitVec 32 := 0#32
  let v583 : BitVec 1 := Scalar.cmpi .slt v579 c0_i32_355
  let v584 : BitVec 1 := Scalar.xori v582 v583
  let c0_i32_353 : BitVec 32 := 0#32
  let v581 : BitVec 1 := Scalar.cmpi .ne v580 c0_i32_353
  let v585 : BitVec 1 := Scalar.andi v584 v581
  let v586 : BitVec 32 := Scalar.addi v580 v579
  let v587 : BitVec 32 := Scalar.select v585 v586 v580
  let c1_i32_356 : BitVec 32 := 1#32
  let v588 : BitVec 1 := Scalar.cmpi .ne v587 c1_i32_356
  let v589 : BitVec 1 := Scalar.ori v577 v588
  let v590 : BitVec 32 := Scalar.extui v589
  let c0_i32_357 : BitVec 32 := 0#32
  let v591 : BitVec 1 := Scalar.cmpi .ne v590 c0_i32_357
  v591

def k0_off30 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_328 : BitVec 32 := 3#32
  let v546 : BitVec 32 := Scalar.subi v2 c3_i32_328
  let c16_i32_329 : BitVec 32 := 16#32
  let v547 : BitVec 32 := Scalar.addi v546 c16_i32_329
  let c16_i32_330 : BitVec 32 := 16#32
  let c0_i32_331 : BitVec 32 := 0#32
  let v548 : BitVec 1 := Scalar.cmpi .eq c16_i32_330 c0_i32_331
  let c1_i32_332 : BitVec 32 := 1#32
  let v549 : BitVec 32 := Scalar.select v548 c1_i32_332 c16_i32_330
  let v550 : BitVec 32 := Scalar.remsi v547 v549
  let c0_i32_334 : BitVec 32 := 0#32
  let v552 : BitVec 1 := Scalar.cmpi .slt v550 c0_i32_334
  let c0_i32_335 : BitVec 32 := 0#32
  let v553 : BitVec 1 := Scalar.cmpi .slt v549 c0_i32_335
  let v554 : BitVec 1 := Scalar.xori v552 v553
  let c0_i32_333 : BitVec 32 := 0#32
  let v551 : BitVec 1 := Scalar.cmpi .ne v550 c0_i32_333
  let v555 : BitVec 1 := Scalar.andi v554 v551
  let v556 : BitVec 32 := Scalar.addi v550 v549
  let v557 : BitVec 32 := Scalar.select v555 v556 v550
  let v3728 : BitVec 32 := Scalar.muli c2_i32_2344 v557
  let c1_i32_2345 : BitVec 32 := 1#32
  let v3729 : BitVec 32 := Scalar.addi v3728 c1_i32_2345
  ![v3729.toNat]
def k0_off31 (d0 : Dev nD) : Fin 4 → Nat :=
  let c0_i32_2349 : BitVec 32 := 0#32
  let c0_i32_2350 : BitVec 32 := 0#32
  let c2_i32_347 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_328 : BitVec 32 := 3#32
  let v546 : BitVec 32 := Scalar.subi v2 c3_i32_328
  let c16_i32_329 : BitVec 32 := 16#32
  let v547 : BitVec 32 := Scalar.addi v546 c16_i32_329
  let c16_i32_330 : BitVec 32 := 16#32
  let c0_i32_331 : BitVec 32 := 0#32
  let v548 : BitVec 1 := Scalar.cmpi .eq c16_i32_330 c0_i32_331
  let c1_i32_332 : BitVec 32 := 1#32
  let v549 : BitVec 32 := Scalar.select v548 c1_i32_332 c16_i32_330
  let v550 : BitVec 32 := Scalar.remsi v547 v549
  let c0_i32_334 : BitVec 32 := 0#32
  let v552 : BitVec 1 := Scalar.cmpi .slt v550 c0_i32_334
  let c0_i32_335 : BitVec 32 := 0#32
  let v553 : BitVec 1 := Scalar.cmpi .slt v549 c0_i32_335
  let v554 : BitVec 1 := Scalar.xori v552 v553
  let c0_i32_333 : BitVec 32 := 0#32
  let v551 : BitVec 1 := Scalar.cmpi .ne v550 c0_i32_333
  let v555 : BitVec 1 := Scalar.andi v554 v551
  let v556 : BitVec 32 := Scalar.addi v550 v549
  let v557 : BitVec 32 := Scalar.select v555 v556 v550
  let v575 : BitVec 32 := Scalar.muli c2_i32_347 v557
  let c1_i32_348 : BitVec 32 := 1#32
  let v576 : BitVec 32 := Scalar.addi v575 c1_i32_348
  let c10_i32_2342 : BitVec 32 := 10#32
  let c0_i32_2341 : BitVec 32 := 0#32
  let c2_i32_2333 : BitVec 32 := 2#32
  let v3706 : BitVec 32 := Scalar.subi v576 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v576 v3725
  let c64_i32_2343 : BitVec 32 := 64#32
  let v3727 : BitVec 32 := Scalar.muli v3726 c64_i32_2343
  let c0_i32_2351 : BitVec 32 := 0#32
  ![0, 0, v3727.toNat, 0]
def k0_off32 (d0 : Dev nD) : Fin 4 → Nat :=
  let c0_i32_2352 : BitVec 32 := 0#32
  let c0_i32_2353 : BitVec 32 := 0#32
  let c64_i32_2354 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_328 : BitVec 32 := 3#32
  let v546 : BitVec 32 := Scalar.subi v2 c3_i32_328
  let c16_i32_329 : BitVec 32 := 16#32
  let v547 : BitVec 32 := Scalar.addi v546 c16_i32_329
  let c16_i32_330 : BitVec 32 := 16#32
  let c0_i32_331 : BitVec 32 := 0#32
  let v548 : BitVec 1 := Scalar.cmpi .eq c16_i32_330 c0_i32_331
  let c1_i32_332 : BitVec 32 := 1#32
  let v549 : BitVec 32 := Scalar.select v548 c1_i32_332 c16_i32_330
  let v550 : BitVec 32 := Scalar.remsi v547 v549
  let c0_i32_334 : BitVec 32 := 0#32
  let v552 : BitVec 1 := Scalar.cmpi .slt v550 c0_i32_334
  let c0_i32_335 : BitVec 32 := 0#32
  let v553 : BitVec 1 := Scalar.cmpi .slt v549 c0_i32_335
  let v554 : BitVec 1 := Scalar.xori v552 v553
  let c0_i32_333 : BitVec 32 := 0#32
  let v551 : BitVec 1 := Scalar.cmpi .ne v550 c0_i32_333
  let v555 : BitVec 1 := Scalar.andi v554 v551
  let v556 : BitVec 32 := Scalar.addi v550 v549
  let v557 : BitVec 32 := Scalar.select v555 v556 v550
  let c256_i32 : BitVec 32 := 256#32
  let v3705 : BitVec 32 := Scalar.muli v557 c256_i32
  ![0, 0, 64, v3705.toNat]
def k0_cond13 (d0 : Dev nD) : BitVec 1 :=
  let c2_i32_366 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_358 : BitVec 32 := 4#32
  let v592 : BitVec 32 := Scalar.subi v2 c4_i32_358
  let c16_i32_359 : BitVec 32 := 16#32
  let v593 : BitVec 32 := Scalar.addi v592 c16_i32_359
  let c16_i32_360 : BitVec 32 := 16#32
  let c0_i32_361 : BitVec 32 := 0#32
  let v594 : BitVec 1 := Scalar.cmpi .eq c16_i32_360 c0_i32_361
  let c1_i32_362 : BitVec 32 := 1#32
  let v595 : BitVec 32 := Scalar.select v594 c1_i32_362 c16_i32_360
  let v596 : BitVec 32 := Scalar.remsi v593 v595
  let c0_i32_364 : BitVec 32 := 0#32
  let v598 : BitVec 1 := Scalar.cmpi .slt v596 c0_i32_364
  let c0_i32_365 : BitVec 32 := 0#32
  let v599 : BitVec 1 := Scalar.cmpi .slt v595 c0_i32_365
  let v600 : BitVec 1 := Scalar.xori v598 v599
  let c0_i32_363 : BitVec 32 := 0#32
  let v597 : BitVec 1 := Scalar.cmpi .ne v596 c0_i32_363
  let v601 : BitVec 1 := Scalar.andi v600 v597
  let v602 : BitVec 32 := Scalar.addi v596 v595
  let v603 : BitVec 32 := Scalar.select v601 v602 v596
  let v604 : BitVec 32 := Scalar.muli c2_i32_366 v603
  let c0_i32_367 : BitVec 32 := 0#32
  let v605 : BitVec 32 := Scalar.addi v604 c0_i32_367
  let c1_i32_368 : BitVec 32 := 1#32
  let v606 : BitVec 1 := Scalar.cmpi .eq v605 c1_i32_368
  let c3_i32_369 : BitVec 32 := 3#32
  let c0_i32_370 : BitVec 32 := 0#32
  let v607 : BitVec 1 := Scalar.cmpi .eq c3_i32_369 c0_i32_370
  let c1_i32_371 : BitVec 32 := 1#32
  let v608 : BitVec 32 := Scalar.select v607 c1_i32_371 c3_i32_369
  let v609 : BitVec 32 := Scalar.remsi v605 v608
  let c0_i32_373 : BitVec 32 := 0#32
  let v611 : BitVec 1 := Scalar.cmpi .slt v609 c0_i32_373
  let c0_i32_374 : BitVec 32 := 0#32
  let v612 : BitVec 1 := Scalar.cmpi .slt v608 c0_i32_374
  let v613 : BitVec 1 := Scalar.xori v611 v612
  let c0_i32_372 : BitVec 32 := 0#32
  let v610 : BitVec 1 := Scalar.cmpi .ne v609 c0_i32_372
  let v614 : BitVec 1 := Scalar.andi v613 v610
  let v615 : BitVec 32 := Scalar.addi v609 v608
  let v616 : BitVec 32 := Scalar.select v614 v615 v609
  let c1_i32_375 : BitVec 32 := 1#32
  let v617 : BitVec 1 := Scalar.cmpi .ne v616 c1_i32_375
  let v618 : BitVec 1 := Scalar.ori v606 v617
  let v619 : BitVec 32 := Scalar.extui v618
  let c0_i32_376 : BitVec 32 := 0#32
  let v620 : BitVec 1 := Scalar.cmpi .ne v619 c0_i32_376
  v620

def k0_off33 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_358 : BitVec 32 := 4#32
  let v592 : BitVec 32 := Scalar.subi v2 c4_i32_358
  let c16_i32_359 : BitVec 32 := 16#32
  let v593 : BitVec 32 := Scalar.addi v592 c16_i32_359
  let c16_i32_360 : BitVec 32 := 16#32
  let c0_i32_361 : BitVec 32 := 0#32
  let v594 : BitVec 1 := Scalar.cmpi .eq c16_i32_360 c0_i32_361
  let c1_i32_362 : BitVec 32 := 1#32
  let v595 : BitVec 32 := Scalar.select v594 c1_i32_362 c16_i32_360
  let v596 : BitVec 32 := Scalar.remsi v593 v595
  let c0_i32_364 : BitVec 32 := 0#32
  let v598 : BitVec 1 := Scalar.cmpi .slt v596 c0_i32_364
  let c0_i32_365 : BitVec 32 := 0#32
  let v599 : BitVec 1 := Scalar.cmpi .slt v595 c0_i32_365
  let v600 : BitVec 1 := Scalar.xori v598 v599
  let c0_i32_363 : BitVec 32 := 0#32
  let v597 : BitVec 1 := Scalar.cmpi .ne v596 c0_i32_363
  let v601 : BitVec 1 := Scalar.andi v600 v597
  let v602 : BitVec 32 := Scalar.addi v596 v595
  let v603 : BitVec 32 := Scalar.select v601 v602 v596
  let v3728 : BitVec 32 := Scalar.muli c2_i32_2344 v603
  let c0_i32_2345 : BitVec 32 := 0#32
  let v3729 : BitVec 32 := Scalar.addi v3728 c0_i32_2345
  ![v3729.toNat]
def k0_off34 (d0 : Dev nD) : Fin 4 → Nat :=
  let c0_i32_2349 : BitVec 32 := 0#32
  let c0_i32_2350 : BitVec 32 := 0#32
  let c2_i32_366 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_358 : BitVec 32 := 4#32
  let v592 : BitVec 32 := Scalar.subi v2 c4_i32_358
  let c16_i32_359 : BitVec 32 := 16#32
  let v593 : BitVec 32 := Scalar.addi v592 c16_i32_359
  let c16_i32_360 : BitVec 32 := 16#32
  let c0_i32_361 : BitVec 32 := 0#32
  let v594 : BitVec 1 := Scalar.cmpi .eq c16_i32_360 c0_i32_361
  let c1_i32_362 : BitVec 32 := 1#32
  let v595 : BitVec 32 := Scalar.select v594 c1_i32_362 c16_i32_360
  let v596 : BitVec 32 := Scalar.remsi v593 v595
  let c0_i32_364 : BitVec 32 := 0#32
  let v598 : BitVec 1 := Scalar.cmpi .slt v596 c0_i32_364
  let c0_i32_365 : BitVec 32 := 0#32
  let v599 : BitVec 1 := Scalar.cmpi .slt v595 c0_i32_365
  let v600 : BitVec 1 := Scalar.xori v598 v599
  let c0_i32_363 : BitVec 32 := 0#32
  let v597 : BitVec 1 := Scalar.cmpi .ne v596 c0_i32_363
  let v601 : BitVec 1 := Scalar.andi v600 v597
  let v602 : BitVec 32 := Scalar.addi v596 v595
  let v603 : BitVec 32 := Scalar.select v601 v602 v596
  let v604 : BitVec 32 := Scalar.muli c2_i32_366 v603
  let c0_i32_367 : BitVec 32 := 0#32
  let v605 : BitVec 32 := Scalar.addi v604 c0_i32_367
  let c10_i32_2342 : BitVec 32 := 10#32
  let c0_i32_2341 : BitVec 32 := 0#32
  let c2_i32_2333 : BitVec 32 := 2#32
  let v3706 : BitVec 32 := Scalar.subi v605 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v605 v3725
  let c64_i32_2343 : BitVec 32 := 64#32
  let v3727 : BitVec 32 := Scalar.muli v3726 c64_i32_2343
  let c0_i32_2351 : BitVec 32 := 0#32
  ![0, 0, v3727.toNat, 0]
def k0_off35 (d0 : Dev nD) : Fin 4 → Nat :=
  let c0_i32_2352 : BitVec 32 := 0#32
  let c0_i32_2353 : BitVec 32 := 0#32
  let c0_i32_2354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_358 : BitVec 32 := 4#32
  let v592 : BitVec 32 := Scalar.subi v2 c4_i32_358
  let c16_i32_359 : BitVec 32 := 16#32
  let v593 : BitVec 32 := Scalar.addi v592 c16_i32_359
  let c16_i32_360 : BitVec 32 := 16#32
  let c0_i32_361 : BitVec 32 := 0#32
  let v594 : BitVec 1 := Scalar.cmpi .eq c16_i32_360 c0_i32_361
  let c1_i32_362 : BitVec 32 := 1#32
  let v595 : BitVec 32 := Scalar.select v594 c1_i32_362 c16_i32_360
  let v596 : BitVec 32 := Scalar.remsi v593 v595
  let c0_i32_364 : BitVec 32 := 0#32
  let v598 : BitVec 1 := Scalar.cmpi .slt v596 c0_i32_364
  let c0_i32_365 : BitVec 32 := 0#32
  let v599 : BitVec 1 := Scalar.cmpi .slt v595 c0_i32_365
  let v600 : BitVec 1 := Scalar.xori v598 v599
  let c0_i32_363 : BitVec 32 := 0#32
  let v597 : BitVec 1 := Scalar.cmpi .ne v596 c0_i32_363
  let v601 : BitVec 1 := Scalar.andi v600 v597
  let v602 : BitVec 32 := Scalar.addi v596 v595
  let v603 : BitVec 32 := Scalar.select v601 v602 v596
  let c256_i32 : BitVec 32 := 256#32
  let v3705 : BitVec 32 := Scalar.muli v603 c256_i32
  ![0, 0, 0, v3705.toNat]
def k0_cond14 (d0 : Dev nD) : BitVec 1 :=
  let c2_i32_377 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_358 : BitVec 32 := 4#32
  let v592 : BitVec 32 := Scalar.subi v2 c4_i32_358
  let c16_i32_359 : BitVec 32 := 16#32
  let v593 : BitVec 32 := Scalar.addi v592 c16_i32_359
  let c16_i32_360 : BitVec 32 := 16#32
  let c0_i32_361 : BitVec 32 := 0#32
  let v594 : BitVec 1 := Scalar.cmpi .eq c16_i32_360 c0_i32_361
  let c1_i32_362 : BitVec 32 := 1#32
  let v595 : BitVec 32 := Scalar.select v594 c1_i32_362 c16_i32_360
  let v596 : BitVec 32 := Scalar.remsi v593 v595
  let c0_i32_364 : BitVec 32 := 0#32
  let v598 : BitVec 1 := Scalar.cmpi .slt v596 c0_i32_364
  let c0_i32_365 : BitVec 32 := 0#32
  let v599 : BitVec 1 := Scalar.cmpi .slt v595 c0_i32_365
  let v600 : BitVec 1 := Scalar.xori v598 v599
  let c0_i32_363 : BitVec 32 := 0#32
  let v597 : BitVec 1 := Scalar.cmpi .ne v596 c0_i32_363
  let v601 : BitVec 1 := Scalar.andi v600 v597
  let v602 : BitVec 32 := Scalar.addi v596 v595
  let v603 : BitVec 32 := Scalar.select v601 v602 v596
  let v621 : BitVec 32 := Scalar.muli c2_i32_377 v603
  let c1_i32_378 : BitVec 32 := 1#32
  let v622 : BitVec 32 := Scalar.addi v621 c1_i32_378
  let c1_i32_379 : BitVec 32 := 1#32
  let v623 : BitVec 1 := Scalar.cmpi .eq v622 c1_i32_379
  let c3_i32_380 : BitVec 32 := 3#32
  let c0_i32_381 : BitVec 32 := 0#32
  let v624 : BitVec 1 := Scalar.cmpi .eq c3_i32_380 c0_i32_381
  let c1_i32_382 : BitVec 32 := 1#32
  let v625 : BitVec 32 := Scalar.select v624 c1_i32_382 c3_i32_380
  let v626 : BitVec 32 := Scalar.remsi v622 v625
  let c0_i32_384 : BitVec 32 := 0#32
  let v628 : BitVec 1 := Scalar.cmpi .slt v626 c0_i32_384
  let c0_i32_385 : BitVec 32 := 0#32
  let v629 : BitVec 1 := Scalar.cmpi .slt v625 c0_i32_385
  let v630 : BitVec 1 := Scalar.xori v628 v629
  let c0_i32_383 : BitVec 32 := 0#32
  let v627 : BitVec 1 := Scalar.cmpi .ne v626 c0_i32_383
  let v631 : BitVec 1 := Scalar.andi v630 v627
  let v632 : BitVec 32 := Scalar.addi v626 v625
  let v633 : BitVec 32 := Scalar.select v631 v632 v626
  let c1_i32_386 : BitVec 32 := 1#32
  let v634 : BitVec 1 := Scalar.cmpi .ne v633 c1_i32_386
  let v635 : BitVec 1 := Scalar.ori v623 v634
  let v636 : BitVec 32 := Scalar.extui v635
  let c0_i32_387 : BitVec 32 := 0#32
  let v637 : BitVec 1 := Scalar.cmpi .ne v636 c0_i32_387
  v637

def k0_off36 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_358 : BitVec 32 := 4#32
  let v592 : BitVec 32 := Scalar.subi v2 c4_i32_358
  let c16_i32_359 : BitVec 32 := 16#32
  let v593 : BitVec 32 := Scalar.addi v592 c16_i32_359
  let c16_i32_360 : BitVec 32 := 16#32
  let c0_i32_361 : BitVec 32 := 0#32
  let v594 : BitVec 1 := Scalar.cmpi .eq c16_i32_360 c0_i32_361
  let c1_i32_362 : BitVec 32 := 1#32
  let v595 : BitVec 32 := Scalar.select v594 c1_i32_362 c16_i32_360
  let v596 : BitVec 32 := Scalar.remsi v593 v595
  let c0_i32_364 : BitVec 32 := 0#32
  let v598 : BitVec 1 := Scalar.cmpi .slt v596 c0_i32_364
  let c0_i32_365 : BitVec 32 := 0#32
  let v599 : BitVec 1 := Scalar.cmpi .slt v595 c0_i32_365
  let v600 : BitVec 1 := Scalar.xori v598 v599
  let c0_i32_363 : BitVec 32 := 0#32
  let v597 : BitVec 1 := Scalar.cmpi .ne v596 c0_i32_363
  let v601 : BitVec 1 := Scalar.andi v600 v597
  let v602 : BitVec 32 := Scalar.addi v596 v595
  let v603 : BitVec 32 := Scalar.select v601 v602 v596
  let v3728 : BitVec 32 := Scalar.muli c2_i32_2344 v603
  let c1_i32_2345 : BitVec 32 := 1#32
  let v3729 : BitVec 32 := Scalar.addi v3728 c1_i32_2345
  ![v3729.toNat]
def k0_off37 (d0 : Dev nD) : Fin 4 → Nat :=
  let c0_i32_2349 : BitVec 32 := 0#32
  let c0_i32_2350 : BitVec 32 := 0#32
  let c2_i32_377 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_358 : BitVec 32 := 4#32
  let v592 : BitVec 32 := Scalar.subi v2 c4_i32_358
  let c16_i32_359 : BitVec 32 := 16#32
  let v593 : BitVec 32 := Scalar.addi v592 c16_i32_359
  let c16_i32_360 : BitVec 32 := 16#32
  let c0_i32_361 : BitVec 32 := 0#32
  let v594 : BitVec 1 := Scalar.cmpi .eq c16_i32_360 c0_i32_361
  let c1_i32_362 : BitVec 32 := 1#32
  let v595 : BitVec 32 := Scalar.select v594 c1_i32_362 c16_i32_360
  let v596 : BitVec 32 := Scalar.remsi v593 v595
  let c0_i32_364 : BitVec 32 := 0#32
  let v598 : BitVec 1 := Scalar.cmpi .slt v596 c0_i32_364
  let c0_i32_365 : BitVec 32 := 0#32
  let v599 : BitVec 1 := Scalar.cmpi .slt v595 c0_i32_365
  let v600 : BitVec 1 := Scalar.xori v598 v599
  let c0_i32_363 : BitVec 32 := 0#32
  let v597 : BitVec 1 := Scalar.cmpi .ne v596 c0_i32_363
  let v601 : BitVec 1 := Scalar.andi v600 v597
  let v602 : BitVec 32 := Scalar.addi v596 v595
  let v603 : BitVec 32 := Scalar.select v601 v602 v596
  let v621 : BitVec 32 := Scalar.muli c2_i32_377 v603
  let c1_i32_378 : BitVec 32 := 1#32
  let v622 : BitVec 32 := Scalar.addi v621 c1_i32_378
  let c10_i32_2342 : BitVec 32 := 10#32
  let c0_i32_2341 : BitVec 32 := 0#32
  let c2_i32_2333 : BitVec 32 := 2#32
  let v3706 : BitVec 32 := Scalar.subi v622 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v622 v3725
  let c64_i32_2343 : BitVec 32 := 64#32
  let v3727 : BitVec 32 := Scalar.muli v3726 c64_i32_2343
  let c0_i32_2351 : BitVec 32 := 0#32
  ![0, 0, v3727.toNat, 0]
def k0_off38 (d0 : Dev nD) : Fin 4 → Nat :=
  let c0_i32_2352 : BitVec 32 := 0#32
  let c0_i32_2353 : BitVec 32 := 0#32
  let c64_i32_2354 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_358 : BitVec 32 := 4#32
  let v592 : BitVec 32 := Scalar.subi v2 c4_i32_358
  let c16_i32_359 : BitVec 32 := 16#32
  let v593 : BitVec 32 := Scalar.addi v592 c16_i32_359
  let c16_i32_360 : BitVec 32 := 16#32
  let c0_i32_361 : BitVec 32 := 0#32
  let v594 : BitVec 1 := Scalar.cmpi .eq c16_i32_360 c0_i32_361
  let c1_i32_362 : BitVec 32 := 1#32
  let v595 : BitVec 32 := Scalar.select v594 c1_i32_362 c16_i32_360
  let v596 : BitVec 32 := Scalar.remsi v593 v595
  let c0_i32_364 : BitVec 32 := 0#32
  let v598 : BitVec 1 := Scalar.cmpi .slt v596 c0_i32_364
  let c0_i32_365 : BitVec 32 := 0#32
  let v599 : BitVec 1 := Scalar.cmpi .slt v595 c0_i32_365
  let v600 : BitVec 1 := Scalar.xori v598 v599
  let c0_i32_363 : BitVec 32 := 0#32
  let v597 : BitVec 1 := Scalar.cmpi .ne v596 c0_i32_363
  let v601 : BitVec 1 := Scalar.andi v600 v597
  let v602 : BitVec 32 := Scalar.addi v596 v595
  let v603 : BitVec 32 := Scalar.select v601 v602 v596
  let c256_i32 : BitVec 32 := 256#32
  let v3705 : BitVec 32 := Scalar.muli v603 c256_i32
  ![0, 0, 64, v3705.toNat]
def k0_cond15 (d0 : Dev nD) : BitVec 1 :=
  let c2_i32_396 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_388 : BitVec 32 := 5#32
  let v638 : BitVec 32 := Scalar.subi v2 c5_i32_388
  let c16_i32_389 : BitVec 32 := 16#32
  let v639 : BitVec 32 := Scalar.addi v638 c16_i32_389
  let c16_i32_390 : BitVec 32 := 16#32
  let c0_i32_391 : BitVec 32 := 0#32
  let v640 : BitVec 1 := Scalar.cmpi .eq c16_i32_390 c0_i32_391
  let c1_i32_392 : BitVec 32 := 1#32
  let v641 : BitVec 32 := Scalar.select v640 c1_i32_392 c16_i32_390
  let v642 : BitVec 32 := Scalar.remsi v639 v641
  let c0_i32_394 : BitVec 32 := 0#32
  let v644 : BitVec 1 := Scalar.cmpi .slt v642 c0_i32_394
  let c0_i32_395 : BitVec 32 := 0#32
  let v645 : BitVec 1 := Scalar.cmpi .slt v641 c0_i32_395
  let v646 : BitVec 1 := Scalar.xori v644 v645
  let c0_i32_393 : BitVec 32 := 0#32
  let v643 : BitVec 1 := Scalar.cmpi .ne v642 c0_i32_393
  let v647 : BitVec 1 := Scalar.andi v646 v643
  let v648 : BitVec 32 := Scalar.addi v642 v641
  let v649 : BitVec 32 := Scalar.select v647 v648 v642
  let v650 : BitVec 32 := Scalar.muli c2_i32_396 v649
  let c0_i32_397 : BitVec 32 := 0#32
  let v651 : BitVec 32 := Scalar.addi v650 c0_i32_397
  let c1_i32_398 : BitVec 32 := 1#32
  let v652 : BitVec 1 := Scalar.cmpi .eq v651 c1_i32_398
  let c3_i32_399 : BitVec 32 := 3#32
  let c0_i32_400 : BitVec 32 := 0#32
  let v653 : BitVec 1 := Scalar.cmpi .eq c3_i32_399 c0_i32_400
  let c1_i32_401 : BitVec 32 := 1#32
  let v654 : BitVec 32 := Scalar.select v653 c1_i32_401 c3_i32_399
  let v655 : BitVec 32 := Scalar.remsi v651 v654
  let c0_i32_403 : BitVec 32 := 0#32
  let v657 : BitVec 1 := Scalar.cmpi .slt v655 c0_i32_403
  let c0_i32_404 : BitVec 32 := 0#32
  let v658 : BitVec 1 := Scalar.cmpi .slt v654 c0_i32_404
  let v659 : BitVec 1 := Scalar.xori v657 v658
  let c0_i32_402 : BitVec 32 := 0#32
  let v656 : BitVec 1 := Scalar.cmpi .ne v655 c0_i32_402
  let v660 : BitVec 1 := Scalar.andi v659 v656
  let v661 : BitVec 32 := Scalar.addi v655 v654
  let v662 : BitVec 32 := Scalar.select v660 v661 v655
  let c1_i32_405 : BitVec 32 := 1#32
  let v663 : BitVec 1 := Scalar.cmpi .ne v662 c1_i32_405
  let v664 : BitVec 1 := Scalar.ori v652 v663
  let v665 : BitVec 32 := Scalar.extui v664
  let c0_i32_406 : BitVec 32 := 0#32
  let v666 : BitVec 1 := Scalar.cmpi .ne v665 c0_i32_406
  v666

def k0_off39 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_388 : BitVec 32 := 5#32
  let v638 : BitVec 32 := Scalar.subi v2 c5_i32_388
  let c16_i32_389 : BitVec 32 := 16#32
  let v639 : BitVec 32 := Scalar.addi v638 c16_i32_389
  let c16_i32_390 : BitVec 32 := 16#32
  let c0_i32_391 : BitVec 32 := 0#32
  let v640 : BitVec 1 := Scalar.cmpi .eq c16_i32_390 c0_i32_391
  let c1_i32_392 : BitVec 32 := 1#32
  let v641 : BitVec 32 := Scalar.select v640 c1_i32_392 c16_i32_390
  let v642 : BitVec 32 := Scalar.remsi v639 v641
  let c0_i32_394 : BitVec 32 := 0#32
  let v644 : BitVec 1 := Scalar.cmpi .slt v642 c0_i32_394
  let c0_i32_395 : BitVec 32 := 0#32
  let v645 : BitVec 1 := Scalar.cmpi .slt v641 c0_i32_395
  let v646 : BitVec 1 := Scalar.xori v644 v645
  let c0_i32_393 : BitVec 32 := 0#32
  let v643 : BitVec 1 := Scalar.cmpi .ne v642 c0_i32_393
  let v647 : BitVec 1 := Scalar.andi v646 v643
  let v648 : BitVec 32 := Scalar.addi v642 v641
  let v649 : BitVec 32 := Scalar.select v647 v648 v642
  let v3728 : BitVec 32 := Scalar.muli c2_i32_2344 v649
  let c0_i32_2345 : BitVec 32 := 0#32
  let v3729 : BitVec 32 := Scalar.addi v3728 c0_i32_2345
  ![v3729.toNat]
def k0_off40 (d0 : Dev nD) : Fin 4 → Nat :=
  let c0_i32_2349 : BitVec 32 := 0#32
  let c0_i32_2350 : BitVec 32 := 0#32
  let c2_i32_396 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_388 : BitVec 32 := 5#32
  let v638 : BitVec 32 := Scalar.subi v2 c5_i32_388
  let c16_i32_389 : BitVec 32 := 16#32
  let v639 : BitVec 32 := Scalar.addi v638 c16_i32_389
  let c16_i32_390 : BitVec 32 := 16#32
  let c0_i32_391 : BitVec 32 := 0#32
  let v640 : BitVec 1 := Scalar.cmpi .eq c16_i32_390 c0_i32_391
  let c1_i32_392 : BitVec 32 := 1#32
  let v641 : BitVec 32 := Scalar.select v640 c1_i32_392 c16_i32_390
  let v642 : BitVec 32 := Scalar.remsi v639 v641
  let c0_i32_394 : BitVec 32 := 0#32
  let v644 : BitVec 1 := Scalar.cmpi .slt v642 c0_i32_394
  let c0_i32_395 : BitVec 32 := 0#32
  let v645 : BitVec 1 := Scalar.cmpi .slt v641 c0_i32_395
  let v646 : BitVec 1 := Scalar.xori v644 v645
  let c0_i32_393 : BitVec 32 := 0#32
  let v643 : BitVec 1 := Scalar.cmpi .ne v642 c0_i32_393
  let v647 : BitVec 1 := Scalar.andi v646 v643
  let v648 : BitVec 32 := Scalar.addi v642 v641
  let v649 : BitVec 32 := Scalar.select v647 v648 v642
  let v650 : BitVec 32 := Scalar.muli c2_i32_396 v649
  let c0_i32_397 : BitVec 32 := 0#32
  let v651 : BitVec 32 := Scalar.addi v650 c0_i32_397
  let c10_i32_2342 : BitVec 32 := 10#32
  let c0_i32_2341 : BitVec 32 := 0#32
  let c2_i32_2333 : BitVec 32 := 2#32
  let v3706 : BitVec 32 := Scalar.subi v651 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v651 v3725
  let c64_i32_2343 : BitVec 32 := 64#32
  let v3727 : BitVec 32 := Scalar.muli v3726 c64_i32_2343
  let c0_i32_2351 : BitVec 32 := 0#32
  ![0, 0, v3727.toNat, 0]
def k0_off41 (d0 : Dev nD) : Fin 4 → Nat :=
  let c0_i32_2352 : BitVec 32 := 0#32
  let c0_i32_2353 : BitVec 32 := 0#32
  let c0_i32_2354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_388 : BitVec 32 := 5#32
  let v638 : BitVec 32 := Scalar.subi v2 c5_i32_388
  let c16_i32_389 : BitVec 32 := 16#32
  let v639 : BitVec 32 := Scalar.addi v638 c16_i32_389
  let c16_i32_390 : BitVec 32 := 16#32
  let c0_i32_391 : BitVec 32 := 0#32
  let v640 : BitVec 1 := Scalar.cmpi .eq c16_i32_390 c0_i32_391
  let c1_i32_392 : BitVec 32 := 1#32
  let v641 : BitVec 32 := Scalar.select v640 c1_i32_392 c16_i32_390
  let v642 : BitVec 32 := Scalar.remsi v639 v641
  let c0_i32_394 : BitVec 32 := 0#32
  let v644 : BitVec 1 := Scalar.cmpi .slt v642 c0_i32_394
  let c0_i32_395 : BitVec 32 := 0#32
  let v645 : BitVec 1 := Scalar.cmpi .slt v641 c0_i32_395
  let v646 : BitVec 1 := Scalar.xori v644 v645
  let c0_i32_393 : BitVec 32 := 0#32
  let v643 : BitVec 1 := Scalar.cmpi .ne v642 c0_i32_393
  let v647 : BitVec 1 := Scalar.andi v646 v643
  let v648 : BitVec 32 := Scalar.addi v642 v641
  let v649 : BitVec 32 := Scalar.select v647 v648 v642
  let c256_i32 : BitVec 32 := 256#32
  let v3705 : BitVec 32 := Scalar.muli v649 c256_i32
  ![0, 0, 0, v3705.toNat]
def k0_cond16 (d0 : Dev nD) : BitVec 1 :=
  let c2_i32_407 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_388 : BitVec 32 := 5#32
  let v638 : BitVec 32 := Scalar.subi v2 c5_i32_388
  let c16_i32_389 : BitVec 32 := 16#32
  let v639 : BitVec 32 := Scalar.addi v638 c16_i32_389
  let c16_i32_390 : BitVec 32 := 16#32
  let c0_i32_391 : BitVec 32 := 0#32
  let v640 : BitVec 1 := Scalar.cmpi .eq c16_i32_390 c0_i32_391
  let c1_i32_392 : BitVec 32 := 1#32
  let v641 : BitVec 32 := Scalar.select v640 c1_i32_392 c16_i32_390
  let v642 : BitVec 32 := Scalar.remsi v639 v641
  let c0_i32_394 : BitVec 32 := 0#32
  let v644 : BitVec 1 := Scalar.cmpi .slt v642 c0_i32_394
  let c0_i32_395 : BitVec 32 := 0#32
  let v645 : BitVec 1 := Scalar.cmpi .slt v641 c0_i32_395
  let v646 : BitVec 1 := Scalar.xori v644 v645
  let c0_i32_393 : BitVec 32 := 0#32
  let v643 : BitVec 1 := Scalar.cmpi .ne v642 c0_i32_393
  let v647 : BitVec 1 := Scalar.andi v646 v643
  let v648 : BitVec 32 := Scalar.addi v642 v641
  let v649 : BitVec 32 := Scalar.select v647 v648 v642
  let v667 : BitVec 32 := Scalar.muli c2_i32_407 v649
  let c1_i32_408 : BitVec 32 := 1#32
  let v668 : BitVec 32 := Scalar.addi v667 c1_i32_408
  let c1_i32_409 : BitVec 32 := 1#32
  let v669 : BitVec 1 := Scalar.cmpi .eq v668 c1_i32_409
  let c3_i32_410 : BitVec 32 := 3#32
  let c0_i32_411 : BitVec 32 := 0#32
  let v670 : BitVec 1 := Scalar.cmpi .eq c3_i32_410 c0_i32_411
  let c1_i32_412 : BitVec 32 := 1#32
  let v671 : BitVec 32 := Scalar.select v670 c1_i32_412 c3_i32_410
  let v672 : BitVec 32 := Scalar.remsi v668 v671
  let c0_i32_414 : BitVec 32 := 0#32
  let v674 : BitVec 1 := Scalar.cmpi .slt v672 c0_i32_414
  let c0_i32_415 : BitVec 32 := 0#32
  let v675 : BitVec 1 := Scalar.cmpi .slt v671 c0_i32_415
  let v676 : BitVec 1 := Scalar.xori v674 v675
  let c0_i32_413 : BitVec 32 := 0#32
  let v673 : BitVec 1 := Scalar.cmpi .ne v672 c0_i32_413
  let v677 : BitVec 1 := Scalar.andi v676 v673
  let v678 : BitVec 32 := Scalar.addi v672 v671
  let v679 : BitVec 32 := Scalar.select v677 v678 v672
  let c1_i32_416 : BitVec 32 := 1#32
  let v680 : BitVec 1 := Scalar.cmpi .ne v679 c1_i32_416
  let v681 : BitVec 1 := Scalar.ori v669 v680
  let v682 : BitVec 32 := Scalar.extui v681
  let c0_i32_417 : BitVec 32 := 0#32
  let v683 : BitVec 1 := Scalar.cmpi .ne v682 c0_i32_417
  v683

def k0_off42 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_388 : BitVec 32 := 5#32
  let v638 : BitVec 32 := Scalar.subi v2 c5_i32_388
  let c16_i32_389 : BitVec 32 := 16#32
  let v639 : BitVec 32 := Scalar.addi v638 c16_i32_389
  let c16_i32_390 : BitVec 32 := 16#32
  let c0_i32_391 : BitVec 32 := 0#32
  let v640 : BitVec 1 := Scalar.cmpi .eq c16_i32_390 c0_i32_391
  let c1_i32_392 : BitVec 32 := 1#32
  let v641 : BitVec 32 := Scalar.select v640 c1_i32_392 c16_i32_390
  let v642 : BitVec 32 := Scalar.remsi v639 v641
  let c0_i32_394 : BitVec 32 := 0#32
  let v644 : BitVec 1 := Scalar.cmpi .slt v642 c0_i32_394
  let c0_i32_395 : BitVec 32 := 0#32
  let v645 : BitVec 1 := Scalar.cmpi .slt v641 c0_i32_395
  let v646 : BitVec 1 := Scalar.xori v644 v645
  let c0_i32_393 : BitVec 32 := 0#32
  let v643 : BitVec 1 := Scalar.cmpi .ne v642 c0_i32_393
  let v647 : BitVec 1 := Scalar.andi v646 v643
  let v648 : BitVec 32 := Scalar.addi v642 v641
  let v649 : BitVec 32 := Scalar.select v647 v648 v642
  let v3728 : BitVec 32 := Scalar.muli c2_i32_2344 v649
  let c1_i32_2345 : BitVec 32 := 1#32
  let v3729 : BitVec 32 := Scalar.addi v3728 c1_i32_2345
  ![v3729.toNat]
def k0_off43 (d0 : Dev nD) : Fin 4 → Nat :=
  let c0_i32_2349 : BitVec 32 := 0#32
  let c0_i32_2350 : BitVec 32 := 0#32
  let c2_i32_407 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_388 : BitVec 32 := 5#32
  let v638 : BitVec 32 := Scalar.subi v2 c5_i32_388
  let c16_i32_389 : BitVec 32 := 16#32
  let v639 : BitVec 32 := Scalar.addi v638 c16_i32_389
  let c16_i32_390 : BitVec 32 := 16#32
  let c0_i32_391 : BitVec 32 := 0#32
  let v640 : BitVec 1 := Scalar.cmpi .eq c16_i32_390 c0_i32_391
  let c1_i32_392 : BitVec 32 := 1#32
  let v641 : BitVec 32 := Scalar.select v640 c1_i32_392 c16_i32_390
  let v642 : BitVec 32 := Scalar.remsi v639 v641
  let c0_i32_394 : BitVec 32 := 0#32
  let v644 : BitVec 1 := Scalar.cmpi .slt v642 c0_i32_394
  let c0_i32_395 : BitVec 32 := 0#32
  let v645 : BitVec 1 := Scalar.cmpi .slt v641 c0_i32_395
  let v646 : BitVec 1 := Scalar.xori v644 v645
  let c0_i32_393 : BitVec 32 := 0#32
  let v643 : BitVec 1 := Scalar.cmpi .ne v642 c0_i32_393
  let v647 : BitVec 1 := Scalar.andi v646 v643
  let v648 : BitVec 32 := Scalar.addi v642 v641
  let v649 : BitVec 32 := Scalar.select v647 v648 v642
  let v667 : BitVec 32 := Scalar.muli c2_i32_407 v649
  let c1_i32_408 : BitVec 32 := 1#32
  let v668 : BitVec 32 := Scalar.addi v667 c1_i32_408
  let c10_i32_2342 : BitVec 32 := 10#32
  let c0_i32_2341 : BitVec 32 := 0#32
  let c2_i32_2333 : BitVec 32 := 2#32
  let v3706 : BitVec 32 := Scalar.subi v668 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v668 v3725
  let c64_i32_2343 : BitVec 32 := 64#32
  let v3727 : BitVec 32 := Scalar.muli v3726 c64_i32_2343
  let c0_i32_2351 : BitVec 32 := 0#32
  ![0, 0, v3727.toNat, 0]
def k0_off44 (d0 : Dev nD) : Fin 4 → Nat :=
  let c0_i32_2352 : BitVec 32 := 0#32
  let c0_i32_2353 : BitVec 32 := 0#32
  let c64_i32_2354 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_388 : BitVec 32 := 5#32
  let v638 : BitVec 32 := Scalar.subi v2 c5_i32_388
  let c16_i32_389 : BitVec 32 := 16#32
  let v639 : BitVec 32 := Scalar.addi v638 c16_i32_389
  let c16_i32_390 : BitVec 32 := 16#32
  let c0_i32_391 : BitVec 32 := 0#32
  let v640 : BitVec 1 := Scalar.cmpi .eq c16_i32_390 c0_i32_391
  let c1_i32_392 : BitVec 32 := 1#32
  let v641 : BitVec 32 := Scalar.select v640 c1_i32_392 c16_i32_390
  let v642 : BitVec 32 := Scalar.remsi v639 v641
  let c0_i32_394 : BitVec 32 := 0#32
  let v644 : BitVec 1 := Scalar.cmpi .slt v642 c0_i32_394
  let c0_i32_395 : BitVec 32 := 0#32
  let v645 : BitVec 1 := Scalar.cmpi .slt v641 c0_i32_395
  let v646 : BitVec 1 := Scalar.xori v644 v645
  let c0_i32_393 : BitVec 32 := 0#32
  let v643 : BitVec 1 := Scalar.cmpi .ne v642 c0_i32_393
  let v647 : BitVec 1 := Scalar.andi v646 v643
  let v648 : BitVec 32 := Scalar.addi v642 v641
  let v649 : BitVec 32 := Scalar.select v647 v648 v642
  let c256_i32 : BitVec 32 := 256#32
  let v3705 : BitVec 32 := Scalar.muli v649 c256_i32
  ![0, 0, 64, v3705.toNat]
def k0_cond17 (d0 : Dev nD) : BitVec 1 :=
  let c2_i32_426 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_418 : BitVec 32 := 6#32
  let v684 : BitVec 32 := Scalar.subi v2 c6_i32_418
  let c16_i32_419 : BitVec 32 := 16#32
  let v685 : BitVec 32 := Scalar.addi v684 c16_i32_419
  let c16_i32_420 : BitVec 32 := 16#32
  let c0_i32_421 : BitVec 32 := 0#32
  let v686 : BitVec 1 := Scalar.cmpi .eq c16_i32_420 c0_i32_421
  let c1_i32_422 : BitVec 32 := 1#32
  let v687 : BitVec 32 := Scalar.select v686 c1_i32_422 c16_i32_420
  let v688 : BitVec 32 := Scalar.remsi v685 v687
  let c0_i32_424 : BitVec 32 := 0#32
  let v690 : BitVec 1 := Scalar.cmpi .slt v688 c0_i32_424
  let c0_i32_425 : BitVec 32 := 0#32
  let v691 : BitVec 1 := Scalar.cmpi .slt v687 c0_i32_425
  let v692 : BitVec 1 := Scalar.xori v690 v691
  let c0_i32_423 : BitVec 32 := 0#32
  let v689 : BitVec 1 := Scalar.cmpi .ne v688 c0_i32_423
  let v693 : BitVec 1 := Scalar.andi v692 v689
  let v694 : BitVec 32 := Scalar.addi v688 v687
  let v695 : BitVec 32 := Scalar.select v693 v694 v688
  let v696 : BitVec 32 := Scalar.muli c2_i32_426 v695
  let c0_i32_427 : BitVec 32 := 0#32
  let v697 : BitVec 32 := Scalar.addi v696 c0_i32_427
  let c1_i32_428 : BitVec 32 := 1#32
  let v698 : BitVec 1 := Scalar.cmpi .eq v697 c1_i32_428
  let c3_i32_429 : BitVec 32 := 3#32
  let c0_i32_430 : BitVec 32 := 0#32
  let v699 : BitVec 1 := Scalar.cmpi .eq c3_i32_429 c0_i32_430
  let c1_i32_431 : BitVec 32 := 1#32
  let v700 : BitVec 32 := Scalar.select v699 c1_i32_431 c3_i32_429
  let v701 : BitVec 32 := Scalar.remsi v697 v700
  let c0_i32_433 : BitVec 32 := 0#32
  let v703 : BitVec 1 := Scalar.cmpi .slt v701 c0_i32_433
  let c0_i32_434 : BitVec 32 := 0#32
  let v704 : BitVec 1 := Scalar.cmpi .slt v700 c0_i32_434
  let v705 : BitVec 1 := Scalar.xori v703 v704
  let c0_i32_432 : BitVec 32 := 0#32
  let v702 : BitVec 1 := Scalar.cmpi .ne v701 c0_i32_432
  let v706 : BitVec 1 := Scalar.andi v705 v702
  let v707 : BitVec 32 := Scalar.addi v701 v700
  let v708 : BitVec 32 := Scalar.select v706 v707 v701
  let c1_i32_435 : BitVec 32 := 1#32
  let v709 : BitVec 1 := Scalar.cmpi .ne v708 c1_i32_435
  let v710 : BitVec 1 := Scalar.ori v698 v709
  let v711 : BitVec 32 := Scalar.extui v710
  let c0_i32_436 : BitVec 32 := 0#32
  let v712 : BitVec 1 := Scalar.cmpi .ne v711 c0_i32_436
  v712

def k0_off45 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_418 : BitVec 32 := 6#32
  let v684 : BitVec 32 := Scalar.subi v2 c6_i32_418
  let c16_i32_419 : BitVec 32 := 16#32
  let v685 : BitVec 32 := Scalar.addi v684 c16_i32_419
  let c16_i32_420 : BitVec 32 := 16#32
  let c0_i32_421 : BitVec 32 := 0#32
  let v686 : BitVec 1 := Scalar.cmpi .eq c16_i32_420 c0_i32_421
  let c1_i32_422 : BitVec 32 := 1#32
  let v687 : BitVec 32 := Scalar.select v686 c1_i32_422 c16_i32_420
  let v688 : BitVec 32 := Scalar.remsi v685 v687
  let c0_i32_424 : BitVec 32 := 0#32
  let v690 : BitVec 1 := Scalar.cmpi .slt v688 c0_i32_424
  let c0_i32_425 : BitVec 32 := 0#32
  let v691 : BitVec 1 := Scalar.cmpi .slt v687 c0_i32_425
  let v692 : BitVec 1 := Scalar.xori v690 v691
  let c0_i32_423 : BitVec 32 := 0#32
  let v689 : BitVec 1 := Scalar.cmpi .ne v688 c0_i32_423
  let v693 : BitVec 1 := Scalar.andi v692 v689
  let v694 : BitVec 32 := Scalar.addi v688 v687
  let v695 : BitVec 32 := Scalar.select v693 v694 v688
  let v3728 : BitVec 32 := Scalar.muli c2_i32_2344 v695
  let c0_i32_2345 : BitVec 32 := 0#32
  let v3729 : BitVec 32 := Scalar.addi v3728 c0_i32_2345
  ![v3729.toNat]
def k0_off46 (d0 : Dev nD) : Fin 4 → Nat :=
  let c0_i32_2349 : BitVec 32 := 0#32
  let c0_i32_2350 : BitVec 32 := 0#32
  let c2_i32_426 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_418 : BitVec 32 := 6#32
  let v684 : BitVec 32 := Scalar.subi v2 c6_i32_418
  let c16_i32_419 : BitVec 32 := 16#32
  let v685 : BitVec 32 := Scalar.addi v684 c16_i32_419
  let c16_i32_420 : BitVec 32 := 16#32
  let c0_i32_421 : BitVec 32 := 0#32
  let v686 : BitVec 1 := Scalar.cmpi .eq c16_i32_420 c0_i32_421
  let c1_i32_422 : BitVec 32 := 1#32
  let v687 : BitVec 32 := Scalar.select v686 c1_i32_422 c16_i32_420
  let v688 : BitVec 32 := Scalar.remsi v685 v687
  let c0_i32_424 : BitVec 32 := 0#32
  let v690 : BitVec 1 := Scalar.cmpi .slt v688 c0_i32_424
  let c0_i32_425 : BitVec 32 := 0#32
  let v691 : BitVec 1 := Scalar.cmpi .slt v687 c0_i32_425
  let v692 : BitVec 1 := Scalar.xori v690 v691
  let c0_i32_423 : BitVec 32 := 0#32
  let v689 : BitVec 1 := Scalar.cmpi .ne v688 c0_i32_423
  let v693 : BitVec 1 := Scalar.andi v692 v689
  let v694 : BitVec 32 := Scalar.addi v688 v687
  let v695 : BitVec 32 := Scalar.select v693 v694 v688
  let v696 : BitVec 32 := Scalar.muli c2_i32_426 v695
  let c0_i32_427 : BitVec 32 := 0#32
  let v697 : BitVec 32 := Scalar.addi v696 c0_i32_427
  let c10_i32_2342 : BitVec 32 := 10#32
  let c0_i32_2341 : BitVec 32 := 0#32
  let c2_i32_2333 : BitVec 32 := 2#32
  let v3706 : BitVec 32 := Scalar.subi v697 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v697 v3725
  let c64_i32_2343 : BitVec 32 := 64#32
  let v3727 : BitVec 32 := Scalar.muli v3726 c64_i32_2343
  let c0_i32_2351 : BitVec 32 := 0#32
  ![0, 0, v3727.toNat, 0]
def k0_off47 (d0 : Dev nD) : Fin 4 → Nat :=
  let c0_i32_2352 : BitVec 32 := 0#32
  let c0_i32_2353 : BitVec 32 := 0#32
  let c0_i32_2354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_418 : BitVec 32 := 6#32
  let v684 : BitVec 32 := Scalar.subi v2 c6_i32_418
  let c16_i32_419 : BitVec 32 := 16#32
  let v685 : BitVec 32 := Scalar.addi v684 c16_i32_419
  let c16_i32_420 : BitVec 32 := 16#32
  let c0_i32_421 : BitVec 32 := 0#32
  let v686 : BitVec 1 := Scalar.cmpi .eq c16_i32_420 c0_i32_421
  let c1_i32_422 : BitVec 32 := 1#32
  let v687 : BitVec 32 := Scalar.select v686 c1_i32_422 c16_i32_420
  let v688 : BitVec 32 := Scalar.remsi v685 v687
  let c0_i32_424 : BitVec 32 := 0#32
  let v690 : BitVec 1 := Scalar.cmpi .slt v688 c0_i32_424
  let c0_i32_425 : BitVec 32 := 0#32
  let v691 : BitVec 1 := Scalar.cmpi .slt v687 c0_i32_425
  let v692 : BitVec 1 := Scalar.xori v690 v691
  let c0_i32_423 : BitVec 32 := 0#32
  let v689 : BitVec 1 := Scalar.cmpi .ne v688 c0_i32_423
  let v693 : BitVec 1 := Scalar.andi v692 v689
  let v694 : BitVec 32 := Scalar.addi v688 v687
  let v695 : BitVec 32 := Scalar.select v693 v694 v688
  let c256_i32 : BitVec 32 := 256#32
  let v3705 : BitVec 32 := Scalar.muli v695 c256_i32
  ![0, 0, 0, v3705.toNat]
def k0_cond18 (d0 : Dev nD) : BitVec 1 :=
  let c2_i32_437 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_418 : BitVec 32 := 6#32
  let v684 : BitVec 32 := Scalar.subi v2 c6_i32_418
  let c16_i32_419 : BitVec 32 := 16#32
  let v685 : BitVec 32 := Scalar.addi v684 c16_i32_419
  let c16_i32_420 : BitVec 32 := 16#32
  let c0_i32_421 : BitVec 32 := 0#32
  let v686 : BitVec 1 := Scalar.cmpi .eq c16_i32_420 c0_i32_421
  let c1_i32_422 : BitVec 32 := 1#32
  let v687 : BitVec 32 := Scalar.select v686 c1_i32_422 c16_i32_420
  let v688 : BitVec 32 := Scalar.remsi v685 v687
  let c0_i32_424 : BitVec 32 := 0#32
  let v690 : BitVec 1 := Scalar.cmpi .slt v688 c0_i32_424
  let c0_i32_425 : BitVec 32 := 0#32
  let v691 : BitVec 1 := Scalar.cmpi .slt v687 c0_i32_425
  let v692 : BitVec 1 := Scalar.xori v690 v691
  let c0_i32_423 : BitVec 32 := 0#32
  let v689 : BitVec 1 := Scalar.cmpi .ne v688 c0_i32_423
  let v693 : BitVec 1 := Scalar.andi v692 v689
  let v694 : BitVec 32 := Scalar.addi v688 v687
  let v695 : BitVec 32 := Scalar.select v693 v694 v688
  let v713 : BitVec 32 := Scalar.muli c2_i32_437 v695
  let c1_i32_438 : BitVec 32 := 1#32
  let v714 : BitVec 32 := Scalar.addi v713 c1_i32_438
  let c1_i32_439 : BitVec 32 := 1#32
  let v715 : BitVec 1 := Scalar.cmpi .eq v714 c1_i32_439
  let c3_i32_440 : BitVec 32 := 3#32
  let c0_i32_441 : BitVec 32 := 0#32
  let v716 : BitVec 1 := Scalar.cmpi .eq c3_i32_440 c0_i32_441
  let c1_i32_442 : BitVec 32 := 1#32
  let v717 : BitVec 32 := Scalar.select v716 c1_i32_442 c3_i32_440
  let v718 : BitVec 32 := Scalar.remsi v714 v717
  let c0_i32_444 : BitVec 32 := 0#32
  let v720 : BitVec 1 := Scalar.cmpi .slt v718 c0_i32_444
  let c0_i32_445 : BitVec 32 := 0#32
  let v721 : BitVec 1 := Scalar.cmpi .slt v717 c0_i32_445
  let v722 : BitVec 1 := Scalar.xori v720 v721
  let c0_i32_443 : BitVec 32 := 0#32
  let v719 : BitVec 1 := Scalar.cmpi .ne v718 c0_i32_443
  let v723 : BitVec 1 := Scalar.andi v722 v719
  let v724 : BitVec 32 := Scalar.addi v718 v717
  let v725 : BitVec 32 := Scalar.select v723 v724 v718
  let c1_i32_446 : BitVec 32 := 1#32
  let v726 : BitVec 1 := Scalar.cmpi .ne v725 c1_i32_446
  let v727 : BitVec 1 := Scalar.ori v715 v726
  let v728 : BitVec 32 := Scalar.extui v727
  let c0_i32_447 : BitVec 32 := 0#32
  let v729 : BitVec 1 := Scalar.cmpi .ne v728 c0_i32_447
  v729

def k0_off48 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_418 : BitVec 32 := 6#32
  let v684 : BitVec 32 := Scalar.subi v2 c6_i32_418
  let c16_i32_419 : BitVec 32 := 16#32
  let v685 : BitVec 32 := Scalar.addi v684 c16_i32_419
  let c16_i32_420 : BitVec 32 := 16#32
  let c0_i32_421 : BitVec 32 := 0#32
  let v686 : BitVec 1 := Scalar.cmpi .eq c16_i32_420 c0_i32_421
  let c1_i32_422 : BitVec 32 := 1#32
  let v687 : BitVec 32 := Scalar.select v686 c1_i32_422 c16_i32_420
  let v688 : BitVec 32 := Scalar.remsi v685 v687
  let c0_i32_424 : BitVec 32 := 0#32
  let v690 : BitVec 1 := Scalar.cmpi .slt v688 c0_i32_424
  let c0_i32_425 : BitVec 32 := 0#32
  let v691 : BitVec 1 := Scalar.cmpi .slt v687 c0_i32_425
  let v692 : BitVec 1 := Scalar.xori v690 v691
  let c0_i32_423 : BitVec 32 := 0#32
  let v689 : BitVec 1 := Scalar.cmpi .ne v688 c0_i32_423
  let v693 : BitVec 1 := Scalar.andi v692 v689
  let v694 : BitVec 32 := Scalar.addi v688 v687
  let v695 : BitVec 32 := Scalar.select v693 v694 v688
  let v3728 : BitVec 32 := Scalar.muli c2_i32_2344 v695
  let c1_i32_2345 : BitVec 32 := 1#32
  let v3729 : BitVec 32 := Scalar.addi v3728 c1_i32_2345
  ![v3729.toNat]
def k0_off49 (d0 : Dev nD) : Fin 4 → Nat :=
  let c0_i32_2349 : BitVec 32 := 0#32
  let c0_i32_2350 : BitVec 32 := 0#32
  let c2_i32_437 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_418 : BitVec 32 := 6#32
  let v684 : BitVec 32 := Scalar.subi v2 c6_i32_418
  let c16_i32_419 : BitVec 32 := 16#32
  let v685 : BitVec 32 := Scalar.addi v684 c16_i32_419
  let c16_i32_420 : BitVec 32 := 16#32
  let c0_i32_421 : BitVec 32 := 0#32
  let v686 : BitVec 1 := Scalar.cmpi .eq c16_i32_420 c0_i32_421
  let c1_i32_422 : BitVec 32 := 1#32
  let v687 : BitVec 32 := Scalar.select v686 c1_i32_422 c16_i32_420
  let v688 : BitVec 32 := Scalar.remsi v685 v687
  let c0_i32_424 : BitVec 32 := 0#32
  let v690 : BitVec 1 := Scalar.cmpi .slt v688 c0_i32_424
  let c0_i32_425 : BitVec 32 := 0#32
  let v691 : BitVec 1 := Scalar.cmpi .slt v687 c0_i32_425
  let v692 : BitVec 1 := Scalar.xori v690 v691
  let c0_i32_423 : BitVec 32 := 0#32
  let v689 : BitVec 1 := Scalar.cmpi .ne v688 c0_i32_423
  let v693 : BitVec 1 := Scalar.andi v692 v689
  let v694 : BitVec 32 := Scalar.addi v688 v687
  let v695 : BitVec 32 := Scalar.select v693 v694 v688
  let v713 : BitVec 32 := Scalar.muli c2_i32_437 v695
  let c1_i32_438 : BitVec 32 := 1#32
  let v714 : BitVec 32 := Scalar.addi v713 c1_i32_438
  let c10_i32_2342 : BitVec 32 := 10#32
  let c0_i32_2341 : BitVec 32 := 0#32
  let c2_i32_2333 : BitVec 32 := 2#32
  let v3706 : BitVec 32 := Scalar.subi v714 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v714 v3725
  let c64_i32_2343 : BitVec 32 := 64#32
  let v3727 : BitVec 32 := Scalar.muli v3726 c64_i32_2343
  let c0_i32_2351 : BitVec 32 := 0#32
  ![0, 0, v3727.toNat, 0]
def k0_off50 (d0 : Dev nD) : Fin 4 → Nat :=
  let c0_i32_2352 : BitVec 32 := 0#32
  let c0_i32_2353 : BitVec 32 := 0#32
  let c64_i32_2354 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_418 : BitVec 32 := 6#32
  let v684 : BitVec 32 := Scalar.subi v2 c6_i32_418
  let c16_i32_419 : BitVec 32 := 16#32
  let v685 : BitVec 32 := Scalar.addi v684 c16_i32_419
  let c16_i32_420 : BitVec 32 := 16#32
  let c0_i32_421 : BitVec 32 := 0#32
  let v686 : BitVec 1 := Scalar.cmpi .eq c16_i32_420 c0_i32_421
  let c1_i32_422 : BitVec 32 := 1#32
  let v687 : BitVec 32 := Scalar.select v686 c1_i32_422 c16_i32_420
  let v688 : BitVec 32 := Scalar.remsi v685 v687
  let c0_i32_424 : BitVec 32 := 0#32
  let v690 : BitVec 1 := Scalar.cmpi .slt v688 c0_i32_424
  let c0_i32_425 : BitVec 32 := 0#32
  let v691 : BitVec 1 := Scalar.cmpi .slt v687 c0_i32_425
  let v692 : BitVec 1 := Scalar.xori v690 v691
  let c0_i32_423 : BitVec 32 := 0#32
  let v689 : BitVec 1 := Scalar.cmpi .ne v688 c0_i32_423
  let v693 : BitVec 1 := Scalar.andi v692 v689
  let v694 : BitVec 32 := Scalar.addi v688 v687
  let v695 : BitVec 32 := Scalar.select v693 v694 v688
  let c256_i32 : BitVec 32 := 256#32
  let v3705 : BitVec 32 := Scalar.muli v695 c256_i32
  ![0, 0, 64, v3705.toNat]
def k0_cond19 (d0 : Dev nD) : BitVec 1 :=
  let c2_i32_456 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_448 : BitVec 32 := 7#32
  let v730 : BitVec 32 := Scalar.subi v2 c7_i32_448
  let c16_i32_449 : BitVec 32 := 16#32
  let v731 : BitVec 32 := Scalar.addi v730 c16_i32_449
  let c16_i32_450 : BitVec 32 := 16#32
  let c0_i32_451 : BitVec 32 := 0#32
  let v732 : BitVec 1 := Scalar.cmpi .eq c16_i32_450 c0_i32_451
  let c1_i32_452 : BitVec 32 := 1#32
  let v733 : BitVec 32 := Scalar.select v732 c1_i32_452 c16_i32_450
  let v734 : BitVec 32 := Scalar.remsi v731 v733
  let c0_i32_454 : BitVec 32 := 0#32
  let v736 : BitVec 1 := Scalar.cmpi .slt v734 c0_i32_454
  let c0_i32_455 : BitVec 32 := 0#32
  let v737 : BitVec 1 := Scalar.cmpi .slt v733 c0_i32_455
  let v738 : BitVec 1 := Scalar.xori v736 v737
  let c0_i32_453 : BitVec 32 := 0#32
  let v735 : BitVec 1 := Scalar.cmpi .ne v734 c0_i32_453
  let v739 : BitVec 1 := Scalar.andi v738 v735
  let v740 : BitVec 32 := Scalar.addi v734 v733
  let v741 : BitVec 32 := Scalar.select v739 v740 v734
  let v742 : BitVec 32 := Scalar.muli c2_i32_456 v741
  let c0_i32_457 : BitVec 32 := 0#32
  let v743 : BitVec 32 := Scalar.addi v742 c0_i32_457
  let c1_i32_458 : BitVec 32 := 1#32
  let v744 : BitVec 1 := Scalar.cmpi .eq v743 c1_i32_458
  let c3_i32_459 : BitVec 32 := 3#32
  let c0_i32_460 : BitVec 32 := 0#32
  let v745 : BitVec 1 := Scalar.cmpi .eq c3_i32_459 c0_i32_460
  let c1_i32_461 : BitVec 32 := 1#32
  let v746 : BitVec 32 := Scalar.select v745 c1_i32_461 c3_i32_459
  let v747 : BitVec 32 := Scalar.remsi v743 v746
  let c0_i32_463 : BitVec 32 := 0#32
  let v749 : BitVec 1 := Scalar.cmpi .slt v747 c0_i32_463
  let c0_i32_464 : BitVec 32 := 0#32
  let v750 : BitVec 1 := Scalar.cmpi .slt v746 c0_i32_464
  let v751 : BitVec 1 := Scalar.xori v749 v750
  let c0_i32_462 : BitVec 32 := 0#32
  let v748 : BitVec 1 := Scalar.cmpi .ne v747 c0_i32_462
  let v752 : BitVec 1 := Scalar.andi v751 v748
  let v753 : BitVec 32 := Scalar.addi v747 v746
  let v754 : BitVec 32 := Scalar.select v752 v753 v747
  let c1_i32_465 : BitVec 32 := 1#32
  let v755 : BitVec 1 := Scalar.cmpi .ne v754 c1_i32_465
  let v756 : BitVec 1 := Scalar.ori v744 v755
  let v757 : BitVec 32 := Scalar.extui v756
  let c0_i32_466 : BitVec 32 := 0#32
  let v758 : BitVec 1 := Scalar.cmpi .ne v757 c0_i32_466
  v758

def k0_off51 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_448 : BitVec 32 := 7#32
  let v730 : BitVec 32 := Scalar.subi v2 c7_i32_448
  let c16_i32_449 : BitVec 32 := 16#32
  let v731 : BitVec 32 := Scalar.addi v730 c16_i32_449
  let c16_i32_450 : BitVec 32 := 16#32
  let c0_i32_451 : BitVec 32 := 0#32
  let v732 : BitVec 1 := Scalar.cmpi .eq c16_i32_450 c0_i32_451
  let c1_i32_452 : BitVec 32 := 1#32
  let v733 : BitVec 32 := Scalar.select v732 c1_i32_452 c16_i32_450
  let v734 : BitVec 32 := Scalar.remsi v731 v733
  let c0_i32_454 : BitVec 32 := 0#32
  let v736 : BitVec 1 := Scalar.cmpi .slt v734 c0_i32_454
  let c0_i32_455 : BitVec 32 := 0#32
  let v737 : BitVec 1 := Scalar.cmpi .slt v733 c0_i32_455
  let v738 : BitVec 1 := Scalar.xori v736 v737
  let c0_i32_453 : BitVec 32 := 0#32
  let v735 : BitVec 1 := Scalar.cmpi .ne v734 c0_i32_453
  let v739 : BitVec 1 := Scalar.andi v738 v735
  let v740 : BitVec 32 := Scalar.addi v734 v733
  let v741 : BitVec 32 := Scalar.select v739 v740 v734
  let v3728 : BitVec 32 := Scalar.muli c2_i32_2344 v741
  let c0_i32_2345 : BitVec 32 := 0#32
  let v3729 : BitVec 32 := Scalar.addi v3728 c0_i32_2345
  ![v3729.toNat]
def k0_off52 (d0 : Dev nD) : Fin 4 → Nat :=
  let c0_i32_2349 : BitVec 32 := 0#32
  let c0_i32_2350 : BitVec 32 := 0#32
  let c2_i32_456 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_448 : BitVec 32 := 7#32
  let v730 : BitVec 32 := Scalar.subi v2 c7_i32_448
  let c16_i32_449 : BitVec 32 := 16#32
  let v731 : BitVec 32 := Scalar.addi v730 c16_i32_449
  let c16_i32_450 : BitVec 32 := 16#32
  let c0_i32_451 : BitVec 32 := 0#32
  let v732 : BitVec 1 := Scalar.cmpi .eq c16_i32_450 c0_i32_451
  let c1_i32_452 : BitVec 32 := 1#32
  let v733 : BitVec 32 := Scalar.select v732 c1_i32_452 c16_i32_450
  let v734 : BitVec 32 := Scalar.remsi v731 v733
  let c0_i32_454 : BitVec 32 := 0#32
  let v736 : BitVec 1 := Scalar.cmpi .slt v734 c0_i32_454
  let c0_i32_455 : BitVec 32 := 0#32
  let v737 : BitVec 1 := Scalar.cmpi .slt v733 c0_i32_455
  let v738 : BitVec 1 := Scalar.xori v736 v737
  let c0_i32_453 : BitVec 32 := 0#32
  let v735 : BitVec 1 := Scalar.cmpi .ne v734 c0_i32_453
  let v739 : BitVec 1 := Scalar.andi v738 v735
  let v740 : BitVec 32 := Scalar.addi v734 v733
  let v741 : BitVec 32 := Scalar.select v739 v740 v734
  let v742 : BitVec 32 := Scalar.muli c2_i32_456 v741
  let c0_i32_457 : BitVec 32 := 0#32
  let v743 : BitVec 32 := Scalar.addi v742 c0_i32_457
  let c10_i32_2342 : BitVec 32 := 10#32
  let c0_i32_2341 : BitVec 32 := 0#32
  let c2_i32_2333 : BitVec 32 := 2#32
  let v3706 : BitVec 32 := Scalar.subi v743 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v743 v3725
  let c64_i32_2343 : BitVec 32 := 64#32
  let v3727 : BitVec 32 := Scalar.muli v3726 c64_i32_2343
  let c0_i32_2351 : BitVec 32 := 0#32
  ![0, 0, v3727.toNat, 0]
def k0_off53 (d0 : Dev nD) : Fin 4 → Nat :=
  let c0_i32_2352 : BitVec 32 := 0#32
  let c0_i32_2353 : BitVec 32 := 0#32
  let c0_i32_2354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_448 : BitVec 32 := 7#32
  let v730 : BitVec 32 := Scalar.subi v2 c7_i32_448
  let c16_i32_449 : BitVec 32 := 16#32
  let v731 : BitVec 32 := Scalar.addi v730 c16_i32_449
  let c16_i32_450 : BitVec 32 := 16#32
  let c0_i32_451 : BitVec 32 := 0#32
  let v732 : BitVec 1 := Scalar.cmpi .eq c16_i32_450 c0_i32_451
  let c1_i32_452 : BitVec 32 := 1#32
  let v733 : BitVec 32 := Scalar.select v732 c1_i32_452 c16_i32_450
  let v734 : BitVec 32 := Scalar.remsi v731 v733
  let c0_i32_454 : BitVec 32 := 0#32
  let v736 : BitVec 1 := Scalar.cmpi .slt v734 c0_i32_454
  let c0_i32_455 : BitVec 32 := 0#32
  let v737 : BitVec 1 := Scalar.cmpi .slt v733 c0_i32_455
  let v738 : BitVec 1 := Scalar.xori v736 v737
  let c0_i32_453 : BitVec 32 := 0#32
  let v735 : BitVec 1 := Scalar.cmpi .ne v734 c0_i32_453
  let v739 : BitVec 1 := Scalar.andi v738 v735
  let v740 : BitVec 32 := Scalar.addi v734 v733
  let v741 : BitVec 32 := Scalar.select v739 v740 v734
  let c256_i32 : BitVec 32 := 256#32
  let v3705 : BitVec 32 := Scalar.muli v741 c256_i32
  ![0, 0, 0, v3705.toNat]
def k0_cond20 (d0 : Dev nD) : BitVec 1 :=
  let c2_i32_467 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_448 : BitVec 32 := 7#32
  let v730 : BitVec 32 := Scalar.subi v2 c7_i32_448
  let c16_i32_449 : BitVec 32 := 16#32
  let v731 : BitVec 32 := Scalar.addi v730 c16_i32_449
  let c16_i32_450 : BitVec 32 := 16#32
  let c0_i32_451 : BitVec 32 := 0#32
  let v732 : BitVec 1 := Scalar.cmpi .eq c16_i32_450 c0_i32_451
  let c1_i32_452 : BitVec 32 := 1#32
  let v733 : BitVec 32 := Scalar.select v732 c1_i32_452 c16_i32_450
  let v734 : BitVec 32 := Scalar.remsi v731 v733
  let c0_i32_454 : BitVec 32 := 0#32
  let v736 : BitVec 1 := Scalar.cmpi .slt v734 c0_i32_454
  let c0_i32_455 : BitVec 32 := 0#32
  let v737 : BitVec 1 := Scalar.cmpi .slt v733 c0_i32_455
  let v738 : BitVec 1 := Scalar.xori v736 v737
  let c0_i32_453 : BitVec 32 := 0#32
  let v735 : BitVec 1 := Scalar.cmpi .ne v734 c0_i32_453
  let v739 : BitVec 1 := Scalar.andi v738 v735
  let v740 : BitVec 32 := Scalar.addi v734 v733
  let v741 : BitVec 32 := Scalar.select v739 v740 v734
  let v759 : BitVec 32 := Scalar.muli c2_i32_467 v741
  let c1_i32_468 : BitVec 32 := 1#32
  let v760 : BitVec 32 := Scalar.addi v759 c1_i32_468
  let c1_i32_469 : BitVec 32 := 1#32
  let v761 : BitVec 1 := Scalar.cmpi .eq v760 c1_i32_469
  let c3_i32_470 : BitVec 32 := 3#32
  let c0_i32_471 : BitVec 32 := 0#32
  let v762 : BitVec 1 := Scalar.cmpi .eq c3_i32_470 c0_i32_471
  let c1_i32_472 : BitVec 32 := 1#32
  let v763 : BitVec 32 := Scalar.select v762 c1_i32_472 c3_i32_470
  let v764 : BitVec 32 := Scalar.remsi v760 v763
  let c0_i32_474 : BitVec 32 := 0#32
  let v766 : BitVec 1 := Scalar.cmpi .slt v764 c0_i32_474
  let c0_i32_475 : BitVec 32 := 0#32
  let v767 : BitVec 1 := Scalar.cmpi .slt v763 c0_i32_475
  let v768 : BitVec 1 := Scalar.xori v766 v767
  let c0_i32_473 : BitVec 32 := 0#32
  let v765 : BitVec 1 := Scalar.cmpi .ne v764 c0_i32_473
  let v769 : BitVec 1 := Scalar.andi v768 v765
  let v770 : BitVec 32 := Scalar.addi v764 v763
  let v771 : BitVec 32 := Scalar.select v769 v770 v764
  let c1_i32_476 : BitVec 32 := 1#32
  let v772 : BitVec 1 := Scalar.cmpi .ne v771 c1_i32_476
  let v773 : BitVec 1 := Scalar.ori v761 v772
  let v774 : BitVec 32 := Scalar.extui v773
  let c0_i32_477 : BitVec 32 := 0#32
  let v775 : BitVec 1 := Scalar.cmpi .ne v774 c0_i32_477
  v775

def k0_off54 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_448 : BitVec 32 := 7#32
  let v730 : BitVec 32 := Scalar.subi v2 c7_i32_448
  let c16_i32_449 : BitVec 32 := 16#32
  let v731 : BitVec 32 := Scalar.addi v730 c16_i32_449
  let c16_i32_450 : BitVec 32 := 16#32
  let c0_i32_451 : BitVec 32 := 0#32
  let v732 : BitVec 1 := Scalar.cmpi .eq c16_i32_450 c0_i32_451
  let c1_i32_452 : BitVec 32 := 1#32
  let v733 : BitVec 32 := Scalar.select v732 c1_i32_452 c16_i32_450
  let v734 : BitVec 32 := Scalar.remsi v731 v733
  let c0_i32_454 : BitVec 32 := 0#32
  let v736 : BitVec 1 := Scalar.cmpi .slt v734 c0_i32_454
  let c0_i32_455 : BitVec 32 := 0#32
  let v737 : BitVec 1 := Scalar.cmpi .slt v733 c0_i32_455
  let v738 : BitVec 1 := Scalar.xori v736 v737
  let c0_i32_453 : BitVec 32 := 0#32
  let v735 : BitVec 1 := Scalar.cmpi .ne v734 c0_i32_453
  let v739 : BitVec 1 := Scalar.andi v738 v735
  let v740 : BitVec 32 := Scalar.addi v734 v733
  let v741 : BitVec 32 := Scalar.select v739 v740 v734
  let v3728 : BitVec 32 := Scalar.muli c2_i32_2344 v741
  let c1_i32_2345 : BitVec 32 := 1#32
  let v3729 : BitVec 32 := Scalar.addi v3728 c1_i32_2345
  ![v3729.toNat]
def k0_off55 (d0 : Dev nD) : Fin 4 → Nat :=
  let c0_i32_2349 : BitVec 32 := 0#32
  let c0_i32_2350 : BitVec 32 := 0#32
  let c2_i32_467 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_448 : BitVec 32 := 7#32
  let v730 : BitVec 32 := Scalar.subi v2 c7_i32_448
  let c16_i32_449 : BitVec 32 := 16#32
  let v731 : BitVec 32 := Scalar.addi v730 c16_i32_449
  let c16_i32_450 : BitVec 32 := 16#32
  let c0_i32_451 : BitVec 32 := 0#32
  let v732 : BitVec 1 := Scalar.cmpi .eq c16_i32_450 c0_i32_451
  let c1_i32_452 : BitVec 32 := 1#32
  let v733 : BitVec 32 := Scalar.select v732 c1_i32_452 c16_i32_450
  let v734 : BitVec 32 := Scalar.remsi v731 v733
  let c0_i32_454 : BitVec 32 := 0#32
  let v736 : BitVec 1 := Scalar.cmpi .slt v734 c0_i32_454
  let c0_i32_455 : BitVec 32 := 0#32
  let v737 : BitVec 1 := Scalar.cmpi .slt v733 c0_i32_455
  let v738 : BitVec 1 := Scalar.xori v736 v737
  let c0_i32_453 : BitVec 32 := 0#32
  let v735 : BitVec 1 := Scalar.cmpi .ne v734 c0_i32_453
  let v739 : BitVec 1 := Scalar.andi v738 v735
  let v740 : BitVec 32 := Scalar.addi v734 v733
  let v741 : BitVec 32 := Scalar.select v739 v740 v734
  let v759 : BitVec 32 := Scalar.muli c2_i32_467 v741
  let c1_i32_468 : BitVec 32 := 1#32
  let v760 : BitVec 32 := Scalar.addi v759 c1_i32_468
  let c10_i32_2342 : BitVec 32 := 10#32
  let c0_i32_2341 : BitVec 32 := 0#32
  let c2_i32_2333 : BitVec 32 := 2#32
  let v3706 : BitVec 32 := Scalar.subi v760 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v760 v3725
  let c64_i32_2343 : BitVec 32 := 64#32
  let v3727 : BitVec 32 := Scalar.muli v3726 c64_i32_2343
  let c0_i32_2351 : BitVec 32 := 0#32
  ![0, 0, v3727.toNat, 0]
def k0_off56 (d0 : Dev nD) : Fin 4 → Nat :=
  let c0_i32_2352 : BitVec 32 := 0#32
  let c0_i32_2353 : BitVec 32 := 0#32
  let c64_i32_2354 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_448 : BitVec 32 := 7#32
  let v730 : BitVec 32 := Scalar.subi v2 c7_i32_448
  let c16_i32_449 : BitVec 32 := 16#32
  let v731 : BitVec 32 := Scalar.addi v730 c16_i32_449
  let c16_i32_450 : BitVec 32 := 16#32
  let c0_i32_451 : BitVec 32 := 0#32
  let v732 : BitVec 1 := Scalar.cmpi .eq c16_i32_450 c0_i32_451
  let c1_i32_452 : BitVec 32 := 1#32
  let v733 : BitVec 32 := Scalar.select v732 c1_i32_452 c16_i32_450
  let v734 : BitVec 32 := Scalar.remsi v731 v733
  let c0_i32_454 : BitVec 32 := 0#32
  let v736 : BitVec 1 := Scalar.cmpi .slt v734 c0_i32_454
  let c0_i32_455 : BitVec 32 := 0#32
  let v737 : BitVec 1 := Scalar.cmpi .slt v733 c0_i32_455
  let v738 : BitVec 1 := Scalar.xori v736 v737
  let c0_i32_453 : BitVec 32 := 0#32
  let v735 : BitVec 1 := Scalar.cmpi .ne v734 c0_i32_453
  let v739 : BitVec 1 := Scalar.andi v738 v735
  let v740 : BitVec 32 := Scalar.addi v734 v733
  let v741 : BitVec 32 := Scalar.select v739 v740 v734
  let c256_i32 : BitVec 32 := 256#32
  let v3705 : BitVec 32 := Scalar.muli v741 c256_i32
  ![0, 0, 64, v3705.toNat]
def k0_cond21 (d0 : Dev nD) : BitVec 1 :=
  let c2_i32_486 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_478 : BitVec 32 := 8#32
  let v776 : BitVec 32 := Scalar.subi v2 c8_i32_478
  let c16_i32_479 : BitVec 32 := 16#32
  let v777 : BitVec 32 := Scalar.addi v776 c16_i32_479
  let c16_i32_480 : BitVec 32 := 16#32
  let c0_i32_481 : BitVec 32 := 0#32
  let v778 : BitVec 1 := Scalar.cmpi .eq c16_i32_480 c0_i32_481
  let c1_i32_482 : BitVec 32 := 1#32
  let v779 : BitVec 32 := Scalar.select v778 c1_i32_482 c16_i32_480
  let v780 : BitVec 32 := Scalar.remsi v777 v779
  let c0_i32_484 : BitVec 32 := 0#32
  let v782 : BitVec 1 := Scalar.cmpi .slt v780 c0_i32_484
  let c0_i32_485 : BitVec 32 := 0#32
  let v783 : BitVec 1 := Scalar.cmpi .slt v779 c0_i32_485
  let v784 : BitVec 1 := Scalar.xori v782 v783
  let c0_i32_483 : BitVec 32 := 0#32
  let v781 : BitVec 1 := Scalar.cmpi .ne v780 c0_i32_483
  let v785 : BitVec 1 := Scalar.andi v784 v781
  let v786 : BitVec 32 := Scalar.addi v780 v779
  let v787 : BitVec 32 := Scalar.select v785 v786 v780
  let v788 : BitVec 32 := Scalar.muli c2_i32_486 v787
  let c0_i32_487 : BitVec 32 := 0#32
  let v789 : BitVec 32 := Scalar.addi v788 c0_i32_487
  let c1_i32_488 : BitVec 32 := 1#32
  let v790 : BitVec 1 := Scalar.cmpi .eq v789 c1_i32_488
  let c3_i32_489 : BitVec 32 := 3#32
  let c0_i32_490 : BitVec 32 := 0#32
  let v791 : BitVec 1 := Scalar.cmpi .eq c3_i32_489 c0_i32_490
  let c1_i32_491 : BitVec 32 := 1#32
  let v792 : BitVec 32 := Scalar.select v791 c1_i32_491 c3_i32_489
  let v793 : BitVec 32 := Scalar.remsi v789 v792
  let c0_i32_493 : BitVec 32 := 0#32
  let v795 : BitVec 1 := Scalar.cmpi .slt v793 c0_i32_493
  let c0_i32_494 : BitVec 32 := 0#32
  let v796 : BitVec 1 := Scalar.cmpi .slt v792 c0_i32_494
  let v797 : BitVec 1 := Scalar.xori v795 v796
  let c0_i32_492 : BitVec 32 := 0#32
  let v794 : BitVec 1 := Scalar.cmpi .ne v793 c0_i32_492
  let v798 : BitVec 1 := Scalar.andi v797 v794
  let v799 : BitVec 32 := Scalar.addi v793 v792
  let v800 : BitVec 32 := Scalar.select v798 v799 v793
  let c1_i32_495 : BitVec 32 := 1#32
  let v801 : BitVec 1 := Scalar.cmpi .ne v800 c1_i32_495
  let v802 : BitVec 1 := Scalar.ori v790 v801
  let v803 : BitVec 32 := Scalar.extui v802
  let c0_i32_496 : BitVec 32 := 0#32
  let v804 : BitVec 1 := Scalar.cmpi .ne v803 c0_i32_496
  v804

def k0_off57 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_478 : BitVec 32 := 8#32
  let v776 : BitVec 32 := Scalar.subi v2 c8_i32_478
  let c16_i32_479 : BitVec 32 := 16#32
  let v777 : BitVec 32 := Scalar.addi v776 c16_i32_479
  let c16_i32_480 : BitVec 32 := 16#32
  let c0_i32_481 : BitVec 32 := 0#32
  let v778 : BitVec 1 := Scalar.cmpi .eq c16_i32_480 c0_i32_481
  let c1_i32_482 : BitVec 32 := 1#32
  let v779 : BitVec 32 := Scalar.select v778 c1_i32_482 c16_i32_480
  let v780 : BitVec 32 := Scalar.remsi v777 v779
  let c0_i32_484 : BitVec 32 := 0#32
  let v782 : BitVec 1 := Scalar.cmpi .slt v780 c0_i32_484
  let c0_i32_485 : BitVec 32 := 0#32
  let v783 : BitVec 1 := Scalar.cmpi .slt v779 c0_i32_485
  let v784 : BitVec 1 := Scalar.xori v782 v783
  let c0_i32_483 : BitVec 32 := 0#32
  let v781 : BitVec 1 := Scalar.cmpi .ne v780 c0_i32_483
  let v785 : BitVec 1 := Scalar.andi v784 v781
  let v786 : BitVec 32 := Scalar.addi v780 v779
  let v787 : BitVec 32 := Scalar.select v785 v786 v780
  let v3728 : BitVec 32 := Scalar.muli c2_i32_2344 v787
  let c0_i32_2345 : BitVec 32 := 0#32
  let v3729 : BitVec 32 := Scalar.addi v3728 c0_i32_2345
  ![v3729.toNat]
def k0_off58 (d0 : Dev nD) : Fin 4 → Nat :=
  let c0_i32_2349 : BitVec 32 := 0#32
  let c0_i32_2350 : BitVec 32 := 0#32
  let c2_i32_486 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_478 : BitVec 32 := 8#32
  let v776 : BitVec 32 := Scalar.subi v2 c8_i32_478
  let c16_i32_479 : BitVec 32 := 16#32
  let v777 : BitVec 32 := Scalar.addi v776 c16_i32_479
  let c16_i32_480 : BitVec 32 := 16#32
  let c0_i32_481 : BitVec 32 := 0#32
  let v778 : BitVec 1 := Scalar.cmpi .eq c16_i32_480 c0_i32_481
  let c1_i32_482 : BitVec 32 := 1#32
  let v779 : BitVec 32 := Scalar.select v778 c1_i32_482 c16_i32_480
  let v780 : BitVec 32 := Scalar.remsi v777 v779
  let c0_i32_484 : BitVec 32 := 0#32
  let v782 : BitVec 1 := Scalar.cmpi .slt v780 c0_i32_484
  let c0_i32_485 : BitVec 32 := 0#32
  let v783 : BitVec 1 := Scalar.cmpi .slt v779 c0_i32_485
  let v784 : BitVec 1 := Scalar.xori v782 v783
  let c0_i32_483 : BitVec 32 := 0#32
  let v781 : BitVec 1 := Scalar.cmpi .ne v780 c0_i32_483
  let v785 : BitVec 1 := Scalar.andi v784 v781
  let v786 : BitVec 32 := Scalar.addi v780 v779
  let v787 : BitVec 32 := Scalar.select v785 v786 v780
  let v788 : BitVec 32 := Scalar.muli c2_i32_486 v787
  let c0_i32_487 : BitVec 32 := 0#32
  let v789 : BitVec 32 := Scalar.addi v788 c0_i32_487
  let c10_i32_2342 : BitVec 32 := 10#32
  let c0_i32_2341 : BitVec 32 := 0#32
  let c2_i32_2333 : BitVec 32 := 2#32
  let v3706 : BitVec 32 := Scalar.subi v789 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v789 v3725
  let c64_i32_2343 : BitVec 32 := 64#32
  let v3727 : BitVec 32 := Scalar.muli v3726 c64_i32_2343
  let c0_i32_2351 : BitVec 32 := 0#32
  ![0, 0, v3727.toNat, 0]
def k0_off59 (d0 : Dev nD) : Fin 4 → Nat :=
  let c0_i32_2352 : BitVec 32 := 0#32
  let c0_i32_2353 : BitVec 32 := 0#32
  let c0_i32_2354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_478 : BitVec 32 := 8#32
  let v776 : BitVec 32 := Scalar.subi v2 c8_i32_478
  let c16_i32_479 : BitVec 32 := 16#32
  let v777 : BitVec 32 := Scalar.addi v776 c16_i32_479
  let c16_i32_480 : BitVec 32 := 16#32
  let c0_i32_481 : BitVec 32 := 0#32
  let v778 : BitVec 1 := Scalar.cmpi .eq c16_i32_480 c0_i32_481
  let c1_i32_482 : BitVec 32 := 1#32
  let v779 : BitVec 32 := Scalar.select v778 c1_i32_482 c16_i32_480
  let v780 : BitVec 32 := Scalar.remsi v777 v779
  let c0_i32_484 : BitVec 32 := 0#32
  let v782 : BitVec 1 := Scalar.cmpi .slt v780 c0_i32_484
  let c0_i32_485 : BitVec 32 := 0#32
  let v783 : BitVec 1 := Scalar.cmpi .slt v779 c0_i32_485
  let v784 : BitVec 1 := Scalar.xori v782 v783
  let c0_i32_483 : BitVec 32 := 0#32
  let v781 : BitVec 1 := Scalar.cmpi .ne v780 c0_i32_483
  let v785 : BitVec 1 := Scalar.andi v784 v781
  let v786 : BitVec 32 := Scalar.addi v780 v779
  let v787 : BitVec 32 := Scalar.select v785 v786 v780
  let c256_i32 : BitVec 32 := 256#32
  let v3705 : BitVec 32 := Scalar.muli v787 c256_i32
  ![0, 0, 0, v3705.toNat]
def k0_cond22 (d0 : Dev nD) : BitVec 1 :=
  let c2_i32_497 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_478 : BitVec 32 := 8#32
  let v776 : BitVec 32 := Scalar.subi v2 c8_i32_478
  let c16_i32_479 : BitVec 32 := 16#32
  let v777 : BitVec 32 := Scalar.addi v776 c16_i32_479
  let c16_i32_480 : BitVec 32 := 16#32
  let c0_i32_481 : BitVec 32 := 0#32
  let v778 : BitVec 1 := Scalar.cmpi .eq c16_i32_480 c0_i32_481
  let c1_i32_482 : BitVec 32 := 1#32
  let v779 : BitVec 32 := Scalar.select v778 c1_i32_482 c16_i32_480
  let v780 : BitVec 32 := Scalar.remsi v777 v779
  let c0_i32_484 : BitVec 32 := 0#32
  let v782 : BitVec 1 := Scalar.cmpi .slt v780 c0_i32_484
  let c0_i32_485 : BitVec 32 := 0#32
  let v783 : BitVec 1 := Scalar.cmpi .slt v779 c0_i32_485
  let v784 : BitVec 1 := Scalar.xori v782 v783
  let c0_i32_483 : BitVec 32 := 0#32
  let v781 : BitVec 1 := Scalar.cmpi .ne v780 c0_i32_483
  let v785 : BitVec 1 := Scalar.andi v784 v781
  let v786 : BitVec 32 := Scalar.addi v780 v779
  let v787 : BitVec 32 := Scalar.select v785 v786 v780
  let v805 : BitVec 32 := Scalar.muli c2_i32_497 v787
  let c1_i32_498 : BitVec 32 := 1#32
  let v806 : BitVec 32 := Scalar.addi v805 c1_i32_498
  let c1_i32_499 : BitVec 32 := 1#32
  let v807 : BitVec 1 := Scalar.cmpi .eq v806 c1_i32_499
  let c3_i32_500 : BitVec 32 := 3#32
  let c0_i32_501 : BitVec 32 := 0#32
  let v808 : BitVec 1 := Scalar.cmpi .eq c3_i32_500 c0_i32_501
  let c1_i32_502 : BitVec 32 := 1#32
  let v809 : BitVec 32 := Scalar.select v808 c1_i32_502 c3_i32_500
  let v810 : BitVec 32 := Scalar.remsi v806 v809
  let c0_i32_504 : BitVec 32 := 0#32
  let v812 : BitVec 1 := Scalar.cmpi .slt v810 c0_i32_504
  let c0_i32_505 : BitVec 32 := 0#32
  let v813 : BitVec 1 := Scalar.cmpi .slt v809 c0_i32_505
  let v814 : BitVec 1 := Scalar.xori v812 v813
  let c0_i32_503 : BitVec 32 := 0#32
  let v811 : BitVec 1 := Scalar.cmpi .ne v810 c0_i32_503
  let v815 : BitVec 1 := Scalar.andi v814 v811
  let v816 : BitVec 32 := Scalar.addi v810 v809
  let v817 : BitVec 32 := Scalar.select v815 v816 v810
  let c1_i32_506 : BitVec 32 := 1#32
  let v818 : BitVec 1 := Scalar.cmpi .ne v817 c1_i32_506
  let v819 : BitVec 1 := Scalar.ori v807 v818
  let v820 : BitVec 32 := Scalar.extui v819
  let c0_i32_507 : BitVec 32 := 0#32
  let v821 : BitVec 1 := Scalar.cmpi .ne v820 c0_i32_507
  v821

def k0_off60 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_478 : BitVec 32 := 8#32
  let v776 : BitVec 32 := Scalar.subi v2 c8_i32_478
  let c16_i32_479 : BitVec 32 := 16#32
  let v777 : BitVec 32 := Scalar.addi v776 c16_i32_479
  let c16_i32_480 : BitVec 32 := 16#32
  let c0_i32_481 : BitVec 32 := 0#32
  let v778 : BitVec 1 := Scalar.cmpi .eq c16_i32_480 c0_i32_481
  let c1_i32_482 : BitVec 32 := 1#32
  let v779 : BitVec 32 := Scalar.select v778 c1_i32_482 c16_i32_480
  let v780 : BitVec 32 := Scalar.remsi v777 v779
  let c0_i32_484 : BitVec 32 := 0#32
  let v782 : BitVec 1 := Scalar.cmpi .slt v780 c0_i32_484
  let c0_i32_485 : BitVec 32 := 0#32
  let v783 : BitVec 1 := Scalar.cmpi .slt v779 c0_i32_485
  let v784 : BitVec 1 := Scalar.xori v782 v783
  let c0_i32_483 : BitVec 32 := 0#32
  let v781 : BitVec 1 := Scalar.cmpi .ne v780 c0_i32_483
  let v785 : BitVec 1 := Scalar.andi v784 v781
  let v786 : BitVec 32 := Scalar.addi v780 v779
  let v787 : BitVec 32 := Scalar.select v785 v786 v780
  let v3728 : BitVec 32 := Scalar.muli c2_i32_2344 v787
  let c1_i32_2345 : BitVec 32 := 1#32
  let v3729 : BitVec 32 := Scalar.addi v3728 c1_i32_2345
  ![v3729.toNat]
def k0_off61 (d0 : Dev nD) : Fin 4 → Nat :=
  let c0_i32_2348 : BitVec 32 := 0#32
  let c0_i32_2349 : BitVec 32 := 0#32
  let c2_i32_497 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_478 : BitVec 32 := 8#32
  let v776 : BitVec 32 := Scalar.subi v2 c8_i32_478
  let c16_i32_479 : BitVec 32 := 16#32
  let v777 : BitVec 32 := Scalar.addi v776 c16_i32_479
  let c16_i32_480 : BitVec 32 := 16#32
  let c0_i32_481 : BitVec 32 := 0#32
  let v778 : BitVec 1 := Scalar.cmpi .eq c16_i32_480 c0_i32_481
  let c1_i32_482 : BitVec 32 := 1#32
  let v779 : BitVec 32 := Scalar.select v778 c1_i32_482 c16_i32_480
  let v780 : BitVec 32 := Scalar.remsi v777 v779
  let c0_i32_484 : BitVec 32 := 0#32
  let v782 : BitVec 1 := Scalar.cmpi .slt v780 c0_i32_484
  let c0_i32_485 : BitVec 32 := 0#32
  let v783 : BitVec 1 := Scalar.cmpi .slt v779 c0_i32_485
  let v784 : BitVec 1 := Scalar.xori v782 v783
  let c0_i32_483 : BitVec 32 := 0#32
  let v781 : BitVec 1 := Scalar.cmpi .ne v780 c0_i32_483
  let v785 : BitVec 1 := Scalar.andi v784 v781
  let v786 : BitVec 32 := Scalar.addi v780 v779
  let v787 : BitVec 32 := Scalar.select v785 v786 v780
  let v805 : BitVec 32 := Scalar.muli c2_i32_497 v787
  let c1_i32_498 : BitVec 32 := 1#32
  let v806 : BitVec 32 := Scalar.addi v805 c1_i32_498
  let c10_i32_2342 : BitVec 32 := 10#32
  let c0_i32_2341 : BitVec 32 := 0#32
  let c2_i32_2333 : BitVec 32 := 2#32
  let v3706 : BitVec 32 := Scalar.subi v806 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v806 v3725
  let c64_i32_2343 : BitVec 32 := 64#32
  let v3727 : BitVec 32 := Scalar.muli v3726 c64_i32_2343
  let c0_i32_2350 : BitVec 32 := 0#32
  ![0, 0, v3727.toNat, 0]
def k0_off62 (d0 : Dev nD) : Fin 4 → Nat :=
  let c0_i32_2351 : BitVec 32 := 0#32
  let c0_i32_2352 : BitVec 32 := 0#32
  let c64_i32_2353 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_478 : BitVec 32 := 8#32
  let v776 : BitVec 32 := Scalar.subi v2 c8_i32_478
  let c16_i32_479 : BitVec 32 := 16#32
  let v777 : BitVec 32 := Scalar.addi v776 c16_i32_479
  let c16_i32_480 : BitVec 32 := 16#32
  let c0_i32_481 : BitVec 32 := 0#32
  let v778 : BitVec 1 := Scalar.cmpi .eq c16_i32_480 c0_i32_481
  let c1_i32_482 : BitVec 32 := 1#32
  let v779 : BitVec 32 := Scalar.select v778 c1_i32_482 c16_i32_480
  let v780 : BitVec 32 := Scalar.remsi v777 v779
  let c0_i32_484 : BitVec 32 := 0#32
  let v782 : BitVec 1 := Scalar.cmpi .slt v780 c0_i32_484
  let c0_i32_485 : BitVec 32 := 0#32
  let v783 : BitVec 1 := Scalar.cmpi .slt v779 c0_i32_485
  let v784 : BitVec 1 := Scalar.xori v782 v783
  let c0_i32_483 : BitVec 32 := 0#32
  let v781 : BitVec 1 := Scalar.cmpi .ne v780 c0_i32_483
  let v785 : BitVec 1 := Scalar.andi v784 v781
  let v786 : BitVec 32 := Scalar.addi v780 v779
  let v787 : BitVec 32 := Scalar.select v785 v786 v780
  let c256_i32 : BitVec 32 := 256#32
  let v3705 : BitVec 32 := Scalar.muli v787 c256_i32
  ![0, 0, 64, v3705.toNat]
def k0_cond23 (d0 : Dev nD) : BitVec 1 :=
  let c2_i32_516 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_508 : BitVec 32 := 9#32
  let v822 : BitVec 32 := Scalar.subi v2 c9_i32_508
  let c16_i32_509 : BitVec 32 := 16#32
  let v823 : BitVec 32 := Scalar.addi v822 c16_i32_509
  let c16_i32_510 : BitVec 32 := 16#32
  let c0_i32_511 : BitVec 32 := 0#32
  let v824 : BitVec 1 := Scalar.cmpi .eq c16_i32_510 c0_i32_511
  let c1_i32_512 : BitVec 32 := 1#32
  let v825 : BitVec 32 := Scalar.select v824 c1_i32_512 c16_i32_510
  let v826 : BitVec 32 := Scalar.remsi v823 v825
  let c0_i32_514 : BitVec 32 := 0#32
  let v828 : BitVec 1 := Scalar.cmpi .slt v826 c0_i32_514
  let c0_i32_515 : BitVec 32 := 0#32
  let v829 : BitVec 1 := Scalar.cmpi .slt v825 c0_i32_515
  let v830 : BitVec 1 := Scalar.xori v828 v829
  let c0_i32_513 : BitVec 32 := 0#32
  let v827 : BitVec 1 := Scalar.cmpi .ne v826 c0_i32_513
  let v831 : BitVec 1 := Scalar.andi v830 v827
  let v832 : BitVec 32 := Scalar.addi v826 v825
  let v833 : BitVec 32 := Scalar.select v831 v832 v826
  let v834 : BitVec 32 := Scalar.muli c2_i32_516 v833
  let c0_i32_517 : BitVec 32 := 0#32
  let v835 : BitVec 32 := Scalar.addi v834 c0_i32_517
  let c1_i32_518 : BitVec 32 := 1#32
  let v836 : BitVec 1 := Scalar.cmpi .eq v835 c1_i32_518
  let c3_i32_519 : BitVec 32 := 3#32
  let c0_i32_520 : BitVec 32 := 0#32
  let v837 : BitVec 1 := Scalar.cmpi .eq c3_i32_519 c0_i32_520
  let c1_i32_521 : BitVec 32 := 1#32
  let v838 : BitVec 32 := Scalar.select v837 c1_i32_521 c3_i32_519
  let v839 : BitVec 32 := Scalar.remsi v835 v838
  let c0_i32_523 : BitVec 32 := 0#32
  let v841 : BitVec 1 := Scalar.cmpi .slt v839 c0_i32_523
  let c0_i32_524 : BitVec 32 := 0#32
  let v842 : BitVec 1 := Scalar.cmpi .slt v838 c0_i32_524
  let v843 : BitVec 1 := Scalar.xori v841 v842
  let c0_i32_522 : BitVec 32 := 0#32
  let v840 : BitVec 1 := Scalar.cmpi .ne v839 c0_i32_522
  let v844 : BitVec 1 := Scalar.andi v843 v840
  let v845 : BitVec 32 := Scalar.addi v839 v838
  let v846 : BitVec 32 := Scalar.select v844 v845 v839
  let c1_i32_525 : BitVec 32 := 1#32
  let v847 : BitVec 1 := Scalar.cmpi .ne v846 c1_i32_525
  let v848 : BitVec 1 := Scalar.ori v836 v847
  let v849 : BitVec 32 := Scalar.extui v848
  let c0_i32_526 : BitVec 32 := 0#32
  let v850 : BitVec 1 := Scalar.cmpi .ne v849 c0_i32_526
  v850

def k0_off63 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_508 : BitVec 32 := 9#32
  let v822 : BitVec 32 := Scalar.subi v2 c9_i32_508
  let c16_i32_509 : BitVec 32 := 16#32
  let v823 : BitVec 32 := Scalar.addi v822 c16_i32_509
  let c16_i32_510 : BitVec 32 := 16#32
  let c0_i32_511 : BitVec 32 := 0#32
  let v824 : BitVec 1 := Scalar.cmpi .eq c16_i32_510 c0_i32_511
  let c1_i32_512 : BitVec 32 := 1#32
  let v825 : BitVec 32 := Scalar.select v824 c1_i32_512 c16_i32_510
  let v826 : BitVec 32 := Scalar.remsi v823 v825
  let c0_i32_514 : BitVec 32 := 0#32
  let v828 : BitVec 1 := Scalar.cmpi .slt v826 c0_i32_514
  let c0_i32_515 : BitVec 32 := 0#32
  let v829 : BitVec 1 := Scalar.cmpi .slt v825 c0_i32_515
  let v830 : BitVec 1 := Scalar.xori v828 v829
  let c0_i32_513 : BitVec 32 := 0#32
  let v827 : BitVec 1 := Scalar.cmpi .ne v826 c0_i32_513
  let v831 : BitVec 1 := Scalar.andi v830 v827
  let v832 : BitVec 32 := Scalar.addi v826 v825
  let v833 : BitVec 32 := Scalar.select v831 v832 v826
  let v3728 : BitVec 32 := Scalar.muli c2_i32_2344 v833
  let c0_i32_2345 : BitVec 32 := 0#32
  let v3729 : BitVec 32 := Scalar.addi v3728 c0_i32_2345
  ![v3729.toNat]
def k0_off64 (d0 : Dev nD) : Fin 4 → Nat :=
  let c0_i32_2348 : BitVec 32 := 0#32
  let c0_i32_2349 : BitVec 32 := 0#32
  let c2_i32_516 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_508 : BitVec 32 := 9#32
  let v822 : BitVec 32 := Scalar.subi v2 c9_i32_508
  let c16_i32_509 : BitVec 32 := 16#32
  let v823 : BitVec 32 := Scalar.addi v822 c16_i32_509
  let c16_i32_510 : BitVec 32 := 16#32
  let c0_i32_511 : BitVec 32 := 0#32
  let v824 : BitVec 1 := Scalar.cmpi .eq c16_i32_510 c0_i32_511
  let c1_i32_512 : BitVec 32 := 1#32
  let v825 : BitVec 32 := Scalar.select v824 c1_i32_512 c16_i32_510
  let v826 : BitVec 32 := Scalar.remsi v823 v825
  let c0_i32_514 : BitVec 32 := 0#32
  let v828 : BitVec 1 := Scalar.cmpi .slt v826 c0_i32_514
  let c0_i32_515 : BitVec 32 := 0#32
  let v829 : BitVec 1 := Scalar.cmpi .slt v825 c0_i32_515
  let v830 : BitVec 1 := Scalar.xori v828 v829
  let c0_i32_513 : BitVec 32 := 0#32
  let v827 : BitVec 1 := Scalar.cmpi .ne v826 c0_i32_513
  let v831 : BitVec 1 := Scalar.andi v830 v827
  let v832 : BitVec 32 := Scalar.addi v826 v825
  let v833 : BitVec 32 := Scalar.select v831 v832 v826
  let v834 : BitVec 32 := Scalar.muli c2_i32_516 v833
  let c0_i32_517 : BitVec 32 := 0#32
  let v835 : BitVec 32 := Scalar.addi v834 c0_i32_517
  let c10_i32_2342 : BitVec 32 := 10#32
  let c0_i32_2341 : BitVec 32 := 0#32
  let c2_i32_2333 : BitVec 32 := 2#32
  let v3706 : BitVec 32 := Scalar.subi v835 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v835 v3725
  let c64_i32_2343 : BitVec 32 := 64#32
  let v3727 : BitVec 32 := Scalar.muli v3726 c64_i32_2343
  let c0_i32_2350 : BitVec 32 := 0#32
  ![0, 0, v3727.toNat, 0]
def k0_off65 (d0 : Dev nD) : Fin 4 → Nat :=
  let c0_i32_2351 : BitVec 32 := 0#32
  let c0_i32_2352 : BitVec 32 := 0#32
  let c0_i32_2353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_508 : BitVec 32 := 9#32
  let v822 : BitVec 32 := Scalar.subi v2 c9_i32_508
  let c16_i32_509 : BitVec 32 := 16#32
  let v823 : BitVec 32 := Scalar.addi v822 c16_i32_509
  let c16_i32_510 : BitVec 32 := 16#32
  let c0_i32_511 : BitVec 32 := 0#32
  let v824 : BitVec 1 := Scalar.cmpi .eq c16_i32_510 c0_i32_511
  let c1_i32_512 : BitVec 32 := 1#32
  let v825 : BitVec 32 := Scalar.select v824 c1_i32_512 c16_i32_510
  let v826 : BitVec 32 := Scalar.remsi v823 v825
  let c0_i32_514 : BitVec 32 := 0#32
  let v828 : BitVec 1 := Scalar.cmpi .slt v826 c0_i32_514
  let c0_i32_515 : BitVec 32 := 0#32
  let v829 : BitVec 1 := Scalar.cmpi .slt v825 c0_i32_515
  let v830 : BitVec 1 := Scalar.xori v828 v829
  let c0_i32_513 : BitVec 32 := 0#32
  let v827 : BitVec 1 := Scalar.cmpi .ne v826 c0_i32_513
  let v831 : BitVec 1 := Scalar.andi v830 v827
  let v832 : BitVec 32 := Scalar.addi v826 v825
  let v833 : BitVec 32 := Scalar.select v831 v832 v826
  let c256_i32 : BitVec 32 := 256#32
  let v3705 : BitVec 32 := Scalar.muli v833 c256_i32
  ![0, 0, 0, v3705.toNat]
def k0_cond24 (d0 : Dev nD) : BitVec 1 :=
  let c2_i32_527 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_508 : BitVec 32 := 9#32
  let v822 : BitVec 32 := Scalar.subi v2 c9_i32_508
  let c16_i32_509 : BitVec 32 := 16#32
  let v823 : BitVec 32 := Scalar.addi v822 c16_i32_509
  let c16_i32_510 : BitVec 32 := 16#32
  let c0_i32_511 : BitVec 32 := 0#32
  let v824 : BitVec 1 := Scalar.cmpi .eq c16_i32_510 c0_i32_511
  let c1_i32_512 : BitVec 32 := 1#32
  let v825 : BitVec 32 := Scalar.select v824 c1_i32_512 c16_i32_510
  let v826 : BitVec 32 := Scalar.remsi v823 v825
  let c0_i32_514 : BitVec 32 := 0#32
  let v828 : BitVec 1 := Scalar.cmpi .slt v826 c0_i32_514
  let c0_i32_515 : BitVec 32 := 0#32
  let v829 : BitVec 1 := Scalar.cmpi .slt v825 c0_i32_515
  let v830 : BitVec 1 := Scalar.xori v828 v829
  let c0_i32_513 : BitVec 32 := 0#32
  let v827 : BitVec 1 := Scalar.cmpi .ne v826 c0_i32_513
  let v831 : BitVec 1 := Scalar.andi v830 v827
  let v832 : BitVec 32 := Scalar.addi v826 v825
  let v833 : BitVec 32 := Scalar.select v831 v832 v826
  let v851 : BitVec 32 := Scalar.muli c2_i32_527 v833
  let c1_i32_528 : BitVec 32 := 1#32
  let v852 : BitVec 32 := Scalar.addi v851 c1_i32_528
  let c1_i32_529 : BitVec 32 := 1#32
  let v853 : BitVec 1 := Scalar.cmpi .eq v852 c1_i32_529
  let c3_i32_530 : BitVec 32 := 3#32
  let c0_i32_531 : BitVec 32 := 0#32
  let v854 : BitVec 1 := Scalar.cmpi .eq c3_i32_530 c0_i32_531
  let c1_i32_532 : BitVec 32 := 1#32
  let v855 : BitVec 32 := Scalar.select v854 c1_i32_532 c3_i32_530
  let v856 : BitVec 32 := Scalar.remsi v852 v855
  let c0_i32_534 : BitVec 32 := 0#32
  let v858 : BitVec 1 := Scalar.cmpi .slt v856 c0_i32_534
  let c0_i32_535 : BitVec 32 := 0#32
  let v859 : BitVec 1 := Scalar.cmpi .slt v855 c0_i32_535
  let v860 : BitVec 1 := Scalar.xori v858 v859
  let c0_i32_533 : BitVec 32 := 0#32
  let v857 : BitVec 1 := Scalar.cmpi .ne v856 c0_i32_533
  let v861 : BitVec 1 := Scalar.andi v860 v857
  let v862 : BitVec 32 := Scalar.addi v856 v855
  let v863 : BitVec 32 := Scalar.select v861 v862 v856
  let c1_i32_536 : BitVec 32 := 1#32
  let v864 : BitVec 1 := Scalar.cmpi .ne v863 c1_i32_536
  let v865 : BitVec 1 := Scalar.ori v853 v864
  let v866 : BitVec 32 := Scalar.extui v865
  let c0_i32_537 : BitVec 32 := 0#32
  let v867 : BitVec 1 := Scalar.cmpi .ne v866 c0_i32_537
  v867

def k0_off66 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_508 : BitVec 32 := 9#32
  let v822 : BitVec 32 := Scalar.subi v2 c9_i32_508
  let c16_i32_509 : BitVec 32 := 16#32
  let v823 : BitVec 32 := Scalar.addi v822 c16_i32_509
  let c16_i32_510 : BitVec 32 := 16#32
  let c0_i32_511 : BitVec 32 := 0#32
  let v824 : BitVec 1 := Scalar.cmpi .eq c16_i32_510 c0_i32_511
  let c1_i32_512 : BitVec 32 := 1#32
  let v825 : BitVec 32 := Scalar.select v824 c1_i32_512 c16_i32_510
  let v826 : BitVec 32 := Scalar.remsi v823 v825
  let c0_i32_514 : BitVec 32 := 0#32
  let v828 : BitVec 1 := Scalar.cmpi .slt v826 c0_i32_514
  let c0_i32_515 : BitVec 32 := 0#32
  let v829 : BitVec 1 := Scalar.cmpi .slt v825 c0_i32_515
  let v830 : BitVec 1 := Scalar.xori v828 v829
  let c0_i32_513 : BitVec 32 := 0#32
  let v827 : BitVec 1 := Scalar.cmpi .ne v826 c0_i32_513
  let v831 : BitVec 1 := Scalar.andi v830 v827
  let v832 : BitVec 32 := Scalar.addi v826 v825
  let v833 : BitVec 32 := Scalar.select v831 v832 v826
  let v3728 : BitVec 32 := Scalar.muli c2_i32_2344 v833
  let c1_i32_2345 : BitVec 32 := 1#32
  let v3729 : BitVec 32 := Scalar.addi v3728 c1_i32_2345
  ![v3729.toNat]
def k0_off67 (d0 : Dev nD) : Fin 4 → Nat :=
  let c0_i32_2348 : BitVec 32 := 0#32
  let c0_i32_2349 : BitVec 32 := 0#32
  let c2_i32_527 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_508 : BitVec 32 := 9#32
  let v822 : BitVec 32 := Scalar.subi v2 c9_i32_508
  let c16_i32_509 : BitVec 32 := 16#32
  let v823 : BitVec 32 := Scalar.addi v822 c16_i32_509
  let c16_i32_510 : BitVec 32 := 16#32
  let c0_i32_511 : BitVec 32 := 0#32
  let v824 : BitVec 1 := Scalar.cmpi .eq c16_i32_510 c0_i32_511
  let c1_i32_512 : BitVec 32 := 1#32
  let v825 : BitVec 32 := Scalar.select v824 c1_i32_512 c16_i32_510
  let v826 : BitVec 32 := Scalar.remsi v823 v825
  let c0_i32_514 : BitVec 32 := 0#32
  let v828 : BitVec 1 := Scalar.cmpi .slt v826 c0_i32_514
  let c0_i32_515 : BitVec 32 := 0#32
  let v829 : BitVec 1 := Scalar.cmpi .slt v825 c0_i32_515
  let v830 : BitVec 1 := Scalar.xori v828 v829
  let c0_i32_513 : BitVec 32 := 0#32
  let v827 : BitVec 1 := Scalar.cmpi .ne v826 c0_i32_513
  let v831 : BitVec 1 := Scalar.andi v830 v827
  let v832 : BitVec 32 := Scalar.addi v826 v825
  let v833 : BitVec 32 := Scalar.select v831 v832 v826
  let v851 : BitVec 32 := Scalar.muli c2_i32_527 v833
  let c1_i32_528 : BitVec 32 := 1#32
  let v852 : BitVec 32 := Scalar.addi v851 c1_i32_528
  let c10_i32_2342 : BitVec 32 := 10#32
  let c0_i32_2341 : BitVec 32 := 0#32
  let c2_i32_2333 : BitVec 32 := 2#32
  let v3706 : BitVec 32 := Scalar.subi v852 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v852 v3725
  let c64_i32_2343 : BitVec 32 := 64#32
  let v3727 : BitVec 32 := Scalar.muli v3726 c64_i32_2343
  let c0_i32_2350 : BitVec 32 := 0#32
  ![0, 0, v3727.toNat, 0]
def k0_off68 (d0 : Dev nD) : Fin 4 → Nat :=
  let c0_i32_2351 : BitVec 32 := 0#32
  let c0_i32_2352 : BitVec 32 := 0#32
  let c64_i32_2353 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_508 : BitVec 32 := 9#32
  let v822 : BitVec 32 := Scalar.subi v2 c9_i32_508
  let c16_i32_509 : BitVec 32 := 16#32
  let v823 : BitVec 32 := Scalar.addi v822 c16_i32_509
  let c16_i32_510 : BitVec 32 := 16#32
  let c0_i32_511 : BitVec 32 := 0#32
  let v824 : BitVec 1 := Scalar.cmpi .eq c16_i32_510 c0_i32_511
  let c1_i32_512 : BitVec 32 := 1#32
  let v825 : BitVec 32 := Scalar.select v824 c1_i32_512 c16_i32_510
  let v826 : BitVec 32 := Scalar.remsi v823 v825
  let c0_i32_514 : BitVec 32 := 0#32
  let v828 : BitVec 1 := Scalar.cmpi .slt v826 c0_i32_514
  let c0_i32_515 : BitVec 32 := 0#32
  let v829 : BitVec 1 := Scalar.cmpi .slt v825 c0_i32_515
  let v830 : BitVec 1 := Scalar.xori v828 v829
  let c0_i32_513 : BitVec 32 := 0#32
  let v827 : BitVec 1 := Scalar.cmpi .ne v826 c0_i32_513
  let v831 : BitVec 1 := Scalar.andi v830 v827
  let v832 : BitVec 32 := Scalar.addi v826 v825
  let v833 : BitVec 32 := Scalar.select v831 v832 v826
  let c256_i32 : BitVec 32 := 256#32
  let v3705 : BitVec 32 := Scalar.muli v833 c256_i32
  ![0, 0, 64, v3705.toNat]
def k0_cond25 (d0 : Dev nD) : BitVec 1 :=
  let c2_i32_546 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_538 : BitVec 32 := 10#32
  let v868 : BitVec 32 := Scalar.subi v2 c10_i32_538
  let c16_i32_539 : BitVec 32 := 16#32
  let v869 : BitVec 32 := Scalar.addi v868 c16_i32_539
  let c16_i32_540 : BitVec 32 := 16#32
  let c0_i32_541 : BitVec 32 := 0#32
  let v870 : BitVec 1 := Scalar.cmpi .eq c16_i32_540 c0_i32_541
  let c1_i32_542 : BitVec 32 := 1#32
  let v871 : BitVec 32 := Scalar.select v870 c1_i32_542 c16_i32_540
  let v872 : BitVec 32 := Scalar.remsi v869 v871
  let c0_i32_544 : BitVec 32 := 0#32
  let v874 : BitVec 1 := Scalar.cmpi .slt v872 c0_i32_544
  let c0_i32_545 : BitVec 32 := 0#32
  let v875 : BitVec 1 := Scalar.cmpi .slt v871 c0_i32_545
  let v876 : BitVec 1 := Scalar.xori v874 v875
  let c0_i32_543 : BitVec 32 := 0#32
  let v873 : BitVec 1 := Scalar.cmpi .ne v872 c0_i32_543
  let v877 : BitVec 1 := Scalar.andi v876 v873
  let v878 : BitVec 32 := Scalar.addi v872 v871
  let v879 : BitVec 32 := Scalar.select v877 v878 v872
  let v880 : BitVec 32 := Scalar.muli c2_i32_546 v879
  let c0_i32_547 : BitVec 32 := 0#32
  let v881 : BitVec 32 := Scalar.addi v880 c0_i32_547
  let c1_i32_548 : BitVec 32 := 1#32
  let v882 : BitVec 1 := Scalar.cmpi .eq v881 c1_i32_548
  let c3_i32_549 : BitVec 32 := 3#32
  let c0_i32_550 : BitVec 32 := 0#32
  let v883 : BitVec 1 := Scalar.cmpi .eq c3_i32_549 c0_i32_550
  let c1_i32_551 : BitVec 32 := 1#32
  let v884 : BitVec 32 := Scalar.select v883 c1_i32_551 c3_i32_549
  let v885 : BitVec 32 := Scalar.remsi v881 v884
  let c0_i32_553 : BitVec 32 := 0#32
  let v887 : BitVec 1 := Scalar.cmpi .slt v885 c0_i32_553
  let c0_i32_554 : BitVec 32 := 0#32
  let v888 : BitVec 1 := Scalar.cmpi .slt v884 c0_i32_554
  let v889 : BitVec 1 := Scalar.xori v887 v888
  let c0_i32_552 : BitVec 32 := 0#32
  let v886 : BitVec 1 := Scalar.cmpi .ne v885 c0_i32_552
  let v890 : BitVec 1 := Scalar.andi v889 v886
  let v891 : BitVec 32 := Scalar.addi v885 v884
  let v892 : BitVec 32 := Scalar.select v890 v891 v885
  let c1_i32_555 : BitVec 32 := 1#32
  let v893 : BitVec 1 := Scalar.cmpi .ne v892 c1_i32_555
  let v894 : BitVec 1 := Scalar.ori v882 v893
  let v895 : BitVec 32 := Scalar.extui v894
  let c0_i32_556 : BitVec 32 := 0#32
  let v896 : BitVec 1 := Scalar.cmpi .ne v895 c0_i32_556
  v896

def k0_off69 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_538 : BitVec 32 := 10#32
  let v868 : BitVec 32 := Scalar.subi v2 c10_i32_538
  let c16_i32_539 : BitVec 32 := 16#32
  let v869 : BitVec 32 := Scalar.addi v868 c16_i32_539
  let c16_i32_540 : BitVec 32 := 16#32
  let c0_i32_541 : BitVec 32 := 0#32
  let v870 : BitVec 1 := Scalar.cmpi .eq c16_i32_540 c0_i32_541
  let c1_i32_542 : BitVec 32 := 1#32
  let v871 : BitVec 32 := Scalar.select v870 c1_i32_542 c16_i32_540
  let v872 : BitVec 32 := Scalar.remsi v869 v871
  let c0_i32_544 : BitVec 32 := 0#32
  let v874 : BitVec 1 := Scalar.cmpi .slt v872 c0_i32_544
  let c0_i32_545 : BitVec 32 := 0#32
  let v875 : BitVec 1 := Scalar.cmpi .slt v871 c0_i32_545
  let v876 : BitVec 1 := Scalar.xori v874 v875
  let c0_i32_543 : BitVec 32 := 0#32
  let v873 : BitVec 1 := Scalar.cmpi .ne v872 c0_i32_543
  let v877 : BitVec 1 := Scalar.andi v876 v873
  let v878 : BitVec 32 := Scalar.addi v872 v871
  let v879 : BitVec 32 := Scalar.select v877 v878 v872
  let v3728 : BitVec 32 := Scalar.muli c2_i32_2344 v879
  let c0_i32_2345 : BitVec 32 := 0#32
  let v3729 : BitVec 32 := Scalar.addi v3728 c0_i32_2345
  ![v3729.toNat]
def k0_off70 (d0 : Dev nD) : Fin 4 → Nat :=
  let c0_i32_2348 : BitVec 32 := 0#32
  let c0_i32_2349 : BitVec 32 := 0#32
  let c2_i32_546 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_538 : BitVec 32 := 10#32
  let v868 : BitVec 32 := Scalar.subi v2 c10_i32_538
  let c16_i32_539 : BitVec 32 := 16#32
  let v869 : BitVec 32 := Scalar.addi v868 c16_i32_539
  let c16_i32_540 : BitVec 32 := 16#32
  let c0_i32_541 : BitVec 32 := 0#32
  let v870 : BitVec 1 := Scalar.cmpi .eq c16_i32_540 c0_i32_541
  let c1_i32_542 : BitVec 32 := 1#32
  let v871 : BitVec 32 := Scalar.select v870 c1_i32_542 c16_i32_540
  let v872 : BitVec 32 := Scalar.remsi v869 v871
  let c0_i32_544 : BitVec 32 := 0#32
  let v874 : BitVec 1 := Scalar.cmpi .slt v872 c0_i32_544
  let c0_i32_545 : BitVec 32 := 0#32
  let v875 : BitVec 1 := Scalar.cmpi .slt v871 c0_i32_545
  let v876 : BitVec 1 := Scalar.xori v874 v875
  let c0_i32_543 : BitVec 32 := 0#32
  let v873 : BitVec 1 := Scalar.cmpi .ne v872 c0_i32_543
  let v877 : BitVec 1 := Scalar.andi v876 v873
  let v878 : BitVec 32 := Scalar.addi v872 v871
  let v879 : BitVec 32 := Scalar.select v877 v878 v872
  let v880 : BitVec 32 := Scalar.muli c2_i32_546 v879
  let c0_i32_547 : BitVec 32 := 0#32
  let v881 : BitVec 32 := Scalar.addi v880 c0_i32_547
  let c10_i32_2342 : BitVec 32 := 10#32
  let c0_i32_2341 : BitVec 32 := 0#32
  let c2_i32_2333 : BitVec 32 := 2#32
  let v3706 : BitVec 32 := Scalar.subi v881 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v881 v3725
  let c64_i32_2343 : BitVec 32 := 64#32
  let v3727 : BitVec 32 := Scalar.muli v3726 c64_i32_2343
  let c0_i32_2350 : BitVec 32 := 0#32
  ![0, 0, v3727.toNat, 0]
def k0_off71 (d0 : Dev nD) : Fin 4 → Nat :=
  let c0_i32_2351 : BitVec 32 := 0#32
  let c0_i32_2352 : BitVec 32 := 0#32
  let c0_i32_2353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_538 : BitVec 32 := 10#32
  let v868 : BitVec 32 := Scalar.subi v2 c10_i32_538
  let c16_i32_539 : BitVec 32 := 16#32
  let v869 : BitVec 32 := Scalar.addi v868 c16_i32_539
  let c16_i32_540 : BitVec 32 := 16#32
  let c0_i32_541 : BitVec 32 := 0#32
  let v870 : BitVec 1 := Scalar.cmpi .eq c16_i32_540 c0_i32_541
  let c1_i32_542 : BitVec 32 := 1#32
  let v871 : BitVec 32 := Scalar.select v870 c1_i32_542 c16_i32_540
  let v872 : BitVec 32 := Scalar.remsi v869 v871
  let c0_i32_544 : BitVec 32 := 0#32
  let v874 : BitVec 1 := Scalar.cmpi .slt v872 c0_i32_544
  let c0_i32_545 : BitVec 32 := 0#32
  let v875 : BitVec 1 := Scalar.cmpi .slt v871 c0_i32_545
  let v876 : BitVec 1 := Scalar.xori v874 v875
  let c0_i32_543 : BitVec 32 := 0#32
  let v873 : BitVec 1 := Scalar.cmpi .ne v872 c0_i32_543
  let v877 : BitVec 1 := Scalar.andi v876 v873
  let v878 : BitVec 32 := Scalar.addi v872 v871
  let v879 : BitVec 32 := Scalar.select v877 v878 v872
  let c256_i32 : BitVec 32 := 256#32
  let v3705 : BitVec 32 := Scalar.muli v879 c256_i32
  ![0, 0, 0, v3705.toNat]
def k0_cond26 (d0 : Dev nD) : BitVec 1 :=
  let c2_i32_557 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_538 : BitVec 32 := 10#32
  let v868 : BitVec 32 := Scalar.subi v2 c10_i32_538
  let c16_i32_539 : BitVec 32 := 16#32
  let v869 : BitVec 32 := Scalar.addi v868 c16_i32_539
  let c16_i32_540 : BitVec 32 := 16#32
  let c0_i32_541 : BitVec 32 := 0#32
  let v870 : BitVec 1 := Scalar.cmpi .eq c16_i32_540 c0_i32_541
  let c1_i32_542 : BitVec 32 := 1#32
  let v871 : BitVec 32 := Scalar.select v870 c1_i32_542 c16_i32_540
  let v872 : BitVec 32 := Scalar.remsi v869 v871
  let c0_i32_544 : BitVec 32 := 0#32
  let v874 : BitVec 1 := Scalar.cmpi .slt v872 c0_i32_544
  let c0_i32_545 : BitVec 32 := 0#32
  let v875 : BitVec 1 := Scalar.cmpi .slt v871 c0_i32_545
  let v876 : BitVec 1 := Scalar.xori v874 v875
  let c0_i32_543 : BitVec 32 := 0#32
  let v873 : BitVec 1 := Scalar.cmpi .ne v872 c0_i32_543
  let v877 : BitVec 1 := Scalar.andi v876 v873
  let v878 : BitVec 32 := Scalar.addi v872 v871
  let v879 : BitVec 32 := Scalar.select v877 v878 v872
  let v897 : BitVec 32 := Scalar.muli c2_i32_557 v879
  let c1_i32_558 : BitVec 32 := 1#32
  let v898 : BitVec 32 := Scalar.addi v897 c1_i32_558
  let c1_i32_559 : BitVec 32 := 1#32
  let v899 : BitVec 1 := Scalar.cmpi .eq v898 c1_i32_559
  let c3_i32_560 : BitVec 32 := 3#32
  let c0_i32_561 : BitVec 32 := 0#32
  let v900 : BitVec 1 := Scalar.cmpi .eq c3_i32_560 c0_i32_561
  let c1_i32_562 : BitVec 32 := 1#32
  let v901 : BitVec 32 := Scalar.select v900 c1_i32_562 c3_i32_560
  let v902 : BitVec 32 := Scalar.remsi v898 v901
  let c0_i32_564 : BitVec 32 := 0#32
  let v904 : BitVec 1 := Scalar.cmpi .slt v902 c0_i32_564
  let c0_i32_565 : BitVec 32 := 0#32
  let v905 : BitVec 1 := Scalar.cmpi .slt v901 c0_i32_565
  let v906 : BitVec 1 := Scalar.xori v904 v905
  let c0_i32_563 : BitVec 32 := 0#32
  let v903 : BitVec 1 := Scalar.cmpi .ne v902 c0_i32_563
  let v907 : BitVec 1 := Scalar.andi v906 v903
  let v908 : BitVec 32 := Scalar.addi v902 v901
  let v909 : BitVec 32 := Scalar.select v907 v908 v902
  let c1_i32_566 : BitVec 32 := 1#32
  let v910 : BitVec 1 := Scalar.cmpi .ne v909 c1_i32_566
  let v911 : BitVec 1 := Scalar.ori v899 v910
  let v912 : BitVec 32 := Scalar.extui v911
  let c0_i32_567 : BitVec 32 := 0#32
  let v913 : BitVec 1 := Scalar.cmpi .ne v912 c0_i32_567
  v913

def k0_off72 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_538 : BitVec 32 := 10#32
  let v868 : BitVec 32 := Scalar.subi v2 c10_i32_538
  let c16_i32_539 : BitVec 32 := 16#32
  let v869 : BitVec 32 := Scalar.addi v868 c16_i32_539
  let c16_i32_540 : BitVec 32 := 16#32
  let c0_i32_541 : BitVec 32 := 0#32
  let v870 : BitVec 1 := Scalar.cmpi .eq c16_i32_540 c0_i32_541
  let c1_i32_542 : BitVec 32 := 1#32
  let v871 : BitVec 32 := Scalar.select v870 c1_i32_542 c16_i32_540
  let v872 : BitVec 32 := Scalar.remsi v869 v871
  let c0_i32_544 : BitVec 32 := 0#32
  let v874 : BitVec 1 := Scalar.cmpi .slt v872 c0_i32_544
  let c0_i32_545 : BitVec 32 := 0#32
  let v875 : BitVec 1 := Scalar.cmpi .slt v871 c0_i32_545
  let v876 : BitVec 1 := Scalar.xori v874 v875
  let c0_i32_543 : BitVec 32 := 0#32
  let v873 : BitVec 1 := Scalar.cmpi .ne v872 c0_i32_543
  let v877 : BitVec 1 := Scalar.andi v876 v873
  let v878 : BitVec 32 := Scalar.addi v872 v871
  let v879 : BitVec 32 := Scalar.select v877 v878 v872
  let v3728 : BitVec 32 := Scalar.muli c2_i32_2344 v879
  let c1_i32_2345 : BitVec 32 := 1#32
  let v3729 : BitVec 32 := Scalar.addi v3728 c1_i32_2345
  ![v3729.toNat]
def k0_off73 (d0 : Dev nD) : Fin 4 → Nat :=
  let c0_i32_2348 : BitVec 32 := 0#32
  let c0_i32_2349 : BitVec 32 := 0#32
  let c2_i32_557 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_538 : BitVec 32 := 10#32
  let v868 : BitVec 32 := Scalar.subi v2 c10_i32_538
  let c16_i32_539 : BitVec 32 := 16#32
  let v869 : BitVec 32 := Scalar.addi v868 c16_i32_539
  let c16_i32_540 : BitVec 32 := 16#32
  let c0_i32_541 : BitVec 32 := 0#32
  let v870 : BitVec 1 := Scalar.cmpi .eq c16_i32_540 c0_i32_541
  let c1_i32_542 : BitVec 32 := 1#32
  let v871 : BitVec 32 := Scalar.select v870 c1_i32_542 c16_i32_540
  let v872 : BitVec 32 := Scalar.remsi v869 v871
  let c0_i32_544 : BitVec 32 := 0#32
  let v874 : BitVec 1 := Scalar.cmpi .slt v872 c0_i32_544
  let c0_i32_545 : BitVec 32 := 0#32
  let v875 : BitVec 1 := Scalar.cmpi .slt v871 c0_i32_545
  let v876 : BitVec 1 := Scalar.xori v874 v875
  let c0_i32_543 : BitVec 32 := 0#32
  let v873 : BitVec 1 := Scalar.cmpi .ne v872 c0_i32_543
  let v877 : BitVec 1 := Scalar.andi v876 v873
  let v878 : BitVec 32 := Scalar.addi v872 v871
  let v879 : BitVec 32 := Scalar.select v877 v878 v872
  let v897 : BitVec 32 := Scalar.muli c2_i32_557 v879
  let c1_i32_558 : BitVec 32 := 1#32
  let v898 : BitVec 32 := Scalar.addi v897 c1_i32_558
  let c10_i32_2342 : BitVec 32 := 10#32
  let c0_i32_2341 : BitVec 32 := 0#32
  let c2_i32_2333 : BitVec 32 := 2#32
  let v3706 : BitVec 32 := Scalar.subi v898 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v898 v3725
  let c64_i32_2343 : BitVec 32 := 64#32
  let v3727 : BitVec 32 := Scalar.muli v3726 c64_i32_2343
  let c0_i32_2350 : BitVec 32 := 0#32
  ![0, 0, v3727.toNat, 0]
def k0_off74 (d0 : Dev nD) : Fin 4 → Nat :=
  let c0_i32_2351 : BitVec 32 := 0#32
  let c0_i32_2352 : BitVec 32 := 0#32
  let c64_i32_2353 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_538 : BitVec 32 := 10#32
  let v868 : BitVec 32 := Scalar.subi v2 c10_i32_538
  let c16_i32_539 : BitVec 32 := 16#32
  let v869 : BitVec 32 := Scalar.addi v868 c16_i32_539
  let c16_i32_540 : BitVec 32 := 16#32
  let c0_i32_541 : BitVec 32 := 0#32
  let v870 : BitVec 1 := Scalar.cmpi .eq c16_i32_540 c0_i32_541
  let c1_i32_542 : BitVec 32 := 1#32
  let v871 : BitVec 32 := Scalar.select v870 c1_i32_542 c16_i32_540
  let v872 : BitVec 32 := Scalar.remsi v869 v871
  let c0_i32_544 : BitVec 32 := 0#32
  let v874 : BitVec 1 := Scalar.cmpi .slt v872 c0_i32_544
  let c0_i32_545 : BitVec 32 := 0#32
  let v875 : BitVec 1 := Scalar.cmpi .slt v871 c0_i32_545
  let v876 : BitVec 1 := Scalar.xori v874 v875
  let c0_i32_543 : BitVec 32 := 0#32
  let v873 : BitVec 1 := Scalar.cmpi .ne v872 c0_i32_543
  let v877 : BitVec 1 := Scalar.andi v876 v873
  let v878 : BitVec 32 := Scalar.addi v872 v871
  let v879 : BitVec 32 := Scalar.select v877 v878 v872
  let c256_i32 : BitVec 32 := 256#32
  let v3705 : BitVec 32 := Scalar.muli v879 c256_i32
  ![0, 0, 64, v3705.toNat]
def k0_cond27 (d0 : Dev nD) : BitVec 1 :=
  let c2_i32_576 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_568 : BitVec 32 := 11#32
  let v914 : BitVec 32 := Scalar.subi v2 c11_i32_568
  let c16_i32_569 : BitVec 32 := 16#32
  let v915 : BitVec 32 := Scalar.addi v914 c16_i32_569
  let c16_i32_570 : BitVec 32 := 16#32
  let c0_i32_571 : BitVec 32 := 0#32
  let v916 : BitVec 1 := Scalar.cmpi .eq c16_i32_570 c0_i32_571
  let c1_i32_572 : BitVec 32 := 1#32
  let v917 : BitVec 32 := Scalar.select v916 c1_i32_572 c16_i32_570
  let v918 : BitVec 32 := Scalar.remsi v915 v917
  let c0_i32_574 : BitVec 32 := 0#32
  let v920 : BitVec 1 := Scalar.cmpi .slt v918 c0_i32_574
  let c0_i32_575 : BitVec 32 := 0#32
  let v921 : BitVec 1 := Scalar.cmpi .slt v917 c0_i32_575
  let v922 : BitVec 1 := Scalar.xori v920 v921
  let c0_i32_573 : BitVec 32 := 0#32
  let v919 : BitVec 1 := Scalar.cmpi .ne v918 c0_i32_573
  let v923 : BitVec 1 := Scalar.andi v922 v919
  let v924 : BitVec 32 := Scalar.addi v918 v917
  let v925 : BitVec 32 := Scalar.select v923 v924 v918
  let v926 : BitVec 32 := Scalar.muli c2_i32_576 v925
  let c0_i32_577 : BitVec 32 := 0#32
  let v927 : BitVec 32 := Scalar.addi v926 c0_i32_577
  let c1_i32_578 : BitVec 32 := 1#32
  let v928 : BitVec 1 := Scalar.cmpi .eq v927 c1_i32_578
  let c3_i32_579 : BitVec 32 := 3#32
  let c0_i32_580 : BitVec 32 := 0#32
  let v929 : BitVec 1 := Scalar.cmpi .eq c3_i32_579 c0_i32_580
  let c1_i32_581 : BitVec 32 := 1#32
  let v930 : BitVec 32 := Scalar.select v929 c1_i32_581 c3_i32_579
  let v931 : BitVec 32 := Scalar.remsi v927 v930
  let c0_i32_583 : BitVec 32 := 0#32
  let v933 : BitVec 1 := Scalar.cmpi .slt v931 c0_i32_583
  let c0_i32_584 : BitVec 32 := 0#32
  let v934 : BitVec 1 := Scalar.cmpi .slt v930 c0_i32_584
  let v935 : BitVec 1 := Scalar.xori v933 v934
  let c0_i32_582 : BitVec 32 := 0#32
  let v932 : BitVec 1 := Scalar.cmpi .ne v931 c0_i32_582
  let v936 : BitVec 1 := Scalar.andi v935 v932
  let v937 : BitVec 32 := Scalar.addi v931 v930
  let v938 : BitVec 32 := Scalar.select v936 v937 v931
  let c1_i32_585 : BitVec 32 := 1#32
  let v939 : BitVec 1 := Scalar.cmpi .ne v938 c1_i32_585
  let v940 : BitVec 1 := Scalar.ori v928 v939
  let v941 : BitVec 32 := Scalar.extui v940
  let c0_i32_586 : BitVec 32 := 0#32
  let v942 : BitVec 1 := Scalar.cmpi .ne v941 c0_i32_586
  v942

def k0_off75 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_568 : BitVec 32 := 11#32
  let v914 : BitVec 32 := Scalar.subi v2 c11_i32_568
  let c16_i32_569 : BitVec 32 := 16#32
  let v915 : BitVec 32 := Scalar.addi v914 c16_i32_569
  let c16_i32_570 : BitVec 32 := 16#32
  let c0_i32_571 : BitVec 32 := 0#32
  let v916 : BitVec 1 := Scalar.cmpi .eq c16_i32_570 c0_i32_571
  let c1_i32_572 : BitVec 32 := 1#32
  let v917 : BitVec 32 := Scalar.select v916 c1_i32_572 c16_i32_570
  let v918 : BitVec 32 := Scalar.remsi v915 v917
  let c0_i32_574 : BitVec 32 := 0#32
  let v920 : BitVec 1 := Scalar.cmpi .slt v918 c0_i32_574
  let c0_i32_575 : BitVec 32 := 0#32
  let v921 : BitVec 1 := Scalar.cmpi .slt v917 c0_i32_575
  let v922 : BitVec 1 := Scalar.xori v920 v921
  let c0_i32_573 : BitVec 32 := 0#32
  let v919 : BitVec 1 := Scalar.cmpi .ne v918 c0_i32_573
  let v923 : BitVec 1 := Scalar.andi v922 v919
  let v924 : BitVec 32 := Scalar.addi v918 v917
  let v925 : BitVec 32 := Scalar.select v923 v924 v918
  let v3728 : BitVec 32 := Scalar.muli c2_i32_2344 v925
  let c0_i32_2345 : BitVec 32 := 0#32
  let v3729 : BitVec 32 := Scalar.addi v3728 c0_i32_2345
  ![v3729.toNat]
def k0_off76 (d0 : Dev nD) : Fin 4 → Nat :=
  let c0_i32_2348 : BitVec 32 := 0#32
  let c0_i32_2349 : BitVec 32 := 0#32
  let c2_i32_576 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_568 : BitVec 32 := 11#32
  let v914 : BitVec 32 := Scalar.subi v2 c11_i32_568
  let c16_i32_569 : BitVec 32 := 16#32
  let v915 : BitVec 32 := Scalar.addi v914 c16_i32_569
  let c16_i32_570 : BitVec 32 := 16#32
  let c0_i32_571 : BitVec 32 := 0#32
  let v916 : BitVec 1 := Scalar.cmpi .eq c16_i32_570 c0_i32_571
  let c1_i32_572 : BitVec 32 := 1#32
  let v917 : BitVec 32 := Scalar.select v916 c1_i32_572 c16_i32_570
  let v918 : BitVec 32 := Scalar.remsi v915 v917
  let c0_i32_574 : BitVec 32 := 0#32
  let v920 : BitVec 1 := Scalar.cmpi .slt v918 c0_i32_574
  let c0_i32_575 : BitVec 32 := 0#32
  let v921 : BitVec 1 := Scalar.cmpi .slt v917 c0_i32_575
  let v922 : BitVec 1 := Scalar.xori v920 v921
  let c0_i32_573 : BitVec 32 := 0#32
  let v919 : BitVec 1 := Scalar.cmpi .ne v918 c0_i32_573
  let v923 : BitVec 1 := Scalar.andi v922 v919
  let v924 : BitVec 32 := Scalar.addi v918 v917
  let v925 : BitVec 32 := Scalar.select v923 v924 v918
  let v926 : BitVec 32 := Scalar.muli c2_i32_576 v925
  let c0_i32_577 : BitVec 32 := 0#32
  let v927 : BitVec 32 := Scalar.addi v926 c0_i32_577
  let c10_i32_2342 : BitVec 32 := 10#32
  let c0_i32_2341 : BitVec 32 := 0#32
  let c2_i32_2333 : BitVec 32 := 2#32
  let v3706 : BitVec 32 := Scalar.subi v927 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v927 v3725
  let c64_i32_2343 : BitVec 32 := 64#32
  let v3727 : BitVec 32 := Scalar.muli v3726 c64_i32_2343
  let c0_i32_2350 : BitVec 32 := 0#32
  ![0, 0, v3727.toNat, 0]
def k0_off77 (d0 : Dev nD) : Fin 4 → Nat :=
  let c0_i32_2351 : BitVec 32 := 0#32
  let c0_i32_2352 : BitVec 32 := 0#32
  let c0_i32_2353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_568 : BitVec 32 := 11#32
  let v914 : BitVec 32 := Scalar.subi v2 c11_i32_568
  let c16_i32_569 : BitVec 32 := 16#32
  let v915 : BitVec 32 := Scalar.addi v914 c16_i32_569
  let c16_i32_570 : BitVec 32 := 16#32
  let c0_i32_571 : BitVec 32 := 0#32
  let v916 : BitVec 1 := Scalar.cmpi .eq c16_i32_570 c0_i32_571
  let c1_i32_572 : BitVec 32 := 1#32
  let v917 : BitVec 32 := Scalar.select v916 c1_i32_572 c16_i32_570
  let v918 : BitVec 32 := Scalar.remsi v915 v917
  let c0_i32_574 : BitVec 32 := 0#32
  let v920 : BitVec 1 := Scalar.cmpi .slt v918 c0_i32_574
  let c0_i32_575 : BitVec 32 := 0#32
  let v921 : BitVec 1 := Scalar.cmpi .slt v917 c0_i32_575
  let v922 : BitVec 1 := Scalar.xori v920 v921
  let c0_i32_573 : BitVec 32 := 0#32
  let v919 : BitVec 1 := Scalar.cmpi .ne v918 c0_i32_573
  let v923 : BitVec 1 := Scalar.andi v922 v919
  let v924 : BitVec 32 := Scalar.addi v918 v917
  let v925 : BitVec 32 := Scalar.select v923 v924 v918
  let c256_i32 : BitVec 32 := 256#32
  let v3705 : BitVec 32 := Scalar.muli v925 c256_i32
  ![0, 0, 0, v3705.toNat]
def k0_cond28 (d0 : Dev nD) : BitVec 1 :=
  let c2_i32_587 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_568 : BitVec 32 := 11#32
  let v914 : BitVec 32 := Scalar.subi v2 c11_i32_568
  let c16_i32_569 : BitVec 32 := 16#32
  let v915 : BitVec 32 := Scalar.addi v914 c16_i32_569
  let c16_i32_570 : BitVec 32 := 16#32
  let c0_i32_571 : BitVec 32 := 0#32
  let v916 : BitVec 1 := Scalar.cmpi .eq c16_i32_570 c0_i32_571
  let c1_i32_572 : BitVec 32 := 1#32
  let v917 : BitVec 32 := Scalar.select v916 c1_i32_572 c16_i32_570
  let v918 : BitVec 32 := Scalar.remsi v915 v917
  let c0_i32_574 : BitVec 32 := 0#32
  let v920 : BitVec 1 := Scalar.cmpi .slt v918 c0_i32_574
  let c0_i32_575 : BitVec 32 := 0#32
  let v921 : BitVec 1 := Scalar.cmpi .slt v917 c0_i32_575
  let v922 : BitVec 1 := Scalar.xori v920 v921
  let c0_i32_573 : BitVec 32 := 0#32
  let v919 : BitVec 1 := Scalar.cmpi .ne v918 c0_i32_573
  let v923 : BitVec 1 := Scalar.andi v922 v919
  let v924 : BitVec 32 := Scalar.addi v918 v917
  let v925 : BitVec 32 := Scalar.select v923 v924 v918
  let v943 : BitVec 32 := Scalar.muli c2_i32_587 v925
  let c1_i32_588 : BitVec 32 := 1#32
  let v944 : BitVec 32 := Scalar.addi v943 c1_i32_588
  let c1_i32_589 : BitVec 32 := 1#32
  let v945 : BitVec 1 := Scalar.cmpi .eq v944 c1_i32_589
  let c3_i32_590 : BitVec 32 := 3#32
  let c0_i32_591 : BitVec 32 := 0#32
  let v946 : BitVec 1 := Scalar.cmpi .eq c3_i32_590 c0_i32_591
  let c1_i32_592 : BitVec 32 := 1#32
  let v947 : BitVec 32 := Scalar.select v946 c1_i32_592 c3_i32_590
  let v948 : BitVec 32 := Scalar.remsi v944 v947
  let c0_i32_594 : BitVec 32 := 0#32
  let v950 : BitVec 1 := Scalar.cmpi .slt v948 c0_i32_594
  let c0_i32_595 : BitVec 32 := 0#32
  let v951 : BitVec 1 := Scalar.cmpi .slt v947 c0_i32_595
  let v952 : BitVec 1 := Scalar.xori v950 v951
  let c0_i32_593 : BitVec 32 := 0#32
  let v949 : BitVec 1 := Scalar.cmpi .ne v948 c0_i32_593
  let v953 : BitVec 1 := Scalar.andi v952 v949
  let v954 : BitVec 32 := Scalar.addi v948 v947
  let v955 : BitVec 32 := Scalar.select v953 v954 v948
  let c1_i32_596 : BitVec 32 := 1#32
  let v956 : BitVec 1 := Scalar.cmpi .ne v955 c1_i32_596
  let v957 : BitVec 1 := Scalar.ori v945 v956
  let v958 : BitVec 32 := Scalar.extui v957
  let c0_i32_597 : BitVec 32 := 0#32
  let v959 : BitVec 1 := Scalar.cmpi .ne v958 c0_i32_597
  v959

def k0_off78 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_568 : BitVec 32 := 11#32
  let v914 : BitVec 32 := Scalar.subi v2 c11_i32_568
  let c16_i32_569 : BitVec 32 := 16#32
  let v915 : BitVec 32 := Scalar.addi v914 c16_i32_569
  let c16_i32_570 : BitVec 32 := 16#32
  let c0_i32_571 : BitVec 32 := 0#32
  let v916 : BitVec 1 := Scalar.cmpi .eq c16_i32_570 c0_i32_571
  let c1_i32_572 : BitVec 32 := 1#32
  let v917 : BitVec 32 := Scalar.select v916 c1_i32_572 c16_i32_570
  let v918 : BitVec 32 := Scalar.remsi v915 v917
  let c0_i32_574 : BitVec 32 := 0#32
  let v920 : BitVec 1 := Scalar.cmpi .slt v918 c0_i32_574
  let c0_i32_575 : BitVec 32 := 0#32
  let v921 : BitVec 1 := Scalar.cmpi .slt v917 c0_i32_575
  let v922 : BitVec 1 := Scalar.xori v920 v921
  let c0_i32_573 : BitVec 32 := 0#32
  let v919 : BitVec 1 := Scalar.cmpi .ne v918 c0_i32_573
  let v923 : BitVec 1 := Scalar.andi v922 v919
  let v924 : BitVec 32 := Scalar.addi v918 v917
  let v925 : BitVec 32 := Scalar.select v923 v924 v918
  let v3728 : BitVec 32 := Scalar.muli c2_i32_2344 v925
  let c1_i32_2345 : BitVec 32 := 1#32
  let v3729 : BitVec 32 := Scalar.addi v3728 c1_i32_2345
  ![v3729.toNat]
def k0_off79 (d0 : Dev nD) : Fin 4 → Nat :=
  let c0_i32_2348 : BitVec 32 := 0#32
  let c0_i32_2349 : BitVec 32 := 0#32
  let c2_i32_587 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_568 : BitVec 32 := 11#32
  let v914 : BitVec 32 := Scalar.subi v2 c11_i32_568
  let c16_i32_569 : BitVec 32 := 16#32
  let v915 : BitVec 32 := Scalar.addi v914 c16_i32_569
  let c16_i32_570 : BitVec 32 := 16#32
  let c0_i32_571 : BitVec 32 := 0#32
  let v916 : BitVec 1 := Scalar.cmpi .eq c16_i32_570 c0_i32_571
  let c1_i32_572 : BitVec 32 := 1#32
  let v917 : BitVec 32 := Scalar.select v916 c1_i32_572 c16_i32_570
  let v918 : BitVec 32 := Scalar.remsi v915 v917
  let c0_i32_574 : BitVec 32 := 0#32
  let v920 : BitVec 1 := Scalar.cmpi .slt v918 c0_i32_574
  let c0_i32_575 : BitVec 32 := 0#32
  let v921 : BitVec 1 := Scalar.cmpi .slt v917 c0_i32_575
  let v922 : BitVec 1 := Scalar.xori v920 v921
  let c0_i32_573 : BitVec 32 := 0#32
  let v919 : BitVec 1 := Scalar.cmpi .ne v918 c0_i32_573
  let v923 : BitVec 1 := Scalar.andi v922 v919
  let v924 : BitVec 32 := Scalar.addi v918 v917
  let v925 : BitVec 32 := Scalar.select v923 v924 v918
  let v943 : BitVec 32 := Scalar.muli c2_i32_587 v925
  let c1_i32_588 : BitVec 32 := 1#32
  let v944 : BitVec 32 := Scalar.addi v943 c1_i32_588
  let c10_i32_2342 : BitVec 32 := 10#32
  let c0_i32_2341 : BitVec 32 := 0#32
  let c2_i32_2333 : BitVec 32 := 2#32
  let v3706 : BitVec 32 := Scalar.subi v944 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v944 v3725
  let c64_i32_2343 : BitVec 32 := 64#32
  let v3727 : BitVec 32 := Scalar.muli v3726 c64_i32_2343
  let c0_i32_2350 : BitVec 32 := 0#32
  ![0, 0, v3727.toNat, 0]
def k0_off80 (d0 : Dev nD) : Fin 4 → Nat :=
  let c0_i32_2351 : BitVec 32 := 0#32
  let c0_i32_2352 : BitVec 32 := 0#32
  let c64_i32_2353 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_568 : BitVec 32 := 11#32
  let v914 : BitVec 32 := Scalar.subi v2 c11_i32_568
  let c16_i32_569 : BitVec 32 := 16#32
  let v915 : BitVec 32 := Scalar.addi v914 c16_i32_569
  let c16_i32_570 : BitVec 32 := 16#32
  let c0_i32_571 : BitVec 32 := 0#32
  let v916 : BitVec 1 := Scalar.cmpi .eq c16_i32_570 c0_i32_571
  let c1_i32_572 : BitVec 32 := 1#32
  let v917 : BitVec 32 := Scalar.select v916 c1_i32_572 c16_i32_570
  let v918 : BitVec 32 := Scalar.remsi v915 v917
  let c0_i32_574 : BitVec 32 := 0#32
  let v920 : BitVec 1 := Scalar.cmpi .slt v918 c0_i32_574
  let c0_i32_575 : BitVec 32 := 0#32
  let v921 : BitVec 1 := Scalar.cmpi .slt v917 c0_i32_575
  let v922 : BitVec 1 := Scalar.xori v920 v921
  let c0_i32_573 : BitVec 32 := 0#32
  let v919 : BitVec 1 := Scalar.cmpi .ne v918 c0_i32_573
  let v923 : BitVec 1 := Scalar.andi v922 v919
  let v924 : BitVec 32 := Scalar.addi v918 v917
  let v925 : BitVec 32 := Scalar.select v923 v924 v918
  let c256_i32 : BitVec 32 := 256#32
  let v3705 : BitVec 32 := Scalar.muli v925 c256_i32
  ![0, 0, 64, v3705.toNat]
def k0_cond29 (d0 : Dev nD) : BitVec 1 :=
  let c2_i32_606 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_598 : BitVec 32 := 12#32
  let v960 : BitVec 32 := Scalar.subi v2 c12_i32_598
  let c16_i32_599 : BitVec 32 := 16#32
  let v961 : BitVec 32 := Scalar.addi v960 c16_i32_599
  let c16_i32_600 : BitVec 32 := 16#32
  let c0_i32_601 : BitVec 32 := 0#32
  let v962 : BitVec 1 := Scalar.cmpi .eq c16_i32_600 c0_i32_601
  let c1_i32_602 : BitVec 32 := 1#32
  let v963 : BitVec 32 := Scalar.select v962 c1_i32_602 c16_i32_600
  let v964 : BitVec 32 := Scalar.remsi v961 v963
  let c0_i32_604 : BitVec 32 := 0#32
  let v966 : BitVec 1 := Scalar.cmpi .slt v964 c0_i32_604
  let c0_i32_605 : BitVec 32 := 0#32
  let v967 : BitVec 1 := Scalar.cmpi .slt v963 c0_i32_605
  let v968 : BitVec 1 := Scalar.xori v966 v967
  let c0_i32_603 : BitVec 32 := 0#32
  let v965 : BitVec 1 := Scalar.cmpi .ne v964 c0_i32_603
  let v969 : BitVec 1 := Scalar.andi v968 v965
  let v970 : BitVec 32 := Scalar.addi v964 v963
  let v971 : BitVec 32 := Scalar.select v969 v970 v964
  let v972 : BitVec 32 := Scalar.muli c2_i32_606 v971
  let c0_i32_607 : BitVec 32 := 0#32
  let v973 : BitVec 32 := Scalar.addi v972 c0_i32_607
  let c1_i32_608 : BitVec 32 := 1#32
  let v974 : BitVec 1 := Scalar.cmpi .eq v973 c1_i32_608
  let c3_i32_609 : BitVec 32 := 3#32
  let c0_i32_610 : BitVec 32 := 0#32
  let v975 : BitVec 1 := Scalar.cmpi .eq c3_i32_609 c0_i32_610
  let c1_i32_611 : BitVec 32 := 1#32
  let v976 : BitVec 32 := Scalar.select v975 c1_i32_611 c3_i32_609
  let v977 : BitVec 32 := Scalar.remsi v973 v976
  let c0_i32_613 : BitVec 32 := 0#32
  let v979 : BitVec 1 := Scalar.cmpi .slt v977 c0_i32_613
  let c0_i32_614 : BitVec 32 := 0#32
  let v980 : BitVec 1 := Scalar.cmpi .slt v976 c0_i32_614
  let v981 : BitVec 1 := Scalar.xori v979 v980
  let c0_i32_612 : BitVec 32 := 0#32
  let v978 : BitVec 1 := Scalar.cmpi .ne v977 c0_i32_612
  let v982 : BitVec 1 := Scalar.andi v981 v978
  let v983 : BitVec 32 := Scalar.addi v977 v976
  let v984 : BitVec 32 := Scalar.select v982 v983 v977
  let c1_i32_615 : BitVec 32 := 1#32
  let v985 : BitVec 1 := Scalar.cmpi .ne v984 c1_i32_615
  let v986 : BitVec 1 := Scalar.ori v974 v985
  let v987 : BitVec 32 := Scalar.extui v986
  let c0_i32_616 : BitVec 32 := 0#32
  let v988 : BitVec 1 := Scalar.cmpi .ne v987 c0_i32_616
  v988

def k0_off81 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_598 : BitVec 32 := 12#32
  let v960 : BitVec 32 := Scalar.subi v2 c12_i32_598
  let c16_i32_599 : BitVec 32 := 16#32
  let v961 : BitVec 32 := Scalar.addi v960 c16_i32_599
  let c16_i32_600 : BitVec 32 := 16#32
  let c0_i32_601 : BitVec 32 := 0#32
  let v962 : BitVec 1 := Scalar.cmpi .eq c16_i32_600 c0_i32_601
  let c1_i32_602 : BitVec 32 := 1#32
  let v963 : BitVec 32 := Scalar.select v962 c1_i32_602 c16_i32_600
  let v964 : BitVec 32 := Scalar.remsi v961 v963
  let c0_i32_604 : BitVec 32 := 0#32
  let v966 : BitVec 1 := Scalar.cmpi .slt v964 c0_i32_604
  let c0_i32_605 : BitVec 32 := 0#32
  let v967 : BitVec 1 := Scalar.cmpi .slt v963 c0_i32_605
  let v968 : BitVec 1 := Scalar.xori v966 v967
  let c0_i32_603 : BitVec 32 := 0#32
  let v965 : BitVec 1 := Scalar.cmpi .ne v964 c0_i32_603
  let v969 : BitVec 1 := Scalar.andi v968 v965
  let v970 : BitVec 32 := Scalar.addi v964 v963
  let v971 : BitVec 32 := Scalar.select v969 v970 v964
  let v3728 : BitVec 32 := Scalar.muli c2_i32_2344 v971
  let c0_i32_2345 : BitVec 32 := 0#32
  let v3729 : BitVec 32 := Scalar.addi v3728 c0_i32_2345
  ![v3729.toNat]
def k0_off82 (d0 : Dev nD) : Fin 4 → Nat :=
  let c0_i32_2348 : BitVec 32 := 0#32
  let c0_i32_2349 : BitVec 32 := 0#32
  let c2_i32_606 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_598 : BitVec 32 := 12#32
  let v960 : BitVec 32 := Scalar.subi v2 c12_i32_598
  let c16_i32_599 : BitVec 32 := 16#32
  let v961 : BitVec 32 := Scalar.addi v960 c16_i32_599
  let c16_i32_600 : BitVec 32 := 16#32
  let c0_i32_601 : BitVec 32 := 0#32
  let v962 : BitVec 1 := Scalar.cmpi .eq c16_i32_600 c0_i32_601
  let c1_i32_602 : BitVec 32 := 1#32
  let v963 : BitVec 32 := Scalar.select v962 c1_i32_602 c16_i32_600
  let v964 : BitVec 32 := Scalar.remsi v961 v963
  let c0_i32_604 : BitVec 32 := 0#32
  let v966 : BitVec 1 := Scalar.cmpi .slt v964 c0_i32_604
  let c0_i32_605 : BitVec 32 := 0#32
  let v967 : BitVec 1 := Scalar.cmpi .slt v963 c0_i32_605
  let v968 : BitVec 1 := Scalar.xori v966 v967
  let c0_i32_603 : BitVec 32 := 0#32
  let v965 : BitVec 1 := Scalar.cmpi .ne v964 c0_i32_603
  let v969 : BitVec 1 := Scalar.andi v968 v965
  let v970 : BitVec 32 := Scalar.addi v964 v963
  let v971 : BitVec 32 := Scalar.select v969 v970 v964
  let v972 : BitVec 32 := Scalar.muli c2_i32_606 v971
  let c0_i32_607 : BitVec 32 := 0#32
  let v973 : BitVec 32 := Scalar.addi v972 c0_i32_607
  let c10_i32_2342 : BitVec 32 := 10#32
  let c0_i32_2341 : BitVec 32 := 0#32
  let c2_i32_2333 : BitVec 32 := 2#32
  let v3706 : BitVec 32 := Scalar.subi v973 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v973 v3725
  let c64_i32_2343 : BitVec 32 := 64#32
  let v3727 : BitVec 32 := Scalar.muli v3726 c64_i32_2343
  let c0_i32_2350 : BitVec 32 := 0#32
  ![0, 0, v3727.toNat, 0]
def k0_off83 (d0 : Dev nD) : Fin 4 → Nat :=
  let c0_i32_2351 : BitVec 32 := 0#32
  let c0_i32_2352 : BitVec 32 := 0#32
  let c0_i32_2353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_598 : BitVec 32 := 12#32
  let v960 : BitVec 32 := Scalar.subi v2 c12_i32_598
  let c16_i32_599 : BitVec 32 := 16#32
  let v961 : BitVec 32 := Scalar.addi v960 c16_i32_599
  let c16_i32_600 : BitVec 32 := 16#32
  let c0_i32_601 : BitVec 32 := 0#32
  let v962 : BitVec 1 := Scalar.cmpi .eq c16_i32_600 c0_i32_601
  let c1_i32_602 : BitVec 32 := 1#32
  let v963 : BitVec 32 := Scalar.select v962 c1_i32_602 c16_i32_600
  let v964 : BitVec 32 := Scalar.remsi v961 v963
  let c0_i32_604 : BitVec 32 := 0#32
  let v966 : BitVec 1 := Scalar.cmpi .slt v964 c0_i32_604
  let c0_i32_605 : BitVec 32 := 0#32
  let v967 : BitVec 1 := Scalar.cmpi .slt v963 c0_i32_605
  let v968 : BitVec 1 := Scalar.xori v966 v967
  let c0_i32_603 : BitVec 32 := 0#32
  let v965 : BitVec 1 := Scalar.cmpi .ne v964 c0_i32_603
  let v969 : BitVec 1 := Scalar.andi v968 v965
  let v970 : BitVec 32 := Scalar.addi v964 v963
  let v971 : BitVec 32 := Scalar.select v969 v970 v964
  let c256_i32 : BitVec 32 := 256#32
  let v3705 : BitVec 32 := Scalar.muli v971 c256_i32
  ![0, 0, 0, v3705.toNat]
def k0_cond30 (d0 : Dev nD) : BitVec 1 :=
  let c2_i32_617 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_598 : BitVec 32 := 12#32
  let v960 : BitVec 32 := Scalar.subi v2 c12_i32_598
  let c16_i32_599 : BitVec 32 := 16#32
  let v961 : BitVec 32 := Scalar.addi v960 c16_i32_599
  let c16_i32_600 : BitVec 32 := 16#32
  let c0_i32_601 : BitVec 32 := 0#32
  let v962 : BitVec 1 := Scalar.cmpi .eq c16_i32_600 c0_i32_601
  let c1_i32_602 : BitVec 32 := 1#32
  let v963 : BitVec 32 := Scalar.select v962 c1_i32_602 c16_i32_600
  let v964 : BitVec 32 := Scalar.remsi v961 v963
  let c0_i32_604 : BitVec 32 := 0#32
  let v966 : BitVec 1 := Scalar.cmpi .slt v964 c0_i32_604
  let c0_i32_605 : BitVec 32 := 0#32
  let v967 : BitVec 1 := Scalar.cmpi .slt v963 c0_i32_605
  let v968 : BitVec 1 := Scalar.xori v966 v967
  let c0_i32_603 : BitVec 32 := 0#32
  let v965 : BitVec 1 := Scalar.cmpi .ne v964 c0_i32_603
  let v969 : BitVec 1 := Scalar.andi v968 v965
  let v970 : BitVec 32 := Scalar.addi v964 v963
  let v971 : BitVec 32 := Scalar.select v969 v970 v964
  let v989 : BitVec 32 := Scalar.muli c2_i32_617 v971
  let c1_i32_618 : BitVec 32 := 1#32
  let v990 : BitVec 32 := Scalar.addi v989 c1_i32_618
  let c1_i32_619 : BitVec 32 := 1#32
  let v991 : BitVec 1 := Scalar.cmpi .eq v990 c1_i32_619
  let c3_i32_620 : BitVec 32 := 3#32
  let c0_i32_621 : BitVec 32 := 0#32
  let v992 : BitVec 1 := Scalar.cmpi .eq c3_i32_620 c0_i32_621
  let c1_i32_622 : BitVec 32 := 1#32
  let v993 : BitVec 32 := Scalar.select v992 c1_i32_622 c3_i32_620
  let v994 : BitVec 32 := Scalar.remsi v990 v993
  let c0_i32_624 : BitVec 32 := 0#32
  let v996 : BitVec 1 := Scalar.cmpi .slt v994 c0_i32_624
  let c0_i32_625 : BitVec 32 := 0#32
  let v997 : BitVec 1 := Scalar.cmpi .slt v993 c0_i32_625
  let v998 : BitVec 1 := Scalar.xori v996 v997
  let c0_i32_623 : BitVec 32 := 0#32
  let v995 : BitVec 1 := Scalar.cmpi .ne v994 c0_i32_623
  let v999 : BitVec 1 := Scalar.andi v998 v995
  let v1000 : BitVec 32 := Scalar.addi v994 v993
  let v1001 : BitVec 32 := Scalar.select v999 v1000 v994
  let c1_i32_626 : BitVec 32 := 1#32
  let v1002 : BitVec 1 := Scalar.cmpi .ne v1001 c1_i32_626
  let v1003 : BitVec 1 := Scalar.ori v991 v1002
  let v1004 : BitVec 32 := Scalar.extui v1003
  let c0_i32_627 : BitVec 32 := 0#32
  let v1005 : BitVec 1 := Scalar.cmpi .ne v1004 c0_i32_627
  v1005

def k0_off84 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_598 : BitVec 32 := 12#32
  let v960 : BitVec 32 := Scalar.subi v2 c12_i32_598
  let c16_i32_599 : BitVec 32 := 16#32
  let v961 : BitVec 32 := Scalar.addi v960 c16_i32_599
  let c16_i32_600 : BitVec 32 := 16#32
  let c0_i32_601 : BitVec 32 := 0#32
  let v962 : BitVec 1 := Scalar.cmpi .eq c16_i32_600 c0_i32_601
  let c1_i32_602 : BitVec 32 := 1#32
  let v963 : BitVec 32 := Scalar.select v962 c1_i32_602 c16_i32_600
  let v964 : BitVec 32 := Scalar.remsi v961 v963
  let c0_i32_604 : BitVec 32 := 0#32
  let v966 : BitVec 1 := Scalar.cmpi .slt v964 c0_i32_604
  let c0_i32_605 : BitVec 32 := 0#32
  let v967 : BitVec 1 := Scalar.cmpi .slt v963 c0_i32_605
  let v968 : BitVec 1 := Scalar.xori v966 v967
  let c0_i32_603 : BitVec 32 := 0#32
  let v965 : BitVec 1 := Scalar.cmpi .ne v964 c0_i32_603
  let v969 : BitVec 1 := Scalar.andi v968 v965
  let v970 : BitVec 32 := Scalar.addi v964 v963
  let v971 : BitVec 32 := Scalar.select v969 v970 v964
  let v3728 : BitVec 32 := Scalar.muli c2_i32_2344 v971
  let c1_i32_2345 : BitVec 32 := 1#32
  let v3729 : BitVec 32 := Scalar.addi v3728 c1_i32_2345
  ![v3729.toNat]
def k0_off85 (d0 : Dev nD) : Fin 4 → Nat :=
  let c0_i32_2348 : BitVec 32 := 0#32
  let c0_i32_2349 : BitVec 32 := 0#32
  let c2_i32_617 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_598 : BitVec 32 := 12#32
  let v960 : BitVec 32 := Scalar.subi v2 c12_i32_598
  let c16_i32_599 : BitVec 32 := 16#32
  let v961 : BitVec 32 := Scalar.addi v960 c16_i32_599
  let c16_i32_600 : BitVec 32 := 16#32
  let c0_i32_601 : BitVec 32 := 0#32
  let v962 : BitVec 1 := Scalar.cmpi .eq c16_i32_600 c0_i32_601
  let c1_i32_602 : BitVec 32 := 1#32
  let v963 : BitVec 32 := Scalar.select v962 c1_i32_602 c16_i32_600
  let v964 : BitVec 32 := Scalar.remsi v961 v963
  let c0_i32_604 : BitVec 32 := 0#32
  let v966 : BitVec 1 := Scalar.cmpi .slt v964 c0_i32_604
  let c0_i32_605 : BitVec 32 := 0#32
  let v967 : BitVec 1 := Scalar.cmpi .slt v963 c0_i32_605
  let v968 : BitVec 1 := Scalar.xori v966 v967
  let c0_i32_603 : BitVec 32 := 0#32
  let v965 : BitVec 1 := Scalar.cmpi .ne v964 c0_i32_603
  let v969 : BitVec 1 := Scalar.andi v968 v965
  let v970 : BitVec 32 := Scalar.addi v964 v963
  let v971 : BitVec 32 := Scalar.select v969 v970 v964
  let v989 : BitVec 32 := Scalar.muli c2_i32_617 v971
  let c1_i32_618 : BitVec 32 := 1#32
  let v990 : BitVec 32 := Scalar.addi v989 c1_i32_618
  let c10_i32_2342 : BitVec 32 := 10#32
  let c0_i32_2341 : BitVec 32 := 0#32
  let c2_i32_2333 : BitVec 32 := 2#32
  let v3706 : BitVec 32 := Scalar.subi v990 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v990 v3725
  let c64_i32_2343 : BitVec 32 := 64#32
  let v3727 : BitVec 32 := Scalar.muli v3726 c64_i32_2343
  let c0_i32_2350 : BitVec 32 := 0#32
  ![0, 0, v3727.toNat, 0]
def k0_off86 (d0 : Dev nD) : Fin 4 → Nat :=
  let c0_i32_2351 : BitVec 32 := 0#32
  let c0_i32_2352 : BitVec 32 := 0#32
  let c64_i32_2353 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_598 : BitVec 32 := 12#32
  let v960 : BitVec 32 := Scalar.subi v2 c12_i32_598
  let c16_i32_599 : BitVec 32 := 16#32
  let v961 : BitVec 32 := Scalar.addi v960 c16_i32_599
  let c16_i32_600 : BitVec 32 := 16#32
  let c0_i32_601 : BitVec 32 := 0#32
  let v962 : BitVec 1 := Scalar.cmpi .eq c16_i32_600 c0_i32_601
  let c1_i32_602 : BitVec 32 := 1#32
  let v963 : BitVec 32 := Scalar.select v962 c1_i32_602 c16_i32_600
  let v964 : BitVec 32 := Scalar.remsi v961 v963
  let c0_i32_604 : BitVec 32 := 0#32
  let v966 : BitVec 1 := Scalar.cmpi .slt v964 c0_i32_604
  let c0_i32_605 : BitVec 32 := 0#32
  let v967 : BitVec 1 := Scalar.cmpi .slt v963 c0_i32_605
  let v968 : BitVec 1 := Scalar.xori v966 v967
  let c0_i32_603 : BitVec 32 := 0#32
  let v965 : BitVec 1 := Scalar.cmpi .ne v964 c0_i32_603
  let v969 : BitVec 1 := Scalar.andi v968 v965
  let v970 : BitVec 32 := Scalar.addi v964 v963
  let v971 : BitVec 32 := Scalar.select v969 v970 v964
  let c256_i32 : BitVec 32 := 256#32
  let v3705 : BitVec 32 := Scalar.muli v971 c256_i32
  ![0, 0, 64, v3705.toNat]
def k0_cond31 (d0 : Dev nD) : BitVec 1 :=
  let c2_i32_636 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_628 : BitVec 32 := 13#32
  let v1006 : BitVec 32 := Scalar.subi v2 c13_i32_628
  let c16_i32_629 : BitVec 32 := 16#32
  let v1007 : BitVec 32 := Scalar.addi v1006 c16_i32_629
  let c16_i32_630 : BitVec 32 := 16#32
  let c0_i32_631 : BitVec 32 := 0#32
  let v1008 : BitVec 1 := Scalar.cmpi .eq c16_i32_630 c0_i32_631
  let c1_i32_632 : BitVec 32 := 1#32
  let v1009 : BitVec 32 := Scalar.select v1008 c1_i32_632 c16_i32_630
  let v1010 : BitVec 32 := Scalar.remsi v1007 v1009
  let c0_i32_634 : BitVec 32 := 0#32
  let v1012 : BitVec 1 := Scalar.cmpi .slt v1010 c0_i32_634
  let c0_i32_635 : BitVec 32 := 0#32
  let v1013 : BitVec 1 := Scalar.cmpi .slt v1009 c0_i32_635
  let v1014 : BitVec 1 := Scalar.xori v1012 v1013
  let c0_i32_633 : BitVec 32 := 0#32
  let v1011 : BitVec 1 := Scalar.cmpi .ne v1010 c0_i32_633
  let v1015 : BitVec 1 := Scalar.andi v1014 v1011
  let v1016 : BitVec 32 := Scalar.addi v1010 v1009
  let v1017 : BitVec 32 := Scalar.select v1015 v1016 v1010
  let v1018 : BitVec 32 := Scalar.muli c2_i32_636 v1017
  let c0_i32_637 : BitVec 32 := 0#32
  let v1019 : BitVec 32 := Scalar.addi v1018 c0_i32_637
  let c1_i32_638 : BitVec 32 := 1#32
  let v1020 : BitVec 1 := Scalar.cmpi .eq v1019 c1_i32_638
  let c3_i32_639 : BitVec 32 := 3#32
  let c0_i32_640 : BitVec 32 := 0#32
  let v1021 : BitVec 1 := Scalar.cmpi .eq c3_i32_639 c0_i32_640
  let c1_i32_641 : BitVec 32 := 1#32
  let v1022 : BitVec 32 := Scalar.select v1021 c1_i32_641 c3_i32_639
  let v1023 : BitVec 32 := Scalar.remsi v1019 v1022
  let c0_i32_643 : BitVec 32 := 0#32
  let v1025 : BitVec 1 := Scalar.cmpi .slt v1023 c0_i32_643
  let c0_i32_644 : BitVec 32 := 0#32
  let v1026 : BitVec 1 := Scalar.cmpi .slt v1022 c0_i32_644
  let v1027 : BitVec 1 := Scalar.xori v1025 v1026
  let c0_i32_642 : BitVec 32 := 0#32
  let v1024 : BitVec 1 := Scalar.cmpi .ne v1023 c0_i32_642
  let v1028 : BitVec 1 := Scalar.andi v1027 v1024
  let v1029 : BitVec 32 := Scalar.addi v1023 v1022
  let v1030 : BitVec 32 := Scalar.select v1028 v1029 v1023
  let c1_i32_645 : BitVec 32 := 1#32
  let v1031 : BitVec 1 := Scalar.cmpi .ne v1030 c1_i32_645
  let v1032 : BitVec 1 := Scalar.ori v1020 v1031
  let v1033 : BitVec 32 := Scalar.extui v1032
  let c0_i32_646 : BitVec 32 := 0#32
  let v1034 : BitVec 1 := Scalar.cmpi .ne v1033 c0_i32_646
  v1034

def k0_off87 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_628 : BitVec 32 := 13#32
  let v1006 : BitVec 32 := Scalar.subi v2 c13_i32_628
  let c16_i32_629 : BitVec 32 := 16#32
  let v1007 : BitVec 32 := Scalar.addi v1006 c16_i32_629
  let c16_i32_630 : BitVec 32 := 16#32
  let c0_i32_631 : BitVec 32 := 0#32
  let v1008 : BitVec 1 := Scalar.cmpi .eq c16_i32_630 c0_i32_631
  let c1_i32_632 : BitVec 32 := 1#32
  let v1009 : BitVec 32 := Scalar.select v1008 c1_i32_632 c16_i32_630
  let v1010 : BitVec 32 := Scalar.remsi v1007 v1009
  let c0_i32_634 : BitVec 32 := 0#32
  let v1012 : BitVec 1 := Scalar.cmpi .slt v1010 c0_i32_634
  let c0_i32_635 : BitVec 32 := 0#32
  let v1013 : BitVec 1 := Scalar.cmpi .slt v1009 c0_i32_635
  let v1014 : BitVec 1 := Scalar.xori v1012 v1013
  let c0_i32_633 : BitVec 32 := 0#32
  let v1011 : BitVec 1 := Scalar.cmpi .ne v1010 c0_i32_633
  let v1015 : BitVec 1 := Scalar.andi v1014 v1011
  let v1016 : BitVec 32 := Scalar.addi v1010 v1009
  let v1017 : BitVec 32 := Scalar.select v1015 v1016 v1010
  let v3728 : BitVec 32 := Scalar.muli c2_i32_2344 v1017
  let c0_i32_2345 : BitVec 32 := 0#32
  let v3729 : BitVec 32 := Scalar.addi v3728 c0_i32_2345
  ![v3729.toNat]
def k0_off88 (d0 : Dev nD) : Fin 4 → Nat :=
  let c0_i32_2348 : BitVec 32 := 0#32
  let c0_i32_2349 : BitVec 32 := 0#32
  let c2_i32_636 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_628 : BitVec 32 := 13#32
  let v1006 : BitVec 32 := Scalar.subi v2 c13_i32_628
  let c16_i32_629 : BitVec 32 := 16#32
  let v1007 : BitVec 32 := Scalar.addi v1006 c16_i32_629
  let c16_i32_630 : BitVec 32 := 16#32
  let c0_i32_631 : BitVec 32 := 0#32
  let v1008 : BitVec 1 := Scalar.cmpi .eq c16_i32_630 c0_i32_631
  let c1_i32_632 : BitVec 32 := 1#32
  let v1009 : BitVec 32 := Scalar.select v1008 c1_i32_632 c16_i32_630
  let v1010 : BitVec 32 := Scalar.remsi v1007 v1009
  let c0_i32_634 : BitVec 32 := 0#32
  let v1012 : BitVec 1 := Scalar.cmpi .slt v1010 c0_i32_634
  let c0_i32_635 : BitVec 32 := 0#32
  let v1013 : BitVec 1 := Scalar.cmpi .slt v1009 c0_i32_635
  let v1014 : BitVec 1 := Scalar.xori v1012 v1013
  let c0_i32_633 : BitVec 32 := 0#32
  let v1011 : BitVec 1 := Scalar.cmpi .ne v1010 c0_i32_633
  let v1015 : BitVec 1 := Scalar.andi v1014 v1011
  let v1016 : BitVec 32 := Scalar.addi v1010 v1009
  let v1017 : BitVec 32 := Scalar.select v1015 v1016 v1010
  let v1018 : BitVec 32 := Scalar.muli c2_i32_636 v1017
  let c0_i32_637 : BitVec 32 := 0#32
  let v1019 : BitVec 32 := Scalar.addi v1018 c0_i32_637
  let c10_i32_2342 : BitVec 32 := 10#32
  let c0_i32_2341 : BitVec 32 := 0#32
  let c2_i32_2333 : BitVec 32 := 2#32
  let v3706 : BitVec 32 := Scalar.subi v1019 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v1019 v3725
  let c64_i32_2343 : BitVec 32 := 64#32
  let v3727 : BitVec 32 := Scalar.muli v3726 c64_i32_2343
  let c0_i32_2350 : BitVec 32 := 0#32
  ![0, 0, v3727.toNat, 0]
def k0_off89 (d0 : Dev nD) : Fin 4 → Nat :=
  let c0_i32_2351 : BitVec 32 := 0#32
  let c0_i32_2352 : BitVec 32 := 0#32
  let c0_i32_2353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_628 : BitVec 32 := 13#32
  let v1006 : BitVec 32 := Scalar.subi v2 c13_i32_628
  let c16_i32_629 : BitVec 32 := 16#32
  let v1007 : BitVec 32 := Scalar.addi v1006 c16_i32_629
  let c16_i32_630 : BitVec 32 := 16#32
  let c0_i32_631 : BitVec 32 := 0#32
  let v1008 : BitVec 1 := Scalar.cmpi .eq c16_i32_630 c0_i32_631
  let c1_i32_632 : BitVec 32 := 1#32
  let v1009 : BitVec 32 := Scalar.select v1008 c1_i32_632 c16_i32_630
  let v1010 : BitVec 32 := Scalar.remsi v1007 v1009
  let c0_i32_634 : BitVec 32 := 0#32
  let v1012 : BitVec 1 := Scalar.cmpi .slt v1010 c0_i32_634
  let c0_i32_635 : BitVec 32 := 0#32
  let v1013 : BitVec 1 := Scalar.cmpi .slt v1009 c0_i32_635
  let v1014 : BitVec 1 := Scalar.xori v1012 v1013
  let c0_i32_633 : BitVec 32 := 0#32
  let v1011 : BitVec 1 := Scalar.cmpi .ne v1010 c0_i32_633
  let v1015 : BitVec 1 := Scalar.andi v1014 v1011
  let v1016 : BitVec 32 := Scalar.addi v1010 v1009
  let v1017 : BitVec 32 := Scalar.select v1015 v1016 v1010
  let c256_i32 : BitVec 32 := 256#32
  let v3705 : BitVec 32 := Scalar.muli v1017 c256_i32
  ![0, 0, 0, v3705.toNat]
def k0_cond32 (d0 : Dev nD) : BitVec 1 :=
  let c2_i32_647 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_628 : BitVec 32 := 13#32
  let v1006 : BitVec 32 := Scalar.subi v2 c13_i32_628
  let c16_i32_629 : BitVec 32 := 16#32
  let v1007 : BitVec 32 := Scalar.addi v1006 c16_i32_629
  let c16_i32_630 : BitVec 32 := 16#32
  let c0_i32_631 : BitVec 32 := 0#32
  let v1008 : BitVec 1 := Scalar.cmpi .eq c16_i32_630 c0_i32_631
  let c1_i32_632 : BitVec 32 := 1#32
  let v1009 : BitVec 32 := Scalar.select v1008 c1_i32_632 c16_i32_630
  let v1010 : BitVec 32 := Scalar.remsi v1007 v1009
  let c0_i32_634 : BitVec 32 := 0#32
  let v1012 : BitVec 1 := Scalar.cmpi .slt v1010 c0_i32_634
  let c0_i32_635 : BitVec 32 := 0#32
  let v1013 : BitVec 1 := Scalar.cmpi .slt v1009 c0_i32_635
  let v1014 : BitVec 1 := Scalar.xori v1012 v1013
  let c0_i32_633 : BitVec 32 := 0#32
  let v1011 : BitVec 1 := Scalar.cmpi .ne v1010 c0_i32_633
  let v1015 : BitVec 1 := Scalar.andi v1014 v1011
  let v1016 : BitVec 32 := Scalar.addi v1010 v1009
  let v1017 : BitVec 32 := Scalar.select v1015 v1016 v1010
  let v1035 : BitVec 32 := Scalar.muli c2_i32_647 v1017
  let c1_i32_648 : BitVec 32 := 1#32
  let v1036 : BitVec 32 := Scalar.addi v1035 c1_i32_648
  let c1_i32_649 : BitVec 32 := 1#32
  let v1037 : BitVec 1 := Scalar.cmpi .eq v1036 c1_i32_649
  let c3_i32_650 : BitVec 32 := 3#32
  let c0_i32_651 : BitVec 32 := 0#32
  let v1038 : BitVec 1 := Scalar.cmpi .eq c3_i32_650 c0_i32_651
  let c1_i32_652 : BitVec 32 := 1#32
  let v1039 : BitVec 32 := Scalar.select v1038 c1_i32_652 c3_i32_650
  let v1040 : BitVec 32 := Scalar.remsi v1036 v1039
  let c0_i32_654 : BitVec 32 := 0#32
  let v1042 : BitVec 1 := Scalar.cmpi .slt v1040 c0_i32_654
  let c0_i32_655 : BitVec 32 := 0#32
  let v1043 : BitVec 1 := Scalar.cmpi .slt v1039 c0_i32_655
  let v1044 : BitVec 1 := Scalar.xori v1042 v1043
  let c0_i32_653 : BitVec 32 := 0#32
  let v1041 : BitVec 1 := Scalar.cmpi .ne v1040 c0_i32_653
  let v1045 : BitVec 1 := Scalar.andi v1044 v1041
  let v1046 : BitVec 32 := Scalar.addi v1040 v1039
  let v1047 : BitVec 32 := Scalar.select v1045 v1046 v1040
  let c1_i32_656 : BitVec 32 := 1#32
  let v1048 : BitVec 1 := Scalar.cmpi .ne v1047 c1_i32_656
  let v1049 : BitVec 1 := Scalar.ori v1037 v1048
  let v1050 : BitVec 32 := Scalar.extui v1049
  let c0_i32_657 : BitVec 32 := 0#32
  let v1051 : BitVec 1 := Scalar.cmpi .ne v1050 c0_i32_657
  v1051

def k0_off90 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_628 : BitVec 32 := 13#32
  let v1006 : BitVec 32 := Scalar.subi v2 c13_i32_628
  let c16_i32_629 : BitVec 32 := 16#32
  let v1007 : BitVec 32 := Scalar.addi v1006 c16_i32_629
  let c16_i32_630 : BitVec 32 := 16#32
  let c0_i32_631 : BitVec 32 := 0#32
  let v1008 : BitVec 1 := Scalar.cmpi .eq c16_i32_630 c0_i32_631
  let c1_i32_632 : BitVec 32 := 1#32
  let v1009 : BitVec 32 := Scalar.select v1008 c1_i32_632 c16_i32_630
  let v1010 : BitVec 32 := Scalar.remsi v1007 v1009
  let c0_i32_634 : BitVec 32 := 0#32
  let v1012 : BitVec 1 := Scalar.cmpi .slt v1010 c0_i32_634
  let c0_i32_635 : BitVec 32 := 0#32
  let v1013 : BitVec 1 := Scalar.cmpi .slt v1009 c0_i32_635
  let v1014 : BitVec 1 := Scalar.xori v1012 v1013
  let c0_i32_633 : BitVec 32 := 0#32
  let v1011 : BitVec 1 := Scalar.cmpi .ne v1010 c0_i32_633
  let v1015 : BitVec 1 := Scalar.andi v1014 v1011
  let v1016 : BitVec 32 := Scalar.addi v1010 v1009
  let v1017 : BitVec 32 := Scalar.select v1015 v1016 v1010
  let v3728 : BitVec 32 := Scalar.muli c2_i32_2344 v1017
  let c1_i32_2345 : BitVec 32 := 1#32
  let v3729 : BitVec 32 := Scalar.addi v3728 c1_i32_2345
  ![v3729.toNat]
def k0_off91 (d0 : Dev nD) : Fin 4 → Nat :=
  let c0_i32_2348 : BitVec 32 := 0#32
  let c0_i32_2349 : BitVec 32 := 0#32
  let c2_i32_647 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_628 : BitVec 32 := 13#32
  let v1006 : BitVec 32 := Scalar.subi v2 c13_i32_628
  let c16_i32_629 : BitVec 32 := 16#32
  let v1007 : BitVec 32 := Scalar.addi v1006 c16_i32_629
  let c16_i32_630 : BitVec 32 := 16#32
  let c0_i32_631 : BitVec 32 := 0#32
  let v1008 : BitVec 1 := Scalar.cmpi .eq c16_i32_630 c0_i32_631
  let c1_i32_632 : BitVec 32 := 1#32
  let v1009 : BitVec 32 := Scalar.select v1008 c1_i32_632 c16_i32_630
  let v1010 : BitVec 32 := Scalar.remsi v1007 v1009
  let c0_i32_634 : BitVec 32 := 0#32
  let v1012 : BitVec 1 := Scalar.cmpi .slt v1010 c0_i32_634
  let c0_i32_635 : BitVec 32 := 0#32
  let v1013 : BitVec 1 := Scalar.cmpi .slt v1009 c0_i32_635
  let v1014 : BitVec 1 := Scalar.xori v1012 v1013
  let c0_i32_633 : BitVec 32 := 0#32
  let v1011 : BitVec 1 := Scalar.cmpi .ne v1010 c0_i32_633
  let v1015 : BitVec 1 := Scalar.andi v1014 v1011
  let v1016 : BitVec 32 := Scalar.addi v1010 v1009
  let v1017 : BitVec 32 := Scalar.select v1015 v1016 v1010
  let v1035 : BitVec 32 := Scalar.muli c2_i32_647 v1017
  let c1_i32_648 : BitVec 32 := 1#32
  let v1036 : BitVec 32 := Scalar.addi v1035 c1_i32_648
  let c10_i32_2342 : BitVec 32 := 10#32
  let c0_i32_2341 : BitVec 32 := 0#32
  let c2_i32_2333 : BitVec 32 := 2#32
  let v3706 : BitVec 32 := Scalar.subi v1036 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v1036 v3725
  let c64_i32_2343 : BitVec 32 := 64#32
  let v3727 : BitVec 32 := Scalar.muli v3726 c64_i32_2343
  let c0_i32_2350 : BitVec 32 := 0#32
  ![0, 0, v3727.toNat, 0]
def k0_off92 (d0 : Dev nD) : Fin 4 → Nat :=
  let c0_i32_2351 : BitVec 32 := 0#32
  let c0_i32_2352 : BitVec 32 := 0#32
  let c64_i32_2353 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_628 : BitVec 32 := 13#32
  let v1006 : BitVec 32 := Scalar.subi v2 c13_i32_628
  let c16_i32_629 : BitVec 32 := 16#32
  let v1007 : BitVec 32 := Scalar.addi v1006 c16_i32_629
  let c16_i32_630 : BitVec 32 := 16#32
  let c0_i32_631 : BitVec 32 := 0#32
  let v1008 : BitVec 1 := Scalar.cmpi .eq c16_i32_630 c0_i32_631
  let c1_i32_632 : BitVec 32 := 1#32
  let v1009 : BitVec 32 := Scalar.select v1008 c1_i32_632 c16_i32_630
  let v1010 : BitVec 32 := Scalar.remsi v1007 v1009
  let c0_i32_634 : BitVec 32 := 0#32
  let v1012 : BitVec 1 := Scalar.cmpi .slt v1010 c0_i32_634
  let c0_i32_635 : BitVec 32 := 0#32
  let v1013 : BitVec 1 := Scalar.cmpi .slt v1009 c0_i32_635
  let v1014 : BitVec 1 := Scalar.xori v1012 v1013
  let c0_i32_633 : BitVec 32 := 0#32
  let v1011 : BitVec 1 := Scalar.cmpi .ne v1010 c0_i32_633
  let v1015 : BitVec 1 := Scalar.andi v1014 v1011
  let v1016 : BitVec 32 := Scalar.addi v1010 v1009
  let v1017 : BitVec 32 := Scalar.select v1015 v1016 v1010
  let c256_i32 : BitVec 32 := 256#32
  let v3705 : BitVec 32 := Scalar.muli v1017 c256_i32
  ![0, 0, 64, v3705.toNat]
def k0_cond33 (d0 : Dev nD) : BitVec 1 :=
  let c2_i32_666 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_658 : BitVec 32 := 14#32
  let v1052 : BitVec 32 := Scalar.subi v2 c14_i32_658
  let c16_i32_659 : BitVec 32 := 16#32
  let v1053 : BitVec 32 := Scalar.addi v1052 c16_i32_659
  let c16_i32_660 : BitVec 32 := 16#32
  let c0_i32_661 : BitVec 32 := 0#32
  let v1054 : BitVec 1 := Scalar.cmpi .eq c16_i32_660 c0_i32_661
  let c1_i32_662 : BitVec 32 := 1#32
  let v1055 : BitVec 32 := Scalar.select v1054 c1_i32_662 c16_i32_660
  let v1056 : BitVec 32 := Scalar.remsi v1053 v1055
  let c0_i32_664 : BitVec 32 := 0#32
  let v1058 : BitVec 1 := Scalar.cmpi .slt v1056 c0_i32_664
  let c0_i32_665 : BitVec 32 := 0#32
  let v1059 : BitVec 1 := Scalar.cmpi .slt v1055 c0_i32_665
  let v1060 : BitVec 1 := Scalar.xori v1058 v1059
  let c0_i32_663 : BitVec 32 := 0#32
  let v1057 : BitVec 1 := Scalar.cmpi .ne v1056 c0_i32_663
  let v1061 : BitVec 1 := Scalar.andi v1060 v1057
  let v1062 : BitVec 32 := Scalar.addi v1056 v1055
  let v1063 : BitVec 32 := Scalar.select v1061 v1062 v1056
  let v1064 : BitVec 32 := Scalar.muli c2_i32_666 v1063
  let c0_i32_667 : BitVec 32 := 0#32
  let v1065 : BitVec 32 := Scalar.addi v1064 c0_i32_667
  let c1_i32_668 : BitVec 32 := 1#32
  let v1066 : BitVec 1 := Scalar.cmpi .eq v1065 c1_i32_668
  let c3_i32_669 : BitVec 32 := 3#32
  let c0_i32_670 : BitVec 32 := 0#32
  let v1067 : BitVec 1 := Scalar.cmpi .eq c3_i32_669 c0_i32_670
  let c1_i32_671 : BitVec 32 := 1#32
  let v1068 : BitVec 32 := Scalar.select v1067 c1_i32_671 c3_i32_669
  let v1069 : BitVec 32 := Scalar.remsi v1065 v1068
  let c0_i32_673 : BitVec 32 := 0#32
  let v1071 : BitVec 1 := Scalar.cmpi .slt v1069 c0_i32_673
  let c0_i32_674 : BitVec 32 := 0#32
  let v1072 : BitVec 1 := Scalar.cmpi .slt v1068 c0_i32_674
  let v1073 : BitVec 1 := Scalar.xori v1071 v1072
  let c0_i32_672 : BitVec 32 := 0#32
  let v1070 : BitVec 1 := Scalar.cmpi .ne v1069 c0_i32_672
  let v1074 : BitVec 1 := Scalar.andi v1073 v1070
  let v1075 : BitVec 32 := Scalar.addi v1069 v1068
  let v1076 : BitVec 32 := Scalar.select v1074 v1075 v1069
  let c1_i32_675 : BitVec 32 := 1#32
  let v1077 : BitVec 1 := Scalar.cmpi .ne v1076 c1_i32_675
  let v1078 : BitVec 1 := Scalar.ori v1066 v1077
  let v1079 : BitVec 32 := Scalar.extui v1078
  let c0_i32_676 : BitVec 32 := 0#32
  let v1080 : BitVec 1 := Scalar.cmpi .ne v1079 c0_i32_676
  v1080

def k0_off93 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_658 : BitVec 32 := 14#32
  let v1052 : BitVec 32 := Scalar.subi v2 c14_i32_658
  let c16_i32_659 : BitVec 32 := 16#32
  let v1053 : BitVec 32 := Scalar.addi v1052 c16_i32_659
  let c16_i32_660 : BitVec 32 := 16#32
  let c0_i32_661 : BitVec 32 := 0#32
  let v1054 : BitVec 1 := Scalar.cmpi .eq c16_i32_660 c0_i32_661
  let c1_i32_662 : BitVec 32 := 1#32
  let v1055 : BitVec 32 := Scalar.select v1054 c1_i32_662 c16_i32_660
  let v1056 : BitVec 32 := Scalar.remsi v1053 v1055
  let c0_i32_664 : BitVec 32 := 0#32
  let v1058 : BitVec 1 := Scalar.cmpi .slt v1056 c0_i32_664
  let c0_i32_665 : BitVec 32 := 0#32
  let v1059 : BitVec 1 := Scalar.cmpi .slt v1055 c0_i32_665
  let v1060 : BitVec 1 := Scalar.xori v1058 v1059
  let c0_i32_663 : BitVec 32 := 0#32
  let v1057 : BitVec 1 := Scalar.cmpi .ne v1056 c0_i32_663
  let v1061 : BitVec 1 := Scalar.andi v1060 v1057
  let v1062 : BitVec 32 := Scalar.addi v1056 v1055
  let v1063 : BitVec 32 := Scalar.select v1061 v1062 v1056
  let v3728 : BitVec 32 := Scalar.muli c2_i32_2344 v1063
  let c0_i32_2345 : BitVec 32 := 0#32
  let v3729 : BitVec 32 := Scalar.addi v3728 c0_i32_2345
  ![v3729.toNat]
def k0_off94 (d0 : Dev nD) : Fin 4 → Nat :=
  let c0_i32_2348 : BitVec 32 := 0#32
  let c0_i32_2349 : BitVec 32 := 0#32
  let c2_i32_666 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_658 : BitVec 32 := 14#32
  let v1052 : BitVec 32 := Scalar.subi v2 c14_i32_658
  let c16_i32_659 : BitVec 32 := 16#32
  let v1053 : BitVec 32 := Scalar.addi v1052 c16_i32_659
  let c16_i32_660 : BitVec 32 := 16#32
  let c0_i32_661 : BitVec 32 := 0#32
  let v1054 : BitVec 1 := Scalar.cmpi .eq c16_i32_660 c0_i32_661
  let c1_i32_662 : BitVec 32 := 1#32
  let v1055 : BitVec 32 := Scalar.select v1054 c1_i32_662 c16_i32_660
  let v1056 : BitVec 32 := Scalar.remsi v1053 v1055
  let c0_i32_664 : BitVec 32 := 0#32
  let v1058 : BitVec 1 := Scalar.cmpi .slt v1056 c0_i32_664
  let c0_i32_665 : BitVec 32 := 0#32
  let v1059 : BitVec 1 := Scalar.cmpi .slt v1055 c0_i32_665
  let v1060 : BitVec 1 := Scalar.xori v1058 v1059
  let c0_i32_663 : BitVec 32 := 0#32
  let v1057 : BitVec 1 := Scalar.cmpi .ne v1056 c0_i32_663
  let v1061 : BitVec 1 := Scalar.andi v1060 v1057
  let v1062 : BitVec 32 := Scalar.addi v1056 v1055
  let v1063 : BitVec 32 := Scalar.select v1061 v1062 v1056
  let v1064 : BitVec 32 := Scalar.muli c2_i32_666 v1063
  let c0_i32_667 : BitVec 32 := 0#32
  let v1065 : BitVec 32 := Scalar.addi v1064 c0_i32_667
  let c10_i32_2342 : BitVec 32 := 10#32
  let c0_i32_2341 : BitVec 32 := 0#32
  let c2_i32_2333 : BitVec 32 := 2#32
  let v3706 : BitVec 32 := Scalar.subi v1065 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v1065 v3725
  let c64_i32_2343 : BitVec 32 := 64#32
  let v3727 : BitVec 32 := Scalar.muli v3726 c64_i32_2343
  let c0_i32_2350 : BitVec 32 := 0#32
  ![0, 0, v3727.toNat, 0]
def k0_off95 (d0 : Dev nD) : Fin 4 → Nat :=
  let c0_i32_2351 : BitVec 32 := 0#32
  let c0_i32_2352 : BitVec 32 := 0#32
  let c0_i32_2353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_658 : BitVec 32 := 14#32
  let v1052 : BitVec 32 := Scalar.subi v2 c14_i32_658
  let c16_i32_659 : BitVec 32 := 16#32
  let v1053 : BitVec 32 := Scalar.addi v1052 c16_i32_659
  let c16_i32_660 : BitVec 32 := 16#32
  let c0_i32_661 : BitVec 32 := 0#32
  let v1054 : BitVec 1 := Scalar.cmpi .eq c16_i32_660 c0_i32_661
  let c1_i32_662 : BitVec 32 := 1#32
  let v1055 : BitVec 32 := Scalar.select v1054 c1_i32_662 c16_i32_660
  let v1056 : BitVec 32 := Scalar.remsi v1053 v1055
  let c0_i32_664 : BitVec 32 := 0#32
  let v1058 : BitVec 1 := Scalar.cmpi .slt v1056 c0_i32_664
  let c0_i32_665 : BitVec 32 := 0#32
  let v1059 : BitVec 1 := Scalar.cmpi .slt v1055 c0_i32_665
  let v1060 : BitVec 1 := Scalar.xori v1058 v1059
  let c0_i32_663 : BitVec 32 := 0#32
  let v1057 : BitVec 1 := Scalar.cmpi .ne v1056 c0_i32_663
  let v1061 : BitVec 1 := Scalar.andi v1060 v1057
  let v1062 : BitVec 32 := Scalar.addi v1056 v1055
  let v1063 : BitVec 32 := Scalar.select v1061 v1062 v1056
  let c256_i32 : BitVec 32 := 256#32
  let v3705 : BitVec 32 := Scalar.muli v1063 c256_i32
  ![0, 0, 0, v3705.toNat]
def k0_cond34 (d0 : Dev nD) : BitVec 1 :=
  let c2_i32_677 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_658 : BitVec 32 := 14#32
  let v1052 : BitVec 32 := Scalar.subi v2 c14_i32_658
  let c16_i32_659 : BitVec 32 := 16#32
  let v1053 : BitVec 32 := Scalar.addi v1052 c16_i32_659
  let c16_i32_660 : BitVec 32 := 16#32
  let c0_i32_661 : BitVec 32 := 0#32
  let v1054 : BitVec 1 := Scalar.cmpi .eq c16_i32_660 c0_i32_661
  let c1_i32_662 : BitVec 32 := 1#32
  let v1055 : BitVec 32 := Scalar.select v1054 c1_i32_662 c16_i32_660
  let v1056 : BitVec 32 := Scalar.remsi v1053 v1055
  let c0_i32_664 : BitVec 32 := 0#32
  let v1058 : BitVec 1 := Scalar.cmpi .slt v1056 c0_i32_664
  let c0_i32_665 : BitVec 32 := 0#32
  let v1059 : BitVec 1 := Scalar.cmpi .slt v1055 c0_i32_665
  let v1060 : BitVec 1 := Scalar.xori v1058 v1059
  let c0_i32_663 : BitVec 32 := 0#32
  let v1057 : BitVec 1 := Scalar.cmpi .ne v1056 c0_i32_663
  let v1061 : BitVec 1 := Scalar.andi v1060 v1057
  let v1062 : BitVec 32 := Scalar.addi v1056 v1055
  let v1063 : BitVec 32 := Scalar.select v1061 v1062 v1056
  let v1081 : BitVec 32 := Scalar.muli c2_i32_677 v1063
  let c1_i32_678 : BitVec 32 := 1#32
  let v1082 : BitVec 32 := Scalar.addi v1081 c1_i32_678
  let c1_i32_679 : BitVec 32 := 1#32
  let v1083 : BitVec 1 := Scalar.cmpi .eq v1082 c1_i32_679
  let c3_i32_680 : BitVec 32 := 3#32
  let c0_i32_681 : BitVec 32 := 0#32
  let v1084 : BitVec 1 := Scalar.cmpi .eq c3_i32_680 c0_i32_681
  let c1_i32_682 : BitVec 32 := 1#32
  let v1085 : BitVec 32 := Scalar.select v1084 c1_i32_682 c3_i32_680
  let v1086 : BitVec 32 := Scalar.remsi v1082 v1085
  let c0_i32_684 : BitVec 32 := 0#32
  let v1088 : BitVec 1 := Scalar.cmpi .slt v1086 c0_i32_684
  let c0_i32_685 : BitVec 32 := 0#32
  let v1089 : BitVec 1 := Scalar.cmpi .slt v1085 c0_i32_685
  let v1090 : BitVec 1 := Scalar.xori v1088 v1089
  let c0_i32_683 : BitVec 32 := 0#32
  let v1087 : BitVec 1 := Scalar.cmpi .ne v1086 c0_i32_683
  let v1091 : BitVec 1 := Scalar.andi v1090 v1087
  let v1092 : BitVec 32 := Scalar.addi v1086 v1085
  let v1093 : BitVec 32 := Scalar.select v1091 v1092 v1086
  let c1_i32_686 : BitVec 32 := 1#32
  let v1094 : BitVec 1 := Scalar.cmpi .ne v1093 c1_i32_686
  let v1095 : BitVec 1 := Scalar.ori v1083 v1094
  let v1096 : BitVec 32 := Scalar.extui v1095
  let c0_i32_687 : BitVec 32 := 0#32
  let v1097 : BitVec 1 := Scalar.cmpi .ne v1096 c0_i32_687
  v1097

def k0_off96 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_658 : BitVec 32 := 14#32
  let v1052 : BitVec 32 := Scalar.subi v2 c14_i32_658
  let c16_i32_659 : BitVec 32 := 16#32
  let v1053 : BitVec 32 := Scalar.addi v1052 c16_i32_659
  let c16_i32_660 : BitVec 32 := 16#32
  let c0_i32_661 : BitVec 32 := 0#32
  let v1054 : BitVec 1 := Scalar.cmpi .eq c16_i32_660 c0_i32_661
  let c1_i32_662 : BitVec 32 := 1#32
  let v1055 : BitVec 32 := Scalar.select v1054 c1_i32_662 c16_i32_660
  let v1056 : BitVec 32 := Scalar.remsi v1053 v1055
  let c0_i32_664 : BitVec 32 := 0#32
  let v1058 : BitVec 1 := Scalar.cmpi .slt v1056 c0_i32_664
  let c0_i32_665 : BitVec 32 := 0#32
  let v1059 : BitVec 1 := Scalar.cmpi .slt v1055 c0_i32_665
  let v1060 : BitVec 1 := Scalar.xori v1058 v1059
  let c0_i32_663 : BitVec 32 := 0#32
  let v1057 : BitVec 1 := Scalar.cmpi .ne v1056 c0_i32_663
  let v1061 : BitVec 1 := Scalar.andi v1060 v1057
  let v1062 : BitVec 32 := Scalar.addi v1056 v1055
  let v1063 : BitVec 32 := Scalar.select v1061 v1062 v1056
  let v3728 : BitVec 32 := Scalar.muli c2_i32_2344 v1063
  let c1_i32_2345 : BitVec 32 := 1#32
  let v3729 : BitVec 32 := Scalar.addi v3728 c1_i32_2345
  ![v3729.toNat]
def k0_off97 (d0 : Dev nD) : Fin 4 → Nat :=
  let c0_i32_2348 : BitVec 32 := 0#32
  let c0_i32_2349 : BitVec 32 := 0#32
  let c2_i32_677 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_658 : BitVec 32 := 14#32
  let v1052 : BitVec 32 := Scalar.subi v2 c14_i32_658
  let c16_i32_659 : BitVec 32 := 16#32
  let v1053 : BitVec 32 := Scalar.addi v1052 c16_i32_659
  let c16_i32_660 : BitVec 32 := 16#32
  let c0_i32_661 : BitVec 32 := 0#32
  let v1054 : BitVec 1 := Scalar.cmpi .eq c16_i32_660 c0_i32_661
  let c1_i32_662 : BitVec 32 := 1#32
  let v1055 : BitVec 32 := Scalar.select v1054 c1_i32_662 c16_i32_660
  let v1056 : BitVec 32 := Scalar.remsi v1053 v1055
  let c0_i32_664 : BitVec 32 := 0#32
  let v1058 : BitVec 1 := Scalar.cmpi .slt v1056 c0_i32_664
  let c0_i32_665 : BitVec 32 := 0#32
  let v1059 : BitVec 1 := Scalar.cmpi .slt v1055 c0_i32_665
  let v1060 : BitVec 1 := Scalar.xori v1058 v1059
  let c0_i32_663 : BitVec 32 := 0#32
  let v1057 : BitVec 1 := Scalar.cmpi .ne v1056 c0_i32_663
  let v1061 : BitVec 1 := Scalar.andi v1060 v1057
  let v1062 : BitVec 32 := Scalar.addi v1056 v1055
  let v1063 : BitVec 32 := Scalar.select v1061 v1062 v1056
  let v1081 : BitVec 32 := Scalar.muli c2_i32_677 v1063
  let c1_i32_678 : BitVec 32 := 1#32
  let v1082 : BitVec 32 := Scalar.addi v1081 c1_i32_678
  let c10_i32_2342 : BitVec 32 := 10#32
  let c0_i32_2341 : BitVec 32 := 0#32
  let c2_i32_2333 : BitVec 32 := 2#32
  let v3706 : BitVec 32 := Scalar.subi v1082 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v1082 v3725
  let c64_i32_2343 : BitVec 32 := 64#32
  let v3727 : BitVec 32 := Scalar.muli v3726 c64_i32_2343
  let c0_i32_2350 : BitVec 32 := 0#32
  ![0, 0, v3727.toNat, 0]
def k0_off98 (d0 : Dev nD) : Fin 4 → Nat :=
  let c0_i32_2351 : BitVec 32 := 0#32
  let c0_i32_2352 : BitVec 32 := 0#32
  let c64_i32_2353 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_658 : BitVec 32 := 14#32
  let v1052 : BitVec 32 := Scalar.subi v2 c14_i32_658
  let c16_i32_659 : BitVec 32 := 16#32
  let v1053 : BitVec 32 := Scalar.addi v1052 c16_i32_659
  let c16_i32_660 : BitVec 32 := 16#32
  let c0_i32_661 : BitVec 32 := 0#32
  let v1054 : BitVec 1 := Scalar.cmpi .eq c16_i32_660 c0_i32_661
  let c1_i32_662 : BitVec 32 := 1#32
  let v1055 : BitVec 32 := Scalar.select v1054 c1_i32_662 c16_i32_660
  let v1056 : BitVec 32 := Scalar.remsi v1053 v1055
  let c0_i32_664 : BitVec 32 := 0#32
  let v1058 : BitVec 1 := Scalar.cmpi .slt v1056 c0_i32_664
  let c0_i32_665 : BitVec 32 := 0#32
  let v1059 : BitVec 1 := Scalar.cmpi .slt v1055 c0_i32_665
  let v1060 : BitVec 1 := Scalar.xori v1058 v1059
  let c0_i32_663 : BitVec 32 := 0#32
  let v1057 : BitVec 1 := Scalar.cmpi .ne v1056 c0_i32_663
  let v1061 : BitVec 1 := Scalar.andi v1060 v1057
  let v1062 : BitVec 32 := Scalar.addi v1056 v1055
  let v1063 : BitVec 32 := Scalar.select v1061 v1062 v1056
  let c256_i32 : BitVec 32 := 256#32
  let v3705 : BitVec 32 := Scalar.muli v1063 c256_i32
  ![0, 0, 64, v3705.toNat]
def k0_cond35 (d0 : Dev nD) : BitVec 1 :=
  let c2_i32_696 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_688 : BitVec 32 := 15#32
  let v1098 : BitVec 32 := Scalar.subi v2 c15_i32_688
  let c16_i32_689 : BitVec 32 := 16#32
  let v1099 : BitVec 32 := Scalar.addi v1098 c16_i32_689
  let c16_i32_690 : BitVec 32 := 16#32
  let c0_i32_691 : BitVec 32 := 0#32
  let v1100 : BitVec 1 := Scalar.cmpi .eq c16_i32_690 c0_i32_691
  let c1_i32_692 : BitVec 32 := 1#32
  let v1101 : BitVec 32 := Scalar.select v1100 c1_i32_692 c16_i32_690
  let v1102 : BitVec 32 := Scalar.remsi v1099 v1101
  let c0_i32_694 : BitVec 32 := 0#32
  let v1104 : BitVec 1 := Scalar.cmpi .slt v1102 c0_i32_694
  let c0_i32_695 : BitVec 32 := 0#32
  let v1105 : BitVec 1 := Scalar.cmpi .slt v1101 c0_i32_695
  let v1106 : BitVec 1 := Scalar.xori v1104 v1105
  let c0_i32_693 : BitVec 32 := 0#32
  let v1103 : BitVec 1 := Scalar.cmpi .ne v1102 c0_i32_693
  let v1107 : BitVec 1 := Scalar.andi v1106 v1103
  let v1108 : BitVec 32 := Scalar.addi v1102 v1101
  let v1109 : BitVec 32 := Scalar.select v1107 v1108 v1102
  let v1110 : BitVec 32 := Scalar.muli c2_i32_696 v1109
  let c0_i32_697 : BitVec 32 := 0#32
  let v1111 : BitVec 32 := Scalar.addi v1110 c0_i32_697
  let c1_i32_698 : BitVec 32 := 1#32
  let v1112 : BitVec 1 := Scalar.cmpi .eq v1111 c1_i32_698
  let c3_i32_699 : BitVec 32 := 3#32
  let c0_i32_700 : BitVec 32 := 0#32
  let v1113 : BitVec 1 := Scalar.cmpi .eq c3_i32_699 c0_i32_700
  let c1_i32_701 : BitVec 32 := 1#32
  let v1114 : BitVec 32 := Scalar.select v1113 c1_i32_701 c3_i32_699
  let v1115 : BitVec 32 := Scalar.remsi v1111 v1114
  let c0_i32_703 : BitVec 32 := 0#32
  let v1117 : BitVec 1 := Scalar.cmpi .slt v1115 c0_i32_703
  let c0_i32_704 : BitVec 32 := 0#32
  let v1118 : BitVec 1 := Scalar.cmpi .slt v1114 c0_i32_704
  let v1119 : BitVec 1 := Scalar.xori v1117 v1118
  let c0_i32_702 : BitVec 32 := 0#32
  let v1116 : BitVec 1 := Scalar.cmpi .ne v1115 c0_i32_702
  let v1120 : BitVec 1 := Scalar.andi v1119 v1116
  let v1121 : BitVec 32 := Scalar.addi v1115 v1114
  let v1122 : BitVec 32 := Scalar.select v1120 v1121 v1115
  let c1_i32_705 : BitVec 32 := 1#32
  let v1123 : BitVec 1 := Scalar.cmpi .ne v1122 c1_i32_705
  let v1124 : BitVec 1 := Scalar.ori v1112 v1123
  let v1125 : BitVec 32 := Scalar.extui v1124
  let c0_i32_706 : BitVec 32 := 0#32
  let v1126 : BitVec 1 := Scalar.cmpi .ne v1125 c0_i32_706
  v1126

def k0_off99 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_688 : BitVec 32 := 15#32
  let v1098 : BitVec 32 := Scalar.subi v2 c15_i32_688
  let c16_i32_689 : BitVec 32 := 16#32
  let v1099 : BitVec 32 := Scalar.addi v1098 c16_i32_689
  let c16_i32_690 : BitVec 32 := 16#32
  let c0_i32_691 : BitVec 32 := 0#32
  let v1100 : BitVec 1 := Scalar.cmpi .eq c16_i32_690 c0_i32_691
  let c1_i32_692 : BitVec 32 := 1#32
  let v1101 : BitVec 32 := Scalar.select v1100 c1_i32_692 c16_i32_690
  let v1102 : BitVec 32 := Scalar.remsi v1099 v1101
  let c0_i32_694 : BitVec 32 := 0#32
  let v1104 : BitVec 1 := Scalar.cmpi .slt v1102 c0_i32_694
  let c0_i32_695 : BitVec 32 := 0#32
  let v1105 : BitVec 1 := Scalar.cmpi .slt v1101 c0_i32_695
  let v1106 : BitVec 1 := Scalar.xori v1104 v1105
  let c0_i32_693 : BitVec 32 := 0#32
  let v1103 : BitVec 1 := Scalar.cmpi .ne v1102 c0_i32_693
  let v1107 : BitVec 1 := Scalar.andi v1106 v1103
  let v1108 : BitVec 32 := Scalar.addi v1102 v1101
  let v1109 : BitVec 32 := Scalar.select v1107 v1108 v1102
  let v3728 : BitVec 32 := Scalar.muli c2_i32_2344 v1109
  let c0_i32_2345 : BitVec 32 := 0#32
  let v3729 : BitVec 32 := Scalar.addi v3728 c0_i32_2345
  ![v3729.toNat]
def k0_off100 (d0 : Dev nD) : Fin 4 → Nat :=
  let c0_i32_2348 : BitVec 32 := 0#32
  let c0_i32_2349 : BitVec 32 := 0#32
  let c2_i32_696 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_688 : BitVec 32 := 15#32
  let v1098 : BitVec 32 := Scalar.subi v2 c15_i32_688
  let c16_i32_689 : BitVec 32 := 16#32
  let v1099 : BitVec 32 := Scalar.addi v1098 c16_i32_689
  let c16_i32_690 : BitVec 32 := 16#32
  let c0_i32_691 : BitVec 32 := 0#32
  let v1100 : BitVec 1 := Scalar.cmpi .eq c16_i32_690 c0_i32_691
  let c1_i32_692 : BitVec 32 := 1#32
  let v1101 : BitVec 32 := Scalar.select v1100 c1_i32_692 c16_i32_690
  let v1102 : BitVec 32 := Scalar.remsi v1099 v1101
  let c0_i32_694 : BitVec 32 := 0#32
  let v1104 : BitVec 1 := Scalar.cmpi .slt v1102 c0_i32_694
  let c0_i32_695 : BitVec 32 := 0#32
  let v1105 : BitVec 1 := Scalar.cmpi .slt v1101 c0_i32_695
  let v1106 : BitVec 1 := Scalar.xori v1104 v1105
  let c0_i32_693 : BitVec 32 := 0#32
  let v1103 : BitVec 1 := Scalar.cmpi .ne v1102 c0_i32_693
  let v1107 : BitVec 1 := Scalar.andi v1106 v1103
  let v1108 : BitVec 32 := Scalar.addi v1102 v1101
  let v1109 : BitVec 32 := Scalar.select v1107 v1108 v1102
  let v1110 : BitVec 32 := Scalar.muli c2_i32_696 v1109
  let c0_i32_697 : BitVec 32 := 0#32
  let v1111 : BitVec 32 := Scalar.addi v1110 c0_i32_697
  let c10_i32_2342 : BitVec 32 := 10#32
  let c0_i32_2341 : BitVec 32 := 0#32
  let c2_i32_2333 : BitVec 32 := 2#32
  let v3706 : BitVec 32 := Scalar.subi v1111 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v1111 v3725
  let c64_i32_2343 : BitVec 32 := 64#32
  let v3727 : BitVec 32 := Scalar.muli v3726 c64_i32_2343
  let c0_i32_2350 : BitVec 32 := 0#32
  ![0, 0, v3727.toNat, 0]
def k0_off101 (d0 : Dev nD) : Fin 4 → Nat :=
  let c0_i32_2351 : BitVec 32 := 0#32
  let c0_i32_2352 : BitVec 32 := 0#32
  let c0_i32_2353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_688 : BitVec 32 := 15#32
  let v1098 : BitVec 32 := Scalar.subi v2 c15_i32_688
  let c16_i32_689 : BitVec 32 := 16#32
  let v1099 : BitVec 32 := Scalar.addi v1098 c16_i32_689
  let c16_i32_690 : BitVec 32 := 16#32
  let c0_i32_691 : BitVec 32 := 0#32
  let v1100 : BitVec 1 := Scalar.cmpi .eq c16_i32_690 c0_i32_691
  let c1_i32_692 : BitVec 32 := 1#32
  let v1101 : BitVec 32 := Scalar.select v1100 c1_i32_692 c16_i32_690
  let v1102 : BitVec 32 := Scalar.remsi v1099 v1101
  let c0_i32_694 : BitVec 32 := 0#32
  let v1104 : BitVec 1 := Scalar.cmpi .slt v1102 c0_i32_694
  let c0_i32_695 : BitVec 32 := 0#32
  let v1105 : BitVec 1 := Scalar.cmpi .slt v1101 c0_i32_695
  let v1106 : BitVec 1 := Scalar.xori v1104 v1105
  let c0_i32_693 : BitVec 32 := 0#32
  let v1103 : BitVec 1 := Scalar.cmpi .ne v1102 c0_i32_693
  let v1107 : BitVec 1 := Scalar.andi v1106 v1103
  let v1108 : BitVec 32 := Scalar.addi v1102 v1101
  let v1109 : BitVec 32 := Scalar.select v1107 v1108 v1102
  let c256_i32 : BitVec 32 := 256#32
  let v3705 : BitVec 32 := Scalar.muli v1109 c256_i32
  ![0, 0, 0, v3705.toNat]
def k0_cond36 (d0 : Dev nD) : BitVec 1 :=
  let c2_i32_707 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_688 : BitVec 32 := 15#32
  let v1098 : BitVec 32 := Scalar.subi v2 c15_i32_688
  let c16_i32_689 : BitVec 32 := 16#32
  let v1099 : BitVec 32 := Scalar.addi v1098 c16_i32_689
  let c16_i32_690 : BitVec 32 := 16#32
  let c0_i32_691 : BitVec 32 := 0#32
  let v1100 : BitVec 1 := Scalar.cmpi .eq c16_i32_690 c0_i32_691
  let c1_i32_692 : BitVec 32 := 1#32
  let v1101 : BitVec 32 := Scalar.select v1100 c1_i32_692 c16_i32_690
  let v1102 : BitVec 32 := Scalar.remsi v1099 v1101
  let c0_i32_694 : BitVec 32 := 0#32
  let v1104 : BitVec 1 := Scalar.cmpi .slt v1102 c0_i32_694
  let c0_i32_695 : BitVec 32 := 0#32
  let v1105 : BitVec 1 := Scalar.cmpi .slt v1101 c0_i32_695
  let v1106 : BitVec 1 := Scalar.xori v1104 v1105
  let c0_i32_693 : BitVec 32 := 0#32
  let v1103 : BitVec 1 := Scalar.cmpi .ne v1102 c0_i32_693
  let v1107 : BitVec 1 := Scalar.andi v1106 v1103
  let v1108 : BitVec 32 := Scalar.addi v1102 v1101
  let v1109 : BitVec 32 := Scalar.select v1107 v1108 v1102
  let v1127 : BitVec 32 := Scalar.muli c2_i32_707 v1109
  let c1_i32_708 : BitVec 32 := 1#32
  let v1128 : BitVec 32 := Scalar.addi v1127 c1_i32_708
  let c1_i32_709 : BitVec 32 := 1#32
  let v1129 : BitVec 1 := Scalar.cmpi .eq v1128 c1_i32_709
  let c3_i32_710 : BitVec 32 := 3#32
  let c0_i32_711 : BitVec 32 := 0#32
  let v1130 : BitVec 1 := Scalar.cmpi .eq c3_i32_710 c0_i32_711
  let c1_i32_712 : BitVec 32 := 1#32
  let v1131 : BitVec 32 := Scalar.select v1130 c1_i32_712 c3_i32_710
  let v1132 : BitVec 32 := Scalar.remsi v1128 v1131
  let c0_i32_714 : BitVec 32 := 0#32
  let v1134 : BitVec 1 := Scalar.cmpi .slt v1132 c0_i32_714
  let c0_i32_715 : BitVec 32 := 0#32
  let v1135 : BitVec 1 := Scalar.cmpi .slt v1131 c0_i32_715
  let v1136 : BitVec 1 := Scalar.xori v1134 v1135
  let c0_i32_713 : BitVec 32 := 0#32
  let v1133 : BitVec 1 := Scalar.cmpi .ne v1132 c0_i32_713
  let v1137 : BitVec 1 := Scalar.andi v1136 v1133
  let v1138 : BitVec 32 := Scalar.addi v1132 v1131
  let v1139 : BitVec 32 := Scalar.select v1137 v1138 v1132
  let c1_i32_716 : BitVec 32 := 1#32
  let v1140 : BitVec 1 := Scalar.cmpi .ne v1139 c1_i32_716
  let v1141 : BitVec 1 := Scalar.ori v1129 v1140
  let v1142 : BitVec 32 := Scalar.extui v1141
  let c0_i32_717 : BitVec 32 := 0#32
  let v1143 : BitVec 1 := Scalar.cmpi .ne v1142 c0_i32_717
  v1143

def k0_off102 (d0 : Dev nD) : Fin 1 → Nat :=
  let c2_i32_2344 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_688 : BitVec 32 := 15#32
  let v1098 : BitVec 32 := Scalar.subi v2 c15_i32_688
  let c16_i32_689 : BitVec 32 := 16#32
  let v1099 : BitVec 32 := Scalar.addi v1098 c16_i32_689
  let c16_i32_690 : BitVec 32 := 16#32
  let c0_i32_691 : BitVec 32 := 0#32
  let v1100 : BitVec 1 := Scalar.cmpi .eq c16_i32_690 c0_i32_691
  let c1_i32_692 : BitVec 32 := 1#32
  let v1101 : BitVec 32 := Scalar.select v1100 c1_i32_692 c16_i32_690
  let v1102 : BitVec 32 := Scalar.remsi v1099 v1101
  let c0_i32_694 : BitVec 32 := 0#32
  let v1104 : BitVec 1 := Scalar.cmpi .slt v1102 c0_i32_694
  let c0_i32_695 : BitVec 32 := 0#32
  let v1105 : BitVec 1 := Scalar.cmpi .slt v1101 c0_i32_695
  let v1106 : BitVec 1 := Scalar.xori v1104 v1105
  let c0_i32_693 : BitVec 32 := 0#32
  let v1103 : BitVec 1 := Scalar.cmpi .ne v1102 c0_i32_693
  let v1107 : BitVec 1 := Scalar.andi v1106 v1103
  let v1108 : BitVec 32 := Scalar.addi v1102 v1101
  let v1109 : BitVec 32 := Scalar.select v1107 v1108 v1102
  let v3728 : BitVec 32 := Scalar.muli c2_i32_2344 v1109
  let c1_i32_2345 : BitVec 32 := 1#32
  let v3729 : BitVec 32 := Scalar.addi v3728 c1_i32_2345
  ![v3729.toNat]
def k0_off103 (d0 : Dev nD) : Fin 4 → Nat :=
  let c0_i32_2348 : BitVec 32 := 0#32
  let c0_i32_2349 : BitVec 32 := 0#32
  let c2_i32_707 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_688 : BitVec 32 := 15#32
  let v1098 : BitVec 32 := Scalar.subi v2 c15_i32_688
  let c16_i32_689 : BitVec 32 := 16#32
  let v1099 : BitVec 32 := Scalar.addi v1098 c16_i32_689
  let c16_i32_690 : BitVec 32 := 16#32
  let c0_i32_691 : BitVec 32 := 0#32
  let v1100 : BitVec 1 := Scalar.cmpi .eq c16_i32_690 c0_i32_691
  let c1_i32_692 : BitVec 32 := 1#32
  let v1101 : BitVec 32 := Scalar.select v1100 c1_i32_692 c16_i32_690
  let v1102 : BitVec 32 := Scalar.remsi v1099 v1101
  let c0_i32_694 : BitVec 32 := 0#32
  let v1104 : BitVec 1 := Scalar.cmpi .slt v1102 c0_i32_694
  let c0_i32_695 : BitVec 32 := 0#32
  let v1105 : BitVec 1 := Scalar.cmpi .slt v1101 c0_i32_695
  let v1106 : BitVec 1 := Scalar.xori v1104 v1105
  let c0_i32_693 : BitVec 32 := 0#32
  let v1103 : BitVec 1 := Scalar.cmpi .ne v1102 c0_i32_693
  let v1107 : BitVec 1 := Scalar.andi v1106 v1103
  let v1108 : BitVec 32 := Scalar.addi v1102 v1101
  let v1109 : BitVec 32 := Scalar.select v1107 v1108 v1102
  let v1127 : BitVec 32 := Scalar.muli c2_i32_707 v1109
  let c1_i32_708 : BitVec 32 := 1#32
  let v1128 : BitVec 32 := Scalar.addi v1127 c1_i32_708
  let c10_i32_2342 : BitVec 32 := 10#32
  let c0_i32_2341 : BitVec 32 := 0#32
  let c2_i32_2333 : BitVec 32 := 2#32
  let v3706 : BitVec 32 := Scalar.subi v1128 c2_i32_2333
  let c0_i32_2335 : BitVec 32 := 0#32
  let v3708 : BitVec 1 := Scalar.cmpi .sgt v3706 c0_i32_2335
  let v3709 : BitVec 32 := Scalar.extui v3708
  let c0_i32_2336 : BitVec 32 := 0#32
  let v3710 : BitVec 1 := Scalar.cmpi .slt v3706 c0_i32_2336
  let v3711 : BitVec 32 := Scalar.extui v3710
  let v3712 : BitVec 32 := Scalar.subi v3709 v3711
  let c3_i32_2334 : BitVec 32 := 3#32
  let c0_i32_2337 : BitVec 32 := 0#32
  let v3713 : BitVec 1 := Scalar.cmpi .sgt c3_i32_2334 c0_i32_2337
  let v3714 : BitVec 32 := Scalar.extui v3713
  let c0_i32_2338 : BitVec 32 := 0#32
  let v3715 : BitVec 1 := Scalar.cmpi .slt c3_i32_2334 c0_i32_2338
  let v3716 : BitVec 32 := Scalar.extui v3715
  let v3717 : BitVec 32 := Scalar.subi v3714 v3716
  let v3718 : BitVec 1 := Scalar.cmpi .ne v3712 v3717
  let v3719 : BitVec 32 := Scalar.remsi v3706 c3_i32_2334
  let c0_i32_2339 : BitVec 32 := 0#32
  let v3720 : BitVec 1 := Scalar.cmpi .ne v3719 c0_i32_2339
  let v3721 : BitVec 1 := Scalar.andi v3718 v3720
  let v3707 : BitVec 32 := Scalar.divsi v3706 c3_i32_2334
  let c1_i32_2340 : BitVec 32 := 1#32
  let v3722 : BitVec 32 := Scalar.subi v3707 c1_i32_2340
  let v3723 : BitVec 32 := Scalar.select v3721 v3722 v3707
  let v3724 : BitVec 32 := Scalar.maxsi c0_i32_2341 v3723
  let v3725 : BitVec 32 := Scalar.minsi c10_i32_2342 v3724
  let v3726 : BitVec 32 := Scalar.subi v1128 v3725
  let c64_i32_2343 : BitVec 32 := 64#32
  let v3727 : BitVec 32 := Scalar.muli v3726 c64_i32_2343
  let c0_i32_2350 : BitVec 32 := 0#32
  ![0, 0, v3727.toNat, 0]
def k0_off104 (d0 : Dev nD) : Fin 4 → Nat :=
  let c0_i32_2351 : BitVec 32 := 0#32
  let c0_i32_2352 : BitVec 32 := 0#32
  let c64_i32_2353 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_688 : BitVec 32 := 15#32
  let v1098 : BitVec 32 := Scalar.subi v2 c15_i32_688
  let c16_i32_689 : BitVec 32 := 16#32
  let v1099 : BitVec 32 := Scalar.addi v1098 c16_i32_689
  let c16_i32_690 : BitVec 32 := 16#32
  let c0_i32_691 : BitVec 32 := 0#32
  let v1100 : BitVec 1 := Scalar.cmpi .eq c16_i32_690 c0_i32_691
  let c1_i32_692 : BitVec 32 := 1#32
  let v1101 : BitVec 32 := Scalar.select v1100 c1_i32_692 c16_i32_690
  let v1102 : BitVec 32 := Scalar.remsi v1099 v1101
  let c0_i32_694 : BitVec 32 := 0#32
  let v1104 : BitVec 1 := Scalar.cmpi .slt v1102 c0_i32_694
  let c0_i32_695 : BitVec 32 := 0#32
  let v1105 : BitVec 1 := Scalar.cmpi .slt v1101 c0_i32_695
  let v1106 : BitVec 1 := Scalar.xori v1104 v1105
  let c0_i32_693 : BitVec 32 := 0#32
  let v1103 : BitVec 1 := Scalar.cmpi .ne v1102 c0_i32_693
  let v1107 : BitVec 1 := Scalar.andi v1106 v1103
  let v1108 : BitVec 32 := Scalar.addi v1102 v1101
  let v1109 : BitVec 32 := Scalar.select v1107 v1108 v1102
  let c256_i32 : BitVec 32 := 256#32
  let v3705 : BitVec 32 := Scalar.muli v1109 c256_i32
  ![0, 0, 64, v3705.toNat]
def k0_off105 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_off106 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_814 : BitVec 32 := 0#32
  let v1281 : BitVec 1 := Scalar.cmpi .sgt v2 c0_i32_814
  let v1282 : BitVec 32 := Scalar.extui v1281
  let c0_i32_815 : BitVec 32 := 0#32
  let v1283 : BitVec 1 := Scalar.cmpi .slt v2 c0_i32_815
  let v1284 : BitVec 32 := Scalar.extui v1283
  let v1285 : BitVec 32 := Scalar.subi v1282 v1284
  let c8_i32_813 : BitVec 32 := 8#32
  let c0_i32_816 : BitVec 32 := 0#32
  let v1286 : BitVec 1 := Scalar.cmpi .sgt c8_i32_813 c0_i32_816
  let v1287 : BitVec 32 := Scalar.extui v1286
  let c0_i32_817 : BitVec 32 := 0#32
  let v1288 : BitVec 1 := Scalar.cmpi .slt c8_i32_813 c0_i32_817
  let v1289 : BitVec 32 := Scalar.extui v1288
  let v1290 : BitVec 32 := Scalar.subi v1287 v1289
  let v1291 : BitVec 1 := Scalar.cmpi .ne v1285 v1290
  let v1292 : BitVec 32 := Scalar.remsi v2 c8_i32_813
  let c0_i32_818 : BitVec 32 := 0#32
  let v1293 : BitVec 1 := Scalar.cmpi .ne v1292 c0_i32_818
  let v1294 : BitVec 1 := Scalar.andi v1291 v1293
  let v1280 : BitVec 32 := Scalar.divsi v2 c8_i32_813
  let c1_i32_819 : BitVec 32 := 1#32
  let v1295 : BitVec 32 := Scalar.subi v1280 c1_i32_819
  let v1296 : BitVec 32 := Scalar.select v1294 v1295 v1280
  let c8_i32_820 : BitVec 32 := 8#32
  let c0_i32_821 : BitVec 32 := 0#32
  let v1297 : BitVec 1 := Scalar.cmpi .eq c8_i32_820 c0_i32_821
  let c1_i32_822 : BitVec 32 := 1#32
  let v1298 : BitVec 32 := Scalar.select v1297 c1_i32_822 c8_i32_820
  let v1299 : BitVec 32 := Scalar.remsi v2 v1298
  let c0_i32_824 : BitVec 32 := 0#32
  let v1301 : BitVec 1 := Scalar.cmpi .slt v1299 c0_i32_824
  let c0_i32_825 : BitVec 32 := 0#32
  let v1302 : BitVec 1 := Scalar.cmpi .slt v1298 c0_i32_825
  let v1303 : BitVec 1 := Scalar.xori v1301 v1302
  let c0_i32_823 : BitVec 32 := 0#32
  let v1300 : BitVec 1 := Scalar.cmpi .ne v1299 c0_i32_823
  let v1304 : BitVec 1 := Scalar.andi v1303 v1300
  let v1305 : BitVec 32 := Scalar.addi v1299 v1298
  let v1306 : BitVec 32 := Scalar.select v1304 v1305 v1299
  let c16_i32_826 : BitVec 32 := 16#32
  let v1307 : BitVec 32 := Scalar.muli v1306 c16_i32_826
  let c0_i32_830 : BitVec 32 := 0#32
  ![v1296.toNat, v1307.toNat, 0]
def k0_off107 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off108 (d0 : Dev nD) (c1_i32_831 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1314 : BitVec 32 := Scalar.addi v2 c1_i32_831
  let c16_i32_832 : BitVec 32 := 16#32
  let c0_i32_833 : BitVec 32 := 0#32
  let v1315 : BitVec 1 := Scalar.cmpi .eq c16_i32_832 c0_i32_833
  let c1_i32_834 : BitVec 32 := 1#32
  let v1316 : BitVec 32 := Scalar.select v1315 c1_i32_834 c16_i32_832
  let v1317 : BitVec 32 := Scalar.remsi v1314 v1316
  let c0_i32_836 : BitVec 32 := 0#32
  let v1319 : BitVec 1 := Scalar.cmpi .slt v1317 c0_i32_836
  let c0_i32_837 : BitVec 32 := 0#32
  let v1320 : BitVec 1 := Scalar.cmpi .slt v1316 c0_i32_837
  let v1321 : BitVec 1 := Scalar.xori v1319 v1320
  let c0_i32_835 : BitVec 32 := 0#32
  let v1318 : BitVec 1 := Scalar.cmpi .ne v1317 c0_i32_835
  let v1322 : BitVec 1 := Scalar.andi v1321 v1318
  let v1323 : BitVec 32 := Scalar.addi v1317 v1316
  let v1324 : BitVec 32 := Scalar.select v1322 v1323 v1317
  let c0_i32_839 : BitVec 32 := 0#32
  let v1326 : BitVec 1 := Scalar.cmpi .sgt v1324 c0_i32_839
  let v1327 : BitVec 32 := Scalar.extui v1326
  let c0_i32_840 : BitVec 32 := 0#32
  let v1328 : BitVec 1 := Scalar.cmpi .slt v1324 c0_i32_840
  let v1329 : BitVec 32 := Scalar.extui v1328
  let v1330 : BitVec 32 := Scalar.subi v1327 v1329
  let c8_i32_838 : BitVec 32 := 8#32
  let c0_i32_841 : BitVec 32 := 0#32
  let v1331 : BitVec 1 := Scalar.cmpi .sgt c8_i32_838 c0_i32_841
  let v1332 : BitVec 32 := Scalar.extui v1331
  let c0_i32_842 : BitVec 32 := 0#32
  let v1333 : BitVec 1 := Scalar.cmpi .slt c8_i32_838 c0_i32_842
  let v1334 : BitVec 32 := Scalar.extui v1333
  let v1335 : BitVec 32 := Scalar.subi v1332 v1334
  let v1336 : BitVec 1 := Scalar.cmpi .ne v1330 v1335
  let v1337 : BitVec 32 := Scalar.remsi v1324 c8_i32_838
  let c0_i32_843 : BitVec 32 := 0#32
  let v1338 : BitVec 1 := Scalar.cmpi .ne v1337 c0_i32_843
  let v1339 : BitVec 1 := Scalar.andi v1336 v1338
  let v1325 : BitVec 32 := Scalar.divsi v1324 c8_i32_838
  let c1_i32_844 : BitVec 32 := 1#32
  let v1340 : BitVec 32 := Scalar.subi v1325 c1_i32_844
  let v1341 : BitVec 32 := Scalar.select v1339 v1340 v1325
  let c8_i32_845 : BitVec 32 := 8#32
  let c0_i32_846 : BitVec 32 := 0#32
  let v1342 : BitVec 1 := Scalar.cmpi .eq c8_i32_845 c0_i32_846
  let c1_i32_847 : BitVec 32 := 1#32
  let v1343 : BitVec 32 := Scalar.select v1342 c1_i32_847 c8_i32_845
  let v1344 : BitVec 32 := Scalar.remsi v1324 v1343
  let c0_i32_849 : BitVec 32 := 0#32
  let v1346 : BitVec 1 := Scalar.cmpi .slt v1344 c0_i32_849
  let c0_i32_850 : BitVec 32 := 0#32
  let v1347 : BitVec 1 := Scalar.cmpi .slt v1343 c0_i32_850
  let v1348 : BitVec 1 := Scalar.xori v1346 v1347
  let c0_i32_848 : BitVec 32 := 0#32
  let v1345 : BitVec 1 := Scalar.cmpi .ne v1344 c0_i32_848
  let v1349 : BitVec 1 := Scalar.andi v1348 v1345
  let v1350 : BitVec 32 := Scalar.addi v1344 v1343
  let v1351 : BitVec 32 := Scalar.select v1349 v1350 v1344
  let c16_i32_851 : BitVec 32 := 16#32
  let v1352 : BitVec 32 := Scalar.muli v1351 c16_i32_851
  let c0_i32_857 : BitVec 32 := 0#32
  ![v1341.toNat, v1352.toNat, 0]
def k0_dev46 (d0 : Dev nD) : Nat :=
  let c0_i32_854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_831 : BitVec 32 := 1#32
  let v1314 : BitVec 32 := Scalar.addi v2 c1_i32_831
  let c16_i32_832 : BitVec 32 := 16#32
  let c0_i32_833 : BitVec 32 := 0#32
  let v1315 : BitVec 1 := Scalar.cmpi .eq c16_i32_832 c0_i32_833
  let c1_i32_834 : BitVec 32 := 1#32
  let v1316 : BitVec 32 := Scalar.select v1315 c1_i32_834 c16_i32_832
  let v1317 : BitVec 32 := Scalar.remsi v1314 v1316
  let c0_i32_836 : BitVec 32 := 0#32
  let v1319 : BitVec 1 := Scalar.cmpi .slt v1317 c0_i32_836
  let c0_i32_837 : BitVec 32 := 0#32
  let v1320 : BitVec 1 := Scalar.cmpi .slt v1316 c0_i32_837
  let v1321 : BitVec 1 := Scalar.xori v1319 v1320
  let c0_i32_835 : BitVec 32 := 0#32
  let v1318 : BitVec 1 := Scalar.cmpi .ne v1317 c0_i32_835
  let v1322 : BitVec 1 := Scalar.andi v1321 v1318
  let v1323 : BitVec 32 := Scalar.addi v1317 v1316
  let v1324 : BitVec 32 := Scalar.select v1322 v1323 v1317
  let c1_i32_853 : BitVec 32 := 1#32
  let v1353 : BitVec 32 := Scalar.muli v1324 c1_i32_853
  let v1354 : BitVec 32 := Scalar.addi c0_i32_854 v1353
  v1354.toNat
def k0_dev47 (d0 : Dev nD) : Nat :=
  let c0_i32_881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_858 : BitVec 32 := 2#32
  let v1363 : BitVec 32 := Scalar.addi v2 c2_i32_858
  let c16_i32_859 : BitVec 32 := 16#32
  let c0_i32_860 : BitVec 32 := 0#32
  let v1364 : BitVec 1 := Scalar.cmpi .eq c16_i32_859 c0_i32_860
  let c1_i32_861 : BitVec 32 := 1#32
  let v1365 : BitVec 32 := Scalar.select v1364 c1_i32_861 c16_i32_859
  let v1366 : BitVec 32 := Scalar.remsi v1363 v1365
  let c0_i32_863 : BitVec 32 := 0#32
  let v1368 : BitVec 1 := Scalar.cmpi .slt v1366 c0_i32_863
  let c0_i32_864 : BitVec 32 := 0#32
  let v1369 : BitVec 1 := Scalar.cmpi .slt v1365 c0_i32_864
  let v1370 : BitVec 1 := Scalar.xori v1368 v1369
  let c0_i32_862 : BitVec 32 := 0#32
  let v1367 : BitVec 1 := Scalar.cmpi .ne v1366 c0_i32_862
  let v1371 : BitVec 1 := Scalar.andi v1370 v1367
  let v1372 : BitVec 32 := Scalar.addi v1366 v1365
  let v1373 : BitVec 32 := Scalar.select v1371 v1372 v1366
  let c1_i32_880 : BitVec 32 := 1#32
  let v1402 : BitVec 32 := Scalar.muli v1373 c1_i32_880
  let v1403 : BitVec 32 := Scalar.addi c0_i32_881 v1402
  v1403.toNat
def k0_dev48 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_885 : BitVec 32 := 3#32
  let v1412 : BitVec 32 := Scalar.addi v2 c3_i32_885
  let c16_i32_886 : BitVec 32 := 16#32
  let c0_i32_887 : BitVec 32 := 0#32
  let v1413 : BitVec 1 := Scalar.cmpi .eq c16_i32_886 c0_i32_887
  let c1_i32_888 : BitVec 32 := 1#32
  let v1414 : BitVec 32 := Scalar.select v1413 c1_i32_888 c16_i32_886
  let v1415 : BitVec 32 := Scalar.remsi v1412 v1414
  let c0_i32_890 : BitVec 32 := 0#32
  let v1417 : BitVec 1 := Scalar.cmpi .slt v1415 c0_i32_890
  let c0_i32_891 : BitVec 32 := 0#32
  let v1418 : BitVec 1 := Scalar.cmpi .slt v1414 c0_i32_891
  let v1419 : BitVec 1 := Scalar.xori v1417 v1418
  let c0_i32_889 : BitVec 32 := 0#32
  let v1416 : BitVec 1 := Scalar.cmpi .ne v1415 c0_i32_889
  let v1420 : BitVec 1 := Scalar.andi v1419 v1416
  let v1421 : BitVec 32 := Scalar.addi v1415 v1414
  let v1422 : BitVec 32 := Scalar.select v1420 v1421 v1415
  let c1_i32_907 : BitVec 32 := 1#32
  let v1451 : BitVec 32 := Scalar.muli v1422 c1_i32_907
  let v1452 : BitVec 32 := Scalar.addi c0_i32_908 v1451
  v1452.toNat
def k0_dev49 (d0 : Dev nD) : Nat :=
  let c0_i32_935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_912 : BitVec 32 := 4#32
  let v1461 : BitVec 32 := Scalar.addi v2 c4_i32_912
  let c16_i32_913 : BitVec 32 := 16#32
  let c0_i32_914 : BitVec 32 := 0#32
  let v1462 : BitVec 1 := Scalar.cmpi .eq c16_i32_913 c0_i32_914
  let c1_i32_915 : BitVec 32 := 1#32
  let v1463 : BitVec 32 := Scalar.select v1462 c1_i32_915 c16_i32_913
  let v1464 : BitVec 32 := Scalar.remsi v1461 v1463
  let c0_i32_917 : BitVec 32 := 0#32
  let v1466 : BitVec 1 := Scalar.cmpi .slt v1464 c0_i32_917
  let c0_i32_918 : BitVec 32 := 0#32
  let v1467 : BitVec 1 := Scalar.cmpi .slt v1463 c0_i32_918
  let v1468 : BitVec 1 := Scalar.xori v1466 v1467
  let c0_i32_916 : BitVec 32 := 0#32
  let v1465 : BitVec 1 := Scalar.cmpi .ne v1464 c0_i32_916
  let v1469 : BitVec 1 := Scalar.andi v1468 v1465
  let v1470 : BitVec 32 := Scalar.addi v1464 v1463
  let v1471 : BitVec 32 := Scalar.select v1469 v1470 v1464
  let c1_i32_934 : BitVec 32 := 1#32
  let v1500 : BitVec 32 := Scalar.muli v1471 c1_i32_934
  let v1501 : BitVec 32 := Scalar.addi c0_i32_935 v1500
  v1501.toNat
def k0_dev50 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_939 : BitVec 32 := 5#32
  let v1510 : BitVec 32 := Scalar.addi v2 c5_i32_939
  let c16_i32_940 : BitVec 32 := 16#32
  let c0_i32_941 : BitVec 32 := 0#32
  let v1511 : BitVec 1 := Scalar.cmpi .eq c16_i32_940 c0_i32_941
  let c1_i32_942 : BitVec 32 := 1#32
  let v1512 : BitVec 32 := Scalar.select v1511 c1_i32_942 c16_i32_940
  let v1513 : BitVec 32 := Scalar.remsi v1510 v1512
  let c0_i32_944 : BitVec 32 := 0#32
  let v1515 : BitVec 1 := Scalar.cmpi .slt v1513 c0_i32_944
  let c0_i32_945 : BitVec 32 := 0#32
  let v1516 : BitVec 1 := Scalar.cmpi .slt v1512 c0_i32_945
  let v1517 : BitVec 1 := Scalar.xori v1515 v1516
  let c0_i32_943 : BitVec 32 := 0#32
  let v1514 : BitVec 1 := Scalar.cmpi .ne v1513 c0_i32_943
  let v1518 : BitVec 1 := Scalar.andi v1517 v1514
  let v1519 : BitVec 32 := Scalar.addi v1513 v1512
  let v1520 : BitVec 32 := Scalar.select v1518 v1519 v1513
  let c1_i32_961 : BitVec 32 := 1#32
  let v1549 : BitVec 32 := Scalar.muli v1520 c1_i32_961
  let v1550 : BitVec 32 := Scalar.addi c0_i32_962 v1549
  v1550.toNat
def k0_dev51 (d0 : Dev nD) : Nat :=
  let c0_i32_989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_966 : BitVec 32 := 6#32
  let v1559 : BitVec 32 := Scalar.addi v2 c6_i32_966
  let c16_i32_967 : BitVec 32 := 16#32
  let c0_i32_968 : BitVec 32 := 0#32
  let v1560 : BitVec 1 := Scalar.cmpi .eq c16_i32_967 c0_i32_968
  let c1_i32_969 : BitVec 32 := 1#32
  let v1561 : BitVec 32 := Scalar.select v1560 c1_i32_969 c16_i32_967
  let v1562 : BitVec 32 := Scalar.remsi v1559 v1561
  let c0_i32_971 : BitVec 32 := 0#32
  let v1564 : BitVec 1 := Scalar.cmpi .slt v1562 c0_i32_971
  let c0_i32_972 : BitVec 32 := 0#32
  let v1565 : BitVec 1 := Scalar.cmpi .slt v1561 c0_i32_972
  let v1566 : BitVec 1 := Scalar.xori v1564 v1565
  let c0_i32_970 : BitVec 32 := 0#32
  let v1563 : BitVec 1 := Scalar.cmpi .ne v1562 c0_i32_970
  let v1567 : BitVec 1 := Scalar.andi v1566 v1563
  let v1568 : BitVec 32 := Scalar.addi v1562 v1561
  let v1569 : BitVec 32 := Scalar.select v1567 v1568 v1562
  let c1_i32_988 : BitVec 32 := 1#32
  let v1598 : BitVec 32 := Scalar.muli v1569 c1_i32_988
  let v1599 : BitVec 32 := Scalar.addi c0_i32_989 v1598
  v1599.toNat
def k0_dev52 (d0 : Dev nD) : Nat :=
  let c0_i32_1016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_993 : BitVec 32 := 7#32
  let v1608 : BitVec 32 := Scalar.addi v2 c7_i32_993
  let c16_i32_994 : BitVec 32 := 16#32
  let c0_i32_995 : BitVec 32 := 0#32
  let v1609 : BitVec 1 := Scalar.cmpi .eq c16_i32_994 c0_i32_995
  let c1_i32_996 : BitVec 32 := 1#32
  let v1610 : BitVec 32 := Scalar.select v1609 c1_i32_996 c16_i32_994
  let v1611 : BitVec 32 := Scalar.remsi v1608 v1610
  let c0_i32_998 : BitVec 32 := 0#32
  let v1613 : BitVec 1 := Scalar.cmpi .slt v1611 c0_i32_998
  let c0_i32_999 : BitVec 32 := 0#32
  let v1614 : BitVec 1 := Scalar.cmpi .slt v1610 c0_i32_999
  let v1615 : BitVec 1 := Scalar.xori v1613 v1614
  let c0_i32_997 : BitVec 32 := 0#32
  let v1612 : BitVec 1 := Scalar.cmpi .ne v1611 c0_i32_997
  let v1616 : BitVec 1 := Scalar.andi v1615 v1612
  let v1617 : BitVec 32 := Scalar.addi v1611 v1610
  let v1618 : BitVec 32 := Scalar.select v1616 v1617 v1611
  let c1_i32_1015 : BitVec 32 := 1#32
  let v1647 : BitVec 32 := Scalar.muli v1618 c1_i32_1015
  let v1648 : BitVec 32 := Scalar.addi c0_i32_1016 v1647
  v1648.toNat
def k0_dev53 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1020 : BitVec 32 := 8#32
  let v1657 : BitVec 32 := Scalar.addi v2 c8_i32_1020
  let c16_i32_1021 : BitVec 32 := 16#32
  let c0_i32_1022 : BitVec 32 := 0#32
  let v1658 : BitVec 1 := Scalar.cmpi .eq c16_i32_1021 c0_i32_1022
  let c1_i32_1023 : BitVec 32 := 1#32
  let v1659 : BitVec 32 := Scalar.select v1658 c1_i32_1023 c16_i32_1021
  let v1660 : BitVec 32 := Scalar.remsi v1657 v1659
  let c0_i32_1025 : BitVec 32 := 0#32
  let v1662 : BitVec 1 := Scalar.cmpi .slt v1660 c0_i32_1025
  let c0_i32_1026 : BitVec 32 := 0#32
  let v1663 : BitVec 1 := Scalar.cmpi .slt v1659 c0_i32_1026
  let v1664 : BitVec 1 := Scalar.xori v1662 v1663
  let c0_i32_1024 : BitVec 32 := 0#32
  let v1661 : BitVec 1 := Scalar.cmpi .ne v1660 c0_i32_1024
  let v1665 : BitVec 1 := Scalar.andi v1664 v1661
  let v1666 : BitVec 32 := Scalar.addi v1660 v1659
  let v1667 : BitVec 32 := Scalar.select v1665 v1666 v1660
  let c1_i32_1042 : BitVec 32 := 1#32
  let v1696 : BitVec 32 := Scalar.muli v1667 c1_i32_1042
  let v1697 : BitVec 32 := Scalar.addi c0_i32_1043 v1696
  v1697.toNat
def k0_dev54 (d0 : Dev nD) : Nat :=
  let c0_i32_1070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1047 : BitVec 32 := 9#32
  let v1706 : BitVec 32 := Scalar.addi v2 c9_i32_1047
  let c16_i32_1048 : BitVec 32 := 16#32
  let c0_i32_1049 : BitVec 32 := 0#32
  let v1707 : BitVec 1 := Scalar.cmpi .eq c16_i32_1048 c0_i32_1049
  let c1_i32_1050 : BitVec 32 := 1#32
  let v1708 : BitVec 32 := Scalar.select v1707 c1_i32_1050 c16_i32_1048
  let v1709 : BitVec 32 := Scalar.remsi v1706 v1708
  let c0_i32_1052 : BitVec 32 := 0#32
  let v1711 : BitVec 1 := Scalar.cmpi .slt v1709 c0_i32_1052
  let c0_i32_1053 : BitVec 32 := 0#32
  let v1712 : BitVec 1 := Scalar.cmpi .slt v1708 c0_i32_1053
  let v1713 : BitVec 1 := Scalar.xori v1711 v1712
  let c0_i32_1051 : BitVec 32 := 0#32
  let v1710 : BitVec 1 := Scalar.cmpi .ne v1709 c0_i32_1051
  let v1714 : BitVec 1 := Scalar.andi v1713 v1710
  let v1715 : BitVec 32 := Scalar.addi v1709 v1708
  let v1716 : BitVec 32 := Scalar.select v1714 v1715 v1709
  let c1_i32_1069 : BitVec 32 := 1#32
  let v1745 : BitVec 32 := Scalar.muli v1716 c1_i32_1069
  let v1746 : BitVec 32 := Scalar.addi c0_i32_1070 v1745
  v1746.toNat
def k0_dev55 (d0 : Dev nD) : Nat :=
  let c0_i32_1097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1074 : BitVec 32 := 10#32
  let v1755 : BitVec 32 := Scalar.addi v2 c10_i32_1074
  let c16_i32_1075 : BitVec 32 := 16#32
  let c0_i32_1076 : BitVec 32 := 0#32
  let v1756 : BitVec 1 := Scalar.cmpi .eq c16_i32_1075 c0_i32_1076
  let c1_i32_1077 : BitVec 32 := 1#32
  let v1757 : BitVec 32 := Scalar.select v1756 c1_i32_1077 c16_i32_1075
  let v1758 : BitVec 32 := Scalar.remsi v1755 v1757
  let c0_i32_1079 : BitVec 32 := 0#32
  let v1760 : BitVec 1 := Scalar.cmpi .slt v1758 c0_i32_1079
  let c0_i32_1080 : BitVec 32 := 0#32
  let v1761 : BitVec 1 := Scalar.cmpi .slt v1757 c0_i32_1080
  let v1762 : BitVec 1 := Scalar.xori v1760 v1761
  let c0_i32_1078 : BitVec 32 := 0#32
  let v1759 : BitVec 1 := Scalar.cmpi .ne v1758 c0_i32_1078
  let v1763 : BitVec 1 := Scalar.andi v1762 v1759
  let v1764 : BitVec 32 := Scalar.addi v1758 v1757
  let v1765 : BitVec 32 := Scalar.select v1763 v1764 v1758
  let c1_i32_1096 : BitVec 32 := 1#32
  let v1794 : BitVec 32 := Scalar.muli v1765 c1_i32_1096
  let v1795 : BitVec 32 := Scalar.addi c0_i32_1097 v1794
  v1795.toNat
def k0_dev56 (d0 : Dev nD) : Nat :=
  let c0_i32_1124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1101 : BitVec 32 := 11#32
  let v1804 : BitVec 32 := Scalar.addi v2 c11_i32_1101
  let c16_i32_1102 : BitVec 32 := 16#32
  let c0_i32_1103 : BitVec 32 := 0#32
  let v1805 : BitVec 1 := Scalar.cmpi .eq c16_i32_1102 c0_i32_1103
  let c1_i32_1104 : BitVec 32 := 1#32
  let v1806 : BitVec 32 := Scalar.select v1805 c1_i32_1104 c16_i32_1102
  let v1807 : BitVec 32 := Scalar.remsi v1804 v1806
  let c0_i32_1106 : BitVec 32 := 0#32
  let v1809 : BitVec 1 := Scalar.cmpi .slt v1807 c0_i32_1106
  let c0_i32_1107 : BitVec 32 := 0#32
  let v1810 : BitVec 1 := Scalar.cmpi .slt v1806 c0_i32_1107
  let v1811 : BitVec 1 := Scalar.xori v1809 v1810
  let c0_i32_1105 : BitVec 32 := 0#32
  let v1808 : BitVec 1 := Scalar.cmpi .ne v1807 c0_i32_1105
  let v1812 : BitVec 1 := Scalar.andi v1811 v1808
  let v1813 : BitVec 32 := Scalar.addi v1807 v1806
  let v1814 : BitVec 32 := Scalar.select v1812 v1813 v1807
  let c1_i32_1123 : BitVec 32 := 1#32
  let v1843 : BitVec 32 := Scalar.muli v1814 c1_i32_1123
  let v1844 : BitVec 32 := Scalar.addi c0_i32_1124 v1843
  v1844.toNat
def k0_dev57 (d0 : Dev nD) : Nat :=
  let c0_i32_1151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1128 : BitVec 32 := 12#32
  let v1853 : BitVec 32 := Scalar.addi v2 c12_i32_1128
  let c16_i32_1129 : BitVec 32 := 16#32
  let c0_i32_1130 : BitVec 32 := 0#32
  let v1854 : BitVec 1 := Scalar.cmpi .eq c16_i32_1129 c0_i32_1130
  let c1_i32_1131 : BitVec 32 := 1#32
  let v1855 : BitVec 32 := Scalar.select v1854 c1_i32_1131 c16_i32_1129
  let v1856 : BitVec 32 := Scalar.remsi v1853 v1855
  let c0_i32_1133 : BitVec 32 := 0#32
  let v1858 : BitVec 1 := Scalar.cmpi .slt v1856 c0_i32_1133
  let c0_i32_1134 : BitVec 32 := 0#32
  let v1859 : BitVec 1 := Scalar.cmpi .slt v1855 c0_i32_1134
  let v1860 : BitVec 1 := Scalar.xori v1858 v1859
  let c0_i32_1132 : BitVec 32 := 0#32
  let v1857 : BitVec 1 := Scalar.cmpi .ne v1856 c0_i32_1132
  let v1861 : BitVec 1 := Scalar.andi v1860 v1857
  let v1862 : BitVec 32 := Scalar.addi v1856 v1855
  let v1863 : BitVec 32 := Scalar.select v1861 v1862 v1856
  let c1_i32_1150 : BitVec 32 := 1#32
  let v1892 : BitVec 32 := Scalar.muli v1863 c1_i32_1150
  let v1893 : BitVec 32 := Scalar.addi c0_i32_1151 v1892
  v1893.toNat
def k0_dev58 (d0 : Dev nD) : Nat :=
  let c0_i32_1178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1155 : BitVec 32 := 13#32
  let v1902 : BitVec 32 := Scalar.addi v2 c13_i32_1155
  let c16_i32_1156 : BitVec 32 := 16#32
  let c0_i32_1157 : BitVec 32 := 0#32
  let v1903 : BitVec 1 := Scalar.cmpi .eq c16_i32_1156 c0_i32_1157
  let c1_i32_1158 : BitVec 32 := 1#32
  let v1904 : BitVec 32 := Scalar.select v1903 c1_i32_1158 c16_i32_1156
  let v1905 : BitVec 32 := Scalar.remsi v1902 v1904
  let c0_i32_1160 : BitVec 32 := 0#32
  let v1907 : BitVec 1 := Scalar.cmpi .slt v1905 c0_i32_1160
  let c0_i32_1161 : BitVec 32 := 0#32
  let v1908 : BitVec 1 := Scalar.cmpi .slt v1904 c0_i32_1161
  let v1909 : BitVec 1 := Scalar.xori v1907 v1908
  let c0_i32_1159 : BitVec 32 := 0#32
  let v1906 : BitVec 1 := Scalar.cmpi .ne v1905 c0_i32_1159
  let v1910 : BitVec 1 := Scalar.andi v1909 v1906
  let v1911 : BitVec 32 := Scalar.addi v1905 v1904
  let v1912 : BitVec 32 := Scalar.select v1910 v1911 v1905
  let c1_i32_1177 : BitVec 32 := 1#32
  let v1941 : BitVec 32 := Scalar.muli v1912 c1_i32_1177
  let v1942 : BitVec 32 := Scalar.addi c0_i32_1178 v1941
  v1942.toNat
def k0_dev59 (d0 : Dev nD) : Nat :=
  let c0_i32_1205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1182 : BitVec 32 := 14#32
  let v1951 : BitVec 32 := Scalar.addi v2 c14_i32_1182
  let c16_i32_1183 : BitVec 32 := 16#32
  let c0_i32_1184 : BitVec 32 := 0#32
  let v1952 : BitVec 1 := Scalar.cmpi .eq c16_i32_1183 c0_i32_1184
  let c1_i32_1185 : BitVec 32 := 1#32
  let v1953 : BitVec 32 := Scalar.select v1952 c1_i32_1185 c16_i32_1183
  let v1954 : BitVec 32 := Scalar.remsi v1951 v1953
  let c0_i32_1187 : BitVec 32 := 0#32
  let v1956 : BitVec 1 := Scalar.cmpi .slt v1954 c0_i32_1187
  let c0_i32_1188 : BitVec 32 := 0#32
  let v1957 : BitVec 1 := Scalar.cmpi .slt v1953 c0_i32_1188
  let v1958 : BitVec 1 := Scalar.xori v1956 v1957
  let c0_i32_1186 : BitVec 32 := 0#32
  let v1955 : BitVec 1 := Scalar.cmpi .ne v1954 c0_i32_1186
  let v1959 : BitVec 1 := Scalar.andi v1958 v1955
  let v1960 : BitVec 32 := Scalar.addi v1954 v1953
  let v1961 : BitVec 32 := Scalar.select v1959 v1960 v1954
  let c1_i32_1204 : BitVec 32 := 1#32
  let v1990 : BitVec 32 := Scalar.muli v1961 c1_i32_1204
  let v1991 : BitVec 32 := Scalar.addi c0_i32_1205 v1990
  v1991.toNat
def k0_dev60 (d0 : Dev nD) : Nat :=
  let c0_i32_1232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1209 : BitVec 32 := 15#32
  let v2000 : BitVec 32 := Scalar.addi v2 c15_i32_1209
  let c16_i32_1210 : BitVec 32 := 16#32
  let c0_i32_1211 : BitVec 32 := 0#32
  let v2001 : BitVec 1 := Scalar.cmpi .eq c16_i32_1210 c0_i32_1211
  let c1_i32_1212 : BitVec 32 := 1#32
  let v2002 : BitVec 32 := Scalar.select v2001 c1_i32_1212 c16_i32_1210
  let v2003 : BitVec 32 := Scalar.remsi v2000 v2002
  let c0_i32_1214 : BitVec 32 := 0#32
  let v2005 : BitVec 1 := Scalar.cmpi .slt v2003 c0_i32_1214
  let c0_i32_1215 : BitVec 32 := 0#32
  let v2006 : BitVec 1 := Scalar.cmpi .slt v2002 c0_i32_1215
  let v2007 : BitVec 1 := Scalar.xori v2005 v2006
  let c0_i32_1213 : BitVec 32 := 0#32
  let v2004 : BitVec 1 := Scalar.cmpi .ne v2003 c0_i32_1213
  let v2008 : BitVec 1 := Scalar.andi v2007 v2004
  let v2009 : BitVec 32 := Scalar.addi v2003 v2002
  let v2010 : BitVec 32 := Scalar.select v2008 v2009 v2003
  let c1_i32_1231 : BitVec 32 := 1#32
  let v2039 : BitVec 32 := Scalar.muli v2010 c1_i32_1231
  let v2040 : BitVec 32 := Scalar.addi c0_i32_1232 v2039
  v2040.toNat
def k0_off109 (d0 : Dev nD) (c1_i32_1240 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2055 : BitVec 32 := Scalar.subi v2 c1_i32_1240
  let c16_i32_1241 : BitVec 32 := 16#32
  let v2056 : BitVec 32 := Scalar.addi v2055 c16_i32_1241
  let c16_i32_1242 : BitVec 32 := 16#32
  let c0_i32_1243 : BitVec 32 := 0#32
  let v2057 : BitVec 1 := Scalar.cmpi .eq c16_i32_1242 c0_i32_1243
  let c1_i32_1244 : BitVec 32 := 1#32
  let v2058 : BitVec 32 := Scalar.select v2057 c1_i32_1244 c16_i32_1242
  let v2059 : BitVec 32 := Scalar.remsi v2056 v2058
  let c0_i32_1246 : BitVec 32 := 0#32
  let v2061 : BitVec 1 := Scalar.cmpi .slt v2059 c0_i32_1246
  let c0_i32_1247 : BitVec 32 := 0#32
  let v2062 : BitVec 1 := Scalar.cmpi .slt v2058 c0_i32_1247
  let v2063 : BitVec 1 := Scalar.xori v2061 v2062
  let c0_i32_1245 : BitVec 32 := 0#32
  let v2060 : BitVec 1 := Scalar.cmpi .ne v2059 c0_i32_1245
  let v2064 : BitVec 1 := Scalar.andi v2063 v2060
  let v2065 : BitVec 32 := Scalar.addi v2059 v2058
  let v2066 : BitVec 32 := Scalar.select v2064 v2065 v2059
  ![v2066.toNat]
def k0_off110 (d0 : Dev nD) (c1_i32_1240 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2055 : BitVec 32 := Scalar.subi v2 c1_i32_1240
  let c16_i32_1241 : BitVec 32 := 16#32
  let v2056 : BitVec 32 := Scalar.addi v2055 c16_i32_1241
  let c16_i32_1242 : BitVec 32 := 16#32
  let c0_i32_1243 : BitVec 32 := 0#32
  let v2057 : BitVec 1 := Scalar.cmpi .eq c16_i32_1242 c0_i32_1243
  let c1_i32_1244 : BitVec 32 := 1#32
  let v2058 : BitVec 32 := Scalar.select v2057 c1_i32_1244 c16_i32_1242
  let v2059 : BitVec 32 := Scalar.remsi v2056 v2058
  let c0_i32_1246 : BitVec 32 := 0#32
  let v2061 : BitVec 1 := Scalar.cmpi .slt v2059 c0_i32_1246
  let c0_i32_1247 : BitVec 32 := 0#32
  let v2062 : BitVec 1 := Scalar.cmpi .slt v2058 c0_i32_1247
  let v2063 : BitVec 1 := Scalar.xori v2061 v2062
  let c0_i32_1245 : BitVec 32 := 0#32
  let v2060 : BitVec 1 := Scalar.cmpi .ne v2059 c0_i32_1245
  let v2064 : BitVec 1 := Scalar.andi v2063 v2060
  let v2065 : BitVec 32 := Scalar.addi v2059 v2058
  let v2066 : BitVec 32 := Scalar.select v2064 v2065 v2059
  let c0_i32_1251 : BitVec 32 := 0#32
  let c0_i32_1252 : BitVec 32 := 0#32
  ![v2066.toNat, 0, 0]
def k0_dev61 (d0 : Dev nD) : Nat :=
  let c0_i32_1483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1474 : BitVec 32 := 1#32
  let v2366 : BitVec 32 := Scalar.addi v2 c1_i32_1474
  let c16_i32_1475 : BitVec 32 := 16#32
  let c0_i32_1476 : BitVec 32 := 0#32
  let v2367 : BitVec 1 := Scalar.cmpi .eq c16_i32_1475 c0_i32_1476
  let c1_i32_1477 : BitVec 32 := 1#32
  let v2368 : BitVec 32 := Scalar.select v2367 c1_i32_1477 c16_i32_1475
  let v2369 : BitVec 32 := Scalar.remsi v2366 v2368
  let c0_i32_1479 : BitVec 32 := 0#32
  let v2371 : BitVec 1 := Scalar.cmpi .slt v2369 c0_i32_1479
  let c0_i32_1480 : BitVec 32 := 0#32
  let v2372 : BitVec 1 := Scalar.cmpi .slt v2368 c0_i32_1480
  let v2373 : BitVec 1 := Scalar.xori v2371 v2372
  let c0_i32_1478 : BitVec 32 := 0#32
  let v2370 : BitVec 1 := Scalar.cmpi .ne v2369 c0_i32_1478
  let v2374 : BitVec 1 := Scalar.andi v2373 v2370
  let v2375 : BitVec 32 := Scalar.addi v2369 v2368
  let v2376 : BitVec 32 := Scalar.select v2374 v2375 v2369
  let c1_i32_1482 : BitVec 32 := 1#32
  let v2377 : BitVec 32 := Scalar.muli v2376 c1_i32_1482
  let v2378 : BitVec 32 := Scalar.addi c0_i32_1483 v2377
  v2378.toNat
def k0_dev62 (d0 : Dev nD) : Nat :=
  let c0_i32_1495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1486 : BitVec 32 := 2#32
  let v2385 : BitVec 32 := Scalar.addi v2 c2_i32_1486
  let c16_i32_1487 : BitVec 32 := 16#32
  let c0_i32_1488 : BitVec 32 := 0#32
  let v2386 : BitVec 1 := Scalar.cmpi .eq c16_i32_1487 c0_i32_1488
  let c1_i32_1489 : BitVec 32 := 1#32
  let v2387 : BitVec 32 := Scalar.select v2386 c1_i32_1489 c16_i32_1487
  let v2388 : BitVec 32 := Scalar.remsi v2385 v2387
  let c0_i32_1491 : BitVec 32 := 0#32
  let v2390 : BitVec 1 := Scalar.cmpi .slt v2388 c0_i32_1491
  let c0_i32_1492 : BitVec 32 := 0#32
  let v2391 : BitVec 1 := Scalar.cmpi .slt v2387 c0_i32_1492
  let v2392 : BitVec 1 := Scalar.xori v2390 v2391
  let c0_i32_1490 : BitVec 32 := 0#32
  let v2389 : BitVec 1 := Scalar.cmpi .ne v2388 c0_i32_1490
  let v2393 : BitVec 1 := Scalar.andi v2392 v2389
  let v2394 : BitVec 32 := Scalar.addi v2388 v2387
  let v2395 : BitVec 32 := Scalar.select v2393 v2394 v2388
  let c1_i32_1494 : BitVec 32 := 1#32
  let v2396 : BitVec 32 := Scalar.muli v2395 c1_i32_1494
  let v2397 : BitVec 32 := Scalar.addi c0_i32_1495 v2396
  v2397.toNat
def k0_dev63 (d0 : Dev nD) : Nat :=
  let c0_i32_1507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1498 : BitVec 32 := 3#32
  let v2404 : BitVec 32 := Scalar.addi v2 c3_i32_1498
  let c16_i32_1499 : BitVec 32 := 16#32
  let c0_i32_1500 : BitVec 32 := 0#32
  let v2405 : BitVec 1 := Scalar.cmpi .eq c16_i32_1499 c0_i32_1500
  let c1_i32_1501 : BitVec 32 := 1#32
  let v2406 : BitVec 32 := Scalar.select v2405 c1_i32_1501 c16_i32_1499
  let v2407 : BitVec 32 := Scalar.remsi v2404 v2406
  let c0_i32_1503 : BitVec 32 := 0#32
  let v2409 : BitVec 1 := Scalar.cmpi .slt v2407 c0_i32_1503
  let c0_i32_1504 : BitVec 32 := 0#32
  let v2410 : BitVec 1 := Scalar.cmpi .slt v2406 c0_i32_1504
  let v2411 : BitVec 1 := Scalar.xori v2409 v2410
  let c0_i32_1502 : BitVec 32 := 0#32
  let v2408 : BitVec 1 := Scalar.cmpi .ne v2407 c0_i32_1502
  let v2412 : BitVec 1 := Scalar.andi v2411 v2408
  let v2413 : BitVec 32 := Scalar.addi v2407 v2406
  let v2414 : BitVec 32 := Scalar.select v2412 v2413 v2407
  let c1_i32_1506 : BitVec 32 := 1#32
  let v2415 : BitVec 32 := Scalar.muli v2414 c1_i32_1506
  let v2416 : BitVec 32 := Scalar.addi c0_i32_1507 v2415
  v2416.toNat
def k0_dev64 (d0 : Dev nD) : Nat :=
  let c0_i32_1519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1510 : BitVec 32 := 4#32
  let v2423 : BitVec 32 := Scalar.addi v2 c4_i32_1510
  let c16_i32_1511 : BitVec 32 := 16#32
  let c0_i32_1512 : BitVec 32 := 0#32
  let v2424 : BitVec 1 := Scalar.cmpi .eq c16_i32_1511 c0_i32_1512
  let c1_i32_1513 : BitVec 32 := 1#32
  let v2425 : BitVec 32 := Scalar.select v2424 c1_i32_1513 c16_i32_1511
  let v2426 : BitVec 32 := Scalar.remsi v2423 v2425
  let c0_i32_1515 : BitVec 32 := 0#32
  let v2428 : BitVec 1 := Scalar.cmpi .slt v2426 c0_i32_1515
  let c0_i32_1516 : BitVec 32 := 0#32
  let v2429 : BitVec 1 := Scalar.cmpi .slt v2425 c0_i32_1516
  let v2430 : BitVec 1 := Scalar.xori v2428 v2429
  let c0_i32_1514 : BitVec 32 := 0#32
  let v2427 : BitVec 1 := Scalar.cmpi .ne v2426 c0_i32_1514
  let v2431 : BitVec 1 := Scalar.andi v2430 v2427
  let v2432 : BitVec 32 := Scalar.addi v2426 v2425
  let v2433 : BitVec 32 := Scalar.select v2431 v2432 v2426
  let c1_i32_1518 : BitVec 32 := 1#32
  let v2434 : BitVec 32 := Scalar.muli v2433 c1_i32_1518
  let v2435 : BitVec 32 := Scalar.addi c0_i32_1519 v2434
  v2435.toNat
def k0_dev65 (d0 : Dev nD) : Nat :=
  let c0_i32_1531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1522 : BitVec 32 := 5#32
  let v2442 : BitVec 32 := Scalar.addi v2 c5_i32_1522
  let c16_i32_1523 : BitVec 32 := 16#32
  let c0_i32_1524 : BitVec 32 := 0#32
  let v2443 : BitVec 1 := Scalar.cmpi .eq c16_i32_1523 c0_i32_1524
  let c1_i32_1525 : BitVec 32 := 1#32
  let v2444 : BitVec 32 := Scalar.select v2443 c1_i32_1525 c16_i32_1523
  let v2445 : BitVec 32 := Scalar.remsi v2442 v2444
  let c0_i32_1527 : BitVec 32 := 0#32
  let v2447 : BitVec 1 := Scalar.cmpi .slt v2445 c0_i32_1527
  let c0_i32_1528 : BitVec 32 := 0#32
  let v2448 : BitVec 1 := Scalar.cmpi .slt v2444 c0_i32_1528
  let v2449 : BitVec 1 := Scalar.xori v2447 v2448
  let c0_i32_1526 : BitVec 32 := 0#32
  let v2446 : BitVec 1 := Scalar.cmpi .ne v2445 c0_i32_1526
  let v2450 : BitVec 1 := Scalar.andi v2449 v2446
  let v2451 : BitVec 32 := Scalar.addi v2445 v2444
  let v2452 : BitVec 32 := Scalar.select v2450 v2451 v2445
  let c1_i32_1530 : BitVec 32 := 1#32
  let v2453 : BitVec 32 := Scalar.muli v2452 c1_i32_1530
  let v2454 : BitVec 32 := Scalar.addi c0_i32_1531 v2453
  v2454.toNat
def k0_dev66 (d0 : Dev nD) : Nat :=
  let c0_i32_1543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1534 : BitVec 32 := 6#32
  let v2461 : BitVec 32 := Scalar.addi v2 c6_i32_1534
  let c16_i32_1535 : BitVec 32 := 16#32
  let c0_i32_1536 : BitVec 32 := 0#32
  let v2462 : BitVec 1 := Scalar.cmpi .eq c16_i32_1535 c0_i32_1536
  let c1_i32_1537 : BitVec 32 := 1#32
  let v2463 : BitVec 32 := Scalar.select v2462 c1_i32_1537 c16_i32_1535
  let v2464 : BitVec 32 := Scalar.remsi v2461 v2463
  let c0_i32_1539 : BitVec 32 := 0#32
  let v2466 : BitVec 1 := Scalar.cmpi .slt v2464 c0_i32_1539
  let c0_i32_1540 : BitVec 32 := 0#32
  let v2467 : BitVec 1 := Scalar.cmpi .slt v2463 c0_i32_1540
  let v2468 : BitVec 1 := Scalar.xori v2466 v2467
  let c0_i32_1538 : BitVec 32 := 0#32
  let v2465 : BitVec 1 := Scalar.cmpi .ne v2464 c0_i32_1538
  let v2469 : BitVec 1 := Scalar.andi v2468 v2465
  let v2470 : BitVec 32 := Scalar.addi v2464 v2463
  let v2471 : BitVec 32 := Scalar.select v2469 v2470 v2464
  let c1_i32_1542 : BitVec 32 := 1#32
  let v2472 : BitVec 32 := Scalar.muli v2471 c1_i32_1542
  let v2473 : BitVec 32 := Scalar.addi c0_i32_1543 v2472
  v2473.toNat
def k0_dev67 (d0 : Dev nD) : Nat :=
  let c0_i32_1555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1546 : BitVec 32 := 7#32
  let v2480 : BitVec 32 := Scalar.addi v2 c7_i32_1546
  let c16_i32_1547 : BitVec 32 := 16#32
  let c0_i32_1548 : BitVec 32 := 0#32
  let v2481 : BitVec 1 := Scalar.cmpi .eq c16_i32_1547 c0_i32_1548
  let c1_i32_1549 : BitVec 32 := 1#32
  let v2482 : BitVec 32 := Scalar.select v2481 c1_i32_1549 c16_i32_1547
  let v2483 : BitVec 32 := Scalar.remsi v2480 v2482
  let c0_i32_1551 : BitVec 32 := 0#32
  let v2485 : BitVec 1 := Scalar.cmpi .slt v2483 c0_i32_1551
  let c0_i32_1552 : BitVec 32 := 0#32
  let v2486 : BitVec 1 := Scalar.cmpi .slt v2482 c0_i32_1552
  let v2487 : BitVec 1 := Scalar.xori v2485 v2486
  let c0_i32_1550 : BitVec 32 := 0#32
  let v2484 : BitVec 1 := Scalar.cmpi .ne v2483 c0_i32_1550
  let v2488 : BitVec 1 := Scalar.andi v2487 v2484
  let v2489 : BitVec 32 := Scalar.addi v2483 v2482
  let v2490 : BitVec 32 := Scalar.select v2488 v2489 v2483
  let c1_i32_1554 : BitVec 32 := 1#32
  let v2491 : BitVec 32 := Scalar.muli v2490 c1_i32_1554
  let v2492 : BitVec 32 := Scalar.addi c0_i32_1555 v2491
  v2492.toNat
def k0_dev68 (d0 : Dev nD) : Nat :=
  let c0_i32_1567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1558 : BitVec 32 := 8#32
  let v2499 : BitVec 32 := Scalar.addi v2 c8_i32_1558
  let c16_i32_1559 : BitVec 32 := 16#32
  let c0_i32_1560 : BitVec 32 := 0#32
  let v2500 : BitVec 1 := Scalar.cmpi .eq c16_i32_1559 c0_i32_1560
  let c1_i32_1561 : BitVec 32 := 1#32
  let v2501 : BitVec 32 := Scalar.select v2500 c1_i32_1561 c16_i32_1559
  let v2502 : BitVec 32 := Scalar.remsi v2499 v2501
  let c0_i32_1563 : BitVec 32 := 0#32
  let v2504 : BitVec 1 := Scalar.cmpi .slt v2502 c0_i32_1563
  let c0_i32_1564 : BitVec 32 := 0#32
  let v2505 : BitVec 1 := Scalar.cmpi .slt v2501 c0_i32_1564
  let v2506 : BitVec 1 := Scalar.xori v2504 v2505
  let c0_i32_1562 : BitVec 32 := 0#32
  let v2503 : BitVec 1 := Scalar.cmpi .ne v2502 c0_i32_1562
  let v2507 : BitVec 1 := Scalar.andi v2506 v2503
  let v2508 : BitVec 32 := Scalar.addi v2502 v2501
  let v2509 : BitVec 32 := Scalar.select v2507 v2508 v2502
  let c1_i32_1566 : BitVec 32 := 1#32
  let v2510 : BitVec 32 := Scalar.muli v2509 c1_i32_1566
  let v2511 : BitVec 32 := Scalar.addi c0_i32_1567 v2510
  v2511.toNat
def k0_dev69 (d0 : Dev nD) : Nat :=
  let c0_i32_1579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1570 : BitVec 32 := 9#32
  let v2518 : BitVec 32 := Scalar.addi v2 c9_i32_1570
  let c16_i32_1571 : BitVec 32 := 16#32
  let c0_i32_1572 : BitVec 32 := 0#32
  let v2519 : BitVec 1 := Scalar.cmpi .eq c16_i32_1571 c0_i32_1572
  let c1_i32_1573 : BitVec 32 := 1#32
  let v2520 : BitVec 32 := Scalar.select v2519 c1_i32_1573 c16_i32_1571
  let v2521 : BitVec 32 := Scalar.remsi v2518 v2520
  let c0_i32_1575 : BitVec 32 := 0#32
  let v2523 : BitVec 1 := Scalar.cmpi .slt v2521 c0_i32_1575
  let c0_i32_1576 : BitVec 32 := 0#32
  let v2524 : BitVec 1 := Scalar.cmpi .slt v2520 c0_i32_1576
  let v2525 : BitVec 1 := Scalar.xori v2523 v2524
  let c0_i32_1574 : BitVec 32 := 0#32
  let v2522 : BitVec 1 := Scalar.cmpi .ne v2521 c0_i32_1574
  let v2526 : BitVec 1 := Scalar.andi v2525 v2522
  let v2527 : BitVec 32 := Scalar.addi v2521 v2520
  let v2528 : BitVec 32 := Scalar.select v2526 v2527 v2521
  let c1_i32_1578 : BitVec 32 := 1#32
  let v2529 : BitVec 32 := Scalar.muli v2528 c1_i32_1578
  let v2530 : BitVec 32 := Scalar.addi c0_i32_1579 v2529
  v2530.toNat
def k0_dev70 (d0 : Dev nD) : Nat :=
  let c0_i32_1591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1582 : BitVec 32 := 10#32
  let v2537 : BitVec 32 := Scalar.addi v2 c10_i32_1582
  let c16_i32_1583 : BitVec 32 := 16#32
  let c0_i32_1584 : BitVec 32 := 0#32
  let v2538 : BitVec 1 := Scalar.cmpi .eq c16_i32_1583 c0_i32_1584
  let c1_i32_1585 : BitVec 32 := 1#32
  let v2539 : BitVec 32 := Scalar.select v2538 c1_i32_1585 c16_i32_1583
  let v2540 : BitVec 32 := Scalar.remsi v2537 v2539
  let c0_i32_1587 : BitVec 32 := 0#32
  let v2542 : BitVec 1 := Scalar.cmpi .slt v2540 c0_i32_1587
  let c0_i32_1588 : BitVec 32 := 0#32
  let v2543 : BitVec 1 := Scalar.cmpi .slt v2539 c0_i32_1588
  let v2544 : BitVec 1 := Scalar.xori v2542 v2543
  let c0_i32_1586 : BitVec 32 := 0#32
  let v2541 : BitVec 1 := Scalar.cmpi .ne v2540 c0_i32_1586
  let v2545 : BitVec 1 := Scalar.andi v2544 v2541
  let v2546 : BitVec 32 := Scalar.addi v2540 v2539
  let v2547 : BitVec 32 := Scalar.select v2545 v2546 v2540
  let c1_i32_1590 : BitVec 32 := 1#32
  let v2548 : BitVec 32 := Scalar.muli v2547 c1_i32_1590
  let v2549 : BitVec 32 := Scalar.addi c0_i32_1591 v2548
  v2549.toNat
def k0_dev71 (d0 : Dev nD) : Nat :=
  let c0_i32_1603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1594 : BitVec 32 := 11#32
  let v2556 : BitVec 32 := Scalar.addi v2 c11_i32_1594
  let c16_i32_1595 : BitVec 32 := 16#32
  let c0_i32_1596 : BitVec 32 := 0#32
  let v2557 : BitVec 1 := Scalar.cmpi .eq c16_i32_1595 c0_i32_1596
  let c1_i32_1597 : BitVec 32 := 1#32
  let v2558 : BitVec 32 := Scalar.select v2557 c1_i32_1597 c16_i32_1595
  let v2559 : BitVec 32 := Scalar.remsi v2556 v2558
  let c0_i32_1599 : BitVec 32 := 0#32
  let v2561 : BitVec 1 := Scalar.cmpi .slt v2559 c0_i32_1599
  let c0_i32_1600 : BitVec 32 := 0#32
  let v2562 : BitVec 1 := Scalar.cmpi .slt v2558 c0_i32_1600
  let v2563 : BitVec 1 := Scalar.xori v2561 v2562
  let c0_i32_1598 : BitVec 32 := 0#32
  let v2560 : BitVec 1 := Scalar.cmpi .ne v2559 c0_i32_1598
  let v2564 : BitVec 1 := Scalar.andi v2563 v2560
  let v2565 : BitVec 32 := Scalar.addi v2559 v2558
  let v2566 : BitVec 32 := Scalar.select v2564 v2565 v2559
  let c1_i32_1602 : BitVec 32 := 1#32
  let v2567 : BitVec 32 := Scalar.muli v2566 c1_i32_1602
  let v2568 : BitVec 32 := Scalar.addi c0_i32_1603 v2567
  v2568.toNat
def k0_dev72 (d0 : Dev nD) : Nat :=
  let c0_i32_1615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1606 : BitVec 32 := 12#32
  let v2575 : BitVec 32 := Scalar.addi v2 c12_i32_1606
  let c16_i32_1607 : BitVec 32 := 16#32
  let c0_i32_1608 : BitVec 32 := 0#32
  let v2576 : BitVec 1 := Scalar.cmpi .eq c16_i32_1607 c0_i32_1608
  let c1_i32_1609 : BitVec 32 := 1#32
  let v2577 : BitVec 32 := Scalar.select v2576 c1_i32_1609 c16_i32_1607
  let v2578 : BitVec 32 := Scalar.remsi v2575 v2577
  let c0_i32_1611 : BitVec 32 := 0#32
  let v2580 : BitVec 1 := Scalar.cmpi .slt v2578 c0_i32_1611
  let c0_i32_1612 : BitVec 32 := 0#32
  let v2581 : BitVec 1 := Scalar.cmpi .slt v2577 c0_i32_1612
  let v2582 : BitVec 1 := Scalar.xori v2580 v2581
  let c0_i32_1610 : BitVec 32 := 0#32
  let v2579 : BitVec 1 := Scalar.cmpi .ne v2578 c0_i32_1610
  let v2583 : BitVec 1 := Scalar.andi v2582 v2579
  let v2584 : BitVec 32 := Scalar.addi v2578 v2577
  let v2585 : BitVec 32 := Scalar.select v2583 v2584 v2578
  let c1_i32_1614 : BitVec 32 := 1#32
  let v2586 : BitVec 32 := Scalar.muli v2585 c1_i32_1614
  let v2587 : BitVec 32 := Scalar.addi c0_i32_1615 v2586
  v2587.toNat
def k0_dev73 (d0 : Dev nD) : Nat :=
  let c0_i32_1627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1618 : BitVec 32 := 13#32
  let v2594 : BitVec 32 := Scalar.addi v2 c13_i32_1618
  let c16_i32_1619 : BitVec 32 := 16#32
  let c0_i32_1620 : BitVec 32 := 0#32
  let v2595 : BitVec 1 := Scalar.cmpi .eq c16_i32_1619 c0_i32_1620
  let c1_i32_1621 : BitVec 32 := 1#32
  let v2596 : BitVec 32 := Scalar.select v2595 c1_i32_1621 c16_i32_1619
  let v2597 : BitVec 32 := Scalar.remsi v2594 v2596
  let c0_i32_1623 : BitVec 32 := 0#32
  let v2599 : BitVec 1 := Scalar.cmpi .slt v2597 c0_i32_1623
  let c0_i32_1624 : BitVec 32 := 0#32
  let v2600 : BitVec 1 := Scalar.cmpi .slt v2596 c0_i32_1624
  let v2601 : BitVec 1 := Scalar.xori v2599 v2600
  let c0_i32_1622 : BitVec 32 := 0#32
  let v2598 : BitVec 1 := Scalar.cmpi .ne v2597 c0_i32_1622
  let v2602 : BitVec 1 := Scalar.andi v2601 v2598
  let v2603 : BitVec 32 := Scalar.addi v2597 v2596
  let v2604 : BitVec 32 := Scalar.select v2602 v2603 v2597
  let c1_i32_1626 : BitVec 32 := 1#32
  let v2605 : BitVec 32 := Scalar.muli v2604 c1_i32_1626
  let v2606 : BitVec 32 := Scalar.addi c0_i32_1627 v2605
  v2606.toNat
def k0_dev74 (d0 : Dev nD) : Nat :=
  let c0_i32_1639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1630 : BitVec 32 := 14#32
  let v2613 : BitVec 32 := Scalar.addi v2 c14_i32_1630
  let c16_i32_1631 : BitVec 32 := 16#32
  let c0_i32_1632 : BitVec 32 := 0#32
  let v2614 : BitVec 1 := Scalar.cmpi .eq c16_i32_1631 c0_i32_1632
  let c1_i32_1633 : BitVec 32 := 1#32
  let v2615 : BitVec 32 := Scalar.select v2614 c1_i32_1633 c16_i32_1631
  let v2616 : BitVec 32 := Scalar.remsi v2613 v2615
  let c0_i32_1635 : BitVec 32 := 0#32
  let v2618 : BitVec 1 := Scalar.cmpi .slt v2616 c0_i32_1635
  let c0_i32_1636 : BitVec 32 := 0#32
  let v2619 : BitVec 1 := Scalar.cmpi .slt v2615 c0_i32_1636
  let v2620 : BitVec 1 := Scalar.xori v2618 v2619
  let c0_i32_1634 : BitVec 32 := 0#32
  let v2617 : BitVec 1 := Scalar.cmpi .ne v2616 c0_i32_1634
  let v2621 : BitVec 1 := Scalar.andi v2620 v2617
  let v2622 : BitVec 32 := Scalar.addi v2616 v2615
  let v2623 : BitVec 32 := Scalar.select v2621 v2622 v2616
  let c1_i32_1638 : BitVec 32 := 1#32
  let v2624 : BitVec 32 := Scalar.muli v2623 c1_i32_1638
  let v2625 : BitVec 32 := Scalar.addi c0_i32_1639 v2624
  v2625.toNat
def k0_dev75 (d0 : Dev nD) : Nat :=
  let c0_i32_1651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1642 : BitVec 32 := 15#32
  let v2632 : BitVec 32 := Scalar.addi v2 c15_i32_1642
  let c16_i32_1643 : BitVec 32 := 16#32
  let c0_i32_1644 : BitVec 32 := 0#32
  let v2633 : BitVec 1 := Scalar.cmpi .eq c16_i32_1643 c0_i32_1644
  let c1_i32_1645 : BitVec 32 := 1#32
  let v2634 : BitVec 32 := Scalar.select v2633 c1_i32_1645 c16_i32_1643
  let v2635 : BitVec 32 := Scalar.remsi v2632 v2634
  let c0_i32_1647 : BitVec 32 := 0#32
  let v2637 : BitVec 1 := Scalar.cmpi .slt v2635 c0_i32_1647
  let c0_i32_1648 : BitVec 32 := 0#32
  let v2638 : BitVec 1 := Scalar.cmpi .slt v2634 c0_i32_1648
  let v2639 : BitVec 1 := Scalar.xori v2637 v2638
  let c0_i32_1646 : BitVec 32 := 0#32
  let v2636 : BitVec 1 := Scalar.cmpi .ne v2635 c0_i32_1646
  let v2640 : BitVec 1 := Scalar.andi v2639 v2636
  let v2641 : BitVec 32 := Scalar.addi v2635 v2634
  let v2642 : BitVec 32 := Scalar.select v2640 v2641 v2635
  let c1_i32_1650 : BitVec 32 := 1#32
  let v2643 : BitVec 32 := Scalar.muli v2642 c1_i32_1650
  let v2644 : BitVec 32 := Scalar.addi c0_i32_1651 v2643
  v2644.toNat
def k0_cond37 (d0 : Dev nD) : BitVec 1 :=
  let c2_i32_2311 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3671 : BitVec 32 := Scalar.muli c2_i32_2311 v2
  let c0_i32_2312 : BitVec 32 := 0#32
  let v3672 : BitVec 32 := Scalar.addi v3671 c0_i32_2312
  let c1_i32_2313 : BitVec 32 := 1#32
  let v3673 : BitVec 1 := Scalar.cmpi .eq v3672 c1_i32_2313
  let c3_i32_2314 : BitVec 32 := 3#32
  let c0_i32_2315 : BitVec 32 := 0#32
  let v3674 : BitVec 1 := Scalar.cmpi .eq c3_i32_2314 c0_i32_2315
  let c1_i32_2316 : BitVec 32 := 1#32
  let v3675 : BitVec 32 := Scalar.select v3674 c1_i32_2316 c3_i32_2314
  let v3676 : BitVec 32 := Scalar.remsi v3672 v3675
  let c0_i32_2318 : BitVec 32 := 0#32
  let v3678 : BitVec 1 := Scalar.cmpi .slt v3676 c0_i32_2318
  let c0_i32_2319 : BitVec 32 := 0#32
  let v3679 : BitVec 1 := Scalar.cmpi .slt v3675 c0_i32_2319
  let v3680 : BitVec 1 := Scalar.xori v3678 v3679
  let c0_i32_2317 : BitVec 32 := 0#32
  let v3677 : BitVec 1 := Scalar.cmpi .ne v3676 c0_i32_2317
  let v3681 : BitVec 1 := Scalar.andi v3680 v3677
  let v3682 : BitVec 32 := Scalar.addi v3676 v3675
  let v3683 : BitVec 32 := Scalar.select v3681 v3682 v3676
  let c1_i32_2320 : BitVec 32 := 1#32
  let v3684 : BitVec 1 := Scalar.cmpi .ne v3683 c1_i32_2320
  let v3685 : BitVec 1 := Scalar.ori v3673 v3684
  let v3686 : BitVec 32 := Scalar.extui v3685
  let c0_i32_2321 : BitVec 32 := 0#32
  let v3687 : BitVec 1 := Scalar.cmpi .ne v3686 c0_i32_2321
  v3687

def k0_off111 (d0 : Dev nD) (c1_i32_2333 : BitVec 32) : Fin 4 → Nat :=
  let c0_i32_2355 : BitVec 32 := 0#32
  let c0_i32_2356 : BitVec 32 := 0#32
  let c0_i32_2357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3705 : BitVec 32 := Scalar.addi v2 c1_i32_2333
  let c16_i32_2334 : BitVec 32 := 16#32
  let c0_i32_2335 : BitVec 32 := 0#32
  let v3706 : BitVec 1 := Scalar.cmpi .eq c16_i32_2334 c0_i32_2335
  let c1_i32_2336 : BitVec 32 := 1#32
  let v3707 : BitVec 32 := Scalar.select v3706 c1_i32_2336 c16_i32_2334
  let v3708 : BitVec 32 := Scalar.remsi v3705 v3707
  let c0_i32_2338 : BitVec 32 := 0#32
  let v3710 : BitVec 1 := Scalar.cmpi .slt v3708 c0_i32_2338
  let c0_i32_2339 : BitVec 32 := 0#32
  let v3711 : BitVec 1 := Scalar.cmpi .slt v3707 c0_i32_2339
  let v3712 : BitVec 1 := Scalar.xori v3710 v3711
  let c0_i32_2337 : BitVec 32 := 0#32
  let v3709 : BitVec 1 := Scalar.cmpi .ne v3708 c0_i32_2337
  let v3713 : BitVec 1 := Scalar.andi v3712 v3709
  let v3714 : BitVec 32 := Scalar.addi v3708 v3707
  let v3715 : BitVec 32 := Scalar.select v3713 v3714 v3708
  let c256_i32 : BitVec 32 := 256#32
  let v3716 : BitVec 32 := Scalar.muli v3715 c256_i32
  ![0, 0, 0, v3716.toNat]
def k0_off112 (d0 : Dev nD) : Fin 4 → Nat :=
  let c0_i32_2358 : BitVec 32 := 0#32
  let c0_i32_2359 : BitVec 32 := 0#32
  let c2_i32_2311 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3671 : BitVec 32 := Scalar.muli c2_i32_2311 v2
  let c0_i32_2312 : BitVec 32 := 0#32
  let v3672 : BitVec 32 := Scalar.addi v3671 c0_i32_2312
  let c10_i32_2349 : BitVec 32 := 10#32
  let c0_i32_2348 : BitVec 32 := 0#32
  let c2_i32_2340 : BitVec 32 := 2#32
  let v3717 : BitVec 32 := Scalar.subi v3672 c2_i32_2340
  let c0_i32_2342 : BitVec 32 := 0#32
  let v3719 : BitVec 1 := Scalar.cmpi .sgt v3717 c0_i32_2342
  let v3720 : BitVec 32 := Scalar.extui v3719
  let c0_i32_2343 : BitVec 32 := 0#32
  let v3721 : BitVec 1 := Scalar.cmpi .slt v3717 c0_i32_2343
  let v3722 : BitVec 32 := Scalar.extui v3721
  let v3723 : BitVec 32 := Scalar.subi v3720 v3722
  let c3_i32_2341 : BitVec 32 := 3#32
  let c0_i32_2344 : BitVec 32 := 0#32
  let v3724 : BitVec 1 := Scalar.cmpi .sgt c3_i32_2341 c0_i32_2344
  let v3725 : BitVec 32 := Scalar.extui v3724
  let c0_i32_2345 : BitVec 32 := 0#32
  let v3726 : BitVec 1 := Scalar.cmpi .slt c3_i32_2341 c0_i32_2345
  let v3727 : BitVec 32 := Scalar.extui v3726
  let v3728 : BitVec 32 := Scalar.subi v3725 v3727
  let v3729 : BitVec 1 := Scalar.cmpi .ne v3723 v3728
  let v3730 : BitVec 32 := Scalar.remsi v3717 c3_i32_2341
  let c0_i32_2346 : BitVec 32 := 0#32
  let v3731 : BitVec 1 := Scalar.cmpi .ne v3730 c0_i32_2346
  let v3732 : BitVec 1 := Scalar.andi v3729 v3731
  let v3718 : BitVec 32 := Scalar.divsi v3717 c3_i32_2341
  let c1_i32_2347 : BitVec 32 := 1#32
  let v3733 : BitVec 32 := Scalar.subi v3718 c1_i32_2347
  let v3734 : BitVec 32 := Scalar.select v3732 v3733 v3718
  let v3735 : BitVec 32 := Scalar.maxsi c0_i32_2348 v3734
  let v3736 : BitVec 32 := Scalar.minsi c10_i32_2349 v3735
  let v3737 : BitVec 32 := Scalar.subi v3672 v3736
  let c64_i32_2350 : BitVec 32 := 64#32
  let v3738 : BitVec 32 := Scalar.muli v3737 c64_i32_2350
  let c0_i32_2360 : BitVec 32 := 0#32
  ![0, 0, v3738.toNat, 0]
def k0_cond38 (d0 : Dev nD) : BitVec 1 :=
  let c2_i32_2322 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3688 : BitVec 32 := Scalar.muli c2_i32_2322 v2
  let c1_i32_2323 : BitVec 32 := 1#32
  let v3689 : BitVec 32 := Scalar.addi v3688 c1_i32_2323
  let c1_i32_2324 : BitVec 32 := 1#32
  let v3690 : BitVec 1 := Scalar.cmpi .eq v3689 c1_i32_2324
  let c3_i32_2325 : BitVec 32 := 3#32
  let c0_i32_2326 : BitVec 32 := 0#32
  let v3691 : BitVec 1 := Scalar.cmpi .eq c3_i32_2325 c0_i32_2326
  let c1_i32_2327 : BitVec 32 := 1#32
  let v3692 : BitVec 32 := Scalar.select v3691 c1_i32_2327 c3_i32_2325
  let v3693 : BitVec 32 := Scalar.remsi v3689 v3692
  let c0_i32_2329 : BitVec 32 := 0#32
  let v3695 : BitVec 1 := Scalar.cmpi .slt v3693 c0_i32_2329
  let c0_i32_2330 : BitVec 32 := 0#32
  let v3696 : BitVec 1 := Scalar.cmpi .slt v3692 c0_i32_2330
  let v3697 : BitVec 1 := Scalar.xori v3695 v3696
  let c0_i32_2328 : BitVec 32 := 0#32
  let v3694 : BitVec 1 := Scalar.cmpi .ne v3693 c0_i32_2328
  let v3698 : BitVec 1 := Scalar.andi v3697 v3694
  let v3699 : BitVec 32 := Scalar.addi v3693 v3692
  let v3700 : BitVec 32 := Scalar.select v3698 v3699 v3693
  let c1_i32_2331 : BitVec 32 := 1#32
  let v3701 : BitVec 1 := Scalar.cmpi .ne v3700 c1_i32_2331
  let v3702 : BitVec 1 := Scalar.ori v3690 v3701
  let v3703 : BitVec 32 := Scalar.extui v3702
  let c0_i32_2332 : BitVec 32 := 0#32
  let v3704 : BitVec 1 := Scalar.cmpi .ne v3703 c0_i32_2332
  v3704

def k0_off113 (d0 : Dev nD) (c1_i32_2333 : BitVec 32) : Fin 4 → Nat :=
  let c0_i32_2355 : BitVec 32 := 0#32
  let c0_i32_2356 : BitVec 32 := 0#32
  let c64_i32_2357 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3705 : BitVec 32 := Scalar.addi v2 c1_i32_2333
  let c16_i32_2334 : BitVec 32 := 16#32
  let c0_i32_2335 : BitVec 32 := 0#32
  let v3706 : BitVec 1 := Scalar.cmpi .eq c16_i32_2334 c0_i32_2335
  let c1_i32_2336 : BitVec 32 := 1#32
  let v3707 : BitVec 32 := Scalar.select v3706 c1_i32_2336 c16_i32_2334
  let v3708 : BitVec 32 := Scalar.remsi v3705 v3707
  let c0_i32_2338 : BitVec 32 := 0#32
  let v3710 : BitVec 1 := Scalar.cmpi .slt v3708 c0_i32_2338
  let c0_i32_2339 : BitVec 32 := 0#32
  let v3711 : BitVec 1 := Scalar.cmpi .slt v3707 c0_i32_2339
  let v3712 : BitVec 1 := Scalar.xori v3710 v3711
  let c0_i32_2337 : BitVec 32 := 0#32
  let v3709 : BitVec 1 := Scalar.cmpi .ne v3708 c0_i32_2337
  let v3713 : BitVec 1 := Scalar.andi v3712 v3709
  let v3714 : BitVec 32 := Scalar.addi v3708 v3707
  let v3715 : BitVec 32 := Scalar.select v3713 v3714 v3708
  let c256_i32 : BitVec 32 := 256#32
  let v3716 : BitVec 32 := Scalar.muli v3715 c256_i32
  ![0, 0, 64, v3716.toNat]
def k0_off114 (d0 : Dev nD) : Fin 4 → Nat :=
  let c0_i32_2358 : BitVec 32 := 0#32
  let c0_i32_2359 : BitVec 32 := 0#32
  let c2_i32_2322 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3688 : BitVec 32 := Scalar.muli c2_i32_2322 v2
  let c1_i32_2323 : BitVec 32 := 1#32
  let v3689 : BitVec 32 := Scalar.addi v3688 c1_i32_2323
  let c10_i32_2349 : BitVec 32 := 10#32
  let c0_i32_2348 : BitVec 32 := 0#32
  let c2_i32_2340 : BitVec 32 := 2#32
  let v3717 : BitVec 32 := Scalar.subi v3689 c2_i32_2340
  let c0_i32_2342 : BitVec 32 := 0#32
  let v3719 : BitVec 1 := Scalar.cmpi .sgt v3717 c0_i32_2342
  let v3720 : BitVec 32 := Scalar.extui v3719
  let c0_i32_2343 : BitVec 32 := 0#32
  let v3721 : BitVec 1 := Scalar.cmpi .slt v3717 c0_i32_2343
  let v3722 : BitVec 32 := Scalar.extui v3721
  let v3723 : BitVec 32 := Scalar.subi v3720 v3722
  let c3_i32_2341 : BitVec 32 := 3#32
  let c0_i32_2344 : BitVec 32 := 0#32
  let v3724 : BitVec 1 := Scalar.cmpi .sgt c3_i32_2341 c0_i32_2344
  let v3725 : BitVec 32 := Scalar.extui v3724
  let c0_i32_2345 : BitVec 32 := 0#32
  let v3726 : BitVec 1 := Scalar.cmpi .slt c3_i32_2341 c0_i32_2345
  let v3727 : BitVec 32 := Scalar.extui v3726
  let v3728 : BitVec 32 := Scalar.subi v3725 v3727
  let v3729 : BitVec 1 := Scalar.cmpi .ne v3723 v3728
  let v3730 : BitVec 32 := Scalar.remsi v3717 c3_i32_2341
  let c0_i32_2346 : BitVec 32 := 0#32
  let v3731 : BitVec 1 := Scalar.cmpi .ne v3730 c0_i32_2346
  let v3732 : BitVec 1 := Scalar.andi v3729 v3731
  let v3718 : BitVec 32 := Scalar.divsi v3717 c3_i32_2341
  let c1_i32_2347 : BitVec 32 := 1#32
  let v3733 : BitVec 32 := Scalar.subi v3718 c1_i32_2347
  let v3734 : BitVec 32 := Scalar.select v3732 v3733 v3718
  let v3735 : BitVec 32 := Scalar.maxsi c0_i32_2348 v3734
  let v3736 : BitVec 32 := Scalar.minsi c10_i32_2349 v3735
  let v3737 : BitVec 32 := Scalar.subi v3689 v3736
  let c64_i32_2350 : BitVec 32 := 64#32
  let v3738 : BitVec 32 := Scalar.muli v3737 c64_i32_2350
  let c0_i32_2360 : BitVec 32 := 0#32
  ![0, 0, v3738.toNat, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x4096 : Shape := ⟨2, ![512, 4096]⟩
abbrev S2x2048x64x64 : Shape := ⟨4, ![2, 2048, 64, 64]⟩
abbrev S4096x512 : Shape := ⟨2, ![4096, 512]⟩
abbrev S2x128x4096 : Shape := ⟨3, ![2, 128, 4096]⟩
abbrev S2x128x64x64 : Shape := ⟨4, ![2, 128, 64, 64]⟩
abbrev S128 : Shape := ⟨1, ![128]⟩
abbrev S_ : Shape := ⟨0, ![]⟩
abbrev S128x1 : Shape := ⟨2, ![128, 1]⟩
abbrev S2048 : Shape := ⟨1, ![2048]⟩
abbrev S1x2048 : Shape := ⟨2, ![1, 2048]⟩
abbrev S128x2048 : Shape := ⟨2, ![128, 2048]⟩
abbrev S2x64x128x2048 : Shape := ⟨4, ![2, 64, 128, 2048]⟩
abbrev S1x1x128x2048 : Shape := ⟨4, ![1, 1, 128, 2048]⟩
abbrev S2x64x128 : Shape := ⟨3, ![2, 64, 128]⟩
abbrev S2x64x128x1 : Shape := ⟨4, ![2, 64, 128, 1]⟩
abbrev S1x1x128x1 : Shape := ⟨4, ![1, 1, 128, 1]⟩
abbrev S2x64x64x128 : Shape := ⟨4, ![2, 64, 64, 128]⟩

abbrev nBuf : Space → Nat
  | .hbm => 132
  | .vmem => 0
  | .smem => 0
  | _ => 0

abbrev hbmTy0_0 (i : Nat) : BufTy := match i % 128 with
  | 0 => ⟨S2x128x512, .bf16⟩
  | 1 => ⟨S512x4096, .bf16⟩
  | 2 => ⟨S2x2048x64x64, .bf16⟩
  | 3 => ⟨S2x2048x64x64, .bf16⟩
  | 4 => ⟨S4096x512, .bf16⟩
  | 5 => ⟨S2x128x512, .f32⟩
  | 6 => ⟨S512x4096, .f32⟩
  | 7 => ⟨S2x2048x64x64, .f32⟩
  | 8 => ⟨S2x2048x64x64, .f32⟩
  | 9 => ⟨S4096x512, .f32⟩
  | 10 => ⟨S2x128x4096, .f32⟩
  | 11 => ⟨S2x128x4096, .bf16⟩
  | 12 => ⟨S2x128x4096, .f32⟩
  | 13 => ⟨S2x128x64x64, .f32⟩
  | 14 => ⟨S128, .i32⟩
  | 15 => ⟨S_, .i32⟩
  | 16 => ⟨S_, .i32⟩
  | 17 => ⟨S128, .i32⟩
  | 18 => ⟨S128, .i32⟩
  | 19 => ⟨S128, .i32⟩
  | 20 => ⟨S_, .i32⟩
  | 21 => ⟨S128, .i32⟩
  | 22 => ⟨S128, .i1⟩
  | 23 => ⟨S128, .i32⟩
  | 24 => ⟨S128, .i32⟩
  | 25 => ⟨S_, .i32⟩
  | 26 => ⟨S128, .i32⟩
  | 27 => ⟨S128, .i1⟩
  | 28 => ⟨S128, .i1⟩
  | 29 => ⟨S_, .i32⟩
  | 30 => ⟨S128, .i32⟩
  | 31 => ⟨S128, .i32⟩
  | 32 => ⟨S128, .i32⟩
  | 33 => ⟨S128x1, .i32⟩
  | 34 => ⟨S2048, .i32⟩
  | 35 => ⟨S_, .i32⟩
  | 36 => ⟨S_, .i32⟩
  | 37 => ⟨S2048, .i32⟩
  | 38 => ⟨S2048, .i32⟩
  | 39 => ⟨S2048, .i32⟩
  | 40 => ⟨S_, .i32⟩
  | 41 => ⟨S2048, .i32⟩
  | 42 => ⟨S2048, .i1⟩
  | 43 => ⟨S2048, .i32⟩
  | 44 => ⟨S2048, .i32⟩
  | 45 => ⟨S_, .i32⟩
  | 46 => ⟨S2048, .i32⟩
  | 47 => ⟨S2048, .i1⟩
  | 48 => ⟨S2048, .i1⟩
  | 49 => ⟨S_, .i32⟩
  | 50 => ⟨S2048, .i32⟩
  | 51 => ⟨S2048, .i32⟩
  | 52 => ⟨S2048, .i32⟩
  | 53 => ⟨S1x2048, .i32⟩
  | 54 => ⟨S128x2048, .i32⟩
  | 55 => ⟨S128x2048, .i32⟩
  | 56 => ⟨S128x2048, .i1⟩
  | 57 => ⟨S_, .i32⟩
  | 58 => ⟨S1x2048, .i32⟩
  | 59 => ⟨S1x2048, .i1⟩
  | 60 => ⟨S128x2048, .i1⟩
  | 61 => ⟨S128x2048, .i1⟩
  | 62 => ⟨S128x2048, .i32⟩
  | 63 => ⟨S128x2048, .i32⟩
  | 64 => ⟨S128x2048, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S128x2048, .i32⟩
  | 72 => ⟨S128x2048, .i32⟩
  | 73 => ⟨S_, .i32⟩
  | 74 => ⟨S128x2048, .i32⟩
  | 75 => ⟨S128x2048, .i1⟩
  | 76 => ⟨S_, .i32⟩
  | 77 => ⟨S128x2048, .i32⟩
  | 78 => ⟨S128x2048, .i1⟩
  | 79 => ⟨S_, .i32⟩
  | 80 => ⟨S_, .i1⟩
  | 81 => ⟨S128x2048, .i1⟩
  | 82 => ⟨S128x2048, .i1⟩
  | 83 => ⟨S128x2048, .i1⟩
  | 84 => ⟨S128x2048, .i32⟩
  | 85 => ⟨S128x2048, .i32⟩
  | 86 => ⟨S128x2048, .i32⟩
  | 87 => ⟨S_, .i32⟩
  | 88 => ⟨S128x2048, .i32⟩
  | 89 => ⟨S128x2048, .i1⟩
  | 90 => ⟨S128x2048, .i1⟩
  | 91 => ⟨S2x64x128x2048, .f32⟩
  | 92 => ⟨S2x64x128x2048, .bf16⟩
  | 93 => ⟨S2x64x128x2048, .f32⟩
  | 94 => ⟨S_, .f32⟩
  | 95 => ⟨S2x64x128x2048, .f32⟩
  | 96 => ⟨S2x64x128x2048, .f32⟩
  | 97 => ⟨S1x1x128x2048, .i1⟩
  | 98 => ⟨S_, .f32⟩
  | 99 => ⟨S_, .f32⟩
  | 100 => ⟨S2x64x128x2048, .i1⟩
  | 101 => ⟨S2x64x128x2048, .f32⟩
  | 102 => ⟨S2x64x128x2048, .f32⟩
  | 103 => ⟨S_, .f32⟩
  | 104 => ⟨S2x64x128, .f32⟩
  | 105 => ⟨S2x64x128x1, .f32⟩
  | 106 => ⟨S2x64x128x2048, .f32⟩
  | 107 => ⟨S2x64x128x2048, .f32⟩
  | 108 => ⟨S2x64x128x2048, .f32⟩
  | 109 => ⟨S_, .i1⟩
  | 110 => ⟨S128, .i1⟩
  | 111 => ⟨S1x1x128x1, .i1⟩
  | 112 => ⟨S_, .f32⟩
  | 113 => ⟨S2x64x128, .f32⟩
  | 114 => ⟨S2x64x128x1, .f32⟩
  | 115 => ⟨S_, .f32⟩
  | 116 => ⟨S_, .f32⟩
  | 117 => ⟨S2x64x128x1, .i1⟩
  | 118 => ⟨S2x64x128x1, .f32⟩
  | 119 => ⟨S2x64x128x1, .f32⟩
  | 120 => ⟨S2x64x128x2048, .f32⟩
  | 121 => ⟨S2x64x128x2048, .f32⟩
  | 122 => ⟨S1x1x128x1, .i1⟩
  | 123 => ⟨S_, .f32⟩
  | 124 => ⟨S_, .f32⟩
  | 125 => ⟨S2x64x128x2048, .i1⟩
  | 126 => ⟨S2x64x128x2048, .f32⟩
  | 127 => ⟨S2x64x128x2048, .f32⟩
  | _ => ⟨S2x128x512, .bf16⟩

abbrev hbmTy0_1 (i : Nat) : BufTy := match i % 128 with
  | 0 => ⟨S2x64x64x128, .f32⟩
  | 1 => ⟨S2x128x64x64, .f32⟩
  | 2 => ⟨S2x128x4096, .f32⟩
  | 3 => ⟨S2x128x512, .f32⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_c_1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_c_2 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_1 : Ref sig .tc := ⟨.hbm, 73, rfl⟩
abbrev main_call2_v5 : Ref sig .tc := ⟨.hbm, 74, rfl⟩
abbrev main_call2_v6 : Ref sig .tc := ⟨.hbm, 75, rfl⟩
abbrev main_call2_c_2 : Ref sig .tc := ⟨.hbm, 76, rfl⟩
abbrev main_call2_v7 : Ref sig .tc := ⟨.hbm, 77, rfl⟩
abbrev main_call2_v8 : Ref sig .tc := ⟨.hbm, 78, rfl⟩
abbrev main_call2_c_3 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_v25 : Ref sig .tc := ⟨.hbm, 86, rfl⟩
abbrev main_c_3 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_cst : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_cst_4 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v35 : Ref sig .tc := ⟨.hbm, 102, rfl⟩
abbrev main_cst_5 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_c_6 : Ref sig .tc := ⟨.hbm, 109, rfl⟩
abbrev main_v41 : Ref sig .tc := ⟨.hbm, 110, rfl⟩
abbrev main_v42 : Ref sig .tc := ⟨.hbm, 111, rfl⟩
abbrev main_cst_7 : Ref sig .tc := ⟨.hbm, 112, rfl⟩
abbrev main_v43 : Ref sig .tc := ⟨.hbm, 113, rfl⟩
abbrev main_v44 : Ref sig .tc := ⟨.hbm, 114, rfl⟩
abbrev main_cst_8 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_cst_9 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩

abbrev nD : Nat := 1
abbrev τ : Topo := Topo.v7x

variable {F : FTy → Type} [FloatOps F]
-- ==== Proof.KIdeal.Proto.lean ====
/-
The exchange protocol of the kernel, as a schedule of semaphore rounds: which device pays which semaphore, what each
payment hands over, and what each buffer region holds when it does.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

/-! ## The resource algebra: the pipeline's copy, this protocol's (duties named by a device), local transfers' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's own copy: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## The ring of devices -/

/-- The device `d` places after `c`, and the one `d` places before it. -/
def tgt (c : Dev nD) (d : ℕ) : Dev nD := ⟨(c.val + d) % 16, Nat.mod_lt _ (by decide)⟩
def src (c : Dev nD) (d : ℕ) : Dev nD := ⟨(c.val + (16 - d)) % 16, Nat.mod_lt _ (by decide)⟩

theorem dev_lt (c : Dev nD) : c.val < 16 := c.isLt
theorem src_tgt (c : Dev nD) {d : ℕ} (hd : d ≤ 16) : src (tgt c d) d = c := by
  have := dev_lt c; apply Fin.ext; simp only [src, tgt]; omega
theorem tgt_src (c : Dev nD) {d : ℕ} (hd : d ≤ 16) : tgt (src c d) d = c := by
  have := dev_lt c; apply Fin.ext; simp only [src, tgt]; omega
theorem tgt_ne (c : Dev nD) {d : ℕ} (h1 : 1 ≤ d) (h2 : d < 16) : tgt c d ≠ c := by
  have := dev_lt c; intro h; have := congrArg Fin.val h; simp only [tgt] at this; omega
theorem src_ne (c : Dev nD) {d : ℕ} (h1 : 1 ≤ d) (h2 : d < 16) : src c d ≠ c := by
  have := dev_lt c; intro h; have := congrArg Fin.val h; simp only [src] at this; omega

/-! ## Blocks and their places -/

/-- Whether key/value block `b` (of 32) is kept by some row of the mask. -/
def needB (b : ℕ) : Bool := b == 1 || b % 3 != 1
/-- The place of a kept block among the kept ones, and the block at a place. -/
def slot (b : ℕ) : ℕ := b - min ((b - 2) / 3) 10
def blkOf (p : ℕ) : ℕ := if p < 2 then p else if (p - 2) % 2 = 0 then 3 * ((p - 2) / 2) + 2 else 3 * ((p - 2) / 2) + 3

theorem slot_lt : ∀ b < 32, needB b = true → slot b < 22 := by decide
theorem blkOf_slot : ∀ b < 32, needB b = true → blkOf (slot b) = b := by decide
theorem slot_blkOf : ∀ p < 22, slot (blkOf p) = p := by decide
theorem needB_blkOf : ∀ p < 22, needB (blkOf p) = true := by decide
theorem blkOf_lt : ∀ p < 22, blkOf p < 32 := by decide

/-! ## Buffers -/

abbrev kvbfM : Memref sig .tc .vmem S2x2x128x4096 .bf16 := Memref.whole cc0_scratch0
abbrev kvM : Memref sig .tc .vmem S2x2x1408x256 .bf16 := Memref.whole cc0_scratch1
abbrev psM : Memref sig .tc .vmem S2x128x512 .bf16 := Memref.whole cc0_scratch2
abbrev rsM : Memref sig .tc .vmem S16x16x512 .bf16 := Memref.whole cc0_scratch3
abbrev agsM : Memref sig .tc .vmem S16x512 .bf16 := Memref.whole cc0_scratch4
abbrev agM : Memref sig .tc .vmem S16x16x512 .bf16 := Memref.whole cc0_scratch5

/-- A whole buffer, or some elements of it, at contents `f`. -/
abbrev pts (c : Dev nD) (b : Ref sig .tc) (S : Finset (Idx ((c : Thread nD τ).loc b))) (q : PosShare TreeShare)
    (f : Buf (Elt F) ((c : Thread nD τ).loc b)) : sProp 𝕄 := ((c : Thread nD τ).loc b) ↦[S]{q} f

abbrev BBf : Type := S2x2x128x4096.Idx → Elt F .bf16
abbrev BKv : Type := S2x2x1408x256.Idx → Elt F .bf16
abbrev BPs : Type := S2x128x512.Idx → Elt F .bf16
abbrev BRs : Type := S16x16x512.Idx → Elt F .bf16
abbrev BAg : Type := S16x512.Idx → Elt F .bf16

/-- The part of the key/value buffer meant for device `t`, half `j` of the rows. -/
def bfReg (t : Dev nD) (j : ℕ) : Finset S2x2x128x4096.Idx := Finset.univ.filter fun i => (i 3).val / 256 = t.val ∧ (i 2).val / 64 = j
/-- The place of device `s`'s block `j` in the gathered buffer: empty if the block is not kept. -/
def kvReg (s : Dev nD) (j : ℕ) : Finset S2x2x1408x256.Idx := Finset.univ.filter fun i => blkOf ((i 2).val / 64) = 2 * s.val + j
/-- The rows of the partial product meant for device `t`. -/
def psReg (t : Dev nD) : Finset S2x128x512.Idx := Finset.univ.filter fun i => (i 0).val * 8 + (i 1).val / 16 = t.val
/-- Slab `s` of a buffer of sixteen. -/
def rsReg (s : Dev nD) : Finset S16x16x512.Idx := Finset.univ.filter fun i => (i 0).val = s.val

/-- What the three exchanges carry, device by device: its own keys and values, its own partial product, its own share of the sum. -/
structure Cont (F : FTy → Type) where
  kv : Dev nD → (S2x2x128x4096.Idx → Elt F .bf16)
  ps : Dev nD → (S2x128x512.Idx → Elt F .bf16)
  ag : Dev nD → (S16x512.Idx → Elt F .bf16)

variable (C : Cont F)

theorem mod16_lt (n : ℕ) : n % 16 < 16 := Nat.mod_lt _ (by decide)

/-- The gathered keys and values on device `t`. -/
def Gkv (t : Dev nD) : S2x2x1408x256.Idx → Elt F .bf16 := fun i =>
  C.kv ⟨blkOf ((i 2).val / 64) / 2 % 16, mod16_lt _⟩
    (fun | 0 => i 0 | 1 => i 1
         | 2 => ⟨(blkOf ((i 2).val / 64) % 2 * 64 + (i 2).val % 64) % 128, Nat.mod_lt _ (by decide)⟩
         | 3 => ⟨(t.val * 256 + (i 3).val) % 4096, Nat.mod_lt _ (by decide)⟩)
/-- The partial products gathered on device `t`. -/
def Grs (t : Dev nD) : S16x16x512.Idx → Elt F .bf16 := fun i =>
  C.ps ⟨(i 0).val, (i 0).isLt⟩
    (fun | 0 => ⟨t.val / 8 % 2, Nat.mod_lt _ (by decide)⟩
         | 1 => ⟨(t.val % 8 * 16 + (i 1).val) % 128, Nat.mod_lt _ (by decide)⟩
         | 2 => i 2)
/-- The shares of the sum gathered on every device. -/
def Gag : S16x16x512.Idx → Elt F .bf16 := fun i =>
  C.ag ⟨(i 0).val, (i 0).isLt⟩ (fun | 0 => i 1 | 1 => i 2)

/-! ## The semaphores -/

abbrev barS : Sem sig := (SemArray.scalar (sig.barrier 0 rfl) : Sems sig S_).sem
abbrev barCell (c : Dev nD) : GSem nD τ sig := ((c : Thread nD τ), .reg barS)
/-- DMA semaphore number `q`, and device `c`'s copy of it. -/
def mkS (q : ℕ) : DmaSem sig := ⟨q % 136, Nat.mod_lt _ (by decide)⟩
abbrev cell (c : Dev nD) (q : ℕ) : GSem nD τ sig := ((c : Thread nD τ), .dma (mkS q))

theorem mkS_val {q : ℕ} (h : q < 136) : (mkS q).val = q := Nat.mod_eq_of_lt h

abbrev qS1 (d j : ℕ) : ℕ := 6 + 2 * d + j
abbrev qR1 (s j : ℕ) : ℕ := 38 + 2 * s + j
abbrev qSR (d : ℕ) : ℕ := 70 + d
abbrev qRR (s : ℕ) : ℕ := 86 + s
abbrev qSA (d : ℕ) : ℕ := 102 + d
abbrev qRA (s : ℕ) : ℕ := 118 + s

/-- What a transfer of a key/value block, and of a slab of partial sums, adds to a semaphore. -/
def NKV : ℕ := (kvM.slice (Rect.unit (s := S2x2x1408x256) ![0, 0, 0, 0] S2x2x64x256.size (by decide)) (fun _ => rfl)).view.dmaCredit
def NRS : ℕ := agsM.view.dmaCredit
theorem NKV_pos : 0 < NKV := View.dmaCredit_pos _ (by decide)
theorem NRS_pos : 0 < NRS := View.dmaCredit_pos _ (by decide)

/-- Whether semaphore `q` of device `c` is used. -/
def act (c : Dev nD) (q : ℕ) : Bool :=
  if q < 6 then false
  else if q < 38 then decide ((q - 6) / 2 ≠ 0) && needB (2 * c.val + (q - 6) % 2)
  else if q < 70 then decide ((q - 38) / 2 ≠ c.val) && needB (2 * ((q - 38) / 2) + (q - 38) % 2)
  else if q < 86 then decide (q - 70 ≠ 0)
  else if q < 102 then decide (q - 86 ≠ c.val)
  else if q < 118 then decide (q - 102 ≠ 0)
  else if q < 134 then decide (q - 118 ≠ c.val)
  else false
def amt (q : ℕ) : ℕ := if q < 70 then NKV else NRS
theorem amt_pos (q : ℕ) : 0 < amt q := by unfold amt; split; exacts [NKV_pos, NRS_pos]

/-- What the payment of semaphore `q` of device `c` hands `c`. -/
def dmaPay (c : Dev nD) (q : ℕ) : sProp 𝕄 :=
  if q < 38 then pts c cc0_scratch0 (bfReg (tgt c ((q - 6) / 2)) ((q - 6) % 2)) fullShare (C.kv c)
  else if q < 70 then pts c cc0_scratch1 (kvReg ⟨(q - 38) / 2 % 16, mod16_lt _⟩ ((q - 38) % 2)) fullShare (Gkv C c)
  else if q < 86 then pts c cc0_scratch2 (psReg (tgt c (q - 70))) fullShare (C.ps c)
  else if q < 102 then pts c cc0_scratch3 (rsReg ⟨(q - 86) % 16, mod16_lt _⟩) fullShare (Grs C c)
  else if q < 118 then pts c cc0_scratch4 Finset.univ (shareTokN fullShare (q - 102)) (C.ag c)
  else pts c cc0_scratch5 (rsReg ⟨(q - 118) % 16, mod16_lt _⟩) fullShare (Gag C)

/-- The buffer parts of device `o` that device `t` writes: handed over by `o`'s signal to `t`'s barrier. -/
def barPay (o t : Dev nD) : sProp 𝕄 :=
  iprop((∃ f, pts o cc0_scratch1 (kvReg t 0) fullShare f) ∗ (∃ f, pts o cc0_scratch1 (kvReg t 1) fullShare f)
    ∗ (∃ f, pts o cc0_scratch3 (rsReg t) fullShare f) ∗ (∃ f, pts o cc0_scratch5 (rsReg t) fullShare f))

/-! ## The schedule -/

def Rd : Rounds.Schedule (GSem nD τ sig) (Dev nD) 𝕄 where
  duties g r := if r = 0 ∧ g.1.2 = .tc then
      (match g.2 with
       | .reg _ => Finset.univ.erase g.1.1
       | .dma q => if act g.1.1 q.val then {0} else ∅)
    else ∅
  unitless _ := False
  amount g _ _ := match g.2 with
    | .reg _ => 1
    | .dma q => amt q.val
  payload g _ d := match g.2 with
    | .reg _ => barPay d g.1.1
    | .dma q => dmaPay C g.1.1 q.val
  amount_pos g _ _ _ := by
    rcases g with ⟨_, _ | q⟩
    · exact Nat.one_pos
    · exact amt_pos _

omit [FloatOps F] [Named F] in
instance dmaPay_storable (c : Dev nD) (q : ℕ) : BI.Storable (upEmb : UEmb _ 𝕄) (dmaPay C c q) := by
  unfold dmaPay; (repeat' split) <;> infer_instance
omit [FloatOps F] [Named F] in
instance barPay_storable (o t : Dev nD) : BI.Storable (upEmb : UEmb _ 𝕄) (barPay (F := F) o t) := by unfold barPay; infer_instance

omit [FloatOps F] [Named F] in
instance Rd_payload_storable (g : GSem nD τ sig) (r : ℕ) (d : Dev nD) : BI.Storable (upEmb : UEmb _ 𝕄) ((Rd C).payload g r d) := by
  rcases g with ⟨⟨c, p⟩, _ | q⟩
  · exact barPay_storable d c
  · exact dmaPay_storable C c q.val

section Sched
variable (c : Dev nD)
omit [FloatOps F] [Named F]

theorem duties_bar : (Rd C).duties (barCell c) 0 = Finset.univ.erase c := by dsimp only [Rd]; exact if_pos ⟨rfl, rfl⟩
theorem duties_dma {q : ℕ} (hq : q < 136) (h : act c q = true) : (Rd C).duties (cell c q) 0 = {0} := by
  dsimp only [Rd]; rw [if_pos ⟨rfl, rfl⟩, mkS_val hq, if_pos h]
theorem duties_idle {q : ℕ} (hq : q < 136) (h : act c q = false) (r : ℕ) : (Rd C).duties (cell c q) r = ∅ := by
  dsimp only [Rd]; rw [mkS_val hq, h]; simp
theorem duties_later (g : GSem nD τ sig) : ∀ r, 1 ≤ r → (Rd C).duties g r = ∅ :=
  fun r hr => by dsimp only [Rd]; rw [if_neg fun h => by omega]
theorem amount_bar (d : Dev nD) : (Rd C).amount (barCell c) 0 d = 1 := rfl
theorem amount_dma {q : ℕ} (hq : q < 136) (d : Dev nD) : (Rd C).amount (cell c q) 0 d = amt q := by
  dsimp only [Rd]; rw [mkS_val hq]
theorem payload_bar (d : Dev nD) : (Rd C).payload (barCell c) 0 d = barPay d c := rfl
theorem payload_dma {q : ℕ} (hq : q < 136) (d : Dev nD) : (Rd C).payload (cell c q) 0 d = dmaPay C c q := by
  dsimp only [Rd]; rw [mkS_val hq]
theorem expect_bar : (Rd C).expect (barCell c) 0 = 15 := by
  unfold Schedule.expect Schedule.amountOf
  rw [duties_bar, Finset.sum_congr rfl fun d _ => amount_bar C c d, Finset.sum_const, Finset.card_erase_of_mem (Finset.mem_univ _),
    Finset.card_univ, Fintype.card_fin]; rfl
theorem expect_dma {q : ℕ} (hq : q < 136) (h : act c q = true) : (Rd C).expect (cell c q) 0 = amt q := by
  unfold Schedule.expect Schedule.amountOf; rw [duties_dma C c hq h, Finset.sum_singleton, amount_dma C c hq]
theorem rest_bar : bigSep ((Rd C).duties (barCell c) 0 \ ∅) (fun d => (Rd C).payload (barCell c) 0 d)
    = bigSep (Finset.univ.erase c) (fun d => barPay (F := F) d c) := by rw [Finset.sdiff_empty, duties_bar]; rfl
theorem rest_dma {q : ℕ} (hq : q < 136) (h : act c q = true) :
    bigSep ((Rd C).duties (cell c q) 0 \ ∅) (fun d => (Rd C).payload (cell c q) 0 d) = dmaPay C c q := by
  rw [Finset.sdiff_empty, duties_dma C c hq h, bigSep_singleton, payload_dma C c hq]

end Sched

/-! ## Levels: the barrier below the three exchanges, each exchange below the next -/

def L (g : GSem nD τ sig) : Finset Unit := if g.1.2 = .tc then {()} else ∅
def lvl (sm : SemLoc sig) : ℕ := match sm with
  | .reg _ => 1
  | .dma q => if q.val < 38 then 0 else if q.val < 70 then 2 else if q.val < 86 then 0 else if q.val < 102 then 3
      else if q.val < 118 then 0 else if q.val < 134 then 4 else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

omit [FloatOps F] [Named F] in
/-- A wait is allowed when everything still owed is on TensorCore cells of higher level. -/
theorem mayWait_of (c : Dev nD) (sm : SemLoc sig) (O : CellTallies nD τ sig Unit)
    (h : ∀ g u, 0 < O g u → g.1.2 = .tc ∧ lvl sm < lvl g.2) : (levAts L lv : sProp 𝕄) ⊢ MayWait (c : Thread nD τ) sm () O :=
  MayOwe.of_cut (L := L) (lev := lv) (lvl sm) (fun p hp => by rw [Finset.mem_singleton.mp hp, L_tc]; exact Finset.mem_singleton_self _)
    (fun g u hg => by rw [L, if_pos (h g u hg).1]; exact Finset.mem_singleton_self _)
    (fun p hp => by rw [Finset.mem_singleton.mp hp]; exact le_rfl)
    (fun g u hg => (h g u hg).2)

end Cert.KernelIdealProof
-- ==== Proof.KIdeal.Step.lean ====
/-
One rule per kind of effect in the kernel's body, each stated at a device's standing: what it knows, a frame, what it
still owes, and the resources the effect turns over.
-/
module

public import proofs.«01_k».proof.Proof.KIdeal.Proto
public import Idealize.SL.BI.BigOpNat

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

/-! ## What every device knows: each cell's invariant and that its round 0 is reached, and the levels -/

/-- The protocol's cells, device by device: 128 DMA semaphores and the barrier. -/
def kcell (ck : Dev nD × Fin 129) : GSem nD τ sig := if ck.2.val < 128 then cell ck.1 (6 + ck.2.val) else barCell ck.1

def Pers : sProp 𝕄 :=
  iprop(bigSep Finset.univ (fun ck : Dev nD × Fin 129 => iprop(∃ κ, cellInv ER (Rd C) κ (kcell ck) ∗ reached ER (kcell ck) 0)) ∗ levAts L lv)

instance Pers_persistent : BI.Persistent (Pers C) := by unfold Pers; infer_instance

omit [FloatOps F] [Named F] in
theorem pers_cell (c : Dev nD) {q : ℕ} (h6 : 6 ≤ q) (hq : q < 134) :
    Pers C ⊢ iprop(∃ κ, cellInv ER (Rd C) κ (cell c q) ∗ reached ER (cell c q) 0) := by
  unfold Pers
  iintro ⟨H, -⟩
  have hlt : q - 6 < 129 := by omega
  have hm := bigSep_elim (M := MT nD τ sig Unit (Elt F) ℕ UU ℕ) (Φ := fun ck : Dev nD × Fin 129 => iprop(∃ κ, cellInv ER (Rd C) κ (kcell ck) ∗ reached ER (kcell ck) 0))
    (Finset.mem_univ ((c, ⟨q - 6, hlt⟩) : Dev nD × Fin 129))
  ihave H' := (show _ ⊢ _ from hm) $$ H
  have e : kcell (c, ⟨q - 6, hlt⟩) = cell c q := by
    unfold kcell; rw [if_pos (show q - 6 < 128 by omega)]; simp only [show 6 + (q - 6) = q by omega]
  rw [e]
  iexact H'
omit [FloatOps F] [Named F] in
theorem pers_bar (c : Dev nD) : Pers C ⊢ iprop(∃ κ, cellInv ER (Rd C) κ (barCell c) ∗ reached ER (barCell c) 0) := by
  unfold Pers
  iintro ⟨H, -⟩
  have hlt : 128 < 129 := by omega
  have hm := bigSep_elim (M := MT nD τ sig Unit (Elt F) ℕ UU ℕ) (Φ := fun ck : Dev nD × Fin 129 => iprop(∃ κ, cellInv ER (Rd C) κ (kcell ck) ∗ reached ER (kcell ck) 0))
    (Finset.mem_univ ((c, ⟨128, hlt⟩) : Dev nD × Fin 129))
  ihave H' := (show _ ⊢ _ from hm) $$ H
  have e : kcell (c, ⟨128, hlt⟩) = barCell c := by unfold kcell; rw [if_neg (show ¬ (128 < 128) by omega)]
  rw [e]
  iexact H'
omit [FloatOps F] [Named F] in
theorem pers_lev : Pers C ⊢ levAts L lv := by
  unfold Pers
  iintro ⟨-, H⟩
  iexact H

omit [FloatOps F] [Named F] in
set_option maxRecDepth 10000 in
theorem pers_may (c : Dev nD) (sm : SemLoc sig) (O : CellTallies nD τ sig Unit)
    (h : ∀ g u, 0 < O g u → g.1.2 = .tc ∧ lvl sm < lvl g.2) : Pers C ⊢ MayWait (c : Thread nD τ) sm () O := by
  have h1 := pers_lev C
  have h2 := @mayWait_of F c sm O h
  exact h1.trans h2

/-! ## The shape of a device's standing -/

abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

def Ow (c : Dev nD) (O : CellTallies nD τ sig Unit) : sProp 𝕄 := iprop(∃ W, owes (c : Thread nD τ) O W)
def tok (c : Dev nD) (q : ℕ) : sProp 𝕄 := dutyTok ER (cell c q) 0 0
def crd (c : Dev nD) (q : ℕ) : sProp 𝕄 := cred (tallyAt (cell c q) () (amt q))

/-- A device's assertions. -/
abbrev SP (F : FTy → Type) : Type := sProp (MT nD τ sig Unit (Elt F) ℕ UU ℕ)

variable {c : Dev nD} {α β : Type} {Q : α → SP F} {R : SP F} {O : CellTallies nD τ sig Unit}

/-- A part of the body, then the rest. -/
theorem cut {A B : sProp 𝕄} {p : Prog (TpuEff nD τ sig (Elt F) Λ₀ .tc) β} {K : β → Prog (TpuEff nD τ sig (Elt F) Λ₀ .tc) α}
    (h1 : ∀ Φ : β → sProp 𝕄, (∀ a, B ⊢ Φ a) → A ⊢ WP c p Φ) (h2 : ∀ a, B ⊢ WP c (K a) Q) : A ⊢ WP c (p >>= K) Q := by
  unfold WP; rw [wp_bind]; exact h1 _ h2
theorem cutB {A B : sProp 𝕄} {p : Prog (TpuEff nD τ sig (Elt F) Λ₀ .tc) β} {K : β → Prog (TpuEff nD τ sig (Elt F) Λ₀ .tc) α}
    (h1 : ∀ Φ : β → sProp 𝕄, (∀ a, B ⊢ Φ a) → A ⊢ WP c p Φ) (h2 : ∀ a, B ⊢ WP c (K a) Q) : A ⊢ WP c (p.bind K) Q := cut h1 h2

theorem ret_step {A : sProp 𝕄} {a : α} (h : A ⊢ Q a) : A ⊢ WP c (.ret a) Q := by
  unfold WP; rw [wp_ret]; exact h.trans fupd_intro

theorem dite_step {A : sProp 𝕄} {P : Prop} [Decidable P] {p : P → Prog (TpuEff nD τ sig (Elt F) Λ₀ .tc) α} {p' : ¬P → Prog (TpuEff nD τ sig (Elt F) Λ₀ .tc) α}
    (h1 : ∀ h, A ⊢ WP c (p h) Q) (h2 : ∀ h, A ⊢ WP c (p' h) Q) : A ⊢ WP c (dite P p p') Q := by
  by_cases h : P
  · rw [dif_pos h]; exact h1 h
  · rw [dif_neg h]; exact h2 h

/-! ## Signals to the other devices' barriers -/

def sigDebt (c : Dev nD) (n : ℕ) : CellTallies nD τ sig Unit := ∑ d ∈ Finset.Ico n 16, tallyAt (barCell (tgt c d)) () 1
def SigI (c : Dev nD) (n : ℕ) : sProp 𝕄 :=
  bigSep (Finset.Ico n 16) fun d => iprop(dutyTok ER (barCell (tgt c d)) 0 c ∗ barPay c (tgt c d))

theorem sig_step {n : ℕ} (h1 : 1 ≤ n) (h16 : n < 16) {fd : Dev nD → ℕ} {hl : fd c < nD} (hn : ∀ c, fd c = (c.val + n) % 16)
    {z : ℤ} (hz : z = ((1 : ℕ) : ℤ)) {k : PUnit → Prog (TpuEff nD τ sig (Elt F) Λ₀ .tc) α}
    (hk : iprop(Pers C ∗ R ∗ Ow c (O + sigDebt c (n + 1)) ∗ SigI c (n + 1)) ⊢ WP c (k ⟨⟩) Q) :
    iprop(Pers C ∗ R ∗ Ow c (O + sigDebt c n) ∗ SigI c n) ⊢ WP c (.op (.semSignal ((⟨fd c, hl⟩ : Dev nD), .tc) barS z) k) Q := by
  have ht : (⟨fd c, hl⟩ : Dev nD) = tgt c n := Fin.ext (hn c)
  rw [ht]; subst hz
  have hO : O + sigDebt c n = (O + sigDebt c (n + 1)) + tallyAt (barCell (tgt c n)) () 1 := by
    unfold sigDebt; rw [Finset.sum_eq_sum_Ico_succ_bot h16]; abel
  rw [hO, SigI, bigSep_Ico_succ_bot h16]
  unfold Ow at hk ⊢
  iintro ⟨#HP, HR, ⟨%W, HO⟩, ⟨Ht, Hpay⟩, HS⟩
  ihave #Hc := (pers_bar C (tgt c n)) $$ HP
  icases Hc with ⟨%κ, #HI, #Hr⟩
  iapply (Rounds.wp_signal Variants.none ER (Rd C) (c : Thread nD τ) none (dst := (tgt c n : Thread nD τ)) (κ := κ) (d := c)
      (by rw [duties_bar]; exact Finset.mem_erase.mpr ⟨(tgt_ne c h1 h16).symm, Finset.mem_univ _⟩) (amount_bar C (tgt c n) c) () (O + sigDebt c (n + 1)) rfl (W := W))
    $$ [HO Ht Hpay]
  · isplitr; · iexact HI
    isplitl [HO]; · iexact HO
    isplitl [Ht]; · iexact Ht
    isplitl [Hpay]; · rw [payload_bar]; iexact Hpay
    iexact Hr
  iintro HO
  iapply hk
  isplitr; · iexact HP
  isplitl [HR]; · iexact HR
  isplitl [HO]; · iexists W; iexact HO
  unfold SigI
  iexact HS

/-! ## The wait on the own barrier -/

theorem bar_step {z : ℤ} (hz : z = ((15 : ℕ) : ℤ)) {k : PUnit → Prog (TpuEff nD τ sig (Elt F) Λ₀ .tc) α}
    (hO : ∀ g u, 0 < O g u → g.1.2 = .tc ∧ 1 < lvl g.2)
    (hk : iprop(Pers C ∗ R ∗ Ow c O ∗ (atPos ER (barCell c) 1 ∅ 0 ∗ bigSep (Finset.univ.erase c) (fun d => barPay d c))) ⊢ WP c (k ⟨⟩) Q) :
    iprop(Pers C ∗ R ∗ Ow c O ∗ (cred (tallyAt (barCell c) () 15) ∗ atPos ER (barCell c) 0 ∅ 0)) ⊢ WP c (.op (.semWait barS z) k) Q := by
  subst hz
  unfold Ow at hk ⊢
  iintro ⟨#HP, HR, ⟨%W, HO⟩, Hcr, Hat⟩
  ihave #Hc := (pers_bar C c) $$ HP
  icases Hc with ⟨%κ, #HI, -⟩
  iapply (Rounds.wp_wait_rest_token Variants.none ER (Rd C) (c : Thread nD τ) none (κ := κ)
      (wpE_semWait_eq Variants.none (c : Thread nD τ) none Set.univ) (Set.mem_univ _) () (O := O) (W := W) (R := 0) (m := 0) (T := ∅)
      (by rw [expect_bar])) $$ [Hcr HO Hat]
  · isplitr; · iexact HI
    isplitl [Hcr]; · iexact Hcr
    isplitl [HO]; · iexact HO
    isplitr; · iapply (pers_may C c (.reg barS) O hO); iexact HP
    iexact Hat
  iintro ⟨HO, Hat, -, Hpay⟩
  ihave Hp := (Entails.of_eq (rest_bar C c)) $$ Hpay
  iapply hk
  isplitr; · iexact HP
  isplitl [HR]; · iexact HR
  isplitl [HO]; · iexists _; iexact HO
  isplitl [Hat]; · iexact Hat
  iexact Hp

/-! ## A semaphore of an array -/

theorem sem_at {n : ℕ} {base : ℕ} {h} {fo : Dev nD → Fin 1 → ℕ} {fq : Dev nD → ℕ} (hb : base + n ≤ 136) {inb} {sq}
    (hfo : ∀ c, base + fo c 0 = fq c) :
    (((SemArray.consecutive (n := 136) base (⟨1, ![n]⟩ : Shape) h).slice (Rect.unit (s := (⟨1, ![n]⟩ : Shape)) (fo c) S1.size inb)).squeeze S_ sq).sem = mkS (fq c) := by
  apply Fin.ext
  have h0 := inb 0
  have h1 : fo c 0 + 1 ≤ n := h0
  simp only [SemArray.sem, SemArray.ix_squeeze, SemArray.ix_slice, SemArray.consecutive, Shape.rowMajor_val_one, Rect.emb_apply]
  have hj : ∀ j : Fin 1, j.val = 0 := fun j => by omega
  have e : ∀ j : Fin (S1.size 0), base + (fo c 0 + 1 * j.val) = base + fo c 0 := fun j => by rw [hj j, Nat.mul_zero, Nat.add_zero]
  rw [mkS_val (by rw [← hfo c]; omega), ← hfo c]
  exact e _

/-! ## Sends to the other devices -/

/-- What is owed on the semaphores `qR d` of the devices `d` places on. -/
def sndDebt (c : Dev nD) (qR : ℕ → ℕ) (n : ℕ) : CellTallies nD τ sig Unit :=
  ∑ d ∈ Finset.Ico n 16, tallyAt (cell (tgt c d) (qR d)) () (amt (qR d))
/-- The sends from the `n`-th on still to be issued — tokens, source and destination — and the credit of those issued. -/
def SndI (c : Dev nD) (qS qR : ℕ → ℕ) (S D : ℕ → sProp 𝕄) (n : ℕ) : sProp 𝕄 :=
  iprop(bigSep (Finset.Ico n 16) (fun d => iprop(tok c (qS d) ∗ tok (tgt c d) (qR d) ∗ S d ∗ D d)) ∗ bigSep (Finset.Ico 1 n) (fun d => crd c (qS d)))

/-- A send under way: what its issue asks. -/
theorem snd_step {qS qR : ℕ → ℕ} {S D : ℕ → sProp 𝕄} {n : ℕ} (h1 : 1 ≤ n) (h16 : n < 16)
    (hqS : 6 ≤ qS n ∧ qS n < 134) (hqR : 6 ≤ qR n ∧ qR n < 134) (actS : act c (qS n) = true) (actR : act (tgt c n) (qR n) = true)
    (hNs : amt (qS n) = amt (qR n))
    {fd : Dev nD → ℕ} {hl : fd c < nD} (hn : ∀ c, fd c = (c.val + n) % 16)
    {sp sp' : Space} {s : Shape} {e : EltTy} {srcM : Memref sig .tc sp s e} {dstM : Memref sig .tc sp' s e} {sS sR : DmaSem sig}
    {hsc : dstM.view.ref.isScScratch = false} {hsrc : srcM.view.WordExact} {hdst : dstM.view.WordExact}
    {hsem : DmaTarget.Typed sp (.dma sR) (.remote (Dev.tc (⟨fd c, hl⟩ : Dev nD) : Thread nD τ) dstM (.dma sS) hsc)}
    (hsS : sS = mkS (qS n)) (hsR : sR = mkS (qR n))
    {q : PosShare TreeShare} {fs : Buf (Elt F) (srcM.view.loc (c : Thread nD τ))}
    (hN : dstM.view.dmaCredit = amt (qR n))
    (hS : S n ⊢ (srcM.view.loc (c : Thread nD τ) ↦[srcM.view.set]{q} fs))
    (hD : D n ⊢ iprop(∃ fd, dstM.view.loc (tgt c n : Thread nD τ) ↦[dstM.view.set]{fullShare} fd))
    (hp1 : (srcM.view.loc (c : Thread nD τ) ↦[srcM.view.set]{q} fs) ⊢ dmaPay C c (qS n))
    (hp2 : ∀ fd, (dstM.view.loc (tgt c n : Thread nD τ) ↦[dstM.view.set]{fullShare} (dstM.view.write (Elt F) fd (srcM.view.read (Elt F) fs) Finset.univ))
      ⊢ dmaPay C (tgt c n) (qR n))
    {k : PUnit → Prog (TpuEff nD τ sig (Elt F) Λ₀ .tc) α}
    (hk : iprop(Pers C ∗ R ∗ Ow c (O + sndDebt c qR (n + 1)) ∗ SndI c qS qR S D (n + 1)) ⊢ WP c (k ⟨⟩) Q) :
    iprop(Pers C ∗ R ∗ Ow c (O + sndDebt c qR n) ∗ SndI c qS qR S D n)
      ⊢ WP c (.op (.enqueueDma srcM (.remote (Dev.tc (⟨fd c, hl⟩ : Dev nD)) dstM (.dma sS) hsc) (.dma sR) hsrc hdst hsem) k) Q := by
  have ht : (⟨fd c, hl⟩ : Dev nD) = tgt c n := Fin.ext (hn c)
  generalize hg : (⟨fd c, hl⟩ : Dev nD) = dn at hsem ⊢
  obtain rfl : dn = tgt c n := hg.symm.trans ht
  subst hsS hsR
  have hO : O + sndDebt c qR n = (O + sndDebt c qR (n + 1)) + tallyAt (cell (tgt c n) (qR n)) () (amt (qR n)) := by
    unfold sndDebt; rw [Finset.sum_eq_sum_Ico_succ_bot h16]; abel
  rw [hO, SndI, bigSep_Ico_succ_bot h16]
  unfold Ow at hk ⊢
  iintro ⟨#HP, HR, ⟨%W, HO⟩, ⟨⟨Ht1, Ht2, HS, HD⟩, HSs⟩, Hdone⟩
  ihave #Hc := (pers_cell C c hqS.1 hqS.2) $$ HP
  icases Hc with ⟨%κ₁, #HI1, #Hr1⟩
  ihave #Hc := (pers_cell C (tgt c n) hqR.1 hqR.2) $$ HP
  icases Hc with ⟨%κ₂, #HI2, #Hr2⟩
  ihave HS' := hS $$ HS
  ihave HD' := hD $$ HD
  icases HD' with ⟨%fd, HD'⟩
  unfold tok
  iapply (Rounds.wp_send_pointsTo Variants.none ER (Rd C) (c : Thread nD τ) none (κ₁ := κ₁) (κ₂ := κ₂) (r₁ := 0) (r₂ := 0) (d₁ := 0) (d₂ := 0) (fd := fd)
      (by rw [duties_dma C c (by omega) actS]; exact Finset.mem_singleton_self _) (by rw [duties_dma C _ (by omega) actR]; exact Finset.mem_singleton_self _)
      () () (amt (qR n)) (show dstM.view.amount (.dma (mkS (qR n))) = amt (qR n) from hN) ((amount_dma C c (by omega) 0).trans hNs) (amount_dma C (tgt c n) (by omega) 0) (O + sndDebt c qR (n + 1)) rfl (W := W)
      (by rw [payload_dma C c (by omega)]; exact hp1) (by rw [payload_dma C _ (by omega)]; exact hp2 fd)) $$ [HO HS' HD' Ht1 Ht2]
  · isplitr; · iexact HI1
    isplitr; · iexact HI2
    isplitl [HS']; · iexact HS'
    isplitl [HD']; · iexact HD'
    isplitl [HO]; · iexact HO
    isplitl [Ht1]; · iexact Ht1
    isplitr; · iexact Hr1
    isplitl [Ht2]; · iexact Ht2
    iexact Hr2
  iintro ⟨Hcr, HO⟩
  iapply hk
  isplitr; · iexact HP
  isplitl [HR]; · iexact HR
  isplitl [HO]; · iexists W; iexact HO
  unfold SndI
  isplitl [HSs]; · iexact HSs
  rw [bigSep_Ico_succ_top h1]
  isplitl [Hcr]; · unfold crd; rw [hNs]; iexact Hcr
  iexact Hdone

/-! ## Waits on the own semaphores -/

/-- Before and after the wait on semaphore `q`, used or not. -/
def CA (c : Dev nD) (q : ℕ) : sProp 𝕄 := iprop((if act c q then crd c q else iprop(emp)) ∗ atPos ER (cell c q) 0 ∅ 0)
def PA (c : Dev nD) (q : ℕ) : sProp 𝕄 :=
  iprop((if act c q then dmaPay C c q else iprop(emp)) ∗ atPos ER (cell c q) (if act c q then 1 else 0) ∅ 0)
/-- A run of waits, the `n`-th next. -/
def WtI (c : Dev nD) (q : ℕ → ℕ) (a b n : ℕ) : sProp 𝕄 := iprop(bigSep (Finset.Ico n b) (fun d => CA c (q d)) ∗ bigSep (Finset.Ico a n) (fun d => PA C c (q d)))

theorem wt_step {q : ℕ → ℕ} {a b n : ℕ} (ha : a ≤ n) (hb : n < b) (hq : 6 ≤ q n ∧ q n < 134) (hact : act c (q n) = true)
    {sp sp' : Space} {s s' : Shape} {e e' : EltTy} {srcM : Memref sig .tc sp s' e'} {dstM : Memref sig .tc sp' s e} {sm : DmaSem sig}
    {hsrc : srcM.view.WordExact} {hdst : dstM.view.WordExact} (hsm : sm = mkS (q n)) (hN : dstM.view.dmaCredit = amt (q n))
    (hO : ∀ g u, 0 < O g u → g.1.2 = .tc ∧ lvl (.dma (mkS (q n))) < lvl g.2)
    {k : PUnit → Prog (TpuEff nD τ sig (Elt F) Λ₀ .tc) α}
    (hk : iprop(Pers C ∗ R ∗ Ow c O ∗ WtI C c q a b (n + 1)) ⊢ WP c (k ⟨⟩) Q) :
    iprop(Pers C ∗ R ∗ Ow c O ∗ WtI C c q a b n) ⊢ WP c (.op (.waitDma2 sm srcM dstM hsrc hdst) k) Q := by
  subst hsm
  rw [WtI, bigSep_Ico_succ_bot hb]
  unfold Ow at hk ⊢
  unfold CA crd
  rw [if_pos hact]
  iintro ⟨#HP, HR, ⟨%W, HO⟩, ⟨⟨Hcr, Hat⟩, HCs⟩, Hdone⟩
  ihave #Hc := (pers_cell C c hq.1 hq.2) $$ HP
  icases Hc with ⟨%κ, #HI, -⟩
  rw [← hN]
  iapply (Rounds.wp_wait_rest_token Variants.none ER (Rd C) (c : Thread nD τ) none (κ := κ)
      (wpE_waitDma2_eq Variants.none (c : Thread nD τ) none Set.univ) (Set.mem_univ _) () (O := O) (W := W) (R := 0) (m := 0) (T := ∅)
      (by rw [Nat.zero_add, expect_dma C c (by omega) hact, hN])) $$ [Hcr HO Hat]
  · isplitr; · iexact HI
    isplitl [Hcr]; · iexact Hcr
    isplitl [HO]; · iexact HO
    isplitr; · iapply (pers_may C c (.dma (mkS (q n))) O hO); iexact HP
    iexact Hat
  iintro ⟨HO, Hat, -, Hpay⟩
  ihave Hp := (Entails.of_eq (rest_dma C c (by omega) hact)) $$ Hpay
  iapply hk
  isplitr; · iexact HP
  isplitl [HR]; · iexact HR
  isplitl [HO]; · iexists _; iexact HO
  unfold WtI
  isplitl [HCs]; · unfold CA crd; iexact HCs
  rw [bigSep_Ico_succ_top ha]
  isplitl [Hp Hat]
  · unfold PA; rw [if_pos hact, if_pos hact]
    isplitl [Hp]; · iexact Hp
    iexact Hat
  iexact Hdone

omit [FloatOps F] [Named F] in
/-- A semaphore not used is passed over. -/
theorem wt_skip {q : ℕ → ℕ} {a b n : ℕ} (ha : a ≤ n) (hb : n < b) (hact : act c (q n) = false) : WtI C c q a b n ⊢ WtI C c q a b (n + 1) := by
  unfold WtI
  rw [bigSep_Ico_succ_bot hb, bigSep_Ico_succ_top ha]
  unfold CA PA
  simp only [hact, Bool.false_eq_true, if_false]
  iintro ⟨⟨⟨-, Hat⟩, HCs⟩, Hdone⟩
  isplitl [HCs]; · iexact HCs
  isplitl [Hat]
  · isplitr; · iempintro
    iexact Hat
  iexact Hdone

/-! ## Copies within the device -/

/-- A copy under way on local semaphore `i`, to deliver `D`. -/
def Fl (c : Dev nD) (i N : ℕ) (D : sProp 𝕄) : sProp 𝕄 := Transfers.Flight EC (c : Thread nD τ) (.dma (mkS i)) () N D

theorem loc_step {i N : ℕ} {D S T : sProp 𝕄} (hN0 : 0 < N)
    {sp sp' : Space} {s : Shape} {e : EltTy} {srcM : Memref sig .tc sp s e} {dstM : Memref sig .tc sp' s e} {sm : DmaSem sig}
    {hsrc : srcM.view.WordExact} {hdst : dstM.view.WordExact} {hsem : (DmaTarget.here dstM : DmaTarget nD τ sig .tc sp' s e).Typed sp (.dma sm)}
    (hsm : sm = mkS i) (hN : dstM.view.dmaCredit = N)
    {q : PosShare TreeShare} {fs : Buf (Elt F) (srcM.view.loc (c : Thread nD τ))}
    (hS : S ⊢ (srcM.view.loc (c : Thread nD τ) ↦[srcM.view.set]{q} fs))
    (hT : T ⊢ iprop(∃ fd, dstM.view.loc (c : Thread nD τ) ↦[dstM.view.set]{fullShare} fd))
    (hD : ∀ fd, iprop((dstM.view.loc (c : Thread nD τ) ↦[dstM.view.set]{fullShare} (dstM.view.write (Elt F) fd (srcM.view.read (Elt F) fs) Finset.univ))
        ∗ (srcM.view.loc (c : Thread nD τ) ↦[srcM.view.set]{q} fs)) = D)
    {k : PUnit → Prog (TpuEff nD τ sig (Elt F) Λ₀ .tc) α}
    (hk : iprop(Pers C ∗ R ∗ Fl c i N D) ⊢ WP c (k ⟨⟩) Q) :
    iprop(Pers C ∗ R ∗ (S ∗ T ∗ semVal (cell c i) 0)) ⊢ WP c (.op (.enqueueDma srcM (.here dstM) (.dma sm) hsrc hdst hsem) k) Q := by
  subst hsm
  iintro ⟨#HP, HR, HS, HT, Hv⟩
  ihave HS' := hS $$ HS
  ihave HT' := hT $$ HT
  icases HT' with ⟨%fd, HT'⟩
  iapply (Transfers.wp_dmaLocal EC Variants.none (c : Thread nD τ) none () N (show dstM.view.amount (.dma (mkS i)) = N from hN) hN0 (Finset.Subset.refl _)) $$ [HS' HT' Hv]
  · isplitl [HS']; · iexact HS'
    isplitl [HT']; · iexact HT'
    iexact Hv
  iintro HF
  iapply hk
  isplitr; · iexact HP
  isplitl [HR]; · iexact HR
  unfold Fl
  rw [← hD fd]
  iexact HF

theorem locw_step {i N : ℕ} {D : sProp 𝕄}
    {sp sp' : Space} {s s' : Shape} {e e' : EltTy} {srcM : Memref sig .tc sp s' e'} {dstM : Memref sig .tc sp' s e} {sm : DmaSem sig}
    {hsrc : srcM.view.WordExact} {hdst : dstM.view.WordExact} (hsm : sm = mkS i) (hN : dstM.view.dmaCredit = N)
    (hO : ∀ g u, 0 < O g u → g.1.2 = .tc ∧ lvl (.dma (mkS i)) < lvl g.2)
    {k : PUnit → Prog (TpuEff nD τ sig (Elt F) Λ₀ .tc) α}
    (hk : iprop(Pers C ∗ R ∗ Ow c O ∗ (D ∗ semVal (cell c i) 0)) ⊢ WP c (k ⟨⟩) Q) :
    iprop(Pers C ∗ R ∗ Ow c O ∗ Fl c i N D) ⊢ WP c (.op (.waitDma2 sm srcM dstM hsrc hdst) k) Q := by
  subst hsm
  unfold Ow at hk ⊢
  iintro ⟨#HP, HR, ⟨%W, HO⟩, HF⟩
  iapply (Transfers.wp_waitLocalO EC Variants.none (c : Thread nD τ) none () hN) $$ [HO HF]
  · isplitl [HF]; · unfold Fl; iexact HF
    isplitl [HO]; · iexact HO
    iapply (pers_may C c (.dma (mkS i)) O hO); iexact HP
  iintro ⟨HD, Hv, HO⟩
  iapply hk
  isplitr; · iexact HP
  isplitl [HR]; · iexact HR
  isplitl [HO]; · iexists _; iexact HO
  isplitl [HD]; · iexact HD
  iexact Hv

end Cert.KernelIdealProof
-- ==== Proof.KIdeal.Views.lean ====
/-
The views the kernel's copies go through: which elements of its buffer each one is, and what a copy through a pair of them
leaves in the target.
-/
module

public import proofs.«01_k».proof.Proof.KIdeal.Step

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

/-! ## The slices, at any offsets -/

abbrev bfSl (off : Fin 4 → ℕ) (inb : ∀ a, off a + S2x2x64x256.size a ≤ S2x2x128x4096.size a) : Memref sig .tc .vmem S2x2x64x256 .bf16 :=
  kvbfM.slice (Rect.unit (s := S2x2x128x4096) off S2x2x64x256.size inb) (fun _ => rfl)
abbrev kvSl (off : Fin 4 → ℕ) (inb : ∀ a, off a + S2x2x64x256.size a ≤ S2x2x1408x256.size a) : Memref sig .tc .vmem S2x2x64x256 .bf16 :=
  kvM.slice (Rect.unit (s := S2x2x1408x256) off S2x2x64x256.size inb) (fun _ => rfl)
abbrev psSl (off : Fin 3 → ℕ) (inb : ∀ a, off a + S1x16x512.size a ≤ S2x128x512.size a) (h : S1x16x512.Squeezes S16x512) : Memref sig .tc .vmem S16x512 .bf16 :=
  (psM.slice (Rect.unit (s := S2x128x512) off S1x16x512.size inb) (fun _ => rfl)).squeeze S16x512 h
abbrev rsSl (off : Fin 3 → ℕ) (inb : ∀ a, off a + S1x16x512.size a ≤ S16x16x512.size a) (h : S1x16x512.Squeezes S16x512) : Memref sig .tc .vmem S16x512 .bf16 :=
  (rsM.slice (Rect.unit (s := S16x16x512) off S1x16x512.size inb) (fun _ => rfl)).squeeze S16x512 h
abbrev agSl (off : Fin 3 → ℕ) (inb : ∀ a, off a + S1x16x512.size a ≤ S16x16x512.size a) (h : S1x16x512.Squeezes S16x512) : Memref sig .tc .vmem S16x512 .bf16 :=
  (agM.slice (Rect.unit (s := S16x16x512) off S1x16x512.size inb) (fun _ => rfl)).squeeze S16x512 h

section Sets
variable {off : Fin 4 → ℕ} {inb} {of3 : Fin 3 → ℕ} {inb3} {hsq : S1x16x512.Squeezes S16x512}

theorem set_bf {t : Dev nD} {j : ℕ} (hj : j < 2) (h : off = ![0, 0, 64 * j, 256 * t.val]) : (bfSl off inb).view.set = bfReg t j := by
  subst h
  refine (View.set_slice_whole _ _).trans ?_
  ext i
  have h0 : (i 0).val < 2 := (i 0).isLt; have h1 : (i 1).val < 2 := (i 1).isLt; have h2 : (i 2).val < 128 := (i 2).isLt; have h3 : (i 3).val < 4096 := (i 3).isLt
  rw [Rect.mem_set_unit, bfReg, Finset.mem_filter]
  simp only [Finset.mem_univ, true_and]
  constructor
  · intro h
    have a2 : 64 * j ≤ (i 2).val ∧ (i 2).val < 64 * j + 64 := h 2; have a3 : 256 * t.val ≤ (i 3).val ∧ (i 3).val < 256 * t.val + 256 := h 3
    omega
  · rintro ⟨e1, e2⟩ a
    fin_cases a
    exacts [(by omega : 0 ≤ (i 0).val ∧ (i 0).val < 0 + 2), (by omega : 0 ≤ (i 1).val ∧ (i 1).val < 0 + 2), (by omega : 64 * j ≤ (i 2).val ∧ (i 2).val < 64 * j + 64), (by omega : 256 * t.val ≤ (i 3).val ∧ (i 3).val < 256 * t.val + 256)]

theorem set_kv {s : Dev nD} {j : ℕ} (hj : j < 2) (hb : needB (2 * s.val + j) = true) (h : off = ![0, 0, 64 * slot (2 * s.val + j), 0]) :
    (kvSl off inb).view.set = kvReg s j := by
  subst h
  have hs := dev_lt s
  refine (View.set_slice_whole _ _).trans ?_
  ext i
  have h0 : (i 0).val < 2 := (i 0).isLt; have h1 : (i 1).val < 2 := (i 1).isLt; have h2 : (i 2).val < 1408 := (i 2).isLt; have h3 : (i 3).val < 256 := (i 3).isLt
  have hl := slot_lt (2 * s.val + j) (by omega) hb
  rw [Rect.mem_set_unit, kvReg, Finset.mem_filter]
  simp only [Finset.mem_univ, true_and]
  constructor
  · intro h
    have a2 : 64 * slot (2 * s.val + j) ≤ (i 2).val ∧ (i 2).val < 64 * slot (2 * s.val + j) + 64 := h 2
    rw [show (i 2).val / 64 = slot (2 * s.val + j) by omega]
    exact blkOf_slot _ (by omega) hb
  · intro e a
    have h2' : (i 2).val / 64 < 22 := by omega
    have e' := slot_blkOf _ h2'
    rw [e] at e'
    fin_cases a
    exacts [(by omega : 0 ≤ (i 0).val ∧ (i 0).val < 0 + 2), (by omega : 0 ≤ (i 1).val ∧ (i 1).val < 0 + 2), (by omega : 64 * slot (2 * s.val + j) ≤ (i 2).val ∧ (i 2).val < 64 * slot (2 * s.val + j) + 64), (by omega : 0 ≤ (i 3).val ∧ (i 3).val < 0 + 256)]

theorem set_ps {t : Dev nD} (h : of3 = ![t.val / 8, t.val % 8 * 16, 0]) : (psSl of3 inb3 hsq).view.set = psReg t := by
  subst h
  have hs := dev_lt t
  refine (View.set_reshape _ _).trans ((View.set_slice_whole _ _).trans ?_)
  ext i
  have h0 : (i 0).val < 2 := (i 0).isLt; have h1 : (i 1).val < 128 := (i 1).isLt; have h2 : (i 2).val < 512 := (i 2).isLt
  rw [Rect.mem_set_unit, psReg, Finset.mem_filter]
  simp only [Finset.mem_univ, true_and]
  constructor
  · intro h
    have a0 : t.val / 8 ≤ (i 0).val ∧ (i 0).val < t.val / 8 + 1 := h 0; have a1 : t.val % 8 * 16 ≤ (i 1).val ∧ (i 1).val < t.val % 8 * 16 + 16 := h 1
    omega
  · intro e a
    fin_cases a
    exacts [(by omega : t.val / 8 ≤ (i 0).val ∧ (i 0).val < t.val / 8 + 1), (by omega : t.val % 8 * 16 ≤ (i 1).val ∧ (i 1).val < t.val % 8 * 16 + 16), (by omega : 0 ≤ (i 2).val ∧ (i 2).val < 0 + 512)]

theorem set_slab {t : Dev nD} (h : of3 = ![t.val, 0, 0]) : (Rect.unit (s := S16x16x512) of3 S1x16x512.size inb3).set = rsReg t := by
  subst h
  have hs := dev_lt t
  ext i
  have h0 : (i 0).val < 16 := (i 0).isLt; have h1 : (i 1).val < 16 := (i 1).isLt; have h2 : (i 2).val < 512 := (i 2).isLt
  rw [Rect.mem_set_unit, rsReg, Finset.mem_filter]
  simp only [Finset.mem_univ, true_and]
  constructor
  · intro h
    have a0 : t.val ≤ (i 0).val ∧ (i 0).val < t.val + 1 := h 0
    omega
  · intro e a
    fin_cases a
    exacts [(by omega : t.val ≤ (i 0).val ∧ (i 0).val < t.val + 1), (by omega : 0 ≤ (i 1).val ∧ (i 1).val < 0 + 16), (by omega : 0 ≤ (i 2).val ∧ (i 2).val < 0 + 512)]

theorem set_rs {t : Dev nD} (h : of3 = ![t.val, 0, 0]) : (rsSl of3 inb3 hsq).view.set = rsReg t :=
  (View.set_reshape _ _).trans ((View.set_slice_whole _ _).trans (set_slab h))
theorem set_ag {t : Dev nD} (h : of3 = ![t.val, 0, 0]) : (agSl of3 inb3 hsq).view.set = rsReg t :=
  (View.set_reshape _ _).trans ((View.set_slice_whole _ _).trans (set_slab h))

end Sets

/-! ## What each transfer adds to its semaphore -/

theorem credit_bf (off inb) : (bfSl off inb).view.dmaCredit = NKV := rfl
theorem credit_kv (off inb) : (kvSl off inb).view.dmaCredit = NKV := rfl
theorem credit_ps (off inb h) : (psSl off inb h).view.dmaCredit = NRS := rfl
theorem credit_rs (off inb h) : (rsSl off inb h).view.dmaCredit = NRS := rfl
theorem credit_ag (off inb h) : (agSl off inb h).view.dmaCredit = NRS := rfl

/-! ## What a copy leaves in its target -/

section Land
variable {off off' : Fin 4 → ℕ} {inb inb'} {of3 of3' : Fin 3 → ℕ} {inb3 inb3'} {hsq hsq' : S1x16x512.Squeezes S16x512}

/-- A slab's element `x` behind the one coordinate dropped. -/
theorem reshape_slab (h : S16x512.numel = S1x16x512.numel) (x : S16x512.Idx) :
    ((Shape.reshapeEquiv h x) 0).val = 0 ∧ ((Shape.reshapeEquiv h x) 1).val = (x 0).val ∧ ((Shape.reshapeEquiv h x) 2).val = (x 1).val := by
  have e := Shape.rowMajor_reshapeEquiv h x
  rw [Shape.rowMajor_val_three, Shape.rowMajor_val_two] at e
  have h0 := ((Shape.reshapeEquiv h x) 0).isLt; have h1 := ((Shape.reshapeEquiv h x) 1).isLt; have h2 := ((Shape.reshapeEquiv h x) 2).isLt
  have k0 : (x 0).val < 16 := (x 0).isLt; have k1 : (x 1).val < 512 := (x 1).isLt
  dsimp at h0 h1 h2 k0 k1 e
  omega

theorem land_kv (s t : Dev nD) {j : ℕ} (hj : j < 2) (hb : needB (2 * s.val + j) = true) (h : off = ![0, 0, 64 * j, 256 * t.val])
    (h' : off' = ![0, 0, 64 * slot (2 * s.val + j), 0]) (c : Dev nD) (fd) :
    (pts c cc0_scratch1 (kvReg s j) fullShare ((kvSl off' inb').view.write (Elt F) fd ((bfSl off inb).view.read (Elt F) (C.kv s)) Finset.univ) : sProp 𝕄)
      = pts c cc0_scratch1 (kvReg s j) fullShare (Gkv C t) := by
  refine pointsTo_congr fun i hi => ?_
  rw [← set_kv (inb := inb') hj hb h'] at hi
  obtain ⟨x, -, rfl⟩ := Finset.mem_map.mp hi
  refine (View.write_emb_of_mem _ _ (Finset.mem_univ x)).trans ?_
  have hs := dev_lt s; have ht := dev_lt t
  have hl := slot_lt (2 * s.val + j) (by omega) hb
  have k2 : (x 2).val < 64 := (x 2).isLt; have k3 : (x 3).val < 256 := (x 3).isLt
  have e2 : (((kvSl off' inb').view.emb x) 2).val = 64 * slot (2 * s.val + j) + 1 * (x 2).val := by subst h'; rfl
  have e0 : (((kvSl off' inb').view.emb x) 0).val = 0 + 1 * (x 0).val := by subst h'; rfl
  have e1 : (((kvSl off' inb').view.emb x) 1).val = 0 + 1 * (x 1).val := by subst h'; rfl
  have e3 : (((kvSl off' inb').view.emb x) 3).val = 0 + 1 * (x 3).val := by subst h'; rfl
  have g2 : (((bfSl off inb).view.emb x) 2).val = 64 * j + 1 * (x 2).val := by subst h; rfl
  have g0 : (((bfSl off inb).view.emb x) 0).val = 0 + 1 * (x 0).val := by subst h; rfl
  have g1 : (((bfSl off inb).view.emb x) 1).val = 0 + 1 * (x 1).val := by subst h; rfl
  have g3 : (((bfSl off inb).view.emb x) 3).val = 256 * t.val + 1 * (x 3).val := by subst h; rfl
  have hd : (((kvSl off' inb').view.emb x) 2).val / 64 = slot (2 * s.val + j) := by omega
  have hm : (((kvSl off' inb').view.emb x) 2).val % 64 = (x 2).val := by omega
  show C.kv s ((bfSl off inb).view.emb x) = Gkv C t ((kvSl off' inb').view.emb x)
  unfold Gkv
  have hb' := blkOf_slot (2 * s.val + j) (by omega) hb
  have hdev : (⟨blkOf ((((kvSl off' inb').view.emb x) 2).val / 64) / 2 % 16, mod16_lt _⟩ : Dev nD) = s := by
    apply Fin.ext; dsimp only; rw [hd, hb']; omega
  rw [hdev]
  congr 1
  funext a
  apply Fin.ext
  fin_cases a
  · exact g0.trans e0.symm
  · exact g1.trans e1.symm
  · refine g2.trans ?_
    show _ = (blkOf ((((kvSl off' inb').view.emb x) 2).val / 64) % 2 * 64 + (((kvSl off' inb').view.emb x) 2).val % 64) % 128
    rw [hd, hb', hm]; omega
  · refine g3.trans ?_
    show _ = (t.val * 256 + (((kvSl off' inb').view.emb x) 3).val) % 4096
    omega

theorem land_rs (s t : Dev nD) (h : of3 = ![t.val / 8, t.val % 8 * 16, 0]) (h' : of3' = ![s.val, 0, 0]) (c : Dev nD) (fd) :
    (pts c cc0_scratch3 (rsReg s) fullShare ((rsSl of3' inb3' hsq').view.write (Elt F) fd ((psSl of3 inb3 hsq).view.read (Elt F) (C.ps s)) Finset.univ) : sProp 𝕄)
      = pts c cc0_scratch3 (rsReg s) fullShare (Grs C t) := by
  refine pointsTo_congr fun i hi => ?_
  rw [← set_rs (inb3 := inb3') (hsq := hsq') h'] at hi
  obtain ⟨x, -, rfl⟩ := Finset.mem_map.mp hi
  refine (View.write_emb_of_mem _ _ (Finset.mem_univ x)).trans ?_
  have hs := dev_lt s; have ht := dev_lt t
  have k0 : (x 0).val < 16 := (x 0).isLt; have k1 : (x 1).val < 512 := (x 1).isLt
  obtain ⟨r0, r1, r2⟩ := reshape_slab hsq'.numel_eq x
  have e0 : (((rsSl of3' inb3' hsq').view.emb x) 0).val = s.val + 1 * ((Shape.reshapeEquiv hsq'.numel_eq x) 0).val := by subst h'; rfl
  have e1 : (((rsSl of3' inb3' hsq').view.emb x) 1).val = 0 + 1 * ((Shape.reshapeEquiv hsq'.numel_eq x) 1).val := by subst h'; rfl
  have e2 : (((rsSl of3' inb3' hsq').view.emb x) 2).val = 0 + 1 * ((Shape.reshapeEquiv hsq'.numel_eq x) 2).val := by subst h'; rfl
  have g0 : (((psSl of3 inb3 hsq).view.emb x) 0).val = t.val / 8 + 1 * ((Shape.reshapeEquiv hsq'.numel_eq x) 0).val := by subst h; rfl
  have g1 : (((psSl of3 inb3 hsq).view.emb x) 1).val = t.val % 8 * 16 + 1 * ((Shape.reshapeEquiv hsq'.numel_eq x) 1).val := by subst h; rfl
  have g2 : (((psSl of3 inb3 hsq).view.emb x) 2).val = 0 + 1 * ((Shape.reshapeEquiv hsq'.numel_eq x) 2).val := by subst h; rfl
  show C.ps s ((psSl of3 inb3 hsq).view.emb x) = Grs C t ((rsSl of3' inb3' hsq').view.emb x)
  unfold Grs
  have hdev : (⟨(((rsSl of3' inb3' hsq').view.emb x) 0).val, (((rsSl of3' inb3' hsq').view.emb x) 0).isLt⟩ : Dev nD) = s := by
    exact Fin.ext (by omega : (((rsSl of3' inb3' hsq').view.emb x) 0).val = s.val)
  rw [hdev]
  congr 1
  funext a
  apply Fin.ext
  fin_cases a
  · refine g0.trans ?_
    show _ = t.val / 8 % 2
    omega
  · refine g1.trans ?_
    show _ = (t.val % 8 * 16 + (((rsSl of3' inb3' hsq').view.emb x) 1).val) % 128
    omega
  · exact g2.trans e2.symm

theorem land_ag (s : Dev nD) (h' : of3' = ![s.val, 0, 0]) (c : Dev nD) (fd) :
    (pts c cc0_scratch5 (rsReg s) fullShare ((agSl of3' inb3' hsq').view.write (Elt F) fd (agsM.view.read (Elt F) (C.ag s)) Finset.univ) : sProp 𝕄)
      = pts c cc0_scratch5 (rsReg s) fullShare (Gag C) := by
  refine pointsTo_congr fun i hi => ?_
  rw [← set_ag (inb3 := inb3') (hsq := hsq') h'] at hi
  obtain ⟨x, -, rfl⟩ := Finset.mem_map.mp hi
  refine (View.write_emb_of_mem _ _ (Finset.mem_univ x)).trans ?_
  have hs := dev_lt s
  obtain ⟨r0, r1, r2⟩ := reshape_slab hsq'.numel_eq x
  have e0 : (((agSl of3' inb3' hsq').view.emb x) 0).val = s.val + 1 * ((Shape.reshapeEquiv hsq'.numel_eq x) 0).val := by subst h'; rfl
  have e1 : (((agSl of3' inb3' hsq').view.emb x) 1).val = 0 + 1 * ((Shape.reshapeEquiv hsq'.numel_eq x) 1).val := by subst h'; rfl
  have e2 : (((agSl of3' inb3' hsq').view.emb x) 2).val = 0 + 1 * ((Shape.reshapeEquiv hsq'.numel_eq x) 2).val := by subst h'; rfl
  show C.ag s x = Gag C ((agSl of3' inb3' hsq').view.emb x)
  unfold Gag
  have hdev : (⟨(((agSl of3' inb3' hsq').view.emb x) 0).val, (((agSl of3' inb3' hsq').view.emb x) 0).isLt⟩ : Dev nD) = s := by
    exact Fin.ext (by omega : (((agSl of3' inb3' hsq').view.emb x) 0).val = s.val)
  rw [hdev]
  congr 1
  funext a
  apply Fin.ext
  fin_cases a
  · exact (by omega : (x 0).val = (((agSl of3' inb3' hsq').view.emb x) 1).val)
  · exact (by omega : (x 1).val = (((agSl of3' inb3' hsq').view.emb x) 2).val)

end Land

end Cert.KernelIdealProof
-- ==== Proof.KIdeal.Sends.lean ====
/-
The sends, the waits and the body's parts at this kernel's buffers.
-/
module

public import proofs.«01_k».proof.Proof.KIdeal.Views

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

/-- A part of the body at the buffers it is called with. -/
abbrev At.{u} {β : Type u} (p : ∀ (arg0 : Memref sig .tc .vmem S2x128x512 .bf16) (harg0 : arg0.IsWhole) (arg1 : Memref sig .tc .vmem S512x256 .bf16) (harg1 : arg1.IsWhole) (arg2 : Memref sig .tc .vmem S2x128x64x64 .bf16) (harg2 : arg2.IsWhole) (arg3 : Memref sig .tc .vmem S2x128x64x64 .bf16) (harg3 : arg3.IsWhole) (arg4 : Memref sig .tc .vmem S256x512 .bf16) (harg4 : arg4.IsWhole) (arg5 : Memref sig .tc .vmem S2x128x512 .f32) (harg5 : arg5.IsWhole) (arg6 : Memref sig .tc .vmem S2x2x128x4096 .bf16) (harg6 : arg6.IsWhole) (arg7 : Memref sig .tc .vmem S2x2x1408x256 .bf16) (harg7 : arg7.IsWhole) (arg8 : Memref sig .tc .vmem S2x128x512 .bf16) (harg8 : arg8.IsWhole) (arg9 : Memref sig .tc .vmem S16x16x512 .bf16) (harg9 : arg9.IsWhole) (arg10 : Memref sig .tc .vmem S16x512 .bf16) (harg10 : arg10.IsWhole) (arg11 : Memref sig .tc .vmem S16x16x512 .bf16) (harg11 : arg11.IsWhole) (arg12 : DmaSems sig S32) (arg13 : DmaSems sig S32) (arg14 : DmaSems sig S16) (arg15 : DmaSems sig S16) (arg16 : DmaSems sig S16) (arg17 : DmaSems sig S16) (arg18 : DmaSems sig S2), β) : β :=
  p (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12

variable {c : Dev nD} {α β : Type} {Q : α → SP F} {R : SP F} {O : CellTallies nD τ sig Unit}

/-! ## The semaphores of the arrays -/

section Sems
variable {off : Fin 1 → ℕ} {sq : S1.Squeezes S_} {m : ℕ}

abbrev sem6 (off : Fin 1 → ℕ) (inb : ∀ a, off a + S1.size a ≤ S32.size a) (sq : S1.Squeezes S_) : DmaSem sig :=
  (((cc0_scratch6).slice (Rect.unit (s := S32) off S1.size inb)).squeeze S_ sq).sem
theorem sem6_eq {inb} (h : off 0 = m) : sem6 off inb sq = mkS (6 + m) := by
  refine sem_at (base := 6) (fo := fun _ => off) (fq := fun _ => 6 + m) (c := 0) (by decide) (fun _ => by rw [h])
abbrev sem7 (off : Fin 1 → ℕ) (inb : ∀ a, off a + S1.size a ≤ S32.size a) (sq : S1.Squeezes S_) : DmaSem sig :=
  (((cc0_scratch7).slice (Rect.unit (s := S32) off S1.size inb)).squeeze S_ sq).sem
theorem sem7_eq {inb} (h : off 0 = m) : sem7 off inb sq = mkS (38 + m) := by
  refine sem_at (base := 38) (fo := fun _ => off) (fq := fun _ => 38 + m) (c := 0) (by decide) (fun _ => by rw [h])
abbrev sem8 (off : Fin 1 → ℕ) (inb : ∀ a, off a + S1.size a ≤ S16.size a) (sq : S1.Squeezes S_) : DmaSem sig :=
  (((cc0_scratch8).slice (Rect.unit (s := S16) off S1.size inb)).squeeze S_ sq).sem
theorem sem8_eq {inb} (h : off 0 = m) : sem8 off inb sq = mkS (70 + m) := by
  refine sem_at (base := 70) (fo := fun _ => off) (fq := fun _ => 70 + m) (c := 0) (by decide) (fun _ => by rw [h])
abbrev sem9 (off : Fin 1 → ℕ) (inb : ∀ a, off a + S1.size a ≤ S16.size a) (sq : S1.Squeezes S_) : DmaSem sig :=
  (((cc0_scratch9).slice (Rect.unit (s := S16) off S1.size inb)).squeeze S_ sq).sem
theorem sem9_eq {inb} (h : off 0 = m) : sem9 off inb sq = mkS (86 + m) := by
  refine sem_at (base := 86) (fo := fun _ => off) (fq := fun _ => 86 + m) (c := 0) (by decide) (fun _ => by rw [h])
abbrev sem10 (off : Fin 1 → ℕ) (inb : ∀ a, off a + S1.size a ≤ S16.size a) (sq : S1.Squeezes S_) : DmaSem sig :=
  (((cc0_scratch10).slice (Rect.unit (s := S16) off S1.size inb)).squeeze S_ sq).sem
theorem sem10_eq {inb} (h : off 0 = m) : sem10 off inb sq = mkS (102 + m) := by
  refine sem_at (base := 102) (fo := fun _ => off) (fq := fun _ => 102 + m) (c := 0) (by decide) (fun _ => by rw [h])
abbrev sem11 (off : Fin 1 → ℕ) (inb : ∀ a, off a + S1.size a ≤ S16.size a) (sq : S1.Squeezes S_) : DmaSem sig :=
  (((cc0_scratch11).slice (Rect.unit (s := S16) off S1.size inb)).squeeze S_ sq).sem
theorem sem11_eq {inb} (h : off 0 = m) : sem11 off inb sq = mkS (118 + m) := by
  refine sem_at (base := 118) (fo := fun _ => off) (fq := fun _ => 118 + m) (c := 0) (by decide) (fun _ => by rw [h])
abbrev sem12 (off : Fin 1 → ℕ) (inb : ∀ a, off a + S1.size a ≤ S2.size a) (sq : S1.Squeezes S_) : DmaSem sig :=
  (((cc0_scratch12).slice (Rect.unit (s := S2) off S1.size inb)).squeeze S_ sq).sem
theorem sem12_eq {inb} (h : off 0 = m) : sem12 off inb sq = mkS (134 + m) := by
  refine sem_at (base := 134) (fo := fun _ => off) (fq := fun _ => 134 + m) (c := 0) (by decide) (fun _ => by rw [h])
end Sems

/-! ## The sends of keys and values -/

def SKv (c : Dev nD) (j d : ℕ) : sProp 𝕄 := pts c cc0_scratch0 (bfReg (tgt c d) j) fullShare (C.kv c)
def DKv (c : Dev nD) (j d : ℕ) : sProp 𝕄 := iprop(∃ f, pts (tgt c d) cc0_scratch1 (kvReg c j) fullShare f)

theorem act_S1 (c : Dev nD) {d j : ℕ} (h1 : 1 ≤ d) (h16 : d < 16) (hj : j < 2) : act c (qS1 d j) = needB (2 * c.val + j) := by
  unfold act qS1
  rw [if_neg (by omega), if_pos (by omega), decide_eq_true (by omega), Bool.true_and, show (6 + 2 * d + j - 6) % 2 = j by omega]
theorem act_R1 (c : Dev nD) {s j : ℕ} (hs : s < 16) (hsc : s ≠ c.val) (hj : j < 2) : act c (qR1 s j) = needB (2 * s + j) := by
  unfold act qR1
  rw [if_neg (by omega), if_neg (by omega), if_pos (by omega), decide_eq_true (by omega), Bool.true_and,
    show (38 + 2 * s + j - 38) / 2 = s by omega, show (38 + 2 * s + j - 38) % 2 = j by omega]
theorem ne_tgt (c : Dev nD) {d : ℕ} (h1 : 1 ≤ d) (h16 : d < 16) : c.val ≠ (tgt c d).val := fun h => tgt_ne c h1 h16 (Fin.ext h.symm)

theorem kv_send {j : ℕ} (hj : j < 2) (hb : needB (2 * c.val + j) = true) {n : ℕ} (h1 : 1 ≤ n) (h16 : n < 16)
    {fd : Dev nD → ℕ} {hl : fd c < nD} (hn : ∀ c, fd c = (c.val + n) % 16)
    {off off' : Fin 4 → ℕ} {inb inb'} (hoff : off = ![0, 0, 64 * j, 256 * (tgt c n).val]) (hoff' : off' = ![0, 0, 64 * slot (2 * c.val + j), 0])
    {oS oR : Fin 1 → ℕ} {iS iR sqS sqR} (hoS : oS 0 = 2 * n + j) (hoR : oR 0 = 2 * c.val + j)
    {hsc : (kvSl off' inb').view.ref.isScScratch = false} {hsrc hdst}
    {hsem : DmaTarget.Typed .vmem (.dma (sem7 oR iR sqR)) (.remote (Dev.tc (⟨fd c, hl⟩ : Dev nD) : Thread nD τ) (kvSl off' inb') (.dma (sem6 oS iS sqS)) hsc)}
    {k : PUnit → Prog (TpuEff nD τ sig (Elt F) Λ₀ .tc) α}
    (hk : iprop(Pers C ∗ R ∗ Ow c (O + sndDebt c (fun _ => qR1 c.val j) (n + 1)) ∗ SndI c (fun d => qS1 d j) (fun _ => qR1 c.val j) (SKv C c j) (DKv c j) (n + 1))
      ⊢ WP c (k ⟨⟩) Q) :
    iprop(Pers C ∗ R ∗ Ow c (O + sndDebt c (fun _ => qR1 c.val j) n) ∗ SndI c (fun d => qS1 d j) (fun _ => qR1 c.val j) (SKv C c j) (DKv c j) n)
      ⊢ WP c (.op (.enqueueDma (bfSl off inb) (.remote (Dev.tc (⟨fd c, hl⟩ : Dev nD)) (kvSl off' inb') (.dma (sem6 oS iS sqS)) hsc) (.dma (sem7 oR iR sqR)) hsrc hdst hsem) k) Q := by
  have hc := dev_lt c
  have e38 : (⟨(qR1 c.val j - 38) / 2 % 16, mod16_lt _⟩ : Dev nD) = c := Fin.ext (by dsimp only [qR1]; omega)
  have ej : (qR1 c.val j - 38) % 2 = j := by dsimp only [qR1]; omega
  have es : (qS1 n j - 6) / 2 = n := by dsimp only [qS1]; omega
  have esj : (qS1 n j - 6) % 2 = j := by dsimp only [qS1]; omega
  refine snd_step C h1 h16 (by dsimp only [qS1]; omega) (by dsimp only [qR1]; omega) ((act_S1 c h1 h16 hj).trans hb)
    ((act_R1 _ hc (ne_tgt c h1 h16) hj).trans hb) (by unfold amt; rw [if_pos (by dsimp only [qS1]; omega), if_pos (by dsimp only [qR1]; omega)]) hn ((sem6_eq hoS).trans (congrArg mkS (by dsimp only [qS1]; omega))) ((sem7_eq hoR).trans (congrArg mkS (by dsimp only [qR1]; omega)))
    (q := fullShare) (fs := C.kv c) (by unfold amt; rw [if_pos (by dsimp only [qR1]; omega)]; exact credit_kv _ _) ?_ ?_ ?_ (fun fd => ?_) hk
  · rw [set_bf hj hoff]; exact Entails.refl _
  · rw [set_kv hj hb hoff']; exact Entails.refl _
  · rw [set_bf hj hoff]; unfold dmaPay; rw [if_pos (by dsimp only [qS1]; omega), es, esj]
  · rw [set_kv hj hb hoff']; unfold dmaPay; rw [if_neg (by dsimp only [qR1]; omega), if_pos (by dsimp only [qR1]; omega), e38, ej]
    exact Entails.of_eq (land_kv C c (tgt c n) hj hb hoff hoff' (tgt c n) fd)

end Cert.KernelIdealProof
-- ==== Proof.KIdeal.Rules.lean ====
/-
The remaining sends and all the waits, each at this kernel's buffers, and the two conditional runs of sends.
-/
module

public import proofs.«01_k».proof.Proof.KIdeal.Sends

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

variable {c : Dev nD} {α β : Type} {Q : α → SP F} {R : SP F} {O : CellTallies nD τ sig Unit}

theorem set_ags : agsM.view.set = Finset.univ := View.set_whole _

/-! ## The sends of partial sums and of shares -/

def SRs (c : Dev nD) (d : ℕ) : sProp 𝕄 := pts c cc0_scratch2 (psReg (tgt c d)) fullShare (C.ps c)
def DRs (c : Dev nD) (d : ℕ) : sProp 𝕄 := iprop(∃ f, pts (tgt c d) cc0_scratch3 (rsReg c) fullShare f)
def SAg (c : Dev nD) (d : ℕ) : sProp 𝕄 := pts c cc0_scratch4 Finset.univ (shareTokN fullShare d) (C.ag c)
def DAg (c : Dev nD) (d : ℕ) : sProp 𝕄 := iprop(∃ f, pts (tgt c d) cc0_scratch5 (rsReg c) fullShare f)

theorem act_SR (c : Dev nD) {d : ℕ} (h1 : 1 ≤ d) (h16 : d < 16) : act c (qSR d) = true := by
  unfold act qSR
  rw [if_neg (by omega), if_neg (by omega), if_neg (by omega), if_pos (by omega), decide_eq_true (by omega)]
theorem act_RR (c : Dev nD) {s : ℕ} (hs : s < 16) (hsc : s ≠ c.val) : act c (qRR s) = true := by
  unfold act qRR
  rw [if_neg (by omega), if_neg (by omega), if_neg (by omega), if_neg (by omega), if_pos (by omega), decide_eq_true (by omega)]
theorem act_SA (c : Dev nD) {d : ℕ} (h1 : 1 ≤ d) (h16 : d < 16) : act c (qSA d) = true := by
  unfold act qSA
  rw [if_neg (by omega), if_neg (by omega), if_neg (by omega), if_neg (by omega), if_neg (by omega), if_pos (by omega), decide_eq_true (by omega)]
theorem act_RA (c : Dev nD) {s : ℕ} (hs : s < 16) (hsc : s ≠ c.val) : act c (qRA s) = true := by
  unfold act qRA
  rw [if_neg (by omega), if_neg (by omega), if_neg (by omega), if_neg (by omega), if_neg (by omega), if_neg (by omega), if_pos (by omega), decide_eq_true (by omega)]
theorem amt_hi {q : ℕ} (h : 70 ≤ q) : amt q = NRS := by unfold amt; rw [if_neg (by omega)]
theorem amt_lo {q : ℕ} (h : q < 70) : amt q = NKV := by unfold amt; rw [if_pos h]

theorem rs_send {n : ℕ} (h1 : 1 ≤ n) (h16 : n < 16)
    {fd : Dev nD → ℕ} {hl : fd c < nD} (hn : ∀ c, fd c = (c.val + n) % 16)
    {off off' : Fin 3 → ℕ} {inb inb' sq sq'} (hoff : off = ![(tgt c n).val / 8, (tgt c n).val % 8 * 16, 0]) (hoff' : off' = ![c.val, 0, 0])
    {oS oR : Fin 1 → ℕ} {iS iR sqS sqR} (hoS : oS 0 = n) (hoR : oR 0 = c.val)
    {hsc : (rsSl off' inb' sq').view.ref.isScScratch = false} {hsrc hdst}
    {hsem : DmaTarget.Typed .vmem (.dma (sem9 oR iR sqR)) (.remote (Dev.tc (⟨fd c, hl⟩ : Dev nD) : Thread nD τ) (rsSl off' inb' sq') (.dma (sem8 oS iS sqS)) hsc)}
    {k : PUnit → Prog (TpuEff nD τ sig (Elt F) Λ₀ .tc) α}
    (hk : iprop(Pers C ∗ R ∗ Ow c (O + sndDebt c (fun _ => qRR c.val) (n + 1)) ∗ SndI c qSR (fun _ => qRR c.val) (SRs C c) (DRs c) (n + 1))
      ⊢ WP c (k ⟨⟩) Q) :
    iprop(Pers C ∗ R ∗ Ow c (O + sndDebt c (fun _ => qRR c.val) n) ∗ SndI c qSR (fun _ => qRR c.val) (SRs C c) (DRs c) n)
      ⊢ WP c (.op (.enqueueDma (psSl off inb sq) (.remote (Dev.tc (⟨fd c, hl⟩ : Dev nD)) (rsSl off' inb' sq') (.dma (sem8 oS iS sqS)) hsc) (.dma (sem9 oR iR sqR)) hsrc hdst hsem) k) Q := by
  have hc := dev_lt c
  have e86 : (⟨(qRR c.val - 86) % 16, mod16_lt _⟩ : Dev nD) = c := Fin.ext (by dsimp only [qRR]; omega)
  have es : qSR n - 70 = n := by dsimp only [qSR]; omega
  refine snd_step C (qS := qSR) (qR := fun _ => qRR c.val) (S := SRs C c) (D := DRs c) h1 h16 (by dsimp only [qSR]; omega) (by dsimp only [qRR]; omega) (act_SR c h1 h16)
    (act_RR (s := c.val) _ hc (ne_tgt c h1 h16)) ((amt_hi (by dsimp only [qSR]; omega)).trans (amt_hi (by dsimp only [qRR]; omega)).symm) hn (sem8_eq hoS) (sem9_eq hoR)
    (q := fullShare) (fs := C.ps c) ((credit_rs _ _ _).trans (amt_hi (by dsimp only [qRR]; omega)).symm) ?_ ?_ ?_ (fun fd => ?_) hk
  · rw [set_ps hoff]; exact Entails.refl _
  · rw [set_rs hoff']; exact Entails.refl _
  · rw [set_ps hoff]; unfold dmaPay; rw [if_neg (by dsimp only [qSR]; omega), if_neg (by dsimp only [qSR]; omega), if_pos (by dsimp only [qSR]; omega), es]
  · rw [set_rs hoff']; unfold dmaPay
    rw [if_neg (by dsimp only [qRR]; omega), if_neg (by dsimp only [qRR]; omega), if_neg (by dsimp only [qRR]; omega), if_pos (by dsimp only [qRR]; omega), e86]
    exact Entails.of_eq (land_rs C c (tgt c n) hoff hoff' (tgt c n) fd)

theorem ag_send {n : ℕ} (h1 : 1 ≤ n) (h16 : n < 16)
    {fd : Dev nD → ℕ} {hl : fd c < nD} (hn : ∀ c, fd c = (c.val + n) % 16)
    {off' : Fin 3 → ℕ} {inb' sq'} (hoff' : off' = ![c.val, 0, 0])
    {oS oR : Fin 1 → ℕ} {iS iR sqS sqR} (hoS : oS 0 = n) (hoR : oR 0 = c.val)
    {hsc : (agSl off' inb' sq').view.ref.isScScratch = false} {hsrc hdst}
    {hsem : DmaTarget.Typed .vmem (.dma (sem11 oR iR sqR)) (.remote (Dev.tc (⟨fd c, hl⟩ : Dev nD) : Thread nD τ) (agSl off' inb' sq') (.dma (sem10 oS iS sqS)) hsc)}
    {k : PUnit → Prog (TpuEff nD τ sig (Elt F) Λ₀ .tc) α}
    (hk : iprop(Pers C ∗ R ∗ Ow c (O + sndDebt c (fun _ => qRA c.val) (n + 1)) ∗ SndI c qSA (fun _ => qRA c.val) (SAg C c) (DAg c) (n + 1))
      ⊢ WP c (k ⟨⟩) Q) :
    iprop(Pers C ∗ R ∗ Ow c (O + sndDebt c (fun _ => qRA c.val) n) ∗ SndI c qSA (fun _ => qRA c.val) (SAg C c) (DAg c) n)
      ⊢ WP c (.op (.enqueueDma agsM (.remote (Dev.tc (⟨fd c, hl⟩ : Dev nD)) (agSl off' inb' sq') (.dma (sem10 oS iS sqS)) hsc) (.dma (sem11 oR iR sqR)) hsrc hdst hsem) k) Q := by
  have hc := dev_lt c
  have e118 : (⟨(qRA c.val - 118) % 16, mod16_lt _⟩ : Dev nD) = c := Fin.ext (by dsimp only [qRA]; omega)
  have es : qSA n - 102 = n := by dsimp only [qSA]; omega
  refine snd_step C (qS := qSA) (qR := fun _ => qRA c.val) (S := SAg C c) (D := DAg c) h1 h16 (by dsimp only [qSA]; omega) (by dsimp only [qRA]; omega) (act_SA c h1 h16)
    (act_RA (s := c.val) _ hc (ne_tgt c h1 h16)) ((amt_hi (by dsimp only [qSA]; omega)).trans (amt_hi (by dsimp only [qRA]; omega)).symm) hn (sem10_eq hoS) (sem11_eq hoR)
    (q := shareTokN fullShare n) (fs := C.ag c) ((credit_ag _ _ _).trans (amt_hi (by dsimp only [qRA]; omega)).symm) ?_ ?_ ?_ (fun fd => ?_) hk
  · rw [set_ags]; exact Entails.refl _
  · rw [set_ag hoff']; exact Entails.refl _
  · rw [set_ags]; unfold dmaPay
    rw [if_neg (by dsimp only [qSA]; omega), if_neg (by dsimp only [qSA]; omega), if_neg (by dsimp only [qSA]; omega), if_neg (by dsimp only [qSA]; omega), if_pos (by dsimp only [qSA]; omega), es]
  · rw [set_ag hoff']; unfold dmaPay
    rw [if_neg (by dsimp only [qRA]; omega), if_neg (by dsimp only [qRA]; omega), if_neg (by dsimp only [qRA]; omega), if_neg (by dsimp only [qRA]; omega), if_neg (by dsimp only [qRA]; omega), e118]
    exact Entails.of_eq (land_ag C c hoff' (tgt c n) fd)

/-! ## The waits -/

/-- The blocks received, in the order they are waited for: two from each device, the nearest before first. -/
def qRe (c : Dev nD) (e : ℕ) : ℕ := qR1 (src c (e / 2)).val (e % 2)
/-- The sends' own semaphores in the order they are waited for at the end. -/
def qSe (e : ℕ) : ℕ := if e % 2 = 0 then qSR (e / 2) else qSA (e / 2)

theorem recv_dite {n : ℕ} (ha : 2 ≤ n) (hb : n < 32) {cd : Dev nD → BitVec 1} (hc : ∀ c, (cd c = 1#1) ↔ act c (qRe c n) = true)
    (hO : ∀ g u, 0 < O g u → g.1.2 = .tc ∧ 2 < lvl g.2)
    {oR : Fin 1 → ℕ} {iR : cd c = 1#1 → _} {sqR} (hoR : oR 0 = 2 * (src c (n / 2)).val + n % 2)
    {srcM : cd c = 1#1 → Memref sig .tc .vmem S2x2x64x256 .bf16} {off : Fin 4 → ℕ} {inb : cd c = 1#1 → _}
    {hsrc : ∀ h, (srcM h).view.WordExact} {hdst : ∀ h, (kvSl off (inb h)).view.WordExact}
    {k : PUnit → Prog (TpuEff nD τ sig (Elt F) Λ₀ .tc) α}
    (hk : iprop(Pers C ∗ R ∗ Ow c O ∗ WtI C c (qRe c) 2 32 (n + 1)) ⊢ WP c (k ⟨⟩) Q) :
    iprop(Pers C ∗ R ∗ Ow c O ∗ WtI C c (qRe c) 2 32 n)
      ⊢ WP c (dite (cd c = 1#1) (fun h => .op (.waitDma2 (sem7 oR (iR h) sqR) (srcM h) (kvSl off (inb h)) (hsrc h) (hdst h)) (fun r => k r)) (fun _ => k ⟨⟩)) Q := by
  have hs := dev_lt (src c (n / 2))
  refine dite_step (fun h => ?_) fun h => ?_
  · refine wt_step C ha hb (by unfold qRe qR1; omega) ((hc c).mp h) ((sem7_eq hoR).trans (congrArg mkS (by unfold qRe qR1; omega)))
      ((credit_kv _ _).trans (amt_lo (by unfold qRe qR1; omega)).symm) (fun g u hg => ?_) hk
    have hl : lvl (.dma (mkS (qRe c n))) = 2 := by
      unfold lvl; dsimp only; rw [mkS_val (by unfold qRe qR1; omega), if_neg (by unfold qRe qR1; omega), if_pos (by unfold qRe qR1; omega)]
    rw [hl]; exact hO g u hg
  · refine BIBase.Entails.trans ?_ hk
    have hact : act c (qRe c n) = false := by
      cases hx : act c (qRe c n) with
      | false => rfl
      | true => exact absurd ((hc c).mpr hx) h
    iintro ⟨HP, HR, HO, HW⟩
    ihave HW' := (wt_skip C ha hb hact) $$ HW
    isplitl [HP]; · iexact HP
    isplitl [HR]; · iexact HR
    isplitl [HO]; · iexact HO
    iexact HW'

theorem rr_wait {n : ℕ} (h1 : 1 ≤ n) (h16 : n < 16) (hO : ∀ g u, 0 < O g u → g.1.2 = .tc ∧ 3 < lvl g.2)
    {oR : Fin 1 → ℕ} {iR sqR} (hoR : oR 0 = (src c n).val)
    {srcM : Memref sig .tc .vmem S16x512 .bf16} {off : Fin 3 → ℕ} {inb sq} {hsrc hdst}
    {k : PUnit → Prog (TpuEff nD τ sig (Elt F) Λ₀ .tc) α}
    (hk : iprop(Pers C ∗ R ∗ Ow c O ∗ WtI C c (fun d => qRR (src c d).val) 1 16 (n + 1)) ⊢ WP c (k ⟨⟩) Q) :
    iprop(Pers C ∗ R ∗ Ow c O ∗ WtI C c (fun d => qRR (src c d).val) 1 16 n)
      ⊢ WP c (.op (.waitDma2 (sem9 oR iR sqR) srcM (rsSl off inb sq) hsrc hdst) k) Q := by
  have hs := dev_lt (src c n)
  refine wt_step C (q := fun d => qRR (src c d).val) h1 h16 (by dsimp only [qRR]; omega) (act_RR (s := (src c n).val) c hs (fun h => src_ne c h1 h16 (Fin.ext h))) (sem9_eq hoR)
    ((credit_rs _ _ _).trans (amt_hi (by dsimp only [qRR]; omega)).symm) (fun g u hg => ?_) hk
  have hl : lvl (.dma (mkS (qRR (src c n).val))) = 3 := by
    unfold lvl qRR; dsimp only
    rw [mkS_val (by omega), if_neg (by omega), if_neg (by omega), if_neg (by omega), if_pos (by omega)]
  rw [hl]; exact hO g u hg

theorem ra_wait {n : ℕ} (h1 : 1 ≤ n) (h16 : n < 16)
    {oR : Fin 1 → ℕ} {iR sqR} (hoR : oR 0 = (src c n).val)
    {srcM : Memref sig .tc .vmem S16x512 .bf16} {off : Fin 3 → ℕ} {inb sq} {hsrc hdst}
    {k : PUnit → Prog (TpuEff nD τ sig (Elt F) Λ₀ .tc) α}
    (hk : iprop(Pers C ∗ R ∗ Ow c 0 ∗ WtI C c (fun d => qRA (src c d).val) 1 16 (n + 1)) ⊢ WP c (k ⟨⟩) Q) :
    iprop(Pers C ∗ R ∗ Ow c 0 ∗ WtI C c (fun d => qRA (src c d).val) 1 16 n)
      ⊢ WP c (.op (.waitDma2 (sem11 oR iR sqR) srcM (agSl off inb sq) hsrc hdst) k) Q := by
  have hs := dev_lt (src c n)
  exact wt_step C (q := fun d => qRA (src c d).val) h1 h16 (by dsimp only [qRA]; omega) (act_RA (s := (src c n).val) c hs (fun h => src_ne c h1 h16 (Fin.ext h))) (sem11_eq hoR)
    ((credit_ag _ _ _).trans (amt_hi (by dsimp only [qRA]; omega)).symm) (fun g u hg => absurd hg (Nat.lt_irrefl 0)) hk

/-- The wait for a send of partial sums, then for a send of shares. -/
theorem sr_wait {n : ℕ} (h1 : 1 ≤ n) (h16 : n < 16)
    {oR : Fin 1 → ℕ} {iR sqR} (hoR : oR 0 = n)
    {srcM : Memref sig .tc .vmem S16x512 .bf16} {off : Fin 3 → ℕ} {inb sq} {hsrc hdst}
    {k : PUnit → Prog (TpuEff nD τ sig (Elt F) Λ₀ .tc) α}
    (hk : iprop(Pers C ∗ R ∗ Ow c 0 ∗ WtI C c qSe 2 32 (2 * n + 1)) ⊢ WP c (k ⟨⟩) Q) :
    iprop(Pers C ∗ R ∗ Ow c 0 ∗ WtI C c qSe 2 32 (2 * n))
      ⊢ WP c (.op (.waitDma2 (sem8 oR iR sqR) srcM (psSl off inb sq) hsrc hdst) k) Q := by
  have e : qSe (2 * n) = qSR n := by unfold qSe; rw [if_pos (by omega)]; congr 1; omega
  refine wt_step C (by omega) (by omega) (by rw [e]; dsimp only [qSR]; omega) (by rw [e]; exact act_SR c h1 h16) ((sem8_eq hoR).trans (congrArg mkS e.symm))
    ?_ (fun g u hg => absurd hg (Nat.lt_irrefl 0)) hk
  rw [e]; exact (credit_ps _ _ _).trans (amt_hi (by dsimp only [qSR]; omega)).symm
theorem sa_wait {n : ℕ} (h1 : 1 ≤ n) (h16 : n < 16)
    {oR : Fin 1 → ℕ} {iR sqR} (hoR : oR 0 = n)
    {srcM : Memref sig .tc .vmem S16x512 .bf16} {hsrc hdst}
    {k : PUnit → Prog (TpuEff nD τ sig (Elt F) Λ₀ .tc) α}
    (hk : iprop(Pers C ∗ R ∗ Ow c 0 ∗ WtI C c qSe 2 32 (2 * (n + 1))) ⊢ WP c (k ⟨⟩) Q) :
    iprop(Pers C ∗ R ∗ Ow c 0 ∗ WtI C c qSe 2 32 (2 * n + 1))
      ⊢ WP c (.op (.waitDma2 (sem10 oR iR sqR) srcM agsM hsrc hdst) k) Q := by
  have e : qSe (2 * n + 1) = qSA n := by unfold qSe; rw [if_neg (by omega)]; congr 1; omega
  refine wt_step C (by omega) (by omega) (by rw [e]; dsimp only [qSA]; omega) (by rw [e]; exact act_SA c h1 h16) ((sem10_eq hoR).trans (congrArg mkS e.symm))
    ?_ (fun g u hg => absurd hg (Nat.lt_irrefl 0)) hk
  rw [e]; exact (show agsM.view.dmaCredit = NRS from rfl).trans (amt_hi (by dsimp only [qSA]; omega)).symm

/-- The wait for a send of keys and values. -/
theorem s1_wait {j : ℕ} (hj : j < 2) (hb : needB (2 * c.val + j) = true) {n : ℕ} (h1 : 1 ≤ n) (h16 : n < 16)
    {oR : Fin 1 → ℕ} {iR sqR} (hoR : oR 0 = 2 * n + j)
    {srcM : Memref sig .tc .vmem S2x2x64x256 .bf16} {off : Fin 4 → ℕ} {inb hsrc hdst}
    {k : PUnit → Prog (TpuEff nD τ sig (Elt F) Λ₀ .tc) α}
    (hk : iprop(Pers C ∗ R ∗ Ow c 0 ∗ WtI C c (fun d => qS1 d j) 1 16 (n + 1)) ⊢ WP c (k ⟨⟩) Q) :
    iprop(Pers C ∗ R ∗ Ow c 0 ∗ WtI C c (fun d => qS1 d j) 1 16 n)
      ⊢ WP c (.op (.waitDma2 (sem6 oR iR sqR) srcM (bfSl off inb) hsrc hdst) k) Q :=
  wt_step C h1 h16 (by dsimp only [qS1]; omega) ((act_S1 c h1 h16 hj).trans hb) ((sem6_eq hoR).trans (congrArg mkS (by dsimp only [qS1]; omega)))
    ((credit_bf _ _).trans (amt_lo (by dsimp only [qS1]; omega)).symm) (fun g u hg => absurd hg (Nat.lt_irrefl 0)) hk

end Cert.KernelIdealProof
-- ==== Proof.KIdeal.Vals.lean ====
/-
The values that pass through the body: what each store leaves and what the exchanges carry.
-/
module

public import proofs.«01_k».proof.Proof.KIdeal.Rules

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

variable {c : Dev nD} {α β : Type} {Q : α → SP F} {R : SP F} {O : CellTallies nD τ sig Unit}

/-- The five operands, device by device. -/
structure Ins (F : FTy → Type) where
  x0 : Dev nD → (S2x128x512.Idx → Elt F .bf16)
  x1 : Dev nD → (S512x256.Idx → Elt F .bf16)
  x2 : Dev nD → (S2x128x64x64.Idx → Elt F .bf16)
  x3 : Dev nD → (S2x128x64x64.Idx → Elt F .bf16)
  x4 : Dev nD → (S256x512.Idx → Elt F .bf16)

/-! ## Buffers stored in two halves -/

/-- Two halves one above the other. -/
def fill4 {V : Type} (w0 w1 : S1x2x128x4096.Idx → V) : S2x2x128x4096.Idx → V := fun i =>
  (if (i 0).val = 0 then w0 else w1) (fun | 0 => ⟨0, by decide⟩ | 1 => i 1 | 2 => i 2 | 3 => i 3)
def fill3 {V : Type} (w0 w1 : S1x128x512.Idx → V) : S2x128x512.Idx → V := fun i =>
  (if (i 0).val = 0 then w0 else w1) (fun | 0 => ⟨0, by decide⟩ | 1 => i 1 | 2 => i 2)

theorem fill4_of {V : Type} {w0 w1 : S1x2x128x4096.Idx → V} {i0 i1} {f0 f1 f : S2x2x128x4096.Idx → V}
    (a0 : ∀ x, f0 ((Rect.unit (s := S2x2x128x4096) ![0, 0, 0, 0] S1x2x128x4096.size i0).emb x) = w0 x)
    (a1 : ∀ x, f1 ((Rect.unit (s := S2x2x128x4096) ![1, 0, 0, 0] S1x2x128x4096.size i1).emb x) = w1 x)
    (b1 : ∀ i, i ∉ (Rect.unit (s := S2x2x128x4096) ![1, 0, 0, 0] S1x2x128x4096.size i1).set → f1 i = f0 i) : f1 = fill4 w0 w1 := by
  funext i
  have hi : (i 0).val < 2 := (i 0).isLt
  unfold fill4
  by_cases h : (i 0).val = 0
  · rw [if_pos h, b1 i (fun hm => by have := (Rect.mem_set_unit.mp hm 0).1; simp at this; omega), ← a0]
    congr 1; funext a; apply Fin.ext; fin_cases a
    · exact h.trans rfl
    all_goals exact (fun n => by omega : ∀ n : ℕ, n = 0 + 1 * n) _
  · rw [if_neg h, ← a1]
    congr 1; funext a; apply Fin.ext; fin_cases a
    · exact (by omega : (i 0).val = 1 + 1 * 0)
    all_goals exact (fun n => by omega : ∀ n : ℕ, n = 0 + 1 * n) _
theorem fill3_of {V : Type} {w0 w1 : S1x128x512.Idx → V} {i0 i1} {f0 f1 f : S2x128x512.Idx → V}
    (a0 : ∀ x, f0 ((Rect.unit (s := S2x128x512) ![0, 0, 0] S1x128x512.size i0).emb x) = w0 x)
    (a1 : ∀ x, f1 ((Rect.unit (s := S2x128x512) ![1, 0, 0] S1x128x512.size i1).emb x) = w1 x)
    (b1 : ∀ i, i ∉ (Rect.unit (s := S2x128x512) ![1, 0, 0] S1x128x512.size i1).set → f1 i = f0 i) : f1 = fill3 w0 w1 := by
  funext i
  have hi : (i 0).val < 2 := (i 0).isLt
  unfold fill3
  by_cases h : (i 0).val = 0
  · rw [if_pos h, b1 i (fun hm => by have := (Rect.mem_set_unit.mp hm 0).1; simp at this; omega), ← a0]
    congr 1; funext a; apply Fin.ext; fin_cases a
    · exact h.trans rfl
    all_goals exact (fun n => by omega : ∀ n : ℕ, n = 0 + 1 * n) _
  · rw [if_neg h, ← a1]
    congr 1; funext a; apply Fin.ext; fin_cases a
    · exact (by omega : (i 0).val = 1 + 1 * 0)
    all_goals exact (fun n => by omega : ∀ n : ℕ, n = 0 + 1 * n) _

omit [FloatOps F] [Named F] in
theorem fill4_kv (f : S2x2x128x4096.Idx → Elt F .bf16) (w0 w1 : S1x2x128x4096.Idx → Elt F .bf16) (i0 i1) :
    (kvbfM.access (Rect.unit (s := S2x2x128x4096) ![1, 0, 0, 0] S1x2x128x4096.size i1)).write (Elt F)
      ((kvbfM.access (Rect.unit (s := S2x2x128x4096) ![0, 0, 0, 0] S1x2x128x4096.size i0)).write (Elt F) f w0 Finset.univ) w1 Finset.univ = fill4 w0 w1 :=
  fill4_of (i0 := i0) (i1 := i1) (f := f) (f0 := (kvbfM.access (Rect.unit (s := S2x2x128x4096) ![0, 0, 0, 0] S1x2x128x4096.size i0)).write (Elt F) f w0 Finset.univ)
    (fun x => View.write_emb_of_mem _ _ (Finset.mem_univ x)) (fun x => View.write_emb_of_mem _ _ (Finset.mem_univ x))
    (fun i h => View.write_of_not_mem _ _ _ (fun hm => h ((congrArg (i ∈ ·) (View.set_slice_whole cc0_scratch0 (Rect.unit (s := S2x2x128x4096) ![1, 0, 0, 0] S1x2x128x4096.size i1))).mp hm)))
omit [FloatOps F] [Named F] in
theorem fill3_ps (f : S2x128x512.Idx → Elt F .bf16) (w0 w1 : S1x128x512.Idx → Elt F .bf16) (i0 i1) :
    (psM.access (Rect.unit (s := S2x128x512) ![1, 0, 0] S1x128x512.size i1)).write (Elt F)
      ((psM.access (Rect.unit (s := S2x128x512) ![0, 0, 0] S1x128x512.size i0)).write (Elt F) f w0 Finset.univ) w1 Finset.univ = fill3 w0 w1 :=
  fill3_of (i0 := i0) (i1 := i1) (f := f) (f0 := (psM.access (Rect.unit (s := S2x128x512) ![0, 0, 0] S1x128x512.size i0)).write (Elt F) f w0 Finset.univ)
    (fun x => View.write_emb_of_mem _ _ (Finset.mem_univ x)) (fun x => View.write_emb_of_mem _ _ (Finset.mem_univ x))
    (fun i h => View.write_of_not_mem _ _ _ (fun hm => h ((congrArg (i ∈ ·) (View.set_slice_whole cc0_scratch2 (Rect.unit (s := S2x128x512) ![1, 0, 0] S1x128x512.size i1))).mp hm)))
abbrev outM : Memref sig .tc .vmem S2x128x512 .f32 := Memref.whole cc0_stg5_0
omit [FloatOps F] [Named F] in
theorem fill3_out (f : S2x128x512.Idx → Elt F .f32) (w0 w1 : S1x128x512.Idx → Elt F .f32) (i0 i1) :
    (outM.access (Rect.unit (s := S2x128x512) ![1, 0, 0] S1x128x512.size i1)).write (Elt F)
      ((outM.access (Rect.unit (s := S2x128x512) ![0, 0, 0] S1x128x512.size i0)).write (Elt F) f w0 Finset.univ) w1 Finset.univ = fill3 w0 w1 :=
  fill3_of (i0 := i0) (i1 := i1) (f := f) (f0 := (outM.access (Rect.unit (s := S2x128x512) ![0, 0, 0] S1x128x512.size i0)).write (Elt F) f w0 Finset.univ)
    (fun x => View.write_emb_of_mem _ _ (Finset.mem_univ x)) (fun x => View.write_emb_of_mem _ _ (Finset.mem_univ x))
    (fun i h => View.write_of_not_mem _ _ _ (fun hm => h ((congrArg (i ∈ ·) (View.set_slice_whole cc0_stg5_0 (Rect.unit (s := S2x128x512) ![1, 0, 0] S1x128x512.size i1))).mp hm)))

/-! ## The chain of values through the body -/

/-- What a load of one row block reads. -/
def rdX (f : S2x128x512.Idx → Elt F .bf16) (b : ℕ) (i : ∀ a, (![b, 0, 0] : Fin 3 → ℕ) a + S1x128x512.size a ≤ S2x128x512.size a) : S1x128x512.Idx → Elt F .bf16 :=
  (Memref.whole cc0_stg0_0).view.readAt (Elt F) (Rect.unit (s := S2x128x512) ![b, 0, 0] S1x128x512.size i).toLoadRect f
/-- What a load of one head's keys or values reads off the gathered buffer. -/
def rdG (G : S2x2x1408x256.Idx → Elt F .bf16) (a b o : ℕ) (i : ∀ x, (![a, b, 0, o] : Fin 4 → ℕ) x + S1x1x1408x64.size x ≤ S2x2x1408x256.size x) :
    S1x1x1408x64.Idx → Elt F .bf16 :=
  kvM.view.readAt (Elt F) (Rect.unit (s := S2x2x1408x256) ![a, b, 0, o] S1x1x1408x64.size i).toLoadRect G

/-- The two row blocks' queries. -/
def q0V (x0 : S2x128x512.Idx → Elt F .bf16) (x1 : S512x256.Idx → Elt F .bf16) : FVec F S128x256 .f32 := k0_pay4 x1 (rdX x0 0 inb_S2x128x512_S1x128x512_0_0_0)
def q1V (x0 : S2x128x512.Idx → Elt F .bf16) (x1 : S512x256.Idx → Elt F .bf16) : FVec F S128x256 .f32 := k0_pay5 x1 (rdX x0 1 inb_S2x128x512_S1x128x512_1_0_0)
/-- The mask, added to the scores. -/
def maskV : FVec F S128x1408 .f32 :=
  k0_pay14 k0_pay6 (k0_pay9 k0_pay7 k0_pay8) (k0_pay10 k0_pay7 k0_pay8) (k0_pay11 k0_pay7 k0_pay8) (Scalar.select (Scalar.cmpi .eq 2#32 0#32) 1#32 2#32) (k0_pay12 k0_pay7 k0_pay8) (k0_pay13 k0_pay7 k0_pay8)

/-- The first row block's partial product. -/
def topV (q0 : FVec F S128x256 .f32) (m : FVec F S128x1408 .f32) (x4 : S256x512.Idx → Elt F .bf16) (G : S2x2x1408x256.Idx → Elt F .bf16) : FVec F S128x512 .f32 :=
  k0_pay22 (k0_pay15 x4) (k0_pay16 q0 m (rdG G 0 0 0 inb_S2x2x1408x256_S1x1x1408x64_0_0_0_0) (rdG G 1 0 0 inb_S2x2x1408x256_S1x1x1408x64_1_0_0_0))
    (k0_pay18 (k0_pay17 q0 m (rdG G 0 0 64 inb_S2x2x1408x256_S1x1x1408x64_0_0_0_64)) (rdG G 1 0 64 inb_S2x2x1408x256_S1x1x1408x64_1_0_0_64))
    (k0_pay19 q0 m (rdG G 0 0 128 inb_S2x2x1408x256_S1x1x1408x64_0_0_0_128) (rdG G 1 0 128 inb_S2x2x1408x256_S1x1x1408x64_1_0_0_128))
    (k0_pay20 q0 m (rdG G 0 0 192 inb_S2x2x1408x256_S1x1x1408x64_0_0_0_192)) (k0_pay21 q0 m (rdG G 0 0 192 inb_S2x2x1408x256_S1x1x1408x64_0_0_0_192))
    (rdG G 1 0 192 inb_S2x2x1408x256_S1x1x1408x64_1_0_0_192)
/-- The second row block's partial product. -/
def botV (q1 : FVec F S128x256 .f32) (m : FVec F S128x1408 .f32) (x4 : S256x512.Idx → Elt F .bf16) (G : S2x2x1408x256.Idx → Elt F .bf16) : FVec F S128x512 .f32 :=
  k0_pay28 q1 m (k0_pay15 x4) (k0_pay23 q1 m (rdG G 0 1 0 inb_S2x2x1408x256_S1x1x1408x64_0_1_0_0) (rdG G 1 1 0 inb_S2x2x1408x256_S1x1x1408x64_1_1_0_0))
    (k0_pay25 q1 m (rdG G 0 1 64 inb_S2x2x1408x256_S1x1x1408x64_0_1_0_64)) (k0_pay26 (rdG G 1 1 64 inb_S2x2x1408x256_S1x1x1408x64_1_1_0_64))
    (k0_pay27 q1 m (rdG G 0 1 64 inb_S2x2x1408x256_S1x1x1408x64_0_1_0_64)) (constant S128x64 .f32 0x00000000#32)
    (rdG G 0 1 128 inb_S2x2x1408x256_S1x1x1408x64_0_1_0_128) (rdG G 1 1 128 inb_S2x2x1408x256_S1x1x1408x64_1_1_0_128)
    (rdG G 0 1 192 inb_S2x2x1408x256_S1x1x1408x64_0_1_0_192) (rdG G 1 1 192 inb_S2x2x1408x256_S1x1x1408x64_1_1_0_192)

/-- The contents of the exchanges are the ones this kernel computes from its operands. -/
structure Good (I : Ins F) : Prop where
  kv : ∀ c, C.kv c = fill4 (k0_pay1 (I.x2 c)) (k0_pay2 (I.x3 c))
  ps : ∀ c, C.ps c = fill3 (k0_pay30 (k0_pay29 (topV (q0V (I.x0 c) (I.x1 c)) maskV (I.x4 c) (Gkv C c))))
    (k0_pay31 (botV (q1V (I.x0 c) (I.x1 c)) maskV (I.x4 c) (Gkv C c)))
  ag : ∀ c, C.ag c = k0_pay32 (Grs C c)
/-- The result left on every device. -/
def outV : S2x128x512.Idx → Elt F .f32 := fill3 (k0_pay34 (Gag C)) (k0_pay35 (Gag C))

/-- Those contents exist, computed exchange by exchange. -/
def contOf (I : Ins F) : Cont F :=
  let kv : Dev nD → (S2x2x128x4096.Idx → Elt F .bf16) := fun c => fill4 (k0_pay1 (I.x2 c)) (k0_pay2 (I.x3 c))
  let z : Elt F .bf16 := kv 0 (fun a => ⟨0, by fin_cases a <;> decide⟩)
  let ps : Dev nD → (S2x128x512.Idx → Elt F .bf16) := fun c =>
    fill3 (k0_pay30 (k0_pay29 (topV (q0V (I.x0 c) (I.x1 c)) maskV (I.x4 c) (Gkv ⟨kv, fun _ _ => z, fun _ _ => z⟩ c))))
      (k0_pay31 (botV (q1V (I.x0 c) (I.x1 c)) maskV (I.x4 c) (Gkv ⟨kv, fun _ _ => z, fun _ _ => z⟩ c)))
  ⟨kv, ps, fun c => k0_pay32 (Grs ⟨kv, ps, fun _ _ => z⟩ c)⟩
theorem good_contOf (I : Ins F) : Good (contOf I) I := ⟨fun _ => rfl, fun _ => rfl, fun _ => rfl⟩

end Cert.KernelIdealProof
-- ==== Proof.KIdeal.Parts1.lean ====
/-
The two conditional runs of sends of keys and values.
-/
module

public import proofs.«01_k».proof.Proof.KIdeal.Rules

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

variable {c : Dev nD} {α β : Type} {Q : α → SP F} {R : SP F} {O : CellTallies nD τ sig Unit}

/-- A fact about the distances 1 to 15, from all of them at once. -/
theorem all15 {P : ℕ → Prop} (h : ∀ r : Fin 15, P (1 + r.val)) {n : ℕ} (h1 : 1 ≤ n) (h16 : n < 16) : P n := by
  have := h ⟨n - 1, by omega⟩
  rwa [show 1 + (⟨n - 1, by omega⟩ : Fin 15).val = n by simp only []; omega] at this

theorem off7_eq (c : Dev nD) (n : ℕ) (h1 : 1 ≤ n) (h16 : n < 16) : k0_off7 c (BitVec.ofNat 32 n) = ![0, 0, 64 * 0, 256 * (tgt c n).val] :=
  all15 (P := fun n => k0_off7 c (BitVec.ofNat 32 n) = ![0, 0, 64 * 0, 256 * (tgt c n).val])
    ((by decide +kernel : ∀ c : Dev nD, ∀ r : Fin 15, k0_off7 c (BitVec.ofNat 32 (1 + r.val)) = ![0, 0, 64 * 0, 256 * (tgt c (1 + r.val)).val]) c) h1 h16
theorem off6_eq : ∀ c : Dev nD, needB (2 * c.val + 0) = true → k0_off6 c = ![0, 0, 64 * slot (2 * c.val + 0), 0] := by decide +kernel
theorem off5_eq : ∀ c : Dev nD, k0_off5 c 0 = 2 * c.val + 0 := by decide +kernel
theorem off10_eq (c : Dev nD) (n : ℕ) (h1 : 1 ≤ n) (h16 : n < 16) : k0_off10 c (BitVec.ofNat 32 n) = ![0, 0, 64 * 1, 256 * (tgt c n).val] :=
  all15 (P := fun n => k0_off10 c (BitVec.ofNat 32 n) = ![0, 0, 64 * 1, 256 * (tgt c n).val])
    ((by decide +kernel : ∀ c : Dev nD, ∀ r : Fin 15, k0_off10 c (BitVec.ofNat 32 (1 + r.val)) = ![0, 0, 64 * 1, 256 * (tgt c (1 + r.val)).val]) c) h1 h16
theorem off9_eq : ∀ c : Dev nD, needB (2 * c.val + 1) = true → k0_off9 c = ![0, 0, 64 * slot (2 * c.val + 1), 0] := by decide +kernel
theorem off8_eq : ∀ c : Dev nD, k0_off8 c 0 = 2 * c.val + 1 := by decide +kernel

/-- The standing in the run of sends of block `j`, the `n`-th next. -/
abbrev KvAt (c : Dev nD) (R : SP F) (O : CellTallies nD τ sig Unit) (j n : ℕ) : SP F :=
  iprop(Pers C ∗ R ∗ Ow c (O + sndDebt c (fun _ => qR1 c.val j) n) ∗ SndI c (fun d => qS1 d j) (fun _ => qR1 c.val j) (SKv C c j) (DKv c j) n)

theorem part19_ok (hb : needB (2 * c.val + 0) = true) {v2 w h3} {Φ : PUnit → SP F} (hΦ : ∀ a, KvAt C c R O 0 15 ⊢ Φ a) :
    KvAt C c R O 0 1 ⊢ WP c (At (k0_part19 (F := F)) c v2 w h3) Φ := by
  unfold KvAt at hΦ ⊢
  simp only [At, k0_part19_eq_skeleton]; unfold k0_part19_skel
  iterate 18
    apply cut
    case h1 =>
      intro Φ hΦ
      simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel,
        Prog.lift, Prog.bind_op, Prog.bind_ret, Prog.pure_eq_ret]
      first
        | with_reducible exact ret_step (hΦ _)
        | refine kv_send C (by decide) hb (by decide) (by decide) (by decide +kernel) (off7_eq c _ (by decide) (by decide)) (off6_eq c hb)
            rfl (off5_eq c) ?_
          exact ret_step (hΦ _)
    intro a
    repeat (cases ‹PSigma _›)
  exact ret_step (hΦ _)

theorem part38_ok (hb : needB (2 * c.val + 1) = true) {v2 w h4} {Φ : PUnit → SP F} (hΦ : ∀ a, KvAt C c R O 1 15 ⊢ Φ a) :
    KvAt C c R O 1 1 ⊢ WP c (At (k0_part38 (F := F)) c v2 w h4) Φ := by
  unfold KvAt at hΦ ⊢
  simp only [At, k0_part38_eq_skeleton]; unfold k0_part38_skel
  iterate 18
    apply cut
    case h1 =>
      intro Φ hΦ
      simp only [k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel,
        Prog.lift, Prog.bind_op, Prog.bind_ret, Prog.pure_eq_ret]
      first
        | with_reducible exact ret_step (hΦ _)
        | refine kv_send C (by decide) hb (by decide) (by decide) (by decide +kernel) (off10_eq c _ (by decide) (by decide)) (off9_eq c hb)
            rfl (off8_eq c) ?_
          exact ret_step (hΦ _)
    intro a
    repeat (cases ‹PSigma _›)
  exact ret_step (hΦ _)

end Cert.KernelIdealProof
-- ==== Proof.KIdeal.Parts2.lean ====
/-
The body up to the first exchange: the signals, the own keys and values, the barrier, the sends and the queries.
-/
module

public import proofs.«01_k».proof.Proof.KIdeal.Vals
public import proofs.«01_k».proof.Proof.KIdeal.Parts1

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

variable {c : Dev nD} {α β : Type} {Q : α → SP F} {R : SP F} {O : CellTallies nD τ sig Unit}

/-- A part of the body whose value is known of, then the rest. -/
theorem cutP {A B : SP F} {p : Prog (TpuEff nD τ sig (Elt F) Λ₀ .tc) β} {K : β → Prog (TpuEff nD τ sig (Elt F) Λ₀ .tc) α} (P : β → Prop)
    (h1 : ∀ Φ : β → SP F, (∀ a, P a → B ⊢ Φ a) → A ⊢ WP c p Φ) (h2 : ∀ a, P a → B ⊢ WP c (K a) Q) : A ⊢ WP c (p >>= K) Q := by
  have h : A ⊢ WP c p (fun a => iprop(⌜P a⌝ ∗ B)) := by
    refine h1 _ fun a ha => ?_
    iintro H
    isplitr; · ipureintro; exact ha
    iexact H
  unfold WP at h ⊢; rw [wp_bind]
  refine h1 _ h2

/-! ## What is owed, and its levels -/

def kvDebt (c : Dev nD) (j : ℕ) : CellTallies nD τ sig Unit := if needB (2 * c.val + j) then sndDebt c (fun _ => qR1 c.val j) 1 else 0
def oA (c : Dev nD) : CellTallies nD τ sig Unit := 0 + sndDebt c (fun _ => qRA c.val) 1
def oR (c : Dev nD) : CellTallies nD τ sig Unit := oA c + sndDebt c (fun _ => qRR c.val) 1
def oK (c : Dev nD) : CellTallies nD τ sig Unit := oR c + kvDebt c 1
def oB (c : Dev nD) : CellTallies nD τ sig Unit := oK c + kvDebt c 0

theorem pos_add {a b : ℕ} (h : 0 < a + b) : 0 < a ∨ 0 < b := by omega
theorem snd_pos {qR : ℕ → ℕ} {n : ℕ} {g : GSem nD τ sig} {u : Unit} (h : 0 < sndDebt c qR n g u) : ∃ d, g = cell (tgt c d) (qR d) := by
  unfold sndDebt at h
  revert h
  refine Finset.sum_induction _ (fun x : CellTallies nD τ sig Unit => 0 < x g u → ∃ d, g = cell (tgt c d) (qR d)) (fun x y hx hy h => ?_) (fun h => absurd h (Nat.lt_irrefl 0)) fun d _ h => ⟨d, ?_⟩
  · have h' : 0 < x g u ∨ 0 < y g u := by have h2 : 0 < x g u + y g u := h; omega
    exact h'.elim hx hy
  · rw [tallyAt_apply] at h
    by_contra hne
    rw [if_neg (fun e => hne e.1)] at h
    exact absurd h (Nat.lt_irrefl 0)
theorem lvl_of {q a : ℕ} (hq : q < 134) (h : a = if q < 38 then 0 else if q < 70 then 2 else if q < 86 then 0 else if q < 102 then 3 else if q < 118 then 0 else 4) :
    lvl (.dma (mkS q)) = a := by
  unfold lvl; dsimp only; rw [mkS_val (by omega), h, if_pos hq]
theorem lv_A : ∀ g u, 0 < oA c g u → g.1.2 = .tc ∧ 3 < lvl g.2 := by
  intro g u h
  have h' : 0 < sndDebt c (fun _ => qRA c.val) 1 g u := by unfold oA at h; rwa [zero_add] at h
  obtain ⟨d, rfl⟩ := snd_pos h'
  have hc := dev_lt c
  refine ⟨rfl, ?_⟩
  rw [lvl_of (a := 4) (by dsimp only [qRA]; omega) (by simp only [qRA]; split_ifs <;> omega)]; decide
theorem lv_R : ∀ g u, 0 < oR c g u → g.1.2 = .tc ∧ 2 < lvl g.2 := by
  intro g u h
  rcases pos_add (show 0 < oA c g u + sndDebt c (fun _ => qRR c.val) 1 g u from h) with h | h
  · exact ⟨(lv_A g u h).1, lt_trans (by decide) (lv_A g u h).2⟩
  obtain ⟨d, rfl⟩ := snd_pos h
  have hc := dev_lt c
  refine ⟨rfl, ?_⟩
  rw [lvl_of (a := 3) (by dsimp only [qRR]; omega) (by simp only [qRR]; split_ifs <;> omega)]; decide
theorem lv_kv {j : ℕ} (hj : j < 2) : ∀ g u, 0 < kvDebt c j g u → g.1.2 = .tc ∧ 1 < lvl g.2 := by
  intro g u h
  unfold kvDebt at h
  split at h
  · obtain ⟨d, rfl⟩ := snd_pos h
    have hc := dev_lt c
    refine ⟨rfl, ?_⟩
    rw [lvl_of (a := 2) (by dsimp only [qR1]; omega) (by simp only [qR1]; split_ifs <;> omega)]; decide
  · exact absurd h (Nat.lt_irrefl 0)
theorem lv_K : ∀ g u, 0 < oK c g u → g.1.2 = .tc ∧ 1 < lvl g.2 := by
  intro g u h
  rcases pos_add (show 0 < oR c g u + kvDebt c 1 g u from h) with h | h
  · exact ⟨(lv_R g u h).1, lt_trans (by decide) (lv_R g u h).2⟩
  · exact lv_kv (by decide) g u h
theorem lv_B : ∀ g u, 0 < oB c g u → g.1.2 = .tc ∧ 1 < lvl g.2 := by
  intro g u h
  rcases pos_add (show 0 < oK c g u + kvDebt c 0 g u from h) with h | h
  · exact lv_K g u h
  · exact lv_kv (by decide) g u h

/-! ## The signals to the other devices, and the stores of the own keys and values -/

abbrev SgAt (c : Dev nD) (R : SP F) (O : CellTallies nD τ sig Unit) (n : ℕ) : SP F := iprop(Pers C ∗ R ∗ Ow c (O + sigDebt c n) ∗ SigI c n)

theorem part73_ok {Q : (Σ' (d0 : Dev nD) (v2 : BitVec 32) (v3 : Sems sig S_) (v30 : BitVec 32) (c16_i32_18 : BitVec 32), BitVec 1) → SP F}
    (hQ : ∀ a, a.1 = c ∧ a.2.2.1 = SemArray.scalar (sig.barrier 0 rfl) → SgAt C c R O 3 ⊢ Q a) :
    SgAt C c R O 1 ⊢ WP c (At (k0_part73 (F := F))) Q := by
  unfold SgAt at hQ ⊢
  simp only [At, k0_part73_eq_skeleton, k0_part73_skel, semSignalWord, Prog.lift, Prog.bind_op, Prog.bind_ret, Prog.pure_eq_ret, wp_deviceId]
  iterate 2 refine sig_step C (by decide) (by decide) (by decide +kernel) (by decide) ?_
  exact ret_step (hQ _ ⟨rfl, rfl⟩)

/-- The own operands' staging buffers. -/
abbrev St0 (I : Ins F) (c : Dev nD) : SP F := pts c cc0_stg0_0 Finset.univ fullShare (I.x0 c)
abbrev St1 (I : Ins F) (c : Dev nD) : SP F := pts c cc0_stg1_0 Finset.univ fullShare (I.x1 c)
abbrev St2 (I : Ins F) (c : Dev nD) : SP F := pts c cc0_stg2_0 Finset.univ fullShare (I.x2 c)
abbrev St3 (I : Ins F) (c : Dev nD) : SP F := pts c cc0_stg3_0 Finset.univ fullShare (I.x3 c)
abbrev St4 (I : Ins F) (c : Dev nD) : SP F := pts c cc0_stg4_0 Finset.univ fullShare (I.x4 c)

theorem z4 : (![0, 0, 0, 0] : Fin 4 → ℕ) = fun _ => 0 := by funext a; fin_cases a <;> rfl
theorem z3 : (![0, 0, 0] : Fin 3 → ℕ) = fun _ => 0 := by funext a; fin_cases a <;> rfl
theorem z2 : (![0, 0] : Fin 2 → ℕ) = fun _ => 0 := by funext a; fin_cases a <;> rfl

variable {I : Ins F}

theorem part79_ok (hI : Good C I) {v2 v189 v194 v195} {Q : (Σ' (v212 : BitVec 32) (v213 : BitVec 1) (v223 : BitVec 32), BitVec 32) → SP F}
    (hQ : ∀ a, SgAt C c iprop(R ∗ St2 I c ∗ St3 I c ∗ pts c cc0_scratch0 Finset.univ fullShare (C.kv c)) O 16 ⊢ Q a) :
    SgAt C c iprop(R ∗ St2 I c ∗ St3 I c ∗ ∃ f, pts c cc0_scratch0 Finset.univ fullShare f) O 15
      ⊢ WP c (At (k0_part79 (F := F)) c v2 (SemArray.scalar (sig.barrier 0 rfl)) v189 v194 v195) Q := by
  unfold SgAt at hQ ⊢
  simp only [At, k0_part79_eq_skeleton, k0_part79_skel, semSignalWord, Prog.lift, Prog.bind_op, Prog.bind_ret, Prog.pure_eq_ret, wp_deviceId]
  have e2 : ∀ inb, View.readAt (Elt F) (Memref.whole cc0_stg2_0).view (Rect.unit (s := S2x128x64x64) ![0, 0, 0, 0] ![2, 128, 64, 64] inb).toLoadRect (I.x2 c) = I.x2 c :=
    fun inb => Memref.readAt_unit_zero (Elt F) cc0_stg2_0 z4 inb (I.x2 c)
  have e3 : ∀ inb, View.readAt (Elt F) (Memref.whole cc0_stg3_0).view (Rect.unit (s := S2x128x64x64) ![0, 0, 0, 0] ![2, 128, 64, 64] inb).toLoadRect (I.x3 c) = I.x3 c :=
    fun inb => Memref.readAt_unit_zero (Elt F) cc0_stg3_0 z4 inb (I.x3 c)
  refine sig_step C (by decide) (by decide) (by decide +kernel) (by decide) ?_
  iintro ⟨HP, ⟨HR, H2, H3, ⟨%f, Hs⟩⟩, HO, HX⟩
  iapply (wp_load Variants.none (c : Thread nD τ) none Set.univ (m := Memref.whole cc0_stg2_0) (Finset.subset_univ _)) $$ H2; iintro H2
  iapply (wp_load Variants.none (c : Thread nD τ) none Set.univ (m := kvbfM) (Finset.subset_univ _)) $$ Hs; iintro Hs
  iapply (wp_store Variants.none (c : Thread nD τ) none Set.univ (m := kvbfM) (r := Rect.unit (s := S2x2x128x4096) ![0, 0, 0, 0] S1x2x128x4096.size inb_S2x2x128x4096_S1x2x128x4096_0_0_0_0) (Mk := Finset.univ) (Finset.subset_univ _)) $$ Hs; iintro Hs
  iapply (wp_load Variants.none (c : Thread nD τ) none Set.univ (m := Memref.whole cc0_stg3_0) (Finset.subset_univ _)) $$ H3; iintro H3
  iapply (wp_load Variants.none (c : Thread nD τ) none Set.univ (m := kvbfM) (Finset.subset_univ _)) $$ Hs; iintro Hs
  iapply (wp_store Variants.none (c : Thread nD τ) none Set.univ (m := kvbfM) (r := Rect.unit (s := S2x2x128x4096) ![1, 0, 0, 0] S1x2x128x4096.size inb_S2x2x128x4096_S1x2x128x4096_1_0_0_0) (Mk := Finset.univ) (Finset.subset_univ _)) $$ Hs; iintro Hs
  rw [fill4_kv, e2, e3, ← hI.kv c, wp_ret]
  imodintro
  iapply (hQ _)
  iframe

/-! ## The copies of the own blocks, and the wait on the own barrier -/

/-- Block `j` of the own keys and values in place: its source and its copy. -/
def LocD (c : Dev nD) (j : ℕ) : sProp 𝕄 :=
  iprop(pts c cc0_scratch1 (kvReg c j) fullShare (Gkv C c) ∗ pts c cc0_scratch0 (bfReg c j) fullShare (C.kv c))
def LocIn (c : Dev nD) (j : ℕ) : sProp 𝕄 :=
  iprop(pts c cc0_scratch0 (bfReg c j) fullShare (C.kv c) ∗ (∃ f, pts c cc0_scratch1 (kvReg c j) fullShare f) ∗ semVal (cell c (134 + j)) 0)
def LocMid (c : Dev nD) (j : ℕ) : sProp 𝕄 :=
  if needB (2 * c.val + j) then Fl c (134 + j) NKV (LocD C c j) else iprop(LocD C c j ∗ semVal (cell c (134 + j)) 0)

theorem kvReg_empty {s : Dev nD} {j : ℕ} (hj : j < 2) (h : needB (2 * s.val + j) = false) : kvReg s j = ∅ := by
  have hs := dev_lt s
  unfold kvReg
  rw [Finset.filter_eq_empty_iff]
  intro i _ e
  have h2 : (i 2).val < 1408 := (i 2).isLt
  have := needB_blkOf ((i 2).val / 64) (by omega)
  rw [e, h] at this
  exact absurd this (by decide)

theorem loc_idle {j : ℕ} (hj : j < 2) (h : needB (2 * c.val + j) = false) : LocIn C c j ⊢ LocMid C c j := by
  unfold LocIn LocMid LocD
  rw [h, if_neg (by decide), kvReg_empty hj h]
  iintro ⟨HS, ⟨%f, HT⟩, Hv⟩
  ihave HT' := (Entails.of_eq (pointsTo_congr (g := Gkv C c) (fun i hi => absurd hi (Finset.notMem_empty i)))) $$ HT
  iframe

theorem loc_copy {j : ℕ} (hj : j < 2) (hb : needB (2 * c.val + j) = true)
    {off off' : Fin 4 → ℕ} {inb inb'} (hoff : off = ![0, 0, 64 * j, 256 * c.val]) (hoff' : off' = ![0, 0, 64 * slot (2 * c.val + j), 0])
    {oS : Fin 1 → ℕ} {iS sqS} (hoS : oS 0 = j) {hsrc hdst hsem}
    {k : PUnit → Prog (TpuEff nD τ sig (Elt F) Λ₀ .tc) α}
    (hk : iprop(Pers C ∗ R ∗ LocMid C c j) ⊢ WP c (k ⟨⟩) Q) :
    iprop(Pers C ∗ R ∗ LocIn C c j) ⊢ WP c (.op (.enqueueDma (bfSl off inb) (.here (kvSl off' inb')) (.dma (sem12 oS iS sqS)) hsrc hdst hsem) k) Q := by
  have hc := dev_lt c
  refine loc_step C NKV_pos (sem12_eq hoS) (credit_kv _ _) (q := fullShare) (fs := C.kv c) (D := LocD C c j) ?_ ?_ (fun fd => ?_) ?_
  · rw [set_bf hj hoff]
  · rw [set_kv hj hb hoff']
  · unfold LocD
    rw [set_bf hj hoff, set_kv hj hb hoff']
    congr 1
    exact land_kv C c c hj hb hoff hoff' c fd
  · unfold LocMid at hk; rw [if_pos hb] at hk; exact hk

theorem loc_dite {j : ℕ} (hj : j < 2) {p : Prop} [Decidable p] (ht : p → needB (2 * c.val + j) = true) (hf : ¬p → needB (2 * c.val + j) = false)
    {off off' : Fin 4 → ℕ} {inb : p → _} {inb' : p → _} (hoff : off = ![0, 0, 64 * j, 256 * c.val])
    (hoff' : needB (2 * c.val + j) = true → off' = ![0, 0, 64 * slot (2 * c.val + j), 0])
    {oS : Fin 1 → ℕ} {iS sqS} (hoS : oS 0 = j) {hsrc : ∀ h, (bfSl off (inb h)).view.WordExact} {hdst : ∀ h, (kvSl off' (inb' h)).view.WordExact}
    {hsem : ∀ h, (DmaTarget.here (kvSl off' (inb' h)) : DmaTarget nD τ sig .tc _ _ _).Typed .vmem (.dma (sem12 oS iS sqS))}
    {k : PUnit → Prog (TpuEff nD τ sig (Elt F) Λ₀ .tc) α}
    (hk : iprop(Pers C ∗ R ∗ LocMid C c j) ⊢ WP c (k ⟨⟩) Q) :
    iprop(Pers C ∗ R ∗ LocIn C c j) ⊢ WP c (dite p (fun h => .op (.enqueueDma (bfSl off (inb h)) (.here (kvSl off' (inb' h))) (.dma (sem12 oS iS sqS)) (hsrc h) (hdst h) (hsem h)) (fun r => k r)) (fun _ => k ⟨⟩)) Q := by
  refine dite_step (fun h => ?_) fun h => ?_
  · exact loc_copy C hj (ht h) hoff (hoff' (ht h)) hoS hk
  · refine BIBase.Entails.trans ?_ hk
    have hi := loc_idle C hj (hf h)
    iintro ⟨HP, HR, H⟩
    ihave H := hi $$ H
    iframe

theorem cond1_iff : ∀ c : Dev nD, k0_cond1 c = 1#1 ↔ needB (2 * c.val + 0) = true := by decide +kernel
theorem cond2_iff : ∀ c : Dev nD, k0_cond2 c = 1#1 ↔ needB (2 * c.val + 1) = true := by decide +kernel
theorem cond3_iff : ∀ c : Dev nD, k0_cond3 c = 1#1 ↔ needB (2 * c.val + 0) = true := by decide +kernel
theorem cond4_iff : ∀ c : Dev nD, k0_cond4 c = 1#1 ↔ needB (2 * c.val + 1) = true := by decide +kernel
theorem off1_eq : ∀ c : Dev nD, needB (2 * c.val + 0) = true → k0_off1 c = ![0, 0, 64 * slot (2 * c.val + 0), 0] := by decide +kernel
theorem off2_eq : ∀ c : Dev nD, k0_off2 c = ![0, 0, 64 * 0, 256 * c.val] := by decide +kernel
theorem off3_eq : ∀ c : Dev nD, needB (2 * c.val + 1) = true → k0_off3 c = ![0, 0, 64 * slot (2 * c.val + 1), 0] := by decide +kernel
theorem off4_eq : ∀ c : Dev nD, k0_off4 c = ![0, 0, 64 * 1, 256 * c.val] := by decide +kernel

theorem nb {b : ℕ} {p : Prop} (h : p ↔ needB b = true) (hp : ¬p) : needB b = false := by
  cases hx : needB b with
  | false => rfl
  | true => exact absurd (h.mpr hx) hp

theorem part80_ok {v2 v212 v213 v223 c1} {Q : (Σ' (v246 : BitVec 32) (v247 : BitVec 1), BitVec 32) → SP F}
    (hQ : ∀ a, iprop(Pers C ∗ (R ∗ LocMid C c 0 ∗ LocMid C c 1) ∗ Ow c (oB c) ∗ (atPos ER (barCell c) 1 ∅ 0 ∗ bigSep (Finset.univ.erase c) (fun d => barPay d c))) ⊢ Q a) :
    iprop(Pers C ∗ (R ∗ LocIn C c 0 ∗ LocIn C c 1) ∗ Ow c (oB c) ∗ (cred (tallyAt (barCell c) () 15) ∗ atPos ER (barCell c) 0 ∅ 0))
      ⊢ WP c (At (k0_part80 (F := F)) c v2 (SemArray.scalar (sig.barrier 0 rfl)) v212 v213 v223 c1) Q := by
  simp only [At, k0_part80_eq_skeleton, k0_part80_skel, semWaitWord, Prog.lift, Prog.bind_op, Prog.bind_ret, Prog.pure_eq_ret]
  refine (show _ ⊢ iprop(Pers C ∗ (R ∗ LocIn C c 1 ∗ Ow c (oB c) ∗ (cred (tallyAt (barCell c) () 15) ∗ atPos ER (barCell c) 0 ∅ 0)) ∗ LocIn C c 0) from by
    iintro ⟨HP, ⟨HR, H0, H1⟩, HO, HX⟩; iframe).trans ?_
  refine loc_dite C (by decide) (fun h => (cond1_iff c).mp h) (nb (cond1_iff c)) (off2_eq c) (off1_eq c) rfl ?_
  refine (show _ ⊢ iprop(Pers C ∗ (R ∗ LocMid C c 0 ∗ Ow c (oB c) ∗ (cred (tallyAt (barCell c) () 15) ∗ atPos ER (barCell c) 0 ∅ 0)) ∗ LocIn C c 1) from by
    iintro ⟨HP, ⟨HR, H0, HO, HX⟩, H1⟩; iframe).trans ?_
  refine loc_dite C (by decide) (fun h => (cond2_iff c).mp h) (nb (cond2_iff c)) (off4_eq c) (off3_eq c) rfl ?_
  refine (show _ ⊢ iprop(Pers C ∗ (R ∗ LocMid C c 0 ∗ LocMid C c 1) ∗ Ow c (oB c) ∗ (cred (tallyAt (barCell c) () 15) ∗ atPos ER (barCell c) 0 ∅ 0)) from by
    iintro ⟨HP, ⟨HR, H0, HO, HX⟩, H1⟩; iframe).trans ?_
  exact bar_step C (by decide) lv_B (ret_step (hQ _))

/-! ## The conditional sends -/

def KvIn (c : Dev nD) (j : ℕ) : sProp 𝕄 := SndI c (fun d => qS1 d j) (fun _ => qR1 c.val j) (SKv C c j) (DKv c j) 1
def KvOut (c : Dev nD) (j : ℕ) : sProp 𝕄 := bigSep (Finset.Ico 1 16) (fun d => if act c (qS1 d j) then crd c (qS1 d j) else SKv C c j d)

theorem snd_end {qS qR : ℕ → ℕ} {S D : ℕ → sProp 𝕄} : SndI c qS qR S D 16 ⊢ bigSep (Finset.Ico 1 16) (fun d => crd c (qS d)) := by
  unfold SndI
  iintro ⟨-, H⟩
  iexact H
theorem sndDebt_end {qR : ℕ → ℕ} : sndDebt c qR 16 = 0 := by unfold sndDebt; rw [Finset.Ico_self, Finset.sum_empty]

theorem kv_start {j : ℕ} (hb : needB (2 * c.val + j) = true) : iprop(Pers C ∗ R ∗ Ow c (O + kvDebt c j) ∗ KvIn C c j) ⊢ KvAt C c R O j 1 := by
  unfold KvAt KvIn kvDebt; rw [if_pos hb]
theorem kv_end {j : ℕ} (hj : j < 2) (hb : needB (2 * c.val + j) = true) : KvAt C c R O j 16 ⊢ iprop(Pers C ∗ R ∗ Ow c O ∗ KvOut C c j) := by
  unfold KvAt KvOut
  rw [sndDebt_end, add_zero]
  have e : bigSep (Finset.Ico 1 16) (fun d => crd (F := F) c (qS1 d j)) ⊢ bigSep (Finset.Ico 1 16) (fun d => if act c (qS1 d j) then crd c (qS1 d j) else SKv C c j d) := by
    refine bigSep_mono fun d hd => ?_
    have hd := Finset.mem_Ico.mp hd
    rw [act_S1 c hd.1 hd.2 hj, hb, if_pos rfl]; exact Entails.refl _
  iintro ⟨HP, HR, HO, HX⟩
  ihave HX := snd_end $$ HX
  ihave HX := e $$ HX
  iframe
theorem kv_idle {j : ℕ} (hj : j < 2) (hb : needB (2 * c.val + j) = false) :
    iprop(Pers C ∗ R ∗ Ow c (O + kvDebt c j) ∗ KvIn C c j) ⊢ iprop(Pers C ∗ R ∗ Ow c O ∗ KvOut C c j) := by
  unfold KvIn KvOut kvDebt SndI
  rw [if_neg (by rw [hb]; decide), add_zero]
  have e : bigSep (Finset.Ico 1 16) (fun d => iprop(tok (F := F) c (qS1 d j) ∗ tok (tgt c d) (qR1 c.val j) ∗ SKv C c j d ∗ DKv c j d))
      ⊢ bigSep (Finset.Ico 1 16) (fun d => if act c (qS1 d j) then crd c (qS1 d j) else SKv C c j d) := by
    refine bigSep_mono fun d hd => ?_
    have hd := Finset.mem_Ico.mp hd
    rw [act_S1 c hd.1 hd.2 hj, hb, if_neg (by decide)]
    refine (show (_ : sProp 𝕄) ⊢ _ from ?_)
    iintro ⟨-, -, H, -⟩
    iexact H
  iintro ⟨HP, HR, HO, ⟨HX, -⟩⟩
  ihave HX := e $$ HX
  iframe

theorem part81_ok {v2 v246 v247 v257} {Q : (Σ' (v285 : FVec F S128x256 .f32), FVec F S128x256 .f32) → SP F}
    (hQ : ∀ a, a = ⟨q0V (I.x0 c) (I.x1 c), q1V (I.x0 c) (I.x1 c)⟩ → iprop(Pers C ∗ (R ∗ St0 I c ∗ St1 I c ∗ KvOut C c 0) ∗ Ow c (oR c) ∗ KvOut C c 1) ⊢ Q a) :
    iprop(Pers C ∗ (R ∗ St0 I c ∗ St1 I c ∗ KvIn C c 1) ∗ Ow c (oB c) ∗ KvIn C c 0) ⊢ WP c (At (k0_part81 (F := F)) c v2 v246 v247 v257) Q := by
  simp only [At, k0_part81_eq_skeleton, k0_part81_skel, Prog.lift, Prog.bind_op, Prog.bind_ret, Prog.pure_eq_ret]
  have hm : iprop(Pers C ∗ (R ∗ St0 I c ∗ St1 I c ∗ KvIn C c 1) ∗ Ow c (oK c) ∗ KvOut C c 0) ⊢ iprop(Pers C ∗ (R ∗ St0 I c ∗ St1 I c ∗ KvOut C c 0) ∗ Ow c (oK c) ∗ KvIn C c 1) := by
    iintro ⟨HP, ⟨HR, H0, H1, H2⟩, HO, HX⟩; iframe
  have hq : _ ⊢ Q ⟨k0_pay4 (I.x1 c) (View.readAt (Elt F) (Memref.whole cc0_stg0_0).view (Rect.unit (s := S2x128x512) ![0, 0, 0] ![1, 128, 512] inb_S2x128x512_S1x128x512_0_0_0).toLoadRect (I.x0 c)),
      k0_pay5 (I.x1 c) (View.readAt (Elt F) (Memref.whole cc0_stg0_0).view (Rect.unit (s := S2x128x512) ![1, 0, 0] ![1, 128, 512] inb_S2x128x512_S1x128x512_1_0_0).toLoadRect (I.x0 c))⟩ := hQ _ rfl
  have e1 : ∀ inb, View.readAt (Elt F) (Memref.whole cc0_stg1_0).view (Rect.unit (s := S512x256) ![0, 0] ![512, 256] inb).toLoadRect (I.x1 c) = I.x1 c :=
    fun inb => Memref.readAt_unit_zero (Elt F) cc0_stg1_0 z2 inb (I.x1 c)
  refine dite_step (fun h => ?_) fun h => (kv_idle C (by decide) (nb (cond3_iff c) h)).trans (hm.trans ?_)
  on_goal 1 =>
    have hb := (cond3_iff c).mp h
    refine (kv_start C hb).trans ?_
    apply cut
    case h1 => intro Φ hΦ; exact part19_ok C hb hΦ
    intro a
    refine kv_send C (by decide) hb (by decide) (by decide) (by decide +kernel) (off7_eq c _ (by decide) (by decide)) (off6_eq c hb) rfl (off5_eq c) ((kv_end C (by decide) hb).trans (hm.trans ?_))
  all_goals
    refine dite_step (fun h => ?_) fun h => (kv_idle C (by decide) (nb (cond4_iff c) h)).trans ?_
    on_goal 1 =>
      have hb := (cond4_iff c).mp h
      refine (kv_start C hb).trans ?_
      apply cut
      case h1 => intro Φ hΦ; exact part38_ok C hb hΦ
      intro a
      refine kv_send C (by decide) hb (by decide) (by decide) (by decide +kernel) (off10_eq c _ (by decide) (by decide)) (off9_eq c hb) rfl (off8_eq c) ((kv_end C (by decide) hb).trans ?_)
    all_goals
      iintro ⟨HP, ⟨HR, H0, H1, HK⟩, HO, HX⟩
      iapply (wp_load Variants.none (c : Thread nD τ) none Set.univ (m := Memref.whole cc0_stg1_0) (Finset.subset_univ _)) $$ H1; iintro H1
      iapply (wp_load Variants.none (c : Thread nD τ) none Set.univ (m := Memref.whole cc0_stg0_0) (Finset.subset_univ _)) $$ H0; iintro H0
      iapply (wp_load Variants.none (c : Thread nD τ) none Set.univ (m := Memref.whole cc0_stg0_0) (Finset.subset_univ _)) $$ H0; iintro H0
      rw [e1, wp_ret]
      imodintro
      iapply hq
      iframe

end Cert.KernelIdealProof
-- ==== Proof.KIdeal.Regions.lean ====
/-
The buffers cut into the parts the exchanges move, and the semaphores grouped by use.
-/
module

public import proofs.«01_k».proof.Proof.KIdeal.Rules

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

variable {c : Dev nD} {α β : Type} {Q : α → SP F} {R : SP F} {O : CellTallies nD τ sig Unit}

/-! ## Sums of resources, regrouped -/

omit [FloatOps F] [Named F] in
/-- A run of twice as many, in pairs. -/
theorem bigSep_pairs (f : ℕ → SP F) (a n : ℕ) : bigSep (Finset.Ico (2 * a) (2 * (a + n))) f = bigSep (Finset.Ico a (a + n)) (fun d => iprop(f (2 * d) ∗ f (2 * d + 1))) := by
  induction n with
  | zero => rw [Nat.add_zero, Finset.Ico_self, Finset.Ico_self, bigSep_empty, bigSep_empty]
  | succ n ih =>
    rw [show 2 * (a + (n + 1)) = 2 * (a + n) + 1 + 1 by omega, bigSep_Ico_succ_top (by omega), bigSep_Ico_succ_top (by omega), ih,
      show a + (n + 1) = a + n + 1 by omega, bigSep_Ico_succ_top (b := a + n) (by omega)]
    refine equiv_iff.mp ⟨?_, ?_⟩
    · refine (show (_ : SP F) ⊢ _ from ?_); iintro ⟨H1, H2, H3⟩; iframe
    · refine (show (_ : SP F) ⊢ _ from ?_); iintro ⟨⟨H1, H2⟩, H3⟩; iframe

omit [FloatOps F] [Named F] in
/-- Some of a sum's terms, listed by `g`, and the others. -/
theorem bigSep_take (f : ℕ → SP F) {S T : Finset ℕ} {g : ℕ → ℕ} (hg : T.image g ⊆ S) (hi : ∀ d ∈ T, ∀ e ∈ T, g d = g e → d = e) :
    bigSep S f = iprop(bigSep T (fun d => f (g d)) ∗ bigSep (S \ T.image g) f) := by
  have e : bigSep (T.image g) f = bigSep T (fun d => f (g d)) := by
    clear hg
    induction T using Finset.induction_on with
    | empty => rw [Finset.image_empty, bigSep_empty, bigSep_empty]
    | insert t T ht ih =>
      rw [Finset.image_insert, bigSep_insert ht, bigSep_insert (fun hm => ?_), ih fun d hd e he => hi d (Finset.mem_insert_of_mem hd) e (Finset.mem_insert_of_mem he)]
      obtain ⟨d, hd, hgd⟩ := Finset.mem_image.mp hm
      exact ht (hi d (Finset.mem_insert_of_mem hd) t (Finset.mem_insert_self _ _) hgd ▸ hd)
  conv_lhs => rw [← Finset.union_sdiff_of_subset hg, bigSep_union Finset.disjoint_sdiff]
  rw [e]; rfl

/-- The semaphores of device `c` that are never used. -/
def Idl (c : Dev nD) : Finset ℕ :=
  (((((Finset.Ico 6 134 \ (Finset.Ico 1 16).image (fun d => qS1 d 0)) \ (Finset.Ico 1 16).image (fun d => qS1 d 1)) \ (Finset.Ico 2 32).image (qRe c))
    \ (Finset.Ico 2 32).image qSe) \ (Finset.Ico 1 16).image (fun d => qRR (src c d).val)) \ (Finset.Ico 1 16).image (fun d => qRA (src c d).val)

theorem idl_act : ∀ c : Dev nD, ∀ q ∈ Idl c, 6 ≤ q ∧ q < 134 ∧ act c q = false := by decide +kernel

/-- A resource for each semaphore, grouped by use. -/
def Grp (c : Dev nD) (f : ℕ → SP F) : SP F :=
  iprop(bigSep (Finset.Ico 1 16) (fun d => f (qS1 d 0)) ∗ bigSep (Finset.Ico 1 16) (fun d => f (qS1 d 1)) ∗ bigSep (Finset.Ico 2 32) (fun e => f (qRe c e))
    ∗ bigSep (Finset.Ico 2 32) (fun e => f (qSe e)) ∗ bigSep (Finset.Ico 1 16) (fun d => f (qRR (src c d).val)) ∗ bigSep (Finset.Ico 1 16) (fun d => f (qRA (src c d).val))
    ∗ bigSep (Idl c) f)

omit [FloatOps F] [Named F] in
theorem grp_eq (c : Dev nD) (f : ℕ → SP F) : bigSep (Finset.Ico 6 134) f = Grp c f := by
  unfold Grp Idl
  rw [bigSep_take f (S := Finset.Ico 6 134) (T := Finset.Ico 1 16) (g := fun d => qS1 d 0) (by decide +kernel) (by decide +kernel),
    bigSep_take f (T := Finset.Ico 1 16) (g := fun d => qS1 d 1) (by decide +kernel) (by decide +kernel),
    bigSep_take f (T := Finset.Ico 2 32) (g := qRe c) (by revert c; decide +kernel) (by revert c; decide +kernel),
    bigSep_take f (T := Finset.Ico 2 32) (g := qSe) (by revert c; decide +kernel) (by decide +kernel),
    bigSep_take f (T := Finset.Ico 1 16) (g := fun d => qRR (src c d).val) (by revert c; decide +kernel) (by revert c; decide +kernel),
    bigSep_take f (T := Finset.Ico 1 16) (g := fun d => qRA (src c d).val) (by revert c; decide +kernel) (by revert c; decide +kernel)]

/-! ## Buffers, cut into the parts the exchanges move -/

omit [FloatOps F] [Named F] in
/-- A buffer whose places are told apart by a number that `m` lists. -/
theorem pts_parts {b : Ref sig .tc} {n : ℕ} {q : PosShare TreeShare} {f : Buf (Elt F) ((c : Thread nD τ).loc b)} (Rg : ℕ → Finset (Idx ((c : Thread nD τ).loc b)))
    (key : Idx ((c : Thread nD τ).loc b) → ℕ) (m : ℕ → ℕ) (hR : ∀ e i, i ∈ Rg e ↔ key i = m e)
    (hm : ∀ e < n, ∀ e' < n, m e = m e' → e = e') (hk : ∀ i, ∃ e < n, key i = m e) :
    pts c b Finset.univ q f = bigSep (Finset.Ico 0 n) (fun e => pts c b (Rg e) q f) := by
  rw [← pointsTo_biUnion]
  · have e : (Finset.Ico 0 n).biUnion Rg = Finset.univ := by
      refine Finset.eq_univ_iff_forall.mpr fun i => ?_
      obtain ⟨e, he, h⟩ := hk i
      exact Finset.mem_biUnion.mpr ⟨e, Finset.mem_Ico.mpr ⟨Nat.zero_le _, he⟩, (hR e i).mpr h⟩
    rw [e]
  · intro e he e' he' hne
    refine Finset.disjoint_left.mpr fun i h h' => hne ?_
    exact hm e (Finset.mem_Ico.mp he).2 e' (Finset.mem_Ico.mp he').2 (((hR e i).mp h).symm.trans ((hR e' i).mp h'))

theorem tgt_key : ∀ c : Dev nD, ∀ k < 16, ∃ d < 16, k = (tgt c d).val := by decide +kernel
theorem src_key : ∀ c : Dev nD, ∀ k < 16, ∃ d < 16, k = (src c d).val := by decide +kernel
theorem tgt_inj : ∀ c : Dev nD, ∀ d < 16, ∀ e < 16, (tgt c d).val = (tgt c e).val → d = e := by decide +kernel
theorem src_inj : ∀ c : Dev nD, ∀ d < 16, ∀ e < 16, (src c d).val = (src c e).val → d = e := by decide +kernel

theorem pair_key {f : ℕ → Dev nD} (h : ∀ k < 16, ∃ d < 16, k = (f d).val) {k : ℕ} (hk : k < 32) : ∃ e < 32, k = 2 * (f (e / 2)).val + e % 2 := by
  obtain ⟨d, hd, e⟩ := h (k / 2) (by omega)
  refine ⟨2 * d + k % 2, by omega, ?_⟩
  rw [show (2 * d + k % 2) / 2 = d by omega, ← e]; omega
theorem pair_inj {f : ℕ → Dev nD} (h : ∀ d < 16, ∀ e < 16, (f d).val = (f e).val → d = e) : ∀ d < 32, ∀ e < 32,
    2 * (f (d / 2)).val + d % 2 = 2 * (f (e / 2)).val + e % 2 → d = e := by
  intro d hd e he hh
  have := h (d / 2) (by omega) (e / 2) (by omega) (by omega)
  omega

/-- Sixteen pairs as a run of thirty-two. -/
theorem pairs16 (f : ℕ → ℕ → SP F) : bigSep (Finset.Ico 0 32) (fun e => f (e / 2) (e % 2)) = bigSep (Finset.Ico 0 16) (fun d => iprop(f d 0 ∗ f d 1)) := by
  rw [bigSep_pairs _ 0 16]
  refine bigSep_congr fun d _ => ?_
  rw [show 2 * d / 2 = d by omega, show 2 * d % 2 = 0 by omega, show (2 * d + 1) / 2 = d by omega, show (2 * d + 1) % 2 = 1 by omega]
theorem pairs15 (f : ℕ → ℕ → SP F) : bigSep (Finset.Ico 2 32) (fun e => f (e / 2) (e % 2)) = bigSep (Finset.Ico 1 16) (fun d => iprop(f d 0 ∗ f d 1)) := by
  rw [bigSep_pairs _ 1 15]
  refine bigSep_congr fun d _ => ?_
  rw [show 2 * d / 2 = d by omega, show 2 * d % 2 = 0 by omega, show (2 * d + 1) / 2 = d by omega, show (2 * d + 1) % 2 = 1 by omega]

variable (c)
theorem bf_parts (f : BBf (F := F)) : pts c cc0_scratch0 Finset.univ fullShare f
    = bigSep (Finset.Ico 0 16) (fun d => iprop(pts c cc0_scratch0 (bfReg (tgt c d) 0) fullShare f ∗ pts c cc0_scratch0 (bfReg (tgt c d) 1) fullShare f)) := by
  rw [← pairs16 (fun d j => pts c cc0_scratch0 (bfReg (tgt c d) j) fullShare f)]
  refine pts_parts (c := c) (b := cc0_scratch0) (fun e => bfReg (tgt c (e / 2)) (e % 2)) (fun i : S2x2x128x4096.Idx => 2 * ((i 3).val / 256) + (i 2).val / 64) (fun e => 2 * (tgt c (e / 2)).val + e % 2)
    (fun e (i : S2x2x128x4096.Idx) => ?_) (pair_inj (tgt_inj c)) (fun (i : S2x2x128x4096.Idx) => ?_)
  · have h2 : (i 2).val < 128 := (i 2).isLt
    unfold bfReg
    rw [Finset.mem_filter]
    constructor
    · rintro ⟨-, h, h'⟩; omega
    · intro h; exact ⟨Finset.mem_univ _, by omega, by omega⟩
  · have h2 : (i 2).val < 128 := (i 2).isLt
    have h3 : (i 3).val < 4096 := (i 3).isLt
    exact pair_key (tgt_key c) (by omega)
theorem kv_parts (g : Dev nD → ℕ → Dev nD) (hi : ∀ d < 16, ∀ e < 16, (g c d).val = (g c e).val → d = e) (hk : ∀ k < 16, ∃ d < 16, k = (g c d).val) (f : BKv (F := F)) :
    pts c cc0_scratch1 Finset.univ fullShare f
    = bigSep (Finset.Ico 0 16) (fun d => iprop(pts c cc0_scratch1 (kvReg (g c d) 0) fullShare f ∗ pts c cc0_scratch1 (kvReg (g c d) 1) fullShare f)) := by
  rw [← pairs16 (fun d j => pts c cc0_scratch1 (kvReg (g c d) j) fullShare f)]
  refine pts_parts (c := c) (b := cc0_scratch1) (fun e => kvReg (g c (e / 2)) (e % 2)) (fun i : S2x2x1408x256.Idx => blkOf ((i 2).val / 64)) (fun e => 2 * (g c (e / 2)).val + e % 2)
    (fun e (i : S2x2x1408x256.Idx) => ?_) (pair_inj hi) (fun (i : S2x2x1408x256.Idx) => ?_)
  · unfold kvReg
    rw [Finset.mem_filter]
    exact ⟨fun h => h.2, fun h => ⟨Finset.mem_univ _, h⟩⟩
  · have h2 : (i 2).val < 1408 := (i 2).isLt
    exact pair_key hk (blkOf_lt _ (by omega))
theorem ps_parts (f : BPs (F := F)) : pts c cc0_scratch2 Finset.univ fullShare f
    = bigSep (Finset.Ico 0 16) (fun d => pts c cc0_scratch2 (psReg (tgt c d)) fullShare f) := by
  refine pts_parts (c := c) (b := cc0_scratch2) (fun e => psReg (tgt c e)) (fun i : S2x128x512.Idx => (i 0).val * 8 + (i 1).val / 16) (fun e => (tgt c e).val)
    (fun e (i : S2x128x512.Idx) => ?_) (tgt_inj c) (fun (i : S2x128x512.Idx) => ?_)
  · unfold psReg
    rw [Finset.mem_filter]
    exact ⟨fun h => h.2, fun h => ⟨Finset.mem_univ _, h⟩⟩
  · have h0 : (i 0).val < 2 := (i 0).isLt
    have h1 : (i 1).val < 128 := (i 1).isLt
    exact tgt_key c _ (by omega)
theorem rs_parts (g : Dev nD → ℕ → Dev nD) (hi : ∀ d < 16, ∀ e < 16, (g c d).val = (g c e).val → d = e) (hk : ∀ k < 16, ∃ d < 16, k = (g c d).val) (f : BRs (F := F)) :
    pts c cc0_scratch3 Finset.univ fullShare f = bigSep (Finset.Ico 0 16) (fun d => pts c cc0_scratch3 (rsReg (g c d)) fullShare f) := by
  refine pts_parts (c := c) (b := cc0_scratch3) (fun e => rsReg (g c e)) (fun i : S16x16x512.Idx => (i 0).val) (fun e => (g c e).val)
    (fun e (i : S16x16x512.Idx) => ?_) hi (fun (i : S16x16x512.Idx) => hk _ (i 0).isLt)
  unfold rsReg
  rw [Finset.mem_filter]
  exact ⟨fun h => h.2, fun h => ⟨Finset.mem_univ _, h⟩⟩
theorem ag_parts (g : Dev nD → ℕ → Dev nD) (hi : ∀ d < 16, ∀ e < 16, (g c d).val = (g c e).val → d = e) (hk : ∀ k < 16, ∃ d < 16, k = (g c d).val) (f : BRs (F := F)) :
    pts c cc0_scratch5 Finset.univ fullShare f = bigSep (Finset.Ico 0 16) (fun d => pts c cc0_scratch5 (rsReg (g c d)) fullShare f) := by
  refine pts_parts (c := c) (b := cc0_scratch5) (fun e => rsReg (g c e)) (fun i : S16x16x512.Idx => (i 0).val) (fun e => (g c e).val)
    (fun e (i : S16x16x512.Idx) => ?_) hi (fun (i : S16x16x512.Idx) => hk _ (i 0).isLt)
  unfold rsReg
  rw [Finset.mem_filter]
  exact ⟨fun h => h.2, fun h => ⟨Finset.mem_univ _, h⟩⟩

theorem tgt0 : tgt c 0 = c := by have := dev_lt c; apply Fin.ext; simp only [tgt]; omega
theorem src0 : src c 0 = c := by have := dev_lt c; apply Fin.ext; simp only [src]; omega

/-! ## What a semaphore's wait leaves, by use -/

/-- The position at the start, and at the end, of semaphore `q` of device `c`. -/
def AT0 (q : ℕ) : SP F := atPos ER (cell c q) 0 ∅ 0
def AT1 (q : ℕ) : SP F := atPos ER (cell c q) (if act c q then 1 else 0) ∅ 0

theorem pa_kv {s : Dev nD} (hs : s ≠ c) {j : ℕ} (hj : j < 2) :
    PA C c (qR1 s.val j) ⊢ iprop(pts c cc0_scratch1 (kvReg s j) fullShare (Gkv C c) ∗ AT1 c (qR1 s.val j)) := by
  have hl := dev_lt s
  have ha := act_R1 c hl (fun h => hs (Fin.ext h)) hj
  unfold PA AT1
  rw [ha]
  cases hb : needB (2 * s.val + j) with
  | true =>
    simp only [if_true]
    unfold dmaPay
    rw [if_neg (by dsimp only [qR1, qRR, qRA, qS1, qSR, qSA]; omega), if_pos (by dsimp only [qR1, qRR, qRA, qS1, qSR, qSA]; omega)]
    have e1 : (⟨(qR1 s.val j - 38) / 2 % 16, mod16_lt _⟩ : Dev nD) = s := Fin.ext (by simp only [qR1]; omega)
    have e2 : (qR1 s.val j - 38) % 2 = j := by simp only [qR1]; omega
    rw [e1, e2]
  | false =>
    simp only [Bool.false_eq_true, if_false]
    have e : kvReg s j = ∅ := by
      unfold kvReg
      rw [Finset.filter_eq_empty_iff]
      intro i _ e
      have h2 : (i 2).val < 1408 := (i 2).isLt
      have := needB_blkOf ((i 2).val / 64) (by omega)
      rw [e, hb] at this
      exact absurd this (by decide)
    rw [e]
    have e' := (pointsTo_empty (nD := nD) (τ := τ) (sig := sig) (Ix := Unit) (Val := Elt F) (Name := ℕ) (U := UU) (Lvl := ℕ) (ℓ := (c : Thread nD τ).loc cc0_scratch1) (q := fullShare) (f := Gkv C c))
    unfold pts
    rw [e']
theorem pa_rr {s : Dev nD} (hs : s ≠ c) : PA C c (qRR s.val) ⊢ iprop(pts c cc0_scratch3 (rsReg s) fullShare (Grs C c) ∗ AT1 c (qRR s.val)) := by
  have hl := dev_lt s
  have ha := act_RR c hl (fun h => hs (Fin.ext h))
  unfold PA AT1
  rw [ha]
  simp only [if_true]
  unfold dmaPay
  rw [if_neg (by dsimp only [qR1, qRR, qRA, qS1, qSR, qSA]; omega), if_neg (by dsimp only [qR1, qRR, qRA, qS1, qSR, qSA]; omega), if_neg (by dsimp only [qR1, qRR, qRA, qS1, qSR, qSA]; omega), if_pos (by dsimp only [qR1, qRR, qRA, qS1, qSR, qSA]; omega)]
  have e1 : (⟨(qRR s.val - 86) % 16, mod16_lt _⟩ : Dev nD) = s := Fin.ext (by simp only [qRR]; omega)
  rw [e1]
theorem pa_ra {s : Dev nD} (hs : s ≠ c) : PA C c (qRA s.val) ⊢ iprop(pts c cc0_scratch5 (rsReg s) fullShare (Gag C) ∗ AT1 c (qRA s.val)) := by
  have hl := dev_lt s
  have ha := act_RA c hl (fun h => hs (Fin.ext h))
  unfold PA AT1
  rw [ha]
  simp only [if_true]
  unfold dmaPay
  rw [if_neg (by dsimp only [qR1, qRR, qRA, qS1, qSR, qSA]; omega), if_neg (by dsimp only [qR1, qRR, qRA, qS1, qSR, qSA]; omega), if_neg (by dsimp only [qR1, qRR, qRA, qS1, qSR, qSA]; omega), if_neg (by dsimp only [qR1, qRR, qRA, qS1, qSR, qSA]; omega), if_neg (by dsimp only [qR1, qRR, qRA, qS1, qSR, qSA]; omega)]
  have e1 : (⟨(qRA s.val - 118) % 16, mod16_lt _⟩ : Dev nD) = s := Fin.ext (by simp only [qRA]; omega)
  rw [e1]
theorem pa_s1 {d j : ℕ} (hd : d < 16) (hj : j < 2) : dmaPay C c (qS1 d j) = SKv C c j d := by
  unfold dmaPay SKv
  rw [if_pos (by dsimp only [qR1, qRR, qRA, qS1, qSR, qSA]; omega), show (qS1 d j - 6) / 2 = d by simp only [qS1]; omega, show (qS1 d j - 6) % 2 = j by simp only [qS1]; omega]
theorem pa_sr {d : ℕ} (h1 : 1 ≤ d) (h16 : d < 16) : PA C c (qSR d) ⊢ iprop(SRs C c d ∗ AT1 c (qSR d)) := by
  unfold PA AT1 SRs
  rw [act_SR c h1 h16]
  simp only [if_true]
  unfold dmaPay
  rw [if_neg (by dsimp only [qR1, qRR, qRA, qS1, qSR, qSA]; omega), if_neg (by dsimp only [qR1, qRR, qRA, qS1, qSR, qSA]; omega), if_pos (by dsimp only [qR1, qRR, qRA, qS1, qSR, qSA]; omega), show qSR d - 70 = d by simp only [qSR]; omega]
theorem pa_sa {d : ℕ} (h1 : 1 ≤ d) (h16 : d < 16) : PA C c (qSA d) ⊢ iprop(SAg C c d ∗ AT1 c (qSA d)) := by
  unfold PA AT1 SAg
  rw [act_SA c h1 h16]
  simp only [if_true]
  unfold dmaPay
  rw [if_neg (by dsimp only [qR1, qRR, qRA, qS1, qSR, qSA]; omega), if_neg (by dsimp only [qR1, qRR, qRA, qS1, qSR, qSA]; omega), if_neg (by dsimp only [qR1, qRR, qRA, qS1, qSR, qSA]; omega), if_neg (by dsimp only [qR1, qRR, qRA, qS1, qSR, qSA]; omega), if_pos (by dsimp only [qR1, qRR, qRA, qS1, qSR, qSA]; omega), show qSA d - 102 = d by simp only [qSA]; omega]

end Cert.KernelIdealProof
-- ==== Proof.KIdeal.Parts3.lean ====
/-
The waits on the keys and values, and the attention over them.
-/
module

public import proofs.«01_k».proof.Proof.KIdeal.Parts2
public import proofs.«01_k».proof.Proof.KIdeal.Regions

@[expose] public section

noncomputable section

namespace Cert.KernelIdealProof

set_option pp.maxSteps 300
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

variable {c : Dev nD} {α β : Type} {Q : α → SP F} {R : SP F} {O : CellTallies nD τ sig Unit}

/-! ## The waits on the copies of the own blocks, and on the blocks received -/

def LocDone (c : Dev nD) (j : ℕ) : sProp 𝕄 := iprop(LocD C c j ∗ semVal (cell c (134 + j)) 0)

theorem locw_dite {j : ℕ} (hj : j < 2) {p : Prop} [Decidable p] (ht : p → needB (2 * c.val + j) = true) (hf : ¬p → needB (2 * c.val + j) = false)
    (hO : ∀ g u, 0 < O g u → g.1.2 = .tc ∧ 0 < lvl g.2)
    {off : Fin 4 → ℕ} {inb : p → _} {oS : Fin 1 → ℕ} {iS sqS} (hoS : oS 0 = j)
    {srcM : p → Memref sig .tc .vmem S2x2x64x256 .bf16} {hsrc : ∀ h, (srcM h).view.WordExact} {hdst : ∀ h, (kvSl off (inb h)).view.WordExact}
    {k : PUnit → Prog (TpuEff nD τ sig (Elt F) Λ₀ .tc) α}
    (hk : iprop(Pers C ∗ R ∗ Ow c O ∗ LocDone C c j) ⊢ WP c (k ⟨⟩) Q) :
    iprop(Pers C ∗ R ∗ Ow c O ∗ LocMid C c j) ⊢ WP c (dite p (fun h => .op (.waitDma2 (sem12 oS iS sqS) (srcM h) (kvSl off (inb h)) (hsrc h) (hdst h)) (fun r => k r)) (fun _ => k ⟨⟩)) Q := by
  refine dite_step (fun h => ?_) fun h => ?_
  · unfold LocMid; rw [if_pos (ht h)]
    refine locw_step C (sem12_eq hoS) (credit_kv _ _) (fun g u hg => ?_) hk
    have hl : lvl (.dma (mkS (134 + j))) = 0 := by
      unfold lvl; dsimp only; rw [mkS_val (by omega), if_neg (by omega), if_neg (by omega), if_neg (by omega), if_neg (by omega), if_neg (by omega), if_neg (by omega)]
    rw [hl]; exact hO g u hg
  · unfold LocMid; rw [hf h, if_neg (by decide)]; exact hk

/-- What is left over when the keys and values are gathered. -/
def KvGot (c : Dev nD) : sProp 𝕄 :=
  iprop(bigSep (Finset.Ico 2 32) (fun e => AT1 c (qRe c e)) ∗ (pts c cc0_scratch0 (bfReg c 0) fullShare (C.kv c) ∗ pts c cc0_scratch0 (bfReg c 1) fullShare (C.kv c))
    ∗ semVal (cell c (134 + 0)) 0 ∗ semVal (cell c (134 + 1)) 0)

theorem kv_gather : iprop((LocDone C c 0 ∗ LocDone C c 1) ∗ WtI C c (qRe c) 2 32 32) ⊢ iprop(pts c cc0_scratch1 Finset.univ fullShare (Gkv C c) ∗ KvGot C c) := by
  have h : WtI C c (qRe c) 2 32 32 ⊢ iprop(bigSep (Finset.Ico 1 16) (fun d => iprop(pts c cc0_scratch1 (kvReg (src c d) 0) fullShare (Gkv C c) ∗ pts c cc0_scratch1 (kvReg (src c d) 1) fullShare (Gkv C c)))
      ∗ bigSep (Finset.Ico 2 32) (fun e => AT1 c (qRe c e))) := by
    rw [← pairs15 (fun d j => pts c cc0_scratch1 (kvReg (src c d) j) fullShare (Gkv C c))]
    unfold WtI
    have hm : bigSep (Finset.Ico 2 32) (fun d => PA C c (qRe c d)) ⊢ bigSep (Finset.Ico 2 32) (fun e => iprop(pts c cc0_scratch1 (kvReg (src c (e / 2)) (e % 2)) fullShare (Gkv C c) ∗ AT1 c (qRe c e))) :=
      bigSep_mono fun e he => by
        have he := Finset.mem_Ico.mp he
        exact pa_kv C c (src_ne c (by omega) (by omega)) (by omega)
    rw [bigSep_sep'] at hm
    iintro ⟨-, H⟩
    iapply hm
    iexact H
  rw [kv_parts c src (src_inj c) (src_key c) (Gkv C c), bigSep_Ico_succ_bot (by decide), src0]
  unfold LocDone LocD KvGot
  iintro ⟨⟨⟨⟨H0, H0'⟩, Hv0⟩, ⟨⟨H1, H1'⟩, Hv1⟩⟩, HW⟩
  ihave HW := h $$ HW
  icases HW with ⟨HW, HA⟩
  iframe

theorem cond36_iff : ∀ c : Dev nD, k0_cond36 c = 1#1 ↔ act c (qRe c 31) = true := by decide +kernel

variable {I : Ins F}

theorem part105_ok {v285 v419 v1109 v1128 v1129 c3 v1130 c1} {Q : (Σ' (v1145 : FVec F S256x512 .bf16) (v1160 : FVec F S128x64 .f32), FVec F S128x1408 .f32) → SP F}
    (hQ : ∀ a, a = ⟨k0_pay15 (I.x4 c), k0_pay16 v285 v419 (rdG (Gkv C c) 0 0 0 inb_S2x2x1408x256_S1x1x1408x64_0_0_0_0) (rdG (Gkv C c) 1 0 0 inb_S2x2x1408x256_S1x1x1408x64_1_0_0_0),
        k0_pay17 v285 v419 (rdG (Gkv C c) 0 0 64 inb_S2x2x1408x256_S1x1x1408x64_0_0_0_64)⟩ →
      iprop(Pers C ∗ (R ∗ St4 I c ∗ KvGot C c) ∗ Ow c (oR c) ∗ pts c cc0_scratch1 Finset.univ fullShare (Gkv C c)) ⊢ Q a) :
    iprop(Pers C ∗ (R ∗ St4 I c ∗ LocDone C c 0 ∗ LocDone C c 1) ∗ Ow c (oR c) ∗ WtI C c (qRe c) 2 32 31)
      ⊢ WP c (At (k0_part105 (F := F)) c v285 v419 v1109 v1128 v1129 c3 v1130 c1) Q := by
  simp only [At, k0_part105_eq_skeleton, k0_part105_skel, Prog.lift, Prog.bind_op, Prog.bind_ret, Prog.pure_eq_ret]
  refine recv_dite C (n := 31) (by decide) (by decide) cond36_iff lv_R (by clear * - c; revert c; decide +kernel) ?_
  have e1 : ∀ inb, View.readAt (Elt F) (Memref.whole cc0_stg4_0).view (Rect.unit (s := S256x512) ![0, 0] ![256, 512] inb).toLoadRect (I.x4 c) = I.x4 c :=
    fun inb => Memref.readAt_unit_zero (Elt F) cc0_stg4_0 z2 inb (I.x4 c)
  have hq := hQ _ rfl
  simp only [rdG] at hq
  have hg := kv_gather C (c := c)
  iintro ⟨HP, ⟨HR, H4, HL⟩, HO, HW⟩
  icombine HL HW as HL
  ihave HL := hg $$ HL
  icases HL with ⟨HG, HK⟩
  iapply (wp_load Variants.none (c : Thread nD τ) none Set.univ (m := Memref.whole cc0_stg4_0) (Finset.subset_univ _)) $$ H4; iintro H4
  iapply (wp_load Variants.none (c : Thread nD τ) none Set.univ (m := kvM) (Finset.subset_univ _)) $$ HG; iintro HG
  iapply (wp_load Variants.none (c : Thread nD τ) none Set.univ (m := kvM) (Finset.subset_univ _)) $$ HG; iintro HG
  iapply (wp_load Variants.none (c : Thread nD τ) none Set.univ (m := kvM) (Finset.subset_univ _)) $$ HG; iintro HG
  rw [e1, wp_ret]
  imodintro
  iapply hq
  iframe

/-- The standing while the gathered keys and values are read. -/
abbrev GkAt (c : Dev nD) (R : SP F) : SP F := iprop(Pers C ∗ R ∗ Ow c (oR c) ∗ pts c cc0_scratch1 Finset.univ fullShare (Gkv C c))

theorem part106_ok {v285 v419 v1166} {Q : (Σ' (v1175 : FVec F S128x64 .f32) (v1190 : FVec F S128x64 .f32) (v1197 : FVec F S128x1408 .f32), FVec F S128x1 .f32) → SP F}
    (hQ : ∀ a, a = ⟨k0_pay18 v1166 (rdG (Gkv C c) 1 0 64 inb_S2x2x1408x256_S1x1x1408x64_1_0_0_64),
        k0_pay19 v285 v419 (rdG (Gkv C c) 0 0 128 inb_S2x2x1408x256_S1x1x1408x64_0_0_0_128) (rdG (Gkv C c) 1 0 128 inb_S2x2x1408x256_S1x1x1408x64_1_0_0_128),
        k0_pay20 v285 v419 (rdG (Gkv C c) 0 0 192 inb_S2x2x1408x256_S1x1x1408x64_0_0_0_192), k0_pay21 v285 v419 (rdG (Gkv C c) 0 0 192 inb_S2x2x1408x256_S1x1x1408x64_0_0_0_192)⟩ →
      GkAt C c R ⊢ Q a) :
    GkAt C c R ⊢ WP c (At (k0_part106 (F := F)) v285 v419 v1166) Q := by
  unfold GkAt at hQ ⊢
  simp only [At, k0_part106_eq_skeleton, k0_part106_skel, Prog.lift, Prog.bind_op, Prog.bind_ret, Prog.pure_eq_ret]
  have hq := hQ _ rfl
  simp only [rdG] at hq
  iintro ⟨HP, HR, HO, HG⟩
  iapply (wp_load Variants.none (c : Thread nD τ) none Set.univ (m := kvM) (Finset.subset_univ _)) $$ HG; iintro HG
  iapply (wp_load Variants.none (c : Thread nD τ) none Set.univ (m := kvM) (Finset.subset_univ _)) $$ HG; iintro HG
  iapply (wp_load Variants.none (c : Thread nD τ) none Set.univ (m := kvM) (Finset.subset_univ _)) $$ HG; iintro HG
  iapply (wp_load Variants.none (c : Thread nD τ) none Set.univ (m := kvM) (Finset.subset_univ _)) $$ HG; iintro HG
  rw [wp_ret]
  imodintro
  iapply hq
  iframe

theorem part107_ok {v290 v419 v1145 v1160 v1175 v1190 v1197 v1199} {Q : (Σ' (v1208 : FVec F S128x512 .f32) (v1223 : FVec F S128x64 .f32) (v1232 : FVec F S128x1 .f32) (v1234 : FVec F S1408x64 .bf16) (v1235 : FVec F S128x1408 .bf16), FVec F S128x64 .f32) → SP F}
    (hQ : ∀ a, a = ⟨k0_pay22 v1145 v1160 v1175 v1190 v1197 v1199 (rdG (Gkv C c) 1 0 192 inb_S2x2x1408x256_S1x1x1408x64_1_0_0_192),
        k0_pay23 v290 v419 (rdG (Gkv C c) 0 1 0 inb_S2x2x1408x256_S1x1x1408x64_0_1_0_0) (rdG (Gkv C c) 1 1 0 inb_S2x2x1408x256_S1x1x1408x64_1_1_0_0),
        k0_pay25 v290 v419 (rdG (Gkv C c) 0 1 64 inb_S2x2x1408x256_S1x1x1408x64_0_1_0_64), k0_pay26 (rdG (Gkv C c) 1 1 64 inb_S2x2x1408x256_S1x1x1408x64_1_1_0_64),
        k0_pay27 v290 v419 (rdG (Gkv C c) 0 1 64 inb_S2x2x1408x256_S1x1x1408x64_0_1_0_64), constant S128x64 .f32 0x00000000#32⟩ →
      GkAt C c R ⊢ Q a) :
    GkAt C c R ⊢ WP c (At (k0_part107 (F := F)) v290 v419 v1145 v1160 v1175 v1190 v1197 v1199) Q := by
  unfold GkAt at hQ ⊢
  simp only [At, k0_part107_eq_skeleton, k0_part107_skel, Prog.lift, Prog.bind_op, Prog.bind_ret, Prog.pure_eq_ret]
  have hq := hQ _ rfl
  simp only [rdG] at hq
  iintro ⟨HP, HR, HO, HG⟩
  iapply (wp_load Variants.none (c : Thread nD τ) none Set.univ (m := kvM) (Finset.subset_univ _)) $$ HG; iintro HG
  iapply (wp_load Variants.none (c : Thread nD τ) none Set.univ (m := kvM) (Finset.subset_univ _)) $$ HG; iintro HG
  iapply (wp_load Variants.none (c : Thread nD τ) none Set.univ (m := kvM) (Finset.subset_univ _)) $$ HG; iintro HG
  iapply (wp_load Variants.none (c : Thread nD τ) none Set.univ (m := kvM) (Finset.subset_univ _)) $$ HG; iintro HG
  iapply (wp_load Variants.none (c : Thread nD τ) none Set.univ (m := kvM) (Finset.subset_univ _)) $$ HG; iintro HG
  rw [wp_ret]
  imodintro
  iapply hq
  iframe

theorem part108_ok {v290 v419 v1145 v1208 v1223 v1232 v1234 v1235 cst} {Q : (Σ' (v1271 : FVec F S128x512 .f32), FVec F S128x512 .bf16) → SP F}
    (hQ : ∀ a, a = ⟨k0_pay28 v290 v419 v1145 v1223 v1232 v1234 v1235 cst (rdG (Gkv C c) 0 1 128 inb_S2x2x1408x256_S1x1x1408x64_0_1_0_128) (rdG (Gkv C c) 1 1 128 inb_S2x2x1408x256_S1x1x1408x64_1_1_0_128)
        (rdG (Gkv C c) 0 1 192 inb_S2x2x1408x256_S1x1x1408x64_0_1_0_192) (rdG (Gkv C c) 1 1 192 inb_S2x2x1408x256_S1x1x1408x64_1_1_0_192), k0_pay29 v1208⟩ →
      GkAt C c R ⊢ Q a) :
    GkAt C c R ⊢ WP c (At (k0_part108 (F := F)) v290 v419 v1145 v1208 v1223 v1232 v1234 v1235 cst) Q := by
  unfold GkAt at hQ ⊢
  simp only [At, k0_part108_eq_skeleton, k0_part108_skel, Prog.lift, Prog.bind_op, Prog.bind_ret, Prog.pure_eq_ret]
  have hq := hQ _ rfl
  simp only [rdG] at hq
  iintro ⟨HP, HR, HO, HG⟩
  iapply (wp_load Variants.none (c : Thread nD τ) none Set.univ (m := kvM) (Finset.subset_univ _)) $$ HG; iintro HG
  iapply (wp_load Variants.none (c : Thread nD τ) none Set.univ (m := kvM) (Finset.subset_univ _)) $$ HG; iintro HG
  iapply (wp_load Variants.none (c : Thread nD τ) none Set.univ (m := kvM) (Finset.subset_univ _)) $$ HG; iintro HG
  iapply (wp_load Variants.none (c : Thread nD τ) none Set.univ (m := kvM) (Finset.subset_univ _)) $$ HG; iintro HG
  rw [wp_ret]
  imodintro
  iapply hq
  iframe

theorem part109_ok {v2 v1271 v1272} {Q : PUnit → SP F}
    (hQ : iprop(Pers C ∗ R ∗ Ow c (oR c) ∗ pts c cc0_scratch2 Finset.univ fullShare (fill3 (k0_pay30 v1272) (k0_pay31 v1271))) ⊢ Q ⟨⟩) :
    iprop(Pers C ∗ R ∗ Ow c (oR c) ∗ ∃ f, pts c cc0_scratch2 Finset.univ fullShare f) ⊢ WP c (At (k0_part109 (F := F)) v2 v1271 v1272) Q := by
  simp only [At, k0_part109_eq_skeleton, k0_part109_skel, Prog.lift, Prog.bind_op, Prog.bind_ret, Prog.pure_eq_ret]
  iintro ⟨HP, HR, HO, ⟨%f, Hs⟩⟩
  iapply (wp_load Variants.none (c : Thread nD τ) none Set.univ (m := psM) (Finset.subset_univ _)) $$ Hs; iintro Hs
  iapply (wp_store Variants.none (c : Thread nD τ) none Set.univ (m := psM) (r := Rect.unit (s := S2x128x512) ![0, 0, 0] S1x128x512.size inb_S2x128x512_S1x128x512_0_0_0) (Mk := Finset.univ) (Finset.subset_univ _)) $$ Hs; iintro Hs
  iapply (wp_load Variants.none (c : Thread nD τ) none Set.univ (m := psM) (Finset.subset_univ _)) $$ Hs; iintro Hs
  iapply (wp_store Variants.none (c : Thread nD τ) none Set.univ (m := psM) (r := Rect.unit (s := S2x128x512) ![1, 0, 0] S1x128x512.size inb_S2x128x512_S1x128x512_1_0_0) (Mk := Finset.univ) (Finset.subset_univ _)) $$ Hs; iintro Hs
  rw [fill3_ps, wp_ret]
  imodintro
  iapply hQ
  iframe

end Cert.KernelIdealProof
-- ==== Proof.KIdeal.Parts4.lean ====
/-
The two exchanges of rows.
-/
module

public import proofs.«01_k».proof.Proof.KIdeal.Parts3

@[expose] public section

noncomputable section

namespace Cert.KernelIdealProof

set_option pp.maxSteps 300
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

variable {c : Dev nD} {α β : Type} {Q : α → SP F} {R : SP F} {O : CellTallies nD τ sig Unit}

/-! ## The exchange of partial sums -/

theorem off105_eq : ∀ c : Dev nD, k0_off105 c = ![c.val, 0, 0] := by decide +kernel
theorem off106_eq : ∀ c : Dev nD, k0_off106 c = ![c.val / 8, c.val % 8 * 16, 0] := by decide +kernel
theorem off107_eq : ∀ c : Dev nD, k0_off107 c 0 = c.val := by decide +kernel

/-- The own rows of the partial sums in place: their source and their copy. -/
def LocRs (c : Dev nD) : sProp 𝕄 :=
  iprop(pts c cc0_scratch3 (rsReg c) fullShare (Grs C c) ∗ pts c cc0_scratch2 (psReg c) fullShare (C.ps c))
def RsIn (c : Dev nD) : sProp 𝕄 :=
  iprop(pts c cc0_scratch2 (psReg c) fullShare (C.ps c) ∗ (∃ f, pts c cc0_scratch3 (rsReg c) fullShare f) ∗ semVal (cell c 134) 0)

theorem part110_ok {v2} {Q : (Σ' (v1324 : BitVec 32) (v1343 : BitVec 32) (v1344 : BitVec 32) (v1345 : BitVec 1), BitVec 1) → SP F}
    (hQ : ∀ a, iprop(Pers C ∗ R ∗ Fl c 134 NRS (LocRs C c)) ⊢ Q a) :
    iprop(Pers C ∗ R ∗ RsIn C c) ⊢ WP c (At (k0_part110 (F := F)) c v2) Q := by
  simp only [At, k0_part110_eq_skeleton, k0_part110_skel, Prog.lift, Prog.bind_op, Prog.bind_ret, Prog.pure_eq_ret]
  refine loc_step C NRS_pos (sem12_eq (m := 0) rfl) (credit_rs _ _ _) (q := fullShare) (fs := C.ps c) (D := LocRs C c) ?_ ?_ (fun fd => ?_) (ret_step (hQ _))
  · rw [set_ps (off106_eq c)]
  · rw [set_rs (off105_eq c)]
  · unfold LocRs
    rw [set_ps (off106_eq c), set_rs (off105_eq c)]
    congr 1
    exact land_rs C c c (off106_eq c) (off105_eq c) c fd

abbrev RsAt (c : Dev nD) (R : SP F) (n : ℕ) : SP F :=
  iprop(Pers C ∗ R ∗ Ow c (oA c + sndDebt c (fun _ => qRR c.val) n) ∗ SndI c qSR (fun _ => qRR c.val) (SRs C c) (DRs c) n)
abbrev RrAt (c : Dev nD) (R : SP F) (n : ℕ) : SP F := iprop(Pers C ∗ R ∗ Ow c (oA c) ∗ WtI C c (fun d => qRR (src c d).val) 1 16 n)

theorem lvl134 {j : ℕ} (hj : j < 2) : lvl (.dma (mkS (134 + j))) = 0 := by
  unfold lvl; dsimp only; rw [mkS_val (by omega), if_neg (by omega), if_neg (by omega), if_neg (by omega), if_neg (by omega), if_neg (by omega), if_neg (by omega)]

theorem part129_ok {v2 v2010 v2029 v2030 v2031 v2032 v2033} {Q : (PUnit) → SP F}
    (hQ : ∀ a, iprop(Pers C ∗ (R ∗ bigSep (Finset.Ico 1 16) (fun d => crd c (qSR d))) ∗ Ow c (oA c) ∗ (LocRs C c ∗ semVal (cell c 134) 0)) ⊢ Q a) :
    RsAt C c iprop(R ∗ Fl c 134 NRS (LocRs C c)) 15 ⊢ WP c (At (k0_part129 (F := F)) c v2 v2010 v2029 v2030 v2031 v2032 v2033) Q := by
  unfold RsAt
  simp only [At, k0_part129_eq_skeleton, k0_part129_skel, Prog.lift, Prog.bind_op, Prog.bind_ret, Prog.pure_eq_ret]
  refine rs_send C (n := 15) (by decide) (by decide) (by decide +kernel) (by clear * - c; revert c; decide +kernel) (off105_eq c) rfl (off107_eq c) ?_
  rw [sndDebt_end, add_zero]
  refine (show _ ⊢ iprop(Pers C ∗ (R ∗ SndI c qSR (fun _ => qRR c.val) (SRs C c) (DRs c) 16) ∗ Ow c (oA c) ∗ Fl c 134 NRS (LocRs C c)) from by
    iintro ⟨HP, ⟨HR, H0⟩, HO, HX⟩; iframe).trans ?_
  refine locw_step C (sem12_eq (m := 0) rfl) (credit_rs _ _ _) (fun g u hg => ?_) (ret_step (BIBase.Entails.trans ?_ (hQ _)))
  · rw [lvl134 (j := 0) (by decide)]; exact ⟨(lv_A g u hg).1, lt_trans (by decide) (lv_A g u hg).2⟩
  · iintro ⟨HP, ⟨HR, HX⟩, HO, HY⟩
    ihave HX := snd_end $$ HX
    iframe

/-- What is left over when the partial sums are gathered. -/
def RsGot (c : Dev nD) : sProp 𝕄 :=
  iprop(bigSep (Finset.Ico 1 16) (fun d => AT1 c (qRR (src c d).val)) ∗ pts c cc0_scratch2 (psReg c) fullShare (C.ps c) ∗ semVal (cell c 134) 0)

theorem rs_gather : iprop((LocRs C c ∗ semVal (cell c 134) 0) ∗ WtI C c (fun d => qRR (src c d).val) 1 16 16) ⊢ iprop(pts c cc0_scratch3 Finset.univ fullShare (Grs C c) ∗ RsGot C c) := by
  have hm : bigSep (Finset.Ico 1 16) (fun d => PA C c (qRR (src c d).val))
      ⊢ bigSep (Finset.Ico 1 16) (fun d => iprop(pts c cc0_scratch3 (rsReg (src c d)) fullShare (Grs C c) ∗ AT1 c (qRR (src c d).val))) :=
    bigSep_mono fun e he => by
      have he := Finset.mem_Ico.mp he
      exact pa_rr C c (src_ne c he.1 he.2)
  rw [bigSep_sep'] at hm
  rw [rs_parts c src (src_inj c) (src_key c) (Grs C c), bigSep_Ico_succ_bot (by decide), src0]
  unfold LocRs RsGot WtI
  iintro ⟨⟨⟨H0, H0'⟩, Hv0⟩, ⟨-, HW⟩⟩
  ihave HW := hm $$ HW
  icases HW with ⟨HW, HA⟩
  iframe

/-! ## The exchange of shares -/

/-- The own share in place: its copy, and the part of the source lent for it. -/
def LocAg (c : Dev nD) : sProp 𝕄 :=
  iprop(pts c cc0_scratch5 (rsReg c) fullShare (Gag C) ∗ SAg C c 0)
def AgIn (c : Dev nD) : sProp 𝕄 :=
  iprop((∃ f, pts c cc0_scratch4 Finset.univ fullShare f) ∗ (∃ f, pts c cc0_scratch5 (rsReg c) fullShare f) ∗ semVal (cell c 135) 0)
/-- The parts of the own share lent for the sends, and what is kept of it. -/
def AgLent (c : Dev nD) : sProp 𝕄 :=
  iprop(bigSep (Finset.Ico 1 16) (SAg C c) ∗ pts c cc0_scratch4 Finset.univ (shareDrop fullShare 16) (C.ag c))

theorem ag_lend : pts c cc0_scratch4 Finset.univ fullShare (C.ag c) ⊢ iprop(SAg C c 0 ∗ AgLent C c) := by
  refine (show _ ⊢ _ from (Transfers.pointsTo_toks_range (nD := nD) (τ := τ) (sig := sig) (Ix := Unit) (Val := Elt F) (Name := ℕ) (U := UU) (Lvl := ℕ) (ℓ := (c : Thread nD τ).loc cc0_scratch4) (S := Finset.univ) (f := C.ag c) fullShare 16).1).trans ?_
  rw [Finset.range_eq_Ico, bigSep_Ico_succ_bot (by decide)]
  unfold SAg AgLent
  iintro ⟨HD, H0, HX⟩
  iframe
  iexact HX

variable {I : Ins F}

theorem part138_ok (hI : Good C I) {v2 v2335} {Q : (Σ' (v2366 : BitVec 32) (c16_i32_1475 : BitVec 32), BitVec 32) → SP F}
    (hQ : ∀ a, iprop(Pers C ∗ ((R ∗ pts c cc0_scratch3 Finset.univ fullShare (Grs C c) ∗ RsGot C c ∗ AgLent C c) ∗ Ow c (oA c)) ∗ Fl c 135 NRS (LocAg C c)) ⊢ Q a) :
    RrAt C c iprop(R ∗ (LocRs C c ∗ semVal (cell c 134) 0) ∗ AgIn c) 15 ⊢ WP c (At (k0_part138 (F := F)) c v2 v2335) Q := by
  unfold RrAt
  simp only [At, k0_part138_eq_skeleton, k0_part138_skel, Prog.lift, Prog.bind_op, Prog.bind_ret, Prog.pure_eq_ret]
  refine rr_wait C (n := 15) (by decide) (by decide) lv_A (by clear * - c; revert c; decide +kernel) ?_
  have e3 : ∀ inb, View.readAt (Elt F) (Memref.whole cc0_scratch3).view (Rect.unit (s := S16x16x512) ![0, 0, 0] ![16, 16, 512] inb).toLoadRect (Grs C c) = Grs C c :=
    fun inb => Memref.readAt_unit_zero (Elt F) cc0_scratch3 z3 inb (Grs C c)
  have hg := rs_gather C (c := c)
  have hl := ag_lend C (c := c)
  have e4 : ∀ (f w : S16x512.Idx → Elt F .bf16), (agsM.access (Rect.unit (s := S16x512) ![0, 0] S16x512.size inb_S16x512_S16x512_0_0)).write (Elt F) f w Finset.univ = w :=
    fun f w => Memref.write_access_unit_zero_univ (Elt F) cc0_scratch4 z2 inb_S16x512_S16x512_0_0 f w
  unfold AgIn
  iintro ⟨HP, ⟨HR, HL, ⟨⟨%f, Hs⟩, H5, Hv⟩⟩, HO, HW⟩
  icombine HL HW as HL
  ihave HL := hg $$ HL
  icases HL with ⟨HG, HK⟩
  iapply (wp_load Variants.none (c : Thread nD τ) none Set.univ (m := Memref.whole cc0_scratch3) (Finset.subset_univ _)) $$ HG; iintro HG
  iapply (wp_load Variants.none (c : Thread nD τ) none Set.univ (m := agsM) (Finset.subset_univ _)) $$ Hs; iintro Hs
  iapply (wp_store Variants.none (c : Thread nD τ) none Set.univ (m := agsM) (r := Rect.unit (s := S16x512) ![0, 0] S16x512.size inb_S16x512_S16x512_0_0) (Mk := Finset.univ) (Finset.subset_univ _)) $$ Hs; iintro Hs
  rw [e3, e4, ← hI.ag c]
  ihave Hs := hl $$ Hs
  icases Hs with ⟨Hs, HA⟩
  refine BIBase.Entails.trans ?_ (loc_step C (i := 135) (R := iprop((R ∗ pts c cc0_scratch3 Finset.univ fullShare (Grs C c) ∗ RsGot C c ∗ AgLent C c) ∗ Ow c (oA c))) (S := SAg C c 0) (T := iprop(∃ f, pts c cc0_scratch5 (rsReg c) fullShare f)) NRS_pos (sem12_eq (m := 1) rfl) (credit_ag _ _ _) (q := shareTokN fullShare 0) (fs := C.ag c) (D := LocAg C c) ?_ ?_ (fun fd => ?_) (ret_step (hQ _)))
  · iintro ⟨⟨⟨⟨⟨⟨⟨⟨HP, HR⟩, H5⟩, Hv⟩, HO⟩, HK⟩, HG⟩, Hs⟩, HA⟩
    iframe
  · rw [set_ags]; exact Entails.refl _
  · rw [set_ag (off105_eq c)]
  · unfold LocAg
    rw [set_ags, set_ag (off105_eq c)]
    congr 1
    exact land_ag C c (off105_eq c) c fd

abbrev AgAt (c : Dev nD) (R : SP F) (n : ℕ) : SP F :=
  iprop(Pers C ∗ R ∗ Ow c (0 + sndDebt c (fun _ => qRA c.val) n) ∗ SndI c qSA (fun _ => qRA c.val) (SAg C c) (DAg c) n)
abbrev RaAt (c : Dev nD) (R : SP F) (n : ℕ) : SP F := iprop(Pers C ∗ R ∗ Ow c 0 ∗ WtI C c (fun d => qRA (src c d).val) 1 16 n)

theorem part147_ok {v2} {Q : (Σ' (v2685 : BitVec 32), BitVec 32) → SP F}
    (hQ : ∀ a, RaAt C c iprop(R ∗ bigSep (Finset.Ico 1 16) (fun d => crd c (qSA d)) ∗ LocAg C c ∗ semVal (cell c 135) 0) 2 ⊢ Q a) :
    AgAt C c iprop(R ∗ Fl c 135 NRS (LocAg C c) ∗ WtI C c (fun d => qRA (src c d).val) 1 16 1) 16 ⊢ WP c (At (k0_part147 (F := F)) c v2) Q := by
  unfold AgAt; unfold RaAt at hQ
  simp only [At, k0_part147_eq_skeleton, k0_part147_skel, Prog.lift, Prog.bind_op, Prog.bind_ret, Prog.pure_eq_ret]
  rw [sndDebt_end, add_zero]
  refine (show _ ⊢ iprop(Pers C ∗ (R ∗ SndI c qSA (fun _ => qRA c.val) (SAg C c) (DAg c) 16 ∗ WtI C c (fun d => qRA (src c d).val) 1 16 1) ∗ Ow c 0 ∗ Fl c 135 NRS (LocAg C c)) from by
    iintro ⟨HP, ⟨HR, H0, H1⟩, HO, HX⟩; iframe).trans ?_
  refine locw_step C (sem12_eq (m := 1) rfl) (credit_ag _ _ _) (fun g u hg => absurd hg (Nat.lt_irrefl 0)) ?_
  refine (show _ ⊢ RaAt C c iprop(R ∗ bigSep (Finset.Ico 1 16) (fun d => crd c (qSA d)) ∗ LocAg C c ∗ semVal (cell c 135) 0) 1 from by
    unfold RaAt
    iintro ⟨HP, ⟨HR, HX, HW⟩, HO, HY⟩
    ihave HX := snd_end $$ HX
    iframe).trans ?_
  unfold RaAt
  exact ra_wait C (n := 1) (by decide) (by decide) (by clear * - c; revert c; decide +kernel) (ret_step (hQ _))

/-- What is left over when the shares are gathered. -/
def AgGot (c : Dev nD) : sProp 𝕄 :=
  iprop(bigSep (Finset.Ico 1 16) (fun d => AT1 c (qRA (src c d).val)) ∗ SAg C c 0 ∗ semVal (cell c 135) 0)

theorem ag_gather : iprop((LocAg C c ∗ semVal (cell c 135) 0) ∗ WtI C c (fun d => qRA (src c d).val) 1 16 16) ⊢ iprop(pts c cc0_scratch5 Finset.univ fullShare (Gag C) ∗ AgGot C c) := by
  have hm : bigSep (Finset.Ico 1 16) (fun d => PA C c (qRA (src c d).val))
      ⊢ bigSep (Finset.Ico 1 16) (fun d => iprop(pts c cc0_scratch5 (rsReg (src c d)) fullShare (Gag C) ∗ AT1 c (qRA (src c d).val))) :=
    bigSep_mono fun e he => by
      have he := Finset.mem_Ico.mp he
      exact pa_ra C c (src_ne c he.1 he.2)
  rw [bigSep_sep'] at hm
  rw [ag_parts c src (src_inj c) (src_key c) (Gag C), bigSep_Ico_succ_bot (by decide), src0]
  unfold LocAg AgGot WtI
  iintro ⟨⟨⟨H0, H0'⟩, Hv0⟩, ⟨-, HW⟩⟩
  ihave HW := hm $$ HW
  icases HW with ⟨HW, HA⟩
  iframe

theorem part155_ok {v2} {Q : (Σ' (v2946 : BitVec 32) (c8_i32_1868 : BitVec 32) (v2947 : BitVec 32) (v2952 : BitVec 32), BitVec 32) → SP F}
    (hQ : ∀ a, iprop(Pers C ∗ (R ∗ pts c cc0_stg5_0 Finset.univ fullShare (outV C) ∗ pts c cc0_scratch5 Finset.univ fullShare (Gag C) ∗ AgGot C c) ∗ Ow c 0) ⊢ Q a) :
    RaAt C c iprop(R ∗ (∃ f, pts c cc0_stg5_0 Finset.univ fullShare f) ∗ LocAg C c ∗ semVal (cell c 135) 0) 15 ⊢ WP c (At (k0_part155 (F := F)) c v2) Q := by
  unfold RaAt
  simp only [At, k0_part155_eq_skeleton, k0_part155_skel, Prog.lift, Prog.bind_op, Prog.bind_ret, Prog.pure_eq_ret]
  refine ra_wait C (n := 15) (by decide) (by decide) (by clear * - c; revert c; decide +kernel) ?_
  have e5 : ∀ inb, View.readAt (Elt F) (Memref.whole cc0_scratch5).view (Rect.unit (s := S16x16x512) ![0, 0, 0] ![16, 16, 512] inb).toLoadRect (Gag C) = Gag C :=
    fun inb => Memref.readAt_unit_zero (Elt F) cc0_scratch5 z3 inb (Gag C)
  have hg := ag_gather C (c := c)
  iintro ⟨HP, ⟨HR, ⟨%f, Hs⟩, HL⟩, HO, HW⟩
  icombine HL HW as HL
  ihave HL := hg $$ HL
  icases HL with ⟨HG, HK⟩
  iapply (wp_load Variants.none (c : Thread nD τ) none Set.univ (m := Memref.whole cc0_scratch5) (Finset.subset_univ _)) $$ HG; iintro HG
  iapply (wp_load Variants.none (c : Thread nD τ) none Set.univ (m := outM) (Finset.subset_univ _)) $$ Hs; iintro Hs
  iapply (wp_store Variants.none (c : Thread nD τ) none Set.univ (m := outM) (r := Rect.unit (s := S2x128x512) ![0, 0, 0] S1x128x512.size inb_S2x128x512_S1x128x512_0_0_0) (Mk := Finset.univ) (Finset.subset_univ _)) $$ Hs; iintro Hs
  iapply (wp_load Variants.none (c : Thread nD τ) none Set.univ (m := outM) (Finset.subset_univ _)) $$ Hs; iintro Hs
  iapply (wp_store Variants.none (c : Thread nD τ) none Set.univ (m := outM) (r := Rect.unit (s := S2x128x512) ![1, 0, 0] S1x128x512.size inb_S2x128x512_S1x128x512_1_0_0) (Mk := Finset.univ) (Finset.subset_univ _)) $$ Hs; iintro Hs
  rw [fill3_out, e5, wp_ret]
  imodintro
  iapply (hQ _)
  unfold outV
  iframe

end Cert.KernelIdealProof
-- ==== Proof.KIdeal.Glue.lean ====
/-
How the pieces of the exchanges are put together and taken apart.
-/
module

public import proofs.«01_k».proof.Proof.KIdeal.Parts4

@[expose] public section

noncomputable section

namespace Cert.KernelIdealProof

set_option pp.maxSteps 300
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

variable {c : Dev nD} {α β : Type} {Q : α → SP F} {R : SP F} {O : CellTallies nD τ sig Unit}

omit [FloatOps F] [Named F] in
theorem bigSep_img {κ ι : Type} [DecidableEq κ] [DecidableEq ι] (f : ι → SP F) {T : Finset κ} {g : κ → ι} (hi : ∀ d ∈ T, ∀ e ∈ T, g d = g e → d = e) :
    bigSep (T.image g) f = bigSep T (fun d => f (g d)) := by
  induction T using Finset.induction_on with
  | empty => rw [Finset.image_empty, bigSep_empty, bigSep_empty]
  | insert t T ht ih =>
    rw [Finset.image_insert, bigSep_insert ht, bigSep_insert (fun hm => ?_), ih fun d hd e he => hi d (Finset.mem_insert_of_mem hd) e (Finset.mem_insert_of_mem he)]
    obtain ⟨d, hd, hgd⟩ := Finset.mem_image.mp hm
    exact ht (hi d (Finset.mem_insert_of_mem hd) t (Finset.mem_insert_self _ _) hgd ▸ hd)

theorem erase_tgt : ∀ c : Dev nD, Finset.univ.erase c = (Finset.Ico 1 16).image (tgt c) := by decide +kernel
theorem erase_src : ∀ c : Dev nD, Finset.univ.erase c = (Finset.Ico 1 16).image (src c) := by decide +kernel
omit [FloatOps F] [Named F] in
theorem bigSep_tgt (f : Dev nD → SP F) : bigSep (Finset.univ.erase c) f = bigSep (Finset.Ico 1 16) (fun d => f (tgt c d)) := by
  rw [erase_tgt, bigSep_img f]
  exact fun d hd e he h => tgt_inj c d (Finset.mem_Ico.mp hd).2 e (Finset.mem_Ico.mp he).2 (congrArg Fin.val h)
omit [FloatOps F] [Named F] in
theorem bigSep_src (f : Dev nD → SP F) : bigSep (Finset.univ.erase c) f = bigSep (Finset.Ico 1 16) (fun d => f (src c d)) := by
  rw [erase_src, bigSep_img f]
  exact fun d hd e he h => src_inj c d (Finset.mem_Ico.mp hd).2 e (Finset.mem_Ico.mp he).2 (congrArg Fin.val h)

/-! ## What is lent to the other devices at the start -/

/-- The own places of the gathered buffers: where the own data go. -/
def OwnPl (c : Dev nD) : SP F :=
  iprop(((∃ f, pts c cc0_scratch1 (kvReg c 0) fullShare f) ∗ (∃ f, pts c cc0_scratch1 (kvReg c 1) fullShare f))
    ∗ (∃ f, pts c cc0_scratch3 (rsReg c) fullShare f) ∗ (∃ f, pts c cc0_scratch5 (rsReg c) fullShare f))
def SigTok (c : Dev nD) : SP F := bigSep (Finset.Ico 1 16) (fun d => dutyTok ER (barCell (tgt c d)) 0 c)

theorem lend_start : iprop((∃ f, pts c cc0_scratch1 Finset.univ fullShare f) ∗ (∃ f, pts c cc0_scratch3 Finset.univ fullShare f) ∗ (∃ f, pts c cc0_scratch5 Finset.univ fullShare f) ∗ SigTok c)
    ⊢ iprop(SigI (F := F) c 1 ∗ OwnPl c) := by
  have h : ∀ (f1 : BKv (F := F)) (f3 f5 : BRs (F := F)), bigSep (Finset.Ico 1 16) (fun d => iprop(dutyTok ER (barCell (tgt c d)) 0 c
      ∗ (pts c cc0_scratch1 (kvReg (tgt c d) 0) fullShare f1 ∗ pts c cc0_scratch1 (kvReg (tgt c d) 1) fullShare f1) ∗ pts c cc0_scratch3 (rsReg (tgt c d)) fullShare f3 ∗ pts c cc0_scratch5 (rsReg (tgt c d)) fullShare f5))
      ⊢ SigI (F := F) c 1 := fun f1 f3 f5 => bigSep_mono fun d hd => by
    unfold barPay
    refine (show (_ : SP F) ⊢ _ from ?_)
    iintro ⟨HT, ⟨H0, H1⟩, H3, H5⟩
    isplitl [HT]; · iexact HT
    isplitl [H0]; · iexists f1; iexact H0
    isplitl [H1]; · iexists f1; iexact H1
    isplitl [H3]; · iexists f3; iexact H3
    iexists f5; iexact H5
  iintro ⟨⟨%f1, H1⟩, ⟨%f3, H3⟩, ⟨%f5, H5⟩, HT⟩
  have hh := h f1 f3 f5
  simp only [bigSep_sep'] at hh
  have e1 := kv_parts c tgt (tgt_inj c) (tgt_key c) f1
  have e3 := rs_parts c tgt (tgt_inj c) (tgt_key c) f3
  have e5 := ag_parts c tgt (tgt_inj c) (tgt_key c) f5
  rw [bigSep_Ico_succ_bot (by decide), tgt0] at e1 e3 e5
  rw [zero_add] at e1 e3 e5
  rw [bigSep_sep'] at e1
  rw [e1, e3, e5]
  refine (show (_ : SP F) ⊢ _ from ?_)
  iintro ⟨⟨⟨⟨⟨A0, A1⟩, H1, H1'⟩, A3, H3⟩, A5, H5⟩, HT⟩
  unfold OwnPl SigTok
  isplitl [H1 H1' H3 H5 HT]
  · iapply hh
    iframe
  isplitl [A0 A1]
  · isplitl [A0]
    · iexists f1; iexact A0
    · iexists f1; iexact A1
  isplitl [A3]
  · iexists f3; iexact A3
  · iexists f5; iexact A5

theorem bar_got : bigSep (Finset.univ.erase c) (fun d => barPay (F := F) d c)
    ⊢ iprop(bigSep (Finset.Ico 1 16) (DKv c 0) ∗ bigSep (Finset.Ico 1 16) (DKv c 1) ∗ bigSep (Finset.Ico 1 16) (DRs c) ∗ bigSep (Finset.Ico 1 16) (DAg c)) := by
  rw [bigSep_tgt]
  rw [← bigSep_sep', ← bigSep_sep', ← bigSep_sep']
  exact Entails.refl _

/-- The own keys and values, block by block: what goes to the own places and what is sent. -/
theorem kv_split : iprop(pts c cc0_scratch0 Finset.univ fullShare (C.kv c)) = iprop((pts c cc0_scratch0 (bfReg c 0) fullShare (C.kv c) ∗ pts c cc0_scratch0 (bfReg c 1) fullShare (C.kv c))
      ∗ bigSep (Finset.Ico 1 16) (SKv C c 0) ∗ bigSep (Finset.Ico 1 16) (SKv C c 1)) := by
  rw [bf_parts, bigSep_Ico_succ_bot (by decide), tgt0, bigSep_sep']
  rfl
theorem ps_split : iprop(pts c cc0_scratch2 Finset.univ fullShare (C.ps c)) = iprop(pts c cc0_scratch2 (psReg c) fullShare (C.ps c) ∗ bigSep (Finset.Ico 1 16) (SRs C c)) := by
  rw [ps_parts, bigSep_Ico_succ_bot (by decide), tgt0]
  rfl

/-! ## The tokens and credits of each exchange -/

def Toks (c : Dev nD) (qS qR : ℕ → ℕ) : SP F := bigSep (Finset.Ico 1 16) (fun d => iprop(tok c (qS d) ∗ tok (tgt c d) (qR d)))
theorem snd_in {qS qR : ℕ → ℕ} {S D : ℕ → SP F} : iprop(Toks c qS qR ∗ bigSep (Finset.Ico 1 16) S ∗ bigSep (Finset.Ico 1 16) D) ⊢ SndI c qS qR S D 1 := by
  unfold Toks SndI
  rw [← bigSep_sep', ← bigSep_sep', Finset.Ico_self, bigSep_empty]
  have h : bigSep (Finset.Ico 1 16) (fun d => iprop((tok (F := F) c (qS d) ∗ tok (tgt c d) (qR d)) ∗ S d ∗ D d)) ⊢ bigSep (Finset.Ico 1 16) (fun d => iprop(tok c (qS d) ∗ tok (tgt c d) (qR d) ∗ S d ∗ D d)) :=
    bigSep_mono fun d hd => by
      refine (show (_ : SP F) ⊢ _ from ?_)
      iintro ⟨⟨H1, H2⟩, H3, H4⟩
      iframe
  exact h.trans (Entails.of_eq (sep_emp_eq _).symm)

/-- A credit for every semaphore of a run that is used. -/
def Crs (c : Dev nD) (q : ℕ → ℕ) (a b : ℕ) : SP F := bigSep (Finset.Ico a b) (fun d => if act c (q d) then crd c (q d) else iprop(emp))
def Ats (c : Dev nD) (q : ℕ → ℕ) (a b : ℕ) : SP F := bigSep (Finset.Ico a b) (fun d => AT0 c (q d))
def Ats1 (c : Dev nD) (q : ℕ → ℕ) (a b : ℕ) : SP F := bigSep (Finset.Ico a b) (fun d => AT1 c (q d))
theorem wt_in {q : ℕ → ℕ} {a b : ℕ} : iprop(Crs c q a b ∗ Ats c q a b) ⊢ WtI C c q a b a := by
  unfold Crs Ats WtI
  rw [← bigSep_sep', Finset.Ico_self a, bigSep_empty]
  exact Entails.of_eq (sep_emp_eq _).symm
theorem crs_of {q : ℕ → ℕ} {a b : ℕ} (h : ∀ d, a ≤ d → d < b → act c (q d) = true) : bigSep (Finset.Ico a b) (fun d => crd c (q d)) ⊢ Crs (F := F) c q a b :=
  bigSep_mono fun d hd => by
    have hd := Finset.mem_Ico.mp hd
    rw [h d hd.1 hd.2, if_pos rfl]; exact Entails.refl _

/-! ## The end of the sends -/

/-- The sends' semaphores' credits, in the order they are waited for. -/
theorem crs_se : iprop(bigSep (Finset.Ico 1 16) (fun d => crd (F := F) c (qSR d)) ∗ bigSep (Finset.Ico 1 16) (fun d => crd c (qSA d))) ⊢ Crs c qSe 2 32 := by
  refine BIBase.Entails.trans ?_ (crs_of fun d h2 h32 => ?_)
  · rw [← bigSep_sep']
    have e := bigSep_pairs (fun e => crd (F := F) c (qSe e)) 1 15
    have e2 : bigSep (Finset.Ico 1 16) (fun d => iprop(crd (F := F) c (qSR d) ∗ crd c (qSA d))) = bigSep (Finset.Ico 1 16) (fun d => iprop(crd (F := F) c (qSe (2 * d)) ∗ crd c (qSe (2 * d + 1)))) :=
      bigSep_congr fun d hd => by
        unfold qSe
        rw [if_pos (by omega), if_neg (by omega), show 2 * d / 2 = d by omega, show (2 * d + 1) / 2 = d by omega]
    rw [e2]
    exact Entails.of_eq e.symm
  · unfold qSe
    split_ifs
    · exact act_SR c (by omega) (by omega)
    · exact act_SA c (by omega) (by omega)

theorem se_out : WtI C c qSe 2 32 32 ⊢ iprop((bigSep (Finset.Ico 1 16) (SRs C c) ∗ bigSep (Finset.Ico 1 16) (SAg C c)) ∗ Ats1 c qSe 2 32) := by
  unfold WtI Ats1
  rw [← bigSep_sep']
  have e := bigSep_pairs (fun e => PA C c (qSe e)) 1 15
  have e' := bigSep_pairs (fun e => AT1 (F := F) c (qSe e)) 1 15
  rw [show 2 * 1 = 2 from rfl, show 2 * (1 + 15) = 32 from rfl, show 1 + 15 = 16 from rfl] at e e'
  rw [e, e', ← bigSep_sep', Finset.Ico_self, bigSep_empty]
  have h : bigSep (Finset.Ico 1 16) (fun d => iprop(PA C c (qSe (2 * d)) ∗ PA C c (qSe (2 * d + 1))))
      ⊢ bigSep (Finset.Ico 1 16) (fun d => iprop((SRs C c d ∗ SAg C c d) ∗ AT1 c (qSe (2 * d)) ∗ AT1 c (qSe (2 * d + 1)))) := bigSep_mono fun d hd => by
    have hd := Finset.mem_Ico.mp hd
    unfold qSe
    rw [if_pos (by omega), if_neg (by omega), show 2 * d / 2 = d by omega, show (2 * d + 1) / 2 = d by omega]
    have h1 := pa_sr C c hd.1 hd.2
    have h2 := pa_sa C c hd.1 hd.2
    refine (show (_ : SP F) ⊢ _ from ?_)
    iintro ⟨HA, HB⟩
    ihave HA := h1 $$ HA
    ihave HB := h2 $$ HB
    icases HA with ⟨A1, A2⟩
    icases HB with ⟨B1, B2⟩
    iframe
  iintro ⟨-, H⟩
  iapply h
  iexact H

/-- The blocks sent are back, and their semaphores done with. -/
def KvEnd (c : Dev nD) (j : ℕ) : SP F := iprop(bigSep (Finset.Ico 1 16) (SKv C c j) ∗ Ats1 c (fun d => qS1 d j) 1 16)
theorem s1_in {j : ℕ} (hj : j < 2) (hb : needB (2 * c.val + j) = true) : iprop(KvOut C c j ∗ Ats c (fun d => qS1 d j) 1 16) ⊢ WtI C c (fun d => qS1 d j) 1 16 1 := by
  refine BIBase.Entails.trans ?_ (wt_in C)
  have h : KvOut C c j ⊢ Crs (F := F) c (fun d => qS1 d j) 1 16 := bigSep_mono fun d hd => by
    have hd := Finset.mem_Ico.mp hd
    rw [act_S1 c hd.1 hd.2 hj, hb, if_pos rfl, if_pos rfl]; exact Entails.refl _
  iintro ⟨H, HA⟩
  ihave H := h $$ H
  iframe
theorem s1_out {j : ℕ} (hj : j < 2) (hb : needB (2 * c.val + j) = true) : WtI C c (fun d => qS1 d j) 1 16 16 ⊢ KvEnd C c j := by
  unfold WtI KvEnd Ats1
  rw [← bigSep_sep']
  have h : bigSep (Finset.Ico 1 16) (fun d => PA C c (qS1 d j)) ⊢ bigSep (Finset.Ico 1 16) (fun d => iprop(SKv C c j d ∗ AT1 c (qS1 d j))) := bigSep_mono fun d hd => by
    have hd := Finset.mem_Ico.mp hd
    unfold PA AT1
    rw [act_S1 c hd.1 hd.2 hj, hb, if_pos rfl, if_pos rfl, pa_s1 C c hd.2 hj]; exact Entails.refl _
  iintro ⟨-, H⟩
  iapply h
  iexact H
theorem s1_idle {j : ℕ} (hj : j < 2) (hb : needB (2 * c.val + j) = false) : iprop(KvOut C c j ∗ Ats c (fun d => qS1 d j) 1 16) ⊢ KvEnd C c j := by
  have h : KvOut C c j ⊢ bigSep (Finset.Ico 1 16) (SKv C c j) := bigSep_mono fun d hd => by
    have hd := Finset.mem_Ico.mp hd
    rw [act_S1 c hd.1 hd.2 hj, hb, if_neg (by decide)]; exact Entails.refl _
  have h' : Ats c (fun d => qS1 d j) 1 16 ⊢ Ats1 (F := F) c (fun d => qS1 d j) 1 16 := bigSep_mono fun d hd => by
    have hd := Finset.mem_Ico.mp hd
    unfold AT0 AT1
    rw [act_S1 c hd.1 hd.2 hj, hb, if_neg (by decide)]; exact Entails.refl _
  unfold KvEnd
  iintro ⟨H, HA⟩
  ihave H := h $$ H
  ihave HA := h' $$ HA
  iframe
theorem done_of {S : Finset ℕ} (h : ∀ q ∈ S, act c q = false) : bigSep S (AT0 c) ⊢ bigSep S (AT1 (F := F) c) := bigSep_mono fun q hq => by
  unfold AT0 AT1
  rw [h q hq, if_neg (by decide)]; exact Entails.refl _
theorem idl_idle (q : ℕ) (hq : q ∈ Idl c) : act c q = false := (idl_act c q hq).2.2
attribute [local irreducible] Idl in
theorem idl_done : bigSep (Idl c) (AT0 (F := F) c) ⊢ bigSep (Idl c) (AT1 (F := F) c) := done_of (c := c) (S := Idl c) idl_idle
theorem ag_back : iprop(SAg C c 0 ∗ AgLent C c) ⊢ pts c cc0_scratch4 Finset.univ fullShare (C.ag c) := by
  refine BIBase.Entails.trans ?_ (show _ ⊢ _ from (Transfers.pointsTo_toks_range (nD := nD) (τ := τ) (sig := sig) (Ix := Unit) (Val := Elt F) (Name := ℕ) (U := UU) (Lvl := ℕ) (ℓ := (c : Thread nD τ).loc cc0_scratch4) (S := Finset.univ) (f := C.ag c) fullShare 16).2)
  rw [Finset.range_eq_Ico, bigSep_Ico_succ_bot (by decide)]
  unfold SAg AgLent
  iintro ⟨H0, HX, HD⟩
  iframe
  iexact HX

end Cert.KernelIdealProof
-- ==== Proof.KIdeal.Stages.lean ====
/-
What a device holds at each stage of the body.
-/
module

public import proofs.«01_k».proof.Proof.KIdeal.Glue

@[expose] public section

noncomputable section

namespace Cert.KernelIdealProof

set_option pp.maxSteps 300
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

variable {c : Dev nD} {α β : Type} {Q : α → SP F} {R : SP F} {O : CellTallies nD τ sig Unit}

/-- Everything of the later exchanges, kept from the start. -/
def Later (c : Dev nD) : SP F := iprop(Toks c qSR (fun _ => qRR c.val) ∗ Toks c qSA (fun _ => qRA c.val) ∗ Crs c (fun d => qRR (src c d).val) 1 16 ∗ Crs c (fun d => qRA (src c d).val) 1 16 ∗ Ats c (fun d => qS1 d 0) 1 16 ∗ Ats c (fun d => qS1 d 1) 1 16 ∗ Ats c qSe 2 32 ∗ Ats c (fun d => qRR (src c d).val) 1 16 ∗ Ats c (fun d => qRA (src c d).val) 1 16 ∗ bigSep (Idl c) (AT0 c) ∗ (∃ f, pts c cc0_scratch4 Finset.univ fullShare f) ∗ (∃ f, pts c cc0_stg5_0 Finset.univ fullShare f))

variable {I : Ins F}

/-- What a device holds when its body starts. -/
def BodyPre (c : Dev nD) : SP F :=
  iprop((cred (tallyAt (barCell c) () 15) ∗ atPos ER (barCell c) 0 ∅ 0)
    ∗ (semVal (cell c 134) 0 ∗ semVal (cell c 135) 0) ∗ (Toks c (fun d => qS1 d 0) (fun _ => qR1 c.val 0) ∗ Toks c (fun d => qS1 d 1) (fun _ => qR1 c.val 1))
    ∗ (Crs c (qRe c) 2 32 ∗ Ats c (qRe c) 2 32) ∗ (St0 I c ∗ St1 I c ∗ St4 I c) ∗ (∃ f, pts c cc0_scratch2 Finset.univ fullShare f) ∗ Later c)
def BodyIn (c : Dev nD) : SP F :=
  iprop(BodyPre (I := I) c ∗ (St2 I c ∗ St3 I c ∗ ∃ f, pts c cc0_scratch0 Finset.univ fullShare f)
    ∗ ((∃ f, pts c cc0_scratch1 Finset.univ fullShare f) ∗ (∃ f, pts c cc0_scratch3 Finset.univ fullShare f) ∗ (∃ f, pts c cc0_scratch5 Finset.univ fullShare f) ∗ SigTok c))

theorem sigDebt_end : sigDebt c 16 = 0 := by unfold sigDebt; rw [Finset.Ico_self, Finset.sum_empty]

/-- After the own barrier: what is kept beside the sends. -/
def Mid1 (c : Dev nD) : SP F :=
  iprop(((∃ f, pts c cc0_scratch3 (rsReg c) fullShare f) ∗ (∃ f, pts c cc0_scratch5 (rsReg c) fullShare f))
    ∗ (Crs c (qRe c) 2 32 ∗ Ats c (qRe c) 2 32) ∗ (St2 I c ∗ St3 I c ∗ St4 I c) ∗ (∃ f, pts c cc0_scratch2 Finset.univ fullShare f) ∗ Later c)

theorem to_loc : SgAt C c iprop((BodyPre (I := I) c ∗ OwnPl c) ∗ (St2 I c ∗ St3 I c ∗ pts c cc0_scratch0 Finset.univ fullShare (C.kv c))) (oB c) 16
    ⊢ iprop(Pers C ∗ (((Toks c (fun d => qS1 d 0) (fun _ => qR1 c.val 0) ∗ Toks c (fun d => qS1 d 1) (fun _ => qR1 c.val 1))
        ∗ (bigSep (Finset.Ico 1 16) (SKv C c 0) ∗ bigSep (Finset.Ico 1 16) (SKv C c 1)) ∗ (St0 I c ∗ St1 I c) ∗ Mid1 (I := I) c) ∗ LocIn C c 0 ∗ LocIn C c 1) ∗ Ow c (oB c)
      ∗ (cred (tallyAt (barCell c) () 15) ∗ atPos ER (barCell c) 0 ∅ 0)) := by
  unfold SgAt
  rw [sigDebt_end, add_zero, kv_split]
  unfold BodyPre OwnPl Mid1 LocIn
  iintro ⟨HP, ⟨⟨⟨HB, ⟨Hv0, Hv1⟩, HT, HC, ⟨S0, S1, S4⟩, H2, HL⟩, ⟨A0, A1⟩, A3, A5⟩, S2, S3, ⟨B0, B1⟩, HK⟩, HO, -⟩
  iframe

theorem to_kv : iprop(Pers C ∗ (((Toks c (fun d => qS1 d 0) (fun _ => qR1 c.val 0) ∗ Toks c (fun d => qS1 d 1) (fun _ => qR1 c.val 1))
        ∗ (bigSep (Finset.Ico 1 16) (SKv C c 0) ∗ bigSep (Finset.Ico 1 16) (SKv C c 1)) ∗ (St0 I c ∗ St1 I c) ∗ Mid1 (I := I) c) ∗ LocMid C c 0 ∗ LocMid C c 1) ∗ Ow c (oB c)
      ∗ (atPos ER (barCell c) 1 ∅ 0 ∗ bigSep (Finset.univ.erase c) (fun d => barPay (F := F) d c)))
    ⊢ iprop(Pers C ∗ ((Mid1 (I := I) c ∗ (LocMid C c 0 ∗ LocMid C c 1) ∗ atPos ER (barCell c) 1 ∅ 0 ∗ bigSep (Finset.Ico 1 16) (DRs c) ∗ bigSep (Finset.Ico 1 16) (DAg c))
        ∗ St0 I c ∗ St1 I c ∗ KvIn C c 1) ∗ Ow c (oB c) ∗ KvIn C c 0) := by
  have hb := bar_got (F := F) (c := c)
  have h0 := snd_in (F := F) (c := c) (qS := fun d => qS1 d 0) (qR := fun _ => qR1 c.val 0) (S := SKv C c 0) (D := DKv c 0)
  have h1 := snd_in (F := F) (c := c) (qS := fun d => qS1 d 1) (qR := fun _ => qR1 c.val 1) (S := SKv C c 1) (D := DKv c 1)
  unfold KvIn
  iintro ⟨HP, ⟨⟨⟨T0, T1⟩, ⟨K0, K1⟩, ⟨S0, S1⟩, HM⟩, L0, L1⟩, HO, HA, HB⟩
  ihave HB := hb $$ HB
  icases HB with ⟨D0, D1, D2, D3⟩
  icombine T0 K0 D0 as X0
  icombine T1 K1 D1 as X1
  ihave X0 := h0 $$ X0
  ihave X1 := h1 $$ X1
  iframe

theorem part85_ok {v2 v421 v422 c3_i32_249 v423} {Q : (Σ' (v457 : BitVec 32) (v458 : BitVec 32), BitVec 32) → SP F}
    (hQ : ∀ a, iprop(Pers C ∗ (R ∗ LocDone C c 0) ∗ Ow c (oR c) ∗ LocDone C c 1) ⊢ Q a) :
    iprop(Pers C ∗ (R ∗ LocMid C c 1) ∗ Ow c (oR c) ∗ LocMid C c 0) ⊢ WP c (At (k0_part85 (F := F)) c v2 v421 v422 c3_i32_249 v423) Q := by
  have lv0 : ∀ g u, 0 < oR c g u → g.1.2 = .tc ∧ 0 < lvl g.2 := fun g u h => ⟨(lv_R g u h).1, lt_trans (by decide) (lv_R g u h).2⟩
  simp only [At, k0_part85_eq_skeleton, k0_part85_skel, Prog.lift, Prog.bind_op, Prog.bind_ret, Prog.pure_eq_ret]
  refine locw_dite C (by decide) (fun h => ((by decide +kernel : ∀ c : Dev nD, k0_cond5 c = 1#1 ↔ needB (2 * c.val + 0) = true) c).mp h) (nb ((by decide +kernel : ∀ c : Dev nD, k0_cond5 c = 1#1 ↔ needB (2 * c.val + 0) = true) c)) lv0 rfl ?_
  refine (show _ ⊢ iprop(Pers C ∗ (R ∗ LocDone C c 0) ∗ Ow c (oR c) ∗ LocMid C c 1) from by
    iintro ⟨HP, ⟨HR, H1⟩, HO, H0⟩; iframe).trans ?_
  exact locw_dite C (by decide) (fun h => ((by decide +kernel : ∀ c : Dev nD, k0_cond6 c = 1#1 ↔ needB (2 * c.val + 1) = true) c).mp h) (nb ((by decide +kernel : ∀ c : Dev nD, k0_cond6 c = 1#1 ↔ needB (2 * c.val + 1) = true) c)) lv0 rfl (ret_step (hQ _))

/-- The sends of keys and values under way, the operands, and what is kept. -/
def Mid2 (c : Dev nD) : SP F :=
  iprop(((∃ f, pts c cc0_scratch3 (rsReg c) fullShare f) ∗ (∃ f, pts c cc0_scratch5 (rsReg c) fullShare f)) ∗ (∃ f, pts c cc0_scratch2 Finset.univ fullShare f)
    ∗ (St0 I c ∗ St1 I c ∗ St2 I c ∗ St3 I c) ∗ (KvOut C c 0 ∗ KvOut C c 1) ∗ atPos ER (barCell c) 1 ∅ 0 ∗ bigSep (Finset.Ico 1 16) (DRs c) ∗ bigSep (Finset.Ico 1 16) (DAg c) ∗ Later c)

theorem to_recv : iprop(Pers C ∗ ((Mid1 (I := I) c ∗ (LocMid C c 0 ∗ LocMid C c 1) ∗ atPos ER (barCell c) 1 ∅ 0 ∗ bigSep (Finset.Ico 1 16) (DRs c) ∗ bigSep (Finset.Ico 1 16) (DAg c))
        ∗ St0 I c ∗ St1 I c ∗ KvOut C c 0) ∗ Ow c (oR c) ∗ KvOut C c 1)
    ⊢ iprop(Pers C ∗ ((Mid2 C (I := I) c ∗ St4 I c ∗ WtI C c (qRe c) 2 32 2) ∗ LocMid C c 1) ∗ Ow c (oR c) ∗ LocMid C c 0) := by
  have hw := wt_in C (c := c) (q := qRe c) (a := 2) (b := 32)
  unfold Mid1 Mid2
  iintro ⟨HP, ⟨⟨⟨A, HC, ⟨S2, S3, S4⟩, H2, HL⟩, ⟨L0, L1⟩, HA, D2, D3⟩, S0, S1, K0⟩, HO, K1⟩
  ihave HC := hw $$ HC
  iframe

/-- After the attention: what is kept beside the exchange of partial sums. -/
def Mid3 (c : Dev nD) : SP F :=
  iprop((∃ f, pts c cc0_scratch5 (rsReg c) fullShare f) ∗ (St0 I c ∗ St1 I c ∗ St2 I c ∗ St3 I c ∗ St4 I c) ∗ (KvOut C c 0 ∗ KvOut C c 1) ∗ atPos ER (barCell c) 1 ∅ 0
    ∗ bigSep (Finset.Ico 1 16) (DAg c) ∗ pts c cc0_scratch1 Finset.univ fullShare (Gkv C c)
    ∗ (bigSep (Finset.Ico 2 32) (fun e => AT1 c (qRe c e)) ∗ (pts c cc0_scratch0 (bfReg c 0) fullShare (C.kv c) ∗ pts c cc0_scratch0 (bfReg c 1) fullShare (C.kv c)) ∗ semVal (cell c 135) 0)
    ∗ (Toks c qSA (fun _ => qRA c.val) ∗ Crs c (fun d => qRR (src c d).val) 1 16 ∗ Crs c (fun d => qRA (src c d).val) 1 16 ∗ Ats c (fun d => qS1 d 0) 1 16 ∗ Ats c (fun d => qS1 d 1) 1 16 ∗ Ats c qSe 2 32 ∗ Ats c (fun d => qRR (src c d).val) 1 16 ∗ Ats c (fun d => qRA (src c d).val) 1 16 ∗ bigSep (Idl c) (AT0 c) ∗ (∃ f, pts c cc0_scratch4 Finset.univ fullShare f) ∗ (∃ f, pts c cc0_stg5_0 Finset.univ fullShare f)))

/-- As `Mid2`, without the place of the partial sums. -/
def Mid2' (c : Dev nD) : SP F :=
  iprop(((∃ f, pts c cc0_scratch3 (rsReg c) fullShare f) ∗ (∃ f, pts c cc0_scratch5 (rsReg c) fullShare f))
    ∗ (St0 I c ∗ St1 I c ∗ St2 I c ∗ St3 I c) ∗ (KvOut C c 0 ∗ KvOut C c 1) ∗ atPos ER (barCell c) 1 ∅ 0 ∗ bigSep (Finset.Ico 1 16) (DRs c) ∗ bigSep (Finset.Ico 1 16) (DAg c) ∗ Later c)

theorem to_rs : iprop(Pers C ∗ (((Mid2' C (I := I) c ∗ St4 I c ∗ KvGot C c) ∗ pts c cc0_scratch1 Finset.univ fullShare (Gkv C c))) ∗ Ow c (oR c) ∗ pts c cc0_scratch2 Finset.univ fullShare (C.ps c))
    ⊢ iprop(Pers C ∗ (Mid3 C (I := I) c ∗ Ow c (oR c) ∗ SndI c qSR (fun _ => qRR c.val) (SRs C c) (DRs c) 1) ∗ RsIn C c) := by
  have h0 := snd_in (F := F) (c := c) (qS := qSR) (qR := fun _ => qRR c.val) (S := SRs C c) (D := DRs c)
  rw [ps_split]
  unfold Mid2' Mid3 KvGot RsIn Later
  iintro ⟨HP, ⟨⟨⟨⟨A3, A5⟩, ⟨S0, S1, S2, S3⟩, HK, HA, D2, D3, ⟨T2, HL⟩⟩, S4, ⟨X1, X2, Hv0, Hv1⟩⟩, HG⟩, HO, P0, PS⟩
  icombine T2 PS D2 as X0
  ihave X0 := h0 $$ X0
  iframe

/-- After the sends of partial sums: what is kept beside their waits. -/
def Mid4 (c : Dev nD) : SP F :=
  iprop(AgIn c ∗ (St0 I c ∗ St1 I c ∗ St2 I c ∗ St3 I c ∗ St4 I c) ∗ (KvOut C c 0 ∗ KvOut C c 1) ∗ atPos ER (barCell c) 1 ∅ 0
    ∗ bigSep (Finset.Ico 1 16) (DAg c) ∗ pts c cc0_scratch1 Finset.univ fullShare (Gkv C c) ∗ bigSep (Finset.Ico 1 16) (fun d => crd c (qSR d))
    ∗ (bigSep (Finset.Ico 2 32) (fun e => AT1 c (qRe c e)) ∗ (pts c cc0_scratch0 (bfReg c 0) fullShare (C.kv c) ∗ pts c cc0_scratch0 (bfReg c 1) fullShare (C.kv c)))
    ∗ (Toks c qSA (fun _ => qRA c.val) ∗ Crs c (fun d => qRA (src c d).val) 1 16 ∗ Ats c (fun d => qS1 d 0) 1 16 ∗ Ats c (fun d => qS1 d 1) 1 16 ∗ Ats c qSe 2 32 ∗ Ats c (fun d => qRA (src c d).val) 1 16 ∗ bigSep (Idl c) (AT0 c) ∗ (∃ f, pts c cc0_stg5_0 Finset.univ fullShare f)))

theorem to_rr : iprop(Pers C ∗ (Mid3 C (I := I) c ∗ bigSep (Finset.Ico 1 16) (fun d => crd c (qSR d))) ∗ Ow c (oA c) ∗ (LocRs C c ∗ semVal (cell c 134) 0))
    ⊢ iprop(Pers C ∗ (Mid4 C (I := I) c ∗ (LocRs C c ∗ semVal (cell c 134) 0)) ∗ Ow c (oA c) ∗ WtI C c (fun d => qRR (src c d).val) 1 16 1) := by
  have hw := wt_in C (c := c) (q := fun d => qRR (src c d).val) (a := 1) (b := 16)
  unfold Mid3 Mid4 AgIn
  iintro ⟨HP, ⟨⟨A5, S, HK, HA, D3, HG, ⟨X1, X2, Hv1⟩, ⟨T3, C2, C3, N0, N1, N2, N3, N4, N5, H4, H5⟩⟩, HC⟩, HO, HL⟩
  icombine C2 N3 as C2
  ihave C2 := hw $$ C2
  iframe

end Cert.KernelIdealProof
-- ==== Proof.KIdeal.Body1.lean ====
/-
The first half of the body.
-/
module

public import proofs.«01_k».proof.Proof.KIdeal.Stages

@[expose] public section

noncomputable section

namespace Cert.KernelIdealProof

set_option pp.maxSteps 300
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

variable {c : Dev nD} {α β : Type} {Q : α → SP F} {R : SP F} {O : CellTallies nD τ sig Unit}

variable {I : Ins F}

set_option maxHeartbeats 20000000 in
theorem part176_ok (hI : Good C I) {Q : (Σ' (d0 : Dev nD), BitVec 32) → SP F}
    (hQ : ∀ a, a.1 = c → RrAt C c iprop(Mid4 C (I := I) c ∗ (LocRs C c ∗ semVal (cell c 134) 0)) 6 ⊢ Q a) :
    iprop(Pers C ∗ BodyIn (I := I) c ∗ Ow c (oB c + sigDebt c 1)) ⊢ WP c (At (k0_part176 (F := F))) Q := by
  unfold RrAt at hQ
  have hl := lend_start (F := F) (c := c)
  refine (show _ ⊢ SgAt C c iprop((BodyPre (I := I) c ∗ OwnPl c) ∗ (St2 I c ∗ St3 I c ∗ ∃ f, pts c cc0_scratch0 Finset.univ fullShare f)) (oB c) 1 from by
    unfold SgAt BodyIn
    iintro ⟨HP, ⟨HB, HS, HX⟩, HO⟩
    ihave HX := hl $$ HX
    icases HX with ⟨HX, HW⟩
    iframe).trans ?_
  simp only [At, k0_part176_eq_skeleton]; unfold k0_part176_skel
  apply cutP (P := fun a => a.1 = c ∧ a.2.2.1 = SemArray.scalar (sig.barrier 0 rfl))
  case h1 => intro Φ hΦ; exact part73_ok C hΦ
  rintro ⟨d0, v2, v3, v30, c16, v31⟩ ⟨h1, h2⟩
  have h1 := h1.symm; have h2 := h2.symm
  dsimp only at h1 h2
  subst h1 h2
  iterate 5
    apply cut
    case h1 =>
      intro Φ hΦ
      simp only [k0_part74_eq_skeleton, k0_part74_skel, k0_part75_eq_skeleton, k0_part75_skel, k0_part76_eq_skeleton, k0_part76_skel, k0_part77_eq_skeleton, k0_part77_skel, k0_part78_eq_skeleton, k0_part78_skel, semSignalWord, Prog.lift, Prog.bind_op, Prog.bind_ret, Prog.pure_eq_ret, wp_deviceId]
      repeat refine sig_step C (by decide) (by decide) (by decide +kernel) (by decide) ?_
      exact ret_step (hΦ _)
    intro a
    repeat (cases ‹PSigma _›)
  apply cut
  case h1 => intro Φ hΦ; exact part79_ok C hI hΦ
  intro a
  repeat (cases ‹PSigma _›)
  refine (show _ ⊢ _ from to_loc C (I := I)).trans ?_
  apply cut
  case h1 => intro Φ hΦ; exact part80_ok C hΦ
  intro a
  repeat (cases ‹PSigma _›)
  refine (show _ ⊢ _ from to_kv C (I := I)).trans ?_
  apply cutP (P := fun a => a = ⟨q0V (I.x0 c) (I.x1 c), q1V (I.x0 c) (I.x1 c)⟩)
  case h1 => intro Φ hΦ; exact part81_ok C hΦ
  rintro a rfl
  dsimp only
  refine (show _ ⊢ _ from to_recv C (I := I)).trans ?_
  apply cutP (P := fun a => a = ⟨k0_pay6, k0_pay7, k0_pay8⟩)
  case h1 => intro Φ hΦ; simp only [k0_part82_eq_skeleton, k0_part82_skel, semSignalWord, Prog.lift, Prog.bind_op, Prog.bind_ret, Prog.pure_eq_ret, wp_deviceId]; exact ret_step (hΦ _ rfl)
  rintro a rfl
  apply cutP (P := fun a => a = ⟨k0_pay9 k0_pay7 k0_pay8, k0_pay10 k0_pay7 k0_pay8, k0_pay11 k0_pay7 k0_pay8, Scalar.select (Scalar.cmpi .eq 2#32 0#32) 1#32 2#32, k0_pay12 k0_pay7 k0_pay8, k0_pay13 k0_pay7 k0_pay8⟩)
  case h1 => intro Φ hΦ; simp only [k0_part83_eq_skeleton, k0_part83_skel, semSignalWord, Prog.lift, Prog.bind_op, Prog.bind_ret, Prog.pure_eq_ret, wp_deviceId]; exact ret_step (hΦ _ rfl)
  rintro a rfl
  dsimp only
  apply cutP (P := fun a => a.1 = maskV)
  case h1 => intro Φ hΦ; simp only [k0_part84_eq_skeleton, k0_part84_skel, semSignalWord, Prog.lift, Prog.bind_op, Prog.bind_ret, Prog.pure_eq_ret, wp_deviceId]; exact ret_step (hΦ _ rfl)
  rintro ⟨m, u1, u2, u3, u4⟩ hm
  dsimp only at hm
  subst hm
  apply cut
  case h1 => intro Φ hΦ; exact part85_ok C hΦ
  intro a
  repeat (cases ‹PSigma _›)
  refine (show _ ⊢ iprop(Pers C ∗ (Mid2 C (I := I) c ∗ St4 I c ∗ LocDone C c 0 ∗ LocDone C c 1) ∗ Ow c (oR c) ∗ WtI C c (qRe c) 2 32 2) from by
    iintro ⟨HP, ⟨⟨HM, H4, HW⟩, L0⟩, HO, L1⟩; iframe).trans ?_
  iterate 19
    apply cut
    case h1 =>
      intro Φ hΦ
      simp only [k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel, k0_part94_eq_skeleton, k0_part94_skel, k0_part95_eq_skeleton, k0_part95_skel, k0_part96_eq_skeleton, k0_part96_skel, k0_part97_eq_skeleton, k0_part97_skel, k0_part98_eq_skeleton, k0_part98_skel, k0_part99_eq_skeleton, k0_part99_skel, k0_part100_eq_skeleton, k0_part100_skel, k0_part101_eq_skeleton, k0_part101_skel, k0_part102_eq_skeleton, k0_part102_skel, k0_part103_eq_skeleton, k0_part103_skel, k0_part104_eq_skeleton, k0_part104_skel, semSignalWord, Prog.lift, Prog.bind_op, Prog.bind_ret, Prog.pure_eq_ret, wp_deviceId]
      repeat refine recv_dite C (by decide) (by decide) (by decide +kernel) lv_R (by clear * - c; revert c; decide +kernel) ?_
      exact ret_step (hΦ _)
    intro a
    repeat (cases ‹PSigma _›)
  apply cutP (P := fun a => a = ⟨k0_pay15 (I.x4 c), k0_pay16 (q0V (I.x0 c) (I.x1 c)) maskV (rdG (Gkv C c) 0 0 0 inb_S2x2x1408x256_S1x1x1408x64_0_0_0_0) (rdG (Gkv C c) 1 0 0 inb_S2x2x1408x256_S1x1x1408x64_1_0_0_0), k0_pay17 (q0V (I.x0 c) (I.x1 c)) maskV (rdG (Gkv C c) 0 0 64 inb_S2x2x1408x256_S1x1x1408x64_0_0_0_64)⟩)
  case h1 => intro Φ hΦ; exact part105_ok C hΦ
  rintro a rfl
  dsimp only
  refine (show _ ⊢ GkAt C c iprop((∃ f, pts c cc0_scratch2 Finset.univ fullShare f) ∗ (Mid2' C (I := I) c ∗ St4 I c ∗ KvGot C c)) from by
    unfold Mid2 Mid2' GkAt; iintro ⟨HP, ⟨⟨A, B, D⟩, H4, HG⟩, HO, HK⟩; iframe).trans ?_
  apply cutP
  case h1 => intro Φ hΦ; exact part106_ok C hΦ
  rintro a rfl
  dsimp only
  apply cutP
  case h1 => intro Φ hΦ; exact part107_ok C hΦ
  rintro a rfl
  dsimp only
  apply cutP
  case h1 => intro Φ hΦ; exact part108_ok C hΦ
  rintro a rfl
  dsimp only
  unfold GkAt
  refine (show _ ⊢ iprop(Pers C ∗ ((Mid2' C (I := I) c ∗ St4 I c ∗ KvGot C c) ∗ pts c cc0_scratch1 Finset.univ fullShare (Gkv C c)) ∗ Ow c (oR c) ∗ ∃ f, pts c cc0_scratch2 Finset.univ fullShare f) from by
    iintro ⟨HP, ⟨H2, HR⟩, HO, HG⟩; iframe).trans ?_
  apply cut
  case h1 => intro Φ hΦ; exact part109_ok C (hΦ _)
  intro _
  have hps := hI.ps c
  unfold topV botV at hps
  rw [← hps]
  refine (to_rs C (I := I)).trans ?_
  apply cut
  case h1 => intro Φ hΦ; exact part110_ok C hΦ
  intro a
  repeat (cases ‹PSigma _›)
  refine (show _ ⊢ RsAt C c iprop(Mid3 C (I := I) c ∗ Fl c 134 NRS (LocRs C c)) 1 from by
    unfold RsAt oR; iintro ⟨HP, ⟨HM, HO, HS⟩, HF⟩; iframe).trans ?_
  unfold RsAt
  iterate 18
    apply cut
    case h1 =>
      intro Φ hΦ
      simp only [k0_part111_eq_skeleton, k0_part111_skel, k0_part112_eq_skeleton, k0_part112_skel, k0_part113_eq_skeleton, k0_part113_skel, k0_part114_eq_skeleton, k0_part114_skel, k0_part115_eq_skeleton, k0_part115_skel, k0_part116_eq_skeleton, k0_part116_skel, k0_part117_eq_skeleton, k0_part117_skel, k0_part118_eq_skeleton, k0_part118_skel, k0_part119_eq_skeleton, k0_part119_skel, k0_part120_eq_skeleton, k0_part120_skel, k0_part121_eq_skeleton, k0_part121_skel, k0_part122_eq_skeleton, k0_part122_skel, k0_part123_eq_skeleton, k0_part123_skel, k0_part124_eq_skeleton, k0_part124_skel, k0_part125_eq_skeleton, k0_part125_skel, k0_part126_eq_skeleton, k0_part126_skel, k0_part127_eq_skeleton, k0_part127_skel, k0_part128_eq_skeleton, k0_part128_skel, semSignalWord, Prog.lift, Prog.bind_op, Prog.bind_ret, Prog.pure_eq_ret, wp_deviceId]
      repeat refine rs_send C (by decide) (by decide) (by decide +kernel) (by clear * - c; revert c; decide +kernel) (off105_eq c) (by rfl) (off107_eq c) ?_
      exact ret_step (hΦ _)
    intro a
    repeat (cases ‹PSigma _›)
  refine (show _ ⊢ RsAt C c iprop(Mid3 C (I := I) c ∗ Fl c 134 NRS (LocRs C c)) 15 from by unfold RsAt; exact BIBase.Entails.refl).trans ?_
  apply cut
  case h1 => intro Φ hΦ; exact part129_ok C hΦ
  intro a
  repeat (cases ‹PSigma _›)
  refine (to_rr C (I := I)).trans ?_
  iterate 2
    apply cut
    case h1 =>
      intro Φ hΦ
      simp only [k0_part130_eq_skeleton, k0_part130_skel, k0_part131_eq_skeleton, k0_part131_skel, semSignalWord, Prog.lift, Prog.bind_op, Prog.bind_ret, Prog.pure_eq_ret, wp_deviceId]
      repeat refine rr_wait C (by decide) (by decide) lv_A (by clear * - c; revert c; decide +kernel) ?_
      exact ret_step (hΦ _)
    intro a
    repeat (cases ‹PSigma _›)
  simp only [k0_part132_eq_skeleton, k0_part132_skel, semSignalWord, Prog.lift, Prog.bind_op, Prog.bind_ret, Prog.pure_eq_ret, wp_deviceId]
  repeat refine rr_wait C (by decide) (by decide) lv_A (by clear * - c; revert c; decide +kernel) ?_
  exact ret_step (hQ _ rfl)

end Cert.KernelIdealProof
-- ==== Proof.KIdeal.Stages2.lean ====
/-
What a device holds at each stage of the second half of the body.
-/
module

public import proofs.«01_k».proof.Proof.KIdeal.Stages

@[expose] public section

noncomputable section

namespace Cert.KernelIdealProof

set_option pp.maxSteps 300
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

variable {c : Dev nD} {α β : Type} {Q : α → SP F} {R : SP F} {O : CellTallies nD τ sig Unit}

variable {I : Ins F}

/-- What a device keeps from the exchange of partial sums on. -/
def Keep (c : Dev nD) : SP F :=
  iprop((St0 I c ∗ St1 I c ∗ St2 I c ∗ St3 I c ∗ St4 I c) ∗ (Ats c (fun d => qS1 d 0) 1 16 ∗ KvOut C c 0) ∗ (Ats c (fun d => qS1 d 1) 1 16 ∗ KvOut C c 1) ∗ atPos ER (barCell c) 1 ∅ 0 ∗ pts c cc0_scratch1 Finset.univ fullShare (Gkv C c)
    ∗ (bigSep (Finset.Ico 2 32) (fun e => AT1 c (qRe c e)) ∗ (pts c cc0_scratch0 (bfReg c 0) fullShare (C.kv c) ∗ pts c cc0_scratch0 (bfReg c 1) fullShare (C.kv c))) ∗ bigSep (Idl c) (AT0 c))

def Mid5 (c : Dev nD) : SP F :=
  iprop(Keep C (I := I) c ∗ bigSep (Finset.Ico 1 16) (DAg c) ∗ bigSep (Finset.Ico 1 16) (fun d => crd c (qSR d))
    ∗ (Toks c qSA (fun _ => qRA c.val) ∗ Crs c (fun d => qRA (src c d).val) 1 16 ∗ Ats c qSe 2 32 ∗ Ats c (fun d => qRA (src c d).val) 1 16 ∗ (∃ f, pts c cc0_stg5_0 Finset.univ fullShare f)))

theorem to_138 {n : ℕ} : iprop(Pers C ∗ (Mid4 C (I := I) c ∗ (LocRs C c ∗ semVal (cell c 134) 0)) ∗ Ow c (oA c) ∗ WtI C c (fun d => qRR (src c d).val) 1 16 n)
    ⊢ RrAt C c iprop(Mid5 C (I := I) c ∗ (LocRs C c ∗ semVal (cell c 134) 0) ∗ AgIn c) n := by
  unfold Mid4 Mid5 Keep RrAt
  iintro ⟨HP, ⟨⟨HI, S, ⟨K0, K1⟩, HA, D3, HG, HC, ⟨X1, X2⟩, ⟨T3, C3, N0, N1, N2, N4, N5, H5⟩⟩, HL⟩, HO, HW⟩
  iframe

def Mid6 (c : Dev nD) : SP F :=
  iprop((Keep C (I := I) c ∗ pts c cc0_scratch3 Finset.univ fullShare (Grs C c) ∗ RsGot C c ∗ pts c cc0_scratch4 Finset.univ (shareDrop fullShare 16) (C.ag c)
    ∗ bigSep (Finset.Ico 1 16) (fun d => crd c (qSR d)) ∗ Ats c qSe 2 32) ∗ (∃ f, pts c cc0_stg5_0 Finset.univ fullShare f))

theorem to_ag : iprop(Pers C ∗ ((Mid5 C (I := I) c ∗ pts c cc0_scratch3 Finset.univ fullShare (Grs C c) ∗ RsGot C c ∗ AgLent C c) ∗ Ow c (oA c)) ∗ Fl c 135 NRS (LocAg C c))
    ⊢ AgAt C c iprop(Mid6 C (I := I) c ∗ Fl c 135 NRS (LocAg C c) ∗ WtI C c (fun d => qRA (src c d).val) 1 16 1) 1 := by
  have h0 := snd_in (F := F) (c := c) (qS := qSA) (qR := fun _ => qRA c.val) (S := SAg C c) (D := DAg c)
  have hw := wt_in C (c := c) (q := fun d => qRA (src c d).val) (a := 1) (b := 16)
  unfold Mid5 Mid6 AgAt AgLent oA
  iintro ⟨HP, ⟨⟨⟨HK, D3, HC, ⟨T3, C3, N2, N4, H5⟩⟩, H3, HR, ⟨HS, HD⟩⟩, HO⟩, HF⟩
  icombine T3 HS D3 as X0
  ihave X0 := h0 $$ X0
  icombine C3 N4 as C3
  ihave C3 := hw $$ C3
  iframe

def Mid7 (c : Dev nD) : SP F :=
  iprop(Keep C (I := I) c ∗ pts c cc0_scratch3 Finset.univ fullShare (Grs C c) ∗ RsGot C c ∗ pts c cc0_scratch4 Finset.univ (shareDrop fullShare 16) (C.ag c)
    ∗ pts c cc0_stg5_0 Finset.univ fullShare (outV C) ∗ pts c cc0_scratch5 Finset.univ fullShare (Gag C) ∗ AgGot C c)

theorem to_155 {n : ℕ} : RaAt C c iprop(Mid6 C (I := I) c ∗ bigSep (Finset.Ico 1 16) (fun d => crd c (qSA d)) ∗ LocAg C c ∗ semVal (cell c 135) 0) n
    ⊢ RaAt C c iprop(((Keep C (I := I) c ∗ pts c cc0_scratch3 Finset.univ fullShare (Grs C c) ∗ RsGot C c ∗ pts c cc0_scratch4 Finset.univ (shareDrop fullShare 16) (C.ag c)
      ∗ bigSep (Finset.Ico 1 16) (fun d => crd c (qSR d)) ∗ Ats c qSe 2 32) ∗ bigSep (Finset.Ico 1 16) (fun d => crd c (qSA d))) ∗ (∃ f, pts c cc0_stg5_0 Finset.univ fullShare f) ∗ LocAg C c ∗ semVal (cell c 135) 0) n := by
  unfold Mid6 RaAt
  iintro ⟨HP, ⟨⟨HK, H5⟩, HC, HL, HS⟩, HO, HW⟩
  iframe

theorem to_se : iprop(Pers C ∗ (((Keep C (I := I) c ∗ pts c cc0_scratch3 Finset.univ fullShare (Grs C c) ∗ RsGot C c ∗ pts c cc0_scratch4 Finset.univ (shareDrop fullShare 16) (C.ag c)
      ∗ bigSep (Finset.Ico 1 16) (fun d => crd c (qSR d)) ∗ Ats c qSe 2 32) ∗ bigSep (Finset.Ico 1 16) (fun d => crd c (qSA d)))
      ∗ pts c cc0_stg5_0 Finset.univ fullShare (outV C) ∗ pts c cc0_scratch5 Finset.univ fullShare (Gag C) ∗ AgGot C c) ∗ Ow c 0)
    ⊢ iprop(Pers C ∗ Mid7 C (I := I) c ∗ Ow c 0 ∗ WtI C c qSe 2 32 (2 * 1)) := by
  have hc := crs_se (F := F) (c := c)
  have hw := wt_in C (c := c) (q := qSe) (a := 2) (b := 32)
  unfold Mid7
  iintro ⟨HP, ⟨⟨⟨HK, H3, HR, H4, C1, N2⟩, C2⟩, H5, H6, HG⟩, HO⟩
  icombine C1 C2 as X
  ihave X := hc $$ X
  icombine X N2 as X
  ihave X := hw $$ X
  iframe

/-- What is left to do after the waits of the sends: the sends of keys and values. -/
def Mid8 (c : Dev nD) : SP F :=
  iprop((St0 I c ∗ St1 I c ∗ St2 I c ∗ St3 I c ∗ St4 I c) ∗ pts c cc0_stg5_0 Finset.univ fullShare (outV C) ∗ atPos ER (barCell c) 1 ∅ 0 ∗ pts c cc0_scratch1 Finset.univ fullShare (Gkv C c) ∗ (pts c cc0_scratch0 (bfReg c 0) fullShare (C.kv c) ∗ pts c cc0_scratch0 (bfReg c 1) fullShare (C.kv c))
    ∗ pts c cc0_scratch2 Finset.univ fullShare (C.ps c) ∗ pts c cc0_scratch3 Finset.univ fullShare (Grs C c) ∗ pts c cc0_scratch4 Finset.univ fullShare (C.ag c) ∗ pts c cc0_scratch5 Finset.univ fullShare (Gag C)
    ∗ (semVal (cell c 134) 0 ∗ semVal (cell c 135) 0)
    ∗ (bigSep (Finset.Ico 2 32) (fun e => AT1 c (qRe c e)) ∗ Ats1 c qSe 2 32 ∗ bigSep (Finset.Ico 1 16) (fun d => AT1 c (qRR (src c d).val)) ∗ bigSep (Finset.Ico 1 16) (fun d => AT1 c (qRA (src c d).val)) ∗ bigSep (Idl c) (AT1 c)))

attribute [local irreducible] Idl in
theorem to_s1 : iprop(Pers C ∗ Mid7 C (I := I) c ∗ Ow c 0 ∗ WtI C c qSe 2 32 32)
    ⊢ iprop(Pers C ∗ (Mid8 C (I := I) c ∗ (KvOut C c 1 ∗ Ats c (fun d => qS1 d 1) 1 16)) ∗ Ow c 0 ∗ (KvOut C c 0 ∗ Ats c (fun d => qS1 d 0) 1 16)) := by
  have ho := se_out C (c := c)
  have hi := idl_done (F := F) (c := c)
  have ha := ag_back C (c := c)
  unfold AgLent at ha
  unfold Mid7 Mid8 Keep RsGot AgGot
  rw [ps_split]
  iintro ⟨HP, ⟨⟨S, ⟨N0, K0⟩, ⟨N1, K1⟩, HA, HG, ⟨X1, X2⟩, HI⟩, H3, ⟨R1, R2, R3⟩, H4, H5, H6, ⟨G1, G2, G3⟩⟩, HO, HW⟩
  ihave HW := ho $$ HW
  icases HW with ⟨⟨W1, W2⟩, W3⟩
  ihave HI := hi $$ HI
  icombine G2 W2 H4 as X
  ihave X := ha $$ X
  iframe

/-- What a device holds when its body ends. -/
def BodyOut (c : Dev nD) : SP F :=
  iprop(bigSep (Finset.Ico 6 134) (AT1 c) ∗ atPos ER (barCell c) 1 ∅ 0 ∗ (semVal (cell c 134) 0 ∗ semVal (cell c 135) 0)
    ∗ pts c cc0_scratch0 Finset.univ fullShare (C.kv c) ∗ pts c cc0_scratch1 Finset.univ fullShare (Gkv C c)
    ∗ pts c cc0_scratch2 Finset.univ fullShare (C.ps c) ∗ pts c cc0_scratch3 Finset.univ fullShare (Grs C c) ∗ pts c cc0_scratch4 Finset.univ fullShare (C.ag c) ∗ pts c cc0_scratch5 Finset.univ fullShare (Gag C)
    ∗ (St0 I c ∗ St1 I c ∗ St2 I c ∗ St3 I c ∗ St4 I c) ∗ pts c cc0_stg5_0 Finset.univ fullShare (outV C))

attribute [local irreducible] Idl in
theorem to_out : iprop(Pers C ∗ (Mid8 C (I := I) c ∗ KvEnd C c 0) ∗ Ow c 0 ∗ KvEnd C c 1) ⊢ iprop(Pers C ∗ BodyOut C (I := I) c ∗ Ow c 0) := by
  unfold BodyOut
  rw [grp_eq, kv_split]
  unfold Mid8 KvEnd Grp Ats1
  iintro ⟨HP, ⟨⟨S, H5, HA, HG, HB, H2, H3, H4, H6, HV, ⟨A1, A2, A3, A4, A5⟩⟩, ⟨K0, N0⟩⟩, HO, ⟨K1, N1⟩⟩
  iframe

theorem cond37_iff : ∀ c : Dev nD, k0_cond37 c = 1#1 ↔ needB (2 * c.val + 0) = true := by decide +kernel
theorem cond38_iff : ∀ c : Dev nD, k0_cond38 c = 1#1 ↔ needB (2 * c.val + 1) = true := by decide +kernel

end Cert.KernelIdealProof
-- ==== Proof.KIdeal.Body2.lean ====
/-
The second half of the body.
-/
module

public import proofs.«01_k».proof.Proof.KIdeal.Stages2

@[expose] public section

noncomputable section

namespace Cert.KernelIdealProof

set_option pp.maxSteps 300
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

variable {c : Dev nD} {α β : Type} {Q : α → SP F} {R : SP F} {O : CellTallies nD τ sig Unit}

variable {I : Ins F}

set_option maxHeartbeats 20000000 in
theorem part177_ok (hI : Good C I) {v2} {Q : (Σ' (v3689 : BitVec 32) (v3690 : BitVec 1), BitVec 32) → SP F}
    (hQ : ∀ a, iprop(Pers C ∗ (Mid8 C (I := I) c ∗ (KvOut C c 1 ∗ Ats c (fun d => qS1 d 1) 1 16)) ∗ Ow c 0 ∗ KvEnd C c 0) ⊢ Q a) :
    RrAt C c iprop(Mid4 C (I := I) c ∗ (LocRs C c ∗ semVal (cell c 134) 0)) 6 ⊢ WP c (At (k0_part177 (F := F)) c v2) Q := by
  unfold RrAt
  simp only [At, k0_part177_eq_skeleton]; unfold k0_part177_skel
  iterate 5
    apply cut
    case h1 =>
      intro Φ hΦ
      simp only [k0_part133_eq_skeleton, k0_part133_skel, k0_part134_eq_skeleton, k0_part134_skel, k0_part135_eq_skeleton, k0_part135_skel, k0_part136_eq_skeleton, k0_part136_skel, k0_part137_eq_skeleton, k0_part137_skel, semSignalWord, Prog.lift, Prog.bind_op, Prog.bind_ret, Prog.pure_eq_ret, wp_deviceId]
      repeat refine rr_wait C (by decide) (by decide) lv_A (by clear * - c; revert c; decide +kernel) ?_
      exact ret_step (hΦ _)
    intro a
    repeat (cases ‹PSigma _›)
  refine (to_138 C (I := I)).trans ?_
  apply cut
  case h1 => intro Φ hΦ; exact part138_ok C hI hΦ
  intro a
  repeat (cases ‹PSigma _›)
  refine (to_ag C (I := I)).trans ?_
  unfold AgAt
  iterate 8
    apply cut
    case h1 =>
      intro Φ hΦ
      simp only [k0_part139_eq_skeleton, k0_part139_skel, k0_part140_eq_skeleton, k0_part140_skel, k0_part141_eq_skeleton, k0_part141_skel, k0_part142_eq_skeleton, k0_part142_skel, k0_part143_eq_skeleton, k0_part143_skel, k0_part144_eq_skeleton, k0_part144_skel, k0_part145_eq_skeleton, k0_part145_skel, k0_part146_eq_skeleton, k0_part146_skel, semSignalWord, Prog.lift, Prog.bind_op, Prog.bind_ret, Prog.pure_eq_ret, wp_deviceId]
      repeat refine ag_send C (by decide) (by decide) (by decide +kernel) (off105_eq c) (by rfl) (off107_eq c) ?_
      exact ret_step (hΦ _)
    intro a
    repeat (cases ‹PSigma _›)
  refine (show _ ⊢ AgAt C c iprop(Mid6 C (I := I) c ∗ Fl c 135 NRS (LocAg C c) ∗ WtI C c (fun d => qRA (src c d).val) 1 16 1) 16 from by unfold AgAt; exact BIBase.Entails.refl).trans ?_
  apply cut
  case h1 => intro Φ hΦ; exact part147_ok C hΦ
  intro a
  repeat (cases ‹PSigma _›)
  unfold RaAt
  iterate 7
    apply cut
    case h1 =>
      intro Φ hΦ
      simp only [k0_part148_eq_skeleton, k0_part148_skel, k0_part149_eq_skeleton, k0_part149_skel, k0_part150_eq_skeleton, k0_part150_skel, k0_part151_eq_skeleton, k0_part151_skel, k0_part152_eq_skeleton, k0_part152_skel, k0_part153_eq_skeleton, k0_part153_skel, k0_part154_eq_skeleton, k0_part154_skel, semSignalWord, Prog.lift, Prog.bind_op, Prog.bind_ret, Prog.pure_eq_ret, wp_deviceId]
      repeat refine ra_wait C (by decide) (by decide) (by clear * - c; revert c; decide +kernel) ?_
      exact ret_step (hΦ _)
    intro a
    repeat (cases ‹PSigma _›)
  refine (show _ ⊢ RaAt C c _ 15 from to_155 C (I := I)).trans ?_
  apply cut
  case h1 => intro Φ hΦ; exact part155_ok C hΦ
  intro a
  repeat (cases ‹PSigma _›)
  refine (to_se C (I := I)).trans ?_
  iterate 1
    apply cut
    case h1 =>
      intro Φ hΦ
      simp only [k0_part156_eq_skeleton, k0_part156_skel, semSignalWord, Prog.lift, Prog.bind_op, Prog.bind_ret, Prog.pure_eq_ret, wp_deviceId]
      repeat (refine sr_wait C (by decide) (by decide) (by rfl) ?_; refine sa_wait C (by decide) (by decide) (by rfl) ?_)
      exact ret_step (hΦ _)
    intro a
    repeat (cases ‹PSigma _›)
  iterate 1
    apply cut
    case h1 =>
      intro Φ hΦ
      simp only [k0_part157_eq_skeleton, k0_part157_skel, semSignalWord, Prog.lift, Prog.bind_op, Prog.bind_ret, Prog.pure_eq_ret, wp_deviceId]
      repeat refine sr_wait C (by decide) (by decide) (by rfl) ?_
      exact ret_step (hΦ _)
    intro a
    repeat (cases ‹PSigma _›)
  iterate 1
    apply cut
    case h1 =>
      intro Φ hΦ
      simp only [k0_part158_eq_skeleton, k0_part158_skel, semSignalWord, Prog.lift, Prog.bind_op, Prog.bind_ret, Prog.pure_eq_ret, wp_deviceId]
      repeat refine sa_wait C (by decide) (by decide) (by rfl) ?_
      exact ret_step (hΦ _)
    intro a
    repeat (cases ‹PSigma _›)
  iterate 17
    apply cut
    case h1 =>
      intro Φ hΦ
      simp only [k0_part159_eq_skeleton, k0_part159_skel, k0_part160_eq_skeleton, k0_part160_skel, k0_part161_eq_skeleton, k0_part161_skel, k0_part162_eq_skeleton, k0_part162_skel, k0_part163_eq_skeleton, k0_part163_skel, k0_part164_eq_skeleton, k0_part164_skel, k0_part165_eq_skeleton, k0_part165_skel, k0_part166_eq_skeleton, k0_part166_skel, k0_part167_eq_skeleton, k0_part167_skel, k0_part168_eq_skeleton, k0_part168_skel, k0_part169_eq_skeleton, k0_part169_skel, k0_part170_eq_skeleton, k0_part170_skel, k0_part171_eq_skeleton, k0_part171_skel, k0_part172_eq_skeleton, k0_part172_skel, k0_part173_eq_skeleton, k0_part173_skel, k0_part174_eq_skeleton, k0_part174_skel, k0_part175_eq_skeleton, k0_part175_skel, semSignalWord, Prog.lift, Prog.bind_op, Prog.bind_ret, Prog.pure_eq_ret, wp_deviceId]
      repeat (refine sr_wait C (by decide) (by decide) (by rfl) ?_; refine sa_wait C (by decide) (by decide) (by rfl) ?_)
      exact ret_step (hΦ _)
    intro a
    repeat (cases ‹PSigma _›)
  refine (to_s1 C (I := I)).trans ?_
  refine dite_step (fun h => ?_) (fun h => ?_)
  · have hb := (cond37_iff c).mp h
    have hi := s1_in C (c := c) (by decide) hb
    have ho := s1_out C (c := c) (by decide) hb
    refine (show _ ⊢ iprop(Pers C ∗ (Mid8 C (I := I) c ∗ (KvOut C c 1 ∗ Ats c (fun d => qS1 d 1) 1 16)) ∗ Ow c 0 ∗ WtI C c (fun d => qS1 d 0) 1 16 1) from by
      iintro ⟨HP, HR, HO, HK⟩
      ihave HK := hi $$ HK
      iframe).trans ?_
    iterate 17
      apply cut
      case h1 =>
        intro Φ hΦ
        simp only [k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, semSignalWord, Prog.lift, Prog.bind_op, Prog.bind_ret, Prog.pure_eq_ret, wp_deviceId]
        repeat refine s1_wait C (j := 0) (by decide) hb (by decide) (by decide) (by rfl) ?_
        exact ret_step (hΦ _)
      intro a
      repeat (cases ‹PSigma _›)
    simp only [Prog.lift, Prog.bind_op, Prog.bind_ret, Prog.pure_eq_ret]
    refine s1_wait C (j := 0) (by decide) hb (by decide) (by decide) (by rfl) ?_
    refine (show _ ⊢ iprop(Pers C ∗ (Mid8 C (I := I) c ∗ (KvOut C c 1 ∗ Ats c (fun d => qS1 d 1) 1 16)) ∗ Ow c 0 ∗ KvEnd C c 0) from by
      iintro ⟨HP, HR, HO, HK⟩
      ihave HK := ho $$ HK
      iframe).trans ?_
    exact ret_step (hQ _)
  · have hb := nb (cond37_iff c) h
    have hi := s1_idle C (c := c) (by decide) hb
    refine (show _ ⊢ iprop(Pers C ∗ (Mid8 C (I := I) c ∗ (KvOut C c 1 ∗ Ats c (fun d => qS1 d 1) 1 16)) ∗ Ow c 0 ∗ KvEnd C c 0) from by
      iintro ⟨HP, HR, HO, HK⟩
      ihave HK := hi $$ HK
      iframe).trans ?_
    simp only [Prog.lift, Prog.bind_op, Prog.bind_ret, Prog.pure_eq_ret]
    exact ret_step (hQ _)

end Cert.KernelIdealProof
-- ==== Proof.KIdeal.Body3.lean ====
/-
The whole body.
-/
module

public import proofs.«01_k».proof.Proof.KIdeal.Body1
public import proofs.«01_k».proof.Proof.KIdeal.Body2

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

variable {c : Dev nD} {α β : Type} {Q : α → SP F} {R : SP F} {O : CellTallies nD τ sig Unit}

variable {I : Ins F}

theorem ret_stepF {A : SP F} {a : α} (h : A ⊢ |={Set.univ}=> Q a) : A ⊢ WP c (.ret a) Q := by
  unfold WP; rw [wp_ret]; exact h

set_option maxHeartbeats 20000000 in
theorem body_ok (hI : Good C I) {Q : PUnit → SP F} (hQ : ∀ a, iprop(Pers C ∗ BodyOut C (I := I) c ∗ Ow c 0) ⊢ |={Set.univ}=> Q a) :
    iprop(Pers C ∗ BodyIn (I := I) c ∗ Ow c (oB c + sigDebt c 1)) ⊢ WP c (At (cc0_body (F := F))) Q := by
  simp only [At, cc0_body_eq_skeleton]; unfold cc0_body_skel
  apply cutP (P := fun a => a.1 = c)
  case h1 => intro Φ hΦ; exact part176_ok C hI hΦ
  rintro ⟨d0, v2⟩ h1
  have h1 := h1.symm
  dsimp only at h1
  subst h1
  apply cut
  case h1 => intro Φ hΦ; exact part177_ok C hI hΦ
  intro a
  repeat (cases ‹PSigma _›)
  refine dite_step (fun h => ?_) (fun h => ?_)
  · have hb := (cond38_iff c).mp h
    have hi := s1_in C (c := c) (by decide) hb
    have ho := s1_out C (c := c) (by decide) hb
    refine (show _ ⊢ iprop(Pers C ∗ (Mid8 C (I := I) c ∗ KvEnd C c 0) ∗ Ow c 0 ∗ WtI C c (fun d => qS1 d 1) 1 16 1) from by
      iintro ⟨HP, ⟨HR, HK⟩, HO, H0⟩
      ihave HK := hi $$ HK
      iframe).trans ?_
    iterate 17
      apply cut
      case h1 =>
        intro Φ hΦ
        simp only [k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, semSignalWord, Prog.lift, Prog.bind_op, Prog.bind_ret, Prog.pure_eq_ret, wp_deviceId]
        repeat refine s1_wait C (j := 1) (by decide) hb (by decide) (by decide) (by rfl) ?_
        exact ret_step (hΦ _)
      intro a
      repeat (cases ‹PSigma _›)
    simp only [Prog.lift, Prog.bind_op, Prog.bind_ret, Prog.pure_eq_ret]
    refine s1_wait C (j := 1) (by decide) hb (by decide) (by decide) (by rfl) ?_
    refine (show _ ⊢ iprop(Pers C ∗ (Mid8 C (I := I) c ∗ KvEnd C c 0) ∗ Ow c 0 ∗ KvEnd C c 1) from by
      iintro ⟨HP, HR, HO, HK⟩
      ihave HK := ho $$ HK
      iframe).trans ?_
    refine (to_out C (I := I)).trans ?_
    exact ret_stepF (hQ _)
  · have hb := nb (cond38_iff c) h
    have hi := s1_idle C (c := c) (by decide) hb
    refine (show _ ⊢ iprop(Pers C ∗ (Mid8 C (I := I) c ∗ KvEnd C c 0) ∗ Ow c 0 ∗ KvEnd C c 1) from by
      iintro ⟨HP, ⟨HR, HK⟩, HO, H0⟩
      ihave HK := hi $$ HK
      iframe).trans ?_
    simp only [Prog.lift, Prog.bind_op, Prog.bind_ret, Prog.pure_eq_ret]
    refine (to_out C (I := I)).trans ?_
    exact ret_stepF (hQ _)

end Cert.KernelIdealProof
-- ==== Proof.KIdeal.Ghost.lean ====
/-
The state the launch deals the devices: invariants, positions and the duties each device pays.
-/
module

public import proofs.«01_k».proof.Proof.KIdeal.Glue

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

variable {c : Dev nD} {α β : Type} {Q : α → SP F} {R : SP F} {O : CellTallies nD τ sig Unit}

variable (m : (ℓ : Loc nD τ sig) → Buf (Elt F) ℓ) (ρ : Dev nD → PrngReg)

/-! ## Semaphores listed by number -/

theorem ico_of_fin (n a : ℕ) (f : ℕ → SP F) : bigSep Finset.univ (fun k : Fin n => f (a + k.val)) = bigSep (Finset.Ico a (a + n)) f := by
  have hset : Finset.Ico a (a + n) = (Finset.univ : Finset (Fin n)).map ⟨fun k : Fin n => a + k.val, fun x y h => Fin.ext (Nat.add_left_cancel (show a + x.val = a + y.val from h))⟩ := by
    ext q
    simp only [Finset.mem_map, Finset.mem_univ, true_and, Finset.mem_Ico, Function.Embedding.coeFn_mk]
    constructor
    · rintro ⟨h1, h2⟩; exact ⟨⟨q - a, by omega⟩, show a + (q - a) = q by omega⟩
    · rintro ⟨k, rfl⟩; have := k.isLt; exact ⟨show a ≤ a + k.val by omega, show a + k.val < a + n by omega⟩
  rw [hset, bigSep_map]; rfl

theorem cells_eq (c : Dev nD) (g : GSem nD τ sig → SP F) :
    bigSep Finset.univ (fun k : Fin 129 => g (kcell (c, k))) = iprop(g (barCell c) ∗ bigSep (Finset.Ico 6 134) (fun q => g (cell c q))) := by
  have h := ico_of_fin (F := F) 129 6 (fun q => if q < 134 then g (cell c q) else g (barCell c))
  rw [show bigSep Finset.univ (fun k : Fin 129 => g (kcell (c, k))) = bigSep Finset.univ (fun k : Fin 129 => if 6 + k.val < 134 then g (cell c (6 + k.val)) else g (barCell c)) from
    bigSep_congr fun k _ => by
      unfold kcell
      by_cases hk : k.val < 128
      · rw [if_pos hk, if_pos (by omega)]
      · rw [if_neg hk, if_neg (by omega)],
    h, show 6 + 129 = 134 + 1 from rfl, bigSep_Ico_succ_top (by decide), if_neg (by decide),
    bigSep_congr (s := Finset.Ico 6 134) fun q hq => if_pos (Finset.mem_Ico.mp hq).2]

def osem (k : Fin 130) : SemLoc sig := .dma (mkS (6 + k.val))
theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : SP F)
    = iprop(semVal (cell c 135) 0 ∗ semVal (cell c 134) 0 ∗ bigSep (Finset.Ico 6 134) (fun q => semVal (cell c q) 0)) := by
  have h := ico_of_fin (F := F) 130 6 (fun q => semVal (cell c q) 0)
  rw [show 6 + 130 = 134 + 1 + 1 from rfl, bigSep_Ico_succ_top (by decide), bigSep_Ico_succ_top (by decide)] at h
  exact h
theorem unscopedSems0_eq (c : Dev nD) : (unscopedSems0 c : SP F) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 129 => semVal (kcell (c, k)) 0) ∗ (semVal (cell c 134) 0 ∗ semVal (cell c 135) 0) : SP F) := by
  rw [ownSems0_eq, unscopedSems0_eq, cells_eq c (fun g => semVal g 0)]
  refine (show (_ : SP F) ⊢ _ from ?_)
  iintro ⟨⟨H5, H4, HS⟩, HB⟩
  iframe

/-! ## The launch's ghost state -/

theorem mkS_inj {a b : ℕ} (ha : a < 136) (hb : b < 136) (h : mkS a = mkS b) : a = b := by
  have := congrArg Fin.val h; rwa [mkS_val ha, mkS_val hb] at this
theorem kcell_injective : Function.Injective kcell := by
  rintro ⟨c, k⟩ ⟨c', k'⟩ h
  have := k.isLt; have := k'.isLt
  unfold kcell at h
  by_cases h1 : k.val < 128 <;> by_cases h2 : k'.val < 128
  · rw [if_pos h1, if_pos h2] at h
    have hc : c = c' := congrArg (fun g : GSem nD τ sig => g.1.1) h
    have hq := mkS_inj (by omega) (by omega) (SemLoc.dma.inj (congrArg Prod.snd h))
    dsimp only at hq; subst hc; rw [Fin.ext (show k.val = k'.val by omega)]
  · rw [if_pos h1, if_neg h2] at h; exact absurd (congrArg Prod.snd h) (by simp)
  · rw [if_neg h1, if_pos h2] at h; exact absurd (congrArg Prod.snd h) (by simp)
  · rw [if_neg h1, if_neg h2] at h
    have hc : c = c' := congrArg (fun g : GSem nD τ sig => g.1.1) h
    subst hc; rw [Fin.ext (show k.val = k'.val by omega)]
def allCells : Finset (GSem nD τ sig) := Finset.univ.map ⟨kcell, kcell_injective⟩

/-- The duties of the DMA semaphores, and of the barriers. -/
def tokD (ck : Dev nD × Fin 128) : GSem nD τ sig × ℕ × Dev nD := (cell ck.1 (6 + ck.2.val), 0, 0)
def tokB (co : Dev nD × Dev nD) : GSem nD τ sig × ℕ × Dev nD := (barCell co.1, 0, co.2)
theorem tokD_injective : Function.Injective tokD := by
  rintro ⟨c, k⟩ ⟨c', k'⟩ h
  have := k.isLt; have := k'.isLt
  have hc : c = c' := congrArg (fun x : GSem nD τ sig × ℕ × Dev nD => x.1.1.1) h
  have hq := mkS_inj (by omega) (by omega) (SemLoc.dma.inj (congrArg (fun x : GSem nD τ sig × ℕ × Dev nD => x.1.2) h))
  dsimp only at hq; subst hc; rw [Fin.ext (show k.val = k'.val by omega)]
theorem tokB_injective : Function.Injective tokB := by
  rintro ⟨c, o⟩ ⟨c', o'⟩ h
  have hc : c = c' := congrArg (fun x : GSem nD τ sig × ℕ × Dev nD => x.1.1.1) h
  have ho : o = o' := congrArg (fun x : GSem nD τ sig × ℕ × Dev nD => x.2.2) h
  rw [hc, ho]
theorem tok_disj : Disjoint (Finset.univ.map ⟨tokD, tokD_injective⟩) (Finset.univ.map ⟨tokB, tokB_injective⟩) := by
  rw [Finset.disjoint_left]
  intro x h1 h2
  obtain ⟨a, -, rfl⟩ := Finset.mem_map.mp h1
  obtain ⟨b, -, h⟩ := Finset.mem_map.mp h2
  exact absurd (congrArg (fun x : GSem nD τ sig × ℕ × Dev nD => x.1.2) h) (by simp [tokD, tokB])
def allToks : Finset (GSem nD τ sig × ℕ × Dev nD) := Finset.univ.map ⟨tokD, tokD_injective⟩ ∪ Finset.univ.map ⟨tokB, tokB_injective⟩

def u₀ : UU :=
  (initOf (Pipeline.cells cfgs cellOf_inj) (Pipeline.launchToks cfgs cellOf_inj), (initOf allCells allToks, 1))

/-- The duties of device `c`'s own semaphores. -/
def MyToks (c : Dev nD) : SP F := iprop(bigSep (Finset.Ico 6 134) (tok c) ∗ bigSep Finset.univ (fun o : Dev nD => dutyTok ER (barCell c) 0 o))
/-- The duties device `c` pays. -/
def PayToks (c : Dev nD) : SP F :=
  iprop((Toks c (fun d => qS1 d 0) (fun _ => qR1 c.val 0) ∗ Toks c (fun d => qS1 d 1) (fun _ => qR1 c.val 1)) ∗ Toks c qSR (fun _ => qRR c.val) ∗ Toks c qSA (fun _ => qRA c.val) ∗ SigTok c)

def G (c : Dev nD) : SP F :=
  iprop((bigSep Finset.univ fun k : Fin 129 => roundState ER (Rd C) (kcell (c, k)) 0)
    ∗ (bigSep Finset.univ fun k : Fin 129 => reached ER (kcell (c, k)) 0) ∗ (bigSep Finset.univ fun k : Fin 129 => atPos ER (kcell (c, k)) 0 ∅ 0) ∗ MyToks c)

theorem fund_all : BI.own (ER (initOf allCells allToks)) ⊢ (|==> bigSep Finset.univ (G C) : SP F) := by
  have hX (Φ : GSem nD τ sig → SP F) : bigSep allCells Φ = bigSep Finset.univ fun c : Dev nD => bigSep Finset.univ fun k : Fin 129 => Φ (kcell (c, k)) := by
    unfold allCells; rw [bigSep_map, bigSep_univ_prod]; rfl
  have hT : bigSep allToks (fun x => (dutyTok ER x.1 x.2.1 x.2.2 : SP F)) = bigSep Finset.univ fun c : Dev nD => MyToks c := by
    unfold allToks MyToks
    rw [bigSep_union tok_disj, bigSep_map, bigSep_map, bigSep_univ_prod, bigSep_univ_prod, bigSep_sep']
    refine congrArg₂ _ (bigSep_congr fun c _ => ?_) rfl
    exact ico_of_fin 128 6 (tok c)
  iintro HX
  imod (Rounds.fund ER (Rd C) allCells allToks) $$ HX with ⟨Hst, Hr, Hat, Htok⟩
  imodintro
  ihave Hst' := (Entails.of_eq (hX fun g => roundState ER (Rd C) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

/-! ## The duties dealt to who pays them -/

def tgtE (d : ℕ) (hd : d ≤ 16) : Dev nD ≃ Dev nD := ⟨fun c => tgt c d, fun c => src c d, fun c => src_tgt c hd, fun c => tgt_src c hd⟩

theorem sep_turn (T : Finset ℕ) (S : Finset (Dev nD)) (f : Dev nD → ℕ → SP F) :
    bigSep S (fun c => bigSep T (fun d => f c d)) = bigSep T (fun d => bigSep S (fun c => f c d)) := by
  induction S using Finset.induction_on with
  | empty => simp
  | insert c S hc ih =>
    rw [bigSep_insert hc, ih, ← BI.bigSep_sep]
    exact bigSep_congr fun d _ => (bigSep_insert hc (Φ := fun c => f c d)).symm

theorem swap (f : Dev nD → Dev nD → SP F) : bigSep Finset.univ (fun c => bigSep (Finset.Ico 1 16) (fun d => f c (src c d)))
    = bigSep Finset.univ (fun c => bigSep (Finset.Ico 1 16) (fun d => f (tgt c d) c)) := by
  refine (sep_turn (Finset.Ico 1 16) Finset.univ (fun c d => f c (src c d))).trans (.trans (bigSep_congr fun d hd => ?_) (sep_turn (Finset.Ico 1 16) Finset.univ (fun c d => f (tgt c d) c)).symm)
  have hd16 : d ≤ 16 := by rw [Finset.mem_Ico] at hd; omega
  rw [bigSep_univ_equiv (tgtE d hd16)]
  exact bigSep_congr fun c _ => congrArg (f (tgt c d)) (src_tgt c hd16)

/-- The duties of a device's own semaphores, those of the receives named by the sender. -/
def MyToks' (c : Dev nD) : SP F :=
  iprop(bigSep (Finset.Ico 1 16) (fun d => tok c (qS1 d 0)) ∗ bigSep (Finset.Ico 1 16) (fun d => tok c (qS1 d 1)) ∗ bigSep (Finset.Ico 1 16) (fun d => tok c (qSR d)) ∗ bigSep (Finset.Ico 1 16) (fun d => tok c (qSA d))
    ∗ bigSep (Finset.Ico 1 16) (fun d => tok c (qR1 (src c d).val 0)) ∗ bigSep (Finset.Ico 1 16) (fun d => tok c (qR1 (src c d).val 1))
    ∗ bigSep (Finset.Ico 1 16) (fun d => tok c (qRR (src c d).val)) ∗ bigSep (Finset.Ico 1 16) (fun d => tok c (qRA (src c d).val)) ∗ bigSep (Finset.Ico 1 16) (fun d => dutyTok ER (barCell c) 0 (src c d)))

theorem pair_re (f : ℕ → SP F) : bigSep (Finset.Ico 2 32) (fun e => f (qRe c e)) = iprop(bigSep (Finset.Ico 1 16) (fun d => f (qR1 (src c d).val 0)) ∗ bigSep (Finset.Ico 1 16) (fun d => f (qR1 (src c d).val 1))) := by
  rw [show Finset.Ico 2 32 = Finset.Ico (2 * 1) (2 * (1 + 15)) from rfl, bigSep_pairs, ← bigSep_sep']
  refine bigSep_congr fun d _ => ?_
  unfold qRe
  rw [show 2 * d / 2 = d by omega, show 2 * d % 2 = 0 by omega, show (2 * d + 1) / 2 = d by omega, show (2 * d + 1) % 2 = 1 by omega]
theorem pair_se (f : ℕ → SP F) : bigSep (Finset.Ico 2 32) (fun e => f (qSe e)) = iprop(bigSep (Finset.Ico 1 16) (fun d => f (qSR d)) ∗ bigSep (Finset.Ico 1 16) (fun d => f (qSA d))) := by
  rw [show Finset.Ico 2 32 = Finset.Ico (2 * 1) (2 * (1 + 15)) from rfl, bigSep_pairs, ← bigSep_sep']
  refine bigSep_congr fun d _ => ?_
  unfold qSe
  rw [show 2 * d / 2 = d by omega, show (2 * d + 1) / 2 = d by omega, if_pos (by omega), if_neg (by omega)]

attribute [local irreducible] Idl in
theorem my_toks (c : Dev nD) : MyToks (F := F) c ⊢ MyToks' c := by
  unfold MyToks MyToks'
  rw [grp_eq]
  unfold Grp
  rw [pair_re, pair_se, show bigSep Finset.univ (fun o : Dev nD => (dutyTok ER (barCell c) 0 o : SP F)) = iprop(dutyTok ER (barCell c) 0 c ∗ bigSep (Finset.Ico 1 16) (fun d => dutyTok ER (barCell c) 0 (src c d))) from
    (bigSep_erase (Finset.mem_univ c)).trans (congrArg _ (bigSep_src _))]
  refine (show (_ : SP F) ⊢ _ from ?_)
  iintro ⟨⟨H1, H2, ⟨H3, H4⟩, ⟨H5, H6⟩, H7, H8, -⟩, -, H9⟩
  iframe

theorem toks_around : (bigSep Finset.univ fun c : Dev nD => (MyToks c : SP F)) ⊢ bigSep Finset.univ fun c : Dev nD => PayToks c := by
  refine (bigSep_mono fun c _ => my_toks c).trans ?_
  unfold MyToks' PayToks Toks SigTok
  simp only [bigSep_sep']
  rw [swap (fun c s => tok (F := F) c (qR1 s.val 0)), swap (fun c s => tok (F := F) c (qR1 s.val 1)), swap (fun c s => tok (F := F) c (qRR s.val)), swap (fun c s => tok (F := F) c (qRA s.val)),
    swap (fun c s => (dutyTok ER (barCell c) 0 s : SP F))]
  refine (show (_ : SP F) ⊢ _ from ?_)
  iintro ⟨H1, H2, H3, H4, H5, H6, H7, H8, H9⟩
  iframe

/-! ## The global step -/

/-- Each cell's invariant and that its round 0 is reached. -/
def Recs : SP F := bigSep Finset.univ (fun ck : Dev nD × Fin 129 => iprop(∃ κ, cellInv ER (Rd C) κ (kcell ck) ∗ reached ER (kcell ck) 0))
instance Recs_persistent : BI.Persistent (Recs C) := by unfold Recs; infer_instance

/-- A device's own positions, the duties it pays and its two local semaphores. -/
def Lin (c : Dev nD) : SP F :=
  iprop((atPos ER (barCell c) 0 ∅ 0 ∗ bigSep (Finset.Ico 6 134) (AT0 c)) ∗ PayToks c ∗ (semVal (cell c 134) 0 ∗ semVal (cell c 135) 0))
def G' (c : Dev nD) : SP F := iprop(Recs C ∗ Lin c)

def Mine (c : Dev nD) : SP F :=
  iprop((bigSep Finset.univ fun k : Fin 129 => iprop(∃ κ, cellInv ER (Rd C) κ (kcell (c, k)) ∗ reached ER (kcell (c, k)) 0))
    ∗ (atPos ER (barCell c) 0 ∅ 0 ∗ bigSep (Finset.Ico 6 134) (AT0 c)) ∗ MyToks c ∗ (semVal (cell c 134) 0 ∗ semVal (cell c 135) 0))

theorem inv_new (g : GSem nD τ sig) : iprop(semVal g 0 ∗ roundState ER (Rd C) g 0 ∗ reached ER g 0)
    ⊢ (|={Set.univ}=> iprop(∃ κ, cellInv ER (Rd C) κ g ∗ reached ER g 0) : SP F) := by
  iintro ⟨Hv, Hs, Hr⟩
  imod (show iprop(semVal g 0 ∗ roundState ER (Rd C) g 0) ⊢ (|={Set.univ}=> iprop(∃ κ : ℕ, cellInv ER (Rd C) κ g) : SP F) from
    (Rounds.body_intro ER (Rd C) g).trans inv_alloc) $$ [Hv Hs] with ⟨%κ, HI⟩
  · isplitl [Hv] <;> iassumption
  imodintro
  iexists κ
  isplitl [HI] <;> iassumption

theorem core_alloc (c : Dev nD) :
    iprop(Pipeline.ownSems0 (Ix := Unit) (Name := ℕ) (U := UU) (Lvl := ℕ) (Val := Elt F) (τ := τ) osem c ∗ unscopedSems0 c ∗ G C c) ⊢ |={Set.univ}=> Mine C c := by
  unfold G Mine
  iintro ⟨Hos, Hus, Hst, Hr, Hat, Htok⟩
  ihave Hv := (sems0_eq (F := F) c) $$ [Hos Hus]
  · isplitl [Hos] <;> iassumption
  icases Hv with ⟨Hv, H2⟩
  ihave Hat := (Entails.of_eq (cells_eq (F := F) c (fun g => atPos ER g 0 ∅ 0))) $$ Hat
  imod (show iprop((bigSep Finset.univ fun k : Fin 129 => semVal (kcell (c, k)) 0) ∗ (bigSep Finset.univ fun k : Fin 129 => roundState ER (Rd C) (kcell (c, k)) 0) ∗ bigSep Finset.univ fun k : Fin 129 => reached ER (kcell (c, k)) 0)
      ⊢ (|={Set.univ}=> bigSep Finset.univ fun k : Fin 129 => iprop(∃ κ, cellInv ER (Rd C) κ (kcell (c, k)) ∗ reached ER (kcell (c, k)) 0) : SP F) from by
        rw [← bigSep_sep', ← bigSep_sep']
        exact (bigSep_mono fun k _ => inv_new C (kcell (c, k))).trans (bigSep_fupd _ _)) $$ [Hv Hst Hr] with Hinv
  · isplitl [Hv]; · iexact Hv
    isplitl [Hst] <;> iassumption
  imodintro
  isplitl [Hinv]; · iexact Hinv
  isplitl [Hat]; · iexact Hat
  isplitl [Htok] <;> iassumption

theorem regroup : (bigSep Finset.univ fun c : Dev nD => Mine C c) ⊢ bigSep Finset.univ (G' C) := by
  unfold Mine
  simp only [bigSep_sep']
  rw [← bigSep_univ_prod (fun ck : Dev nD × Fin 129 => iprop(∃ κ, cellInv ER (Rd C) κ (kcell ck) ∗ reached ER (kcell ck) 0))]
  refine (show (_ : SP F) ⊢ _ from ?_)
  iintro ⟨HI, ⟨Ha, Hb⟩, Htok, H2, H3⟩
  ihave Htk := (toks_around (F := F)) $$ Htok
  iapply (bigSep_with_persistent (R := Recs C) (Φ := Lin) (Ψ := G' C) fun c _ => show _ ⊢ _ from BIBase.Entails.refl)
  isplitl [HI]; · unfold Recs; iexact HI
  unfold Lin
  simp only [bigSep_sep']
  iframe

theorem glob : (bigSep Finset.univ fun c => iprop(Pipeline.ownSems0 (Ix := Unit) (Name := ℕ) (U := UU) (Lvl := ℕ) (Val := Elt F) (τ := τ) osem c ∗ unscopedSems0 c ∗ G C c) : SP F)
    ⊢ |={Set.univ}=> bigSep Finset.univ (G' C) :=
  ((bigSep_mono fun c _ => core_alloc C c).trans (bigSep_fupd _ _)).trans (BI.fupd_mono (regroup C))

end Cert.KernelIdealProof
-- ==== Proof.KIdeal.Credits.lean ====
/-
What the devices owe one another when the body starts, and the credit this gives each.
-/
module

public import proofs.«01_k».proof.Proof.KIdeal.Ghost

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

variable (C : Cont F)

variable {c : Dev nD} {α β : Type} {Q : α → SP F} {R : SP F} {O : CellTallies nD τ sig Unit}

/-! ## What every device owes when the body starts, cell by cell -/

def O₀ (c : Dev nD) : CellTallies nD τ sig Unit := oB c + sigDebt c 1

theorem lv_0 : ∀ g u, 0 < O₀ c g u → g.1.2 = .tc ∧ 0 < lvl g.2 := by
  intro g u h
  rcases pos_add (show 0 < oB c g u + sigDebt c 1 g u from h) with h | h
  · exact ⟨(lv_B g u h).1, lt_trans (by decide) (lv_B g u h).2⟩
  · unfold sigDebt at h
    revert h
    refine Finset.sum_induction _ (fun x : CellTallies nD τ sig Unit => 0 < x g u → g.1.2 = .tc ∧ 0 < lvl g.2) (fun x y hx hy h => ?_) (fun h => absurd h (Nat.lt_irrefl 0)) fun d _ h => ?_
    · have h' : 0 < x g u ∨ 0 < y g u := by have h2 : 0 < x g u + y g u := h; omega
      exact h'.elim hx hy
    · rw [tallyAt_apply] at h
      by_cases hg : g = barCell (tgt c d) ∧ u = ()
      · rw [hg.1]; exact ⟨rfl, Nat.one_pos⟩
      · rw [if_neg hg] at h; exact absurd h (Nat.lt_irrefl 0)

theorem tgt_sum (d : Dev nD) (f : Dev nD → ℕ) : ∑ e ∈ Finset.Ico 1 16, f (tgt d e) = ∑ t ∈ Finset.univ.erase d, f t := by
  rw [erase_tgt, Finset.sum_image]
  exact fun a ha b hb h => tgt_inj d a (Finset.mem_Ico.mp ha).2 b (Finset.mem_Ico.mp hb).2 (congrArg Fin.val h)
theorem tally_sum (S : Finset ℕ) (g : ℕ → GSem nD τ sig) (a : ℕ → ℕ) (g' : GSem nD τ sig) :
    (∑ e ∈ S, tallyAt (g e) () (a e) : CellTallies nD τ sig Unit) g' () = ∑ e ∈ S, if g' = g e then a e else 0 := by
  induction S using Finset.induction_on with
  | empty => rfl
  | insert e S he ih =>
    rw [Finset.sum_insert he, Finset.sum_insert he, ← ih]
    show tallyAt (g e) () (a e) g' () + _ = _
    rw [tallyAt_apply]
    congr 1
    by_cases h : g' = g e
    · rw [if_pos ⟨h, rfl⟩, if_pos h]
    · rw [if_neg fun h' => h h'.1, if_neg h]

theorem cell_eq_iff {a b : Dev nD} {q r : ℕ} (hq : q < 136) (hr : r < 136) : Iff (cell a q = cell b r) (a = b ∧ q = r) :=
  ⟨fun h => ⟨congrArg (fun g : GSem nD τ sig => g.1.1) h, mkS_inj hq hr (SemLoc.dma.inj (congrArg Prod.snd h))⟩, fun h => by rw [h.1, h.2]⟩

theorem snd_at (d c : Dev nD) {q r : ℕ} (hq : q < 136) (hr : r < 136) :
    sndDebt d (fun _ => r) 1 (cell c q) () = (if d ≠ c ∧ r = q then 1 else 0) * amt q := by
  unfold sndDebt
  rw [tally_sum]
  by_cases h : r = q
  · subst h
    rw [tgt_sum d (fun t => if cell c r = cell t r then amt r else 0)]
    by_cases hd : d = c
    · subst hd
      rw [if_neg fun h => h.1 rfl, Nat.zero_mul]
      exact Finset.sum_eq_zero fun t ht => if_neg fun h => (Finset.mem_erase.mp ht).1 ((cell_eq_iff hq hq).mp h).1.symm
    · rw [if_pos ⟨hd, rfl⟩, Nat.one_mul, Finset.sum_eq_single c (fun t _ ht => if_neg fun h => ht ((cell_eq_iff hq hq).mp h).1.symm)
        (fun hn => absurd (Finset.mem_erase.mpr ⟨fun h => hd h.symm, Finset.mem_univ _⟩) hn), if_pos rfl]
  · rw [if_neg fun hh => h hh.2, Nat.zero_mul]
    exact Finset.sum_eq_zero fun t _ => if_neg fun hh => h ((cell_eq_iff hq hr).mp hh).2.symm

/-- How many of device `d`'s sends complete on semaphore `q` of device `c`. -/
def cnt (d c : Dev nD) (q : ℕ) : ℕ :=
  (((if d ≠ c ∧ qRA d.val = q then 1 else 0) + (if d ≠ c ∧ qRR d.val = q then 1 else 0))
    + (if needB (2 * d.val + 1) then (if d ≠ c ∧ qR1 d.val 1 = q then 1 else 0) else 0)) + (if needB (2 * d.val + 0) then (if d ≠ c ∧ qR1 d.val 0 = q then 1 else 0) else 0)
def isR (q : ℕ) : Bool := decide (38 ≤ q ∧ q < 70) || decide (86 ≤ q ∧ q < 102) || decide (118 ≤ q ∧ q < 134)
theorem cnt_sum : ∀ c : Dev nD, ∀ q ∈ Finset.Ico 6 134, isR q = true → ∑ d : Dev nD, cnt d c q = if act c q then 1 else 0 := by decide +kernel

theorem kv_at (d c : Dev nD) {q j : ℕ} (hq : q < 136) (hj : j < 2) :
    kvDebt d j (cell c q) () = (if needB (2 * d.val + j) then (if d ≠ c ∧ qR1 d.val j = q then 1 else 0) else 0) * amt q := by
  have := dev_lt d
  unfold kvDebt
  by_cases h : needB (2 * d.val + j) = true
  · rw [if_pos h, if_pos h]; exact snd_at d c hq (by dsimp only [qR1]; omega)
  · rw [if_neg h, if_neg h, Nat.zero_mul]; rfl

theorem owed_dma (d c : Dev nD) {q : ℕ} (hq : q < 136) : O₀ d (cell c q) () = cnt d c q * amt q := by
  have := dev_lt d
  have h0 : sigDebt d 1 (cell c q) () = 0 := by
    unfold sigDebt; rw [tally_sum]
    exact Finset.sum_eq_zero fun e _ => if_neg fun h => absurd (congrArg Prod.snd h) (by simp)
  show ((0 + sndDebt d (fun _ => qRA d.val) 1 (cell c q) () + sndDebt d (fun _ => qRR d.val) 1 (cell c q) ()) + kvDebt d 1 (cell c q) () + kvDebt d 0 (cell c q) ()) + sigDebt d 1 (cell c q) () = _
  rw [h0, kv_at d c hq (by decide), kv_at d c hq (by decide), snd_at d c hq (by dsimp only [qRA]; omega), snd_at d c hq (by dsimp only [qRR]; omega)]
  unfold cnt
  rw [Nat.add_zero, Nat.zero_add, Nat.add_mul, Nat.add_mul, Nat.add_mul]

theorem owed_bar (d c : Dev nD) : O₀ d (barCell c) () = if d ≠ c then 1 else 0 := by
  have h0 : oB d (barCell c) () = 0 := by
    by_contra h
    exact absurd (lv_B _ _ (Nat.pos_of_ne_zero h)).2 (Nat.lt_irrefl 1)
  show oB d (barCell c) () + sigDebt d 1 (barCell c) () = _
  have hb {a b : Dev nD} (h : barCell a = barCell b) : a = b := congrArg (fun g : GSem nD τ sig => g.1.1) h
  rw [h0, Nat.zero_add]
  unfold sigDebt
  rw [tally_sum, tgt_sum d (fun t => if barCell c = barCell t then 1 else 0)]
  by_cases hd : d = c
  · subst hd
    rw [if_neg fun h => h rfl]
    exact Finset.sum_eq_zero fun t ht => if_neg fun h => (Finset.mem_erase.mp ht).1 (hb h).symm
  · rw [if_pos hd, Finset.sum_eq_single c (fun t _ ht => if_neg fun h => ht (hb h).symm)
      (fun hn => absurd (Finset.mem_erase.mpr ⟨fun h => hd h.symm, Finset.mem_univ _⟩) hn), if_pos rfl]
theorem bar_sum : ∀ c : Dev nD, (∑ d : Dev nD, if d ≠ c then 1 else 0) = 15 := by decide +kernel

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, bar_sum]

theorem launch_dma (c : Dev nD) {q : ℕ} (hq : q ∈ Finset.Ico 6 134) (hr : isR q = true) (ha : act c q = true) :
    tallyOn (cell c q) (launchCredit (Pipeline.owing O₀) 0 (cell c q)) = (tallyAt (cell c q) () (amt q) : CellTallies nD τ sig Unit) := by
  have hlt : q < 136 := by rw [Finset.mem_Ico] at hq; omega
  unfold tallyAt; refine congrArg _ (Finsupp.ext fun u => ?_); cases u
  rw [Pipeline.launchCredit_owing, Finsupp.single_eq_same, Finset.sum_congr rfl fun d _ => owed_dma d c hlt, ← Finset.sum_mul, cnt_sum c q hq hr, if_pos ha, Nat.one_mul]

theorem cred_at (c : Dev nD) {q : ℕ} (hq : q ∈ Finset.Ico 6 134) (hr : isR q = true) :
    (cred (tallyOn (cell c q) (launchCredit (Pipeline.owing O₀) 0 (cell c q))) : SP F) ⊢ (if act c q then crd c q else iprop(emp)) := by
  by_cases ha : act c q = true
  · rw [launch_dma c hq hr ha, if_pos ha]; exact BIBase.Entails.refl
  · rw [if_neg ha]; iintro -; iempintro

theorem re_R : ∀ c : Dev nD, ∀ e ∈ Finset.Ico 2 32, qRe c e ∈ Finset.Ico 6 134 ∧ isR (qRe c e) = true := by decide +kernel
theorem rr_R : ∀ c : Dev nD, ∀ d ∈ Finset.Ico 1 16, qRR (src c d).val ∈ Finset.Ico 6 134 ∧ isR (qRR (src c d).val) = true := by decide +kernel
theorem ra_R : ∀ c : Dev nD, ∀ d ∈ Finset.Ico 1 16, qRA (src c d).val ∈ Finset.Ico 6 134 ∧ isR (qRA (src c d).val) = true := by decide +kernel

attribute [local irreducible] Idl in
theorem creds (c : Dev nD) : (Pipeline.launchCred O₀ c : SP F)
    ⊢ iprop(cred (tallyAt (barCell c) () 15) ∗ Crs c (qRe c) 2 32 ∗ Crs c (fun d => qRR (src c d).val) 1 16 ∗ Crs c (fun d => qRA (src c d).val) 1 16) := by
  unfold Pipeline.launchCred
  rw [bigSep_univ_at _ (SemLoc.reg barS), launch_bar]
  refine sep_mono_right ?_
  have hsub : (Finset.Ico 6 134).image (fun q => (SemLoc.dma (mkS q) : SemLoc sig)) ⊆ Finset.univ.erase (SemLoc.reg barS) := by
    intro x hx
    obtain ⟨q, -, rfl⟩ := Finset.mem_image.mp hx
    exact Finset.mem_erase.mpr ⟨by simp, Finset.mem_univ _⟩
  refine (bigSep_subset hsub).trans ?_
  rw [bigSep_img _ fun a ha b hb h => mkS_inj (by rw [Finset.mem_Ico] at ha; omega) (by rw [Finset.mem_Ico] at hb; omega) (SemLoc.dma.inj h), grp_eq c]
  unfold Grp Crs
  refine (show (_ : SP F) ⊢ _ from ?_)
  iintro ⟨-, -, H1, -, H2, H3, -⟩
  have m1 := bigSep_mono (s := Finset.Ico 2 32) fun e he => cred_at (F := F) c (re_R c e he).1 (re_R c e he).2
  have m2 := bigSep_mono (s := Finset.Ico 1 16) fun e he => cred_at (F := F) c (rr_R c e he).1 (rr_R c e he).2
  have m3 := bigSep_mono (s := Finset.Ico 1 16) fun e he => cred_at (F := F) c (ra_R c e he).1 (ra_R c e he).2
  isplitl [H1]; · iapply (show _ ⊢ _ from m1); iexact H1
  isplitl [H2]; · iapply (show _ ⊢ _ from m2); iexact H2
  iapply (show _ ⊢ _ from m3); iexact H3

end Cert.KernelIdealProof
-- ==== Proof.KIdeal.Run.lean ====
/-
The launch on sixteen devices, and what the run leaves.
-/
module

public import Idealize.ShloMosaic.Lib.Pipeline.CollectiveSegs
public import proofs.«01_k».proof.Proof.KIdeal.Body3
public import proofs.«01_k».proof.Proof.Gen.KernelIdeal.Points
public import proofs.«01_k».proof.Proof.KIdeal.Credits

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F] [Named F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The operands, as the memory holds them at launch. -/
def ins : Ins F where
  x0 c := (win0_0.blk t0_0).view.read (Elt F) (m ((c : Thread nD τ).loc main_arg0))
  x1 c := (win0_1.blk t0_0).view.read (Elt F) (m ((c : Thread nD τ).loc main_arg1))
  x2 c := (win0_2.blk t0_0).view.read (Elt F) (m ((c : Thread nD τ).loc main_arg2))
  x3 c := (win0_3.blk t0_0).view.read (Elt F) (m ((c : Thread nD τ).loc main_arg3))
  x4 c := (win0_4.blk t0_0).view.read (Elt F) (m ((c : Thread nD τ).loc main_arg4))
/-- What the exchanges carry from that memory. -/
def cm : Cont F := contOf (ins m)

/-- The scratch buffers, at any contents. -/
def Scr (c : Dev nD) : SP F :=
  iprop((∃ f, pts c cc0_scratch0 Finset.univ fullShare f) ∗ (∃ f, pts c cc0_scratch1 Finset.univ fullShare f) ∗ (∃ f, pts c cc0_scratch2 Finset.univ fullShare f)
    ∗ (∃ f, pts c cc0_scratch3 Finset.univ fullShare f) ∗ (∃ f, pts c cc0_scratch4 Finset.univ fullShare f) ∗ (∃ f, pts c cc0_scratch5 Finset.univ fullShare f))
def Start (c : Dev nD) : SP F :=
  iprop(G' (cm m) c ∗ levAts L lv ∗ (cred (tallyAt (barCell c) () 15) ∗ Crs c (qRe c) 2 32 ∗ Crs c (fun d => qRR (src c d).val) 1 16 ∗ Crs c (fun d => qRA (src c d).val) 1 16))
def Φ₀ (c : Dev nD) : SP F := iprop(Start m c ∗ Scr c)
def Φ₁ (c : Dev nD) : SP F :=
  iprop(Scr c ∗ semVal (barCell c) 0 ∗ (semVal (cell c 135) 0 ∗ semVal (cell c 134) 0 ∗ bigSep (Finset.Ico 6 134) (fun q => semVal (cell c q) 0)))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x0 c
    | ⟨1, _⟩ => (ins m).x1 c
    | ⟨2, _⟩ => (ins m).x2 c
    | ⟨3, _⟩ => (ins m).x3 c
    | ⟨4, _⟩ => (ins m).x4 c
    | ⟨5, _⟩ => outV (cm m)
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem owns_whole_eq (c : Dev nD) (b : Ref sig .tc) (X : b.ty.Contents (Elt F)) :
    (owns (Ix := Unit) (Name := ℕ) (U := UU) (Lvl := ℕ) (c : Thread nD τ) (Memref.whole b) fullShare X : SP F)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : SP F :=
  iprop(∃ f : Buf (Elt F) (((c : Dev nD) : Thread nD τ).loc b), ⌜f = X⌝ ∗ (((c : Thread nD τ).loc b) ↦{fullShare} f))

def bodyPre (c : Dev nD) : SP F :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : SP F :=
  iprop(Φ₁ c ∗ (dats m ρ 0 c).owesAt () t0_0.succ
    ∗ stg c cc0_stg0_0 ((ins m).x0 c) ∗ stg c cc0_stg1_0 ((ins m).x1 c) ∗ stg c cc0_stg2_0 ((ins m).x2 c) ∗ stg c cc0_stg3_0 ((ins m).x3 c) ∗ stg c cc0_stg4_0 ((ins m).x4 c)
    ∗ stg c cc0_stg5_0 (outV (cm m)))

attribute [local irreducible] Idl in
theorem to_in (C : Cont F) (I : Ins F) (c : Dev nD) :
    iprop((G' C c ∗ levAts L lv ∗ (cred (tallyAt (barCell c) () 15) ∗ Crs c (qRe c) 2 32 ∗ Crs c (fun d => qRR (src c d).val) 1 16 ∗ Crs c (fun d => qRA (src c d).val) 1 16)) ∗ Scr c
      ∗ (St0 I c ∗ St1 I c ∗ St2 I c ∗ St3 I c ∗ St4 I c) ∗ ∃ f, pts c cc0_stg5_0 Finset.univ fullShare f) ⊢ iprop(Pers C ∗ BodyIn (I := I) c) := by
  unfold Pers G' Recs Lin PayToks BodyIn BodyPre Later Scr
  rw [grp_eq]
  unfold Grp Ats
  refine (show (_ : SP F) ⊢ _ from ?_)
  iintro ⟨⟨⟨HI, ⟨HB, ⟨N0, N1, N2, N3, N4, N5, N6⟩⟩, ⟨⟨T0, T1⟩, T2, T3, T4⟩, ⟨V4, V5⟩⟩, HL, CB, C1, C2, C3⟩, ⟨X0, X1, X2, X3, X4, X5⟩, ⟨S0, S1, S2, S3, S4⟩, S5⟩
  iframe

theorem before_in (c : Dev nD) : (∀ d, (dats m ρ 0 c).before (0 : Fin 6) t0_0 d = (ins m).x0 c) ∧ (∀ d, (dats m ρ 0 c).before (1 : Fin 6) t0_0 d = (ins m).x1 c)
    ∧ (∀ d, (dats m ρ 0 c).before (2 : Fin 6) t0_0 d = (ins m).x2 c) ∧ (∀ d, (dats m ρ 0 c).before (3 : Fin 6) t0_0 d = (ins m).x3 c)
    ∧ (∀ d, (dats m ρ 0 c).before (4 : Fin 6) t0_0 d = (ins m).x4 c) := by
  refine ⟨fun d => ?_, fun d => ?_, fun d => ?_, fun d => ?_, fun d => ?_⟩
  · unfold Dat.before; rw [if_pos (fetch0_0 _)]; rfl
  · unfold Dat.before; rw [if_pos (fetch0_1 _)]; rfl
  · unfold Dat.before; rw [if_pos (fetch0_2 _)]; rfl
  · unfold Dat.before; rw [if_pos (fetch0_3 _)]; rfl
  · unfold Dat.before; rw [if_pos (fetch0_4 _)]; rfl

theorem pre_in (c : Dev nD) : bodyPre m ρ c ⊢ iprop(Pers (cm m) ∗ BodyIn (I := ins m) c ∗ Ow c (oB c + sigDebt c 1)) := by
  obtain ⟨b0, b1, b2, b3, b4⟩ := before_in m ρ c
  have hin := to_in (cm m) (ins m) c
  unfold bodyPre Φ₀ Start Dat.owesAt Pipeline.owesWithin Ow
  iintro ⟨⟨HS, HX⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [b0] at h0; rw [b1] at h1; rw [b2] at h2; rw [b3] at h3; rw [b4] at h4
  subst h0 h1 h2 h3 h4
  rw [show (dats m ρ 0 c).owed t0_0.castSucc = oB c + sigDebt c 1 from rfl]
  ihave HB := (show _ ⊢ _ from hin) $$ [HS HX H0 H1 H2 H3 H4 H5]
  · isplitl [HS]; · iexact HS
    isplitl [HX]; · iexact HX
    isplitl [H0 H1 H2 H3 H4]
    · isplitl [H0]; · iexact H0
      isplitl [H1]; · iexact H1
      isplitl [H2]; · iexact H2
      isplitl [H3] <;> iassumption
    iexists g5; iexact H5
  icases HB with ⟨HP, HB⟩
  isplitl [HP]; · iexact HP
  isplitl [HB]; · iexact HB
  iexists W; iexact HO

/-! ## The semaphores close -/

theorem close_dma (C : Cont F) (c : Dev nD) (q : ℕ) (hq : q ∈ Finset.Ico 6 134) : iprop(Pers C ∗ AT1 c q) ⊢ (|={Set.univ}=> semVal (cell c q) 0 : SP F) := by
  have h := Finset.mem_Ico.mp hq
  unfold AT1
  iintro ⟨HP, HA⟩
  ihave HP := (pers_cell C c h.1 h.2) $$ HP
  icases HP with ⟨%κ, HI, -⟩
  iapply (Rounds.cell_close ER (Rd C) (Set.mem_univ κ) (fun h => h) (R := if act c q then 1 else 0) (fun r hr => by
    by_cases ha : act c q = true
    · rw [if_pos ha] at hr; exact duties_later C (cell c q) r hr
    · exact duties_idle C c (by omega) (by simpa using ha) r)) $$ [HI HA]
  isplitl [HI] <;> iassumption
theorem close_bar (C : Cont F) (c : Dev nD) : iprop(Pers C ∗ atPos ER (barCell c) 1 ∅ 0) ⊢ (|={Set.univ}=> semVal (barCell c) 0 : SP F) := by
  iintro ⟨HP, HA⟩
  ihave HP := (pers_bar C c) $$ HP
  icases HP with ⟨%κ, HI, -⟩
  iapply (Rounds.cell_close ER (Rd C) (Set.mem_univ κ) (fun h => h) (R := 1) (duties_later C (barCell c))) $$ [HI HA]
  isplitl [HI] <;> iassumption

theorem out_post (c : Dev nD) : iprop(Pers (cm m) ∗ BodyOut (cm m) (I := ins m) c ∗ Ow c 0) ⊢ |={Set.univ}=> bodyPost m ρ c := by
  have hd := (bigSep_with_persistent (S := Finset.Ico 6 134) (close_dma (cm m) c)).trans (bigSep_fupd _ _)
  have hb := close_bar (cm m) c
  unfold BodyOut Ow bodyPost Φ₁ Scr Dat.owesAt Pipeline.owesWithin
  rw [show (dats m ρ 0 c).owed t0_0.succ = 0 from rfl]
  iintro ⟨#HP, ⟨HA, HB, ⟨V4, V5⟩, X0, X1, X2, X3, X4, X5, ⟨S0, S1, S2, S3, S4⟩, S5⟩, ⟨%W, HO⟩⟩
  imod (show _ ⊢ _ from hd) $$ [HA] with HA
  · isplitr; · iexact HP
    iexact HA
  imod (show _ ⊢ _ from hb) $$ [HB] with HB
  · isplitr; · iexact HP
    iexact HB
  imodintro
  isplitl [X0 X1 X2 X3 X4 X5 HA HB V4 V5]
  · isplitl [X0 X1 X2 X3 X4 X5]
    · isplitl [X0]; · iexists _; iexact X0
      isplitl [X1]; · iexists _; iexact X1
      isplitl [X2]; · iexists _; iexact X2
      isplitl [X3]; · iexists _; iexact X3
      isplitl [X4]; · iexists _; iexact X4
      iexists _; iexact X5
    isplitl [HB]; · iexact HB
    isplitl [V5]; · iexact V5
    isplitl [V4] <;> iassumption
  isplitl [HO]
  · iexists W
    isplitr; · ipureintro; exact fun _ _ => Or.inl trivial
    iexact HO
  isplitl [S0]
  · iexists _; isplitr; · (ipureintro; rfl)
    iexact S0
  isplitl [S1]
  · iexists _; isplitr; · (ipureintro; rfl)
    iexact S1
  isplitl [S2]
  · iexists _; isplitr; · (ipureintro; rfl)
    iexact S2
  isplitl [S3]
  · iexists _; isplitr; · (ipureintro; rfl)
    iexact S3
  isplitl [S4]
  · iexists _; isplitr; · (ipureintro; rfl)
    iexact S4
  iexists _; isplitr; · (ipureintro; rfl)
  iexact S5

set_option maxRecDepth 4000 in
theorem body_obligation (c : Dev nD) : BodyObligation (dats (F := F) m ρ 0 c) (defs₀ (F := F)) 𝒱₀ () Set.univ := fun t => by
  rw [fin_N0 t]
  rw [show (bigSep Finset.univ : (Fin cfg0.W → SP F) → SP F) = _ from funext bigSep_W0]
  simp only [owns_whole_eq]
  show bodyPre m ρ c ⊢ WP c (At (cc0_body (F := F))) (fun _ => bodyPost m ρ c)
  exact (pre_in m ρ c).trans (body_ok (cm m) (good_contOf (ins m)) fun _ => out_post m ρ c)

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (cm m) c)
      ⊢ |={Set.univ}=> iprop(Start m c ∗ emp) := by
  iintro ⟨-, Hlev, Hcr, -, HG⟩
  ihave Hc := (creds (F := F) c) $$ Hcr
  imodintro
  unfold Start
  isplitl
  · isplitl [HG]; · iexact HG
    isplitl [Hlev] <;> iassumption
  · iempintro

theorem phi0_intro (c : Dev nD) :
    iprop(Start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ Scr
  iintro ⟨Hr, HB, HS⟩
  isplitl [HB]; · iexact HB
  isplitl [HS] <;> iassumption

theorem mayWait_stage (c : Dev nD) (q : DmaSem sig) (hq : q.val < 6) (O : CellTallies nD τ sig Unit) (hO : O = O₀ c ∨ O = 0) :
    (levAts L lv : SP F) ⊢ MayWait (c : Thread nD τ) (.dma q) () O := by
  refine mayWait_of c (.dma q) O fun g u h => ?_
  rcases hO with rfl | rfl
  · have h1 := lv_0 (c := c) g u h
    refine ⟨h1.1, ?_⟩
    show (if q.val < 38 then 0 else _) < lvl g.2
    rw [if_pos (by omega)]; exact h1.2
  · exact absurd h (Nat.lt_irrefl 0)

theorem waits (c : Dev nD) : (levAts L lv : SP F) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every fair execution on the sixteen devices ends; each array then holds its final
contents and every counter is zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (cm m)) (G' := G' (cm m)) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (show BI.own (((Emb.inl : Emb UB (UB × Counters)).trans embR) (initOf allCells allToks)) ⊢ _ from fund_all (cm m)) $$ HX with HG
      imodintro
      isplitl [HP] <;> iassumption)
    (hglob := glob (cm m))
    (hA := fun _ _ => rfl) (hpf := fun _ k => k.elim0)
    (X := Start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays end as they were; every counter is zero again. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c 0).trans ((dats m ρ 0 c).arrAt_in 0 rfl _), (h.1 c 1).trans ((dats m ρ 0 c).arrAt_in 1 rfl _),
      (h.1 c 2).trans ((dats m ρ 0 c).arrAt_in 2 rfl _), (h.1 c 3).trans ((dats m ρ 0 c).arrAt_in 3 rfl _), (h.1 c 4).trans ((dats m ρ 0 c).arrAt_in 4 rfl _)⟩, h.2⟩) (run_main m ρ)

end Cert.KernelIdealProof
-- ==== Proof.Ref.Attn.lean ====
/-
Block-sparse attention: the value that both programs compute, from reals but for the values and the output weights.
-/
module

public import Idealize.ShloMosaic.Lib.Pointwise
public import Idealize.ShloMosaic.Lib.Routing.OpsOrder

@[expose] public section

noncomputable section

namespace Cert.Attn

open Idealize.ShloMosaic

/-- Whether the query rows of block `q` read the key rows of block `k`. -/
def kp (q k : ℕ) : Bool := q == k || k == 0 || (q + k) % 3 == 0

/-- Sums of reals, read among the extended reals. -/
theorem coe_sum {ι : Type} (s : Finset ι) (f : ι → ℝ) : (((∑ i ∈ s, f i : ℝ)) : EReal) = ∑ i ∈ s, ((f i : ℝ) : EReal) := by
  classical
  induction s using Finset.induction_on with
  | empty => simp
  | insert a s h ih => rw [Finset.sum_insert h, Finset.sum_insert h, EReal.coe_add, ih]

/-- A nonnegative real factor goes into a sum of extended reals. -/
theorem sum_mul_coe {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s h ih =>
    rw [Finset.sum_insert h, Finset.sum_insert h, EReal.right_distrib_of_nonneg_of_ne_top (EReal.coe_nonneg.mpr hr) (EReal.coe_ne_top r), ih]

theorem div_coe_coe (x y : ℝ) (h : y ≠ 0) : Ideal.div (x : EReal) (y : EReal) = ((x / y : ℝ) : EReal) := by
  rw [Ideal.div_coe h, ← EReal.coe_mul, mul_one_div]

/-- The constant one eighth denotes a real. -/
theorem ofBits_scale : ∃ r : ℝ, Ideal.ofBits .f32 0x3E000000#32 = (r : EReal) := by
  unfold Ideal.ofBits Ideal.ieee
  simp only []
  rw [if_neg (by decide), if_neg (by decide)]
  exact ⟨_, rfl⟩
theorem ofBits_ninf : Ideal.ofBits .f32 0xFF800000#32 = ⊥ := by
  unfold Ideal.ofBits Ideal.ieee
  simp only []
  rw [if_pos (by decide), if_pos (by decide), if_pos (by decide)]

/-- The scale of the scores. -/
def scl : ℝ := (Ideal.ofBits .f32 0x3E000000#32).toReal
theorem scl_eq : Ideal.ofBits .f32 0x3E000000#32 = ((scl : ℝ) : EReal) := by
  obtain ⟨r, h⟩ := ofBits_scale
  unfold scl; rw [h, EReal.toReal_coe]

section
variable (X : Fin 2 → Fin 128 → Fin 512 → ℝ) (W : Fin 512 → Fin 4096 → ℝ) (K : Fin 2 → Fin 2048 → Fin 64 → Fin 64 → ℝ) (V : Fin 2 → Fin 2048 → Fin 64 → Fin 64 → EReal) (O : Fin 4096 → Fin 512 → EReal)

/-- The column of head `h`'s lane `e`. -/
def col (h e : Fin 64) : Fin 4096 := ⟨h.val * 64 + e.val, by omega⟩
def hd (p : Fin 4096) : Fin 64 := ⟨p.val / 64, by omega⟩
def ln (p : Fin 4096) : Fin 64 := ⟨p.val % 64, by omega⟩
def query (b : Fin 2) (i : Fin 128) (l : Fin 4096) : ℝ := ∑ k, X b i k * W k l
def score (b : Fin 2) (h : Fin 64) (i : Fin 128) (j : Fin 2048) : ℝ := (∑ e, query X W b i (col h e) * K b j h e) * scl
def wt (b : Fin 2) (h : Fin 64) (i : Fin 128) (j : Fin 2048) : ℝ := if kp (i.val / 64) (j.val / 64) then Real.exp (score X W K b h i j) else 0
def ctx (b : Fin 2) (h : Fin 64) (i : Fin 128) (d : Fin 64) : EReal :=
  (∑ j, ((wt X W K b h i j : ℝ) : EReal) * V b j h d) * ((1 / ∑ j, wt X W K b h i j : ℝ) : EReal)
def out (b : Fin 2) (i : Fin 128) (n : Fin 512) : EReal := ∑ p, ctx X W K V b (hd p) i (ln p) * O p n

theorem wt_nonneg (b h i j) : 0 ≤ wt X W K b h i j := by
  unfold wt; split
  · exact (Real.exp_pos _).le
  · exact le_rfl
theorem wt_sum_pos (b h i) : 0 < ∑ j, wt X W K b h i j := by
  refine Finset.sum_pos' (fun j _ => wt_nonneg X W K b h i j) ⟨0, Finset.mem_univ _, ?_⟩
  unfold wt
  rw [if_pos (by unfold kp; simp)]
  exact Real.exp_pos _
end

/-- The largest of finitely many scores, of which one is a real and none is `⊤`, is a real. -/
theorem max_real {n : ℕ} (f : Fin n → EReal) (h1 : ∀ j, f j < ⊤) (j0 : Fin n) (h0 : ⊥ < f j0) :
    ∃ r : ℝ, Finset.fold max (⊥ : EReal) f Finset.univ = (r : EReal) := by
  have hlt : Finset.fold max (⊥ : EReal) f Finset.univ < ⊤ := (Finset.fold_max_lt _).mpr ⟨bot_lt_top, fun j _ => h1 j⟩
  have hgt : ⊥ < Finset.fold max (⊥ : EReal) f Finset.univ := (Finset.lt_fold_max _).mpr (Or.inr ⟨j0, Finset.mem_univ _, h0⟩)
  exact ⟨_, (EReal.coe_toReal hlt.ne hgt.ne').symm⟩

end Cert.Attn
-- ==== Proof.KIdeal.KerVal.lean ====
/-
The kernel, read element by element over the reals: its mask, one head's attention, a device's partial product and the
sum over the devices.
-/
module

public import proofs.«01_k».proof.Proof.KIdeal.Vals
public import proofs.«01_k».proof.Proof.Ref.Attn

@[expose] public section

set_option maxRecDepth 16384

noncomputable section

namespace Cert.KernelIdealProof

open Cert.KernelIdeal Cert.KernelIdeal.Gen
open Idealize.ShloMosaic Idealize.ShloMosaic.TcCoe Idealize.SL.Sem
open Cert.Attn (kp coe_sum div_coe_coe scl scl_eq query score wt ctx out col hd ln wt_sum_pos)

/-! ## Indices -/

/-- The key row that stands in row `t` of the gathered buffer. -/
def pos (t : Fin 1408) : Fin 2048 := ⟨blkOf (t.val / 64) * 64 + t.val % 64, by
  have := blkOf_lt (t.val / 64) (by omega); omega⟩
theorem pos_div (t : Fin 1408) : (pos t).val / 64 = blkOf (t.val / 64) := by
  show (blkOf (t.val / 64) * 64 + t.val % 64) / 64 = _; omega

theorem need_of_kp : ∀ q < 2, ∀ k < 32, kp q k = true → needB k = true := by decide

/-- A sum over the gathered rows is the sum over all rows, where the rows that are not gathered count zero. -/
theorem sum_pos {q : ℕ} (hq : q < 2) {A : Type} [AddCommMonoid A] (f : Fin 2048 → A) (hf : ∀ j, kp q (j.val / 64) = false → f j = 0) :
    ∑ t, f (pos t) = ∑ j, f j := by
  refine Finset.sum_of_injOn pos ?_ (fun _ _ => Finset.mem_coe.mpr (Finset.mem_univ _)) ?_ (fun _ _ => rfl)
  · intro a _ b _ h
    have h1 : blkOf (a.val / 64) = blkOf (b.val / 64) := by rw [← pos_div, ← pos_div, h]
    have h2 : a.val / 64 = b.val / 64 := by
      rw [← slot_blkOf (a.val / 64) (by omega), ← slot_blkOf (b.val / 64) (by omega), h1]
    have h3 : blkOf (a.val / 64) * 64 + a.val % 64 = blkOf (b.val / 64) * 64 + b.val % 64 := congrArg Fin.val h
    exact Fin.ext (by rw [h1] at h3; omega)
  · intro j _ hj
    refine hf j ?_
    by_contra hk
    have hn := need_of_kp q hq (j.val / 64) (by omega) (by simpa using hk)
    have hs := slot_lt (j.val / 64) (by omega) hn
    refine hj ⟨⟨slot (j.val / 64) * 64 + j.val % 64, by omega⟩, Finset.mem_coe.mpr (Finset.mem_univ _), Fin.ext ?_⟩
    show blkOf ((slot (j.val / 64) * 64 + j.val % 64) / 64) * 64 + (slot (j.val / 64) * 64 + j.val % 64) % 64 = j.val
    rw [show (slot (j.val / 64) * 64 + j.val % 64) / 64 = slot (j.val / 64) by omega, blkOf_slot _ (by omega) hn]; omega

theorem rdX_apply (f : S2x128x512.Idx → Elt Ideal .bf16) (b : Fin 2) (h) (i : Fin 128) (k : Fin 512) :
    rdX f b.val h (ix3 0 i k) = f (ix3 b i k) := by
  show f _ = f _
  congr 1
  idx_ext <;> simp
theorem rdG_apply (G : S2x2x1408x256.Idx → Elt Ideal .bf16) (a b : Fin 2) (o : ℕ) (ho : o + 64 ≤ 256) (h) (t : Fin 1408) (e : Fin 64) :
    rdG G a.val b.val o h (ix4 0 0 t e) = G (ix4 a b t ⟨o + e.val, by omega⟩) := by
  show G _ = G _
  congr 1
  funext x; apply Fin.ext; fin_cases x
  · exact (fun n => by omega : ∀ n : ℕ, n + 1 * 0 = n) _
  · exact (fun n => by omega : ∀ n : ℕ, n + 1 * 0 = n) _
  · exact (fun n => by omega : ∀ n : ℕ, 0 + 1 * n = n) _
  · exact (fun n => by omega : ∀ n : ℕ, o + 1 * n = o + n) _
theorem fill4_apply {V : Type} (w0 w1 : S1x2x128x4096.Idx → V) (a : Fin 2) (b : Fin 2) (j : Fin 128) (l : Fin 4096) :
    fill4 w0 w1 (ix4 a b j l) = if a.val = 0 then w0 (ix4 0 b j l) else w1 (ix4 0 b j l) := by
  have h : ∀ w : S1x2x128x4096.Idx → V, w (fun | 0 => ⟨0, by decide⟩ | 1 => b | 2 => j | 3 => l) = w (ix4 0 b j l) := fun w => by
    congr 1; funext x; apply Fin.ext; fin_cases x <;> rfl
  rw [← h w0, ← h w1]
  show (if a.val = 0 then w0 else w1) _ = _
  split <;> rfl
theorem fill3_apply {V : Type} (w0 w1 : S1x128x512.Idx → V) (b : Fin 2) (i : Fin 128) (n : Fin 512) :
    fill3 w0 w1 (ix3 b i n) = if b.val = 0 then w0 (ix3 0 i n) else w1 (ix3 0 i n) := by
  have h : ∀ w : S1x128x512.Idx → V, w (fun | 0 => ⟨0, by decide⟩ | 1 => i | 2 => n) = w (ix3 0 i n) := fun w => by
    congr 1; funext x; apply Fin.ext; fin_cases x <;> rfl
  rw [← h w0, ← h w1]
  show (if b.val = 0 then w0 else w1) _ = _
  split <;> rfl

/-! ## The mask -/

theorem pay6_apply (i : Fin 128) (t : Fin 1408) : k0_pay6 (ix2 i t) = BitVec.ofNat 32 (i.val / 64) := by
  pointwise [k0_pay6]
  revert i; decide +kernel
theorem pay9_apply (i : Fin 128) (t : Fin 1408) : k0_pay9 k0_pay7 k0_pay8 (ix2 i t) = BitVec.ofNat 32 (t.val / 64) := by
  pointwise [k0_pay9, k0_pay7, k0_pay8]
  revert t; decide +kernel
theorem maskV_apply (i : Fin 128) (t : Fin 1408) :
    maskV (F := Ideal) (ix2 i t) = if kp (i.val / 64) ((pos t).val / 64) then (0 : EReal) else ⊥ := by
  rw [pos_div]
  pointwise [maskV, k0_pay14, k0_pay13, k0_pay12, k0_pay11, k0_pay10]
  rw [pay6_apply, pay9_apply]
  have hq : i.val / 64 < 2 := by omega
  have hk : t.val / 64 < 22 := by omega
  generalize i.val / 64 = q at hq ⊢
  generalize t.val / 64 = k at hk ⊢
  have hn : (Named.named (F := Ideal) κ "mask" (φ := .f32) 0xCE6E6B28#32 : EReal) = ⊥ := rfl
  rw [hn]
  refine Eq.trans (congrArg (fun c => Scalar.select c (0 : EReal) ⊥) (?_ : _ = BitVec.ofBool (kp q (blkOf k)))) (Scalar.select_ofBool _ _ _)
  revert q k; decide +kernel

/-! ## One head -/

section
variable {X : Fin 2 → Fin 128 → Fin 512 → ℝ} {W : Fin 512 → Fin 4096 → ℝ} {K : Fin 2 → Fin 2048 → Fin 64 → Fin 64 → ℝ} {V : Fin 2 → Fin 2048 → Fin 64 → Fin 64 → EReal} {O : Fin 4096 → Fin 512 → EReal}

theorem head_exp {b : Fin 2} {h : Fin 64} {i : Fin 128} (A : Fin 64 → EReal) (M : Fin 1408 → EReal) (Kf : Fin 1408 → Fin 64 → EReal)
    (hA : ∀ e, A e = ((query X W b i (col h e) * scl : ℝ) : EReal))
    (hM : ∀ t, M t = if kp (i.val / 64) ((pos t).val / 64) then (0 : EReal) else ⊥)
    (hK : ∀ t e, Kf t e = ((K b (pos t) h e : ℝ) : EReal)) (t : Fin 1408) :
    Ideal.exp (∑ e, A e * Kf t e + M t) = ((wt X W K b h i (pos t) : ℝ) : EReal) := by
  have hs : ∑ e, A e * Kf t e = ((score X W K b h i (pos t) : ℝ) : EReal) := by
    rw [score, Finset.sum_mul, coe_sum]
    refine Finset.sum_congr rfl fun e _ => ?_
    rw [hA, hK, ← EReal.coe_mul]
    congr 1; ring
  rw [hs, hM, wt]
  split
  · rw [add_zero, Ideal.exp_coe]
  · rw [EReal.add_bot, Ideal.exp_bot, EReal.coe_zero]

theorem head_val {b : Fin 2} {h : Fin 64} {i : Fin 128} {d : Fin 64} (A : Fin 64 → EReal) (M : Fin 1408 → EReal) (Kf : Fin 1408 → Fin 64 → EReal)
    (Vf : Fin 1408 → EReal)
    (hA : ∀ e, A e = ((query X W b i (col h e) * scl : ℝ) : EReal))
    (hM : ∀ t, M t = if kp (i.val / 64) ((pos t).val / 64) then (0 : EReal) else ⊥)
    (hK : ∀ t e, Kf t e = ((K b (pos t) h e : ℝ) : EReal)) (hV : ∀ t, Vf t = V b (pos t) h d) :
    Ideal.div (∑ t, Ideal.exp (∑ e, A e * Kf t e + M t) * Vf t) (∑ t, Ideal.exp (∑ e, A e * Kf t e + M t))
      = ctx X W K V b h i d := by
  have hq : i.val / 64 < 2 := by omega
  have h0 : ∀ j, kp (i.val / 64) (j.val / 64) = false → wt X W K b h i j = 0 := fun j hj => by
    unfold wt; rw [hj]; simp
  have h1 := sum_pos hq (fun j => ((wt X W K b h i j : ℝ) : EReal) * V b j h d) (fun j hj => by rw [h0 j hj, EReal.coe_zero, zero_mul])
  have h2 := sum_pos hq (fun j => wt X W K b h i j) h0
  simp only [head_exp A M Kf hA hM hK, hV]
  rw [← coe_sum, h1, h2, Ideal.div_coe (wt_sum_pos X W K b h i).ne']
  rfl
end

end Cert.KernelIdealProof
-- ==== Proof.KIdeal.KerOut.lean ====
/-
The kernel's result: a device's partial product, and its sum over the devices.
-/
module

public import proofs.«01_k».proof.Proof.KIdeal.KerVal

@[expose] public section

set_option maxRecDepth 16384

noncomputable section

namespace Cert.KernelIdealProof

open Cert.KernelIdeal Cert.KernelIdeal.Gen
open Idealize.ShloMosaic Idealize.ShloMosaic.TcCoe Idealize.SL.Sem
open Cert.Attn (kp coe_sum div_coe_coe scl scl_eq query score wt ctx out col hd ln wt_sum_pos)

variable {X : Fin 2 → Fin 128 → Fin 512 → ℝ} {W : Fin 512 → Fin 4096 → ℝ} {K : Fin 2 → Fin 2048 → Fin 64 → Fin 64 → ℝ} {V : Fin 2 → Fin 2048 → Fin 64 → Fin 64 → EReal} {O : Fin 4096 → Fin 512 → EReal}

/-- Column `l` of device `c`'s 256 columns. -/
def gcol (c : Dev nD) (l : Fin 256) : Fin 4096 := ⟨c.val * 256 + l.val, by have : c.val < 16 := c.isLt; omega⟩
/-- Row `j` of device `c`'s 128 key rows. -/
def grow (c : Dev nD) (j : Fin 128) : Fin 2048 := ⟨c.val * 128 + j.val, by have : c.val < 16 := c.isLt; omega⟩

/-- The operands are the devices' parts of whole arrays, of which the input, the query weights and the keys are real. -/
structure Parts (I : Ins Ideal) (X : Fin 2 → Fin 128 → Fin 512 → ℝ) (W : Fin 512 → Fin 4096 → ℝ) (K : Fin 2 → Fin 2048 → Fin 64 → Fin 64 → ℝ)
    (V : Fin 2 → Fin 2048 → Fin 64 → Fin 64 → EReal) (O : Fin 4096 → Fin 512 → EReal) : Prop where
  x0 : ∀ c b i k, I.x0 c (ix3 b i k) = ((X b i k : ℝ) : EReal)
  x1 : ∀ c k l, I.x1 c (ix2 k l) = ((W k (gcol c l) : ℝ) : EReal)
  x2 : ∀ c b j h e, I.x2 c (ix4 b j h e) = ((K b (grow c j) h e : ℝ) : EReal)
  x3 : ∀ c b j h e, I.x3 c (ix4 b j h e) = V b (grow c j) h e
  x4 : ∀ c l n, I.x4 c (ix2 l n) = O (gcol c l) n

variable {I : Ins Ideal} (hI : Parts I X W K V O)

include hI in
theorem q0_apply (c : Dev nD) (i : Fin 128) (l : Fin 256) : q0V (I.x0 c) (I.x1 c) (ix2 i l) = ((query X W 0 i (gcol c l) * scl : ℝ) : EReal) := by
  pointwise [q0V, k0_pay4, k0_pay3]
  rw [EReal.coe_mul, ← scl_eq, query, coe_sum]
  congr 1
  refine Finset.sum_congr rfl fun k _ => ?_
  rw [EReal.coe_mul, ← hI.x0 c, ← hI.x1 c]
  exact congrArg (· * _) (rdX_apply (I.x0 c) 0 _ i k)
include hI in
theorem q1_apply (c : Dev nD) (i : Fin 128) (l : Fin 256) : q1V (I.x0 c) (I.x1 c) (ix2 i l) = ((query X W 1 i (gcol c l) * scl : ℝ) : EReal) := by
  pointwise [q1V, k0_pay5, k0_pay3]
  rw [EReal.coe_mul, ← scl_eq, query, coe_sum]
  congr 1
  refine Finset.sum_congr rfl fun k _ => ?_
  rw [EReal.coe_mul, ← hI.x0 c, ← hI.x1 c]
  exact congrArg (· * _) (rdX_apply (I.x0 c) 1 _ i k)

/-- What the gathered buffer holds: row `pos t` of the keys (`a = 0`) and values, in device `c`'s columns. -/
theorem Gkv_apply (C : Cont Ideal) (U : Fin 2 → Fin 2 → Fin 2048 → Fin 64 → Fin 64 → EReal)
    (hC : ∀ s a b j l, C.kv s (ix4 a b j l) = U a b (grow s j) (hd l) (ln l)) (c : Dev nD) (a b : Fin 2) (t : Fin 1408) (l : Fin 256) :
    Gkv C c (ix4 a b t l) = U a b (pos t) (hd (gcol c l)) (ln (gcol c l)) := by
  have hc : c.val < 16 := c.isLt
  have hb := blkOf_lt (t.val / 64) (by omega)
  have e : Gkv C c (ix4 a b t l) = C.kv ⟨blkOf (t.val / 64) / 2 % 16, mod16_lt _⟩
      (ix4 a b ⟨(blkOf (t.val / 64) % 2 * 64 + t.val % 64) % 128, Nat.mod_lt _ (by decide)⟩ ⟨(c.val * 256 + l.val) % 4096, Nat.mod_lt _ (by decide)⟩) := by
    show C.kv _ _ = C.kv _ _
    congr 1; funext x; apply Fin.ext; fin_cases x <;> rfl
  have el : (⟨(c.val * 256 + l.val) % 4096, Nat.mod_lt _ (by decide)⟩ : Fin 4096) = gcol c l :=
    Fin.ext (Nat.mod_eq_of_lt (by omega : c.val * 256 + l.val < 4096))
  have er : grow ⟨blkOf (t.val / 64) / 2 % 16, mod16_lt _⟩ ⟨(blkOf (t.val / 64) % 2 * 64 + t.val % 64) % 128, Nat.mod_lt _ (by decide)⟩ = pos t := by
    apply Fin.ext
    show blkOf (t.val / 64) / 2 % 16 * 128 + (blkOf (t.val / 64) % 2 * 64 + t.val % 64) % 128 = blkOf (t.val / 64) * 64 + t.val % 64
    omega
  rw [e, hC, el, er]

/-- The head that lane `l` of device `c` belongs to. -/
theorem hd_gcol (c : Dev nD) (o : ℕ) (e : Fin 64) (ho : o + 64 ≤ 256) (h64 : o % 64 = 0) (l : Fin 256) (hl : o ≤ l.val) (hl' : l.val < o + 64) :
    gcol c ⟨o + e.val, by omega⟩ = col (hd (gcol c l)) e ∧ hd (gcol c ⟨o + e.val, by omega⟩) = hd (gcol c l) ∧ ln (gcol c ⟨o + e.val, by omega⟩) = e := by
  have hc : c.val < 16 := c.isLt
  refine ⟨Fin.ext ?_, Fin.ext ?_, Fin.ext ?_⟩
  · show c.val * 256 + (o + e.val) = (c.val * 256 + l.val) / 64 * 64 + e.val; omega
  · show (c.val * 256 + (o + e.val)) / 64 = (c.val * 256 + l.val) / 64; omega
  · show (c.val * 256 + (o + e.val)) % 64 = e.val; omega

/-- One head of one row block, from the query at its columns and its keys and values in the gathered buffer. -/
theorem head_at (c : Dev nD) (b : Fin 2) (G : S2x2x1408x256.Idx → Elt Ideal .bf16) (q : FVec Ideal S128x256 .f32)
    (hK : ∀ t l, G (ix4 0 b t l) = ((K b (pos t) (hd (gcol c l)) (ln (gcol c l)) : ℝ) : EReal))
    (hV : ∀ t l, G (ix4 1 b t l) = V b (pos t) (hd (gcol c l)) (ln (gcol c l)))
    (hq : ∀ i l, q (ix2 i l) = ((query X W b i (gcol c l) * scl : ℝ) : EReal))
    (o : ℕ) (ho : o + 64 ≤ 256) (h64 : o % 64 = 0) (ik iv) (i : Fin 128) (l : Fin 256) (hl : o ≤ l.val) (hl' : l.val < o + 64)
    (d : Fin 64) (hd' : d.val = l.val - o) (A : Fin 64 → EReal) (hA : ∀ e, A e = q (ix2 i ⟨o + e.val, by omega⟩)) :
    Ideal.div (∑ t, Ideal.exp (∑ e, A e * rdG G 0 b.val o ik (ix4 0 0 t e) + maskV (F := Ideal) (ix2 i t)) * rdG G 1 b.val o iv (ix4 0 0 t d))
        (∑ t, Ideal.exp (∑ e, A e * rdG G 0 b.val o ik (ix4 0 0 t e) + maskV (F := Ideal) (ix2 i t)))
      = ctx X W K V b (hd (gcol c l)) i (ln (gcol c l)) := by
  have hln : ln (gcol c l) = d := by
    rw [← (hd_gcol c o d ho h64 l hl hl').2.2]
    congr 2; exact Fin.ext (by show l.val = o + d.val; omega)
  refine head_val A _ (fun t e => rdG G 0 b.val o ik (ix4 0 0 t e)) (fun t => rdG G 1 b.val o iv (ix4 0 0 t d)) ?_ ?_ ?_ ?_
  · intro e; rw [hA, hq, (hd_gcol c o e ho h64 l hl hl').1]
  · intro t; exact maskV_apply i t
  · intro t e
    obtain ⟨-, h2, h3⟩ := hd_gcol c o e ho h64 l hl hl'
    exact (rdG_apply G 0 b o ho _ t e).trans (by rw [hK, h2, h3])
  · intro t
    obtain ⟨-, h2, h3⟩ := hd_gcol c o d ho h64 l hl hl'
    exact (rdG_apply G 1 b o ho _ t d).trans (by rw [hV, h2, h3, hln])

/-- Device `c`'s partial product. -/
def part (X : Fin 2 → Fin 128 → Fin 512 → ℝ) (W : Fin 512 → Fin 4096 → ℝ) (K : Fin 2 → Fin 2048 → Fin 64 → Fin 64 → ℝ)
    (V : Fin 2 → Fin 2048 → Fin 64 → Fin 64 → EReal) (O : Fin 4096 → Fin 512 → EReal)
    (c : Dev nD) (b : Fin 2) (i : Fin 128) (n : Fin 512) : EReal :=
  ∑ l : Fin 256, ctx X W K V b (hd (gcol c l)) i (ln (gcol c l)) * O (gcol c l) n

theorem top_apply (c : Dev nD) (G : S2x2x1408x256.Idx → Elt Ideal .bf16) (q : FVec Ideal S128x256 .f32) (x4 : S256x512.Idx → Elt Ideal .bf16)
    (hK : ∀ t l, G (ix4 0 0 t l) = ((K 0 (pos t) (hd (gcol c l)) (ln (gcol c l)) : ℝ) : EReal))
    (hV : ∀ t l, G (ix4 1 0 t l) = V 0 (pos t) (hd (gcol c l)) (ln (gcol c l)))
    (hq : ∀ i l, q (ix2 i l) = ((query X W 0 i (gcol c l) * scl : ℝ) : EReal))
    (h4 : ∀ l n, x4 (ix2 l n) = O (gcol c l) n) (i : Fin 128) (n : Fin 512) :
    topV q (maskV (F := Ideal)) x4 G (ix2 i n) = part X W K V O c 0 i n := by
  pointwise [topV, k0_pay22, k0_pay15, k0_pay16, k0_pay17, k0_pay18, k0_pay19, k0_pay20, k0_pay21]
  rw [part]
  refine Finset.sum_congr rfl fun l _ => ?_
  rw [h4]
  congr 1
  have hl : l.val < 256 := l.isLt
  split
  · exact head_at c 0 G q hK hV hq 0 (by omega) (by omega) _ _ i l (by omega) (by omega) _ (by dsimp only; omega) _ (fun e => congrArg (fun z => q (ix2 i z)) (Fin.ext (by show e.val = 0 + e.val; omega)))
  split
  · exact head_at c 0 G q hK hV hq 64 (by omega) (by omega) _ _ i l (by omega) (by omega) _ rfl _ (fun e => rfl)
  split
  · exact head_at c 0 G q hK hV hq 128 (by omega) (by omega) _ _ i l (by omega) (by omega) _ (by dsimp only; omega) _ (fun e => rfl)
  · exact head_at c 0 G q hK hV hq 192 (by omega) (by omega) _ _ i l (by omega) (by omega) _ (by dsimp only; omega) _ (fun e => rfl)

theorem bot_apply (c : Dev nD) (G : S2x2x1408x256.Idx → Elt Ideal .bf16) (q : FVec Ideal S128x256 .f32) (x4 : S256x512.Idx → Elt Ideal .bf16)
    (hK : ∀ t l, G (ix4 0 1 t l) = ((K 1 (pos t) (hd (gcol c l)) (ln (gcol c l)) : ℝ) : EReal))
    (hV : ∀ t l, G (ix4 1 1 t l) = V 1 (pos t) (hd (gcol c l)) (ln (gcol c l)))
    (hq : ∀ i l, q (ix2 i l) = ((query X W 1 i (gcol c l) * scl : ℝ) : EReal))
    (h4 : ∀ l n, x4 (ix2 l n) = O (gcol c l) n) (i : Fin 128) (n : Fin 512) :
    botV q (maskV (F := Ideal)) x4 G (ix2 i n) = part X W K V O c 1 i n := by
  pointwise [botV, k0_pay28, k0_pay15, k0_pay23, k0_pay24, k0_pay25, k0_pay26, k0_pay27]
  rw [part]
  refine Finset.sum_congr rfl fun l _ => ?_
  rw [h4]
  congr 1
  have hl : l.val < 256 := l.isLt
  split
  · exact head_at c 1 G q hK hV hq 0 (by omega) (by omega) _ _ i l (by omega) (by omega) _ (by dsimp only; omega) _ (fun e => congrArg (fun z => q (ix2 i z)) (Fin.ext (by show e.val = 0 + e.val; omega)))
  split
  · exact head_at c 1 G q hK hV hq 64 (by omega) (by omega) _ _ i l (by omega) (by omega) _ rfl _ (fun e => rfl)
  split
  · exact head_at c 1 G q hK hV hq 128 (by omega) (by omega) _ _ i l (by omega) (by omega) _ (by dsimp only; omega) _ (fun e => rfl)
  · exact head_at c 1 G q hK hV hq 192 (by omega) (by omega) _ _ i l (by omega) (by omega) _ (by dsimp only; omega) _ (fun e => rfl)

include hI in
theorem kv_apply (C : Cont Ideal) (hC : Good C I) (s : Dev nD) (a b : Fin 2) (j : Fin 128) (l : Fin 4096) :
    C.kv s (ix4 a b j l) = (if a.val = 0 then ((K b (grow s j) (hd l) (ln l) : ℝ) : EReal) else V b (grow s j) (hd l) (ln l)) := by
  rw [hC.kv s, fill4_apply]
  split
  · rw [← hI.x2 s]; pointwise [k0_pay1]; rfl
  · rw [← hI.x3 s]; pointwise [k0_pay2]; rfl

include hI in
theorem ps_apply (C : Cont Ideal) (hC : Good C I) (s : Dev nD) (b : Fin 2) (i : Fin 128) (n : Fin 512) :
    C.ps s (ix3 b i n) = part X W K V O s b i n := by
  have hG := Gkv_apply C (fun a b j h e => if a.val = 0 then ((K b j h e : ℝ) : EReal) else V b j h e) (kv_apply hI C hC) s
  have h29 : ∀ G : FVec Ideal S128x512 .f32, k0_pay30 (k0_pay29 G) (ix3 0 i n) = G (ix2 i n) := fun G => by pointwise [k0_pay30, k0_pay29]
  have h31 : ∀ G : FVec Ideal S128x512 .f32, k0_pay31 G (ix3 0 i n) = G (ix2 i n) := fun G => by pointwise [k0_pay31]
  rw [hC.ps s, fill3_apply]
  fin_cases b
  · exact (h29 _).trans (top_apply s (Gkv C s) _ _ (fun t l => hG 0 0 t l) (fun t l => hG 1 0 t l) (q0_apply hI s) (hI.x4 s) i n)
  · exact (h31 _).trans (bot_apply s (Gkv C s) _ _ (fun t l => hG 0 1 t l) (fun t l => hG 1 1 t l) (q1_apply hI s) (hI.x4 s) i n)

/-- The sum over the devices of their partial products is the whole product. -/
theorem sum_part (b : Fin 2) (i : Fin 128) (n : Fin 512) : ∑ s : Dev nD, part X W K V O s b i n = out X W K V O b i n := by
  unfold part out
  rw [← Fintype.sum_prod_type' (f := fun (s : Dev nD) (l : Fin 256) => ctx X W K V b (hd (gcol s l)) i (ln (gcol s l)) * O (gcol s l) n)]
  refine Fintype.sum_equiv (finProdFinEquiv (m := 16) (n := 256)) _ _ fun p => ?_
  have e : finProdFinEquiv (m := 16) (n := 256) p = gcol p.1 p.2 := Fin.ext (by
    show p.2.val + 256 * p.1.val = p.1.val * 256 + p.2.val; omega)
  rw [e]

include hI in
theorem ag_apply (C : Cont Ideal) (hC : Good C I) (s : Dev nD) (r : Fin 16) (n : Fin 512) :
    C.ag s (ix2 r n) = out X W K V O ⟨s.val / 8 % 2, Nat.mod_lt _ (by decide)⟩ ⟨(s.val % 8 * 16 + r.val) % 128, Nat.mod_lt _ (by decide)⟩ n := by
  have h32 : ∀ G : S16x16x512.Idx → Elt Ideal .bf16, k0_pay32 G (ix2 r n) = ∑ x : Fin 16, G (ix3 x r n) := fun G => by pointwise [k0_pay32]
  rw [hC.ag s, h32, ← sum_part]
  refine Finset.sum_congr rfl fun x _ => ?_
  rw [← ps_apply hI C hC]
  show C.ps _ _ = C.ps _ _
  congr 1; funext a; apply Fin.ext; fin_cases a <;> rfl

include hI in
theorem Gag_apply (C : Cont Ideal) (hC : Good C I) (b : Fin 2) (i : Fin 128) (s r : Fin 16) (h : s.val * 16 + r.val = b.val * 128 + i.val) (n : Fin 512) :
    Gag C (ix3 s r n) = out X W K V O b i n := by
  have hb : (⟨s.val / 8 % 2, Nat.mod_lt _ (by decide)⟩ : Fin 2) = b := Fin.ext (by show s.val / 8 % 2 = b.val; omega)
  have hi : (⟨(s.val % 8 * 16 + r.val) % 128, Nat.mod_lt _ (by decide)⟩ : Fin 128) = i := Fin.ext (by show (s.val % 8 * 16 + r.val) % 128 = i.val; omega)
  have := ag_apply hI C hC s r n
  rw [hb, hi] at this
  rw [← this]
  show C.ag _ _ = C.ag _ _
  congr 1; funext a; apply Fin.ext; fin_cases a <;> rfl

include hI in
theorem outV_apply (C : Cont Ideal) (hC : Good C I) (b : Fin 2) (i : Fin 128) (n : Fin 512) :
    outV C (ix3 b i n) = out X W K V O b i n := by
  unfold outV
  rw [fill3_apply]
  generalize hG : Gag C = G
  have hg : ∀ (s r : Fin 16), s.val * 16 + r.val = b.val * 128 + i.val → G (ix3 s r n) = out X W K V O b i n := fun s r h => by
    rw [← hG]; exact Gag_apply hI C hC b i s r h n
  split
  · pointwise [k0_pay34, k0_pay33]
    exact hg _ _ (by dsimp only; omega)
  · pointwise [k0_pay35, k0_pay33]
    exact hg _ _ (by dsimp only; omega)

end Cert.KernelIdealProof
-- ==== Proof.Ref.RefVal.lean ====
/-
The reference, read element by element: its mask, its scores, its softmax and its products.
-/
module

public import proofs.«01_k».proof.Proof.Gen.ReferenceIdeal.Run
public import proofs.«01_k».proof.Proof.Ref.Attn

@[expose] public section

set_option maxRecDepth 16384

noncomputable section

namespace Cert.RefVal

open Cert.ReferenceIdeal Cert.ReferenceIdeal.Gen
open Idealize.ShloMosaic Idealize.ShloMosaic.TcCoe Idealize.SL.Sem
open Cert.Attn

variable {F : FTy → Type} [FloatOps F]

/-- A query row's block and a key row's block. -/
def qbR : IVec S128 32 := (select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32)))))
def kbR : IVec S2048 32 := (select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32)))))
/-- Which key rows a query row reads. -/
def maskR : IVec S128x2048 1 := (ori (ori (cmpi .eq (broadcastInDim S128x2048 ![0, 1] bcast_S128x1_S128x2048_0_1 (broadcastInDim S128x1 ![0] bcast_S128_S128x1_0 qbR)) (broadcastInDim S128x2048 ![0, 1] bcast_S1x2048_S128x2048_0_1 (broadcastInDim S1x2048 ![1] bcast_S2048_S1x2048_1 kbR))) (broadcastInDim S128x2048 ![0, 1] bcast_S1x2048_S128x2048_0_1 (cmpi .eq (broadcastInDim S1x2048 ![1] bcast_S2048_S1x2048_1 kbR) (broadcastInDim S1x2048 ![] bcast_S_S1x2048 (constantI S_ 32 0#32))))) (cmpi .eq (select (andi (cmpi .ne (cmpi .slt (Host.remsi (addi (broadcastInDim S128x2048 ![0, 1] bcast_S128x1_S128x2048_0_1 (broadcastInDim S128x1 ![0] bcast_S128_S128x1_0 qbR)) (broadcastInDim S128x2048 ![0, 1] bcast_S1x2048_S128x2048_0_1 (broadcastInDim S1x2048 ![1] bcast_S2048_S1x2048_1 kbR))) (broadcastInDim S128x2048 ![] bcast_S_S128x2048 (select (cmpi .eq (id (constantI S_ 32 3#32)) (constantI S_ 32 0#32)) (constantI S_ 32 1#32) (id (constantI S_ 32 3#32))))) (broadcastInDim S128x2048 ![] bcast_S_S128x2048 (constantI S_ 32 0#32))) (broadcastInDim S128x2048 ![] bcast_S_S128x2048 (cmpi .slt (select (cmpi .eq (id (constantI S_ 32 3#32)) (constantI S_ 32 0#32)) (constantI S_ 32 1#32) (id (constantI S_ 32 3#32))) (constantI S_ 32 0#32)))) (cmpi .ne (Host.remsi (addi (broadcastInDim S128x2048 ![0, 1] bcast_S128x1_S128x2048_0_1 (broadcastInDim S128x1 ![0] bcast_S128_S128x1_0 qbR)) (broadcastInDim S128x2048 ![0, 1] bcast_S1x2048_S128x2048_0_1 (broadcastInDim S1x2048 ![1] bcast_S2048_S1x2048_1 kbR))) (broadcastInDim S128x2048 ![] bcast_S_S128x2048 (select (cmpi .eq (id (constantI S_ 32 3#32)) (constantI S_ 32 0#32)) (constantI S_ 32 1#32) (id (constantI S_ 32 3#32))))) (broadcastInDim S128x2048 ![] bcast_S_S128x2048 (constantI S_ 32 0#32)))) (addi (Host.remsi (addi (broadcastInDim S128x2048 ![0, 1] bcast_S128x1_S128x2048_0_1 (broadcastInDim S128x1 ![0] bcast_S128_S128x1_0 qbR)) (broadcastInDim S128x2048 ![0, 1] bcast_S1x2048_S128x2048_0_1 (broadcastInDim S1x2048 ![1] bcast_S2048_S1x2048_1 kbR))) (broadcastInDim S128x2048 ![] bcast_S_S128x2048 (select (cmpi .eq (id (constantI S_ 32 3#32)) (constantI S_ 32 0#32)) (constantI S_ 32 1#32) (id (constantI S_ 32 3#32))))) (broadcastInDim S128x2048 ![] bcast_S_S128x2048 (select (cmpi .eq (id (constantI S_ 32 3#32)) (constantI S_ 32 0#32)) (constantI S_ 32 1#32) (id (constantI S_ 32 3#32))))) (Host.remsi (addi (broadcastInDim S128x2048 ![0, 1] bcast_S128x1_S128x2048_0_1 (broadcastInDim S128x1 ![0] bcast_S128_S128x1_0 qbR)) (broadcastInDim S128x2048 ![0, 1] bcast_S1x2048_S128x2048_0_1 (broadcastInDim S1x2048 ![1] bcast_S2048_S1x2048_1 kbR))) (broadcastInDim S128x2048 ![] bcast_S_S128x2048 (select (cmpi .eq (id (constantI S_ 32 3#32)) (constantI S_ 32 0#32)) (constantI S_ 32 1#32) (id (constantI S_ 32 3#32)))))) (broadcastInDim S128x2048 ![] bcast_S_S128x2048 (constantI S_ 32 0#32))))
def keepR (mk : IVec S128x2048 1) : IVec S128 1 := (Host.reduce IntOp.ori mk (constantI S_ 1 0#1) reducesTo_S128x2048_S128_d1 h_S_)
def queryR (x : FVec F S2x128x512 .bf16) (w : FVec F S512x4096 .bf16) : FVec F S2x128x4096 .f32 := (Host.dotGeneral dot_S2x128x512_S512x4096_S2x128x4096_2_0_01_1_n_n none (extf .f32 x bitsLt_bf16_f32) (extf .f32 w bitsLt_bf16_f32))
def scoreR (mk : IVec S128x2048 1) (x : FVec F S2x128x512 .bf16) (w : FVec F S512x4096 .bf16) (k : FVec F S2x2048x64x64 .bf16) : FVec F S2x64x128x2048 .f32 :=
  (select (broadcastInDim S2x64x128x2048 ![0, 1, 2, 3] bcast_S1x1x128x2048_S2x64x128x2048_0_1_2_3 (broadcastInDim S1x1x128x2048 ![2, 3] bcast_S128x2048_S1x1x128x2048_2_3 mk)) (mulf (extf .f32 (truncf .bf16 (Host.dotGeneral dot_S2x128x64x64_S2x2048x64x64_S2x64x128x2048_3_3_1_1_02_02 none (shapeCast _ (extf .f32 (truncf .bf16 (queryR x w) bitsLt_bf16_f32) bitsLt_bf16_f32) shapeCasts_S2x128x4096_S2x128x64x64) (extf .f32 k bitsLt_bf16_f32)) bitsLt_bf16_f32) bitsLt_bf16_f32) (broadcastInDim S2x64x128x2048 ![] bcast_S_S2x64x128x2048 (constant S_ .f32 0x3E000000#32))) (broadcastInDim S2x64x128x2048 ![] bcast_S_S2x64x128x2048 (id (constant S_ .f32 0xFF800000#32))))
def expR (mk : IVec S128x2048 1) (x : FVec F S2x128x512 .bf16) (w : FVec F S512x4096 .bf16) (k : FVec F S2x2048x64x64 .bf16) : FVec F S2x64x128x2048 .f32 :=
  (Host.exp (subf (scoreR mk x w k) (broadcastInDim S2x64x128x2048 ![0, 1, 2, 3] bcast_S2x64x128x1_S2x64x128x2048_0_1_2_3 (broadcastInDim S2x64x128x1 ![0, 1, 2] bcast_S2x64x128_S2x64x128x1_0_1_2 (Host.reduce FloatOps.maximumf (scoreR mk x w k) (constant S_ .f32 0xFF800000#32) reducesTo_S2x64x128x2048_S2x64x128_d3 h_S_)))))
def softR (mk : IVec S128x2048 1) (x : FVec F S2x128x512 .bf16) (w : FVec F S512x4096 .bf16) (k : FVec F S2x2048x64x64 .bf16) : FVec F S2x64x128x2048 .f32 :=
  (select (broadcastInDim S2x64x128x2048 ![0, 1, 2, 3] bcast_S1x1x128x1_S2x64x128x2048_0_1_2_3 (broadcastInDim S1x1x128x1 ![2] bcast_S128_S1x1x128x1_2 (keepR mk))) (Host.divf (expR mk x w k) (broadcastInDim S2x64x128x2048 ![0, 1, 2, 3] bcast_S2x64x128x1_S2x64x128x2048_0_1_2_3 (select (broadcastInDim S2x64x128x1 ![0, 1, 2, 3] bcast_S1x1x128x1_S2x64x128x1_0_1_2_3 (broadcastInDim S1x1x128x1 ![2] bcast_S128_S1x1x128x1_2 (keepR mk))) (broadcastInDim S2x64x128x1 ![0, 1, 2] bcast_S2x64x128_S2x64x128x1_0_1_2 (Host.reduceAdd (expR mk x w k) (constant S_ .f32 0x00000000#32) reducesTo_S2x64x128x2048_S2x64x128_d3 h_S_)) (broadcastInDim S2x64x128x1 ![] bcast_S_S2x64x128x1 (id (constant S_ .f32 0x3F800000#32)))))) (broadcastInDim S2x64x128x2048 ![] bcast_S_S2x64x128x2048 (id (constant S_ .f32 0x00000000#32))))
def ctxR (mk : IVec S128x2048 1) (x : FVec F S2x128x512 .bf16) (w : FVec F S512x4096 .bf16) (k v : FVec F S2x2048x64x64 .bf16) : FVec F S2x64x64x128 .f32 :=
  (Host.dotGeneral dot_S2x2048x64x64_S2x64x128x2048_S2x64x64x128_1_3_3_2_02_01 none (extf .f32 v bitsLt_bf16_f32) (softR mk x w k))
def refOut (mk : IVec S128x2048 1) (x : FVec F S2x128x512 .bf16) (w : FVec F S512x4096 .bf16) (k v : FVec F S2x2048x64x64 .bf16) (o : FVec F S4096x512 .bf16) : FVec F S2x128x512 .f32 :=
  Host.dotGeneral dot_S2x128x4096_S4096x512_S2x128x512_2_0_01_1_n_n none (shapeCast _ (transpose S2x128x64x64 [0, 3, 1, 2] (ctxR mk x w k v) transposes_S2x64x64x128_S2x128x64x64_0_3_1_2) shapeCasts_S2x128x64x64_S2x128x4096) (extf .f32 o bitsLt_bf16_f32)

theorem res_eq (m : (ℓ : Loc nD τ sig) → Buf (Elt F) ℓ) (c : Dev nD) :
    Value.res_main_v53 m c = refOut maskR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The mask -/

theorem qb_apply (i : Fin 128) : qbR (ix1 i) = BitVec.ofNat 32 (i.val / 64) := by
  pointwise [qbR]
  revert i; decide +kernel
theorem kb_apply (i : Fin 2048) : kbR (ix1 i) = BitVec.ofNat 32 (i.val / 64) := by
  pointwise [kbR]
  revert i; decide +kernel
theorem mask_apply (i : Fin 128) (j : Fin 2048) : maskR (ix2 i j) = BitVec.ofBool (kp (i.val / 64) (j.val / 64)) := by
  pointwise [maskR]
  rw [qb_apply, kb_apply]
  have hq : i.val / 64 < 2 := by omega
  have hk : j.val / 64 < 32 := by omega
  generalize i.val / 64 = q at hq ⊢
  generalize j.val / 64 = k at hk ⊢
  revert q k; decide +kernel
theorem keep_apply (i : Fin 128) : keepR maskR (ix1 i) = 1#1 := by
  pointwise [keepR]
  refine (Routing.fold_ori Finset.univ _).mpr ⟨0, Finset.mem_univ _, ?_⟩
  rw [mask_apply]
  have : kp (i.val / 64) ((0 : Fin 2048).val / 64) = true := by simp [kp]
  rw [this]; rfl

/-! ## The values, over the reals -/

section
variable {x : FVec Ideal S2x128x512 .bf16} {w : FVec Ideal S512x4096 .bf16} {k v : FVec Ideal S2x2048x64x64 .bf16} {o : FVec Ideal S4096x512 .bf16}
variable {X : Fin 2 → Fin 128 → Fin 512 → ℝ} {W : Fin 512 → Fin 4096 → ℝ} {K : Fin 2 → Fin 2048 → Fin 64 → Fin 64 → ℝ} {V : Fin 2 → Fin 2048 → Fin 64 → Fin 64 → EReal} {O : Fin 4096 → Fin 512 → EReal}

theorem query_apply (hx : ∀ b i k, x (ix3 b i k) = (X b i k : EReal)) (hw : ∀ k l, w (ix2 k l) = (W k l : EReal))
    (b : Fin 2) (i : Fin 128) (l : Fin 4096) : queryR x w (ix3 b i l) = ((query X W b i l : ℝ) : EReal) := by
  pointwise [queryR]
  rw [query, coe_sum]
  exact Finset.sum_congr rfl fun k _ => by rw [hx, hw, EReal.coe_mul]

theorem score_apply (hx : ∀ b i k, x (ix3 b i k) = (X b i k : EReal)) (hw : ∀ k l, w (ix2 k l) = (W k l : EReal))
    (hk : ∀ b j h e, k (ix4 b j h e) = (K b j h e : EReal))
    (b : Fin 2) (h : Fin 64) (i : Fin 128) (j : Fin 2048) :
    scoreR maskR x w k (ix4 b h i j) = if kp (i.val / 64) (j.val / 64) then ((score X W K b h i j : ℝ) : EReal) else ⊥ := by
  pointwise [scoreR]
  rw [mask_apply, Scalar.select_ofBool]
  refine congr (congrArg _ ?_) ofBits_ninf
  rw [score, EReal.coe_mul, coe_sum, ← scl_eq]
  congr 1
  exact Finset.sum_congr rfl fun e _ => by rw [query_apply hx hw, hk, EReal.coe_mul]; rfl

theorem exp_apply (hx : ∀ b i k, x (ix3 b i k) = (X b i k : EReal)) (hw : ∀ k l, w (ix2 k l) = (W k l : EReal))
    (hk : ∀ b j h e, k (ix4 b j h e) = (K b j h e : EReal))
    (b : Fin 2) (h : Fin 64) (i : Fin 128) :
    ∃ M : ℝ, ∀ j : Fin 2048, expR maskR x w k (ix4 b h i j) = ((wt X W K b h i j * Real.exp (-M) : ℝ) : EReal) := by
  obtain ⟨M, hM⟩ := max_real (fun j : Fin 2048 => scoreR maskR x w k (ix4 b h i j))
    (fun j => by rw [score_apply hx hw hk]; split; exacts [EReal.coe_lt_top _, bot_lt_top]) 0
    (by rw [score_apply hx hw hk, if_pos (by simp [kp])]; exact EReal.bot_lt_coe _)
  refine ⟨M, fun j => ?_⟩
  pointwise [expR]
  rw [ofBits_ninf, hM, score_apply hx hw hk, wt]
  split
  · rw [← EReal.coe_sub, Ideal.exp_coe, sub_eq_add_neg, Real.exp_add]
  · rw [EReal.bot_sub, Ideal.exp_bot, zero_mul, EReal.coe_zero]

theorem soft_apply (hx : ∀ b i k, x (ix3 b i k) = (X b i k : EReal)) (hw : ∀ k l, w (ix2 k l) = (W k l : EReal))
    (hk : ∀ b j h e, k (ix4 b j h e) = (K b j h e : EReal))
    (b : Fin 2) (h : Fin 64) (i : Fin 128) (j : Fin 2048) :
    softR maskR x w k (ix4 b h i j) = ((wt X W K b h i j / ∑ j, wt X W K b h i j : ℝ) : EReal) := by
  obtain ⟨M, hM⟩ := exp_apply hx hw hk b h i
  pointwise [softR]
  rw [keep_apply, Scalar.select_of_eq_one (c := 1#1) rfl, Scalar.select_of_eq_one (c := 1#1) rfl]
  simp only [hM]
  rw [← coe_sum, ← Finset.sum_mul, div_coe_coe _ _ (mul_pos (wt_sum_pos X W K b h i) (Real.exp_pos _)).ne',
    mul_div_mul_right _ _ (Real.exp_pos _).ne']

theorem ctx_apply (hx : ∀ b i k, x (ix3 b i k) = (X b i k : EReal)) (hw : ∀ k l, w (ix2 k l) = (W k l : EReal))
    (hk : ∀ b j h e, k (ix4 b j h e) = (K b j h e : EReal)) (hv : ∀ b j h e, v (ix4 b j h e) = V b j h e)
    (b : Fin 2) (h : Fin 64) (d : Fin 64) (i : Fin 128) :
    ctxR maskR x w k v (ix4 b h d i) = ctx X W K V b h i d := by
  pointwise [ctxR]
  rw [ctx, Cert.Attn.sum_mul_coe _ _ (one_div_pos.mpr (wt_sum_pos X W K b h i)).le]
  refine Finset.sum_congr rfl fun j _ => ?_
  rw [soft_apply hx hw hk, hv, mul_right_comm, ← EReal.coe_mul, mul_one_div, mul_comm]

theorem out_apply (hx : ∀ b i k, x (ix3 b i k) = (X b i k : EReal)) (hw : ∀ k l, w (ix2 k l) = (W k l : EReal))
    (hk : ∀ b j h e, k (ix4 b j h e) = (K b j h e : EReal)) (hv : ∀ b j h e, v (ix4 b j h e) = V b j h e)
    (ho : ∀ p n, o (ix2 p n) = O p n) (b : Fin 2) (i : Fin 128) (n : Fin 512) :
    refOut maskR x w k v o (ix3 b i n) = out X W K V O b i n := by
  pointwise [refOut]
  rw [out]
  refine Finset.sum_congr rfl fun p _ => ?_
  rw [ctx_apply hx hw hk hv, ho]; rfl
end

end Cert.RefVal
-- ==== Proof.KIdeal.Value.lean ====
/-
The kernel's result and the reference's, from memories that hold parts of the same arrays, of which the input, the query weights and the keys are finite.
-/
module

public import proofs.«01_k».proof.Defs
public import proofs.«01_k».proof.Proof.KIdeal.Run
public import proofs.«01_k».proof.Proof.KIdeal.KerOut
public import proofs.«01_k».proof.Proof.Ref.RefVal
public import Idealize.ShloMosaic.Lib.Pipeline.Value
public import Idealize.ShloMosaic.Lib.ReduceAll
public import Idealize.ShloMosaic.Lib.Layout

@[expose] public section

set_option maxRecDepth 16384

noncomputable section

namespace Cert.KernelIdealProof

open Cert.KernelIdeal Cert.KernelIdeal.Gen
open Idealize.ShloMosaic Idealize.ShloMosaic.TcCoe Idealize.SL.Sem

/-! ## Finite numbers are reals -/

theorem real_of_lt (x : EReal) (h : Ideal.cmp .olt (max x (-x)) (Ideal.ofBits .f32 0x7F800000#32) = 1#1) : ∃ r : ℝ, x = r := by
  rw [show Ideal.ofBits .f32 0x7F800000#32 = ⊤ by simp [Ideal.ofBits, Ideal.ieee]] at h
  induction x using EReal.rec with
  | bot => exact absurd h (by simp [Ideal.cmp])
  | coe r => exact ⟨r, rfl⟩
  | top => exact absurd h (by simp [Ideal.cmp])

theorem all_real {s t u : Shape} {axes : List (Fin s.rank)} [Subsingleton t.Idx] (x : FVec Ideal s .bf16) (hb : FTy.bits .bf16 < FTy.bits .f32)
    (z : Fin u.rank → Fin s.rank) (hc : u.BroadcastsInDim s z) (y : u.Idx → BitVec 1) (hr : s.ReducesTo axes t) (hu : 0 < u.numel) (j : t.Idx)
    (e : Host.reduce IntOp.andi (cmpf .olt (Host.absf (extf .f32 x hb)) (broadcastInDim s z hc (constant u .f32 0x7F800000#32))) y hr hu j = 1#1)
    (i : s.Idx) : ∃ r : ℝ, x i = r :=
  real_of_lt (x i) (Host.reduce_andi_all _ y hr hu j e i)

theorem and_one : ∀ a b : BitVec 1, IntOp.andi a b = 1#1 → a = 1#1 ∧ b = 1#1 := by decide

theorem pre_real [Cert.Pre_finite_KernelIdeal.Facts] {x : FVec Ideal S2x128x512 .bf16} {w : FVec Ideal S512x256 .bf16} {k v : FVec Ideal S2x128x64x64 .bf16} {o : FVec Ideal S256x512 .bf16}
    (h : Cert.Pre_finite_KernelIdeal.fn (F := Ideal) x w k v o = fun _ => 1#1) :
    (∀ i, ∃ r : ℝ, x i = r) ∧ (∀ i, ∃ r : ℝ, w i = r) ∧ ∀ i, ∃ r : ℝ, k i = r := by
  have hs : Subsingleton (Cert.Pre_finite_KernelIdeal.S_).Idx := ⟨fun a b => funext fun z => z.elim0⟩
  dsimp only [Cert.Pre_finite_KernelIdeal.fn] at h
  have h := congrFun h (fun z => z.elim0)
  obtain ⟨h, h2⟩ := and_one _ _ h
  obtain ⟨h0, h1⟩ := and_one _ _ h
  exact ⟨fun i => all_real _ _ _ _ _ _ _ _ h0 i, fun i => all_real _ _ _ _ _ _ _ _ h1 i, fun i => all_real _ _ _ _ _ _ _ _ h2 i⟩

/-! ## The two results as functions of the whole arrays -/

theorem coe_toReal' {x : EReal} (h : ∃ r : ℝ, x = r) : x = ((x.toReal : ℝ) : EReal) := by
  obtain ⟨r, rfl⟩ := h; rfl

theorem gcol_onto (p : Fin 4096) : ∃ c l, gcol c l = p :=
  ⟨⟨p.val / 256, by show _ < 16; omega⟩, ⟨p.val % 256, by omega⟩, Fin.ext (by show p.val / 256 * 256 + p.val % 256 = p.val; omega)⟩
theorem grow_onto (p : Fin 2048) : ∃ c j, grow c j = p :=
  ⟨⟨p.val / 128, by show _ < 16; omega⟩, ⟨p.val % 128, by omega⟩, Fin.ext (by show p.val / 128 * 128 + p.val % 128 = p.val; omega)⟩

/-- A device's columns of the query weights, its key or value rows, and its rows of the output weights. -/
theorem block_w (w : (⟨2, ![512, 4096]⟩ : Shape).Idx → EReal) (c : Dev nD) (k : Fin 512) (l : Fin 256) :
    Layout.block ⟨2, ![512, 256]⟩ ⟨2, ![512, 4096]⟩ 1 16 c w (by decide) (ix2 k l) = w (ix2 k (gcol c l)) := by
  rw [Layout.block_apply]; congr 1; funext a; apply Fin.ext; fin_cases a <;> rfl
theorem block_k (w : (⟨4, ![2, 2048, 64, 64]⟩ : Shape).Idx → EReal) (c : Dev nD) (b : Fin 2) (j : Fin 128) (h e : Fin 64) :
    Layout.block ⟨4, ![2, 128, 64, 64]⟩ ⟨4, ![2, 2048, 64, 64]⟩ 1 16 c w (by decide) (ix4 b j h e) = w (ix4 b (grow c j) h e) := by
  rw [Layout.block_apply]; congr 1; funext a; apply Fin.ext; fin_cases a <;> rfl
theorem block_o (w : (⟨2, ![4096, 512]⟩ : Shape).Idx → EReal) (c : Dev nD) (l : Fin 256) (n : Fin 512) :
    Layout.block ⟨2, ![256, 512]⟩ ⟨2, ![4096, 512]⟩ 0 16 c w (by decide) (ix2 l n) = w (ix2 (gcol c l) n) := by
  rw [Layout.block_apply]; congr 1; funext a; apply Fin.ext; fin_cases a <;> rfl

theorem value_eq (I : Ins Ideal) (x : (⟨3, ![2, 128, 512]⟩ : Shape).Idx → EReal) (w : (⟨2, ![512, 4096]⟩ : Shape).Idx → EReal)
    (k v : (⟨4, ![2, 2048, 64, 64]⟩ : Shape).Idx → EReal) (o : (⟨2, ![4096, 512]⟩ : Shape).Idx → EReal)
    (h0 : ∀ c, I.x0 c = x) (h1 : ∀ c, I.x1 c = Layout.block ⟨2, ![512, 256]⟩ ⟨2, ![512, 4096]⟩ 1 16 c w (by decide))
    (h2 : ∀ c, I.x2 c = Layout.block ⟨4, ![2, 128, 64, 64]⟩ ⟨4, ![2, 2048, 64, 64]⟩ 1 16 c k (by decide))
    (h3 : ∀ c, I.x3 c = Layout.block ⟨4, ![2, 128, 64, 64]⟩ ⟨4, ![2, 2048, 64, 64]⟩ 1 16 c v (by decide))
    (h4 : ∀ c, I.x4 c = Layout.block ⟨2, ![256, 512]⟩ ⟨2, ![4096, 512]⟩ 0 16 c o (by decide))
    (r : ∀ c, (∀ i, ∃ r : ℝ, I.x0 c i = (r : EReal)) ∧ (∀ i, ∃ r : ℝ, I.x1 c i = (r : EReal)) ∧ ∀ i, ∃ r : ℝ, I.x2 c i = (r : EReal)) :
    outV (contOf I) = Cert.RefVal.refOut (F := Ideal) Cert.RefVal.maskR x w k v o := by
  have e1 : ∀ c k l, I.x1 c (ix2 k l) = w (ix2 k (gcol c l)) := fun c k l => (congrFun (h1 c) _).trans (block_w w c k l)
  have e2 : ∀ c b j h e, I.x2 c (ix4 b j h e) = k (ix4 b (grow c j) h e) := fun c b j h e => (congrFun (h2 c) _).trans (block_k k c b j h e)
  have e3 : ∀ c b j h e, I.x3 c (ix4 b j h e) = v (ix4 b (grow c j) h e) := fun c b j h e => (congrFun (h3 c) _).trans (block_k v c b j h e)
  have e4 : ∀ c l n, I.x4 c (ix2 l n) = o (ix2 (gcol c l) n) := fun c l n => (congrFun (h4 c) _).trans (block_o o c l n)
  have rx : ∀ b i k, x (ix3 b i k) = (((x (ix3 b i k)).toReal : ℝ) : EReal) := fun b i k => coe_toReal' (by rw [← h0 0]; exact (r 0).1 _)
  have rw' : ∀ k l, w (ix2 k l) = (((w (ix2 k l)).toReal : ℝ) : EReal) := fun k l => coe_toReal' (by
    obtain ⟨c, l, rfl⟩ := gcol_onto l; rw [← e1]; exact (r c).2.1 _)
  have rk : ∀ b j h e, k (ix4 b j h e) = (((k (ix4 b j h e)).toReal : ℝ) : EReal) := fun b j h e => coe_toReal' (by
    obtain ⟨c, j, rfl⟩ := grow_onto j; rw [← e2]; exact (r c).2.2 _)
  have hI : Parts I (fun b i k => (x (ix3 b i k)).toReal) (fun k l => (w (ix2 k l)).toReal) (fun b j h e => (k (ix4 b j h e)).toReal)
      (fun b j h e => v (ix4 b j h e)) (fun p n => o (ix2 p n)) :=
    ⟨fun c b i k => (congrFun (h0 c) _).trans (rx b i k), fun c k l => (e1 c k l).trans (rw' _ _), fun c b j h e => (e2 c b j h e).trans (rk _ _ _ _),
      e3, e4⟩
  funext i
  have hi : i = ix3 (i 0) (i 1) (i 2) := by funext a; fin_cases a <;> rfl
  rw [hi]
  exact (outV_apply hI (contOf I) (good_contOf I) _ _ _).trans (Cert.RefVal.out_apply rx rw' rk (fun _ _ _ _ => rfl) (fun _ _ => rfl) _ _ _).symm

/-! ## What the run leaves in the result -/

variable {F : FTy → Type} [FloatOps F] [Named F] (m : (ℓ : Loc nD τ sig) → Buf (Elt F) ℓ) (ρ : Dev nD → PrngReg)

theorem blk_emb (w : Fin cfg0.W) (y : ((cfg0.win w).xblock (cfg0.grid.coords t0_0)).Idx) (a : Fin (cfg0.win w).shape.rank) :
    (((cfg0.win w).rect t0_0).emb y a : ℕ) = y a := by
  refine Pipeline.Window.rect_emb_val_of_index_zero (cfg0.win w) t0_0 a ?_ y
  revert a; fin_cases w <;> decide +kernel

theorem ins_eq (c : Dev nD) : (ins m).x0 c = m ((c : Thread nD τ).loc main_arg0) ∧ (ins m).x1 c = m ((c : Thread nD τ).loc main_arg1)
    ∧ (ins m).x2 c = m ((c : Thread nD τ).loc main_arg2) ∧ (ins m).x3 c = m ((c : Thread nD τ).loc main_arg3) ∧ (ins m).x4 c = m ((c : Thread nD τ).loc main_arg4) := by
  refine ⟨?_, ?_, ?_, ?_, ?_⟩
  · funext y; exact congrArg (m ((c : Thread nD τ).loc main_arg0)) (funext fun a => Fin.ext (blk_emb 0 y a))
  · funext y; exact congrArg (m ((c : Thread nD τ).loc main_arg1)) (funext fun a => Fin.ext (blk_emb 1 y a))
  · funext y; exact congrArg (m ((c : Thread nD τ).loc main_arg2)) (funext fun a => Fin.ext (blk_emb 2 y a))
  · funext y; exact congrArg (m ((c : Thread nD τ).loc main_arg3)) (funext fun a => Fin.ext (blk_emb 3 y a))
  · funext y; exact congrArg (m ((c : Thread nD τ).loc main_arg4)) (funext fun a => Fin.ext (blk_emb 4 y a))

theorem final_eq (c : Dev nD) : finalA m ρ c 5 = outV (cm m) := by
  funext y
  have h := (dats m ρ 0 c).arrAt_emb_eq_flushed 5 (fun t t' _ _ ht => absurd ((fin_N0 t).trans (fin_N0 t').symm) ht) t0_0 (flush0_5 _) y
  have he : ((cfg0.win 5).blk t0_0).view.emb y = y := funext fun a => Fin.ext (blk_emb 5 y a)
  rw [he] at h
  exact h

end Cert.KernelIdealProof
-- ==== Proof.lean ====
/-
The certificate's claims, from the runs of the two kernels and of the reference.
-/
module

public import proofs.«01_k».proof.Defs
public import proofs.«01_k».proof.Proof.Gen.ReferenceIdeal.Run
public import proofs.«01_k».proof.Proof.KIdeal.Value
public import proofs.«01_k».proof.Proof.KBits.Run
public import Idealize.ShloMosaic.Lib.Quiescent
public import Idealize.ShloMosaic.Lib.Claim

@[expose] public section

noncomputable section

namespace Cert.Proof

open Idealize.ShloMosaic Idealize.SL.Sem

instance : Cert.Pre_finite_KernelIdeal.Facts := by constructor <;> decide
instance : Cert.Pre_finite_ReferenceIdeal.Facts := by constructor <;> decide

theorem ref_frame : Cert.quiescent_ReferenceIdeal := fun m g _ =>
  (θ_run Cert.ReferenceIdeal.defs _ _).mono (fun r h => And.intro (fun c => (h c).2) (sem_eq_zero_of_no_sems (by decide) r.2))
    (Cert.ReferenceIdeal.Value.run m g)

/-- From a finite input, finite query weights and finite keys both programs leave the same result. -/
theorem algebraic : Cert.algebraic_KernelIdeal_ReferenceIdeal_pre_finite_KernelIdeal := by
  intro m g m' g' hpre hag
  have hv : Cert.KernelIdealProof.outV (Cert.KernelIdealProof.cm m) = Cert.ReferenceIdeal.Value.res_main_v53 m' 0 := by
    have e := fun c => Cert.KernelIdealProof.ins_eq m c
    refine (Cert.KernelIdealProof.value_eq (Cert.KernelIdealProof.ins m) _ _ _ _ _ (fun c => (e c).1.trans (hag c).1)
      (fun c => (e c).2.1.trans (hag c).2.1) (fun c => (e c).2.2.1.trans (hag c).2.2.1) (fun c => (e c).2.2.2.1.trans (hag c).2.2.2.1)
      (fun c => (e c).2.2.2.2.trans (hag c).2.2.2.2) fun c => ?_).trans (Cert.RefVal.res_eq m' 0).symm
    obtain ⟨e0, e1, e2, _⟩ := e c
    rw [e0, e1, e2]
    exact Cert.KernelIdealProof.pre_real (hpre c)
  refine ⟨Cert.ReferenceIdeal.Value.res_main_v53 m' 0, ?_, ?_⟩
  · refine (θ_run Cert.KernelIdeal.defs _ _).mono (fun r h c => ⟨?_, ?_⟩)
      ((θ_run_and (Cert.KernelIdealProof.run_main m g) (Cert.KernelIdealProof.run_frame m g)))
    · exact ((h.1.1 c 5).trans (Cert.KernelIdealProof.final_eq m g c)).trans hv
    · exact h.2.1 c
  · exact (θ_run Cert.ReferenceIdeal.defs _ _).mono (fun r h => h 0) (Cert.ReferenceIdeal.Value.run m' g')

theorem claim : Cert.Claim :=
  ⟨Cert.Kernel.Gen.facts, Cert.KernelIdeal.Gen.facts, Cert.ReferenceIdeal.Gen.facts, inferInstance, inferInstance,
    fun m g _ => Cert.KernelProof.run_frame m g,
    fun m g _ => Cert.KernelIdealProof.run_frame m g,
    fun m g _ => Cert.KernelIdealProof.run_frame m g,
    ref_frame,
    fun m g _ => ref_frame m g trivial,
    IdealRules.named_const.statement Cert.KernelIdeal.κ "mask" .f32 0xCE6E6B28#32 ⊥ rfl,
    algebraic⟩

end Cert.Proof

end
